-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_UpBack (m : (ℓ : Loc Cert.UpBack.nD Cert.UpBack.τ Cert.UpBack.sig) → Buf (Elt Bits) ℓ) : Prop :=
  True

def Pre_UpBackIdeal (m : (ℓ : Loc Cert.UpBackIdeal.nD Cert.UpBackIdeal.τ Cert.UpBackIdeal.sig) → Buf (Elt Ideal) ℓ) : Prop :=
  True

def Pre_UpBackRefIdeal (m : (ℓ : Loc Cert.UpBackRefIdeal.nD Cert.UpBackRefIdeal.τ Cert.UpBackRefIdeal.sig) → Buf (Elt Ideal) ℓ) : Prop :=
  True

def Pre_UpWeights (m : (ℓ : Loc Cert.UpWeights.nD Cert.UpWeights.τ Cert.UpWeights.sig) → Buf (Elt Bits) ℓ) : Prop :=
  True

def Pre_UpWeightsIdeal (m : (ℓ : Loc Cert.UpWeightsIdeal.nD Cert.UpWeightsIdeal.τ Cert.UpWeightsIdeal.sig) → Buf (Elt Ideal) ℓ) : Prop :=
  True

def Pre_UpWeightsRefIdeal (m : (ℓ : Loc Cert.UpWeightsRefIdeal.nD Cert.UpWeightsRefIdeal.τ Cert.UpWeightsRefIdeal.sig) → Buf (Elt Ideal) ℓ) : Prop :=
  True

def Pre_DownWeight (m : (ℓ : Loc Cert.DownWeight.nD Cert.DownWeight.τ Cert.DownWeight.sig) → Buf (Elt Bits) ℓ) : Prop :=
  True

def Pre_DownWeightIdeal (m : (ℓ : Loc Cert.DownWeightIdeal.nD Cert.DownWeightIdeal.τ Cert.DownWeightIdeal.sig) → Buf (Elt Ideal) ℓ) : Prop :=
  True

def Pre_DownWeightRefIdeal (m : (ℓ : Loc Cert.DownWeightRefIdeal.nD Cert.DownWeightRefIdeal.τ Cert.DownWeightRefIdeal.sig) → Buf (Elt Ideal) ℓ) : Prop :=
  True

def Pre_DownBack (m : (ℓ : Loc Cert.DownBack.nD Cert.DownBack.τ Cert.DownBack.sig) → Buf (Elt Bits) ℓ) : Prop :=
  True

def Pre_DownBackIdeal (m : (ℓ : Loc Cert.DownBackIdeal.nD Cert.DownBackIdeal.τ Cert.DownBackIdeal.sig) → Buf (Elt Ideal) ℓ) : Prop :=
  True

def Pre_DownBackIdeal_finite_back [hPre_finite_back : Cert.Pre_finite_back.Facts] (m : (ℓ : Loc Cert.DownBackIdeal.nD Cert.DownBackIdeal.τ Cert.DownBackIdeal.sig) → Buf (Elt Ideal) ℓ) : Prop :=
  ∀ c : Dev Cert.DownBackIdeal.nD,
    (Cert.Pre_finite_back.fn (F := Ideal) (m ((c.tc : Thread Cert.DownBackIdeal.nD Cert.DownBackIdeal.τ).loc Cert.DownBackIdeal.main_arg0)) (m ((c.tc : Thread Cert.DownBackIdeal.nD Cert.DownBackIdeal.τ).loc Cert.DownBackIdeal.main_arg1)) (m ((c.tc : Thread Cert.DownBackIdeal.nD Cert.DownBackIdeal.τ).loc Cert.DownBackIdeal.main_arg2)) (m ((c.tc : Thread Cert.DownBackIdeal.nD Cert.DownBackIdeal.τ).loc Cert.DownBackIdeal.main_arg3))).1 = (fun _ => 1#1)
    ∧ (Cert.Pre_finite_back.fn (F := Ideal) (m ((c.tc : Thread Cert.DownBackIdeal.nD Cert.DownBackIdeal.τ).loc Cert.DownBackIdeal.main_arg0)) (m ((c.tc : Thread Cert.DownBackIdeal.nD Cert.DownBackIdeal.τ).loc Cert.DownBackIdeal.main_arg1)) (m ((c.tc : Thread Cert.DownBackIdeal.nD Cert.DownBackIdeal.τ).loc Cert.DownBackIdeal.main_arg2)) (m ((c.tc : Thread Cert.DownBackIdeal.nD Cert.DownBackIdeal.τ).loc Cert.DownBackIdeal.main_arg3))).2.1 = (fun _ => 1#1)
    ∧ (Cert.Pre_finite_back.fn (F := Ideal) (m ((c.tc : Thread Cert.DownBackIdeal.nD Cert.DownBackIdeal.τ).loc Cert.DownBackIdeal.main_arg0)) (m ((c.tc : Thread Cert.DownBackIdeal.nD Cert.DownBackIdeal.τ).loc Cert.DownBackIdeal.main_arg1)) (m ((c.tc : Thread Cert.DownBackIdeal.nD Cert.DownBackIdeal.τ).loc Cert.DownBackIdeal.main_arg2)) (m ((c.tc : Thread Cert.DownBackIdeal.nD Cert.DownBackIdeal.τ).loc Cert.DownBackIdeal.main_arg3))).2.2 = (fun _ => 1#1)

def Pre_DownBackRefIdeal (m : (ℓ : Loc Cert.DownBackRefIdeal.nD Cert.DownBackRefIdeal.τ Cert.DownBackRefIdeal.sig) → Buf (Elt Ideal) ℓ) : Prop :=
  True

def Pre_DownBackRefIdeal_finite_back [hPre_finite_back : Cert.Pre_finite_back.Facts] (m : (ℓ : Loc Cert.DownBackRefIdeal.nD Cert.DownBackRefIdeal.τ Cert.DownBackRefIdeal.sig) → Buf (Elt Ideal) ℓ) : Prop :=
  ∀ c : Dev Cert.DownBackRefIdeal.nD,
    (Cert.Pre_finite_back.fn (F := Ideal) (m ((c.tc : Thread Cert.DownBackRefIdeal.nD Cert.DownBackRefIdeal.τ).loc Cert.DownBackRefIdeal.main_arg0)) (m ((c.tc : Thread Cert.DownBackRefIdeal.nD Cert.DownBackRefIdeal.τ).loc Cert.DownBackRefIdeal.main_arg1)) (m ((c.tc : Thread Cert.DownBackRefIdeal.nD Cert.DownBackRefIdeal.τ).loc Cert.DownBackRefIdeal.main_arg2)) (m ((c.tc : Thread Cert.DownBackRefIdeal.nD Cert.DownBackRefIdeal.τ).loc Cert.DownBackRefIdeal.main_arg3))).1 = (fun _ => 1#1)
    ∧ (Cert.Pre_finite_back.fn (F := Ideal) (m ((c.tc : Thread Cert.DownBackRefIdeal.nD Cert.DownBackRefIdeal.τ).loc Cert.DownBackRefIdeal.main_arg0)) (m ((c.tc : Thread Cert.DownBackRefIdeal.nD Cert.DownBackRefIdeal.τ).loc Cert.DownBackRefIdeal.main_arg1)) (m ((c.tc : Thread Cert.DownBackRefIdeal.nD Cert.DownBackRefIdeal.τ).loc Cert.DownBackRefIdeal.main_arg2)) (m ((c.tc : Thread Cert.DownBackRefIdeal.nD Cert.DownBackRefIdeal.τ).loc Cert.DownBackRefIdeal.main_arg3))).2.1 = (fun _ => 1#1)
    ∧ (Cert.Pre_finite_back.fn (F := Ideal) (m ((c.tc : Thread Cert.DownBackRefIdeal.nD Cert.DownBackRefIdeal.τ).loc Cert.DownBackRefIdeal.main_arg0)) (m ((c.tc : Thread Cert.DownBackRefIdeal.nD Cert.DownBackRefIdeal.τ).loc Cert.DownBackRefIdeal.main_arg1)) (m ((c.tc : Thread Cert.DownBackRefIdeal.nD Cert.DownBackRefIdeal.τ).loc Cert.DownBackRefIdeal.main_arg2)) (m ((c.tc : Thread Cert.DownBackRefIdeal.nD Cert.DownBackRefIdeal.τ).loc Cert.DownBackRefIdeal.main_arg3))).2.2 = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpIdeal_finite_up [hPre_finite_up : Cert.Pre_finite_up.Facts] (m : (ℓ : Loc Cert.GateUpIdeal.nD Cert.GateUpIdeal.τ Cert.GateUpIdeal.sig) → Buf (Elt Ideal) ℓ) : Prop :=
  ∀ c : Dev Cert.GateUpIdeal.nD,
    (Cert.Pre_finite_up.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2))).1 = (fun _ => 1#1)
    ∧ (Cert.Pre_finite_up.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2))).2 = (fun _ => 1#1)

def Pre_GateUpRefIdeal (m : (ℓ : Loc Cert.GateUpRefIdeal.nD Cert.GateUpRefIdeal.τ Cert.GateUpRefIdeal.sig) → Buf (Elt Ideal) ℓ) : Prop :=
  True

def Pre_GateUpRefIdeal_finite_up [hPre_finite_up : Cert.Pre_finite_up.Facts] (m : (ℓ : Loc Cert.GateUpRefIdeal.nD Cert.GateUpRefIdeal.τ Cert.GateUpRefIdeal.sig) → Buf (Elt Ideal) ℓ) : Prop :=
  ∀ c : Dev Cert.GateUpRefIdeal.nD,
    (Cert.Pre_finite_up.fn (F := Ideal) (m ((c.tc : Thread Cert.GateUpRefIdeal.nD Cert.GateUpRefIdeal.τ).loc Cert.GateUpRefIdeal.main_arg0)) (m ((c.tc : Thread Cert.GateUpRefIdeal.nD Cert.GateUpRefIdeal.τ).loc Cert.GateUpRefIdeal.main_arg1)) (m ((c.tc : Thread Cert.GateUpRefIdeal.nD Cert.GateUpRefIdeal.τ).loc Cert.GateUpRefIdeal.main_arg2))).1 = (fun _ => 1#1)
    ∧ (Cert.Pre_finite_up.fn (F := Ideal) (m ((c.tc : Thread Cert.GateUpRefIdeal.nD Cert.GateUpRefIdeal.τ).loc Cert.GateUpRefIdeal.main_arg0)) (m ((c.tc : Thread Cert.GateUpRefIdeal.nD Cert.GateUpRefIdeal.τ).loc Cert.GateUpRefIdeal.main_arg1)) (m ((c.tc : Thread Cert.GateUpRefIdeal.nD Cert.GateUpRefIdeal.τ).loc Cert.GateUpRefIdeal.main_arg2))).2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_OdInBack (m : (ℓ : Loc Cert.OdInBack.nD Cert.OdInBack.τ Cert.OdInBack.sig) → Buf (Elt Bits) ℓ) : Prop :=
  True

def Pre_OdInBackIdeal (m : (ℓ : Loc Cert.OdInBackIdeal.nD Cert.OdInBackIdeal.τ Cert.OdInBackIdeal.sig) → Buf (Elt Ideal) ℓ) : Prop :=
  True

def Pre_OdInBackRefIdeal (m : (ℓ : Loc Cert.OdInBackRefIdeal.nD Cert.OdInBackRefIdeal.τ Cert.OdInBackRefIdeal.sig) → Buf (Elt Ideal) ℓ) : Prop :=
  True

def Pre_EvInBack (m : (ℓ : Loc Cert.EvInBack.nD Cert.EvInBack.τ Cert.EvInBack.sig) → Buf (Elt Bits) ℓ) : Prop :=
  True

def Pre_EvInBackIdeal (m : (ℓ : Loc Cert.EvInBackIdeal.nD Cert.EvInBackIdeal.τ Cert.EvInBackIdeal.sig) → Buf (Elt Ideal) ℓ) : Prop :=
  True

def Pre_EvInBackRefIdeal (m : (ℓ : Loc Cert.EvInBackRefIdeal.nD Cert.EvInBackRefIdeal.τ Cert.EvInBackRefIdeal.sig) → Buf (Elt Ideal) ℓ) : Prop :=
  True

def Pre_OdInWeight (m : (ℓ : Loc Cert.OdInWeight.nD Cert.OdInWeight.τ Cert.OdInWeight.sig) → Buf (Elt Bits) ℓ) : Prop :=
  True

def Pre_OdInWeightIdeal (m : (ℓ : Loc Cert.OdInWeightIdeal.nD Cert.OdInWeightIdeal.τ Cert.OdInWeightIdeal.sig) → Buf (Elt Ideal) ℓ) : Prop :=
  True

def Pre_OdInWeightRefIdeal (m : (ℓ : Loc Cert.OdInWeightRefIdeal.nD Cert.OdInWeightRefIdeal.τ Cert.OdInWeightRefIdeal.sig) → Buf (Elt Ideal) ℓ) : Prop :=
  True

def Pre_EvInWeight (m : (ℓ : Loc Cert.EvInWeight.nD Cert.EvInWeight.τ Cert.EvInWeight.sig) → Buf (Elt Bits) ℓ) : Prop :=
  True

def Pre_EvInWeightIdeal (m : (ℓ : Loc Cert.EvInWeightIdeal.nD Cert.EvInWeightIdeal.τ Cert.EvInWeightIdeal.sig) → Buf (Elt Ideal) ℓ) : Prop :=
  True

def Pre_EvInWeightRefIdeal (m : (ℓ : Loc Cert.EvInWeightRefIdeal.nD Cert.EvInWeightRefIdeal.τ Cert.EvInWeightRefIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightRefIdeal (m : (ℓ : Loc Cert.OutWeightRefIdeal.nD Cert.OutWeightRefIdeal.τ Cert.OutWeightRefIdeal.sig) → Buf (Elt Ideal) ℓ) : Prop :=
  True

def Pre_OutBack (m : (ℓ : Loc Cert.OutBack.nD Cert.OutBack.τ Cert.OutBack.sig) → Buf (Elt Bits) ℓ) : Prop :=
  True

def Pre_OutBackIdeal (m : (ℓ : Loc Cert.OutBackIdeal.nD Cert.OutBackIdeal.τ Cert.OutBackIdeal.sig) → Buf (Elt Ideal) ℓ) : Prop :=
  True

def Pre_OutBackRefIdeal (m : (ℓ : Loc Cert.OutBackRefIdeal.nD Cert.OutBackRefIdeal.τ Cert.OutBackRefIdeal.sig) → Buf (Elt Ideal) ℓ) : Prop :=
  True

def Pre_OdOutBack (m : (ℓ : Loc Cert.OdOutBack.nD Cert.OdOutBack.τ Cert.OdOutBack.sig) → Buf (Elt Bits) ℓ) : Prop :=
  True

def Pre_OdOutBackIdeal (m : (ℓ : Loc Cert.OdOutBackIdeal.nD Cert.OdOutBackIdeal.τ Cert.OdOutBackIdeal.sig) → Buf (Elt Ideal) ℓ) : Prop :=
  True

def Pre_OdOutBackRefIdeal (m : (ℓ : Loc Cert.OdOutBackRefIdeal.nD Cert.OdOutBackRefIdeal.τ Cert.OdOutBackRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_LastDown (m : (ℓ : Loc Cert.LastDown.nD Cert.LastDown.τ Cert.LastDown.sig) → Buf (Elt Bits) ℓ) : Prop :=
  True

def Pre_LastDownIdeal (m : (ℓ : Loc Cert.LastDownIdeal.nD Cert.LastDownIdeal.τ Cert.LastDownIdeal.sig) → Buf (Elt Ideal) ℓ) : Prop :=
  True

def Pre_LastDownRefIdeal (m : (ℓ : Loc Cert.LastDownRefIdeal.nD Cert.LastDownRefIdeal.τ Cert.LastDownRefIdeal.sig) → Buf (Elt Ideal) ℓ) : Prop :=
  True

def Pre_EvInProj (m : (ℓ : Loc Cert.EvInProj.nD Cert.EvInProj.τ Cert.EvInProj.sig) → Buf (Elt Bits) ℓ) : Prop :=
  True

def Pre_EvInProjIdeal (m : (ℓ : Loc Cert.EvInProjIdeal.nD Cert.EvInProjIdeal.τ Cert.EvInProjIdeal.sig) → Buf (Elt Ideal) ℓ) : Prop :=
  True

def Pre_EvInProjRefIdeal (m : (ℓ : Loc Cert.EvInProjRefIdeal.nD Cert.EvInProjRefIdeal.τ Cert.EvInProjRefIdeal.sig) → Buf (Elt Ideal) ℓ) : Prop :=
  True

def Pre_OdInProj (m : (ℓ : Loc Cert.OdInProj.nD Cert.OdInProj.τ Cert.OdInProj.sig) → Buf (Elt Bits) ℓ) : Prop :=
  True

def Pre_OdInProjIdeal (m : (ℓ : Loc Cert.OdInProjIdeal.nD Cert.OdInProjIdeal.τ Cert.OdInProjIdeal.sig) → Buf (Elt Ideal) ℓ) : Prop :=
  True

def Pre_OdInProjRefIdeal (m : (ℓ : Loc Cert.OdInProjRefIdeal.nD Cert.OdInProjRefIdeal.τ Cert.OdInProjRefIdeal.sig) → Buf (Elt Ideal) ℓ) : Prop :=
  True

def Pre_RmsIn (m : (ℓ : Loc Cert.RmsIn.nD Cert.RmsIn.τ Cert.RmsIn.sig) → Buf (Elt Bits) ℓ) : Prop :=
  True

def Pre_RmsInIdeal (m : (ℓ : Loc Cert.RmsInIdeal.nD Cert.RmsInIdeal.τ Cert.RmsInIdeal.sig) → Buf (Elt Ideal) ℓ) : Prop :=
  True

def Pre_RmsInRefIdeal (m : (ℓ : Loc Cert.RmsInRefIdeal.nD Cert.RmsInRefIdeal.τ Cert.RmsInRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdRefIdeal (m : (ℓ : Loc Cert.GmlpFwdRefIdeal.nD Cert.GmlpFwdRefIdeal.τ Cert.GmlpFwdRefIdeal.sig) → Buf (Elt Ideal) ℓ) : Prop :=
  True

def Pre_SinkAttn (m : (ℓ : Loc Cert.SinkAttn.nD Cert.SinkAttn.τ Cert.SinkAttn.sig) → Buf (Elt Bits) ℓ) : Prop :=
  True

def Pre_SinkAttnIdeal (m : (ℓ : Loc Cert.SinkAttnIdeal.nD Cert.SinkAttnIdeal.τ Cert.SinkAttnIdeal.sig) → Buf (Elt Ideal) ℓ) : Prop :=
  True

def Pre_SinkAttnIdeal_finite_attn [hPre_finite_attn : Cert.Pre_finite_attn.Facts] (m : (ℓ : Loc Cert.SinkAttnIdeal.nD Cert.SinkAttnIdeal.τ Cert.SinkAttnIdeal.sig) → Buf (Elt Ideal) ℓ) : Prop :=
  ∀ c : Dev Cert.SinkAttnIdeal.nD,
    (Cert.Pre_finite_attn.fn (F := Ideal) (m ((c.tc : Thread Cert.SinkAttnIdeal.nD Cert.SinkAttnIdeal.τ).loc Cert.SinkAttnIdeal.main_arg0)) (m ((c.tc : Thread Cert.SinkAttnIdeal.nD Cert.SinkAttnIdeal.τ).loc Cert.SinkAttnIdeal.main_arg1)) (m ((c.tc : Thread Cert.SinkAttnIdeal.nD Cert.SinkAttnIdeal.τ).loc Cert.SinkAttnIdeal.main_arg2))).1 = (fun _ => 1#1)
    ∧ (Cert.Pre_finite_attn.fn (F := Ideal) (m ((c.tc : Thread Cert.SinkAttnIdeal.nD Cert.SinkAttnIdeal.τ).loc Cert.SinkAttnIdeal.main_arg0)) (m ((c.tc : Thread Cert.SinkAttnIdeal.nD Cert.SinkAttnIdeal.τ).loc Cert.SinkAttnIdeal.main_arg1)) (m ((c.tc : Thread Cert.SinkAttnIdeal.nD Cert.SinkAttnIdeal.τ).loc Cert.SinkAttnIdeal.main_arg2))).2 = (fun _ => 1#1)

def Pre_SinkAttnRefIdeal (m : (ℓ : Loc Cert.SinkAttnRefIdeal.nD Cert.SinkAttnRefIdeal.τ Cert.SinkAttnRefIdeal.sig) → Buf (Elt Ideal) ℓ) : Prop :=
  True

def Pre_SinkAttnRefIdeal_finite_attn [hPre_finite_attn : Cert.Pre_finite_attn.Facts] (m : (ℓ : Loc Cert.SinkAttnRefIdeal.nD Cert.SinkAttnRefIdeal.τ Cert.SinkAttnRefIdeal.sig) → Buf (Elt Ideal) ℓ) : Prop :=
  ∀ c : Dev Cert.SinkAttnRefIdeal.nD,
    (Cert.Pre_finite_attn.fn (F := Ideal) (m ((c.tc : Thread Cert.SinkAttnRefIdeal.nD Cert.SinkAttnRefIdeal.τ).loc Cert.SinkAttnRefIdeal.main_arg0)) (m ((c.tc : Thread Cert.SinkAttnRefIdeal.nD Cert.SinkAttnRefIdeal.τ).loc Cert.SinkAttnRefIdeal.main_arg1)) (m ((c.tc : Thread Cert.SinkAttnRefIdeal.nD Cert.SinkAttnRefIdeal.τ).loc Cert.SinkAttnRefIdeal.main_arg2))).1 = (fun _ => 1#1)
    ∧ (Cert.Pre_finite_attn.fn (F := Ideal) (m ((c.tc : Thread Cert.SinkAttnRefIdeal.nD Cert.SinkAttnRefIdeal.τ).loc Cert.SinkAttnRefIdeal.main_arg0)) (m ((c.tc : Thread Cert.SinkAttnRefIdeal.nD Cert.SinkAttnRefIdeal.τ).loc Cert.SinkAttnRefIdeal.main_arg1)) (m ((c.tc : Thread Cert.SinkAttnRefIdeal.nD Cert.SinkAttnRefIdeal.τ).loc Cert.SinkAttnRefIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_UpBack [hUpBack : Cert.UpBack.Facts] : Prop :=
  ∀ (m : (ℓ : Loc Cert.UpBack.nD Cert.UpBack.τ Cert.UpBack.sig) → Buf (Elt Bits) ℓ) (g : Dev Cert.UpBack.nD → PrngReg), Pre_UpBack m →
    θ_run (Cert.UpBack.defs (F := Bits)) (onTc (τ := Cert.UpBack.τ) (Cert.UpBack.main (F := Bits))) ⟨m, fun _ => 0, g⟩ (fun r => (∀ c : Dev Cert.UpBack.nD,
      r.2.mem ((c.tc : Thread Cert.UpBack.nD Cert.UpBack.τ).loc Cert.UpBack.main_arg0) = m ((c.tc : Thread Cert.UpBack.nD Cert.UpBack.τ).loc Cert.UpBack.main_arg0)
      ∧ r.2.mem ((c.tc : Thread Cert.UpBack.nD Cert.UpBack.τ).loc Cert.UpBack.main_arg1) = m ((c.tc : Thread Cert.UpBack.nD Cert.UpBack.τ).loc Cert.UpBack.main_arg1)
      ∧ r.2.mem ((c.tc : Thread Cert.UpBack.nD Cert.UpBack.τ).loc Cert.UpBack.main_arg2) = m ((c.tc : Thread Cert.UpBack.nD Cert.UpBack.τ).loc Cert.UpBack.main_arg2)
      ∧ r.2.mem ((c.tc : Thread Cert.UpBack.nD Cert.UpBack.τ).loc Cert.UpBack.main_arg3) = m ((c.tc : Thread Cert.UpBack.nD Cert.UpBack.τ).loc Cert.UpBack.main_arg3)
      ∧ r.2.mem ((c.tc : Thread Cert.UpBack.nD Cert.UpBack.τ).loc Cert.UpBack.main_arg4) = m ((c.tc : Thread Cert.UpBack.nD Cert.UpBack.τ).loc Cert.UpBack.main_arg4)
      ∧ r.2.mem ((c.tc : Thread Cert.UpBack.nD Cert.UpBack.τ).loc Cert.UpBack.main_arg5) = m ((c.tc : Thread Cert.UpBack.nD Cert.UpBack.τ).loc Cert.UpBack.main_arg5)
      ∧ r.2.mem ((c.tc : Thread Cert.UpBack.nD Cert.UpBack.τ).loc Cert.UpBack.main_arg6) = m ((c.tc : Thread Cert.UpBack.nD Cert.UpBack.τ).loc Cert.UpBack.main_arg6))
      ∧ r.2.sem = fun _ => 0)

def quiescent_UpBackIdeal [hUpBackIdeal : Cert.UpBackIdeal.Facts] : Prop :=
  ∀ (m : (ℓ : Loc Cert.UpBackIdeal.nD Cert.UpBackIdeal.τ Cert.UpBackIdeal.sig) → Buf (Elt Ideal) ℓ) (g : Dev Cert.UpBackIdeal.nD → PrngReg), Pre_UpBackIdeal m →
    θ_run (Cert.UpBackIdeal.defs (F := Ideal)) (onTc (τ := Cert.UpBackIdeal.τ) (Cert.UpBackIdeal.main (F := Ideal))) ⟨m, fun _ => 0, g⟩ (fun r => (∀ c : Dev Cert.UpBackIdeal.nD,
      r.2.mem ((c.tc : Thread Cert.UpBackIdeal.nD Cert.UpBackIdeal.τ).loc Cert.UpBackIdeal.main_arg0) = m ((c.tc : Thread Cert.UpBackIdeal.nD Cert.UpBackIdeal.τ).loc Cert.UpBackIdeal.main_arg0)
      ∧ r.2.mem ((c.tc : Thread Cert.UpBackIdeal.nD Cert.UpBackIdeal.τ).loc Cert.UpBackIdeal.main_arg1) = m ((c.tc : Thread Cert.UpBackIdeal.nD Cert.UpBackIdeal.τ).loc Cert.UpBackIdeal.main_arg1)
      ∧ r.2.mem ((c.tc : Thread Cert.UpBackIdeal.nD Cert.UpBackIdeal.τ).loc Cert.UpBackIdeal.main_arg2) = m ((c.tc : Thread Cert.UpBackIdeal.nD Cert.UpBackIdeal.τ).loc Cert.UpBackIdeal.main_arg2)
      ∧ r.2.mem ((c.tc : Thread Cert.UpBackIdeal.nD Cert.UpBackIdeal.τ).loc Cert.UpBackIdeal.main_arg3) = m ((c.tc : Thread Cert.UpBackIdeal.nD Cert.UpBackIdeal.τ).loc Cert.UpBackIdeal.main_arg3)
      ∧ r.2.mem ((c.tc : Thread Cert.UpBackIdeal.nD Cert.UpBackIdeal.τ).loc Cert.UpBackIdeal.main_arg4) = m ((c.tc : Thread Cert.UpBackIdeal.nD Cert.UpBackIdeal.τ).loc Cert.UpBackIdeal.main_arg4)
      ∧ r.2.mem ((c.tc : Thread Cert.UpBackIdeal.nD Cert.UpBackIdeal.τ).loc Cert.UpBackIdeal.main_arg5) = m ((c.tc : Thread Cert.UpBackIdeal.nD Cert.UpBackIdeal.τ).loc Cert.UpBackIdeal.main_arg5)
      ∧ r.2.mem ((c.tc : Thread Cert.UpBackIdeal.nD Cert.UpBackIdeal.τ).loc Cert.UpBackIdeal.main_arg6) = m ((c.tc : Thread Cert.UpBackIdeal.nD Cert.UpBackIdeal.τ).loc Cert.UpBackIdeal.main_arg6))
      ∧ r.2.sem = fun _ => 0)

def quiescent_UpBackRefIdeal [hUpBackRefIdeal : Cert.UpBackRefIdeal.Facts] : Prop :=
  ∀ (m : (ℓ : Loc Cert.UpBackRefIdeal.nD Cert.UpBackRefIdeal.τ Cert.UpBackRefIdeal.sig) → Buf (Elt Ideal) ℓ) (g : Dev Cert.UpBackRefIdeal.nD → PrngReg), Pre_UpBackRefIdeal m →
    θ_run (Cert.UpBackRefIdeal.defs (F := Ideal)) (onTc (τ := Cert.UpBackRefIdeal.τ) (Cert.UpBackRefIdeal.main (F := Ideal))) ⟨m, fun _ => 0, g⟩ (fun r => (∀ c : Dev Cert.UpBackRefIdeal.nD,
      r.2.mem ((c.tc : Thread Cert.UpBackRefIdeal.nD Cert.UpBackRefIdeal.τ).loc Cert.UpBackRefIdeal.main_arg0) = m ((c.tc : Thread Cert.UpBackRefIdeal.nD Cert.UpBackRefIdeal.τ).loc Cert.UpBackRefIdeal.main_arg0)
      ∧ r.2.mem ((c.tc : Thread Cert.UpBackRefIdeal.nD Cert.UpBackRefIdeal.τ).loc Cert.UpBackRefIdeal.main_arg1) = m ((c.tc : Thread Cert.UpBackRefIdeal.nD Cert.UpBackRefIdeal.τ).loc Cert.UpBackRefIdeal.main_arg1)
      ∧ r.2.mem ((c.tc : Thread Cert.UpBackRefIdeal.nD Cert.UpBackRefIdeal.τ).loc Cert.UpBackRefIdeal.main_arg2) = m ((c.tc : Thread Cert.UpBackRefIdeal.nD Cert.UpBackRefIdeal.τ).loc Cert.UpBackRefIdeal.main_arg2)
      ∧ r.2.mem ((c.tc : Thread Cert.UpBackRefIdeal.nD Cert.UpBackRefIdeal.τ).loc Cert.UpBackRefIdeal.main_arg3) = m ((c.tc : Thread Cert.UpBackRefIdeal.nD Cert.UpBackRefIdeal.τ).loc Cert.UpBackRefIdeal.main_arg3)
      ∧ r.2.mem ((c.tc : Thread Cert.UpBackRefIdeal.nD Cert.UpBackRefIdeal.τ).loc Cert.UpBackRefIdeal.main_arg4) = m ((c.tc : Thread Cert.UpBackRefIdeal.nD Cert.UpBackRefIdeal.τ).loc Cert.UpBackRefIdeal.main_arg4)
      ∧ r.2.mem ((c.tc : Thread Cert.UpBackRefIdeal.nD Cert.UpBackRefIdeal.τ).loc Cert.UpBackRefIdeal.main_arg5) = m ((c.tc : Thread Cert.UpBackRefIdeal.nD Cert.UpBackRefIdeal.τ).loc Cert.UpBackRefIdeal.main_arg5)
      ∧ r.2.mem ((c.tc : Thread Cert.UpBackRefIdeal.nD Cert.UpBackRefIdeal.τ).loc Cert.UpBackRefIdeal.main_arg6) = m ((c.tc : Thread Cert.UpBackRefIdeal.nD Cert.UpBackRefIdeal.τ).loc Cert.UpBackRefIdeal.main_arg6))
      ∧ r.2.sem = fun _ => 0)

def quiescent_UpWeights [hUpWeights : Cert.UpWeights.Facts] : Prop :=
  ∀ (m : (ℓ : Loc Cert.UpWeights.nD Cert.UpWeights.τ Cert.UpWeights.sig) → Buf (Elt Bits) ℓ) (g : Dev Cert.UpWeights.nD → PrngReg), Pre_UpWeights m →
    θ_run (Cert.UpWeights.defs (F := Bits)) (onTc (τ := Cert.UpWeights.τ) (Cert.UpWeights.main (F := Bits))) ⟨m, fun _ => 0, g⟩ (fun r => (∀ c : Dev Cert.UpWeights.nD,
      r.2.mem ((c.tc : Thread Cert.UpWeights.nD Cert.UpWeights.τ).loc Cert.UpWeights.main_arg0) = m ((c.tc : Thread Cert.UpWeights.nD Cert.UpWeights.τ).loc Cert.UpWeights.main_arg0)
      ∧ r.2.mem ((c.tc : Thread Cert.UpWeights.nD Cert.UpWeights.τ).loc Cert.UpWeights.main_arg1) = m ((c.tc : Thread Cert.UpWeights.nD Cert.UpWeights.τ).loc Cert.UpWeights.main_arg1)
      ∧ r.2.mem ((c.tc : Thread Cert.UpWeights.nD Cert.UpWeights.τ).loc Cert.UpWeights.main_arg2) = m ((c.tc : Thread Cert.UpWeights.nD Cert.UpWeights.τ).loc Cert.UpWeights.main_arg2))
      ∧ r.2.sem = fun _ => 0)

def quiescent_UpWeightsIdeal [hUpWeightsIdeal : Cert.UpWeightsIdeal.Facts] : Prop :=
  ∀ (m : (ℓ : Loc Cert.UpWeightsIdeal.nD Cert.UpWeightsIdeal.τ Cert.UpWeightsIdeal.sig) → Buf (Elt Ideal) ℓ) (g : Dev Cert.UpWeightsIdeal.nD → PrngReg), Pre_UpWeightsIdeal m →
    θ_run (Cert.UpWeightsIdeal.defs (F := Ideal)) (onTc (τ := Cert.UpWeightsIdeal.τ) (Cert.UpWeightsIdeal.main (F := Ideal))) ⟨m, fun _ => 0, g⟩ (fun r => (∀ c : Dev Cert.UpWeightsIdeal.nD,
      r.2.mem ((c.tc : Thread Cert.UpWeightsIdeal.nD Cert.UpWeightsIdeal.τ).loc Cert.UpWeightsIdeal.main_arg0) = m ((c.tc : Thread Cert.UpWeightsIdeal.nD Cert.UpWeightsIdeal.τ).loc Cert.UpWeightsIdeal.main_arg0)
      ∧ r.2.mem ((c.tc : Thread Cert.UpWeightsIdeal.nD Cert.UpWeightsIdeal.τ).loc Cert.UpWeightsIdeal.main_arg1) = m ((c.tc : Thread Cert.UpWeightsIdeal.nD Cert.UpWeightsIdeal.τ).loc Cert.UpWeightsIdeal.main_arg1)
      ∧ r.2.mem ((c.tc : Thread Cert.UpWeightsIdeal.nD Cert.UpWeightsIdeal.τ).loc Cert.UpWeightsIdeal.main_arg2) = m ((c.tc : Thread Cert.UpWeightsIdeal.nD Cert.UpWeightsIdeal.τ).loc Cert.UpWeightsIdeal.main_arg2))
      ∧ r.2.sem = fun _ => 0)

def quiescent_UpWeightsRefIdeal [hUpWeightsRefIdeal : Cert.UpWeightsRefIdeal.Facts] : Prop :=
  ∀ (m : (ℓ : Loc Cert.UpWeightsRefIdeal.nD Cert.UpWeightsRefIdeal.τ Cert.UpWeightsRefIdeal.sig) → Buf (Elt Ideal) ℓ) (g : Dev Cert.UpWeightsRefIdeal.nD → PrngReg), Pre_UpWeightsRefIdeal m →
    θ_run (Cert.UpWeightsRefIdeal.defs (F := Ideal)) (onTc (τ := Cert.UpWeightsRefIdeal.τ) (Cert.UpWeightsRefIdeal.main (F := Ideal))) ⟨m, fun _ => 0, g⟩ (fun r => (∀ c : Dev Cert.UpWeightsRefIdeal.nD,
      r.2.mem ((c.tc : Thread Cert.UpWeightsRefIdeal.nD Cert.UpWeightsRefIdeal.τ).loc Cert.UpWeightsRefIdeal.main_arg0) = m ((c.tc : Thread Cert.UpWeightsRefIdeal.nD Cert.UpWeightsRefIdeal.τ).loc Cert.UpWeightsRefIdeal.main_arg0)
      ∧ r.2.mem ((c.tc : Thread Cert.UpWeightsRefIdeal.nD Cert.UpWeightsRefIdeal.τ).loc Cert.UpWeightsRefIdeal.main_arg1) = m ((c.tc : Thread Cert.UpWeightsRefIdeal.nD Cert.UpWeightsRefIdeal.τ).loc Cert.UpWeightsRefIdeal.main_arg1)
      ∧ r.2.mem ((c.tc : Thread Cert.UpWeightsRefIdeal.nD Cert.UpWeightsRefIdeal.τ).loc Cert.UpWeightsRefIdeal.main_arg2) = m ((c.tc : Thread Cert.UpWeightsRefIdeal.nD Cert.UpWeightsRefIdeal.τ).loc Cert.UpWeightsRefIdeal.main_arg2))
      ∧ r.2.sem = fun _ => 0)

def quiescent_DownWeight [hDownWeight : Cert.DownWeight.Facts] : Prop :=
  ∀ (m : (ℓ : Loc Cert.DownWeight.nD Cert.DownWeight.τ Cert.DownWeight.sig) → Buf (Elt Bits) ℓ) (g : Dev Cert.DownWeight.nD → PrngReg), Pre_DownWeight m →
    θ_run (Cert.DownWeight.defs (F := Bits)) (onTc (τ := Cert.DownWeight.τ) (Cert.DownWeight.main (F := Bits))) ⟨m, fun _ => 0, g⟩ (fun r => (∀ c : Dev Cert.DownWeight.nD,
      r.2.mem ((c.tc : Thread Cert.DownWeight.nD Cert.DownWeight.τ).loc Cert.DownWeight.main_arg0) = m ((c.tc : Thread Cert.DownWeight.nD Cert.DownWeight.τ).loc Cert.DownWeight.main_arg0)
      ∧ r.2.mem ((c.tc : Thread Cert.DownWeight.nD Cert.DownWeight.τ).loc Cert.DownWeight.main_arg1) = m ((c.tc : Thread Cert.DownWeight.nD Cert.DownWeight.τ).loc Cert.DownWeight.main_arg1))
      ∧ r.2.sem = fun _ => 0)

def quiescent_DownWeightIdeal [hDownWeightIdeal : Cert.DownWeightIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg), Pre_DownWeightIdeal m →
    θ_run (Cert.DownWeightIdeal.defs (F := Ideal)) (onTc (τ := Cert.DownWeightIdeal.τ) (Cert.DownWeightIdeal.main (F := Ideal))) ⟨m, fun _ => 0, g⟩ (fun r => (∀ c : Dev Cert.DownWeightIdeal.nD,
      r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
      ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ r.2.sem = fun _ => 0)

def quiescent_DownWeightRefIdeal [hDownWeightRefIdeal : Cert.DownWeightRefIdeal.Facts] : Prop :=
  ∀ (m : (ℓ : Loc Cert.DownWeightRefIdeal.nD Cert.DownWeightRefIdeal.τ Cert.DownWeightRefIdeal.sig) → Buf (Elt Ideal) ℓ) (g : Dev Cert.DownWeightRefIdeal.nD → PrngReg), Pre_DownWeightRefIdeal m →
    θ_run (Cert.DownWeightRefIdeal.defs (F := Ideal)) (onTc (τ := Cert.DownWeightRefIdeal.τ) (Cert.DownWeightRefIdeal.main (F := Ideal))) ⟨m, fun _ => 0, g⟩ (fun r => (∀ c : Dev Cert.DownWeightRefIdeal.nD,
      r.2.mem ((c.tc : Thread Cert.DownWeightRefIdeal.nD Cert.DownWeightRefIdeal.τ).loc Cert.DownWeightRefIdeal.main_arg0) = m ((c.tc : Thread Cert.DownWeightRefIdeal.nD Cert.DownWeightRefIdeal.τ).loc Cert.DownWeightRefIdeal.main_arg0)
      ∧ r.2.mem ((c.tc : Thread Cert.DownWeightRefIdeal.nD Cert.DownWeightRefIdeal.τ).loc Cert.DownWeightRefIdeal.main_arg1) = m ((c.tc : Thread Cert.DownWeightRefIdeal.nD Cert.DownWeightRefIdeal.τ).loc Cert.DownWeightRefIdeal.main_arg1))
      ∧ r.2.sem = fun _ => 0)

def quiescent_DownBack [hDownBack : Cert.DownBack.Facts] : Prop :=
  ∀ (m : (ℓ : Loc Cert.DownBack.nD Cert.DownBack.τ Cert.DownBack.sig) → Buf (Elt Bits) ℓ) (g : Dev Cert.DownBack.nD → PrngReg), Pre_DownBack m →
    θ_run (Cert.DownBack.defs (F := Bits)) (onTc (τ := Cert.DownBack.τ) (Cert.DownBack.main (F := Bits))) ⟨m, fun _ => 0, g⟩ (fun r => (∀ c : Dev Cert.DownBack.nD,
      r.2.mem ((c.tc : Thread Cert.DownBack.nD Cert.DownBack.τ).loc Cert.DownBack.main_arg0) = m ((c.tc : Thread Cert.DownBack.nD Cert.DownBack.τ).loc Cert.DownBack.main_arg0)
      ∧ r.2.mem ((c.tc : Thread Cert.DownBack.nD Cert.DownBack.τ).loc Cert.DownBack.main_arg1) = m ((c.tc : Thread Cert.DownBack.nD Cert.DownBack.τ).loc Cert.DownBack.main_arg1)
      ∧ r.2.mem ((c.tc : Thread Cert.DownBack.nD Cert.DownBack.τ).loc Cert.DownBack.main_arg2) = m ((c.tc : Thread Cert.DownBack.nD Cert.DownBack.τ).loc Cert.DownBack.main_arg2)
      ∧ r.2.mem ((c.tc : Thread Cert.DownBack.nD Cert.DownBack.τ).loc Cert.DownBack.main_arg3) = m ((c.tc : Thread Cert.DownBack.nD Cert.DownBack.τ).loc Cert.DownBack.main_arg3))
      ∧ r.2.sem = fun _ => 0)

def quiescent_DownBackIdeal [hDownBackIdeal : Cert.DownBackIdeal.Facts] : Prop :=
  ∀ (m : (ℓ : Loc Cert.DownBackIdeal.nD Cert.DownBackIdeal.τ Cert.DownBackIdeal.sig) → Buf (Elt Ideal) ℓ) (g : Dev Cert.DownBackIdeal.nD → PrngReg), Pre_DownBackIdeal m →
    θ_run (Cert.DownBackIdeal.defs (F := Ideal)) (onTc (τ := Cert.DownBackIdeal.τ) (Cert.DownBackIdeal.main (F := Ideal))) ⟨m, fun _ => 0, g⟩ (fun r => (∀ c : Dev Cert.DownBackIdeal.nD,
      r.2.mem ((c.tc : Thread Cert.DownBackIdeal.nD Cert.DownBackIdeal.τ).loc Cert.DownBackIdeal.main_arg0) = m ((c.tc : Thread Cert.DownBackIdeal.nD Cert.DownBackIdeal.τ).loc Cert.DownBackIdeal.main_arg0)
      ∧ r.2.mem ((c.tc : Thread Cert.DownBackIdeal.nD Cert.DownBackIdeal.τ).loc Cert.DownBackIdeal.main_arg1) = m ((c.tc : Thread Cert.DownBackIdeal.nD Cert.DownBackIdeal.τ).loc Cert.DownBackIdeal.main_arg1)
      ∧ r.2.mem ((c.tc : Thread Cert.DownBackIdeal.nD Cert.DownBackIdeal.τ).loc Cert.DownBackIdeal.main_arg2) = m ((c.tc : Thread Cert.DownBackIdeal.nD Cert.DownBackIdeal.τ).loc Cert.DownBackIdeal.main_arg2)
      ∧ r.2.mem ((c.tc : Thread Cert.DownBackIdeal.nD Cert.DownBackIdeal.τ).loc Cert.DownBackIdeal.main_arg3) = m ((c.tc : Thread Cert.DownBackIdeal.nD Cert.DownBackIdeal.τ).loc Cert.DownBackIdeal.main_arg3))
      ∧ r.2.sem = fun _ => 0)

def quiescent_DownBackIdeal_pre_finite_back [hDownBackIdeal : Cert.DownBackIdeal.Facts] [hPre_finite_back : Cert.Pre_finite_back.Facts] : Prop :=
  ∀ (m : (ℓ : Loc Cert.DownBackIdeal.nD Cert.DownBackIdeal.τ Cert.DownBackIdeal.sig) → Buf (Elt Ideal) ℓ) (g : Dev Cert.DownBackIdeal.nD → PrngReg), Pre_DownBackIdeal_finite_back m →
    θ_run (Cert.DownBackIdeal.defs (F := Ideal)) (onTc (τ := Cert.DownBackIdeal.τ) (Cert.DownBackIdeal.main (F := Ideal))) ⟨m, fun _ => 0, g⟩ (fun r => (∀ c : Dev Cert.DownBackIdeal.nD,
      r.2.mem ((c.tc : Thread Cert.DownBackIdeal.nD Cert.DownBackIdeal.τ).loc Cert.DownBackIdeal.main_arg0) = m ((c.tc : Thread Cert.DownBackIdeal.nD Cert.DownBackIdeal.τ).loc Cert.DownBackIdeal.main_arg0)
      ∧ r.2.mem ((c.tc : Thread Cert.DownBackIdeal.nD Cert.DownBackIdeal.τ).loc Cert.DownBackIdeal.main_arg1) = m ((c.tc : Thread Cert.DownBackIdeal.nD Cert.DownBackIdeal.τ).loc Cert.DownBackIdeal.main_arg1)
      ∧ r.2.mem ((c.tc : Thread Cert.DownBackIdeal.nD Cert.DownBackIdeal.τ).loc Cert.DownBackIdeal.main_arg2) = m ((c.tc : Thread Cert.DownBackIdeal.nD Cert.DownBackIdeal.τ).loc Cert.DownBackIdeal.main_arg2)
      ∧ r.2.mem ((c.tc : Thread Cert.DownBackIdeal.nD Cert.DownBackIdeal.τ).loc Cert.DownBackIdeal.main_arg3) = m ((c.tc : Thread Cert.DownBackIdeal.nD Cert.DownBackIdeal.τ).loc Cert.DownBackIdeal.main_arg3))
      ∧ r.2.sem = fun _ => 0)

def quiescent_DownBackRefIdeal [hDownBackRefIdeal : Cert.DownBackRefIdeal.Facts] : Prop :=
  ∀ (m : (ℓ : Loc Cert.DownBackRefIdeal.nD Cert.DownBackRefIdeal.τ Cert.DownBackRefIdeal.sig) → Buf (Elt Ideal) ℓ) (g : Dev Cert.DownBackRefIdeal.nD → PrngReg), Pre_DownBackRefIdeal m →
    θ_run (Cert.DownBackRefIdeal.defs (F := Ideal)) (onTc (τ := Cert.DownBackRefIdeal.τ) (Cert.DownBackRefIdeal.main (F := Ideal))) ⟨m, fun _ => 0, g⟩ (fun r => (∀ c : Dev Cert.DownBackRefIdeal.nD,
      r.2.mem ((c.tc : Thread Cert.DownBackRefIdeal.nD Cert.DownBackRefIdeal.τ).loc Cert.DownBackRefIdeal.main_arg0) = m ((c.tc : Thread Cert.DownBackRefIdeal.nD Cert.DownBackRefIdeal.τ).loc Cert.DownBackRefIdeal.main_arg0)
      ∧ r.2.mem ((c.tc : Thread Cert.DownBackRefIdeal.nD Cert.DownBackRefIdeal.τ).loc Cert.DownBackRefIdeal.main_arg1) = m ((c.tc : Thread Cert.DownBackRefIdeal.nD Cert.DownBackRefIdeal.τ).loc Cert.DownBackRefIdeal.main_arg1)
      ∧ r.2.mem ((c.tc : Thread Cert.DownBackRefIdeal.nD Cert.DownBackRefIdeal.τ).loc Cert.DownBackRefIdeal.main_arg2) = m ((c.tc : Thread Cert.DownBackRefIdeal.nD Cert.DownBackRefIdeal.τ).loc Cert.DownBackRefIdeal.main_arg2)
      ∧ r.2.mem ((c.tc : Thread Cert.DownBackRefIdeal.nD Cert.DownBackRefIdeal.τ).loc Cert.DownBackRefIdeal.main_arg3) = m ((c.tc : Thread Cert.DownBackRefIdeal.nD Cert.DownBackRefIdeal.τ).loc Cert.DownBackRefIdeal.main_arg3))
      ∧ r.2.sem = fun _ => 0)

def quiescent_DownBackRefIdeal_pre_finite_back [hDownBackRefIdeal : Cert.DownBackRefIdeal.Facts] [hPre_finite_back : Cert.Pre_finite_back.Facts] : Prop :=
  ∀ (m : (ℓ : Loc Cert.DownBackRefIdeal.nD Cert.DownBackRefIdeal.τ Cert.DownBackRefIdeal.sig) → Buf (Elt Ideal) ℓ) (g : Dev Cert.DownBackRefIdeal.nD → PrngReg), Pre_DownBackRefIdeal_finite_back m →
    θ_run (Cert.DownBackRefIdeal.defs (F := Ideal)) (onTc (τ := Cert.DownBackRefIdeal.τ) (Cert.DownBackRefIdeal.main (F := Ideal))) ⟨m, fun _ => 0, g⟩ (fun r => (∀ c : Dev Cert.DownBackRefIdeal.nD,
      r.2.mem ((c.tc : Thread Cert.DownBackRefIdeal.nD Cert.DownBackRefIdeal.τ).loc Cert.DownBackRefIdeal.main_arg0) = m ((c.tc : Thread Cert.DownBackRefIdeal.nD Cert.DownBackRefIdeal.τ).loc Cert.DownBackRefIdeal.main_arg0)
      ∧ r.2.mem ((c.tc : Thread Cert.DownBackRefIdeal.nD Cert.DownBackRefIdeal.τ).loc Cert.DownBackRefIdeal.main_arg1) = m ((c.tc : Thread Cert.DownBackRefIdeal.nD Cert.DownBackRefIdeal.τ).loc Cert.DownBackRefIdeal.main_arg1)
      ∧ r.2.mem ((c.tc : Thread Cert.DownBackRefIdeal.nD Cert.DownBackRefIdeal.τ).loc Cert.DownBackRefIdeal.main_arg2) = m ((c.tc : Thread Cert.DownBackRefIdeal.nD Cert.DownBackRefIdeal.τ).loc Cert.DownBackRefIdeal.main_arg2)
      ∧ r.2.mem ((c.tc : Thread Cert.DownBackRefIdeal.nD Cert.DownBackRefIdeal.τ).loc Cert.DownBackRefIdeal.main_arg3) = m ((c.tc : Thread Cert.DownBackRefIdeal.nD Cert.DownBackRefIdeal.τ).loc Cert.DownBackRefIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpIdeal_pre_finite_up [hGateUpIdeal : Cert.GateUpIdeal.Facts] [hPre_finite_up : Cert.Pre_finite_up.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal_finite_up m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_GateUpRefIdeal_pre_finite_up [hGateUpRefIdeal : Cert.GateUpRefIdeal.Facts] [hPre_finite_up : Cert.Pre_finite_up.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal_finite_up m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_OdInBack [hOdInBack : Cert.OdInBack.Facts] : Prop :=
  ∀ (m : (ℓ : Loc Cert.OdInBack.nD Cert.OdInBack.τ Cert.OdInBack.sig) → Buf (Elt Bits) ℓ) (g : Dev Cert.OdInBack.nD → PrngReg), Pre_OdInBack m →
    θ_run (Cert.OdInBack.defs (F := Bits)) (onTc (τ := Cert.OdInBack.τ) (Cert.OdInBack.main (F := Bits))) ⟨m, fun _ => 0, g⟩ (fun r => (∀ c : Dev Cert.OdInBack.nD,
      r.2.mem ((c.tc : Thread Cert.OdInBack.nD Cert.OdInBack.τ).loc Cert.OdInBack.main_arg0) = m ((c.tc : Thread Cert.OdInBack.nD Cert.OdInBack.τ).loc Cert.OdInBack.main_arg0)
      ∧ r.2.mem ((c.tc : Thread Cert.OdInBack.nD Cert.OdInBack.τ).loc Cert.OdInBack.main_arg1) = m ((c.tc : Thread Cert.OdInBack.nD Cert.OdInBack.τ).loc Cert.OdInBack.main_arg1)
      ∧ r.2.mem ((c.tc : Thread Cert.OdInBack.nD Cert.OdInBack.τ).loc Cert.OdInBack.main_arg2) = m ((c.tc : Thread Cert.OdInBack.nD Cert.OdInBack.τ).loc Cert.OdInBack.main_arg2)
      ∧ r.2.mem ((c.tc : Thread Cert.OdInBack.nD Cert.OdInBack.τ).loc Cert.OdInBack.main_arg3) = m ((c.tc : Thread Cert.OdInBack.nD Cert.OdInBack.τ).loc Cert.OdInBack.main_arg3)
      ∧ r.2.mem ((c.tc : Thread Cert.OdInBack.nD Cert.OdInBack.τ).loc Cert.OdInBack.main_arg4) = m ((c.tc : Thread Cert.OdInBack.nD Cert.OdInBack.τ).loc Cert.OdInBack.main_arg4))
      ∧ r.2.sem = fun _ => 0)

def quiescent_OdInBackIdeal [hOdInBackIdeal : Cert.OdInBackIdeal.Facts] : Prop :=
  ∀ (m : (ℓ : Loc Cert.OdInBackIdeal.nD Cert.OdInBackIdeal.τ Cert.OdInBackIdeal.sig) → Buf (Elt Ideal) ℓ) (g : Dev Cert.OdInBackIdeal.nD → PrngReg), Pre_OdInBackIdeal m →
    θ_run (Cert.OdInBackIdeal.defs (F := Ideal)) (onTc (τ := Cert.OdInBackIdeal.τ) (Cert.OdInBackIdeal.main (F := Ideal))) ⟨m, fun _ => 0, g⟩ (fun r => (∀ c : Dev Cert.OdInBackIdeal.nD,
      r.2.mem ((c.tc : Thread Cert.OdInBackIdeal.nD Cert.OdInBackIdeal.τ).loc Cert.OdInBackIdeal.main_arg0) = m ((c.tc : Thread Cert.OdInBackIdeal.nD Cert.OdInBackIdeal.τ).loc Cert.OdInBackIdeal.main_arg0)
      ∧ r.2.mem ((c.tc : Thread Cert.OdInBackIdeal.nD Cert.OdInBackIdeal.τ).loc Cert.OdInBackIdeal.main_arg1) = m ((c.tc : Thread Cert.OdInBackIdeal.nD Cert.OdInBackIdeal.τ).loc Cert.OdInBackIdeal.main_arg1)
      ∧ r.2.mem ((c.tc : Thread Cert.OdInBackIdeal.nD Cert.OdInBackIdeal.τ).loc Cert.OdInBackIdeal.main_arg2) = m ((c.tc : Thread Cert.OdInBackIdeal.nD Cert.OdInBackIdeal.τ).loc Cert.OdInBackIdeal.main_arg2)
      ∧ r.2.mem ((c.tc : Thread Cert.OdInBackIdeal.nD Cert.OdInBackIdeal.τ).loc Cert.OdInBackIdeal.main_arg3) = m ((c.tc : Thread Cert.OdInBackIdeal.nD Cert.OdInBackIdeal.τ).loc Cert.OdInBackIdeal.main_arg3)
      ∧ r.2.mem ((c.tc : Thread Cert.OdInBackIdeal.nD Cert.OdInBackIdeal.τ).loc Cert.OdInBackIdeal.main_arg4) = m ((c.tc : Thread Cert.OdInBackIdeal.nD Cert.OdInBackIdeal.τ).loc Cert.OdInBackIdeal.main_arg4))
      ∧ r.2.sem = fun _ => 0)

def quiescent_OdInBackRefIdeal [hOdInBackRefIdeal : Cert.OdInBackRefIdeal.Facts] : Prop :=
  ∀ (m : (ℓ : Loc Cert.OdInBackRefIdeal.nD Cert.OdInBackRefIdeal.τ Cert.OdInBackRefIdeal.sig) → Buf (Elt Ideal) ℓ) (g : Dev Cert.OdInBackRefIdeal.nD → PrngReg), Pre_OdInBackRefIdeal m →
    θ_run (Cert.OdInBackRefIdeal.defs (F := Ideal)) (onTc (τ := Cert.OdInBackRefIdeal.τ) (Cert.OdInBackRefIdeal.main (F := Ideal))) ⟨m, fun _ => 0, g⟩ (fun r => (∀ c : Dev Cert.OdInBackRefIdeal.nD,
      r.2.mem ((c.tc : Thread Cert.OdInBackRefIdeal.nD Cert.OdInBackRefIdeal.τ).loc Cert.OdInBackRefIdeal.main_arg0) = m ((c.tc : Thread Cert.OdInBackRefIdeal.nD Cert.OdInBackRefIdeal.τ).loc Cert.OdInBackRefIdeal.main_arg0)
      ∧ r.2.mem ((c.tc : Thread Cert.OdInBackRefIdeal.nD Cert.OdInBackRefIdeal.τ).loc Cert.OdInBackRefIdeal.main_arg1) = m ((c.tc : Thread Cert.OdInBackRefIdeal.nD Cert.OdInBackRefIdeal.τ).loc Cert.OdInBackRefIdeal.main_arg1)
      ∧ r.2.mem ((c.tc : Thread Cert.OdInBackRefIdeal.nD Cert.OdInBackRefIdeal.τ).loc Cert.OdInBackRefIdeal.main_arg2) = m ((c.tc : Thread Cert.OdInBackRefIdeal.nD Cert.OdInBackRefIdeal.τ).loc Cert.OdInBackRefIdeal.main_arg2)
      ∧ r.2.mem ((c.tc : Thread Cert.OdInBackRefIdeal.nD Cert.OdInBackRefIdeal.τ).loc Cert.OdInBackRefIdeal.main_arg3) = m ((c.tc : Thread Cert.OdInBackRefIdeal.nD Cert.OdInBackRefIdeal.τ).loc Cert.OdInBackRefIdeal.main_arg3)
      ∧ r.2.mem ((c.tc : Thread Cert.OdInBackRefIdeal.nD Cert.OdInBackRefIdeal.τ).loc Cert.OdInBackRefIdeal.main_arg4) = m ((c.tc : Thread Cert.OdInBackRefIdeal.nD Cert.OdInBackRefIdeal.τ).loc Cert.OdInBackRefIdeal.main_arg4))
      ∧ r.2.sem = fun _ => 0)

def quiescent_EvInBack [hEvInBack : Cert.EvInBack.Facts] : Prop :=
  ∀ (m : (ℓ : Loc Cert.EvInBack.nD Cert.EvInBack.τ Cert.EvInBack.sig) → Buf (Elt Bits) ℓ) (g : Dev Cert.EvInBack.nD → PrngReg), Pre_EvInBack m →
    θ_run (Cert.EvInBack.defs (F := Bits)) (onTc (τ := Cert.EvInBack.τ) (Cert.EvInBack.main (F := Bits))) ⟨m, fun _ => 0, g⟩ (fun r => (∀ c : Dev Cert.EvInBack.nD,
      r.2.mem ((c.tc : Thread Cert.EvInBack.nD Cert.EvInBack.τ).loc Cert.EvInBack.main_arg0) = m ((c.tc : Thread Cert.EvInBack.nD Cert.EvInBack.τ).loc Cert.EvInBack.main_arg0)
      ∧ r.2.mem ((c.tc : Thread Cert.EvInBack.nD Cert.EvInBack.τ).loc Cert.EvInBack.main_arg1) = m ((c.tc : Thread Cert.EvInBack.nD Cert.EvInBack.τ).loc Cert.EvInBack.main_arg1)
      ∧ r.2.mem ((c.tc : Thread Cert.EvInBack.nD Cert.EvInBack.τ).loc Cert.EvInBack.main_arg2) = m ((c.tc : Thread Cert.EvInBack.nD Cert.EvInBack.τ).loc Cert.EvInBack.main_arg2)
      ∧ r.2.mem ((c.tc : Thread Cert.EvInBack.nD Cert.EvInBack.τ).loc Cert.EvInBack.main_arg3) = m ((c.tc : Thread Cert.EvInBack.nD Cert.EvInBack.τ).loc Cert.EvInBack.main_arg3)
      ∧ r.2.mem ((c.tc : Thread Cert.EvInBack.nD Cert.EvInBack.τ).loc Cert.EvInBack.main_arg4) = m ((c.tc : Thread Cert.EvInBack.nD Cert.EvInBack.τ).loc Cert.EvInBack.main_arg4))
      ∧ r.2.sem = fun _ => 0)

def quiescent_EvInBackIdeal [hEvInBackIdeal : Cert.EvInBackIdeal.Facts] : Prop :=
  ∀ (m : (ℓ : Loc Cert.EvInBackIdeal.nD Cert.EvInBackIdeal.τ Cert.EvInBackIdeal.sig) → Buf (Elt Ideal) ℓ) (g : Dev Cert.EvInBackIdeal.nD → PrngReg), Pre_EvInBackIdeal m →
    θ_run (Cert.EvInBackIdeal.defs (F := Ideal)) (onTc (τ := Cert.EvInBackIdeal.τ) (Cert.EvInBackIdeal.main (F := Ideal))) ⟨m, fun _ => 0, g⟩ (fun r => (∀ c : Dev Cert.EvInBackIdeal.nD,
      r.2.mem ((c.tc : Thread Cert.EvInBackIdeal.nD Cert.EvInBackIdeal.τ).loc Cert.EvInBackIdeal.main_arg0) = m ((c.tc : Thread Cert.EvInBackIdeal.nD Cert.EvInBackIdeal.τ).loc Cert.EvInBackIdeal.main_arg0)
      ∧ r.2.mem ((c.tc : Thread Cert.EvInBackIdeal.nD Cert.EvInBackIdeal.τ).loc Cert.EvInBackIdeal.main_arg1) = m ((c.tc : Thread Cert.EvInBackIdeal.nD Cert.EvInBackIdeal.τ).loc Cert.EvInBackIdeal.main_arg1)
      ∧ r.2.mem ((c.tc : Thread Cert.EvInBackIdeal.nD Cert.EvInBackIdeal.τ).loc Cert.EvInBackIdeal.main_arg2) = m ((c.tc : Thread Cert.EvInBackIdeal.nD Cert.EvInBackIdeal.τ).loc Cert.EvInBackIdeal.main_arg2)
      ∧ r.2.mem ((c.tc : Thread Cert.EvInBackIdeal.nD Cert.EvInBackIdeal.τ).loc Cert.EvInBackIdeal.main_arg3) = m ((c.tc : Thread Cert.EvInBackIdeal.nD Cert.EvInBackIdeal.τ).loc Cert.EvInBackIdeal.main_arg3)
      ∧ r.2.mem ((c.tc : Thread Cert.EvInBackIdeal.nD Cert.EvInBackIdeal.τ).loc Cert.EvInBackIdeal.main_arg4) = m ((c.tc : Thread Cert.EvInBackIdeal.nD Cert.EvInBackIdeal.τ).loc Cert.EvInBackIdeal.main_arg4))
      ∧ r.2.sem = fun _ => 0)

def quiescent_EvInBackRefIdeal [hEvInBackRefIdeal : Cert.EvInBackRefIdeal.Facts] : Prop :=
  ∀ (m : (ℓ : Loc Cert.EvInBackRefIdeal.nD Cert.EvInBackRefIdeal.τ Cert.EvInBackRefIdeal.sig) → Buf (Elt Ideal) ℓ) (g : Dev Cert.EvInBackRefIdeal.nD → PrngReg), Pre_EvInBackRefIdeal m →
    θ_run (Cert.EvInBackRefIdeal.defs (F := Ideal)) (onTc (τ := Cert.EvInBackRefIdeal.τ) (Cert.EvInBackRefIdeal.main (F := Ideal))) ⟨m, fun _ => 0, g⟩ (fun r => (∀ c : Dev Cert.EvInBackRefIdeal.nD,
      r.2.mem ((c.tc : Thread Cert.EvInBackRefIdeal.nD Cert.EvInBackRefIdeal.τ).loc Cert.EvInBackRefIdeal.main_arg0) = m ((c.tc : Thread Cert.EvInBackRefIdeal.nD Cert.EvInBackRefIdeal.τ).loc Cert.EvInBackRefIdeal.main_arg0)
      ∧ r.2.mem ((c.tc : Thread Cert.EvInBackRefIdeal.nD Cert.EvInBackRefIdeal.τ).loc Cert.EvInBackRefIdeal.main_arg1) = m ((c.tc : Thread Cert.EvInBackRefIdeal.nD Cert.EvInBackRefIdeal.τ).loc Cert.EvInBackRefIdeal.main_arg1)
      ∧ r.2.mem ((c.tc : Thread Cert.EvInBackRefIdeal.nD Cert.EvInBackRefIdeal.τ).loc Cert.EvInBackRefIdeal.main_arg2) = m ((c.tc : Thread Cert.EvInBackRefIdeal.nD Cert.EvInBackRefIdeal.τ).loc Cert.EvInBackRefIdeal.main_arg2)
      ∧ r.2.mem ((c.tc : Thread Cert.EvInBackRefIdeal.nD Cert.EvInBackRefIdeal.τ).loc Cert.EvInBackRefIdeal.main_arg3) = m ((c.tc : Thread Cert.EvInBackRefIdeal.nD Cert.EvInBackRefIdeal.τ).loc Cert.EvInBackRefIdeal.main_arg3)
      ∧ r.2.mem ((c.tc : Thread Cert.EvInBackRefIdeal.nD Cert.EvInBackRefIdeal.τ).loc Cert.EvInBackRefIdeal.main_arg4) = m ((c.tc : Thread Cert.EvInBackRefIdeal.nD Cert.EvInBackRefIdeal.τ).loc Cert.EvInBackRefIdeal.main_arg4))
      ∧ r.2.sem = fun _ => 0)

def quiescent_OdInWeight [hOdInWeight : Cert.OdInWeight.Facts] : Prop :=
  ∀ (m : (ℓ : Loc Cert.OdInWeight.nD Cert.OdInWeight.τ Cert.OdInWeight.sig) → Buf (Elt Bits) ℓ) (g : Dev Cert.OdInWeight.nD → PrngReg), Pre_OdInWeight m →
    θ_run (Cert.OdInWeight.defs (F := Bits)) (onTc (τ := Cert.OdInWeight.τ) (Cert.OdInWeight.main (F := Bits))) ⟨m, fun _ => 0, g⟩ (fun r => (∀ c : Dev Cert.OdInWeight.nD,
      r.2.mem ((c.tc : Thread Cert.OdInWeight.nD Cert.OdInWeight.τ).loc Cert.OdInWeight.main_arg0) = m ((c.tc : Thread Cert.OdInWeight.nD Cert.OdInWeight.τ).loc Cert.OdInWeight.main_arg0)
      ∧ r.2.mem ((c.tc : Thread Cert.OdInWeight.nD Cert.OdInWeight.τ).loc Cert.OdInWeight.main_arg1) = m ((c.tc : Thread Cert.OdInWeight.nD Cert.OdInWeight.τ).loc Cert.OdInWeight.main_arg1))
      ∧ r.2.sem = fun _ => 0)

def quiescent_OdInWeightIdeal [hOdInWeightIdeal : Cert.OdInWeightIdeal.Facts] : Prop :=
  ∀ (m : (ℓ : Loc Cert.OdInWeightIdeal.nD Cert.OdInWeightIdeal.τ Cert.OdInWeightIdeal.sig) → Buf (Elt Ideal) ℓ) (g : Dev Cert.OdInWeightIdeal.nD → PrngReg), Pre_OdInWeightIdeal m →
    θ_run (Cert.OdInWeightIdeal.defs (F := Ideal)) (onTc (τ := Cert.OdInWeightIdeal.τ) (Cert.OdInWeightIdeal.main (F := Ideal))) ⟨m, fun _ => 0, g⟩ (fun r => (∀ c : Dev Cert.OdInWeightIdeal.nD,
      r.2.mem ((c.tc : Thread Cert.OdInWeightIdeal.nD Cert.OdInWeightIdeal.τ).loc Cert.OdInWeightIdeal.main_arg0) = m ((c.tc : Thread Cert.OdInWeightIdeal.nD Cert.OdInWeightIdeal.τ).loc Cert.OdInWeightIdeal.main_arg0)
      ∧ r.2.mem ((c.tc : Thread Cert.OdInWeightIdeal.nD Cert.OdInWeightIdeal.τ).loc Cert.OdInWeightIdeal.main_arg1) = m ((c.tc : Thread Cert.OdInWeightIdeal.nD Cert.OdInWeightIdeal.τ).loc Cert.OdInWeightIdeal.main_arg1))
      ∧ r.2.sem = fun _ => 0)

def quiescent_OdInWeightRefIdeal [hOdInWeightRefIdeal : Cert.OdInWeightRefIdeal.Facts] : Prop :=
  ∀ (m : (ℓ : Loc Cert.OdInWeightRefIdeal.nD Cert.OdInWeightRefIdeal.τ Cert.OdInWeightRefIdeal.sig) → Buf (Elt Ideal) ℓ) (g : Dev Cert.OdInWeightRefIdeal.nD → PrngReg), Pre_OdInWeightRefIdeal m →
    θ_run (Cert.OdInWeightRefIdeal.defs (F := Ideal)) (onTc (τ := Cert.OdInWeightRefIdeal.τ) (Cert.OdInWeightRefIdeal.main (F := Ideal))) ⟨m, fun _ => 0, g⟩ (fun r => (∀ c : Dev Cert.OdInWeightRefIdeal.nD,
      r.2.mem ((c.tc : Thread Cert.OdInWeightRefIdeal.nD Cert.OdInWeightRefIdeal.τ).loc Cert.OdInWeightRefIdeal.main_arg0) = m ((c.tc : Thread Cert.OdInWeightRefIdeal.nD Cert.OdInWeightRefIdeal.τ).loc Cert.OdInWeightRefIdeal.main_arg0)
      ∧ r.2.mem ((c.tc : Thread Cert.OdInWeightRefIdeal.nD Cert.OdInWeightRefIdeal.τ).loc Cert.OdInWeightRefIdeal.main_arg1) = m ((c.tc : Thread Cert.OdInWeightRefIdeal.nD Cert.OdInWeightRefIdeal.τ).loc Cert.OdInWeightRefIdeal.main_arg1))
      ∧ r.2.sem = fun _ => 0)

def quiescent_EvInWeight [hEvInWeight : Cert.EvInWeight.Facts] : Prop :=
  ∀ (m : (ℓ : Loc Cert.EvInWeight.nD Cert.EvInWeight.τ Cert.EvInWeight.sig) → Buf (Elt Bits) ℓ) (g : Dev Cert.EvInWeight.nD → PrngReg), Pre_EvInWeight m →
    θ_run (Cert.EvInWeight.defs (F := Bits)) (onTc (τ := Cert.EvInWeight.τ) (Cert.EvInWeight.main (F := Bits))) ⟨m, fun _ => 0, g⟩ (fun r => (∀ c : Dev Cert.EvInWeight.nD,
      r.2.mem ((c.tc : Thread Cert.EvInWeight.nD Cert.EvInWeight.τ).loc Cert.EvInWeight.main_arg0) = m ((c.tc : Thread Cert.EvInWeight.nD Cert.EvInWeight.τ).loc Cert.EvInWeight.main_arg0)
      ∧ r.2.mem ((c.tc : Thread Cert.EvInWeight.nD Cert.EvInWeight.τ).loc Cert.EvInWeight.main_arg1) = m ((c.tc : Thread Cert.EvInWeight.nD Cert.EvInWeight.τ).loc Cert.EvInWeight.main_arg1))
      ∧ r.2.sem = fun _ => 0)

def quiescent_EvInWeightIdeal [hEvInWeightIdeal : Cert.EvInWeightIdeal.Facts] : Prop :=
  ∀ (m : (ℓ : Loc Cert.EvInWeightIdeal.nD Cert.EvInWeightIdeal.τ Cert.EvInWeightIdeal.sig) → Buf (Elt Ideal) ℓ) (g : Dev Cert.EvInWeightIdeal.nD → PrngReg), Pre_EvInWeightIdeal m →
    θ_run (Cert.EvInWeightIdeal.defs (F := Ideal)) (onTc (τ := Cert.EvInWeightIdeal.τ) (Cert.EvInWeightIdeal.main (F := Ideal))) ⟨m, fun _ => 0, g⟩ (fun r => (∀ c : Dev Cert.EvInWeightIdeal.nD,
      r.2.mem ((c.tc : Thread Cert.EvInWeightIdeal.nD Cert.EvInWeightIdeal.τ).loc Cert.EvInWeightIdeal.main_arg0) = m ((c.tc : Thread Cert.EvInWeightIdeal.nD Cert.EvInWeightIdeal.τ).loc Cert.EvInWeightIdeal.main_arg0)
      ∧ r.2.mem ((c.tc : Thread Cert.EvInWeightIdeal.nD Cert.EvInWeightIdeal.τ).loc Cert.EvInWeightIdeal.main_arg1) = m ((c.tc : Thread Cert.EvInWeightIdeal.nD Cert.EvInWeightIdeal.τ).loc Cert.EvInWeightIdeal.main_arg1))
      ∧ r.2.sem = fun _ => 0)

def quiescent_EvInWeightRefIdeal [hEvInWeightRefIdeal : Cert.EvInWeightRefIdeal.Facts] : Prop :=
  ∀ (m : (ℓ : Loc Cert.EvInWeightRefIdeal.nD Cert.EvInWeightRefIdeal.τ Cert.EvInWeightRefIdeal.sig) → Buf (Elt Ideal) ℓ) (g : Dev Cert.EvInWeightRefIdeal.nD → PrngReg), Pre_EvInWeightRefIdeal m →
    θ_run (Cert.EvInWeightRefIdeal.defs (F := Ideal)) (onTc (τ := Cert.EvInWeightRefIdeal.τ) (Cert.EvInWeightRefIdeal.main (F := Ideal))) ⟨m, fun _ => 0, g⟩ (fun r => (∀ c : Dev Cert.EvInWeightRefIdeal.nD,
      r.2.mem ((c.tc : Thread Cert.EvInWeightRefIdeal.nD Cert.EvInWeightRefIdeal.τ).loc Cert.EvInWeightRefIdeal.main_arg0) = m ((c.tc : Thread Cert.EvInWeightRefIdeal.nD Cert.EvInWeightRefIdeal.τ).loc Cert.EvInWeightRefIdeal.main_arg0)
      ∧ r.2.mem ((c.tc : Thread Cert.EvInWeightRefIdeal.nD Cert.EvInWeightRefIdeal.τ).loc Cert.EvInWeightRefIdeal.main_arg1) = m ((c.tc : Thread Cert.EvInWeightRefIdeal.nD Cert.EvInWeightRefIdeal.τ).loc Cert.EvInWeightRefIdeal.main_arg1))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ r.2.sem = fun _ => 0)

def quiescent_OutWeightRefIdeal [hOutWeightRefIdeal : Cert.OutWeightRefIdeal.Facts] : Prop :=
  ∀ (m : (ℓ : Loc Cert.OutWeightRefIdeal.nD Cert.OutWeightRefIdeal.τ Cert.OutWeightRefIdeal.sig) → Buf (Elt Ideal) ℓ) (g : Dev Cert.OutWeightRefIdeal.nD → PrngReg), Pre_OutWeightRefIdeal m →
    θ_run (Cert.OutWeightRefIdeal.defs (F := Ideal)) (onTc (τ := Cert.OutWeightRefIdeal.τ) (Cert.OutWeightRefIdeal.main (F := Ideal))) ⟨m, fun _ => 0, g⟩ (fun r => (∀ c : Dev Cert.OutWeightRefIdeal.nD,
      r.2.mem ((c.tc : Thread Cert.OutWeightRefIdeal.nD Cert.OutWeightRefIdeal.τ).loc Cert.OutWeightRefIdeal.main_arg0) = m ((c.tc : Thread Cert.OutWeightRefIdeal.nD Cert.OutWeightRefIdeal.τ).loc Cert.OutWeightRefIdeal.main_arg0)
      ∧ r.2.mem ((c.tc : Thread Cert.OutWeightRefIdeal.nD Cert.OutWeightRefIdeal.τ).loc Cert.OutWeightRefIdeal.main_arg1) = m ((c.tc : Thread Cert.OutWeightRefIdeal.nD Cert.OutWeightRefIdeal.τ).loc Cert.OutWeightRefIdeal.main_arg1))
      ∧ r.2.sem = fun _ => 0)

def quiescent_OutBack [hOutBack : Cert.OutBack.Facts] : Prop :=
  ∀ (m : (ℓ : Loc Cert.OutBack.nD Cert.OutBack.τ Cert.OutBack.sig) → Buf (Elt Bits) ℓ) (g : Dev Cert.OutBack.nD → PrngReg), Pre_OutBack m →
    θ_run (Cert.OutBack.defs (F := Bits)) (onTc (τ := Cert.OutBack.τ) (Cert.OutBack.main (F := Bits))) ⟨m, fun _ => 0, g⟩ (fun r => (∀ c : Dev Cert.OutBack.nD,
      r.2.mem ((c.tc : Thread Cert.OutBack.nD Cert.OutBack.τ).loc Cert.OutBack.main_arg0) = m ((c.tc : Thread Cert.OutBack.nD Cert.OutBack.τ).loc Cert.OutBack.main_arg0)
      ∧ r.2.mem ((c.tc : Thread Cert.OutBack.nD Cert.OutBack.τ).loc Cert.OutBack.main_arg1) = m ((c.tc : Thread Cert.OutBack.nD Cert.OutBack.τ).loc Cert.OutBack.main_arg1))
      ∧ r.2.sem = fun _ => 0)

def quiescent_OutBackIdeal [hOutBackIdeal : Cert.OutBackIdeal.Facts] : Prop :=
  ∀ (m : (ℓ : Loc Cert.OutBackIdeal.nD Cert.OutBackIdeal.τ Cert.OutBackIdeal.sig) → Buf (Elt Ideal) ℓ) (g : Dev Cert.OutBackIdeal.nD → PrngReg), Pre_OutBackIdeal m →
    θ_run (Cert.OutBackIdeal.defs (F := Ideal)) (onTc (τ := Cert.OutBackIdeal.τ) (Cert.OutBackIdeal.main (F := Ideal))) ⟨m, fun _ => 0, g⟩ (fun r => (∀ c : Dev Cert.OutBackIdeal.nD,
      r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
      ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1))
      ∧ r.2.sem = fun _ => 0)

def quiescent_OutBackRefIdeal [hOutBackRefIdeal : Cert.OutBackRefIdeal.Facts] : Prop :=
  ∀ (m : (ℓ : Loc Cert.OutBackRefIdeal.nD Cert.OutBackRefIdeal.τ Cert.OutBackRefIdeal.sig) → Buf (Elt Ideal) ℓ) (g : Dev Cert.OutBackRefIdeal.nD → PrngReg), Pre_OutBackRefIdeal m →
    θ_run (Cert.OutBackRefIdeal.defs (F := Ideal)) (onTc (τ := Cert.OutBackRefIdeal.τ) (Cert.OutBackRefIdeal.main (F := Ideal))) ⟨m, fun _ => 0, g⟩ (fun r => (∀ c : Dev Cert.OutBackRefIdeal.nD,
      r.2.mem ((c.tc : Thread Cert.OutBackRefIdeal.nD Cert.OutBackRefIdeal.τ).loc Cert.OutBackRefIdeal.main_arg0) = m ((c.tc : Thread Cert.OutBackRefIdeal.nD Cert.OutBackRefIdeal.τ).loc Cert.OutBackRefIdeal.main_arg0)
      ∧ r.2.mem ((c.tc : Thread Cert.OutBackRefIdeal.nD Cert.OutBackRefIdeal.τ).loc Cert.OutBackRefIdeal.main_arg1) = m ((c.tc : Thread Cert.OutBackRefIdeal.nD Cert.OutBackRefIdeal.τ).loc Cert.OutBackRefIdeal.main_arg1))
      ∧ r.2.sem = fun _ => 0)

def quiescent_OdOutBack [hOdOutBack : Cert.OdOutBack.Facts] : Prop :=
  ∀ (m : (ℓ : Loc Cert.OdOutBack.nD Cert.OdOutBack.τ Cert.OdOutBack.sig) → Buf (Elt Bits) ℓ) (g : Dev Cert.OdOutBack.nD → PrngReg), Pre_OdOutBack m →
    θ_run (Cert.OdOutBack.defs (F := Bits)) (onTc (τ := Cert.OdOutBack.τ) (Cert.OdOutBack.main (F := Bits))) ⟨m, fun _ => 0, g⟩ (fun r => (∀ c : Dev Cert.OdOutBack.nD,
      r.2.mem ((c.tc : Thread Cert.OdOutBack.nD Cert.OdOutBack.τ).loc Cert.OdOutBack.main_arg0) = m ((c.tc : Thread Cert.OdOutBack.nD Cert.OdOutBack.τ).loc Cert.OdOutBack.main_arg0)
      ∧ r.2.mem ((c.tc : Thread Cert.OdOutBack.nD Cert.OdOutBack.τ).loc Cert.OdOutBack.main_arg1) = m ((c.tc : Thread Cert.OdOutBack.nD Cert.OdOutBack.τ).loc Cert.OdOutBack.main_arg1))
      ∧ r.2.sem = fun _ => 0)

def quiescent_OdOutBackIdeal [hOdOutBackIdeal : Cert.OdOutBackIdeal.Facts] : Prop :=
  ∀ (m : (ℓ : Loc Cert.OdOutBackIdeal.nD Cert.OdOutBackIdeal.τ Cert.OdOutBackIdeal.sig) → Buf (Elt Ideal) ℓ) (g : Dev Cert.OdOutBackIdeal.nD → PrngReg), Pre_OdOutBackIdeal m →
    θ_run (Cert.OdOutBackIdeal.defs (F := Ideal)) (onTc (τ := Cert.OdOutBackIdeal.τ) (Cert.OdOutBackIdeal.main (F := Ideal))) ⟨m, fun _ => 0, g⟩ (fun r => (∀ c : Dev Cert.OdOutBackIdeal.nD,
      r.2.mem ((c.tc : Thread Cert.OdOutBackIdeal.nD Cert.OdOutBackIdeal.τ).loc Cert.OdOutBackIdeal.main_arg0) = m ((c.tc : Thread Cert.OdOutBackIdeal.nD Cert.OdOutBackIdeal.τ).loc Cert.OdOutBackIdeal.main_arg0)
      ∧ r.2.mem ((c.tc : Thread Cert.OdOutBackIdeal.nD Cert.OdOutBackIdeal.τ).loc Cert.OdOutBackIdeal.main_arg1) = m ((c.tc : Thread Cert.OdOutBackIdeal.nD Cert.OdOutBackIdeal.τ).loc Cert.OdOutBackIdeal.main_arg1))
      ∧ r.2.sem = fun _ => 0)

def quiescent_OdOutBackRefIdeal [hOdOutBackRefIdeal : Cert.OdOutBackRefIdeal.Facts] : Prop :=
  ∀ (m : (ℓ : Loc Cert.OdOutBackRefIdeal.nD Cert.OdOutBackRefIdeal.τ Cert.OdOutBackRefIdeal.sig) → Buf (Elt Ideal) ℓ) (g : Dev Cert.OdOutBackRefIdeal.nD → PrngReg), Pre_OdOutBackRefIdeal m →
    θ_run (Cert.OdOutBackRefIdeal.defs (F := Ideal)) (onTc (τ := Cert.OdOutBackRefIdeal.τ) (Cert.OdOutBackRefIdeal.main (F := Ideal))) ⟨m, fun _ => 0, g⟩ (fun r => (∀ c : Dev Cert.OdOutBackRefIdeal.nD,
      r.2.mem ((c.tc : Thread Cert.OdOutBackRefIdeal.nD Cert.OdOutBackRefIdeal.τ).loc Cert.OdOutBackRefIdeal.main_arg0) = m ((c.tc : Thread Cert.OdOutBackRefIdeal.nD Cert.OdOutBackRefIdeal.τ).loc Cert.OdOutBackRefIdeal.main_arg0)
      ∧ r.2.mem ((c.tc : Thread Cert.OdOutBackRefIdeal.nD Cert.OdOutBackRefIdeal.τ).loc Cert.OdOutBackRefIdeal.main_arg1) = m ((c.tc : Thread Cert.OdOutBackRefIdeal.nD Cert.OdOutBackRefIdeal.τ).loc Cert.OdOutBackRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_LastDown [hLastDown : Cert.LastDown.Facts] : Prop :=
  ∀ (m : (ℓ : Loc Cert.LastDown.nD Cert.LastDown.τ Cert.LastDown.sig) → Buf (Elt Bits) ℓ) (g : Dev Cert.LastDown.nD → PrngReg), Pre_LastDown m →
    θ_run (Cert.LastDown.defs (F := Bits)) (onTc (τ := Cert.LastDown.τ) (Cert.LastDown.main (F := Bits))) ⟨m, fun _ => 0, g⟩ (fun r => (∀ c : Dev Cert.LastDown.nD,
      r.2.mem ((c.tc : Thread Cert.LastDown.nD Cert.LastDown.τ).loc Cert.LastDown.main_arg0) = m ((c.tc : Thread Cert.LastDown.nD Cert.LastDown.τ).loc Cert.LastDown.main_arg0)
      ∧ r.2.mem ((c.tc : Thread Cert.LastDown.nD Cert.LastDown.τ).loc Cert.LastDown.main_arg1) = m ((c.tc : Thread Cert.LastDown.nD Cert.LastDown.τ).loc Cert.LastDown.main_arg1)
      ∧ r.2.mem ((c.tc : Thread Cert.LastDown.nD Cert.LastDown.τ).loc Cert.LastDown.main_arg2) = m ((c.tc : Thread Cert.LastDown.nD Cert.LastDown.τ).loc Cert.LastDown.main_arg2))
      ∧ r.2.sem = fun _ => 0)

def quiescent_LastDownIdeal [hLastDownIdeal : Cert.LastDownIdeal.Facts] : Prop :=
  ∀ (m : (ℓ : Loc Cert.LastDownIdeal.nD Cert.LastDownIdeal.τ Cert.LastDownIdeal.sig) → Buf (Elt Ideal) ℓ) (g : Dev Cert.LastDownIdeal.nD → PrngReg), Pre_LastDownIdeal m →
    θ_run (Cert.LastDownIdeal.defs (F := Ideal)) (onTc (τ := Cert.LastDownIdeal.τ) (Cert.LastDownIdeal.main (F := Ideal))) ⟨m, fun _ => 0, g⟩ (fun r => (∀ c : Dev Cert.LastDownIdeal.nD,
      r.2.mem ((c.tc : Thread Cert.LastDownIdeal.nD Cert.LastDownIdeal.τ).loc Cert.LastDownIdeal.main_arg0) = m ((c.tc : Thread Cert.LastDownIdeal.nD Cert.LastDownIdeal.τ).loc Cert.LastDownIdeal.main_arg0)
      ∧ r.2.mem ((c.tc : Thread Cert.LastDownIdeal.nD Cert.LastDownIdeal.τ).loc Cert.LastDownIdeal.main_arg1) = m ((c.tc : Thread Cert.LastDownIdeal.nD Cert.LastDownIdeal.τ).loc Cert.LastDownIdeal.main_arg1)
      ∧ r.2.mem ((c.tc : Thread Cert.LastDownIdeal.nD Cert.LastDownIdeal.τ).loc Cert.LastDownIdeal.main_arg2) = m ((c.tc : Thread Cert.LastDownIdeal.nD Cert.LastDownIdeal.τ).loc Cert.LastDownIdeal.main_arg2))
      ∧ r.2.sem = fun _ => 0)

def quiescent_LastDownRefIdeal [hLastDownRefIdeal : Cert.LastDownRefIdeal.Facts] : Prop :=
  ∀ (m : (ℓ : Loc Cert.LastDownRefIdeal.nD Cert.LastDownRefIdeal.τ Cert.LastDownRefIdeal.sig) → Buf (Elt Ideal) ℓ) (g : Dev Cert.LastDownRefIdeal.nD → PrngReg), Pre_LastDownRefIdeal m →
    θ_run (Cert.LastDownRefIdeal.defs (F := Ideal)) (onTc (τ := Cert.LastDownRefIdeal.τ) (Cert.LastDownRefIdeal.main (F := Ideal))) ⟨m, fun _ => 0, g⟩ (fun r => (∀ c : Dev Cert.LastDownRefIdeal.nD,
      r.2.mem ((c.tc : Thread Cert.LastDownRefIdeal.nD Cert.LastDownRefIdeal.τ).loc Cert.LastDownRefIdeal.main_arg0) = m ((c.tc : Thread Cert.LastDownRefIdeal.nD Cert.LastDownRefIdeal.τ).loc Cert.LastDownRefIdeal.main_arg0)
      ∧ r.2.mem ((c.tc : Thread Cert.LastDownRefIdeal.nD Cert.LastDownRefIdeal.τ).loc Cert.LastDownRefIdeal.main_arg1) = m ((c.tc : Thread Cert.LastDownRefIdeal.nD Cert.LastDownRefIdeal.τ).loc Cert.LastDownRefIdeal.main_arg1)
      ∧ r.2.mem ((c.tc : Thread Cert.LastDownRefIdeal.nD Cert.LastDownRefIdeal.τ).loc Cert.LastDownRefIdeal.main_arg2) = m ((c.tc : Thread Cert.LastDownRefIdeal.nD Cert.LastDownRefIdeal.τ).loc Cert.LastDownRefIdeal.main_arg2))
      ∧ r.2.sem = fun _ => 0)

def quiescent_EvInProj [hEvInProj : Cert.EvInProj.Facts] : Prop :=
  ∀ (m : (ℓ : Loc Cert.EvInProj.nD Cert.EvInProj.τ Cert.EvInProj.sig) → Buf (Elt Bits) ℓ) (g : Dev Cert.EvInProj.nD → PrngReg), Pre_EvInProj m →
    θ_run (Cert.EvInProj.defs (F := Bits)) (onTc (τ := Cert.EvInProj.τ) (Cert.EvInProj.main (F := Bits))) ⟨m, fun _ => 0, g⟩ (fun r => (∀ c : Dev Cert.EvInProj.nD,
      r.2.mem ((c.tc : Thread Cert.EvInProj.nD Cert.EvInProj.τ).loc Cert.EvInProj.main_arg0) = m ((c.tc : Thread Cert.EvInProj.nD Cert.EvInProj.τ).loc Cert.EvInProj.main_arg0)
      ∧ r.2.mem ((c.tc : Thread Cert.EvInProj.nD Cert.EvInProj.τ).loc Cert.EvInProj.main_arg1) = m ((c.tc : Thread Cert.EvInProj.nD Cert.EvInProj.τ).loc Cert.EvInProj.main_arg1))
      ∧ r.2.sem = fun _ => 0)

def quiescent_EvInProjIdeal [hEvInProjIdeal : Cert.EvInProjIdeal.Facts] : Prop :=
  ∀ (m : (ℓ : Loc Cert.EvInProjIdeal.nD Cert.EvInProjIdeal.τ Cert.EvInProjIdeal.sig) → Buf (Elt Ideal) ℓ) (g : Dev Cert.EvInProjIdeal.nD → PrngReg), Pre_EvInProjIdeal m →
    θ_run (Cert.EvInProjIdeal.defs (F := Ideal)) (onTc (τ := Cert.EvInProjIdeal.τ) (Cert.EvInProjIdeal.main (F := Ideal))) ⟨m, fun _ => 0, g⟩ (fun r => (∀ c : Dev Cert.EvInProjIdeal.nD,
      r.2.mem ((c.tc : Thread Cert.EvInProjIdeal.nD Cert.EvInProjIdeal.τ).loc Cert.EvInProjIdeal.main_arg0) = m ((c.tc : Thread Cert.EvInProjIdeal.nD Cert.EvInProjIdeal.τ).loc Cert.EvInProjIdeal.main_arg0)
      ∧ r.2.mem ((c.tc : Thread Cert.EvInProjIdeal.nD Cert.EvInProjIdeal.τ).loc Cert.EvInProjIdeal.main_arg1) = m ((c.tc : Thread Cert.EvInProjIdeal.nD Cert.EvInProjIdeal.τ).loc Cert.EvInProjIdeal.main_arg1))
      ∧ r.2.sem = fun _ => 0)

def quiescent_EvInProjRefIdeal [hEvInProjRefIdeal : Cert.EvInProjRefIdeal.Facts] : Prop :=
  ∀ (m : (ℓ : Loc Cert.EvInProjRefIdeal.nD Cert.EvInProjRefIdeal.τ Cert.EvInProjRefIdeal.sig) → Buf (Elt Ideal) ℓ) (g : Dev Cert.EvInProjRefIdeal.nD → PrngReg), Pre_EvInProjRefIdeal m →
    θ_run (Cert.EvInProjRefIdeal.defs (F := Ideal)) (onTc (τ := Cert.EvInProjRefIdeal.τ) (Cert.EvInProjRefIdeal.main (F := Ideal))) ⟨m, fun _ => 0, g⟩ (fun r => (∀ c : Dev Cert.EvInProjRefIdeal.nD,
      r.2.mem ((c.tc : Thread Cert.EvInProjRefIdeal.nD Cert.EvInProjRefIdeal.τ).loc Cert.EvInProjRefIdeal.main_arg0) = m ((c.tc : Thread Cert.EvInProjRefIdeal.nD Cert.EvInProjRefIdeal.τ).loc Cert.EvInProjRefIdeal.main_arg0)
      ∧ r.2.mem ((c.tc : Thread Cert.EvInProjRefIdeal.nD Cert.EvInProjRefIdeal.τ).loc Cert.EvInProjRefIdeal.main_arg1) = m ((c.tc : Thread Cert.EvInProjRefIdeal.nD Cert.EvInProjRefIdeal.τ).loc Cert.EvInProjRefIdeal.main_arg1))
      ∧ r.2.sem = fun _ => 0)

def quiescent_OdInProj [hOdInProj : Cert.OdInProj.Facts] : Prop :=
  ∀ (m : (ℓ : Loc Cert.OdInProj.nD Cert.OdInProj.τ Cert.OdInProj.sig) → Buf (Elt Bits) ℓ) (g : Dev Cert.OdInProj.nD → PrngReg), Pre_OdInProj m →
    θ_run (Cert.OdInProj.defs (F := Bits)) (onTc (τ := Cert.OdInProj.τ) (Cert.OdInProj.main (F := Bits))) ⟨m, fun _ => 0, g⟩ (fun r => (∀ c : Dev Cert.OdInProj.nD,
      r.2.mem ((c.tc : Thread Cert.OdInProj.nD Cert.OdInProj.τ).loc Cert.OdInProj.main_arg0) = m ((c.tc : Thread Cert.OdInProj.nD Cert.OdInProj.τ).loc Cert.OdInProj.main_arg0)
      ∧ r.2.mem ((c.tc : Thread Cert.OdInProj.nD Cert.OdInProj.τ).loc Cert.OdInProj.main_arg1) = m ((c.tc : Thread Cert.OdInProj.nD Cert.OdInProj.τ).loc Cert.OdInProj.main_arg1))
      ∧ r.2.sem = fun _ => 0)

def quiescent_OdInProjIdeal [hOdInProjIdeal : Cert.OdInProjIdeal.Facts] : Prop :=
  ∀ (m : (ℓ : Loc Cert.OdInProjIdeal.nD Cert.OdInProjIdeal.τ Cert.OdInProjIdeal.sig) → Buf (Elt Ideal) ℓ) (g : Dev Cert.OdInProjIdeal.nD → PrngReg), Pre_OdInProjIdeal m →
    θ_run (Cert.OdInProjIdeal.defs (F := Ideal)) (onTc (τ := Cert.OdInProjIdeal.τ) (Cert.OdInProjIdeal.main (F := Ideal))) ⟨m, fun _ => 0, g⟩ (fun r => (∀ c : Dev Cert.OdInProjIdeal.nD,
      r.2.mem ((c.tc : Thread Cert.OdInProjIdeal.nD Cert.OdInProjIdeal.τ).loc Cert.OdInProjIdeal.main_arg0) = m ((c.tc : Thread Cert.OdInProjIdeal.nD Cert.OdInProjIdeal.τ).loc Cert.OdInProjIdeal.main_arg0)
      ∧ r.2.mem ((c.tc : Thread Cert.OdInProjIdeal.nD Cert.OdInProjIdeal.τ).loc Cert.OdInProjIdeal.main_arg1) = m ((c.tc : Thread Cert.OdInProjIdeal.nD Cert.OdInProjIdeal.τ).loc Cert.OdInProjIdeal.main_arg1))
      ∧ r.2.sem = fun _ => 0)

def quiescent_OdInProjRefIdeal [hOdInProjRefIdeal : Cert.OdInProjRefIdeal.Facts] : Prop :=
  ∀ (m : (ℓ : Loc Cert.OdInProjRefIdeal.nD Cert.OdInProjRefIdeal.τ Cert.OdInProjRefIdeal.sig) → Buf (Elt Ideal) ℓ) (g : Dev Cert.OdInProjRefIdeal.nD → PrngReg), Pre_OdInProjRefIdeal m →
    θ_run (Cert.OdInProjRefIdeal.defs (F := Ideal)) (onTc (τ := Cert.OdInProjRefIdeal.τ) (Cert.OdInProjRefIdeal.main (F := Ideal))) ⟨m, fun _ => 0, g⟩ (fun r => (∀ c : Dev Cert.OdInProjRefIdeal.nD,
      r.2.mem ((c.tc : Thread Cert.OdInProjRefIdeal.nD Cert.OdInProjRefIdeal.τ).loc Cert.OdInProjRefIdeal.main_arg0) = m ((c.tc : Thread Cert.OdInProjRefIdeal.nD Cert.OdInProjRefIdeal.τ).loc Cert.OdInProjRefIdeal.main_arg0)
      ∧ r.2.mem ((c.tc : Thread Cert.OdInProjRefIdeal.nD Cert.OdInProjRefIdeal.τ).loc Cert.OdInProjRefIdeal.main_arg1) = m ((c.tc : Thread Cert.OdInProjRefIdeal.nD Cert.OdInProjRefIdeal.τ).loc Cert.OdInProjRefIdeal.main_arg1))
      ∧ r.2.sem = fun _ => 0)

def quiescent_RmsIn [hRmsIn : Cert.RmsIn.Facts] : Prop :=
  ∀ (m : (ℓ : Loc Cert.RmsIn.nD Cert.RmsIn.τ Cert.RmsIn.sig) → Buf (Elt Bits) ℓ) (g : Dev Cert.RmsIn.nD → PrngReg), Pre_RmsIn m →
    θ_run (Cert.RmsIn.defs (F := Bits)) (onTc (τ := Cert.RmsIn.τ) (Cert.RmsIn.main (F := Bits))) ⟨m, fun _ => 0, g⟩ (fun r => (∀ c : Dev Cert.RmsIn.nD,
      r.2.mem ((c.tc : Thread Cert.RmsIn.nD Cert.RmsIn.τ).loc Cert.RmsIn.main_arg0) = m ((c.tc : Thread Cert.RmsIn.nD Cert.RmsIn.τ).loc Cert.RmsIn.main_arg0)
      ∧ r.2.mem ((c.tc : Thread Cert.RmsIn.nD Cert.RmsIn.τ).loc Cert.RmsIn.main_arg1) = m ((c.tc : Thread Cert.RmsIn.nD Cert.RmsIn.τ).loc Cert.RmsIn.main_arg1))
      ∧ r.2.sem = fun _ => 0)

def quiescent_RmsInIdeal [hRmsInIdeal : Cert.RmsInIdeal.Facts] : Prop :=
  ∀ (m : (ℓ : Loc Cert.RmsInIdeal.nD Cert.RmsInIdeal.τ Cert.RmsInIdeal.sig) → Buf (Elt Ideal) ℓ) (g : Dev Cert.RmsInIdeal.nD → PrngReg), Pre_RmsInIdeal m →
    θ_run (Cert.RmsInIdeal.defs (F := Ideal)) (onTc (τ := Cert.RmsInIdeal.τ) (Cert.RmsInIdeal.main (F := Ideal))) ⟨m, fun _ => 0, g⟩ (fun r => (∀ c : Dev Cert.RmsInIdeal.nD,
      r.2.mem ((c.tc : Thread Cert.RmsInIdeal.nD Cert.RmsInIdeal.τ).loc Cert.RmsInIdeal.main_arg0) = m ((c.tc : Thread Cert.RmsInIdeal.nD Cert.RmsInIdeal.τ).loc Cert.RmsInIdeal.main_arg0)
      ∧ r.2.mem ((c.tc : Thread Cert.RmsInIdeal.nD Cert.RmsInIdeal.τ).loc Cert.RmsInIdeal.main_arg1) = m ((c.tc : Thread Cert.RmsInIdeal.nD Cert.RmsInIdeal.τ).loc Cert.RmsInIdeal.main_arg1))
      ∧ r.2.sem = fun _ => 0)

def quiescent_RmsInRefIdeal [hRmsInRefIdeal : Cert.RmsInRefIdeal.Facts] : Prop :=
  ∀ (m : (ℓ : Loc Cert.RmsInRefIdeal.nD Cert.RmsInRefIdeal.τ Cert.RmsInRefIdeal.sig) → Buf (Elt Ideal) ℓ) (g : Dev Cert.RmsInRefIdeal.nD → PrngReg), Pre_RmsInRefIdeal m →
    θ_run (Cert.RmsInRefIdeal.defs (F := Ideal)) (onTc (τ := Cert.RmsInRefIdeal.τ) (Cert.RmsInRefIdeal.main (F := Ideal))) ⟨m, fun _ => 0, g⟩ (fun r => (∀ c : Dev Cert.RmsInRefIdeal.nD,
      r.2.mem ((c.tc : Thread Cert.RmsInRefIdeal.nD Cert.RmsInRefIdeal.τ).loc Cert.RmsInRefIdeal.main_arg0) = m ((c.tc : Thread Cert.RmsInRefIdeal.nD Cert.RmsInRefIdeal.τ).loc Cert.RmsInRefIdeal.main_arg0)
      ∧ r.2.mem ((c.tc : Thread Cert.RmsInRefIdeal.nD Cert.RmsInRefIdeal.τ).loc Cert.RmsInRefIdeal.main_arg1) = m ((c.tc : Thread Cert.RmsInRefIdeal.nD Cert.RmsInRefIdeal.τ).loc Cert.RmsInRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3)
      ∧ r.2.mem ((c.tc : Thread Cert.GmlpFwd.nD Cert.GmlpFwd.τ).loc Cert.GmlpFwd.main_arg4) = m ((c.tc : Thread Cert.GmlpFwd.nD Cert.GmlpFwd.τ).loc Cert.GmlpFwd.main_arg4))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
      ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3)
      ∧ r.2.mem ((c.tc : Thread Cert.GmlpFwdRefIdeal.nD Cert.GmlpFwdRefIdeal.τ).loc Cert.GmlpFwdRefIdeal.main_arg4) = m ((c.tc : Thread Cert.GmlpFwdRefIdeal.nD Cert.GmlpFwdRefIdeal.τ).loc Cert.GmlpFwdRefIdeal.main_arg4))
      ∧ r.2.sem = fun _ => 0)

def quiescent_SinkAttn [hSinkAttn : Cert.SinkAttn.Facts] : Prop :=
  ∀ (m : (ℓ : Loc Cert.SinkAttn.nD Cert.SinkAttn.τ Cert.SinkAttn.sig) → Buf (Elt Bits) ℓ) (g : Dev Cert.SinkAttn.nD → PrngReg), Pre_SinkAttn m →
    θ_run (Cert.SinkAttn.defs (F := Bits)) (onTc (τ := Cert.SinkAttn.τ) (Cert.SinkAttn.main (F := Bits))) ⟨m, fun _ => 0, g⟩ (fun r => (∀ c : Dev Cert.SinkAttn.nD,
      r.2.mem ((c.tc : Thread Cert.SinkAttn.nD Cert.SinkAttn.τ).loc Cert.SinkAttn.main_arg0) = m ((c.tc : Thread Cert.SinkAttn.nD Cert.SinkAttn.τ).loc Cert.SinkAttn.main_arg0)
      ∧ r.2.mem ((c.tc : Thread Cert.SinkAttn.nD Cert.SinkAttn.τ).loc Cert.SinkAttn.main_arg1) = m ((c.tc : Thread Cert.SinkAttn.nD Cert.SinkAttn.τ).loc Cert.SinkAttn.main_arg1)
      ∧ r.2.mem ((c.tc : Thread Cert.SinkAttn.nD Cert.SinkAttn.τ).loc Cert.SinkAttn.main_arg2) = m ((c.tc : Thread Cert.SinkAttn.nD Cert.SinkAttn.τ).loc Cert.SinkAttn.main_arg2))
      ∧ r.2.sem = fun _ => 0)

def quiescent_SinkAttnIdeal [hSinkAttnIdeal : Cert.SinkAttnIdeal.Facts] : Prop :=
  ∀ (m : (ℓ : Loc Cert.SinkAttnIdeal.nD Cert.SinkAttnIdeal.τ Cert.SinkAttnIdeal.sig) → Buf (Elt Ideal) ℓ) (g : Dev Cert.SinkAttnIdeal.nD → PrngReg), Pre_SinkAttnIdeal m →
    θ_run (Cert.SinkAttnIdeal.defs (F := Ideal)) (onTc (τ := Cert.SinkAttnIdeal.τ) (Cert.SinkAttnIdeal.main (F := Ideal))) ⟨m, fun _ => 0, g⟩ (fun r => (∀ c : Dev Cert.SinkAttnIdeal.nD,
      r.2.mem ((c.tc : Thread Cert.SinkAttnIdeal.nD Cert.SinkAttnIdeal.τ).loc Cert.SinkAttnIdeal.main_arg0) = m ((c.tc : Thread Cert.SinkAttnIdeal.nD Cert.SinkAttnIdeal.τ).loc Cert.SinkAttnIdeal.main_arg0)
      ∧ r.2.mem ((c.tc : Thread Cert.SinkAttnIdeal.nD Cert.SinkAttnIdeal.τ).loc Cert.SinkAttnIdeal.main_arg1) = m ((c.tc : Thread Cert.SinkAttnIdeal.nD Cert.SinkAttnIdeal.τ).loc Cert.SinkAttnIdeal.main_arg1)
      ∧ r.2.mem ((c.tc : Thread Cert.SinkAttnIdeal.nD Cert.SinkAttnIdeal.τ).loc Cert.SinkAttnIdeal.main_arg2) = m ((c.tc : Thread Cert.SinkAttnIdeal.nD Cert.SinkAttnIdeal.τ).loc Cert.SinkAttnIdeal.main_arg2))
      ∧ r.2.sem = fun _ => 0)

def quiescent_SinkAttnIdeal_pre_finite_attn [hSinkAttnIdeal : Cert.SinkAttnIdeal.Facts] [hPre_finite_attn : Cert.Pre_finite_attn.Facts] : Prop :=
  ∀ (m : (ℓ : Loc Cert.SinkAttnIdeal.nD Cert.SinkAttnIdeal.τ Cert.SinkAttnIdeal.sig) → Buf (Elt Ideal) ℓ) (g : Dev Cert.SinkAttnIdeal.nD → PrngReg), Pre_SinkAttnIdeal_finite_attn m →
    θ_run (Cert.SinkAttnIdeal.defs (F := Ideal)) (onTc (τ := Cert.SinkAttnIdeal.τ) (Cert.SinkAttnIdeal.main (F := Ideal))) ⟨m, fun _ => 0, g⟩ (fun r => (∀ c : Dev Cert.SinkAttnIdeal.nD,
      r.2.mem ((c.tc : Thread Cert.SinkAttnIdeal.nD Cert.SinkAttnIdeal.τ).loc Cert.SinkAttnIdeal.main_arg0) = m ((c.tc : Thread Cert.SinkAttnIdeal.nD Cert.SinkAttnIdeal.τ).loc Cert.SinkAttnIdeal.main_arg0)
      ∧ r.2.mem ((c.tc : Thread Cert.SinkAttnIdeal.nD Cert.SinkAttnIdeal.τ).loc Cert.SinkAttnIdeal.main_arg1) = m ((c.tc : Thread Cert.SinkAttnIdeal.nD Cert.SinkAttnIdeal.τ).loc Cert.SinkAttnIdeal.main_arg1)
      ∧ r.2.mem ((c.tc : Thread Cert.SinkAttnIdeal.nD Cert.SinkAttnIdeal.τ).loc Cert.SinkAttnIdeal.main_arg2) = m ((c.tc : Thread Cert.SinkAttnIdeal.nD Cert.SinkAttnIdeal.τ).loc Cert.SinkAttnIdeal.main_arg2))
      ∧ r.2.sem = fun _ => 0)

def quiescent_SinkAttnRefIdeal [hSinkAttnRefIdeal : Cert.SinkAttnRefIdeal.Facts] : Prop :=
  ∀ (m : (ℓ : Loc Cert.SinkAttnRefIdeal.nD Cert.SinkAttnRefIdeal.τ Cert.SinkAttnRefIdeal.sig) → Buf (Elt Ideal) ℓ) (g : Dev Cert.SinkAttnRefIdeal.nD → PrngReg), Pre_SinkAttnRefIdeal m →
    θ_run (Cert.SinkAttnRefIdeal.defs (F := Ideal)) (onTc (τ := Cert.SinkAttnRefIdeal.τ) (Cert.SinkAttnRefIdeal.main (F := Ideal))) ⟨m, fun _ => 0, g⟩ (fun r => (∀ c : Dev Cert.SinkAttnRefIdeal.nD,
      r.2.mem ((c.tc : Thread Cert.SinkAttnRefIdeal.nD Cert.SinkAttnRefIdeal.τ).loc Cert.SinkAttnRefIdeal.main_arg0) = m ((c.tc : Thread Cert.SinkAttnRefIdeal.nD Cert.SinkAttnRefIdeal.τ).loc Cert.SinkAttnRefIdeal.main_arg0)
      ∧ r.2.mem ((c.tc : Thread Cert.SinkAttnRefIdeal.nD Cert.SinkAttnRefIdeal.τ).loc Cert.SinkAttnRefIdeal.main_arg1) = m ((c.tc : Thread Cert.SinkAttnRefIdeal.nD Cert.SinkAttnRefIdeal.τ).loc Cert.SinkAttnRefIdeal.main_arg1)
      ∧ r.2.mem ((c.tc : Thread Cert.SinkAttnRefIdeal.nD Cert.SinkAttnRefIdeal.τ).loc Cert.SinkAttnRefIdeal.main_arg2) = m ((c.tc : Thread Cert.SinkAttnRefIdeal.nD Cert.SinkAttnRefIdeal.τ).loc Cert.SinkAttnRefIdeal.main_arg2))
      ∧ r.2.sem = fun _ => 0)

def quiescent_SinkAttnRefIdeal_pre_finite_attn [hSinkAttnRefIdeal : Cert.SinkAttnRefIdeal.Facts] [hPre_finite_attn : Cert.Pre_finite_attn.Facts] : Prop :=
  ∀ (m : (ℓ : Loc Cert.SinkAttnRefIdeal.nD Cert.SinkAttnRefIdeal.τ Cert.SinkAttnRefIdeal.sig) → Buf (Elt Ideal) ℓ) (g : Dev Cert.SinkAttnRefIdeal.nD → PrngReg), Pre_SinkAttnRefIdeal_finite_attn m →
    θ_run (Cert.SinkAttnRefIdeal.defs (F := Ideal)) (onTc (τ := Cert.SinkAttnRefIdeal.τ) (Cert.SinkAttnRefIdeal.main (F := Ideal))) ⟨m, fun _ => 0, g⟩ (fun r => (∀ c : Dev Cert.SinkAttnRefIdeal.nD,
      r.2.mem ((c.tc : Thread Cert.SinkAttnRefIdeal.nD Cert.SinkAttnRefIdeal.τ).loc Cert.SinkAttnRefIdeal.main_arg0) = m ((c.tc : Thread Cert.SinkAttnRefIdeal.nD Cert.SinkAttnRefIdeal.τ).loc Cert.SinkAttnRefIdeal.main_arg0)
      ∧ r.2.mem ((c.tc : Thread Cert.SinkAttnRefIdeal.nD Cert.SinkAttnRefIdeal.τ).loc Cert.SinkAttnRefIdeal.main_arg1) = m ((c.tc : Thread Cert.SinkAttnRefIdeal.nD Cert.SinkAttnRefIdeal.τ).loc Cert.SinkAttnRefIdeal.main_arg1)
      ∧ r.2.mem ((c.tc : Thread Cert.SinkAttnRefIdeal.nD Cert.SinkAttnRefIdeal.τ).loc Cert.SinkAttnRefIdeal.main_arg2) = m ((c.tc : Thread Cert.SinkAttnRefIdeal.nD Cert.SinkAttnRefIdeal.τ).loc Cert.SinkAttnRefIdeal.main_arg2))
      ∧ r.2.sem = fun _ => 0)

def preserves_Kernel_KernelIdeal : Prop :=
  IdealRules.named_const.Statement Cert.KernelIdeal.κ "gelu_c" .f32 0x3D372713#32 ((8943 / 200000 : ℝ) : EReal)
  ∧ IdealRules.named_const.Statement Cert.KernelIdeal.κ "gelu_3c" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v119) = v3 c
          ∧ r.2.mem ((c.tc : Thread Cert.ReferenceIdeal.nD Cert.ReferenceIdeal.τ).loc Cert.ReferenceIdeal.main_v120) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_UpBack_UpBackIdeal : Prop :=
  True

def algebraic_UpBackIdeal_UpBackRefIdeal [hUpBackIdeal : Cert.UpBackIdeal.Facts] [hUpBackRefIdeal : Cert.UpBackRefIdeal.Facts] : Prop :=
  ∀ (m : (ℓ : Loc Cert.UpBackIdeal.nD Cert.UpBackIdeal.τ Cert.UpBackIdeal.sig) → Buf (Elt Ideal) ℓ) (g : Dev Cert.UpBackIdeal.nD → PrngReg)
    (m' : (ℓ : Loc Cert.UpBackRefIdeal.nD Cert.UpBackRefIdeal.τ Cert.UpBackRefIdeal.sig) → Buf (Elt Ideal) ℓ) (g' : Dev Cert.UpBackRefIdeal.nD → PrngReg), Pre_UpBackIdeal m →
    (∀ c : Dev Cert.UpBackIdeal.nD,
      m' ((c.tc : Thread Cert.UpBackRefIdeal.nD Cert.UpBackRefIdeal.τ).loc Cert.UpBackRefIdeal.main_arg0) = m ((c.tc : Thread Cert.UpBackIdeal.nD Cert.UpBackIdeal.τ).loc Cert.UpBackIdeal.main_arg0)
      ∧ m' ((c.tc : Thread Cert.UpBackRefIdeal.nD Cert.UpBackRefIdeal.τ).loc Cert.UpBackRefIdeal.main_arg1) = m ((c.tc : Thread Cert.UpBackIdeal.nD Cert.UpBackIdeal.τ).loc Cert.UpBackIdeal.main_arg1)
      ∧ m' ((c.tc : Thread Cert.UpBackRefIdeal.nD Cert.UpBackRefIdeal.τ).loc Cert.UpBackRefIdeal.main_arg2) = m ((c.tc : Thread Cert.UpBackIdeal.nD Cert.UpBackIdeal.τ).loc Cert.UpBackIdeal.main_arg2)
      ∧ m' ((c.tc : Thread Cert.UpBackRefIdeal.nD Cert.UpBackRefIdeal.τ).loc Cert.UpBackRefIdeal.main_arg3) = m ((c.tc : Thread Cert.UpBackIdeal.nD Cert.UpBackIdeal.τ).loc Cert.UpBackIdeal.main_arg3)
      ∧ m' ((c.tc : Thread Cert.UpBackRefIdeal.nD Cert.UpBackRefIdeal.τ).loc Cert.UpBackRefIdeal.main_arg4) = m ((c.tc : Thread Cert.UpBackIdeal.nD Cert.UpBackIdeal.τ).loc Cert.UpBackIdeal.main_arg4)
      ∧ m' ((c.tc : Thread Cert.UpBackRefIdeal.nD Cert.UpBackRefIdeal.τ).loc Cert.UpBackRefIdeal.main_arg5) = m ((c.tc : Thread Cert.UpBackIdeal.nD Cert.UpBackIdeal.τ).loc Cert.UpBackIdeal.main_arg5)
      ∧ m' ((c.tc : Thread Cert.UpBackRefIdeal.nD Cert.UpBackRefIdeal.τ).loc Cert.UpBackRefIdeal.main_arg6) = m ((c.tc : Thread Cert.UpBackIdeal.nD Cert.UpBackIdeal.τ).loc Cert.UpBackIdeal.main_arg6)) →
    ∃ (v0 : (c : Dev Cert.UpBackIdeal.nD) → Buf (Elt Ideal) ((c.tc : Thread Cert.UpBackIdeal.nD Cert.UpBackIdeal.τ).loc Cert.UpBackIdeal.main_v0_0)) (v1 : (c : Dev Cert.UpBackIdeal.nD) → Buf (Elt Ideal) ((c.tc : Thread Cert.UpBackIdeal.nD Cert.UpBackIdeal.τ).loc Cert.UpBackIdeal.main_v0_1)),
      θ_run (Cert.UpBackIdeal.defs (F := Ideal)) (onTc (τ := Cert.UpBackIdeal.τ) (Cert.UpBackIdeal.main (F := Ideal))) ⟨m, fun _ => 0, g⟩ (fun r => ∀ c : Dev Cert.UpBackIdeal.nD,
          r.2.mem ((c.tc : Thread Cert.UpBackIdeal.nD Cert.UpBackIdeal.τ).loc Cert.UpBackIdeal.main_v0_0) = v0 c
          ∧ r.2.mem ((c.tc : Thread Cert.UpBackIdeal.nD Cert.UpBackIdeal.τ).loc Cert.UpBackIdeal.main_v0_1) = v1 c
          ∧ r.2.mem ((c.tc : Thread Cert.UpBackIdeal.nD Cert.UpBackIdeal.τ).loc Cert.UpBackIdeal.main_arg0) = m ((c.tc : Thread Cert.UpBackIdeal.nD Cert.UpBackIdeal.τ).loc Cert.UpBackIdeal.main_arg0)
          ∧ r.2.mem ((c.tc : Thread Cert.UpBackIdeal.nD Cert.UpBackIdeal.τ).loc Cert.UpBackIdeal.main_arg1) = m ((c.tc : Thread Cert.UpBackIdeal.nD Cert.UpBackIdeal.τ).loc Cert.UpBackIdeal.main_arg1)
          ∧ r.2.mem ((c.tc : Thread Cert.UpBackIdeal.nD Cert.UpBackIdeal.τ).loc Cert.UpBackIdeal.main_arg2) = m ((c.tc : Thread Cert.UpBackIdeal.nD Cert.UpBackIdeal.τ).loc Cert.UpBackIdeal.main_arg2)
          ∧ r.2.mem ((c.tc : Thread Cert.UpBackIdeal.nD Cert.UpBackIdeal.τ).loc Cert.UpBackIdeal.main_arg3) = m ((c.tc : Thread Cert.UpBackIdeal.nD Cert.UpBackIdeal.τ).loc Cert.UpBackIdeal.main_arg3)
          ∧ r.2.mem ((c.tc : Thread Cert.UpBackIdeal.nD Cert.UpBackIdeal.τ).loc Cert.UpBackIdeal.main_arg4) = m ((c.tc : Thread Cert.UpBackIdeal.nD Cert.UpBackIdeal.τ).loc Cert.UpBackIdeal.main_arg4)
          ∧ r.2.mem ((c.tc : Thread Cert.UpBackIdeal.nD Cert.UpBackIdeal.τ).loc Cert.UpBackIdeal.main_arg5) = m ((c.tc : Thread Cert.UpBackIdeal.nD Cert.UpBackIdeal.τ).loc Cert.UpBackIdeal.main_arg5)
          ∧ r.2.mem ((c.tc : Thread Cert.UpBackIdeal.nD Cert.UpBackIdeal.τ).loc Cert.UpBackIdeal.main_arg6) = m ((c.tc : Thread Cert.UpBackIdeal.nD Cert.UpBackIdeal.τ).loc Cert.UpBackIdeal.main_arg6))
      ∧ θ_run (Cert.UpBackRefIdeal.defs (F := Ideal)) (onTc (τ := Cert.UpBackRefIdeal.τ) (Cert.UpBackRefIdeal.main (F := Ideal))) ⟨m', fun _ => 0, g'⟩ (fun r => ∀ c : Dev Cert.UpBackRefIdeal.nD,
          r.2.mem ((c.tc : Thread Cert.UpBackRefIdeal.nD Cert.UpBackRefIdeal.τ).loc Cert.UpBackRefIdeal.main_v43) = v0 c
          ∧ r.2.mem ((c.tc : Thread Cert.UpBackRefIdeal.nD Cert.UpBackRefIdeal.τ).loc Cert.UpBackRefIdeal.main_v44) = v1 c
          ∧ r.2.mem ((c.tc : Thread Cert.UpBackRefIdeal.nD Cert.UpBackRefIdeal.τ).loc Cert.UpBackRefIdeal.main_arg0) = m' ((c.tc : Thread Cert.UpBackRefIdeal.nD Cert.UpBackRefIdeal.τ).loc Cert.UpBackRefIdeal.main_arg0)
          ∧ r.2.mem ((c.tc : Thread Cert.UpBackRefIdeal.nD Cert.UpBackRefIdeal.τ).loc Cert.UpBackRefIdeal.main_arg1) = m' ((c.tc : Thread Cert.UpBackRefIdeal.nD Cert.UpBackRefIdeal.τ).loc Cert.UpBackRefIdeal.main_arg1)
          ∧ r.2.mem ((c.tc : Thread Cert.UpBackRefIdeal.nD Cert.UpBackRefIdeal.τ).loc Cert.UpBackRefIdeal.main_arg2) = m' ((c.tc : Thread Cert.UpBackRefIdeal.nD Cert.UpBackRefIdeal.τ).loc Cert.UpBackRefIdeal.main_arg2)
          ∧ r.2.mem ((c.tc : Thread Cert.UpBackRefIdeal.nD Cert.UpBackRefIdeal.τ).loc Cert.UpBackRefIdeal.main_arg3) = m' ((c.tc : Thread Cert.UpBackRefIdeal.nD Cert.UpBackRefIdeal.τ).loc Cert.UpBackRefIdeal.main_arg3)
          ∧ r.2.mem ((c.tc : Thread Cert.UpBackRefIdeal.nD Cert.UpBackRefIdeal.τ).loc Cert.UpBackRefIdeal.main_arg4) = m' ((c.tc : Thread Cert.UpBackRefIdeal.nD Cert.UpBackRefIdeal.τ).loc Cert.UpBackRefIdeal.main_arg4)
          ∧ r.2.mem ((c.tc : Thread Cert.UpBackRefIdeal.nD Cert.UpBackRefIdeal.τ).loc Cert.UpBackRefIdeal.main_arg5) = m' ((c.tc : Thread Cert.UpBackRefIdeal.nD Cert.UpBackRefIdeal.τ).loc Cert.UpBackRefIdeal.main_arg5)
          ∧ r.2.mem ((c.tc : Thread Cert.UpBackRefIdeal.nD Cert.UpBackRefIdeal.τ).loc Cert.UpBackRefIdeal.main_arg6) = m' ((c.tc : Thread Cert.UpBackRefIdeal.nD Cert.UpBackRefIdeal.τ).loc Cert.UpBackRefIdeal.main_arg6))

def preserves_UpWeights_UpWeightsIdeal : Prop :=
  True

def algebraic_UpWeightsIdeal_UpWeightsRefIdeal [hUpWeightsIdeal : Cert.UpWeightsIdeal.Facts] [hUpWeightsRefIdeal : Cert.UpWeightsRefIdeal.Facts] : Prop :=
  ∀ (m : (ℓ : Loc Cert.UpWeightsIdeal.nD Cert.UpWeightsIdeal.τ Cert.UpWeightsIdeal.sig) → Buf (Elt Ideal) ℓ) (g : Dev Cert.UpWeightsIdeal.nD → PrngReg)
    (m' : (ℓ : Loc Cert.UpWeightsRefIdeal.nD Cert.UpWeightsRefIdeal.τ Cert.UpWeightsRefIdeal.sig) → Buf (Elt Ideal) ℓ) (g' : Dev Cert.UpWeightsRefIdeal.nD → PrngReg), Pre_UpWeightsIdeal m →
    (∀ c : Dev Cert.UpWeightsIdeal.nD,
      m' ((c.tc : Thread Cert.UpWeightsRefIdeal.nD Cert.UpWeightsRefIdeal.τ).loc Cert.UpWeightsRefIdeal.main_arg0) = m ((c.tc : Thread Cert.UpWeightsIdeal.nD Cert.UpWeightsIdeal.τ).loc Cert.UpWeightsIdeal.main_arg0)
      ∧ m' ((c.tc : Thread Cert.UpWeightsRefIdeal.nD Cert.UpWeightsRefIdeal.τ).loc Cert.UpWeightsRefIdeal.main_arg1) = m ((c.tc : Thread Cert.UpWeightsIdeal.nD Cert.UpWeightsIdeal.τ).loc Cert.UpWeightsIdeal.main_arg1)
      ∧ m' ((c.tc : Thread Cert.UpWeightsRefIdeal.nD Cert.UpWeightsRefIdeal.τ).loc Cert.UpWeightsRefIdeal.main_arg2) = m ((c.tc : Thread Cert.UpWeightsIdeal.nD Cert.UpWeightsIdeal.τ).loc Cert.UpWeightsIdeal.main_arg2)) →
    ∃ (v0 : (c : Dev Cert.UpWeightsIdeal.nD) → Buf (Elt Ideal) ((c.tc : Thread Cert.UpWeightsIdeal.nD Cert.UpWeightsIdeal.τ).loc Cert.UpWeightsIdeal.main_v0_0)) (v1 : (c : Dev Cert.UpWeightsIdeal.nD) → Buf (Elt Ideal) ((c.tc : Thread Cert.UpWeightsIdeal.nD Cert.UpWeightsIdeal.τ).loc Cert.UpWeightsIdeal.main_v0_1)),
      θ_run (Cert.UpWeightsIdeal.defs (F := Ideal)) (onTc (τ := Cert.UpWeightsIdeal.τ) (Cert.UpWeightsIdeal.main (F := Ideal))) ⟨m, fun _ => 0, g⟩ (fun r => ∀ c : Dev Cert.UpWeightsIdeal.nD,
          r.2.mem ((c.tc : Thread Cert.UpWeightsIdeal.nD Cert.UpWeightsIdeal.τ).loc Cert.UpWeightsIdeal.main_v0_0) = v0 c
          ∧ r.2.mem ((c.tc : Thread Cert.UpWeightsIdeal.nD Cert.UpWeightsIdeal.τ).loc Cert.UpWeightsIdeal.main_v0_1) = v1 c
          ∧ r.2.mem ((c.tc : Thread Cert.UpWeightsIdeal.nD Cert.UpWeightsIdeal.τ).loc Cert.UpWeightsIdeal.main_arg0) = m ((c.tc : Thread Cert.UpWeightsIdeal.nD Cert.UpWeightsIdeal.τ).loc Cert.UpWeightsIdeal.main_arg0)
          ∧ r.2.mem ((c.tc : Thread Cert.UpWeightsIdeal.nD Cert.UpWeightsIdeal.τ).loc Cert.UpWeightsIdeal.main_arg1) = m ((c.tc : Thread Cert.UpWeightsIdeal.nD Cert.UpWeightsIdeal.τ).loc Cert.UpWeightsIdeal.main_arg1)
          ∧ r.2.mem ((c.tc : Thread Cert.UpWeightsIdeal.nD Cert.UpWeightsIdeal.τ).loc Cert.UpWeightsIdeal.main_arg2) = m ((c.tc : Thread Cert.UpWeightsIdeal.nD Cert.UpWeightsIdeal.τ).loc Cert.UpWeightsIdeal.main_arg2))
      ∧ θ_run (Cert.UpWeightsRefIdeal.defs (F := Ideal)) (onTc (τ := Cert.UpWeightsRefIdeal.τ) (Cert.UpWeightsRefIdeal.main (F := Ideal))) ⟨m', fun _ => 0, g'⟩ (fun r => ∀ c : Dev Cert.UpWeightsRefIdeal.nD,
          r.2.mem ((c.tc : Thread Cert.UpWeightsRefIdeal.nD Cert.UpWeightsRefIdeal.τ).loc Cert.UpWeightsRefIdeal.main_v11) = v0 c
          ∧ r.2.mem ((c.tc : Thread Cert.UpWeightsRefIdeal.nD Cert.UpWeightsRefIdeal.τ).loc Cert.UpWeightsRefIdeal.main_v12) = v1 c
          ∧ r.2.mem ((c.tc : Thread Cert.UpWeightsRefIdeal.nD Cert.UpWeightsRefIdeal.τ).loc Cert.UpWeightsRefIdeal.main_arg0) = m' ((c.tc : Thread Cert.UpWeightsRefIdeal.nD Cert.UpWeightsRefIdeal.τ).loc Cert.UpWeightsRefIdeal.main_arg0)
          ∧ r.2.mem ((c.tc : Thread Cert.UpWeightsRefIdeal.nD Cert.UpWeightsRefIdeal.τ).loc Cert.UpWeightsRefIdeal.main_arg1) = m' ((c.tc : Thread Cert.UpWeightsRefIdeal.nD Cert.UpWeightsRefIdeal.τ).loc Cert.UpWeightsRefIdeal.main_arg1)
          ∧ r.2.mem ((c.tc : Thread Cert.UpWeightsRefIdeal.nD Cert.UpWeightsRefIdeal.τ).loc Cert.UpWeightsRefIdeal.main_arg2) = m' ((c.tc : Thread Cert.UpWeightsRefIdeal.nD Cert.UpWeightsRefIdeal.τ).loc Cert.UpWeightsRefIdeal.main_arg2))

def preserves_DownWeight_DownWeightIdeal : Prop :=
  True

def algebraic_DownWeightIdeal_DownWeightRefIdeal [hDownWeightIdeal : Cert.DownWeightIdeal.Facts] [hDownWeightRefIdeal : Cert.DownWeightRefIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg)
    (m' : (ℓ : Loc Cert.DownWeightRefIdeal.nD Cert.DownWeightRefIdeal.τ Cert.DownWeightRefIdeal.sig) → Buf (Elt Ideal) ℓ) (g' : Dev Cert.DownWeightRefIdeal.nD → PrngReg), Pre_DownWeightIdeal m →
    (∀ c : Dev Cert.DownWeightIdeal.nD,
      m' ((c.tc : Thread Cert.DownWeightRefIdeal.nD Cert.DownWeightRefIdeal.τ).loc Cert.DownWeightRefIdeal.main_arg0) = m ((c.tc : Thread Cert.DownWeightIdeal.nD Cert.DownWeightIdeal.τ).loc Cert.DownWeightIdeal.main_arg0)
      ∧ m' ((c.tc : Thread Cert.DownWeightRefIdeal.nD Cert.DownWeightRefIdeal.τ).loc Cert.DownWeightRefIdeal.main_arg1) = m ((c.tc : Thread Cert.DownWeightIdeal.nD Cert.DownWeightIdeal.τ).loc Cert.DownWeightIdeal.main_arg1)) →
    ∃ (v0 : (c : Dev Cert.DownWeightIdeal.nD) → Buf (Elt Ideal) ((c.tc : Thread Cert.DownWeightIdeal.nD Cert.DownWeightIdeal.τ).loc Cert.DownWeightIdeal.main_v0)),
      θ_run (Cert.DownWeightIdeal.defs (F := Ideal)) (onTc (τ := Cert.DownWeightIdeal.τ) (Cert.DownWeightIdeal.main (F := Ideal))) ⟨m, fun _ => 0, g⟩ (fun r => ∀ c : Dev Cert.DownWeightIdeal.nD,
          r.2.mem ((c.tc : Thread Cert.DownWeightIdeal.nD Cert.DownWeightIdeal.τ).loc Cert.DownWeightIdeal.main_v0) = v0 c
          ∧ r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
          ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ θ_run (Cert.DownWeightRefIdeal.defs (F := Ideal)) (onTc (τ := Cert.DownWeightRefIdeal.τ) (Cert.DownWeightRefIdeal.main (F := Ideal))) ⟨m', fun _ => 0, g'⟩ (fun r => ∀ c : Dev Cert.DownWeightRefIdeal.nD,
          r.2.mem ((c.tc : Thread Cert.DownWeightRefIdeal.nD Cert.DownWeightRefIdeal.τ).loc Cert.DownWeightRefIdeal.main_v5) = v0 c
          ∧ r.2.mem ((c.tc : Thread Cert.DownWeightRefIdeal.nD Cert.DownWeightRefIdeal.τ).loc Cert.DownWeightRefIdeal.main_arg0) = m' ((c.tc : Thread Cert.DownWeightRefIdeal.nD Cert.DownWeightRefIdeal.τ).loc Cert.DownWeightRefIdeal.main_arg0)
          ∧ r.2.mem ((c.tc : Thread Cert.DownWeightRefIdeal.nD Cert.DownWeightRefIdeal.τ).loc Cert.DownWeightRefIdeal.main_arg1) = m' ((c.tc : Thread Cert.DownWeightRefIdeal.nD Cert.DownWeightRefIdeal.τ).loc Cert.DownWeightRefIdeal.main_arg1))

def preserves_DownBack_DownBackIdeal : Prop :=
  True

def algebraic_DownBackIdeal_DownBackRefIdeal_pre_finite_back [hDownBackIdeal : Cert.DownBackIdeal.Facts] [hDownBackRefIdeal : Cert.DownBackRefIdeal.Facts] [hPre_finite_back : Cert.Pre_finite_back.Facts] : Prop :=
  ∀ (m : (ℓ : Loc Cert.DownBackIdeal.nD Cert.DownBackIdeal.τ Cert.DownBackIdeal.sig) → Buf (Elt Ideal) ℓ) (g : Dev Cert.DownBackIdeal.nD → PrngReg)
    (m' : (ℓ : Loc Cert.DownBackRefIdeal.nD Cert.DownBackRefIdeal.τ Cert.DownBackRefIdeal.sig) → Buf (Elt Ideal) ℓ) (g' : Dev Cert.DownBackRefIdeal.nD → PrngReg), Pre_DownBackIdeal_finite_back m →
    (∀ c : Dev Cert.DownBackIdeal.nD,
      m' ((c.tc : Thread Cert.DownBackRefIdeal.nD Cert.DownBackRefIdeal.τ).loc Cert.DownBackRefIdeal.main_arg0) = m ((c.tc : Thread Cert.DownBackIdeal.nD Cert.DownBackIdeal.τ).loc Cert.DownBackIdeal.main_arg0)
      ∧ m' ((c.tc : Thread Cert.DownBackRefIdeal.nD Cert.DownBackRefIdeal.τ).loc Cert.DownBackRefIdeal.main_arg1) = m ((c.tc : Thread Cert.DownBackIdeal.nD Cert.DownBackIdeal.τ).loc Cert.DownBackIdeal.main_arg1)
      ∧ m' ((c.tc : Thread Cert.DownBackRefIdeal.nD Cert.DownBackRefIdeal.τ).loc Cert.DownBackRefIdeal.main_arg2) = m ((c.tc : Thread Cert.DownBackIdeal.nD Cert.DownBackIdeal.τ).loc Cert.DownBackIdeal.main_arg2)
      ∧ m' ((c.tc : Thread Cert.DownBackRefIdeal.nD Cert.DownBackRefIdeal.τ).loc Cert.DownBackRefIdeal.main_arg3) = m ((c.tc : Thread Cert.DownBackIdeal.nD Cert.DownBackIdeal.τ).loc Cert.DownBackIdeal.main_arg3)) →
    ∃ (v0 : (c : Dev Cert.DownBackIdeal.nD) → Buf (Elt Ideal) ((c.tc : Thread Cert.DownBackIdeal.nD Cert.DownBackIdeal.τ).loc Cert.DownBackIdeal.main_v8_0)) (v1 : (c : Dev Cert.DownBackIdeal.nD) → Buf (Elt Ideal) ((c.tc : Thread Cert.DownBackIdeal.nD Cert.DownBackIdeal.τ).loc Cert.DownBackIdeal.main_v8_1)),
      θ_run (Cert.DownBackIdeal.defs (F := Ideal)) (onTc (τ := Cert.DownBackIdeal.τ) (Cert.DownBackIdeal.main (F := Ideal))) ⟨m, fun _ => 0, g⟩ (fun r => ∀ c : Dev Cert.DownBackIdeal.nD,
          r.2.mem ((c.tc : Thread Cert.DownBackIdeal.nD Cert.DownBackIdeal.τ).loc Cert.DownBackIdeal.main_v8_0) = v0 c
          ∧ r.2.mem ((c.tc : Thread Cert.DownBackIdeal.nD Cert.DownBackIdeal.τ).loc Cert.DownBackIdeal.main_v8_1) = v1 c
          ∧ r.2.mem ((c.tc : Thread Cert.DownBackIdeal.nD Cert.DownBackIdeal.τ).loc Cert.DownBackIdeal.main_arg0) = m ((c.tc : Thread Cert.DownBackIdeal.nD Cert.DownBackIdeal.τ).loc Cert.DownBackIdeal.main_arg0)
          ∧ r.2.mem ((c.tc : Thread Cert.DownBackIdeal.nD Cert.DownBackIdeal.τ).loc Cert.DownBackIdeal.main_arg1) = m ((c.tc : Thread Cert.DownBackIdeal.nD Cert.DownBackIdeal.τ).loc Cert.DownBackIdeal.main_arg1)
          ∧ r.2.mem ((c.tc : Thread Cert.DownBackIdeal.nD Cert.DownBackIdeal.τ).loc Cert.DownBackIdeal.main_arg2) = m ((c.tc : Thread Cert.DownBackIdeal.nD Cert.DownBackIdeal.τ).loc Cert.DownBackIdeal.main_arg2)
          ∧ r.2.mem ((c.tc : Thread Cert.DownBackIdeal.nD Cert.DownBackIdeal.τ).loc Cert.DownBackIdeal.main_arg3) = m ((c.tc : Thread Cert.DownBackIdeal.nD Cert.DownBackIdeal.τ).loc Cert.DownBackIdeal.main_arg3))
      ∧ θ_run (Cert.DownBackRefIdeal.defs (F := Ideal)) (onTc (τ := Cert.DownBackRefIdeal.τ) (Cert.DownBackRefIdeal.main (F := Ideal))) ⟨m', fun _ => 0, g'⟩ (fun r => ∀ c : Dev Cert.DownBackRefIdeal.nD,
          r.2.mem ((c.tc : Thread Cert.DownBackRefIdeal.nD Cert.DownBackRefIdeal.τ).loc Cert.DownBackRefIdeal.main_v8) = v0 c
          ∧ r.2.mem ((c.tc : Thread Cert.DownBackRefIdeal.nD Cert.DownBackRefIdeal.τ).loc Cert.DownBackRefIdeal.main_v9) = v1 c
          ∧ r.2.mem ((c.tc : Thread Cert.DownBackRefIdeal.nD Cert.DownBackRefIdeal.τ).loc Cert.DownBackRefIdeal.main_arg0) = m' ((c.tc : Thread Cert.DownBackRefIdeal.nD Cert.DownBackRefIdeal.τ).loc Cert.DownBackRefIdeal.main_arg0)
          ∧ r.2.mem ((c.tc : Thread Cert.DownBackRefIdeal.nD Cert.DownBackRefIdeal.τ).loc Cert.DownBackRefIdeal.main_arg1) = m' ((c.tc : Thread Cert.DownBackRefIdeal.nD Cert.DownBackRefIdeal.τ).loc Cert.DownBackRefIdeal.main_arg1)
          ∧ r.2.mem ((c.tc : Thread Cert.DownBackRefIdeal.nD Cert.DownBackRefIdeal.τ).loc Cert.DownBackRefIdeal.main_arg2) = m' ((c.tc : Thread Cert.DownBackRefIdeal.nD Cert.DownBackRefIdeal.τ).loc Cert.DownBackRefIdeal.main_arg2)
          ∧ r.2.mem ((c.tc : Thread Cert.DownBackRefIdeal.nD Cert.DownBackRefIdeal.τ).loc Cert.DownBackRefIdeal.main_arg3) = m' ((c.tc : Thread Cert.DownBackRefIdeal.nD Cert.DownBackRefIdeal.τ).loc Cert.DownBackRefIdeal.main_arg3))

def preserves_GateUp_GateUpIdeal : Prop :=
  True

def algebraic_GateUpIdeal_GateUpRefIdeal_pre_finite_up [hGateUpIdeal : Cert.GateUpIdeal.Facts] [hGateUpRefIdeal : Cert.GateUpRefIdeal.Facts] [hPre_finite_up : Cert.Pre_finite_up.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal_finite_up m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v12) = v0 c
          ∧ r.2.mem ((c.tc : Thread Cert.GateUpRefIdeal.nD Cert.GateUpRefIdeal.τ).loc Cert.GateUpRefIdeal.main_v13) = v1 c
          ∧ r.2.mem ((c.tc : Thread Cert.GateUpRefIdeal.nD Cert.GateUpRefIdeal.τ).loc Cert.GateUpRefIdeal.main_v14) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_v16) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_OdInBack_OdInBackIdeal : Prop :=
  True

def algebraic_OdInBackIdeal_OdInBackRefIdeal [hOdInBackIdeal : Cert.OdInBackIdeal.Facts] [hOdInBackRefIdeal : Cert.OdInBackRefIdeal.Facts] : Prop :=
  ∀ (m : (ℓ : Loc Cert.OdInBackIdeal.nD Cert.OdInBackIdeal.τ Cert.OdInBackIdeal.sig) → Buf (Elt Ideal) ℓ) (g : Dev Cert.OdInBackIdeal.nD → PrngReg)
    (m' : (ℓ : Loc Cert.OdInBackRefIdeal.nD Cert.OdInBackRefIdeal.τ Cert.OdInBackRefIdeal.sig) → Buf (Elt Ideal) ℓ) (g' : Dev Cert.OdInBackRefIdeal.nD → PrngReg), Pre_OdInBackIdeal m →
    (∀ c : Dev Cert.OdInBackIdeal.nD,
      m' ((c.tc : Thread Cert.OdInBackRefIdeal.nD Cert.OdInBackRefIdeal.τ).loc Cert.OdInBackRefIdeal.main_arg0) = m ((c.tc : Thread Cert.OdInBackIdeal.nD Cert.OdInBackIdeal.τ).loc Cert.OdInBackIdeal.main_arg0)
      ∧ m' ((c.tc : Thread Cert.OdInBackRefIdeal.nD Cert.OdInBackRefIdeal.τ).loc Cert.OdInBackRefIdeal.main_arg1) = m ((c.tc : Thread Cert.OdInBackIdeal.nD Cert.OdInBackIdeal.τ).loc Cert.OdInBackIdeal.main_arg1)
      ∧ m' ((c.tc : Thread Cert.OdInBackRefIdeal.nD Cert.OdInBackRefIdeal.τ).loc Cert.OdInBackRefIdeal.main_arg2) = m ((c.tc : Thread Cert.OdInBackIdeal.nD Cert.OdInBackIdeal.τ).loc Cert.OdInBackIdeal.main_arg2)
      ∧ m' ((c.tc : Thread Cert.OdInBackRefIdeal.nD Cert.OdInBackRefIdeal.τ).loc Cert.OdInBackRefIdeal.main_arg3) = m ((c.tc : Thread Cert.OdInBackIdeal.nD Cert.OdInBackIdeal.τ).loc Cert.OdInBackIdeal.main_arg3)
      ∧ m' ((c.tc : Thread Cert.OdInBackRefIdeal.nD Cert.OdInBackRefIdeal.τ).loc Cert.OdInBackRefIdeal.main_arg4) = m ((c.tc : Thread Cert.OdInBackIdeal.nD Cert.OdInBackIdeal.τ).loc Cert.OdInBackIdeal.main_arg4)) →
    ∃ (v0 : (c : Dev Cert.OdInBackIdeal.nD) → Buf (Elt Ideal) ((c.tc : Thread Cert.OdInBackIdeal.nD Cert.OdInBackIdeal.τ).loc Cert.OdInBackIdeal.main_v0_0)) (v1 : (c : Dev Cert.OdInBackIdeal.nD) → Buf (Elt Ideal) ((c.tc : Thread Cert.OdInBackIdeal.nD Cert.OdInBackIdeal.τ).loc Cert.OdInBackIdeal.main_v0_1)),
      θ_run (Cert.OdInBackIdeal.defs (F := Ideal)) (onTc (τ := Cert.OdInBackIdeal.τ) (Cert.OdInBackIdeal.main (F := Ideal))) ⟨m, fun _ => 0, g⟩ (fun r => ∀ c : Dev Cert.OdInBackIdeal.nD,
          r.2.mem ((c.tc : Thread Cert.OdInBackIdeal.nD Cert.OdInBackIdeal.τ).loc Cert.OdInBackIdeal.main_v0_0) = v0 c
          ∧ r.2.mem ((c.tc : Thread Cert.OdInBackIdeal.nD Cert.OdInBackIdeal.τ).loc Cert.OdInBackIdeal.main_v0_1) = v1 c
          ∧ r.2.mem ((c.tc : Thread Cert.OdInBackIdeal.nD Cert.OdInBackIdeal.τ).loc Cert.OdInBackIdeal.main_arg0) = m ((c.tc : Thread Cert.OdInBackIdeal.nD Cert.OdInBackIdeal.τ).loc Cert.OdInBackIdeal.main_arg0)
          ∧ r.2.mem ((c.tc : Thread Cert.OdInBackIdeal.nD Cert.OdInBackIdeal.τ).loc Cert.OdInBackIdeal.main_arg1) = m ((c.tc : Thread Cert.OdInBackIdeal.nD Cert.OdInBackIdeal.τ).loc Cert.OdInBackIdeal.main_arg1)
          ∧ r.2.mem ((c.tc : Thread Cert.OdInBackIdeal.nD Cert.OdInBackIdeal.τ).loc Cert.OdInBackIdeal.main_arg2) = m ((c.tc : Thread Cert.OdInBackIdeal.nD Cert.OdInBackIdeal.τ).loc Cert.OdInBackIdeal.main_arg2)
          ∧ r.2.mem ((c.tc : Thread Cert.OdInBackIdeal.nD Cert.OdInBackIdeal.τ).loc Cert.OdInBackIdeal.main_arg3) = m ((c.tc : Thread Cert.OdInBackIdeal.nD Cert.OdInBackIdeal.τ).loc Cert.OdInBackIdeal.main_arg3)
          ∧ r.2.mem ((c.tc : Thread Cert.OdInBackIdeal.nD Cert.OdInBackIdeal.τ).loc Cert.OdInBackIdeal.main_arg4) = m ((c.tc : Thread Cert.OdInBackIdeal.nD Cert.OdInBackIdeal.τ).loc Cert.OdInBackIdeal.main_arg4))
      ∧ θ_run (Cert.OdInBackRefIdeal.defs (F := Ideal)) (onTc (τ := Cert.OdInBackRefIdeal.τ) (Cert.OdInBackRefIdeal.main (F := Ideal))) ⟨m', fun _ => 0, g'⟩ (fun r => ∀ c : Dev Cert.OdInBackRefIdeal.nD,
          r.2.mem ((c.tc : Thread Cert.OdInBackRefIdeal.nD Cert.OdInBackRefIdeal.τ).loc Cert.OdInBackRefIdeal.main_v38) = v0 c
          ∧ r.2.mem ((c.tc : Thread Cert.OdInBackRefIdeal.nD Cert.OdInBackRefIdeal.τ).loc Cert.OdInBackRefIdeal.main_v39) = v1 c
          ∧ r.2.mem ((c.tc : Thread Cert.OdInBackRefIdeal.nD Cert.OdInBackRefIdeal.τ).loc Cert.OdInBackRefIdeal.main_arg0) = m' ((c.tc : Thread Cert.OdInBackRefIdeal.nD Cert.OdInBackRefIdeal.τ).loc Cert.OdInBackRefIdeal.main_arg0)
          ∧ r.2.mem ((c.tc : Thread Cert.OdInBackRefIdeal.nD Cert.OdInBackRefIdeal.τ).loc Cert.OdInBackRefIdeal.main_arg1) = m' ((c.tc : Thread Cert.OdInBackRefIdeal.nD Cert.OdInBackRefIdeal.τ).loc Cert.OdInBackRefIdeal.main_arg1)
          ∧ r.2.mem ((c.tc : Thread Cert.OdInBackRefIdeal.nD Cert.OdInBackRefIdeal.τ).loc Cert.OdInBackRefIdeal.main_arg2) = m' ((c.tc : Thread Cert.OdInBackRefIdeal.nD Cert.OdInBackRefIdeal.τ).loc Cert.OdInBackRefIdeal.main_arg2)
          ∧ r.2.mem ((c.tc : Thread Cert.OdInBackRefIdeal.nD Cert.OdInBackRefIdeal.τ).loc Cert.OdInBackRefIdeal.main_arg3) = m' ((c.tc : Thread Cert.OdInBackRefIdeal.nD Cert.OdInBackRefIdeal.τ).loc Cert.OdInBackRefIdeal.main_arg3)
          ∧ r.2.mem ((c.tc : Thread Cert.OdInBackRefIdeal.nD Cert.OdInBackRefIdeal.τ).loc Cert.OdInBackRefIdeal.main_arg4) = m' ((c.tc : Thread Cert.OdInBackRefIdeal.nD Cert.OdInBackRefIdeal.τ).loc Cert.OdInBackRefIdeal.main_arg4))

def preserves_EvInBack_EvInBackIdeal : Prop :=
  True

def algebraic_EvInBackIdeal_EvInBackRefIdeal [hEvInBackIdeal : Cert.EvInBackIdeal.Facts] [hEvInBackRefIdeal : Cert.EvInBackRefIdeal.Facts] : Prop :=
  ∀ (m : (ℓ : Loc Cert.EvInBackIdeal.nD Cert.EvInBackIdeal.τ Cert.EvInBackIdeal.sig) → Buf (Elt Ideal) ℓ) (g : Dev Cert.EvInBackIdeal.nD → PrngReg)
    (m' : (ℓ : Loc Cert.EvInBackRefIdeal.nD Cert.EvInBackRefIdeal.τ Cert.EvInBackRefIdeal.sig) → Buf (Elt Ideal) ℓ) (g' : Dev Cert.EvInBackRefIdeal.nD → PrngReg), Pre_EvInBackIdeal m →
    (∀ c : Dev Cert.EvInBackIdeal.nD,
      m' ((c.tc : Thread Cert.EvInBackRefIdeal.nD Cert.EvInBackRefIdeal.τ).loc Cert.EvInBackRefIdeal.main_arg0) = m ((c.tc : Thread Cert.EvInBackIdeal.nD Cert.EvInBackIdeal.τ).loc Cert.EvInBackIdeal.main_arg0)
      ∧ m' ((c.tc : Thread Cert.EvInBackRefIdeal.nD Cert.EvInBackRefIdeal.τ).loc Cert.EvInBackRefIdeal.main_arg1) = m ((c.tc : Thread Cert.EvInBackIdeal.nD Cert.EvInBackIdeal.τ).loc Cert.EvInBackIdeal.main_arg1)
      ∧ m' ((c.tc : Thread Cert.EvInBackRefIdeal.nD Cert.EvInBackRefIdeal.τ).loc Cert.EvInBackRefIdeal.main_arg2) = m ((c.tc : Thread Cert.EvInBackIdeal.nD Cert.EvInBackIdeal.τ).loc Cert.EvInBackIdeal.main_arg2)
      ∧ m' ((c.tc : Thread Cert.EvInBackRefIdeal.nD Cert.EvInBackRefIdeal.τ).loc Cert.EvInBackRefIdeal.main_arg3) = m ((c.tc : Thread Cert.EvInBackIdeal.nD Cert.EvInBackIdeal.τ).loc Cert.EvInBackIdeal.main_arg3)
      ∧ m' ((c.tc : Thread Cert.EvInBackRefIdeal.nD Cert.EvInBackRefIdeal.τ).loc Cert.EvInBackRefIdeal.main_arg4) = m ((c.tc : Thread Cert.EvInBackIdeal.nD Cert.EvInBackIdeal.τ).loc Cert.EvInBackIdeal.main_arg4)) →
    ∃ (v0 : (c : Dev Cert.EvInBackIdeal.nD) → Buf (Elt Ideal) ((c.tc : Thread Cert.EvInBackIdeal.nD Cert.EvInBackIdeal.τ).loc Cert.EvInBackIdeal.main_v0_0)) (v1 : (c : Dev Cert.EvInBackIdeal.nD) → Buf (Elt Ideal) ((c.tc : Thread Cert.EvInBackIdeal.nD Cert.EvInBackIdeal.τ).loc Cert.EvInBackIdeal.main_v0_1)),
      θ_run (Cert.EvInBackIdeal.defs (F := Ideal)) (onTc (τ := Cert.EvInBackIdeal.τ) (Cert.EvInBackIdeal.main (F := Ideal))) ⟨m, fun _ => 0, g⟩ (fun r => ∀ c : Dev Cert.EvInBackIdeal.nD,
          r.2.mem ((c.tc : Thread Cert.EvInBackIdeal.nD Cert.EvInBackIdeal.τ).loc Cert.EvInBackIdeal.main_v0_0) = v0 c
          ∧ r.2.mem ((c.tc : Thread Cert.EvInBackIdeal.nD Cert.EvInBackIdeal.τ).loc Cert.EvInBackIdeal.main_v0_1) = v1 c
          ∧ r.2.mem ((c.tc : Thread Cert.EvInBackIdeal.nD Cert.EvInBackIdeal.τ).loc Cert.EvInBackIdeal.main_arg0) = m ((c.tc : Thread Cert.EvInBackIdeal.nD Cert.EvInBackIdeal.τ).loc Cert.EvInBackIdeal.main_arg0)
          ∧ r.2.mem ((c.tc : Thread Cert.EvInBackIdeal.nD Cert.EvInBackIdeal.τ).loc Cert.EvInBackIdeal.main_arg1) = m ((c.tc : Thread Cert.EvInBackIdeal.nD Cert.EvInBackIdeal.τ).loc Cert.EvInBackIdeal.main_arg1)
          ∧ r.2.mem ((c.tc : Thread Cert.EvInBackIdeal.nD Cert.EvInBackIdeal.τ).loc Cert.EvInBackIdeal.main_arg2) = m ((c.tc : Thread Cert.EvInBackIdeal.nD Cert.EvInBackIdeal.τ).loc Cert.EvInBackIdeal.main_arg2)
          ∧ r.2.mem ((c.tc : Thread Cert.EvInBackIdeal.nD Cert.EvInBackIdeal.τ).loc Cert.EvInBackIdeal.main_arg3) = m ((c.tc : Thread Cert.EvInBackIdeal.nD Cert.EvInBackIdeal.τ).loc Cert.EvInBackIdeal.main_arg3)
          ∧ r.2.mem ((c.tc : Thread Cert.EvInBackIdeal.nD Cert.EvInBackIdeal.τ).loc Cert.EvInBackIdeal.main_arg4) = m ((c.tc : Thread Cert.EvInBackIdeal.nD Cert.EvInBackIdeal.τ).loc Cert.EvInBackIdeal.main_arg4))
      ∧ θ_run (Cert.EvInBackRefIdeal.defs (F := Ideal)) (onTc (τ := Cert.EvInBackRefIdeal.τ) (Cert.EvInBackRefIdeal.main (F := Ideal))) ⟨m', fun _ => 0, g'⟩ (fun r => ∀ c : Dev Cert.EvInBackRefIdeal.nD,
          r.2.mem ((c.tc : Thread Cert.EvInBackRefIdeal.nD Cert.EvInBackRefIdeal.τ).loc Cert.EvInBackRefIdeal.main_v38) = v0 c
          ∧ r.2.mem ((c.tc : Thread Cert.EvInBackRefIdeal.nD Cert.EvInBackRefIdeal.τ).loc Cert.EvInBackRefIdeal.main_v39) = v1 c
          ∧ r.2.mem ((c.tc : Thread Cert.EvInBackRefIdeal.nD Cert.EvInBackRefIdeal.τ).loc Cert.EvInBackRefIdeal.main_arg0) = m' ((c.tc : Thread Cert.EvInBackRefIdeal.nD Cert.EvInBackRefIdeal.τ).loc Cert.EvInBackRefIdeal.main_arg0)
          ∧ r.2.mem ((c.tc : Thread Cert.EvInBackRefIdeal.nD Cert.EvInBackRefIdeal.τ).loc Cert.EvInBackRefIdeal.main_arg1) = m' ((c.tc : Thread Cert.EvInBackRefIdeal.nD Cert.EvInBackRefIdeal.τ).loc Cert.EvInBackRefIdeal.main_arg1)
          ∧ r.2.mem ((c.tc : Thread Cert.EvInBackRefIdeal.nD Cert.EvInBackRefIdeal.τ).loc Cert.EvInBackRefIdeal.main_arg2) = m' ((c.tc : Thread Cert.EvInBackRefIdeal.nD Cert.EvInBackRefIdeal.τ).loc Cert.EvInBackRefIdeal.main_arg2)
          ∧ r.2.mem ((c.tc : Thread Cert.EvInBackRefIdeal.nD Cert.EvInBackRefIdeal.τ).loc Cert.EvInBackRefIdeal.main_arg3) = m' ((c.tc : Thread Cert.EvInBackRefIdeal.nD Cert.EvInBackRefIdeal.τ).loc Cert.EvInBackRefIdeal.main_arg3)
          ∧ r.2.mem ((c.tc : Thread Cert.EvInBackRefIdeal.nD Cert.EvInBackRefIdeal.τ).loc Cert.EvInBackRefIdeal.main_arg4) = m' ((c.tc : Thread Cert.EvInBackRefIdeal.nD Cert.EvInBackRefIdeal.τ).loc Cert.EvInBackRefIdeal.main_arg4))

def preserves_OdInWeight_OdInWeightIdeal : Prop :=
  True

def algebraic_OdInWeightIdeal_OdInWeightRefIdeal [hOdInWeightIdeal : Cert.OdInWeightIdeal.Facts] [hOdInWeightRefIdeal : Cert.OdInWeightRefIdeal.Facts] : Prop :=
  ∀ (m : (ℓ : Loc Cert.OdInWeightIdeal.nD Cert.OdInWeightIdeal.τ Cert.OdInWeightIdeal.sig) → Buf (Elt Ideal) ℓ) (g : Dev Cert.OdInWeightIdeal.nD → PrngReg)
    (m' : (ℓ : Loc Cert.OdInWeightRefIdeal.nD Cert.OdInWeightRefIdeal.τ Cert.OdInWeightRefIdeal.sig) → Buf (Elt Ideal) ℓ) (g' : Dev Cert.OdInWeightRefIdeal.nD → PrngReg), Pre_OdInWeightIdeal m →
    (∀ c : Dev Cert.OdInWeightIdeal.nD,
      m' ((c.tc : Thread Cert.OdInWeightRefIdeal.nD Cert.OdInWeightRefIdeal.τ).loc Cert.OdInWeightRefIdeal.main_arg0) = m ((c.tc : Thread Cert.OdInWeightIdeal.nD Cert.OdInWeightIdeal.τ).loc Cert.OdInWeightIdeal.main_arg0)
      ∧ m' ((c.tc : Thread Cert.OdInWeightRefIdeal.nD Cert.OdInWeightRefIdeal.τ).loc Cert.OdInWeightRefIdeal.main_arg1) = m ((c.tc : Thread Cert.OdInWeightIdeal.nD Cert.OdInWeightIdeal.τ).loc Cert.OdInWeightIdeal.main_arg1)) →
    ∃ (v0 : (c : Dev Cert.OdInWeightIdeal.nD) → Buf (Elt Ideal) ((c.tc : Thread Cert.OdInWeightIdeal.nD Cert.OdInWeightIdeal.τ).loc Cert.OdInWeightIdeal.main_v0)),
      θ_run (Cert.OdInWeightIdeal.defs (F := Ideal)) (onTc (τ := Cert.OdInWeightIdeal.τ) (Cert.OdInWeightIdeal.main (F := Ideal))) ⟨m, fun _ => 0, g⟩ (fun r => ∀ c : Dev Cert.OdInWeightIdeal.nD,
          r.2.mem ((c.tc : Thread Cert.OdInWeightIdeal.nD Cert.OdInWeightIdeal.τ).loc Cert.OdInWeightIdeal.main_v0) = v0 c
          ∧ r.2.mem ((c.tc : Thread Cert.OdInWeightIdeal.nD Cert.OdInWeightIdeal.τ).loc Cert.OdInWeightIdeal.main_arg0) = m ((c.tc : Thread Cert.OdInWeightIdeal.nD Cert.OdInWeightIdeal.τ).loc Cert.OdInWeightIdeal.main_arg0)
          ∧ r.2.mem ((c.tc : Thread Cert.OdInWeightIdeal.nD Cert.OdInWeightIdeal.τ).loc Cert.OdInWeightIdeal.main_arg1) = m ((c.tc : Thread Cert.OdInWeightIdeal.nD Cert.OdInWeightIdeal.τ).loc Cert.OdInWeightIdeal.main_arg1))
      ∧ θ_run (Cert.OdInWeightRefIdeal.defs (F := Ideal)) (onTc (τ := Cert.OdInWeightRefIdeal.τ) (Cert.OdInWeightRefIdeal.main (F := Ideal))) ⟨m', fun _ => 0, g'⟩ (fun r => ∀ c : Dev Cert.OdInWeightRefIdeal.nD,
          r.2.mem ((c.tc : Thread Cert.OdInWeightRefIdeal.nD Cert.OdInWeightRefIdeal.τ).loc Cert.OdInWeightRefIdeal.main_v6) = v0 c
          ∧ r.2.mem ((c.tc : Thread Cert.OdInWeightRefIdeal.nD Cert.OdInWeightRefIdeal.τ).loc Cert.OdInWeightRefIdeal.main_arg0) = m' ((c.tc : Thread Cert.OdInWeightRefIdeal.nD Cert.OdInWeightRefIdeal.τ).loc Cert.OdInWeightRefIdeal.main_arg0)
          ∧ r.2.mem ((c.tc : Thread Cert.OdInWeightRefIdeal.nD Cert.OdInWeightRefIdeal.τ).loc Cert.OdInWeightRefIdeal.main_arg1) = m' ((c.tc : Thread Cert.OdInWeightRefIdeal.nD Cert.OdInWeightRefIdeal.τ).loc Cert.OdInWeightRefIdeal.main_arg1))

def preserves_EvInWeight_EvInWeightIdeal : Prop :=
  True

def algebraic_EvInWeightIdeal_EvInWeightRefIdeal [hEvInWeightIdeal : Cert.EvInWeightIdeal.Facts] [hEvInWeightRefIdeal : Cert.EvInWeightRefIdeal.Facts] : Prop :=
  ∀ (m : (ℓ : Loc Cert.EvInWeightIdeal.nD Cert.EvInWeightIdeal.τ Cert.EvInWeightIdeal.sig) → Buf (Elt Ideal) ℓ) (g : Dev Cert.EvInWeightIdeal.nD → PrngReg)
    (m' : (ℓ : Loc Cert.EvInWeightRefIdeal.nD Cert.EvInWeightRefIdeal.τ Cert.EvInWeightRefIdeal.sig) → Buf (Elt Ideal) ℓ) (g' : Dev Cert.EvInWeightRefIdeal.nD → PrngReg), Pre_EvInWeightIdeal m →
    (∀ c : Dev Cert.EvInWeightIdeal.nD,
      m' ((c.tc : Thread Cert.EvInWeightRefIdeal.nD Cert.EvInWeightRefIdeal.τ).loc Cert.EvInWeightRefIdeal.main_arg0) = m ((c.tc : Thread Cert.EvInWeightIdeal.nD Cert.EvInWeightIdeal.τ).loc Cert.EvInWeightIdeal.main_arg0)
      ∧ m' ((c.tc : Thread Cert.EvInWeightRefIdeal.nD Cert.EvInWeightRefIdeal.τ).loc Cert.EvInWeightRefIdeal.main_arg1) = m ((c.tc : Thread Cert.EvInWeightIdeal.nD Cert.EvInWeightIdeal.τ).loc Cert.EvInWeightIdeal.main_arg1)) →
    ∃ (v0 : (c : Dev Cert.EvInWeightIdeal.nD) → Buf (Elt Ideal) ((c.tc : Thread Cert.EvInWeightIdeal.nD Cert.EvInWeightIdeal.τ).loc Cert.EvInWeightIdeal.main_v0)),
      θ_run (Cert.EvInWeightIdeal.defs (F := Ideal)) (onTc (τ := Cert.EvInWeightIdeal.τ) (Cert.EvInWeightIdeal.main (F := Ideal))) ⟨m, fun _ => 0, g⟩ (fun r => ∀ c : Dev Cert.EvInWeightIdeal.nD,
          r.2.mem ((c.tc : Thread Cert.EvInWeightIdeal.nD Cert.EvInWeightIdeal.τ).loc Cert.EvInWeightIdeal.main_v0) = v0 c
          ∧ r.2.mem ((c.tc : Thread Cert.EvInWeightIdeal.nD Cert.EvInWeightIdeal.τ).loc Cert.EvInWeightIdeal.main_arg0) = m ((c.tc : Thread Cert.EvInWeightIdeal.nD Cert.EvInWeightIdeal.τ).loc Cert.EvInWeightIdeal.main_arg0)
          ∧ r.2.mem ((c.tc : Thread Cert.EvInWeightIdeal.nD Cert.EvInWeightIdeal.τ).loc Cert.EvInWeightIdeal.main_arg1) = m ((c.tc : Thread Cert.EvInWeightIdeal.nD Cert.EvInWeightIdeal.τ).loc Cert.EvInWeightIdeal.main_arg1))
      ∧ θ_run (Cert.EvInWeightRefIdeal.defs (F := Ideal)) (onTc (τ := Cert.EvInWeightRefIdeal.τ) (Cert.EvInWeightRefIdeal.main (F := Ideal))) ⟨m', fun _ => 0, g'⟩ (fun r => ∀ c : Dev Cert.EvInWeightRefIdeal.nD,
          r.2.mem ((c.tc : Thread Cert.EvInWeightRefIdeal.nD Cert.EvInWeightRefIdeal.τ).loc Cert.EvInWeightRefIdeal.main_v6) = v0 c
          ∧ r.2.mem ((c.tc : Thread Cert.EvInWeightRefIdeal.nD Cert.EvInWeightRefIdeal.τ).loc Cert.EvInWeightRefIdeal.main_arg0) = m' ((c.tc : Thread Cert.EvInWeightRefIdeal.nD Cert.EvInWeightRefIdeal.τ).loc Cert.EvInWeightRefIdeal.main_arg0)
          ∧ r.2.mem ((c.tc : Thread Cert.EvInWeightRefIdeal.nD Cert.EvInWeightRefIdeal.τ).loc Cert.EvInWeightRefIdeal.main_arg1) = m' ((c.tc : Thread Cert.EvInWeightRefIdeal.nD Cert.EvInWeightRefIdeal.τ).loc Cert.EvInWeightRefIdeal.main_arg1))

def preserves_OutWeight_OutWeightIdeal : Prop :=
  True

def algebraic_OutWeightIdeal_OutWeightRefIdeal [hOutWeightIdeal : Cert.OutWeightIdeal.Facts] [hOutWeightRefIdeal : Cert.OutWeightRefIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightRefIdeal.nD Cert.OutWeightRefIdeal.τ Cert.OutWeightRefIdeal.sig) → Buf (Elt Ideal) ℓ) (g' : Dev Cert.OutWeightRefIdeal.nD → PrngReg), Pre_OutWeightIdeal m →
    (∀ c : Dev Cert.OutWeightIdeal.nD,
      m' ((c.tc : Thread Cert.OutWeightRefIdeal.nD Cert.OutWeightRefIdeal.τ).loc Cert.OutWeightRefIdeal.main_arg0) = m ((c.tc : Thread Cert.OutWeightIdeal.nD Cert.OutWeightIdeal.τ).loc Cert.OutWeightIdeal.main_arg0)
      ∧ m' ((c.tc : Thread Cert.OutWeightRefIdeal.nD Cert.OutWeightRefIdeal.τ).loc Cert.OutWeightRefIdeal.main_arg1) = m ((c.tc : Thread Cert.OutWeightIdeal.nD Cert.OutWeightIdeal.τ).loc Cert.OutWeightIdeal.main_arg1)) →
    ∃ (v0 : (c : Dev Cert.OutWeightIdeal.nD) → Buf (Elt Ideal) ((c.tc : Thread Cert.OutWeightIdeal.nD Cert.OutWeightIdeal.τ).loc Cert.OutWeightIdeal.main_v0)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v0) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ θ_run (Cert.OutWeightRefIdeal.defs (F := Ideal)) (onTc (τ := Cert.OutWeightRefIdeal.τ) (Cert.OutWeightRefIdeal.main (F := Ideal))) ⟨m', fun _ => 0, g'⟩ (fun r => ∀ c : Dev Cert.OutWeightRefIdeal.nD,
          r.2.mem ((c.tc : Thread Cert.OutWeightRefIdeal.nD Cert.OutWeightRefIdeal.τ).loc Cert.OutWeightRefIdeal.main_v5) = v0 c
          ∧ r.2.mem ((c.tc : Thread Cert.OutWeightRefIdeal.nD Cert.OutWeightRefIdeal.τ).loc Cert.OutWeightRefIdeal.main_arg0) = m' ((c.tc : Thread Cert.OutWeightRefIdeal.nD Cert.OutWeightRefIdeal.τ).loc Cert.OutWeightRefIdeal.main_arg0)
          ∧ r.2.mem ((c.tc : Thread Cert.OutWeightRefIdeal.nD Cert.OutWeightRefIdeal.τ).loc Cert.OutWeightRefIdeal.main_arg1) = m' ((c.tc : Thread Cert.OutWeightRefIdeal.nD Cert.OutWeightRefIdeal.τ).loc Cert.OutWeightRefIdeal.main_arg1))

def preserves_OutBack_OutBackIdeal : Prop :=
  True

def algebraic_OutBackIdeal_OutBackRefIdeal [hOutBackIdeal : Cert.OutBackIdeal.Facts] [hOutBackRefIdeal : Cert.OutBackRefIdeal.Facts] : Prop :=
  ∀ (m : (ℓ : Loc Cert.OutBackIdeal.nD Cert.OutBackIdeal.τ Cert.OutBackIdeal.sig) → Buf (Elt Ideal) ℓ) (g : Dev Cert.OutBackIdeal.nD → PrngReg)
    (m' : (ℓ : Loc Cert.OutBackRefIdeal.nD Cert.OutBackRefIdeal.τ Cert.OutBackRefIdeal.sig) → Buf (Elt Ideal) ℓ) (g' : Dev Cert.OutBackRefIdeal.nD → PrngReg), Pre_OutBackIdeal m →
    (∀ c : Dev Cert.OutBackIdeal.nD,
      m' ((c.tc : Thread Cert.OutBackRefIdeal.nD Cert.OutBackRefIdeal.τ).loc Cert.OutBackRefIdeal.main_arg0) = m ((c.tc : Thread Cert.OutBackIdeal.nD Cert.OutBackIdeal.τ).loc Cert.OutBackIdeal.main_arg0)
      ∧ m' ((c.tc : Thread Cert.OutBackRefIdeal.nD Cert.OutBackRefIdeal.τ).loc Cert.OutBackRefIdeal.main_arg1) = m ((c.tc : Thread Cert.OutBackIdeal.nD Cert.OutBackIdeal.τ).loc Cert.OutBackIdeal.main_arg1)) →
    ∃ (v0 : (c : Dev Cert.OutBackIdeal.nD) → Buf (Elt Ideal) ((c.tc : Thread Cert.OutBackIdeal.nD Cert.OutBackIdeal.τ).loc Cert.OutBackIdeal.main_v0)),
      θ_run (Cert.OutBackIdeal.defs (F := Ideal)) (onTc (τ := Cert.OutBackIdeal.τ) (Cert.OutBackIdeal.main (F := Ideal))) ⟨m, fun _ => 0, g⟩ (fun r => ∀ c : Dev Cert.OutBackIdeal.nD,
          r.2.mem ((c.tc : Thread Cert.OutBackIdeal.nD Cert.OutBackIdeal.τ).loc Cert.OutBackIdeal.main_v0) = v0 c
          ∧ r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
          ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1))
      ∧ θ_run (Cert.OutBackRefIdeal.defs (F := Ideal)) (onTc (τ := Cert.OutBackRefIdeal.τ) (Cert.OutBackRefIdeal.main (F := Ideal))) ⟨m', fun _ => 0, g'⟩ (fun r => ∀ c : Dev Cert.OutBackRefIdeal.nD,
          r.2.mem ((c.tc : Thread Cert.OutBackRefIdeal.nD Cert.OutBackRefIdeal.τ).loc Cert.OutBackRefIdeal.main_v4) = v0 c
          ∧ r.2.mem ((c.tc : Thread Cert.OutBackRefIdeal.nD Cert.OutBackRefIdeal.τ).loc Cert.OutBackRefIdeal.main_arg0) = m' ((c.tc : Thread Cert.OutBackRefIdeal.nD Cert.OutBackRefIdeal.τ).loc Cert.OutBackRefIdeal.main_arg0)
          ∧ r.2.mem ((c.tc : Thread Cert.OutBackRefIdeal.nD Cert.OutBackRefIdeal.τ).loc Cert.OutBackRefIdeal.main_arg1) = m' ((c.tc : Thread Cert.OutBackRefIdeal.nD Cert.OutBackRefIdeal.τ).loc Cert.OutBackRefIdeal.main_arg1))

def preserves_OdOutBack_OdOutBackIdeal : Prop :=
  True

def algebraic_OdOutBackIdeal_OdOutBackRefIdeal [hOdOutBackIdeal : Cert.OdOutBackIdeal.Facts] [hOdOutBackRefIdeal : Cert.OdOutBackRefIdeal.Facts] : Prop :=
  ∀ (m : (ℓ : Loc Cert.OdOutBackIdeal.nD Cert.OdOutBackIdeal.τ Cert.OdOutBackIdeal.sig) → Buf (Elt Ideal) ℓ) (g : Dev Cert.OdOutBackIdeal.nD → PrngReg)
    (m' : (ℓ : Loc Cert.OdOutBackRefIdeal.nD Cert.OdOutBackRefIdeal.τ Cert.OdOutBackRefIdeal.sig) → Buf (Elt Ideal) ℓ) (g' : Dev Cert.OdOutBackRefIdeal.nD → PrngReg), Pre_OdOutBackIdeal m →
    (∀ c : Dev Cert.OdOutBackIdeal.nD,
      m' ((c.tc : Thread Cert.OdOutBackRefIdeal.nD Cert.OdOutBackRefIdeal.τ).loc Cert.OdOutBackRefIdeal.main_arg0) = m ((c.tc : Thread Cert.OdOutBackIdeal.nD Cert.OdOutBackIdeal.τ).loc Cert.OdOutBackIdeal.main_arg0)
      ∧ m' ((c.tc : Thread Cert.OdOutBackRefIdeal.nD Cert.OdOutBackRefIdeal.τ).loc Cert.OdOutBackRefIdeal.main_arg1) = m ((c.tc : Thread Cert.OdOutBackIdeal.nD Cert.OdOutBackIdeal.τ).loc Cert.OdOutBackIdeal.main_arg1)) →
    ∃ (v0 : (c : Dev Cert.OdOutBackIdeal.nD) → Buf (Elt Ideal) ((c.tc : Thread Cert.OdOutBackIdeal.nD Cert.OdOutBackIdeal.τ).loc Cert.OdOutBackIdeal.main_v0_0)) (v1 : (c : Dev Cert.OdOutBackIdeal.nD) → Buf (Elt Ideal) ((c.tc : Thread Cert.OdOutBackIdeal.nD Cert.OdOutBackIdeal.τ).loc Cert.OdOutBackIdeal.main_v0_1)) (v2 : (c : Dev Cert.OdOutBackIdeal.nD) → Buf (Elt Ideal) ((c.tc : Thread Cert.OdOutBackIdeal.nD Cert.OdOutBackIdeal.τ).loc Cert.OdOutBackIdeal.main_v0_2)),
      θ_run (Cert.OdOutBackIdeal.defs (F := Ideal)) (onTc (τ := Cert.OdOutBackIdeal.τ) (Cert.OdOutBackIdeal.main (F := Ideal))) ⟨m, fun _ => 0, g⟩ (fun r => ∀ c : Dev Cert.OdOutBackIdeal.nD,
          r.2.mem ((c.tc : Thread Cert.OdOutBackIdeal.nD Cert.OdOutBackIdeal.τ).loc Cert.OdOutBackIdeal.main_v0_0) = v0 c
          ∧ r.2.mem ((c.tc : Thread Cert.OdOutBackIdeal.nD Cert.OdOutBackIdeal.τ).loc Cert.OdOutBackIdeal.main_v0_1) = v1 c
          ∧ r.2.mem ((c.tc : Thread Cert.OdOutBackIdeal.nD Cert.OdOutBackIdeal.τ).loc Cert.OdOutBackIdeal.main_v0_2) = v2 c
          ∧ r.2.mem ((c.tc : Thread Cert.OdOutBackIdeal.nD Cert.OdOutBackIdeal.τ).loc Cert.OdOutBackIdeal.main_arg0) = m ((c.tc : Thread Cert.OdOutBackIdeal.nD Cert.OdOutBackIdeal.τ).loc Cert.OdOutBackIdeal.main_arg0)
          ∧ r.2.mem ((c.tc : Thread Cert.OdOutBackIdeal.nD Cert.OdOutBackIdeal.τ).loc Cert.OdOutBackIdeal.main_arg1) = m ((c.tc : Thread Cert.OdOutBackIdeal.nD Cert.OdOutBackIdeal.τ).loc Cert.OdOutBackIdeal.main_arg1))
      ∧ θ_run (Cert.OdOutBackRefIdeal.defs (F := Ideal)) (onTc (τ := Cert.OdOutBackRefIdeal.τ) (Cert.OdOutBackRefIdeal.main (F := Ideal))) ⟨m', fun _ => 0, g'⟩ (fun r => ∀ c : Dev Cert.OdOutBackRefIdeal.nD,
          r.2.mem ((c.tc : Thread Cert.OdOutBackRefIdeal.nD Cert.OdOutBackRefIdeal.τ).loc Cert.OdOutBackRefIdeal.main_v4) = v0 c
          ∧ r.2.mem ((c.tc : Thread Cert.OdOutBackRefIdeal.nD Cert.OdOutBackRefIdeal.τ).loc Cert.OdOutBackRefIdeal.main_v6) = v1 c
          ∧ r.2.mem ((c.tc : Thread Cert.OdOutBackRefIdeal.nD Cert.OdOutBackRefIdeal.τ).loc Cert.OdOutBackRefIdeal.main_v7) = v2 c
          ∧ r.2.mem ((c.tc : Thread Cert.OdOutBackRefIdeal.nD Cert.OdOutBackRefIdeal.τ).loc Cert.OdOutBackRefIdeal.main_arg0) = m' ((c.tc : Thread Cert.OdOutBackRefIdeal.nD Cert.OdOutBackRefIdeal.τ).loc Cert.OdOutBackRefIdeal.main_arg0)
          ∧ r.2.mem ((c.tc : Thread Cert.OdOutBackRefIdeal.nD Cert.OdOutBackRefIdeal.τ).loc Cert.OdOutBackRefIdeal.main_arg1) = m' ((c.tc : Thread Cert.OdOutBackRefIdeal.nD Cert.OdOutBackRefIdeal.τ).loc Cert.OdOutBackRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_v17) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_LastDown_LastDownIdeal : Prop :=
  True

def algebraic_LastDownIdeal_LastDownRefIdeal [hLastDownIdeal : Cert.LastDownIdeal.Facts] [hLastDownRefIdeal : Cert.LastDownRefIdeal.Facts] : Prop :=
  ∀ (m : (ℓ : Loc Cert.LastDownIdeal.nD Cert.LastDownIdeal.τ Cert.LastDownIdeal.sig) → Buf (Elt Ideal) ℓ) (g : Dev Cert.LastDownIdeal.nD → PrngReg)
    (m' : (ℓ : Loc Cert.LastDownRefIdeal.nD Cert.LastDownRefIdeal.τ Cert.LastDownRefIdeal.sig) → Buf (Elt Ideal) ℓ) (g' : Dev Cert.LastDownRefIdeal.nD → PrngReg), Pre_LastDownIdeal m →
    (∀ c : Dev Cert.LastDownIdeal.nD,
      m' ((c.tc : Thread Cert.LastDownRefIdeal.nD Cert.LastDownRefIdeal.τ).loc Cert.LastDownRefIdeal.main_arg0) = m ((c.tc : Thread Cert.LastDownIdeal.nD Cert.LastDownIdeal.τ).loc Cert.LastDownIdeal.main_arg0)
      ∧ m' ((c.tc : Thread Cert.LastDownRefIdeal.nD Cert.LastDownRefIdeal.τ).loc Cert.LastDownRefIdeal.main_arg1) = m ((c.tc : Thread Cert.LastDownIdeal.nD Cert.LastDownIdeal.τ).loc Cert.LastDownIdeal.main_arg1)
      ∧ m' ((c.tc : Thread Cert.LastDownRefIdeal.nD Cert.LastDownRefIdeal.τ).loc Cert.LastDownRefIdeal.main_arg2) = m ((c.tc : Thread Cert.LastDownIdeal.nD Cert.LastDownIdeal.τ).loc Cert.LastDownIdeal.main_arg2)) →
    ∃ (v0 : (c : Dev Cert.LastDownIdeal.nD) → Buf (Elt Ideal) ((c.tc : Thread Cert.LastDownIdeal.nD Cert.LastDownIdeal.τ).loc Cert.LastDownIdeal.main_v0)),
      θ_run (Cert.LastDownIdeal.defs (F := Ideal)) (onTc (τ := Cert.LastDownIdeal.τ) (Cert.LastDownIdeal.main (F := Ideal))) ⟨m, fun _ => 0, g⟩ (fun r => ∀ c : Dev Cert.LastDownIdeal.nD,
          r.2.mem ((c.tc : Thread Cert.LastDownIdeal.nD Cert.LastDownIdeal.τ).loc Cert.LastDownIdeal.main_v0) = v0 c
          ∧ r.2.mem ((c.tc : Thread Cert.LastDownIdeal.nD Cert.LastDownIdeal.τ).loc Cert.LastDownIdeal.main_arg0) = m ((c.tc : Thread Cert.LastDownIdeal.nD Cert.LastDownIdeal.τ).loc Cert.LastDownIdeal.main_arg0)
          ∧ r.2.mem ((c.tc : Thread Cert.LastDownIdeal.nD Cert.LastDownIdeal.τ).loc Cert.LastDownIdeal.main_arg1) = m ((c.tc : Thread Cert.LastDownIdeal.nD Cert.LastDownIdeal.τ).loc Cert.LastDownIdeal.main_arg1)
          ∧ r.2.mem ((c.tc : Thread Cert.LastDownIdeal.nD Cert.LastDownIdeal.τ).loc Cert.LastDownIdeal.main_arg2) = m ((c.tc : Thread Cert.LastDownIdeal.nD Cert.LastDownIdeal.τ).loc Cert.LastDownIdeal.main_arg2))
      ∧ θ_run (Cert.LastDownRefIdeal.defs (F := Ideal)) (onTc (τ := Cert.LastDownRefIdeal.τ) (Cert.LastDownRefIdeal.main (F := Ideal))) ⟨m', fun _ => 0, g'⟩ (fun r => ∀ c : Dev Cert.LastDownRefIdeal.nD,
          r.2.mem ((c.tc : Thread Cert.LastDownRefIdeal.nD Cert.LastDownRefIdeal.τ).loc Cert.LastDownRefIdeal.main_v3) = v0 c
          ∧ r.2.mem ((c.tc : Thread Cert.LastDownRefIdeal.nD Cert.LastDownRefIdeal.τ).loc Cert.LastDownRefIdeal.main_arg0) = m' ((c.tc : Thread Cert.LastDownRefIdeal.nD Cert.LastDownRefIdeal.τ).loc Cert.LastDownRefIdeal.main_arg0)
          ∧ r.2.mem ((c.tc : Thread Cert.LastDownRefIdeal.nD Cert.LastDownRefIdeal.τ).loc Cert.LastDownRefIdeal.main_arg1) = m' ((c.tc : Thread Cert.LastDownRefIdeal.nD Cert.LastDownRefIdeal.τ).loc Cert.LastDownRefIdeal.main_arg1)
          ∧ r.2.mem ((c.tc : Thread Cert.LastDownRefIdeal.nD Cert.LastDownRefIdeal.τ).loc Cert.LastDownRefIdeal.main_arg2) = m' ((c.tc : Thread Cert.LastDownRefIdeal.nD Cert.LastDownRefIdeal.τ).loc Cert.LastDownRefIdeal.main_arg2))

def preserves_EvInProj_EvInProjIdeal : Prop :=
  True

def algebraic_EvInProjIdeal_EvInProjRefIdeal [hEvInProjIdeal : Cert.EvInProjIdeal.Facts] [hEvInProjRefIdeal : Cert.EvInProjRefIdeal.Facts] : Prop :=
  ∀ (m : (ℓ : Loc Cert.EvInProjIdeal.nD Cert.EvInProjIdeal.τ Cert.EvInProjIdeal.sig) → Buf (Elt Ideal) ℓ) (g : Dev Cert.EvInProjIdeal.nD → PrngReg)
    (m' : (ℓ : Loc Cert.EvInProjRefIdeal.nD Cert.EvInProjRefIdeal.τ Cert.EvInProjRefIdeal.sig) → Buf (Elt Ideal) ℓ) (g' : Dev Cert.EvInProjRefIdeal.nD → PrngReg), Pre_EvInProjIdeal m →
    (∀ c : Dev Cert.EvInProjIdeal.nD,
      m' ((c.tc : Thread Cert.EvInProjRefIdeal.nD Cert.EvInProjRefIdeal.τ).loc Cert.EvInProjRefIdeal.main_arg0) = m ((c.tc : Thread Cert.EvInProjIdeal.nD Cert.EvInProjIdeal.τ).loc Cert.EvInProjIdeal.main_arg0)
      ∧ m' ((c.tc : Thread Cert.EvInProjRefIdeal.nD Cert.EvInProjRefIdeal.τ).loc Cert.EvInProjRefIdeal.main_arg1) = m ((c.tc : Thread Cert.EvInProjIdeal.nD Cert.EvInProjIdeal.τ).loc Cert.EvInProjIdeal.main_arg1)) →
    ∃ (v0 : (c : Dev Cert.EvInProjIdeal.nD) → Buf (Elt Ideal) ((c.tc : Thread Cert.EvInProjIdeal.nD Cert.EvInProjIdeal.τ).loc Cert.EvInProjIdeal.main_v56_0)) (v1 : (c : Dev Cert.EvInProjIdeal.nD) → Buf (Elt Ideal) ((c.tc : Thread Cert.EvInProjIdeal.nD Cert.EvInProjIdeal.τ).loc Cert.EvInProjIdeal.main_v56_1)) (v2 : (c : Dev Cert.EvInProjIdeal.nD) → Buf (Elt Ideal) ((c.tc : Thread Cert.EvInProjIdeal.nD Cert.EvInProjIdeal.τ).loc Cert.EvInProjIdeal.main_v56_2)) (v3 : (c : Dev Cert.EvInProjIdeal.nD) → Buf (Elt Ideal) ((c.tc : Thread Cert.EvInProjIdeal.nD Cert.EvInProjIdeal.τ).loc Cert.EvInProjIdeal.main_v56_3)),
      θ_run (Cert.EvInProjIdeal.defs (F := Ideal)) (onTc (τ := Cert.EvInProjIdeal.τ) (Cert.EvInProjIdeal.main (F := Ideal))) ⟨m, fun _ => 0, g⟩ (fun r => ∀ c : Dev Cert.EvInProjIdeal.nD,
          r.2.mem ((c.tc : Thread Cert.EvInProjIdeal.nD Cert.EvInProjIdeal.τ).loc Cert.EvInProjIdeal.main_v56_0) = v0 c
          ∧ r.2.mem ((c.tc : Thread Cert.EvInProjIdeal.nD Cert.EvInProjIdeal.τ).loc Cert.EvInProjIdeal.main_v56_1) = v1 c
          ∧ r.2.mem ((c.tc : Thread Cert.EvInProjIdeal.nD Cert.EvInProjIdeal.τ).loc Cert.EvInProjIdeal.main_v56_2) = v2 c
          ∧ r.2.mem ((c.tc : Thread Cert.EvInProjIdeal.nD Cert.EvInProjIdeal.τ).loc Cert.EvInProjIdeal.main_v56_3) = v3 c
          ∧ r.2.mem ((c.tc : Thread Cert.EvInProjIdeal.nD Cert.EvInProjIdeal.τ).loc Cert.EvInProjIdeal.main_arg0) = m ((c.tc : Thread Cert.EvInProjIdeal.nD Cert.EvInProjIdeal.τ).loc Cert.EvInProjIdeal.main_arg0)
          ∧ r.2.mem ((c.tc : Thread Cert.EvInProjIdeal.nD Cert.EvInProjIdeal.τ).loc Cert.EvInProjIdeal.main_arg1) = m ((c.tc : Thread Cert.EvInProjIdeal.nD Cert.EvInProjIdeal.τ).loc Cert.EvInProjIdeal.main_arg1))
      ∧ θ_run (Cert.EvInProjRefIdeal.defs (F := Ideal)) (onTc (τ := Cert.EvInProjRefIdeal.τ) (Cert.EvInProjRefIdeal.main (F := Ideal))) ⟨m', fun _ => 0, g'⟩ (fun r => ∀ c : Dev Cert.EvInProjRefIdeal.nD,
          r.2.mem ((c.tc : Thread Cert.EvInProjRefIdeal.nD Cert.EvInProjRefIdeal.τ).loc Cert.EvInProjRefIdeal.main_v42) = v0 c
          ∧ r.2.mem ((c.tc : Thread Cert.EvInProjRefIdeal.nD Cert.EvInProjRefIdeal.τ).loc Cert.EvInProjRefIdeal.main_v43) = v1 c
          ∧ r.2.mem ((c.tc : Thread Cert.EvInProjRefIdeal.nD Cert.EvInProjRefIdeal.τ).loc Cert.EvInProjRefIdeal.main_v44) = v2 c
          ∧ r.2.mem ((c.tc : Thread Cert.EvInProjRefIdeal.nD Cert.EvInProjRefIdeal.τ).loc Cert.EvInProjRefIdeal.main_v45) = v3 c
          ∧ r.2.mem ((c.tc : Thread Cert.EvInProjRefIdeal.nD Cert.EvInProjRefIdeal.τ).loc Cert.EvInProjRefIdeal.main_arg0) = m' ((c.tc : Thread Cert.EvInProjRefIdeal.nD Cert.EvInProjRefIdeal.τ).loc Cert.EvInProjRefIdeal.main_arg0)
          ∧ r.2.mem ((c.tc : Thread Cert.EvInProjRefIdeal.nD Cert.EvInProjRefIdeal.τ).loc Cert.EvInProjRefIdeal.main_arg1) = m' ((c.tc : Thread Cert.EvInProjRefIdeal.nD Cert.EvInProjRefIdeal.τ).loc Cert.EvInProjRefIdeal.main_arg1))

def preserves_OdInProj_OdInProjIdeal : Prop :=
  True

def algebraic_OdInProjIdeal_OdInProjRefIdeal [hOdInProjIdeal : Cert.OdInProjIdeal.Facts] [hOdInProjRefIdeal : Cert.OdInProjRefIdeal.Facts] : Prop :=
  ∀ (m : (ℓ : Loc Cert.OdInProjIdeal.nD Cert.OdInProjIdeal.τ Cert.OdInProjIdeal.sig) → Buf (Elt Ideal) ℓ) (g : Dev Cert.OdInProjIdeal.nD → PrngReg)
    (m' : (ℓ : Loc Cert.OdInProjRefIdeal.nD Cert.OdInProjRefIdeal.τ Cert.OdInProjRefIdeal.sig) → Buf (Elt Ideal) ℓ) (g' : Dev Cert.OdInProjRefIdeal.nD → PrngReg), Pre_OdInProjIdeal m →
    (∀ c : Dev Cert.OdInProjIdeal.nD,
      m' ((c.tc : Thread Cert.OdInProjRefIdeal.nD Cert.OdInProjRefIdeal.τ).loc Cert.OdInProjRefIdeal.main_arg0) = m ((c.tc : Thread Cert.OdInProjIdeal.nD Cert.OdInProjIdeal.τ).loc Cert.OdInProjIdeal.main_arg0)
      ∧ m' ((c.tc : Thread Cert.OdInProjRefIdeal.nD Cert.OdInProjRefIdeal.τ).loc Cert.OdInProjRefIdeal.main_arg1) = m ((c.tc : Thread Cert.OdInProjIdeal.nD Cert.OdInProjIdeal.τ).loc Cert.OdInProjIdeal.main_arg1)) →
    ∃ (v0 : (c : Dev Cert.OdInProjIdeal.nD) → Buf (Elt Ideal) ((c.tc : Thread Cert.OdInProjIdeal.nD Cert.OdInProjIdeal.τ).loc Cert.OdInProjIdeal.main_v56_0)) (v1 : (c : Dev Cert.OdInProjIdeal.nD) → Buf (Elt Ideal) ((c.tc : Thread Cert.OdInProjIdeal.nD Cert.OdInProjIdeal.τ).loc Cert.OdInProjIdeal.main_v56_1)) (v2 : (c : Dev Cert.OdInProjIdeal.nD) → Buf (Elt Ideal) ((c.tc : Thread Cert.OdInProjIdeal.nD Cert.OdInProjIdeal.τ).loc Cert.OdInProjIdeal.main_v56_2)) (v3 : (c : Dev Cert.OdInProjIdeal.nD) → Buf (Elt Ideal) ((c.tc : Thread Cert.OdInProjIdeal.nD Cert.OdInProjIdeal.τ).loc Cert.OdInProjIdeal.main_v56_3)) (v4 : (c : Dev Cert.OdInProjIdeal.nD) → Buf (Elt Ideal) ((c.tc : Thread Cert.OdInProjIdeal.nD Cert.OdInProjIdeal.τ).loc Cert.OdInProjIdeal.main_v56_4)) (v5 : (c : Dev Cert.OdInProjIdeal.nD) → Buf (Elt Ideal) ((c.tc : Thread Cert.OdInProjIdeal.nD Cert.OdInProjIdeal.τ).loc Cert.OdInProjIdeal.main_v56_5)) (v6 : (c : Dev Cert.OdInProjIdeal.nD) → Buf (Elt Ideal) ((c.tc : Thread Cert.OdInProjIdeal.nD Cert.OdInProjIdeal.τ).loc Cert.OdInProjIdeal.main_v56_6)),
      θ_run (Cert.OdInProjIdeal.defs (F := Ideal)) (onTc (τ := Cert.OdInProjIdeal.τ) (Cert.OdInProjIdeal.main (F := Ideal))) ⟨m, fun _ => 0, g⟩ (fun r => ∀ c : Dev Cert.OdInProjIdeal.nD,
          r.2.mem ((c.tc : Thread Cert.OdInProjIdeal.nD Cert.OdInProjIdeal.τ).loc Cert.OdInProjIdeal.main_v56_0) = v0 c
          ∧ r.2.mem ((c.tc : Thread Cert.OdInProjIdeal.nD Cert.OdInProjIdeal.τ).loc Cert.OdInProjIdeal.main_v56_1) = v1 c
          ∧ r.2.mem ((c.tc : Thread Cert.OdInProjIdeal.nD Cert.OdInProjIdeal.τ).loc Cert.OdInProjIdeal.main_v56_2) = v2 c
          ∧ r.2.mem ((c.tc : Thread Cert.OdInProjIdeal.nD Cert.OdInProjIdeal.τ).loc Cert.OdInProjIdeal.main_v56_3) = v3 c
          ∧ r.2.mem ((c.tc : Thread Cert.OdInProjIdeal.nD Cert.OdInProjIdeal.τ).loc Cert.OdInProjIdeal.main_v56_4) = v4 c
          ∧ r.2.mem ((c.tc : Thread Cert.OdInProjIdeal.nD Cert.OdInProjIdeal.τ).loc Cert.OdInProjIdeal.main_v56_5) = v5 c
          ∧ r.2.mem ((c.tc : Thread Cert.OdInProjIdeal.nD Cert.OdInProjIdeal.τ).loc Cert.OdInProjIdeal.main_v56_6) = v6 c
          ∧ r.2.mem ((c.tc : Thread Cert.OdInProjIdeal.nD Cert.OdInProjIdeal.τ).loc Cert.OdInProjIdeal.main_arg0) = m ((c.tc : Thread Cert.OdInProjIdeal.nD Cert.OdInProjIdeal.τ).loc Cert.OdInProjIdeal.main_arg0)
          ∧ r.2.mem ((c.tc : Thread Cert.OdInProjIdeal.nD Cert.OdInProjIdeal.τ).loc Cert.OdInProjIdeal.main_arg1) = m ((c.tc : Thread Cert.OdInProjIdeal.nD Cert.OdInProjIdeal.τ).loc Cert.OdInProjIdeal.main_arg1))
      ∧ θ_run (Cert.OdInProjRefIdeal.defs (F := Ideal)) (onTc (τ := Cert.OdInProjRefIdeal.τ) (Cert.OdInProjRefIdeal.main (F := Ideal))) ⟨m', fun _ => 0, g'⟩ (fun r => ∀ c : Dev Cert.OdInProjRefIdeal.nD,
          r.2.mem ((c.tc : Thread Cert.OdInProjRefIdeal.nD Cert.OdInProjRefIdeal.τ).loc Cert.OdInProjRefIdeal.main_v41) = v0 c
          ∧ r.2.mem ((c.tc : Thread Cert.OdInProjRefIdeal.nD Cert.OdInProjRefIdeal.τ).loc Cert.OdInProjRefIdeal.main_v42) = v1 c
          ∧ r.2.mem ((c.tc : Thread Cert.OdInProjRefIdeal.nD Cert.OdInProjRefIdeal.τ).loc Cert.OdInProjRefIdeal.main_v47) = v2 c
          ∧ r.2.mem ((c.tc : Thread Cert.OdInProjRefIdeal.nD Cert.OdInProjRefIdeal.τ).loc Cert.OdInProjRefIdeal.main_v43) = v3 c
          ∧ r.2.mem ((c.tc : Thread Cert.OdInProjRefIdeal.nD Cert.OdInProjRefIdeal.τ).loc Cert.OdInProjRefIdeal.main_v44) = v4 c
          ∧ r.2.mem ((c.tc : Thread Cert.OdInProjRefIdeal.nD Cert.OdInProjRefIdeal.τ).loc Cert.OdInProjRefIdeal.main_v45) = v5 c
          ∧ r.2.mem ((c.tc : Thread Cert.OdInProjRefIdeal.nD Cert.OdInProjRefIdeal.τ).loc Cert.OdInProjRefIdeal.main_v46) = v6 c
          ∧ r.2.mem ((c.tc : Thread Cert.OdInProjRefIdeal.nD Cert.OdInProjRefIdeal.τ).loc Cert.OdInProjRefIdeal.main_arg0) = m' ((c.tc : Thread Cert.OdInProjRefIdeal.nD Cert.OdInProjRefIdeal.τ).loc Cert.OdInProjRefIdeal.main_arg0)
          ∧ r.2.mem ((c.tc : Thread Cert.OdInProjRefIdeal.nD Cert.OdInProjRefIdeal.τ).loc Cert.OdInProjRefIdeal.main_arg1) = m' ((c.tc : Thread Cert.OdInProjRefIdeal.nD Cert.OdInProjRefIdeal.τ).loc Cert.OdInProjRefIdeal.main_arg1))

def preserves_RmsIn_RmsInIdeal : Prop :=
  True

def algebraic_RmsInIdeal_RmsInRefIdeal [hRmsInIdeal : Cert.RmsInIdeal.Facts] [hRmsInRefIdeal : Cert.RmsInRefIdeal.Facts] : Prop :=
  ∀ (m : (ℓ : Loc Cert.RmsInIdeal.nD Cert.RmsInIdeal.τ Cert.RmsInIdeal.sig) → Buf (Elt Ideal) ℓ) (g : Dev Cert.RmsInIdeal.nD → PrngReg)
    (m' : (ℓ : Loc Cert.RmsInRefIdeal.nD Cert.RmsInRefIdeal.τ Cert.RmsInRefIdeal.sig) → Buf (Elt Ideal) ℓ) (g' : Dev Cert.RmsInRefIdeal.nD → PrngReg), Pre_RmsInIdeal m →
    (∀ c : Dev Cert.RmsInIdeal.nD,
      m' ((c.tc : Thread Cert.RmsInRefIdeal.nD Cert.RmsInRefIdeal.τ).loc Cert.RmsInRefIdeal.main_arg0) = m ((c.tc : Thread Cert.RmsInIdeal.nD Cert.RmsInIdeal.τ).loc Cert.RmsInIdeal.main_arg0)
      ∧ m' ((c.tc : Thread Cert.RmsInRefIdeal.nD Cert.RmsInRefIdeal.τ).loc Cert.RmsInRefIdeal.main_arg1) = m ((c.tc : Thread Cert.RmsInIdeal.nD Cert.RmsInIdeal.τ).loc Cert.RmsInIdeal.main_arg1)) →
    ∃ (v0 : (c : Dev Cert.RmsInIdeal.nD) → Buf (Elt Ideal) ((c.tc : Thread Cert.RmsInIdeal.nD Cert.RmsInIdeal.τ).loc Cert.RmsInIdeal.main_v0)),
      θ_run (Cert.RmsInIdeal.defs (F := Ideal)) (onTc (τ := Cert.RmsInIdeal.τ) (Cert.RmsInIdeal.main (F := Ideal))) ⟨m, fun _ => 0, g⟩ (fun r => ∀ c : Dev Cert.RmsInIdeal.nD,
          r.2.mem ((c.tc : Thread Cert.RmsInIdeal.nD Cert.RmsInIdeal.τ).loc Cert.RmsInIdeal.main_v0) = v0 c
          ∧ r.2.mem ((c.tc : Thread Cert.RmsInIdeal.nD Cert.RmsInIdeal.τ).loc Cert.RmsInIdeal.main_arg0) = m ((c.tc : Thread Cert.RmsInIdeal.nD Cert.RmsInIdeal.τ).loc Cert.RmsInIdeal.main_arg0)
          ∧ r.2.mem ((c.tc : Thread Cert.RmsInIdeal.nD Cert.RmsInIdeal.τ).loc Cert.RmsInIdeal.main_arg1) = m ((c.tc : Thread Cert.RmsInIdeal.nD Cert.RmsInIdeal.τ).loc Cert.RmsInIdeal.main_arg1))
      ∧ θ_run (Cert.RmsInRefIdeal.defs (F := Ideal)) (onTc (τ := Cert.RmsInRefIdeal.τ) (Cert.RmsInRefIdeal.main (F := Ideal))) ⟨m', fun _ => 0, g'⟩ (fun r => ∀ c : Dev Cert.RmsInRefIdeal.nD,
          r.2.mem ((c.tc : Thread Cert.RmsInRefIdeal.nD Cert.RmsInRefIdeal.τ).loc Cert.RmsInRefIdeal.main_v12) = v0 c
          ∧ r.2.mem ((c.tc : Thread Cert.RmsInRefIdeal.nD Cert.RmsInRefIdeal.τ).loc Cert.RmsInRefIdeal.main_arg0) = m' ((c.tc : Thread Cert.RmsInRefIdeal.nD Cert.RmsInRefIdeal.τ).loc Cert.RmsInRefIdeal.main_arg0)
          ∧ r.2.mem ((c.tc : Thread Cert.RmsInRefIdeal.nD Cert.RmsInRefIdeal.τ).loc Cert.RmsInRefIdeal.main_arg1) = m' ((c.tc : Thread Cert.RmsInRefIdeal.nD Cert.RmsInRefIdeal.τ).loc Cert.RmsInRefIdeal.main_arg1))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v49) = v0 c
          ∧ r.2.mem ((c.tc : Thread Cert.LossHeadRefIdeal.nD Cert.LossHeadRefIdeal.τ).loc Cert.LossHeadRefIdeal.main_v48) = v1 c
          ∧ r.2.mem ((c.tc : Thread Cert.LossHeadRefIdeal.nD Cert.LossHeadRefIdeal.τ).loc Cert.LossHeadRefIdeal.main_v50) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_GmlpFwd_GmlpFwdIdeal : Prop :=
  IdealRules.named_const.Statement Cert.GmlpFwdIdeal.κ "gelu_c" .f32 0x3D372713#32 ((8943 / 200000 : ℝ) : EReal)

def algebraic_GmlpFwdIdeal_GmlpFwdRefIdeal [hGmlpFwdIdeal : Cert.GmlpFwdIdeal.Facts] [hGmlpFwdRefIdeal : Cert.GmlpFwdRefIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)
      ∧ m' ((c.tc : Thread Cert.GmlpFwdRefIdeal.nD Cert.GmlpFwdRefIdeal.τ).loc Cert.GmlpFwdRefIdeal.main_arg4) = m ((c.tc : Thread Cert.GmlpFwdIdeal.nD Cert.GmlpFwdIdeal.τ).loc Cert.GmlpFwdIdeal.main_arg4)) →
    ∃ (v0 : (c : Dev Cert.GmlpFwdIdeal.nD) → Buf (Elt Ideal) ((c.tc : Thread Cert.GmlpFwdIdeal.nD Cert.GmlpFwdIdeal.τ).loc Cert.GmlpFwdIdeal.main_v0)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v0) = v0 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
          ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v50) = v0 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3)
          ∧ r.2.mem ((c.tc : Thread Cert.GmlpFwdRefIdeal.nD Cert.GmlpFwdRefIdeal.τ).loc Cert.GmlpFwdRefIdeal.main_arg4) = m' ((c.tc : Thread Cert.GmlpFwdRefIdeal.nD Cert.GmlpFwdRefIdeal.τ).loc Cert.GmlpFwdRefIdeal.main_arg4))

def preserves_SinkAttn_SinkAttnIdeal : Prop :=
  IdealRules.named_const.Statement Cert.SinkAttnIdeal.κ "mask" .f32 0xF149F2CA#32 ⊥

def algebraic_SinkAttnIdeal_SinkAttnRefIdeal_pre_finite_attn [hSinkAttnIdeal : Cert.SinkAttnIdeal.Facts] [hSinkAttnRefIdeal : Cert.SinkAttnRefIdeal.Facts] [hPre_finite_attn : Cert.Pre_finite_attn.Facts] : Prop :=
  ∀ (m : (ℓ : Loc Cert.SinkAttnIdeal.nD Cert.SinkAttnIdeal.τ Cert.SinkAttnIdeal.sig) → Buf (Elt Ideal) ℓ) (g : Dev Cert.SinkAttnIdeal.nD → PrngReg)
    (m' : (ℓ : Loc Cert.SinkAttnRefIdeal.nD Cert.SinkAttnRefIdeal.τ Cert.SinkAttnRefIdeal.sig) → Buf (Elt Ideal) ℓ) (g' : Dev Cert.SinkAttnRefIdeal.nD → PrngReg), Pre_SinkAttnIdeal_finite_attn m →
    (∀ c : Dev Cert.SinkAttnIdeal.nD,
      m' ((c.tc : Thread Cert.SinkAttnRefIdeal.nD Cert.SinkAttnRefIdeal.τ).loc Cert.SinkAttnRefIdeal.main_arg0) = m ((c.tc : Thread Cert.SinkAttnIdeal.nD Cert.SinkAttnIdeal.τ).loc Cert.SinkAttnIdeal.main_arg0)
      ∧ m' ((c.tc : Thread Cert.SinkAttnRefIdeal.nD Cert.SinkAttnRefIdeal.τ).loc Cert.SinkAttnRefIdeal.main_arg1) = m ((c.tc : Thread Cert.SinkAttnIdeal.nD Cert.SinkAttnIdeal.τ).loc Cert.SinkAttnIdeal.main_arg1)
      ∧ m' ((c.tc : Thread Cert.SinkAttnRefIdeal.nD Cert.SinkAttnRefIdeal.τ).loc Cert.SinkAttnRefIdeal.main_arg2) = m ((c.tc : Thread Cert.SinkAttnIdeal.nD Cert.SinkAttnIdeal.τ).loc Cert.SinkAttnIdeal.main_arg2)) →
    ∃ (v0 : (c : Dev Cert.SinkAttnIdeal.nD) → Buf (Elt Ideal) ((c.tc : Thread Cert.SinkAttnIdeal.nD Cert.SinkAttnIdeal.τ).loc Cert.SinkAttnIdeal.main_v2_0)) (v1 : (c : Dev Cert.SinkAttnIdeal.nD) → Buf (Elt Ideal) ((c.tc : Thread Cert.SinkAttnIdeal.nD Cert.SinkAttnIdeal.τ).loc Cert.SinkAttnIdeal.main_v2_1)),
      θ_run (Cert.SinkAttnIdeal.defs (F := Ideal)) (onTc (τ := Cert.SinkAttnIdeal.τ) (Cert.SinkAttnIdeal.main (F := Ideal))) ⟨m, fun _ => 0, g⟩ (fun r => ∀ c : Dev Cert.SinkAttnIdeal.nD,
          r.2.mem ((c.tc : Thread Cert.SinkAttnIdeal.nD Cert.SinkAttnIdeal.τ).loc Cert.SinkAttnIdeal.main_v2_0) = v0 c
          ∧ r.2.mem ((c.tc : Thread Cert.SinkAttnIdeal.nD Cert.SinkAttnIdeal.τ).loc Cert.SinkAttnIdeal.main_v2_1) = v1 c
          ∧ r.2.mem ((c.tc : Thread Cert.SinkAttnIdeal.nD Cert.SinkAttnIdeal.τ).loc Cert.SinkAttnIdeal.main_arg0) = m ((c.tc : Thread Cert.SinkAttnIdeal.nD Cert.SinkAttnIdeal.τ).loc Cert.SinkAttnIdeal.main_arg0)
          ∧ r.2.mem ((c.tc : Thread Cert.SinkAttnIdeal.nD Cert.SinkAttnIdeal.τ).loc Cert.SinkAttnIdeal.main_arg1) = m ((c.tc : Thread Cert.SinkAttnIdeal.nD Cert.SinkAttnIdeal.τ).loc Cert.SinkAttnIdeal.main_arg1)
          ∧ r.2.mem ((c.tc : Thread Cert.SinkAttnIdeal.nD Cert.SinkAttnIdeal.τ).loc Cert.SinkAttnIdeal.main_arg2) = m ((c.tc : Thread Cert.SinkAttnIdeal.nD Cert.SinkAttnIdeal.τ).loc Cert.SinkAttnIdeal.main_arg2))
      ∧ θ_run (Cert.SinkAttnRefIdeal.defs (F := Ideal)) (onTc (τ := Cert.SinkAttnRefIdeal.τ) (Cert.SinkAttnRefIdeal.main (F := Ideal))) ⟨m', fun _ => 0, g'⟩ (fun r => ∀ c : Dev Cert.SinkAttnRefIdeal.nD,
          r.2.mem ((c.tc : Thread Cert.SinkAttnRefIdeal.nD Cert.SinkAttnRefIdeal.τ).loc Cert.SinkAttnRefIdeal.main_v79) = v0 c
          ∧ r.2.mem ((c.tc : Thread Cert.SinkAttnRefIdeal.nD Cert.SinkAttnRefIdeal.τ).loc Cert.SinkAttnRefIdeal.main_v80) = v1 c
          ∧ r.2.mem ((c.tc : Thread Cert.SinkAttnRefIdeal.nD Cert.SinkAttnRefIdeal.τ).loc Cert.SinkAttnRefIdeal.main_arg0) = m' ((c.tc : Thread Cert.SinkAttnRefIdeal.nD Cert.SinkAttnRefIdeal.τ).loc Cert.SinkAttnRefIdeal.main_arg0)
          ∧ r.2.mem ((c.tc : Thread Cert.SinkAttnRefIdeal.nD Cert.SinkAttnRefIdeal.τ).loc Cert.SinkAttnRefIdeal.main_arg1) = m' ((c.tc : Thread Cert.SinkAttnRefIdeal.nD Cert.SinkAttnRefIdeal.τ).loc Cert.SinkAttnRefIdeal.main_arg1)
          ∧ r.2.mem ((c.tc : Thread Cert.SinkAttnRefIdeal.nD Cert.SinkAttnRefIdeal.τ).loc Cert.SinkAttnRefIdeal.main_arg2) = m' ((c.tc : Thread Cert.SinkAttnRefIdeal.nD Cert.SinkAttnRefIdeal.τ).loc Cert.SinkAttnRefIdeal.main_arg2))

def Claim : Prop :=
  ∃ (hKernel : Cert.Kernel.Facts) (hKernelIdeal : Cert.KernelIdeal.Facts) (hReferenceIdeal : Cert.ReferenceIdeal.Facts) (hUpBack : Cert.UpBack.Facts) (hUpBackIdeal : Cert.UpBackIdeal.Facts) (hUpBackRefIdeal : Cert.UpBackRefIdeal.Facts) (hUpWeights : Cert.UpWeights.Facts) (hUpWeightsIdeal : Cert.UpWeightsIdeal.Facts) (hUpWeightsRefIdeal : Cert.UpWeightsRefIdeal.Facts) (hDownWeight : Cert.DownWeight.Facts) (hDownWeightIdeal : Cert.DownWeightIdeal.Facts) (hDownWeightRefIdeal : Cert.DownWeightRefIdeal.Facts) (hDownBack : Cert.DownBack.Facts) (hDownBackIdeal : Cert.DownBackIdeal.Facts) (hDownBackRefIdeal : Cert.DownBackRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hOdInBack : Cert.OdInBack.Facts) (hOdInBackIdeal : Cert.OdInBackIdeal.Facts) (hOdInBackRefIdeal : Cert.OdInBackRefIdeal.Facts) (hEvInBack : Cert.EvInBack.Facts) (hEvInBackIdeal : Cert.EvInBackIdeal.Facts) (hEvInBackRefIdeal : Cert.EvInBackRefIdeal.Facts) (hOdInWeight : Cert.OdInWeight.Facts) (hOdInWeightIdeal : Cert.OdInWeightIdeal.Facts) (hOdInWeightRefIdeal : Cert.OdInWeightRefIdeal.Facts) (hEvInWeight : Cert.EvInWeight.Facts) (hEvInWeightIdeal : Cert.EvInWeightIdeal.Facts) (hEvInWeightRefIdeal : Cert.EvInWeightRefIdeal.Facts) (hOutWeight : Cert.OutWeight.Facts) (hOutWeightIdeal : Cert.OutWeightIdeal.Facts) (hOutWeightRefIdeal : Cert.OutWeightRefIdeal.Facts) (hOutBack : Cert.OutBack.Facts) (hOutBackIdeal : Cert.OutBackIdeal.Facts) (hOutBackRefIdeal : Cert.OutBackRefIdeal.Facts) (hOdOutBack : Cert.OdOutBack.Facts) (hOdOutBackIdeal : Cert.OdOutBackIdeal.Facts) (hOdOutBackRefIdeal : Cert.OdOutBackRefIdeal.Facts) (hOutProj : Cert.OutProj.Facts) (hOutProjIdeal : Cert.OutProjIdeal.Facts) (hOutProjRefIdeal : Cert.OutProjRefIdeal.Facts) (hLastDown : Cert.LastDown.Facts) (hLastDownIdeal : Cert.LastDownIdeal.Facts) (hLastDownRefIdeal : Cert.LastDownRefIdeal.Facts) (hEvInProj : Cert.EvInProj.Facts) (hEvInProjIdeal : Cert.EvInProjIdeal.Facts) (hEvInProjRefIdeal : Cert.EvInProjRefIdeal.Facts) (hOdInProj : Cert.OdInProj.Facts) (hOdInProjIdeal : Cert.OdInProjIdeal.Facts) (hOdInProjRefIdeal : Cert.OdInProjRefIdeal.Facts) (hRmsIn : Cert.RmsIn.Facts) (hRmsInIdeal : Cert.RmsInIdeal.Facts) (hRmsInRefIdeal : Cert.RmsInRefIdeal.Facts) (hLossHead : Cert.LossHead.Facts) (hLossHeadIdeal : Cert.LossHeadIdeal.Facts) (hLossHeadRefIdeal : Cert.LossHeadRefIdeal.Facts) (hGmlpFwd : Cert.GmlpFwd.Facts) (hGmlpFwdIdeal : Cert.GmlpFwdIdeal.Facts) (hGmlpFwdRefIdeal : Cert.GmlpFwdRefIdeal.Facts) (hSinkAttn : Cert.SinkAttn.Facts) (hSinkAttnIdeal : Cert.SinkAttnIdeal.Facts) (hSinkAttnRefIdeal : Cert.SinkAttnRefIdeal.Facts) (hPre_finite : Cert.Pre_finite.Facts) (hPre_finite_back : Cert.Pre_finite_back.Facts) (hPre_finite_up : Cert.Pre_finite_up.Facts) (hPre_finite_attn : Cert.Pre_finite_attn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpBack (hUpBack := hUpBack)
    ∧ quiescent_UpBackIdeal (hUpBackIdeal := hUpBackIdeal)
    ∧ quiescent_UpBackRefIdeal (hUpBackRefIdeal := hUpBackRefIdeal)
    ∧ quiescent_UpWeights (hUpWeights := hUpWeights)
    ∧ quiescent_UpWeightsIdeal (hUpWeightsIdeal := hUpWeightsIdeal)
    ∧ quiescent_UpWeightsRefIdeal (hUpWeightsRefIdeal := hUpWeightsRefIdeal)
    ∧ quiescent_DownWeight (hDownWeight := hDownWeight)
    ∧ quiescent_DownWeightIdeal (hDownWeightIdeal := hDownWeightIdeal)
    ∧ quiescent_DownWeightRefIdeal (hDownWeightRefIdeal := hDownWeightRefIdeal)
    ∧ quiescent_DownBack (hDownBack := hDownBack)
    ∧ quiescent_DownBackIdeal (hDownBackIdeal := hDownBackIdeal)
    ∧ quiescent_DownBackIdeal_pre_finite_back (hDownBackIdeal := hDownBackIdeal) (hPre_finite_back := hPre_finite_back)
    ∧ quiescent_DownBackRefIdeal (hDownBackRefIdeal := hDownBackRefIdeal)
    ∧ quiescent_DownBackRefIdeal_pre_finite_back (hDownBackRefIdeal := hDownBackRefIdeal) (hPre_finite_back := hPre_finite_back)
    ∧ quiescent_GateUp (hGateUp := hGateUp)
    ∧ quiescent_GateUpIdeal (hGateUpIdeal := hGateUpIdeal)
    ∧ quiescent_GateUpIdeal_pre_finite_up (hGateUpIdeal := hGateUpIdeal) (hPre_finite_up := hPre_finite_up)
    ∧ quiescent_GateUpRefIdeal (hGateUpRefIdeal := hGateUpRefIdeal)
    ∧ quiescent_GateUpRefIdeal_pre_finite_up (hGateUpRefIdeal := hGateUpRefIdeal) (hPre_finite_up := hPre_finite_up)
    ∧ quiescent_Down (hDown := hDown)
    ∧ quiescent_DownIdeal (hDownIdeal := hDownIdeal)
    ∧ quiescent_DownRefIdeal (hDownRefIdeal := hDownRefIdeal)
    ∧ quiescent_OdInBack (hOdInBack := hOdInBack)
    ∧ quiescent_OdInBackIdeal (hOdInBackIdeal := hOdInBackIdeal)
    ∧ quiescent_OdInBackRefIdeal (hOdInBackRefIdeal := hOdInBackRefIdeal)
    ∧ quiescent_EvInBack (hEvInBack := hEvInBack)
    ∧ quiescent_EvInBackIdeal (hEvInBackIdeal := hEvInBackIdeal)
    ∧ quiescent_EvInBackRefIdeal (hEvInBackRefIdeal := hEvInBackRefIdeal)
    ∧ quiescent_OdInWeight (hOdInWeight := hOdInWeight)
    ∧ quiescent_OdInWeightIdeal (hOdInWeightIdeal := hOdInWeightIdeal)
    ∧ quiescent_OdInWeightRefIdeal (hOdInWeightRefIdeal := hOdInWeightRefIdeal)
    ∧ quiescent_EvInWeight (hEvInWeight := hEvInWeight)
    ∧ quiescent_EvInWeightIdeal (hEvInWeightIdeal := hEvInWeightIdeal)
    ∧ quiescent_EvInWeightRefIdeal (hEvInWeightRefIdeal := hEvInWeightRefIdeal)
    ∧ quiescent_OutWeight (hOutWeight := hOutWeight)
    ∧ quiescent_OutWeightIdeal (hOutWeightIdeal := hOutWeightIdeal)
    ∧ quiescent_OutWeightRefIdeal (hOutWeightRefIdeal := hOutWeightRefIdeal)
    ∧ quiescent_OutBack (hOutBack := hOutBack)
    ∧ quiescent_OutBackIdeal (hOutBackIdeal := hOutBackIdeal)
    ∧ quiescent_OutBackRefIdeal (hOutBackRefIdeal := hOutBackRefIdeal)
    ∧ quiescent_OdOutBack (hOdOutBack := hOdOutBack)
    ∧ quiescent_OdOutBackIdeal (hOdOutBackIdeal := hOdOutBackIdeal)
    ∧ quiescent_OdOutBackRefIdeal (hOdOutBackRefIdeal := hOdOutBackRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_LastDown (hLastDown := hLastDown)
    ∧ quiescent_LastDownIdeal (hLastDownIdeal := hLastDownIdeal)
    ∧ quiescent_LastDownRefIdeal (hLastDownRefIdeal := hLastDownRefIdeal)
    ∧ quiescent_EvInProj (hEvInProj := hEvInProj)
    ∧ quiescent_EvInProjIdeal (hEvInProjIdeal := hEvInProjIdeal)
    ∧ quiescent_EvInProjRefIdeal (hEvInProjRefIdeal := hEvInProjRefIdeal)
    ∧ quiescent_OdInProj (hOdInProj := hOdInProj)
    ∧ quiescent_OdInProjIdeal (hOdInProjIdeal := hOdInProjIdeal)
    ∧ quiescent_OdInProjRefIdeal (hOdInProjRefIdeal := hOdInProjRefIdeal)
    ∧ quiescent_RmsIn (hRmsIn := hRmsIn)
    ∧ quiescent_RmsInIdeal (hRmsInIdeal := hRmsInIdeal)
    ∧ quiescent_RmsInRefIdeal (hRmsInRefIdeal := hRmsInRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_GmlpFwd (hGmlpFwd := hGmlpFwd)
    ∧ quiescent_GmlpFwdIdeal (hGmlpFwdIdeal := hGmlpFwdIdeal)
    ∧ quiescent_GmlpFwdRefIdeal (hGmlpFwdRefIdeal := hGmlpFwdRefIdeal)
    ∧ quiescent_SinkAttn (hSinkAttn := hSinkAttn)
    ∧ quiescent_SinkAttnIdeal (hSinkAttnIdeal := hSinkAttnIdeal)
    ∧ quiescent_SinkAttnIdeal_pre_finite_attn (hSinkAttnIdeal := hSinkAttnIdeal) (hPre_finite_attn := hPre_finite_attn)
    ∧ quiescent_SinkAttnRefIdeal (hSinkAttnRefIdeal := hSinkAttnRefIdeal)
    ∧ quiescent_SinkAttnRefIdeal_pre_finite_attn (hSinkAttnRefIdeal := hSinkAttnRefIdeal) (hPre_finite_attn := hPre_finite_attn)
    ∧ preserves_Kernel_KernelIdeal
    ∧ algebraic_KernelIdeal_ReferenceIdeal_pre_finite (hKernelIdeal := hKernelIdeal) (hReferenceIdeal := hReferenceIdeal) (hPre_finite := hPre_finite)
    ∧ preserves_UpBack_UpBackIdeal
    ∧ algebraic_UpBackIdeal_UpBackRefIdeal (hUpBackIdeal := hUpBackIdeal) (hUpBackRefIdeal := hUpBackRefIdeal)
    ∧ preserves_UpWeights_UpWeightsIdeal
    ∧ algebraic_UpWeightsIdeal_UpWeightsRefIdeal (hUpWeightsIdeal := hUpWeightsIdeal) (hUpWeightsRefIdeal := hUpWeightsRefIdeal)
    ∧ preserves_DownWeight_DownWeightIdeal
    ∧ algebraic_DownWeightIdeal_DownWeightRefIdeal (hDownWeightIdeal := hDownWeightIdeal) (hDownWeightRefIdeal := hDownWeightRefIdeal)
    ∧ preserves_DownBack_DownBackIdeal
    ∧ algebraic_DownBackIdeal_DownBackRefIdeal_pre_finite_back (hDownBackIdeal := hDownBackIdeal) (hDownBackRefIdeal := hDownBackRefIdeal) (hPre_finite_back := hPre_finite_back)
    ∧ preserves_GateUp_GateUpIdeal
    ∧ algebraic_GateUpIdeal_GateUpRefIdeal_pre_finite_up (hGateUpIdeal := hGateUpIdeal) (hGateUpRefIdeal := hGateUpRefIdeal) (hPre_finite_up := hPre_finite_up)
    ∧ preserves_Down_DownIdeal
    ∧ algebraic_DownIdeal_DownRefIdeal (hDownIdeal := hDownIdeal) (hDownRefIdeal := hDownRefIdeal)
    ∧ preserves_OdInBack_OdInBackIdeal
    ∧ algebraic_OdInBackIdeal_OdInBackRefIdeal (hOdInBackIdeal := hOdInBackIdeal) (hOdInBackRefIdeal := hOdInBackRefIdeal)
    ∧ preserves_EvInBack_EvInBackIdeal
    ∧ algebraic_EvInBackIdeal_EvInBackRefIdeal (hEvInBackIdeal := hEvInBackIdeal) (hEvInBackRefIdeal := hEvInBackRefIdeal)
    ∧ preserves_OdInWeight_OdInWeightIdeal
    ∧ algebraic_OdInWeightIdeal_OdInWeightRefIdeal (hOdInWeightIdeal := hOdInWeightIdeal) (hOdInWeightRefIdeal := hOdInWeightRefIdeal)
    ∧ preserves_EvInWeight_EvInWeightIdeal
    ∧ algebraic_EvInWeightIdeal_EvInWeightRefIdeal (hEvInWeightIdeal := hEvInWeightIdeal) (hEvInWeightRefIdeal := hEvInWeightRefIdeal)
    ∧ preserves_OutWeight_OutWeightIdeal
    ∧ algebraic_OutWeightIdeal_OutWeightRefIdeal (hOutWeightIdeal := hOutWeightIdeal) (hOutWeightRefIdeal := hOutWeightRefIdeal)
    ∧ preserves_OutBack_OutBackIdeal
    ∧ algebraic_OutBackIdeal_OutBackRefIdeal (hOutBackIdeal := hOutBackIdeal) (hOutBackRefIdeal := hOutBackRefIdeal)
    ∧ preserves_OdOutBack_OdOutBackIdeal
    ∧ algebraic_OdOutBackIdeal_OdOutBackRefIdeal (hOdOutBackIdeal := hOdOutBackIdeal) (hOdOutBackRefIdeal := hOdOutBackRefIdeal)
    ∧ preserves_OutProj_OutProjIdeal
    ∧ algebraic_OutProjIdeal_OutProjRefIdeal (hOutProjIdeal := hOutProjIdeal) (hOutProjRefIdeal := hOutProjRefIdeal)
    ∧ preserves_LastDown_LastDownIdeal
    ∧ algebraic_LastDownIdeal_LastDownRefIdeal (hLastDownIdeal := hLastDownIdeal) (hLastDownRefIdeal := hLastDownRefIdeal)
    ∧ preserves_EvInProj_EvInProjIdeal
    ∧ algebraic_EvInProjIdeal_EvInProjRefIdeal (hEvInProjIdeal := hEvInProjIdeal) (hEvInProjRefIdeal := hEvInProjRefIdeal)
    ∧ preserves_OdInProj_OdInProjIdeal
    ∧ algebraic_OdInProjIdeal_OdInProjRefIdeal (hOdInProjIdeal := hOdInProjIdeal) (hOdInProjRefIdeal := hOdInProjRefIdeal)
    ∧ preserves_RmsIn_RmsInIdeal
    ∧ algebraic_RmsInIdeal_RmsInRefIdeal (hRmsInIdeal := hRmsInIdeal) (hRmsInRefIdeal := hRmsInRefIdeal)
    ∧ preserves_LossHead_LossHeadIdeal
    ∧ algebraic_LossHeadIdeal_LossHeadRefIdeal (hLossHeadIdeal := hLossHeadIdeal) (hLossHeadRefIdeal := hLossHeadRefIdeal)
    ∧ preserves_GmlpFwd_GmlpFwdIdeal
    ∧ algebraic_GmlpFwdIdeal_GmlpFwdRefIdeal (hGmlpFwdIdeal := hGmlpFwdIdeal) (hGmlpFwdRefIdeal := hGmlpFwdRefIdeal)
    ∧ preserves_SinkAttn_SinkAttnIdeal
    ∧ algebraic_SinkAttnIdeal_SinkAttnRefIdeal_pre_finite_attn (hSinkAttnIdeal := hSinkAttnIdeal) (hSinkAttnRefIdeal := hSinkAttnRefIdeal) (hPre_finite_attn := hPre_finite_attn)
-- ==== Pre_finite.lean ====
abbrev S8192x1024 : Shape := ⟨2, ![8192, 1024]⟩
abbrev S1x512 : Shape := ⟨2, ![1, 512]⟩
abbrev S8x128x128 : Shape := ⟨3, ![8, 128, 128]⟩
abbrev S128x512 : Shape := ⟨2, ![128, 512]⟩
abbrev S8192x512 : Shape := ⟨2, ![8192, 512]⟩
abbrev S_ : Shape := ⟨0, ![]⟩

class Facts : Prop where
  slices_S8192x1024_S8192x512_0_512 : S8192x1024.Slices ![0, 512] S8192x512
  bitsLt_bf16_f32 : FTy.bits .bf16 < FTy.bits .f32
  bcast_S_S8192x1024 : S_.BroadcastsInDim S8192x1024 (![] : Fin 0 → Fin S8192x1024.rank)
  bcast_S_S8192x512 : S_.BroadcastsInDim S8192x512 (![] : Fin 0 → Fin S8192x512.rank)
  bcast_S_S1x512 : S_.BroadcastsInDim S1x512 (![] : Fin 0 → Fin S1x512.rank)
  bcast_S_S8x128x128 : S_.BroadcastsInDim S8x128x128 (![] : Fin 0 → Fin S8x128x128.rank)
  bcast_S_S128x512 : S_.BroadcastsInDim S128x512 (![] : Fin 0 → Fin S128x512.rank)

variable [Facts]

def fn_part1 {F : FTy → Type} [FloatOps F] (main_v4 : IVec S8192x1024 1) (main_v8 : IVec S8192x512 1) (main_v11 : IVec S1x512 1) (main_v14 : IVec S1x512 1) (main_v17 : IVec S8x128x128 1) (main_v18 : FVec F S128x512 .f32) : IVec S8192x1024 1 × IVec S8192x512 1 × IVec S1x512 1 × IVec S1x512 1 × IVec S8x128x128 1 × IVec S128x512 1 :=
  let main_cst_4 : FVec F S_ .f32 := constant S_ .f32 0x7F800000#32
  let main_v19 : FVec F S128x512 .f32 := broadcastInDim S128x512 ![] bcast_S_S128x512 main_cst_4
  let main_v20 : IVec S128x512 1 := cmpf .olt main_v18 main_v19
  (main_v4, main_v8, main_v11, main_v14, main_v17, main_v20)

def fn {F : FTy → Type} [FloatOps F] (main_arg0 : FVec F S8192x1024 .bf16) (main_arg1 : FVec F S8192x1024 .bf16) (main_arg2 : FVec F S1x512 .f32) (main_arg3 : FVec F S1x512 .f32) (main_arg4 : FVec F S8x128x128 .f32) (main_arg5 : FVec F S128x512 .f32) : IVec S8192x1024 1 × IVec S8192x512 1 × IVec S1x512 1 × IVec S1x512 1 × IVec S8x128x128 1 × IVec S128x512 1 :=
  let main_v0 : FVec F S8192x512 .bf16 := (extractStridedSlice S8192x512 ![0, 512] · slices_S8192x1024_S8192x512_0_512) main_arg1
  let main_v1 : FVec F S8192x1024 .f32 := (extf .f32 · bitsLt_bf16_f32) main_arg0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S8192x512 .f32 := (extf .f32 · bitsLt_bf16_f32) main_v0
  let main_v6 : FVec F S8192x512 .f32 := Host.absf main_v5
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_v9 : FVec F S1x512 .f32 := Host.absf main_arg2
  let main_cst_1 : FVec F S_ .f32 := constant S_ .f32 0x7F800000#32
  let main_v10 : FVec F S1x512 .f32 := broadcastInDim S1x512 ![] bcast_S_S1x512 main_cst_1
  let main_v11 : IVec S1x512 1 := cmpf .olt main_v9 main_v10
  let main_v12 : FVec F S1x512 .f32 := Host.absf main_arg3
  let main_cst_2 : FVec F S_ .f32 := constant S_ .f32 0x7F800000#32
  let main_v13 : FVec F S1x512 .f32 := broadcastInDim S1x512 ![] bcast_S_S1x512 main_cst_2
  let main_v14 : IVec S1x512 1 := cmpf .olt main_v12 main_v13
  let main_v15 : FVec F S8x128x128 .f32 := Host.absf main_arg4
  let main_cst_3 : FVec F S_ .f32 := constant S_ .f32 0x7F800000#32
  let main_v16 : FVec F S8x128x128 .f32 := broadcastInDim S8x128x128 ![] bcast_S_S8x128x128 main_cst_3
  let main_v17 : IVec S8x128x128 1 := cmpf .olt main_v15 main_v16
  let main_v18 : FVec F S128x512 .f32 := Host.absf main_arg5
  fn_part1 (F := F) main_v4 main_v8 main_v11 main_v14 main_v17 main_v18
-- ==== Pre_finite_attn.lean ====
abbrev S8192x640 : Shape := ⟨2, ![8192, 640]⟩
abbrev S8192x128 : Shape := ⟨2, ![8192, 128]⟩
abbrev S8 : Shape := ⟨1, ![8]⟩
abbrev S_ : Shape := ⟨0, ![]⟩

class Facts : Prop where
  bitsLt_bf16_f32 : FTy.bits .bf16 < FTy.bits .f32
  bcast_S_S8192x640 : S_.BroadcastsInDim S8192x640 (![] : Fin 0 → Fin S8192x640.rank)
  bcast_S_S8 : S_.BroadcastsInDim S8 (![] : Fin 0 → Fin S8.rank)

variable [Facts]

def fn {F : FTy → Type} [FloatOps F] (main_arg0 : FVec F S8192x640 .bf16) (main_arg1 : FVec F S8192x128 .bf16) (main_arg2 : FVec F S8 .f32) : IVec S8192x640 1 × IVec S8 1 :=
  let main_v0 : FVec F S8192x640 .f32 := (extf .f32 · bitsLt_bf16_f32) main_arg0
  let main_v1 : FVec F S8192x640 .f32 := Host.absf main_v0
  let main_cst : FVec F S_ .f32 := constant S_ .f32 0x7F800000#32
  let main_v2 : FVec F S8192x640 .f32 := broadcastInDim S8192x640 ![] bcast_S_S8192x640 main_cst
  let main_v3 : IVec S8192x640 1 := cmpf .olt main_v1 main_v2
  let main_cst_0 : FVec F S_ .f32 := constant S_ .f32 0x7F800000#32
  let main_v4 : FVec F S8 .f32 := broadcastInDim S8 ![] bcast_S_S8 main_cst_0
  let main_v5 : IVec S8 1 := cmpf .olt main_arg2 main_v4
  (main_v3, main_v5)
-- ==== Pre_finite_back.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  bitsLt_bf16_f32 : FTy.bits .bf16 < FTy.bits .f32
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x2816 .f32) (main_arg1 : FVec F S8192x2816 .f32) (main_arg2 : FVec F S2816x1024 .bf16) (main_arg3 : FVec F S8192x1024 .f32) : IVec S8192x2816 1 × IVec S2816x1024 1 × IVec S8192x1024 1 :=
  let main_v0 : FVec F S8192x2816 .f32 := Host.absf main_arg1
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_v3 : FVec F S2816x1024 .f32 := (extf .f32 · bitsLt_bf16_f32) main_arg2
  let main_v4 : FVec F S2816x1024 .f32 := Host.absf main_v3
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S8192x1024 .f32 := Host.absf main_arg3
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  (main_v2, main_v6, main_v9)
-- ==== Pre_finite_up.lean ====
abbrev S8192x1024 : Shape := ⟨2, ![8192, 1024]⟩
abbrev S1024x2816 : Shape := ⟨2, ![1024, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024x2816 : S_.BroadcastsInDim S1024x2816 (![] : Fin 0 → Fin S1024x2816.rank)

variable [Facts]

def fn {F : FTy → Type} [FloatOps F] (main_arg0 : FVec F S8192x1024 .bf16) (main_arg1 : FVec F S1024x2816 .bf16) (main_arg2 : FVec F S1024x2816 .bf16) : IVec S8192x1024 1 × IVec S1024x2816 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1024x2816 .f32 := (extf .f32 · bitsLt_bf16_f32) main_arg2
  let main_v5 : FVec F S1024x2816 .f32 := Host.absf main_v4
  let main_cst_0 : FVec F S_ .f32 := constant S_ .f32 0x7F800000#32
  let main_v6 : FVec F S1024x2816 .f32 := broadcastInDim S1024x2816 ![] bcast_S_S1024x2816 main_cst_0
  let main_v7 : IVec S1024x2816 1 := cmpf .olt main_v5 main_v6
  (main_v3, main_v7)
-- ==== Kernel.lean ====
abbrev S8192x1024 : Shape := ⟨2, ![8192, 1024]⟩
abbrev S1x512 : Shape := ⟨2, ![1, 512]⟩
abbrev S8x128x128 : Shape := ⟨3, ![8, 128, 128]⟩
abbrev S128x512 : Shape := ⟨2, ![128, 512]⟩
abbrev S8x512 : Shape := ⟨2, ![8, 512]⟩
abbrev S512x1024 : Shape := ⟨2, ![512, 1024]⟩
abbrev S512x512 : Shape := ⟨2, ![512, 512]⟩
abbrev S128x128 : Shape := ⟨2, ![128, 128]⟩
abbrev S1x128x128 : Shape := ⟨3, ![1, 128, 128]⟩
abbrev S512 : Shape := ⟨1, ![512]⟩
abbrev S512x1 : Shape := ⟨2, ![512, 1]⟩
abbrev S128x64 : Shape := ⟨2, ![128, 64]⟩

abbrev nBuf : Space → Nat
  | .hbm => 11
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x512, .f32⟩
  | .hbm, ⟨3, _⟩ => ⟨S1x512, .f32⟩
  | .hbm, ⟨4, _⟩ => ⟨S8x128x128, .f32⟩
  | .hbm, ⟨5, _⟩ => ⟨S128x512, .f32⟩
  | .hbm, ⟨6, _⟩ => ⟨S8192x1024, .bf16⟩
  | .hbm, ⟨7, _⟩ => ⟨S8x128x128, .f32⟩
  | .hbm, ⟨8, _⟩ => ⟨S128x512, .f32⟩
  | .hbm, ⟨9, _⟩ => ⟨S8x512, .f32⟩
  | .hbm, ⟨10, _⟩ => ⟨S8x512, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S8x128x128, .f32⟩
  | .local _ .vmem, ⟨7, _⟩ => ⟨S128x512, .f32⟩
  | .local _ .vmem, ⟨8, _⟩ => ⟨S512x1024, .bf16⟩
  | .local _ .vmem, ⟨9, _⟩ => ⟨S512x1024, .bf16⟩
  | .local _ .vmem, ⟨10, _⟩ => ⟨S8x128x128, .f32⟩
  | .local _ .vmem, ⟨11, _⟩ => ⟨S128x512, .f32⟩
  | .local _ .vmem, ⟨12, _⟩ => ⟨S8x512, .f32⟩
  | .local _ .vmem, ⟨13, _⟩ => ⟨S8x512, .f32⟩
  | .local _ .vmem, ⟨14, _⟩ => ⟨S8x128x128, .bf16⟩
  | .local _ .vmem, ⟨15, _⟩ => ⟨S8x128x128, .bf16⟩
  | .local _ .vmem, ⟨16, _⟩ => ⟨S512x512, .f32⟩
  | .local _ .vmem, ⟨17, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== ReferenceIdeal.lean ====
abbrev S8192x1024 : Shape := ⟨2, ![8192, 1024]⟩
abbrev S1x512 : Shape := ⟨2, ![1, 512]⟩
abbrev S8x128x128 : Shape := ⟨3, ![8, 128, 128]⟩
abbrev S128x512 : Shape := ⟨2, ![128, 512]⟩
abbrev S_ : Shape := ⟨0, ![]⟩
abbrev S8192x512 : Shape := ⟨2, ![8192, 512]⟩
abbrev S8192 : Shape := ⟨1, ![8192]⟩
abbrev S8192x1 : Shape := ⟨2, ![8192, 1]⟩
abbrev S1x64x128x8x64 : Shape := ⟨5, ![1, 64, 128, 8, 64]⟩
abbrev S128x128 : Shape := ⟨2, ![128, 128]⟩
abbrev S1x128x128 : Shape := ⟨3, ![1, 128, 128]⟩
abbrev S8x1x64x64x128 : Shape := ⟨5, ![8, 1, 64, 64, 128]⟩
abbrev S64x128x512 : Shape := ⟨3, ![64, 128, 512]⟩
abbrev S1x128x512 : Shape := ⟨3, ![1, 128, 512]⟩
abbrev S512 : Shape := ⟨1, ![512]⟩
abbrev S8x512 : Shape := ⟨2, ![8, 512]⟩

abbrev nBuf : Space → Nat
  | .hbm => 174
  | .vmem => 0
  | .smem => 0
  | _ => 0

abbrev hbmTy0_0 (i : Nat) : BufTy := match i % 128 with
  | 0 => ⟨S8192x1024, .bf16⟩
  | 1 => ⟨S8192x1024, .bf16⟩
  | 2 => ⟨S1x512, .f32⟩
  | 3 => ⟨S1x512, .f32⟩
  | 4 => ⟨S8x128x128, .f32⟩
  | 5 => ⟨S128x512, .f32⟩
  | 6 => ⟨S8192x1024, .f32⟩
  | 7 => ⟨S_, .f32⟩
  | 8 => ⟨S_, .f32⟩
  | 9 => ⟨S_, .f32⟩
  | 10 => ⟨S8192x1024, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S8192x1024, .f32⟩
  | 37 => ⟨S8192x512, .f32⟩
  | 38 => ⟨S8192x512, .f32⟩
  | 39 => ⟨S_, .f32⟩
  | 40 => ⟨S8192, .f32⟩
  | 41 => ⟨S8192x1, .f32⟩
  | 42 => ⟨S_, .f32⟩
  | 43 => ⟨S8192x1, .f32⟩
  | 44 => ⟨S8192x1, .f32⟩
  | 45 => ⟨S8192x512, .f32⟩
  | 46 => ⟨S8192x512, .f32⟩
  | 47 => ⟨S8192x512, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x512, .f32⟩
  | 63 => ⟨S8192x512, .f32⟩
  | 64 => ⟨S8192x512, .f32⟩
  | 65 => ⟨S8192x512, .f32⟩
  | 66 => ⟨S8192x512, .f32⟩
  | 67 => ⟨S8192x512, .f32⟩
  | 68 => ⟨S1x64x128x8x64, .f32⟩
  | 69 => ⟨S_, .i1⟩
  | 70 => ⟨S128x128, .i1⟩
  | 71 => ⟨S128x128, .i32⟩
  | 72 => ⟨S_, .i32⟩
  | 73 => ⟨S128x128, .i32⟩
  | 74 => ⟨S128x128, .i32⟩
  | 75 => ⟨S128x128, .i32⟩
  | 76 => ⟨S128x128, .i1⟩
  | 77 => ⟨S_, .i1⟩
  | 78 => ⟨S128x128, .i1⟩
  | 79 => ⟨S128x128, .i1⟩
  | 80 => ⟨S1x128x128, .i1⟩
  | 81 => ⟨S_, .i32⟩
  | 82 => ⟨S_, .f32⟩
  | 83 => ⟨S8x128x128, .i1⟩
  | 84 => ⟨S8x128x128, .f32⟩
  | 85 => ⟨S8x128x128, .f32⟩
  | 86 => ⟨S_, .f32⟩
  | 87 => ⟨S8x128x128, .f32⟩
  | 88 => ⟨S8x1x64x64x128, .f32⟩
  | 89 => ⟨S1x64x128x8x64, .f32⟩
  | 90 => ⟨S64x128x512, .f32⟩
  | 91 => ⟨S1x128x512, .f32⟩
  | 92 => ⟨S64x128x512, .f32⟩
  | 93 => ⟨S64x128x512, .f32⟩
  | 94 => ⟨S8192x512, .f32⟩
  | 95 => ⟨S8192x512, .f32⟩
  | 96 => ⟨S8192x512, .bf16⟩
  | 97 => ⟨S8192x512, .f32⟩
  | 98 => ⟨S8192x512, .f32⟩
  | 99 => ⟨S8192x512, .f32⟩
  | 100 => ⟨S64x128x512, .f32⟩
  | 101 => ⟨S_, .f32⟩
  | 102 => ⟨S128x512, .f32⟩
  | 103 => ⟨S1x128x512, .f32⟩
  | 104 => ⟨S_, .f32⟩
  | 105 => ⟨S128x512, .f32⟩
  | 106 => ⟨S1x64x128x8x64, .f32⟩
  | 107 => ⟨S8x1x64x64x128, .f32⟩
  | 108 => ⟨S8x128x128, .f32⟩
  | 109 => ⟨S8x1x64x64x128, .f32⟩
  | 110 => ⟨S1x64x128x8x64, .f32⟩
  | 111 => ⟨S_, .f32⟩
  | 112 => ⟨S8x128x128, .f32⟩
  | 113 => ⟨S8x128x128, .f32⟩
  | 114 => ⟨S8192x512, .f32⟩
  | 115 => ⟨S_, .f32⟩
  | 116 => ⟨S512, .f32⟩
  | 117 => ⟨S1x512, .f32⟩
  | 118 => ⟨S8192x512, .f32⟩
  | 119 => ⟨S_, .f32⟩
  | 120 => ⟨S512, .f32⟩
  | 121 => ⟨S1x512, .f32⟩
  | 122 => ⟨S8192x512, .f32⟩
  | 123 => ⟨S8192x512, .f32⟩
  | 124 => ⟨S8192x512, .f32⟩
  | 125 => ⟨S_, .f32⟩
  | 126 => ⟨S8192, .f32⟩
  | 127 => ⟨S8192x1, .f32⟩
  | _ => ⟨S8192x1024, .bf16⟩

abbrev hbmTy0_1 (i : Nat) : BufTy := match i % 128 with
  | 0 => ⟨S8192x512, .f32⟩
  | 1 => ⟨S8192x512, .f32⟩
  | 2 => ⟨S8192x1, .f32⟩
  | 3 => ⟨S_, .f32⟩
  | 4 => ⟨S8192x1, .f32⟩
  | 5 => ⟨S8192x1, .f32⟩
  | 6 => ⟨S_, .f32⟩
  | 7 => ⟨S8192, .f32⟩
  | 8 => ⟨S8192x512, .f32⟩
  | 9 => ⟨S8192x512, .f32⟩
  | 10 => ⟨S8192x512, .f32⟩
  | 11 => ⟨S8192x512, .f32⟩
  | 12 => ⟨S8192x512, .f32⟩
  | 13 => ⟨S8192x512, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192, .f32⟩
  | 22 => ⟨S8192x512, .f32⟩
  | 23 => ⟨S8192x512, .f32⟩
  | 24 => ⟨S8192x1024, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S8192x1024, .bf16⟩
  | 40 => ⟨S_, .i32⟩
  | 41 => ⟨S_, .f32⟩
  | 42 => ⟨S8x512, .f32⟩
  | 43 => ⟨S_, .i32⟩
  | 44 => ⟨S_, .f32⟩
  | 45 => ⟨S8x512, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_cst_11 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_12 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c : Ref sig .tc := ⟨.hbm, 69, rfl⟩
abbrev main_v49 : Ref sig .tc := ⟨.hbm, 70, rfl⟩
abbrev main_call0_v0 : Ref sig .tc := ⟨.hbm, 71, rfl⟩
abbrev main_call0_c : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_c_0 : Ref sig .tc := ⟨.hbm, 77, rfl⟩
abbrev main_call0_v5 : Ref sig .tc := ⟨.hbm, 78, rfl⟩
abbrev main_v50 : Ref sig .tc := ⟨.hbm, 79, rfl⟩
abbrev main_v51 : Ref sig .tc := ⟨.hbm, 80, rfl⟩
abbrev main_c_13 : Ref sig .tc := ⟨.hbm, 81, rfl⟩
abbrev main_call1_v0 : Ref sig .tc := ⟨.hbm, 82, rfl⟩
abbrev main_v52_1 : Ref sig .tc := ⟨.hbm, 83, rfl⟩
abbrev main_call1_v2 : Ref sig .tc := ⟨.hbm, 84, rfl⟩
abbrev main_v52_0 : Ref sig .tc := ⟨.hbm, 85, rfl⟩
abbrev main_call1_cst : Ref sig .tc := ⟨.hbm, 86, rfl⟩
abbrev main_v52_2 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_14 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_call2_cst : Ref sig .tc := ⟨.hbm, 111, rfl⟩
abbrev main_call2_v0 : Ref sig .tc := ⟨.hbm, 112, rfl⟩
abbrev main_v74 : Ref sig .tc := ⟨.hbm, 113, rfl⟩
abbrev main_v75 : Ref sig .tc := ⟨.hbm, 114, rfl⟩
abbrev main_cst_16 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_17 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_18 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_19 : Ref sig .tc := ⟨.hbm, 131, rfl⟩
abbrev main_v89 : Ref sig .tc := ⟨.hbm, 132, rfl⟩
abbrev main_v90 : Ref sig .tc := ⟨.hbm, 133, rfl⟩
abbrev main_cst_20 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_21 : Ref sig .tc := ⟨.hbm, 142, rfl⟩
abbrev main_v98 : Ref sig .tc := ⟨.hbm, 143, rfl⟩
abbrev main_v99 : Ref sig .tc := ⟨.hbm, 144, rfl⟩
abbrev main_cst_22 : Ref sig .tc := ⟨.hbm, 145, rfl⟩
abbrev main_v100 : Ref sig .tc := ⟨.hbm, 146, rfl⟩
abbrev main_v101 : Ref sig .tc := ⟨.hbm, 147, rfl⟩
abbrev main_cst_23 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_24 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_cst_25 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_c_26 : Ref sig .tc := ⟨.hbm, 168, rfl⟩
abbrev main_call3_v0 : Ref sig .tc := ⟨.hbm, 169, rfl⟩
abbrev main_v119 : Ref sig .tc := ⟨.hbm, 170, rfl⟩
abbrev main_c_27 : Ref sig .tc := ⟨.hbm, 171, rfl⟩
abbrev main_call4_v0 : Ref sig .tc := ⟨.hbm, 172, rfl⟩
abbrev main_v120 : Ref sig .tc := ⟨.hbm, 173, rfl⟩

abbrev nD : Nat := 1
abbrev τ : Topo := Topo.v7x

variable {F : FTy → Type} [FloatOps F]
-- ==== UpBack.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S8x1024 : Shape := ⟨2, ![8, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .bf16⟩
  | .hbm, ⟨3, _⟩ => ⟨S1024x2816, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== UpBackRefIdeal.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .bf16⟩
  | .hbm, ⟨3, _⟩ => ⟨S1024x2816, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1024x2816, .f32⟩
  | .hbm, ⟨27, _⟩ => ⟨S8192x2816, .f32⟩
  | .hbm, ⟨28, _⟩ => ⟨S1024x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .i32⟩
  | .hbm, ⟨60, _⟩ => ⟨S_, .f32⟩
  | .hbm, ⟨61, _⟩ => ⟨S8x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_call0_v0 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== UpWeights.lean ====
abbrev S8192x1024 : Shape := ⟨2, ![8192, 1024]⟩
abbrev S8192x2816 : Shape := ⟨2, ![8192, 2816]⟩
abbrev S1024x2816 : Shape := ⟨2, ![1024, 2816]⟩
abbrev S2048x512 : Shape := ⟨2, ![2048, 512]⟩
abbrev S2048x1408 : Shape := ⟨2, ![2048, 1408]⟩
abbrev S512x1408 : Shape := ⟨2, ![512, 1408]⟩
abbrev S512x2048 : Shape := ⟨2, ![512, 2048]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S1024x2816, .bf16⟩
  | .hbm, ⟨4, _⟩ => ⟨S1024x2816, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .f32⟩
  | .local _ .vmem, ⟨11, _⟩ => ⟨S512x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== UpWeightsRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x1024, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S2816x1024, .f32⟩
  | .hbm, ⟨12, _⟩ => ⟨S1024x2816, .f32⟩
  | .hbm, ⟨13, _⟩ => ⟨S2816x1024, .f32⟩
  | .hbm, ⟨14, _⟩ => ⟨S1024x2816, .f32⟩
  | .hbm, ⟨15, _⟩ => ⟨S1024x2816, .bf16⟩
  | .hbm, ⟨16, _⟩ => ⟨S1024x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== DownWeight.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWeightRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownBack.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 30
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .bf16⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .bf16⟩
  | .hbm, ⟨27, _⟩ => ⟨S8192x2816, .bf16⟩
  | .hbm, ⟨28, _⟩ => ⟨S8192x2816, .bf16⟩
  | .hbm, ⟨29, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8_0 : Ref sig .tc := ⟨.hbm, 28, rfl⟩
abbrev main_v8_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownBackRefIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .bf16⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S2816x1024, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .bf16⟩
  | .hbm, ⟨28, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== GateUp.lean ====
abbrev S8192x1024 : Shape := ⟨2, ![8192, 1024]⟩
abbrev S1024x2816 : Shape := ⟨2, ![1024, 2816]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpRefIdeal.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S8192x1024, .f32⟩
  | .hbm, ⟨7, _⟩ => ⟨S1024x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S_, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .bf16⟩
  | .hbm, ⟨32, _⟩ => ⟨S8192x2816, .bf16⟩
  | .hbm, ⟨33, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024x2816 : Shape := ⟨2, ![1024, 2816]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== OdInBack.lean ====
abbrev S8192x2560 : Shape := ⟨2, ![8192, 2560]⟩
abbrev S1024x2560 : Shape := ⟨2, ![1024, 2560]⟩
abbrev S8192x1024 : Shape := ⟨2, ![8192, 1024]⟩
abbrev S1x1024 : Shape := ⟨2, ![1, 1024]⟩
abbrev S8x1024 : Shape := ⟨2, ![8, 1024]⟩
abbrev S512x2560 : Shape := ⟨2, ![512, 2560]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x2560, .bf16⟩
  | .hbm, ⟨1, _⟩ => ⟨S1024x2560, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8x1024, .f32⟩
  | .local _ .vmem, ⟨0, _⟩ => ⟨S512x2560, .bf16⟩
  | .local _ .vmem, ⟨1, _⟩ => ⟨S512x2560, .bf16⟩
  | .local _ .vmem, ⟨2, _⟩ => ⟨S1024x2560, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OdInBackIdeal.lean ====
abbrev S8192x2560 : Shape := ⟨2, ![8192, 2560]⟩
abbrev S1024x2560 : Shape := ⟨2, ![1024, 2560]⟩
abbrev S8192x1024 : Shape := ⟨2, ![8192, 1024]⟩
abbrev S1x1024 : Shape := ⟨2, ![1, 1024]⟩
abbrev S8x1024 : Shape := ⟨2, ![8, 1024]⟩
abbrev S512x2560 : Shape := ⟨2, ![512, 2560]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x2560, .bf16⟩
  | .hbm, ⟨1, _⟩ => ⟨S1024x2560, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8x1024, .f32⟩
  | .local _ .vmem, ⟨0, _⟩ => ⟨S512x2560, .bf16⟩
  | .local _ .vmem, ⟨1, _⟩ => ⟨S512x2560, .bf16⟩
  | .local _ .vmem, ⟨2, _⟩ => ⟨S1024x2560, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OdInBackRefIdeal.lean ====
abbrev S8192x2560 : Shape := ⟨2, ![8192, 2560]⟩
abbrev S1024x2560 : Shape := ⟨2, ![1024, 2560]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x1024 : Shape := ⟨2, ![8, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S1024x2560, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x2560, .f32⟩
  | .hbm, ⟨25, _⟩ => ⟨S8192x2560, .f32⟩
  | .hbm, ⟨26, _⟩ => ⟨S8192x2560, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .i32⟩
  | .hbm, ⟨53, _⟩ => ⟨S_, .f32⟩
  | .hbm, ⟨54, _⟩ => ⟨S8x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_call0_v0 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== EvInBack.lean ====
abbrev S8192x1792 : Shape := ⟨2, ![8192, 1792]⟩
abbrev S1024x1792 : Shape := ⟨2, ![1024, 1792]⟩
abbrev S8192x1024 : Shape := ⟨2, ![8192, 1024]⟩
abbrev S1x1024 : Shape := ⟨2, ![1, 1024]⟩
abbrev S8x1024 : Shape := ⟨2, ![8, 1024]⟩
abbrev S512x1792 : Shape := ⟨2, ![512, 1792]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1792, .bf16⟩
  | .hbm, ⟨1, _⟩ => ⟨S1024x1792, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8x1024, .f32⟩
  | .local _ .vmem, ⟨0, _⟩ => ⟨S512x1792, .bf16⟩
  | .local _ .vmem, ⟨1, _⟩ => ⟨S512x1792, .bf16⟩
  | .local _ .vmem, ⟨2, _⟩ => ⟨S1024x1792, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== EvInBackRefIdeal.lean ====
abbrev S8192x1792 : Shape := ⟨2, ![8192, 1792]⟩
abbrev S1024x1792 : Shape := ⟨2, ![1024, 1792]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x1024 : Shape := ⟨2, ![8, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S1024x1792, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x1792, .f32⟩
  | .hbm, ⟨25, _⟩ => ⟨S8192x1792, .f32⟩
  | .hbm, ⟨26, _⟩ => ⟨S8192x1792, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .i32⟩
  | .hbm, ⟨53, _⟩ => ⟨S_, .f32⟩
  | .hbm, ⟨54, _⟩ => ⟨S8x1024, .f32⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_call0_v0 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== OdInWeight.lean ====
abbrev S8192x1024 : Shape := ⟨2, ![8192, 1024]⟩
abbrev S8192x2560 : Shape := ⟨2, ![8192, 2560]⟩
abbrev S1024x2560 : Shape := ⟨2, ![1024, 2560]⟩
abbrev S2048x1024 : Shape := ⟨2, ![2048, 1024]⟩
abbrev S2048x1280 : Shape := ⟨2, ![2048, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S1024x2560, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdInWeightIdeal.lean ====
abbrev S8192x1024 : Shape := ⟨2, ![8192, 1024]⟩
abbrev S8192x2560 : Shape := ⟨2, ![8192, 2560]⟩
abbrev S1024x2560 : Shape := ⟨2, ![1024, 2560]⟩
abbrev S2048x1024 : Shape := ⟨2, ![2048, 1024]⟩
abbrev S2048x1280 : Shape := ⟨2, ![2048, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S1024x2560, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdInWeightRefIdeal.lean ====
abbrev S8192x1024 : Shape := ⟨2, ![8192, 1024]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S_, .f32⟩
  | .hbm, ⟨3, _⟩ => ⟨S1024x2560, .f32⟩
  | .hbm, ⟨4, _⟩ => ⟨S8192x1024, .f32⟩
  | .hbm, ⟨5, _⟩ => ⟨S8192x2560, .f32⟩
  | .hbm, ⟨6, _⟩ => ⟨S8192x2560, .f32⟩
  | .hbm, ⟨7, _⟩ => ⟨S2560x1024, .f32⟩
  | .hbm, ⟨8, _⟩ => ⟨S1024x2560, .f32⟩
  | .hbm, ⟨9, _⟩ => ⟨S1024x2560, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== EvInWeight.lean ====
abbrev S8192x1024 : Shape := ⟨2, ![8192, 1024]⟩
abbrev S8192x1792 : Shape := ⟨2, ![8192, 1792]⟩
abbrev S1024x1792 : Shape := ⟨2, ![1024, 1792]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1792, .bf16⟩
  | .hbm, ⟨2, _⟩ => ⟨S1024x1792, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvInWeightRefIdeal.lean ====
abbrev S8192x1024 : Shape := ⟨2, ![8192, 1024]⟩
abbrev S8192x1792 : Shape := ⟨2, ![8192, 1792]⟩
abbrev S_ : Shape := ⟨0, ![]⟩
abbrev S1024x1792 : Shape := ⟨2, ![1024, 1792]⟩
abbrev S1792x1024 : Shape := ⟨2, ![1792, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1792, .bf16⟩
  | .hbm, ⟨2, _⟩ => ⟨S_, .f32⟩
  | .hbm, ⟨3, _⟩ => ⟨S1024x1792, .f32⟩
  | .hbm, ⟨4, _⟩ => ⟨S8192x1024, .f32⟩
  | .hbm, ⟨5, _⟩ => ⟨S8192x1792, .f32⟩
  | .hbm, ⟨6, _⟩ => ⟨S8192x1792, .f32⟩
  | .hbm, ⟨7, _⟩ => ⟨S1792x1024, .f32⟩
  | .hbm, ⟨8, _⟩ => ⟨S1024x1792, .f32⟩
  | .hbm, ⟨9, _⟩ => ⟨S1024x1792, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutWeight.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWeightRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutBack.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutBackRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OdOutBack.lean ====
abbrev S8192x1024 : Shape := ⟨2, ![8192, 1024]⟩
abbrev S1024x1024 : Shape := ⟨2, ![1024, 1024]⟩
abbrev S2048x2048 : Shape := ⟨2, ![2048, 2048]⟩
abbrev S512x8192 : Shape := ⟨2, ![512, 8192]⟩
abbrev S512x1024 : Shape := ⟨2, ![512, 1024]⟩
abbrev S128x2048 : Shape := ⟨2, ![128, 2048]⟩
abbrev S32x8192 : Shape := ⟨2, ![32, 8192]⟩
abbrev S512x512 : Shape := ⟨2, ![512, 512]⟩
abbrev S256x256 : Shape := ⟨2, ![256, 256]⟩
abbrev S256x512 : Shape := ⟨2, ![256, 512]⟩
abbrev S64x512 : Shape := ⟨2, ![64, 512]⟩
abbrev S64x2048 : Shape := ⟨2, ![64, 2048]⟩
abbrev S16x512 : Shape := ⟨2, ![16, 512]⟩
abbrev S16x8192 : Shape := ⟨2, ![16, 8192]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .hbm, ⟨3, _⟩ => ⟨S2048x2048, .bf16⟩
  | .hbm, ⟨4, _⟩ => ⟨S512x8192, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S128x2048, .bf16⟩
  | .local _ .vmem, ⟨6, _⟩ => ⟨S128x2048, .bf16⟩
  | .local _ .vmem, ⟨7, _⟩ => ⟨S32x8192, .bf16⟩
  | .local _ .vmem, ⟨8, _⟩ => ⟨S32x8192, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S32x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== OdOutBackRefIdeal.lean ====
abbrev S8192x1024 : Shape := ⟨2, ![8192, 1024]⟩
abbrev S1024x1024 : Shape := ⟨2, ![1024, 1024]⟩
abbrev S_ : Shape := ⟨0, ![]⟩
abbrev S8192x512 : Shape := ⟨2, ![8192, 512]⟩
abbrev S2048x2048 : Shape := ⟨2, ![2048, 2048]⟩
abbrev S512x8192 : Shape := ⟨2, ![512, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S8192x512, .bf16⟩
  | .hbm, ⟨9, _⟩ => ⟨S2048x2048, .bf16⟩
  | .hbm, ⟨10, _⟩ => ⟨S512x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutProj.lean ====
abbrev S8192x512 : Shape := ⟨2, ![8192, 512]⟩
abbrev S1024x1024 : Shape := ⟨2, ![1024, 1024]⟩
abbrev S8192x1024 : Shape := ⟨2, ![8192, 1024]⟩
abbrev S1x1024 : Shape := ⟨2, ![1, 1024]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S8192x512 : Shape := ⟨2, ![8192, 512]⟩
abbrev S1024x1024 : Shape := ⟨2, ![1024, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S8192x1024, .bf16⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== LastDown.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LastDownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== EvInProj.lean ====
abbrev S8192x1024 : Shape := ⟨2, ![8192, 1024]⟩
abbrev S1024x1792 : Shape := ⟨2, ![1024, 1792]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S128 : Shape := ⟨1, ![128]⟩
abbrev S1x128 : Shape := ⟨2, ![1, 128]⟩
abbrev S128x1 : Shape := ⟨2, ![128, 1]⟩
abbrev S8192x128 : Shape := ⟨2, ![8192, 128]⟩
abbrev S8192x640 : Shape := ⟨2, ![8192, 640]⟩
abbrev S8192x512 : Shape := ⟨2, ![8192, 512]⟩
abbrev S512x1024 : Shape := ⟨2, ![512, 1024]⟩
abbrev S512x128 : Shape := ⟨2, ![512, 128]⟩
abbrev S512x640 : Shape := ⟨2, ![512, 640]⟩
abbrev S512x512 : Shape := ⟨2, ![512, 512]⟩
abbrev S512x1792 : Shape := ⟨2, ![512, 1792]⟩

abbrev nBuf : Space → Nat
  | .hbm => 128
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S1024x1792, .bf16⟩
  | .hbm, ⟨2, _⟩ => ⟨S8, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8192, .i32⟩
  | .hbm, ⟨11, _⟩ => ⟨S8192, .f32⟩
  | .hbm, ⟨12, _⟩ => ⟨S8192x1, .f32⟩
  | .hbm, ⟨13, _⟩ => ⟨S1x8, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S128, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .i32⟩
  | .hbm, ⟨32, _⟩ => ⟨S128, .i32⟩
  | .hbm, ⟨33, _⟩ => ⟨S128, .i1⟩
  | .hbm, ⟨34, _⟩ => ⟨S_, .i32⟩
  | .hbm, ⟨35, _⟩ => ⟨S_, .i1⟩
  | .hbm, ⟨36, _⟩ => ⟨S128, .i1⟩
  | .hbm, ⟨37, _⟩ => ⟨S128, .i1⟩
  | .hbm, ⟨38, _⟩ => ⟨S128, .i1⟩
  | .hbm, ⟨39, _⟩ => ⟨S128, .i32⟩
  | .hbm, ⟨40, _⟩ => ⟨S128, .i32⟩
  | .hbm, ⟨41, _⟩ => ⟨S128, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S128, .i32⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i1⟩
  | .hbm, ⟨53, _⟩ => ⟨S_, .i32⟩
  | .hbm, ⟨54, _⟩ => ⟨S128, .i32⟩
  | .hbm, ⟨55, _⟩ => ⟨S128, .i1⟩
  | .hbm, ⟨56, _⟩ => ⟨S_, .i32⟩
  | .hbm, ⟨57, _⟩ => ⟨S_, .i1⟩
  | .hbm, ⟨58, _⟩ => ⟨S128, .i1⟩
  | .hbm, ⟨59, _⟩ => ⟨S128, .i1⟩
  | .hbm, ⟨60, _⟩ => ⟨S128, .i1⟩
  | .hbm, ⟨61, _⟩ => ⟨S128, .i32⟩
  | .hbm, ⟨62, _⟩ => ⟨S128, .i32⟩
  | .hbm, ⟨63, _⟩ => ⟨S128, .i32⟩
  | .hbm, ⟨64, _⟩ => ⟨S1x128, .i32⟩
  | .hbm, ⟨65, _⟩ => ⟨S_, .i32⟩
  | .hbm, ⟨66, _⟩ => ⟨S1x128, .i32⟩
  | .hbm, ⟨67, _⟩ => ⟨S1x128, .i1⟩
  | .hbm, ⟨68, _⟩ => ⟨S_, .i32⟩
  | .hbm, ⟨69, _⟩ => ⟨S128, .i32⟩
  | .hbm, ⟨70, _⟩ => ⟨S128, .i1⟩
  | .hbm, ⟨71, _⟩ => ⟨S_, .i32⟩
  | .hbm, ⟨72, _⟩ => ⟨S128, .i32⟩
  | .hbm, ⟨73, _⟩ => ⟨S128, .i32⟩
  | .hbm, ⟨74, _⟩ => ⟨S128, .i32⟩
  | .hbm, ⟨75, _⟩ => ⟨S128x1, .i32⟩
  | .hbm, ⟨76, _⟩ => ⟨S8192x128, .f32⟩
  | .hbm, ⟨77, _⟩ => ⟨S_, .f32⟩
  | .hbm, ⟨78, _⟩ => ⟨S_, .f32⟩
  | .hbm, ⟨79, _⟩ => ⟨S8192x128, .i1⟩
  | .hbm, ⟨80, _⟩ => ⟨S8192x128, .f32⟩
  | .hbm, ⟨81, _⟩ => ⟨S8192x128, .f32⟩
  | .hbm, ⟨82, _⟩ => ⟨S1x128, .i32⟩
  | .hbm, ⟨83, _⟩ => ⟨S_, .i32⟩
  | .hbm, ⟨84, _⟩ => ⟨S1x128, .i32⟩
  | .hbm, ⟨85, _⟩ => ⟨S1x128, .i1⟩
  | .hbm, ⟨86, _⟩ => ⟨S_, .i32⟩
  | .hbm, ⟨87, _⟩ => ⟨S128, .i32⟩
  | .hbm, ⟨88, _⟩ => ⟨S128, .i1⟩
  | .hbm, ⟨89, _⟩ => ⟨S_, .i32⟩
  | .hbm, ⟨90, _⟩ => ⟨S128, .i32⟩
  | .hbm, ⟨91, _⟩ => ⟨S128, .i32⟩
  | .hbm, ⟨92, _⟩ => ⟨S128, .i32⟩
  | .hbm, ⟨93, _⟩ => ⟨S128x1, .i32⟩
  | .hbm, ⟨94, _⟩ => ⟨S8192x128, .f32⟩
  | .hbm, ⟨95, _⟩ => ⟨S8192x128, .f32⟩
  | .hbm, ⟨96, _⟩ => ⟨S_, .f32⟩
  | .hbm, ⟨97, _⟩ => ⟨S_, .f32⟩
  | .hbm, ⟨98, _⟩ => ⟨S8192x128, .i1⟩
  | .hbm, ⟨99, _⟩ => ⟨S8192x128, .f32⟩
  | .hbm, ⟨100, _⟩ => ⟨S8192x128, .f32⟩
  | .hbm, ⟨101, _⟩ => ⟨S1x128, .i32⟩
  | .hbm, ⟨102, _⟩ => ⟨S_, .i32⟩
  | .hbm, ⟨103, _⟩ => ⟨S1x128, .i32⟩
  | .hbm, ⟨104, _⟩ => ⟨S1x128, .i1⟩
  | .hbm, ⟨105, _⟩ => ⟨S1x128, .i32⟩
  | .hbm, ⟨106, _⟩ => ⟨S_, .i32⟩
  | .hbm, ⟨107, _⟩ => ⟨S1x128, .i32⟩
  | .hbm, ⟨108, _⟩ => ⟨S1x128, .i1⟩
  | .hbm, ⟨109, _⟩ => ⟨S1x128, .i1⟩
  | .hbm, ⟨110, _⟩ => ⟨S_, .i32⟩
  | .hbm, ⟨111, _⟩ => ⟨S128, .i32⟩
  | .hbm, ⟨112, _⟩ => ⟨S128, .i1⟩
  | .hbm, ⟨113, _⟩ => ⟨S_, .i32⟩
  | .hbm, ⟨114, _⟩ => ⟨S128, .i32⟩
  | .hbm, ⟨115, _⟩ => ⟨S128, .i32⟩
  | .hbm, ⟨116, _⟩ => ⟨S128, .i32⟩
  | .hbm, ⟨117, _⟩ => ⟨S128x1, .i32⟩
  | .hbm, ⟨118, _⟩ => ⟨S8192x128, .f32⟩
  | .hbm, ⟨119, _⟩ => ⟨S_, .f32⟩
  | .hbm, ⟨120, _⟩ => ⟨S_, .f32⟩
  | .hbm, ⟨121, _⟩ => ⟨S8192x128, .i1⟩
  | .hbm, ⟨122, _⟩ => ⟨S8192x128, .f32⟩
  | .hbm, ⟨123, _⟩ => ⟨S8192x128, .f32⟩
  | .hbm, ⟨124, _⟩ => ⟨S8192x640, .bf16⟩
  | .hbm, ⟨125, _⟩ => ⟨S8192x128, .bf16⟩
  | .hbm, ⟨126, _⟩ => ⟨S8192x512, .bf16⟩
  | .hbm, ⟨127, _⟩ => ⟨S8192x512, .bf16⟩
  | .local _ .vmem, ⟨0, _⟩ => ⟨S512x1024, .bf16⟩
  | .local _ .vmem, ⟨1, _⟩ => ⟨S512x1024, .bf16⟩
  | .local _ .vmem, ⟨2, _⟩ => ⟨S1024x1792, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x640, .bf16⟩
  | .local _ .vmem, ⟨10, _⟩ => ⟨S512x640, .bf16⟩
  | .local _ .vmem, ⟨11, _⟩ => ⟨S512x128, .bf16⟩
  | .local _ .vmem, ⟨12, _⟩ => ⟨S512x128, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v16 : Ref sig .tc := ⟨.hbm, 41, rfl⟩
abbrev main_c_1 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v17 : Ref sig .tc := ⟨.hbm, 63, rfl⟩
abbrev main_v18 : Ref sig .tc := ⟨.hbm, 64, rfl⟩
abbrev main_c_2 : Ref sig .tc := ⟨.hbm, 65, rfl⟩
abbrev main_v19 : Ref sig .tc := ⟨.hbm, 66, rfl⟩
abbrev main_v20 : Ref sig .tc := ⟨.hbm, 67, rfl⟩
abbrev main_c_3 : Ref sig .tc := ⟨.hbm, 68, rfl⟩
abbrev main_v21 : Ref sig .tc := ⟨.hbm, 69, rfl⟩
abbrev main_v22 : Ref sig .tc := ⟨.hbm, 70, rfl⟩
abbrev main_c_4 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_cst_5 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v28 : Ref sig .tc := ⟨.hbm, 81, rfl⟩
abbrev main_v29 : Ref sig .tc := ⟨.hbm, 82, rfl⟩
abbrev main_c_6 : Ref sig .tc := ⟨.hbm, 83, rfl⟩
abbrev main_v30 : Ref sig .tc := ⟨.hbm, 84, rfl⟩
abbrev main_v31 : Ref sig .tc := ⟨.hbm, 85, rfl⟩
abbrev main_c_7 : Ref sig .tc := ⟨.hbm, 86, rfl⟩
abbrev main_v32 : Ref sig .tc := ⟨.hbm, 87, rfl⟩
abbrev main_v33 : Ref sig .tc := ⟨.hbm, 88, rfl⟩
abbrev main_c_8 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_cst_9 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v40 : Ref sig .tc := ⟨.hbm, 100, rfl⟩
abbrev main_v41 : Ref sig .tc := ⟨.hbm, 101, rfl⟩
abbrev main_c_10 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_c_11 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_c_12 : Ref sig .tc := ⟨.hbm, 110, rfl⟩
abbrev main_v48 : Ref sig .tc := ⟨.hbm, 111, rfl⟩
abbrev main_v49 : Ref sig .tc := ⟨.hbm, 112, rfl⟩
abbrev main_c_13 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_cst_14 : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_v55 : Ref sig .tc := ⟨.hbm, 123, rfl⟩
abbrev main_v56_0 : Ref sig .tc := ⟨.hbm, 124, rfl⟩
abbrev main_v56_1 : Ref sig .tc := ⟨.hbm, 125, rfl⟩
abbrev main_v56_2 : Ref sig .tc := ⟨.hbm, 126, rfl⟩
abbrev main_v56_3 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== EvInProjRefIdeal.lean ====
abbrev S8192x1024 : Shape := ⟨2, ![8192, 1024]⟩
abbrev S1024x1792 : Shape := ⟨2, ![1024, 1792]⟩
abbrev S8192 : Shape := ⟨1, ![8192]⟩
abbrev S8192x1792 : Shape := ⟨2, ![8192, 1792]⟩
abbrev S8192x640 : Shape := ⟨2, ![8192, 640]⟩
abbrev S8192x128 : Shape := ⟨2, ![8192, 128]⟩
abbrev S8192x512 : Shape := ⟨2, ![8192, 512]⟩
abbrev S8192x10x64 : Shape := ⟨3, ![8192, 10, 64]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S8192x10x16 : Shape := ⟨3, ![8192, 10, 16]⟩
abbrev S8192x10x8 : Shape := ⟨3, ![8192, 10, 8]⟩
abbrev S8192x10x48 : Shape := ⟨3, ![8192, 10, 48]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1792, .bf16⟩
  | .hbm, ⟨2, _⟩ => ⟨S8192, .i32⟩
  | .hbm, ⟨3, _⟩ => ⟨S8192x1024, .f32⟩
  | .hbm, ⟨4, _⟩ => ⟨S1024x1792, .f32⟩
  | .hbm, ⟨5, _⟩ => ⟨S8192x1792, .f32⟩
  | .hbm, ⟨6, _⟩ => ⟨S8192x640, .f32⟩
  | .hbm, ⟨7, _⟩ => ⟨S8192x128, .f32⟩
  | .hbm, ⟨8, _⟩ => ⟨S8192x512, .f32⟩
  | .hbm, ⟨9, _⟩ => ⟨S8192x512, .f32⟩
  | .hbm, ⟨10, _⟩ => ⟨S8192x10x64, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8192, .f32⟩
  | .hbm, ⟨20, _⟩ => ⟨S8192x1, .f32⟩
  | .hbm, ⟨21, _⟩ => ⟨S1x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S8192x1x8, .f32⟩
  | .hbm, ⟨27, _⟩ => ⟨S8192x8, .f32⟩
  | .hbm, ⟨28, _⟩ => ⟨S8192x1x8, .f32⟩
  | .hbm, ⟨29, _⟩ => ⟨S8192x10x16, .f32⟩
  | .hbm, ⟨30, _⟩ => ⟨S8192x10x8, .f32⟩
  | .hbm, ⟨31, _⟩ => ⟨S8192x10x8, .f32⟩
  | .hbm, ⟨32, _⟩ => ⟨S8192x10x8, .f32⟩
  | .hbm, ⟨33, _⟩ => ⟨S8192x10x8, .f32⟩
  | .hbm, ⟨34, _⟩ => ⟨S8192x10x8, .f32⟩
  | .hbm, ⟨35, _⟩ => ⟨S8192x10x8, .f32⟩
  | .hbm, ⟨36, _⟩ => ⟨S8192x10x8, .f32⟩
  | .hbm, ⟨37, _⟩ => ⟨S8192x10x8, .f32⟩
  | .hbm, ⟨38, _⟩ => ⟨S8192x10x8, .f32⟩
  | .hbm, ⟨39, _⟩ => ⟨S8192x10x8, .f32⟩
  | .hbm, ⟨40, _⟩ => ⟨S8192x10x8, .f32⟩
  | .hbm, ⟨41, _⟩ => ⟨S8192x10x8, .f32⟩
  | .hbm, ⟨42, _⟩ => ⟨S8192x10x16, .f32⟩
  | .hbm, ⟨43, _⟩ => ⟨S8192x10x48, .f32⟩
  | .hbm, ⟨44, _⟩ => ⟨S8192x10x64, .f32⟩
  | .hbm, ⟨45, _⟩ => ⟨S8192x640, .f32⟩
  | .hbm, ⟨46, _⟩ => ⟨S8192x640, .bf16⟩
  | .hbm, ⟨47, _⟩ => ⟨S8192x128, .bf16⟩
  | .hbm, ⟨48, _⟩ => ⟨S8192x512, .bf16⟩
  | .hbm, ⟨49, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩

abbrev nD : Nat := 1
abbrev τ : Topo := Topo.v7x

variable {F : FTy → Type} [FloatOps F]
-- ==== OdInProj.lean ====
abbrev S8192x1024 : Shape := ⟨2, ![8192, 1024]⟩
abbrev S1024x2560 : Shape := ⟨2, ![1024, 2560]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S128 : Shape := ⟨1, ![128]⟩
abbrev S1x128 : Shape := ⟨2, ![1, 128]⟩
abbrev S128x1 : Shape := ⟨2, ![128, 1]⟩
abbrev S8192x128 : Shape := ⟨2, ![8192, 128]⟩
abbrev S8192x512 : Shape := ⟨2, ![8192, 512]⟩
abbrev S2048x4096 : Shape := ⟨2, ![2048, 4096]⟩
abbrev S2048x2048 : Shape := ⟨2, ![2048, 2048]⟩
abbrev S512x16384 : Shape := ⟨2, ![512, 16384]⟩
abbrev S512x8192 : Shape := ⟨2, ![512, 8192]⟩
abbrev S512x1024 : Shape := ⟨2, ![512, 1024]⟩
abbrev S512x128 : Shape := ⟨2, ![512, 128]⟩
abbrev S512x512 : Shape := ⟨2, ![512, 512]⟩
abbrev S128x4096 : Shape := ⟨2, ![128, 4096]⟩
abbrev S128x2048 : Shape := ⟨2, ![128, 2048]⟩
abbrev S32x16384 : Shape := ⟨2, ![32, 16384]⟩
abbrev S32x8192 : Shape := ⟨2, ![32, 8192]⟩
abbrev S512x2560 : Shape := ⟨2, ![512, 2560]⟩
abbrev S256x256 : Shape := ⟨2, ![256, 256]⟩
abbrev S256x1024 : Shape := ⟨2, ![256, 1024]⟩
abbrev S64x1024 : Shape := ⟨2, ![64, 1024]⟩
abbrev S64x4096 : Shape := ⟨2, ![64, 4096]⟩
abbrev S256x512 : Shape := ⟨2, ![256, 512]⟩
abbrev S64x512 : Shape := ⟨2, ![64, 512]⟩
abbrev S64x2048 : Shape := ⟨2, ![64, 2048]⟩
abbrev S16x1024 : Shape := ⟨2, ![16, 1024]⟩
abbrev S16x16384 : Shape := ⟨2, ![16, 16384]⟩
abbrev S16x512 : Shape := ⟨2, ![16, 512]⟩
abbrev S16x8192 : Shape := ⟨2, ![16, 8192]⟩

abbrev nBuf : Space → Nat
  | .hbm => 131
  | .vmem => 23
  | .smem => 0
  | _ => 0

abbrev hbmTy0_0 (i : Nat) : BufTy := match i % 128 with
  | 0 => ⟨S8192x1024, .bf16⟩
  | 1 => ⟨S1024x2560, .bf16⟩
  | 2 => ⟨S8, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S8192, .i32⟩
  | 11 => ⟨S8192, .f32⟩
  | 12 => ⟨S8192x1, .f32⟩
  | 13 => ⟨S1x8, .f32⟩
  | 14 => ⟨S8192x8, .f32⟩
  | 15 => ⟨S8192x8, .f32⟩
  | 16 => ⟨S8192x8, .f32⟩
  | 17 => ⟨S8192x8, .f32⟩
  | 18 => ⟨S8192x8, .f32⟩
  | 19 => ⟨S128, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S128, .i32⟩
  | 27 => ⟨S128, .i32⟩
  | 28 => ⟨S_, .i32⟩
  | 29 => ⟨S128, .i32⟩
  | 30 => ⟨S128, .i1⟩
  | 31 => ⟨S_, .i32⟩
  | 32 => ⟨S128, .i32⟩
  | 33 => ⟨S128, .i1⟩
  | 34 => ⟨S_, .i32⟩
  | 35 => ⟨S_, .i1⟩
  | 36 => ⟨S128, .i1⟩
  | 37 => ⟨S128, .i1⟩
  | 38 => ⟨S128, .i1⟩
  | 39 => ⟨S128, .i32⟩
  | 40 => ⟨S128, .i32⟩
  | 41 => ⟨S128, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S128, .i32⟩
  | 49 => ⟨S128, .i32⟩
  | 50 => ⟨S_, .i32⟩
  | 51 => ⟨S128, .i32⟩
  | 52 => ⟨S128, .i1⟩
  | 53 => ⟨S_, .i32⟩
  | 54 => ⟨S128, .i32⟩
  | 55 => ⟨S128, .i1⟩
  | 56 => ⟨S_, .i32⟩
  | 57 => ⟨S_, .i1⟩
  | 58 => ⟨S128, .i1⟩
  | 59 => ⟨S128, .i1⟩
  | 60 => ⟨S128, .i1⟩
  | 61 => ⟨S128, .i32⟩
  | 62 => ⟨S128, .i32⟩
  | 63 => ⟨S128, .i32⟩
  | 64 => ⟨S1x128, .i32⟩
  | 65 => ⟨S_, .i32⟩
  | 66 => ⟨S1x128, .i32⟩
  | 67 => ⟨S1x128, .i1⟩
  | 68 => ⟨S_, .i32⟩
  | 69 => ⟨S128, .i32⟩
  | 70 => ⟨S128, .i1⟩
  | 71 => ⟨S_, .i32⟩
  | 72 => ⟨S128, .i32⟩
  | 73 => ⟨S128, .i32⟩
  | 74 => ⟨S128, .i32⟩
  | 75 => ⟨S128x1, .i32⟩
  | 76 => ⟨S8192x128, .f32⟩
  | 77 => ⟨S_, .f32⟩
  | 78 => ⟨S_, .f32⟩
  | 79 => ⟨S8192x128, .i1⟩
  | 80 => ⟨S8192x128, .f32⟩
  | 81 => ⟨S8192x128, .f32⟩
  | 82 => ⟨S1x128, .i32⟩
  | 83 => ⟨S_, .i32⟩
  | 84 => ⟨S1x128, .i32⟩
  | 85 => ⟨S1x128, .i1⟩
  | 86 => ⟨S_, .i32⟩
  | 87 => ⟨S128, .i32⟩
  | 88 => ⟨S128, .i1⟩
  | 89 => ⟨S_, .i32⟩
  | 90 => ⟨S128, .i32⟩
  | 91 => ⟨S128, .i32⟩
  | 92 => ⟨S128, .i32⟩
  | 93 => ⟨S128x1, .i32⟩
  | 94 => ⟨S8192x128, .f32⟩
  | 95 => ⟨S8192x128, .f32⟩
  | 96 => ⟨S_, .f32⟩
  | 97 => ⟨S_, .f32⟩
  | 98 => ⟨S8192x128, .i1⟩
  | 99 => ⟨S8192x128, .f32⟩
  | 100 => ⟨S8192x128, .f32⟩
  | 101 => ⟨S1x128, .i32⟩
  | 102 => ⟨S_, .i32⟩
  | 103 => ⟨S1x128, .i32⟩
  | 104 => ⟨S1x128, .i1⟩
  | 105 => ⟨S1x128, .i32⟩
  | 106 => ⟨S_, .i32⟩
  | 107 => ⟨S1x128, .i32⟩
  | 108 => ⟨S1x128, .i1⟩
  | 109 => ⟨S1x128, .i1⟩
  | 110 => ⟨S_, .i32⟩
  | 111 => ⟨S128, .i32⟩
  | 112 => ⟨S128, .i1⟩
  | 113 => ⟨S_, .i32⟩
  | 114 => ⟨S128, .i32⟩
  | 115 => ⟨S128, .i32⟩
  | 116 => ⟨S128, .i32⟩
  | 117 => ⟨S128x1, .i32⟩
  | 118 => ⟨S8192x128, .f32⟩
  | 119 => ⟨S_, .f32⟩
  | 120 => ⟨S_, .f32⟩
  | 121 => ⟨S8192x128, .i1⟩
  | 122 => ⟨S8192x128, .f32⟩
  | 123 => ⟨S8192x128, .f32⟩
  | 124 => ⟨S8192x1024, .bf16⟩
  | 125 => ⟨S8192x512, .bf16⟩
  | 126 => ⟨S8192x1024, .bf16⟩
  | 127 => ⟨S2048x4096, .bf16⟩
  | _ => ⟨S8192x1024, .bf16⟩

abbrev hbmTy0_1 (i : Nat) : BufTy := match i % 128 with
  | 0 => ⟨S2048x2048, .bf16⟩
  | 1 => ⟨S512x16384, .bf16⟩
  | 2 => ⟨S512x8192, .bf16⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1024x2560, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | .local _ .vmem, ⟨10, _⟩ => ⟨S512x1024, .bf16⟩
  | .local _ .vmem, ⟨11, _⟩ => ⟨S512x512, .bf16⟩
  | .local _ .vmem, ⟨12, _⟩ => ⟨S512x512, .bf16⟩
  | .local _ .vmem, ⟨13, _⟩ => ⟨S512x1024, .bf16⟩
  | .local _ .vmem, ⟨14, _⟩ => ⟨S512x1024, .bf16⟩
  | .local _ .vmem, ⟨15, _⟩ => ⟨S128x4096, .bf16⟩
  | .local _ .vmem, ⟨16, _⟩ => ⟨S128x4096, .bf16⟩
  | .local _ .vmem, ⟨17, _⟩ => ⟨S128x2048, .bf16⟩
  | .local _ .vmem, ⟨18, _⟩ => ⟨S128x2048, .bf16⟩
  | .local _ .vmem, ⟨19, _⟩ => ⟨S32x16384, .bf16⟩
  | .local _ .vmem, ⟨20, _⟩ => ⟨S32x16384, .bf16⟩
  | .local _ .vmem, ⟨21, _⟩ => ⟨S32x8192, .bf16⟩
  | .local _ .vmem, ⟨22, _⟩ => ⟨S32x8192, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v16 : Ref sig .tc := ⟨.hbm, 41, rfl⟩
abbrev main_c_1 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v17 : Ref sig .tc := ⟨.hbm, 63, rfl⟩
abbrev main_v18 : Ref sig .tc := ⟨.hbm, 64, rfl⟩
abbrev main_c_2 : Ref sig .tc := ⟨.hbm, 65, rfl⟩
abbrev main_v19 : Ref sig .tc := ⟨.hbm, 66, rfl⟩
abbrev main_v20 : Ref sig .tc := ⟨.hbm, 67, rfl⟩
abbrev main_c_3 : Ref sig .tc := ⟨.hbm, 68, rfl⟩
abbrev main_v21 : Ref sig .tc := ⟨.hbm, 69, rfl⟩
abbrev main_v22 : Ref sig .tc := ⟨.hbm, 70, rfl⟩
abbrev main_c_4 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_cst_5 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v28 : Ref sig .tc := ⟨.hbm, 81, rfl⟩
abbrev main_v29 : Ref sig .tc := ⟨.hbm, 82, rfl⟩
abbrev main_c_6 : Ref sig .tc := ⟨.hbm, 83, rfl⟩
abbrev main_v30 : Ref sig .tc := ⟨.hbm, 84, rfl⟩
abbrev main_v31 : Ref sig .tc := ⟨.hbm, 85, rfl⟩
abbrev main_c_7 : Ref sig .tc := ⟨.hbm, 86, rfl⟩
abbrev main_v32 : Ref sig .tc := ⟨.hbm, 87, rfl⟩
abbrev main_v33 : Ref sig .tc := ⟨.hbm, 88, rfl⟩
abbrev main_c_8 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_cst_9 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v40 : Ref sig .tc := ⟨.hbm, 100, rfl⟩
abbrev main_v41 : Ref sig .tc := ⟨.hbm, 101, rfl⟩
abbrev main_c_10 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_c_11 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_c_12 : Ref sig .tc := ⟨.hbm, 110, rfl⟩
abbrev main_v48 : Ref sig .tc := ⟨.hbm, 111, rfl⟩
abbrev main_v49 : Ref sig .tc := ⟨.hbm, 112, rfl⟩
abbrev main_c_13 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_cst_14 : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_v55 : Ref sig .tc := ⟨.hbm, 123, rfl⟩
abbrev main_v56_0 : Ref sig .tc := ⟨.hbm, 124, rfl⟩
abbrev main_v56_1 : Ref sig .tc := ⟨.hbm, 125, rfl⟩
abbrev main_v56_2 : Ref sig .tc := ⟨.hbm, 126, rfl⟩
abbrev main_v56_3 : Ref sig .tc := ⟨.hbm, 127, rfl⟩
abbrev main_v56_4 : Ref sig .tc := ⟨.hbm, 128, rfl⟩
abbrev main_v56_5 : Ref sig .tc := ⟨.hbm, 129, rfl⟩
abbrev main_v56_6 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x16384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x8192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OdInProjRefIdeal.lean ====
abbrev S8192x1024 : Shape := ⟨2, ![8192, 1024]⟩
abbrev S1024x2560 : Shape := ⟨2, ![1024, 2560]⟩
abbrev S8192 : Shape := ⟨1, ![8192]⟩
abbrev S8192x2560 : Shape := ⟨2, ![8192, 2560]⟩
abbrev S8192x512 : Shape := ⟨2, ![8192, 512]⟩
abbrev S8192x16x64 : Shape := ⟨3, ![8192, 16, 64]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S8192x16x16 : Shape := ⟨3, ![8192, 16, 16]⟩
abbrev S8192x16x8 : Shape := ⟨3, ![8192, 16, 8]⟩
abbrev S8192x16x48 : Shape := ⟨3, ![8192, 16, 48]⟩
abbrev S2048x4096 : Shape := ⟨2, ![2048, 4096]⟩
abbrev S2048x2048 : Shape := ⟨2, ![2048, 2048]⟩
abbrev S512x16384 : Shape := ⟨2, ![512, 16384]⟩
abbrev S512x8192 : Shape := ⟨2, ![512, 8192]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .bf16⟩
  | .hbm, ⟨2, _⟩ => ⟨S8192, .i32⟩
  | .hbm, ⟨3, _⟩ => ⟨S8192x1024, .f32⟩
  | .hbm, ⟨4, _⟩ => ⟨S1024x2560, .f32⟩
  | .hbm, ⟨5, _⟩ => ⟨S8192x2560, .f32⟩
  | .hbm, ⟨6, _⟩ => ⟨S8192x1024, .f32⟩
  | .hbm, ⟨7, _⟩ => ⟨S8192x512, .f32⟩
  | .hbm, ⟨8, _⟩ => ⟨S8192x1024, .f32⟩
  | .hbm, ⟨9, _⟩ => ⟨S8192x16x64, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8192, .f32⟩
  | .hbm, ⟨19, _⟩ => ⟨S8192x1, .f32⟩
  | .hbm, ⟨20, _⟩ => ⟨S1x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S8192x1x8, .f32⟩
  | .hbm, ⟨26, _⟩ => ⟨S8192x8, .f32⟩
  | .hbm, ⟨27, _⟩ => ⟨S8192x1x8, .f32⟩
  | .hbm, ⟨28, _⟩ => ⟨S8192x16x16, .f32⟩
  | .hbm, ⟨29, _⟩ => ⟨S8192x16x8, .f32⟩
  | .hbm, ⟨30, _⟩ => ⟨S8192x16x8, .f32⟩
  | .hbm, ⟨31, _⟩ => ⟨S8192x16x8, .f32⟩
  | .hbm, ⟨32, _⟩ => ⟨S8192x16x8, .f32⟩
  | .hbm, ⟨33, _⟩ => ⟨S8192x16x8, .f32⟩
  | .hbm, ⟨34, _⟩ => ⟨S8192x16x8, .f32⟩
  | .hbm, ⟨35, _⟩ => ⟨S8192x16x8, .f32⟩
  | .hbm, ⟨36, _⟩ => ⟨S8192x16x8, .f32⟩
  | .hbm, ⟨37, _⟩ => ⟨S8192x16x8, .f32⟩
  | .hbm, ⟨38, _⟩ => ⟨S8192x16x8, .f32⟩
  | .hbm, ⟨39, _⟩ => ⟨S8192x16x8, .f32⟩
  | .hbm, ⟨40, _⟩ => ⟨S8192x16x8, .f32⟩
  | .hbm, ⟨41, _⟩ => ⟨S8192x16x16, .f32⟩
  | .hbm, ⟨42, _⟩ => ⟨S8192x16x48, .f32⟩
  | .hbm, ⟨43, _⟩ => ⟨S8192x16x64, .f32⟩
  | .hbm, ⟨44, _⟩ => ⟨S8192x1024, .f32⟩
  | .hbm, ⟨45, _⟩ => ⟨S8192x1024, .bf16⟩
  | .hbm, ⟨46, _⟩ => ⟨S8192x512, .bf16⟩
  | .hbm, ⟨47, _⟩ => ⟨S2048x4096, .bf16⟩
  | .hbm, ⟨48, _⟩ => ⟨S2048x2048, .bf16⟩
  | .hbm, ⟨49, _⟩ => ⟨S512x16384, .bf16⟩
  | .hbm, ⟨50, _⟩ => ⟨S512x8192, .bf16⟩
  | .hbm, ⟨51, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩

abbrev nD : Nat := 1
abbrev τ : Topo := Topo.v7x

variable {F : FTy → Type} [FloatOps F]
-- ==== RmsIn.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsInRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S8x128 : Shape := ⟨2, ![8, 128]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8x128, .f32⟩
  | .hbm, ⟨4, _⟩ => ⟨S8192x1024, .f32⟩
  | .hbm, ⟨5, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | .local _ .vmem, ⟨6, _⟩ => ⟨S1024x1024, .f32⟩
  | .local _ .vmem, ⟨7, _⟩ => ⟨S1024x1024, .f32⟩
  | .local _ .vmem, ⟨8, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x128 : Shape := ⟨2, ![8, 128]⟩
abbrev S8x1024 : Shape := ⟨2, ![8, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8x128, .f32⟩
  | .hbm, ⟨69, _⟩ => ⟨S_, .i32⟩
  | .hbm, ⟨70, _⟩ => ⟨S_, .f32⟩
  | .hbm, ⟨71, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c : Ref sig .tc := ⟨.hbm, 69, rfl⟩
abbrev main_call0_v0 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== GmlpFwd.lean ====
abbrev S8192x1024 : Shape := ⟨2, ![8192, 1024]⟩
abbrev S1x512 : Shape := ⟨2, ![1, 512]⟩
abbrev S8x128x128 : Shape := ⟨3, ![8, 128, 128]⟩
abbrev S128x512 : Shape := ⟨2, ![128, 512]⟩
abbrev S8192x512 : Shape := ⟨2, ![8192, 512]⟩
abbrev S512x1024 : Shape := ⟨2, ![512, 1024]⟩
abbrev S512x512 : Shape := ⟨2, ![512, 512]⟩
abbrev S128x128 : Shape := ⟨2, ![128, 128]⟩
abbrev S1x128x128 : Shape := ⟨3, ![1, 128, 128]⟩
abbrev S512 : Shape := ⟨1, ![512]⟩
abbrev S512x1 : Shape := ⟨2, ![512, 1]⟩
abbrev S128x64 : Shape := ⟨2, ![128, 64]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1x512, .f32⟩
  | .hbm, ⟨2, _⟩ => ⟨S1x512, .f32⟩
  | .hbm, ⟨3, _⟩ => ⟨S8x128x128, .f32⟩
  | .hbm, ⟨4, _⟩ => ⟨S128x512, .f32⟩
  | .hbm, ⟨5, _⟩ => ⟨S8192x512, .bf16⟩
  | .local _ .vmem, ⟨0, _⟩ => ⟨S512x1024, .bf16⟩
  | .local _ .vmem, ⟨1, _⟩ => ⟨S512x1024, .bf16⟩
  | .local _ .vmem, ⟨2, _⟩ => ⟨S1x512, .f32⟩
  | .local _ .vmem, ⟨3, _⟩ => ⟨S1x512, .f32⟩
  | .local _ .vmem, ⟨4, _⟩ => ⟨S8x128x128, .f32⟩
  | .local _ .vmem, ⟨5, _⟩ => ⟨S128x512, .f32⟩
  | .local _ .vmem, ⟨6, _⟩ => ⟨S512x512, .bf16⟩
  | .local _ .vmem, ⟨7, _⟩ => ⟨S512x512, .bf16⟩
  | .local _ .vmem, ⟨8, _⟩ => ⟨S8x128x128, .bf16⟩
  | .local _ .vmem, ⟨9, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmlpFwdIdeal.lean ====
variable {F : FTy → Type} [FloatOps F] [Named F]
def κ : String → Option EReal := fun
  | "gelu_c" => some ((8943 / 200000 : ℝ) : EReal)
  | _ => none
-- ==== GmlpFwdRefIdeal.lean ====
abbrev S8192x1024 : Shape := ⟨2, ![8192, 1024]⟩
abbrev S1x512 : Shape := ⟨2, ![1, 512]⟩
abbrev S8x128x128 : Shape := ⟨3, ![8, 128, 128]⟩
abbrev S128x512 : Shape := ⟨2, ![128, 512]⟩
abbrev S_ : Shape := ⟨0, ![]⟩
abbrev S8192x512 : Shape := ⟨2, ![8192, 512]⟩
abbrev S8192 : Shape := ⟨1, ![8192]⟩
abbrev S8192x1 : Shape := ⟨2, ![8192, 1]⟩
abbrev S1x64x128x8x64 : Shape := ⟨5, ![1, 64, 128, 8, 64]⟩
abbrev S128x128 : Shape := ⟨2, ![128, 128]⟩
abbrev S1x128x128 : Shape := ⟨3, ![1, 128, 128]⟩
abbrev S8x1x64x64x128 : Shape := ⟨5, ![8, 1, 64, 64, 128]⟩
abbrev S64x128x512 : Shape := ⟨3, ![64, 128, 512]⟩
abbrev S1x128x512 : Shape := ⟨3, ![1, 128, 512]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x512, .f32⟩
  | .hbm, ⟨2, _⟩ => ⟨S1x512, .f32⟩
  | .hbm, ⟨3, _⟩ => ⟨S8x128x128, .f32⟩
  | .hbm, ⟨4, _⟩ => ⟨S128x512, .f32⟩
  | .hbm, ⟨5, _⟩ => ⟨S8192x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S1x64x128x8x64, .f32⟩
  | .hbm, ⟨53, _⟩ => ⟨S_, .i1⟩
  | .hbm, ⟨54, _⟩ => ⟨S128x128, .i1⟩
  | .hbm, ⟨55, _⟩ => ⟨S128x128, .i32⟩
  | .hbm, ⟨56, _⟩ => ⟨S_, .i32⟩
  | .hbm, ⟨57, _⟩ => ⟨S128x128, .i32⟩
  | .hbm, ⟨58, _⟩ => ⟨S128x128, .i32⟩
  | .hbm, ⟨59, _⟩ => ⟨S128x128, .i32⟩
  | .hbm, ⟨60, _⟩ => ⟨S128x128, .i1⟩
  | .hbm, ⟨61, _⟩ => ⟨S_, .i1⟩
  | .hbm, ⟨62, _⟩ => ⟨S128x128, .i1⟩
  | .hbm, ⟨63, _⟩ => ⟨S128x128, .i1⟩
  | .hbm, ⟨64, _⟩ => ⟨S1x128x128, .i1⟩
  | .hbm, ⟨65, _⟩ => ⟨S_, .i32⟩
  | .hbm, ⟨66, _⟩ => ⟨S_, .f32⟩
  | .hbm, ⟨67, _⟩ => ⟨S8x128x128, .i1⟩
  | .hbm, ⟨68, _⟩ => ⟨S8x128x128, .f32⟩
  | .hbm, ⟨69, _⟩ => ⟨S8x128x128, .f32⟩
  | .hbm, ⟨70, _⟩ => ⟨S8x1x64x64x128, .f32⟩
  | .hbm, ⟨71, _⟩ => ⟨S1x64x128x8x64, .f32⟩
  | .hbm, ⟨72, _⟩ => ⟨S64x128x512, .f32⟩
  | .hbm, ⟨73, _⟩ => ⟨S1x128x512, .f32⟩
  | .hbm, ⟨74, _⟩ => ⟨S64x128x512, .f32⟩
  | .hbm, ⟨75, _⟩ => ⟨S64x128x512, .f32⟩
  | .hbm, ⟨76, _⟩ => ⟨S8192x512, .f32⟩
  | .hbm, ⟨77, _⟩ => ⟨S8192x512, .f32⟩
  | .hbm, ⟨78, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c : Ref sig .tc := ⟨.hbm, 53, rfl⟩
abbrev main_v38 : Ref sig .tc := ⟨.hbm, 54, rfl⟩
abbrev main_call0_v0 : Ref sig .tc := ⟨.hbm, 55, rfl⟩
abbrev main_call0_c : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_c_0 : Ref sig .tc := ⟨.hbm, 61, rfl⟩
abbrev main_call0_v5 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== SinkAttn.lean ====
abbrev S8192x640 : Shape := ⟨2, ![8192, 640]⟩
abbrev S8192x128 : Shape := ⟨2, ![8192, 128]⟩
abbrev S8 : Shape := ⟨1, ![8]⟩
abbrev S8x1 : Shape := ⟨2, ![8, 1]⟩
abbrev S8x128 : Shape := ⟨2, ![8, 128]⟩
abbrev S8192x512 : Shape := ⟨2, ![8192, 512]⟩
abbrev S512x512 : Shape := ⟨2, ![512, 512]⟩
abbrev S512x128 : Shape := ⟨2, ![512, 128]⟩
abbrev S128x128 : Shape := ⟨2, ![128, 128]⟩
abbrev S256x128 : Shape := ⟨2, ![256, 128]⟩
abbrev S128x64 : Shape := ⟨2, ![128, 64]⟩
abbrev S256x64 : Shape := ⟨2, ![256, 64]⟩
abbrev S1x1 : Shape := ⟨2, ![1, 1]⟩
abbrev S128 : Shape := ⟨1, ![128]⟩
abbrev S1x128 : Shape := ⟨2, ![1, 128]⟩
abbrev S120x128 : Shape := ⟨2, ![120, 128]⟩

abbrev nBuf : Space → Nat
  | .hbm => 7
  | .vmem => 16
  | .smem => 0
  | _ => 0

abbrev bufTy : (tb : Table) → Fin (tcTables nBuf tb) → BufTy
  | .hbm, ⟨0, _⟩ => ⟨S8192x640, .bf16⟩
  | .hbm, ⟨1, _⟩ => ⟨S8192x128, .bf16⟩
  | .hbm, ⟨2, _⟩ => ⟨S8, .f32⟩
  | .hbm, ⟨3, _⟩ => ⟨S8x1, .f32⟩
  | .hbm, ⟨4, _⟩ => ⟨S8x128, .f32⟩
  | .hbm, ⟨5, _⟩ => ⟨S8192x512, .bf16⟩
  | .hbm, ⟨6, _⟩ => ⟨S8192x128, .f32⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S128x128, .bf16⟩
  | .local _ .vmem, ⟨5, _⟩ => ⟨S128x128, .bf16⟩
  | .local _ .vmem, ⟨6, _⟩ => ⟨S512x128, .bf16⟩
  | .local _ .vmem, ⟨7, _⟩ => ⟨S512x128, .bf16⟩
  | .local _ .vmem, ⟨8, _⟩ => ⟨S128x128, .bf16⟩
  | .local _ .vmem, ⟨9, _⟩ => ⟨S128x128, .bf16⟩
  | .local _ .vmem, ⟨10, _⟩ => ⟨S8x128, .f32⟩
  | .local _ .vmem, ⟨11, _⟩ => ⟨S512x512, .bf16⟩
  | .local _ .vmem, ⟨12, _⟩ => ⟨S512x512, .bf16⟩
  | .local _ .vmem, ⟨13, _⟩ => ⟨S512x128, .f32⟩
  | .local _ .vmem, ⟨14, _⟩ => ⟨S512x128, .f32⟩
  | .local _ .vmem, ⟨15, _⟩ => ⟨S512x512, .f32⟩
  | _, _ => ⟨S8192x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let c4_i32 : BitVec 32 := 4#32
  let v1 : BitVec 32 := Scalar.addi v0 c4_i32
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let v3 : BitVec 32 := Scalar.muli arg0 c5_i32
  let c4_i32_0 : BitVec 32 := 4#32
  let v4 : BitVec 32 := Scalar.addi v3 c4_i32_0
  let c0_i32_1 : BitVec 32 := 0#32
  ![v2.toNat, v4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SinkAttnIdeal.lean ====
variable {F : FTy → Type} [FloatOps F] [Named F]
def κ : String → Option EReal := fun
  | "mask" => some ⊥
  | _ => none
-- ==== SinkAttnRefIdeal.lean ====
abbrev S8192x640 : Shape := ⟨2, ![8192, 640]⟩
abbrev S8192x128 : Shape := ⟨2, ![8192, 128]⟩
abbrev S8 : Shape := ⟨1, ![8]⟩
abbrev S8192x512 : Shape := ⟨2, ![8192, 512]⟩
abbrev S8192x8x64 : Shape := ⟨3, ![8192, 8, 64]⟩
abbrev S8192x2x64 : Shape := ⟨3, ![8192, 2, 64]⟩
abbrev S64x128x2x4x64 : Shape := ⟨5, ![64, 128, 2, 4, 64]⟩
abbrev S64x128x2x64 : Shape := ⟨4, ![64, 128, 2, 64]⟩
abbrev S63x128x2x64 : Shape := ⟨4, ![63, 128, 2, 64]⟩
abbrev S_ : Shape := ⟨0, ![]⟩
abbrev S64x256x2x64 : Shape := ⟨4, ![64, 256, 2, 64]⟩
abbrev S64x2x256x128x4 : Shape := ⟨5, ![64, 2, 256, 128, 4]⟩
abbrev S64x2x4x128x256 : Shape := ⟨5, ![64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S64x2x4x128 : Shape := ⟨4, ![64, 2, 4, 128]⟩
abbrev S2x4 : Shape := ⟨2, ![2, 4]⟩
abbrev S1x2x4x1 : Shape := ⟨4, ![1, 2, 4, 1]⟩
abbrev S64x2x4x128x1 : Shape := ⟨5, ![64, 2, 4, 128, 1]⟩
abbrev S64x2x64x4x128 : Shape := ⟨5, ![64, 2, 64, 4, 128]⟩
abbrev S64x128x2x4 : Shape := ⟨4, ![64, 128, 2, 4]⟩
abbrev S64x128x2x4x1 : Shape := ⟨5, ![64, 128, 2, 4, 1]⟩
abbrev S8192x8 : Shape := ⟨2, ![8192, 8]⟩

abbrev nBuf : Space → Nat
  | .hbm => 103
  | .vmem => 0
  | .smem => 0
  | _ => 0

abbrev bufTy : (tb : Table) → Fin (tcTables nBuf tb) → BufTy
  | .hbm, ⟨0, _⟩ => ⟨S8192x640, .bf16⟩
  | .hbm, ⟨1, _⟩ => ⟨S8192x128, .bf16⟩
  | .hbm, ⟨2, _⟩ => ⟨S8, .f32⟩
  | .hbm, ⟨3, _⟩ => ⟨S8192x512, .bf16⟩
  | .hbm, ⟨4, _⟩ => ⟨S8192x512, .f32⟩
  | .hbm, ⟨5, _⟩ => ⟨S8192x8x64, .f32⟩
  | .hbm, ⟨6, _⟩ => ⟨S8192x128, .bf16⟩
  | .hbm, ⟨7, _⟩ => ⟨S8192x128, .f32⟩
  | .hbm, ⟨8, _⟩ => ⟨S8192x2x64, .f32⟩
  | .hbm, ⟨9, _⟩ => ⟨S8192x128, .f32⟩
  | .hbm, ⟨10, _⟩ => ⟨S8192x2x64, .f32⟩
  | .hbm, ⟨11, _⟩ => ⟨S64x128x2x4x64, .f32⟩
  | .hbm, ⟨12, _⟩ => ⟨S64x128x2x64, .f32⟩
  | .hbm, ⟨13, _⟩ => ⟨S64x128x2x64, .f32⟩
  | .hbm, ⟨14, _⟩ => ⟨S63x128x2x64, .f32⟩
  | .hbm, ⟨15, _⟩ => ⟨S_, .i32⟩
  | .hbm, ⟨16, _⟩ => ⟨S_, .f32⟩
  | .hbm, ⟨17, _⟩ => ⟨S64x128x2x64, .f32⟩
  | .hbm, ⟨18, _⟩ => ⟨S64x256x2x64, .f32⟩
  | .hbm, ⟨19, _⟩ => ⟨S63x128x2x64, .f32⟩
  | .hbm, ⟨20, _⟩ => ⟨S_, .i32⟩
  | .hbm, ⟨21, _⟩ => ⟨S_, .f32⟩
  | .hbm, ⟨22, _⟩ => ⟨S64x128x2x64, .f32⟩
  | .hbm, ⟨23, _⟩ => ⟨S64x256x2x64, .f32⟩
  | .hbm, ⟨24, _⟩ => ⟨S64x2x256x128x4, .f32⟩
  | .hbm, ⟨25, _⟩ => ⟨S64x2x4x128x256, .f32⟩
  | .hbm, ⟨26, _⟩ => ⟨S_, .f32⟩
  | .hbm, ⟨27, _⟩ => ⟨S64x2x4x128x256, .f32⟩
  | .hbm, ⟨28, _⟩ => ⟨S64x2x4x128x256, .f32⟩
  | .hbm, ⟨29, _⟩ => ⟨S128, .i32⟩
  | .hbm, ⟨30, _⟩ => ⟨S128x1, .i32⟩
  | .hbm, ⟨31, _⟩ => ⟨S256, .i32⟩
  | .hbm, ⟨32, _⟩ => ⟨S1x256, .i32⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S128x256, .i32⟩
  | .hbm, ⟨37, _⟩ => ⟨S128x256, .i32⟩
  | .hbm, ⟨38, _⟩ => ⟨S128x256, .i32⟩
  | .hbm, ⟨39, _⟩ => ⟨S64, .i32⟩
  | .hbm, ⟨40, _⟩ => ⟨S64x1x1, .i32⟩
  | .hbm, ⟨41, _⟩ => ⟨S_, .i32⟩
  | .hbm, ⟨42, _⟩ => ⟨S64x1x1, .i32⟩
  | .hbm, ⟨43, _⟩ => ⟨S64x1x1, .i32⟩
  | .hbm, ⟨44, _⟩ => ⟨S1x1x256, .i32⟩
  | .hbm, ⟨45, _⟩ => ⟨S64x1x256, .i32⟩
  | .hbm, ⟨46, _⟩ => ⟨S64x1x256, .i32⟩
  | .hbm, ⟨47, _⟩ => ⟨S64x1x256, .i32⟩
  | .hbm, ⟨48, _⟩ => ⟨S_, .i32⟩
  | .hbm, ⟨49, _⟩ => ⟨S64x1x256, .i32⟩
  | .hbm, ⟨50, _⟩ => ⟨S64x1x256, .i32⟩
  | .hbm, ⟨51, _⟩ => ⟨S_, .i32⟩
  | .hbm, ⟨52, _⟩ => ⟨S128x256, .i32⟩
  | .hbm, ⟨53, _⟩ => ⟨S128x256, .i1⟩
  | .hbm, ⟨54, _⟩ => ⟨S1x128x256, .i1⟩
  | .hbm, ⟨55, _⟩ => ⟨S_, .i32⟩
  | .hbm, ⟨56, _⟩ => ⟨S128x256, .i32⟩
  | .hbm, ⟨57, _⟩ => ⟨S128x256, .i1⟩
  | .hbm, ⟨58, _⟩ => ⟨S1x128x256, .i1⟩
  | .hbm, ⟨59, _⟩ => ⟨S1x128x256, .i1⟩
  | .hbm, ⟨60, _⟩ => ⟨S_, .i32⟩
  | .hbm, ⟨61, _⟩ => ⟨S64x1x256, .i32⟩
  | .hbm, ⟨62, _⟩ => ⟨S64x1x256, .i1⟩
  | .hbm, ⟨63, _⟩ => ⟨S64x128x256, .i1⟩
  | .hbm, ⟨64, _⟩ => ⟨S64x128x256, .i1⟩
  | .hbm, ⟨65, _⟩ => ⟨S64x128x256, .i1⟩
  | .hbm, ⟨66, _⟩ => ⟨S64x1x1x128x256, .i1⟩
  | .hbm, ⟨67, _⟩ => ⟨S_, .f32⟩
  | .hbm, ⟨68, _⟩ => ⟨S_, .f32⟩
  | .hbm, ⟨69, _⟩ => ⟨S64x2x4x128x256, .i1⟩
  | .hbm, ⟨70, _⟩ => ⟨S64x2x4x128x256, .f32⟩
  | .hbm, ⟨71, _⟩ => ⟨S64x2x4x128x256, .f32⟩
  | .hbm, ⟨72, _⟩ => ⟨S_, .f32⟩
  | .hbm, ⟨73, _⟩ => ⟨S64x2x4x128, .f32⟩
  | .hbm, ⟨74, _⟩ => ⟨S2x4, .f32⟩
  | .hbm, ⟨75, _⟩ => ⟨S1x2x4x1, .f32⟩
  | .hbm, ⟨76, _⟩ => ⟨S64x2x4x128, .f32⟩
  | .hbm, ⟨77, _⟩ => ⟨S64x2x4x128, .f32⟩
  | .hbm, ⟨78, _⟩ => ⟨S64x2x4x128x1, .f32⟩
  | .hbm, ⟨79, _⟩ => ⟨S64x2x4x128x256, .f32⟩
  | .hbm, ⟨80, _⟩ => ⟨S64x2x4x128x256, .f32⟩
  | .hbm, ⟨81, _⟩ => ⟨S64x2x4x128x256, .f32⟩
  | .hbm, ⟨82, _⟩ => ⟨S_, .f32⟩
  | .hbm, ⟨83, _⟩ => ⟨S64x2x4x128, .f32⟩
  | .hbm, ⟨84, _⟩ => ⟨S64x2x4x128, .f32⟩
  | .hbm, ⟨85, _⟩ => ⟨S64x2x4x128, .f32⟩
  | .hbm, ⟨86, _⟩ => ⟨S64x2x4x128, .f32⟩
  | .hbm, ⟨87, _⟩ => ⟨S64x2x4x128, .f32⟩
  | .hbm, ⟨88, _⟩ => ⟨S64x2x64x4x128, .f32⟩
  | .hbm, ⟨89, _⟩ => ⟨S64x128x2x4x64, .f32⟩
  | .hbm, ⟨90, _⟩ => ⟨S64x128x2x4, .f32⟩
  | .hbm, ⟨91, _⟩ => ⟨S64x128x2x4x1, .f32⟩
  | .hbm, ⟨92, _⟩ => ⟨S64x128x2x4x64, .f32⟩
  | .hbm, ⟨93, _⟩ => ⟨S64x128x2x4x64, .f32⟩
  | .hbm, ⟨94, _⟩ => ⟨S64x2x4x128, .f32⟩
  | .hbm, ⟨95, _⟩ => ⟨S64x2x4x128, .f32⟩
  | .hbm, ⟨96, _⟩ => ⟨S64x128x2x4, .f32⟩
  | .hbm, ⟨97, _⟩ => ⟨S8192x8, .f32⟩
  | .hbm, ⟨98, _⟩ => ⟨S8192x512, .f32⟩
  | .hbm, ⟨99, _⟩ => ⟨S8192x512, .bf16⟩
  | .hbm, ⟨100, _⟩ => ⟨S_, .i32⟩
  | .hbm, ⟨101, _⟩ => ⟨S_, .f32⟩
  | .hbm, ⟨102, _⟩ => ⟨S8192x128, .f32⟩
  | _, _ => ⟨S8192x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_call1_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_c_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_c_10 : Ref sig .tc := ⟨.hbm, 100, rfl⟩
abbrev main_call3_v0 : Ref sig .tc := ⟨.hbm, 101, rfl⟩
abbrev main_v80 : Ref sig .tc := ⟨.hbm, 102, rfl⟩

abbrev nD : Nat := 1
abbrev τ : Topo := Topo.v7x

variable {F : FTy → Type} [FloatOps F]
-- ==== Proof.Model.lean ====
module

public import Idealize.ShloMosaic.Lib.Pipeline.ValueKit

@[expose] public section

/-! # The gradient of the gated unit over the real numbers

Both programs are shown to compute these functions.  Rows and columns are natural numbers, so that a block of rows of the
kernel is the same model read at shifted rows. -/

noncomputable section
open Idealize.ShloMosaic

namespace Cert.Model

/-- The tanh form's factor, the square root of two over pi rounded to single precision. -/
def gK : ℝ := 13386282 / 16777216
/-- The layer normalisation's epsilon, rounded to single precision. -/
def eps : ℝ := 10995116 / 1099511627776
/-- The tanh form's cubic coefficient. -/
def gc : ℝ := 8943 / 200000

/-- The tanh inside the activation. -/
def th (x : ℝ) : ℝ := Real.tanh (gK * (x + gc * x * x * x))
/-- The activation. -/
def gel (x : ℝ) : ℝ := 1 / 2 * x * (1 + th x)
/-- Its derivative, as the kernel writes it. -/
def gel' (x : ℝ) : ℝ := 1 / 2 * (1 + th x) + 1 / 2 * x * (1 - th x * th x) * gK * (1 + 3 * gc * x * x)

/-- The six arrays the call reads, as real functions of row and column. -/
structure In where
  /-- the input of the unit: columns below 512 the values, the others the gate -/
  z : ℕ → ℕ → ℝ
  /-- the gradient of the unit's result -/
  d : ℕ → ℕ → ℝ
  /-- the normalisation's gain -/
  lg : ℕ → ℝ
  /-- the normalisation's offset -/
  lb : ℕ → ℝ
  /-- the mixing weights: group, position, position mixed in -/
  w : ℕ → ℕ → ℕ → ℝ
  /-- the mixing offset: position, channel -/
  sb : ℕ → ℕ → ℝ

namespace In
variable (I : In)

/-- The value half after the activation. -/
def u (r j : ℕ) : ℝ := gel (I.z r j)
/-- The gate half after the activation. -/
def v (r j : ℕ) : ℝ := gel (I.z r (512 + j))
/-- A row's mean. -/
def mu (r : ℕ) : ℝ := (∑ j : Fin 512, I.v r j) / 512
/-- A row less its mean. -/
def xc (r j : ℕ) : ℝ := I.v r j - I.mu r
/-- A row's variance. -/
def var (r : ℕ) : ℝ := (∑ j : Fin 512, I.xc r j * I.xc r j) / 512
/-- One over the root of variance and epsilon. -/
def rs (r : ℕ) : ℝ := (Real.sqrt (I.var r + eps))⁻¹
/-- The normalised row. -/
def xh (r j : ℕ) : ℝ := I.xc r j * I.rs r
/-- The normalised row with gain and offset. -/
def gn (r j : ℕ) : ℝ := I.xh r j * I.lg j + I.lb j
/-- The weights, no position mixing in a later one. -/
def wm (g i k : ℕ) : ℝ := if k ≤ i then I.w g i k else 0
/-- The mixed rows of one chunk of 128 positions. -/
def mix (r j : ℕ) : ℝ := (∑ k : Fin 128, I.wm (j / 64) (r % 128) k * I.gn (r / 128 * 128 + k) j) + I.sb (r % 128) j
/-- The gradient of the mixed rows. -/
def dm (r j : ℕ) : ℝ := I.d r j * I.u r j
/-- The gradient of the normalised rows with gain and offset. -/
def dgn (r j : ℕ) : ℝ := ∑ k : Fin 128, I.wm (j / 64) k (r % 128) * I.dm (r / 128 * 128 + k) j
/-- The gradient of the normalised rows. -/
def dxh (r j : ℕ) : ℝ := I.dgn r j * I.lg j
/-- The gradient of the gate half after the activation. -/
def dv (r j : ℕ) : ℝ :=
  I.rs r * (I.dxh r j - (∑ k : Fin 512, I.dxh r k) / 512 - I.xh r j * ((∑ k : Fin 512, I.dxh r k * I.xh r k) / 512))
/-- The gradient of the unit's input. -/
def dz (r j : ℕ) : ℝ :=
  if j < 512 then I.d r j * I.mix r j * gel' (I.z r j) else I.dv r (j - 512) * gel' (I.z r j)
/-- What the chunk starting at row `r` adds to the gradient of the weights, before the mask. -/
def dwc (r g i k : ℕ) : ℝ := ∑ l : Fin 64, I.dm (r + i) (64 * g + l) * I.gn (r + k) (64 * g + l)

/-- The model read at rows from `b` on. -/
def shift (b : ℕ) : In := { I with z := fun r j => I.z (b + r) j, d := fun r j => I.d (b + r) j }

end In

/-! ## Real numbers among the extended ones -/

/-- A finite sum of real numbers is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem ofBits_half : Ideal.ofBits .f32 0x3F000000#32 = ((1 / 2 : ℝ) : EReal) := by
  simp [Ideal.ofBits, Ideal.ieee]; norm_cast; norm_num
theorem ofBits_one : Ideal.ofBits .f32 0x3F800000#32 = ((1 : ℝ) : EReal) := by simp
theorem ofBits_gK : Ideal.ofBits .f32 0x3F4C422A#32 = (gK : EReal) := by
  simp [Ideal.ofBits, Ideal.ieee, gK]; norm_num [← EReal.coe_mul]
theorem ofBits_eps : Ideal.ofBits .f32 0x3727C5AC#32 = (eps : EReal) := by
  simp [Ideal.ofBits, Ideal.ieee, eps]; norm_num [← EReal.coe_mul]
theorem ofBits_512 : Ideal.ofBits .f32 0x44000000#32 = ((512 : ℝ) : EReal) := by
  simp [Ideal.ofBits, Ideal.ieee]; norm_cast; norm_num

/-- A quotient of real numbers, the divisor not zero, is the real quotient. -/
theorem div_real (a : ℝ) {b : ℝ} (h : b ≠ 0) : Ideal.div (a : EReal) (b : EReal) = ((a / b : ℝ) : EReal) := by
  rw [Ideal.div_coe h, ← EReal.coe_mul, mul_one_div]
/-- A quotient by 512. -/
theorem div_512 (a : ℝ) : Ideal.div (a : EReal) ((512 : ℝ) : EReal) = ((a / 512 : ℝ) : EReal) := div_real a (by norm_num)
/-- The reciprocal root of a positive real number. -/
theorem rsqrt_real {a : ℝ} (h : 0 < a) : Ideal.rsqrt (a : EReal) = (((Real.sqrt a)⁻¹ : ℝ) : EReal) := by
  rw [Ideal.rsqrt_coe, if_neg (not_lt.2 h.le), if_neg h.ne']
/-- The variance is not negative. -/
theorem In.var_nonneg (I : In) (r : ℕ) : 0 ≤ I.var r :=
  div_nonneg (Finset.sum_nonneg fun _ _ => mul_self_nonneg _) (by norm_num)
theorem eps_pos : 0 < eps := by unfold eps; norm_num
/-- Variance and epsilon together are positive. -/
theorem In.var_eps_pos (I : In) (r : ℕ) : 0 < I.var r + eps := add_pos_of_nonneg_of_pos (I.var_nonneg r) eps_pos

end Cert.Model
end
-- ==== Proof.Pay.lean ====
module

public import proofs.«01_k».proof.Proof.Gen.KernelIdeal.Frame
public import proofs.«01_k».proof.Proof.Model
public import Idealize.ShloMosaic.Lib.Pipeline.ValueKit

@[expose] public section

set_option maxRecDepth 16384
noncomputable section
open Idealize.ShloMosaic Idealize.ShloMosaic.TcCoe Idealize.SL.Sem
namespace Cert.KernelIdeal.Value
open Cert.KernelIdeal Cert.KernelIdeal.Gen Cert.Model

/-! # What the block's operations compute

`x0` … `x5` are the blocks the body reads; each lemma gives one named value of the body at an index, as the model's. -/

variable (I : In) (x0 : Vec Ideal S512x1024 .bf16) (x1 : Vec Ideal S512x512 .bf16) (x2 x3 : Vec Ideal S1x512 .f32)
  (h0 : ∀ y, x0 y = (I.z (y 0).val (y 1).val : EReal)) (h1 : ∀ y, x1 y = (I.d (y 0).val (y 1).val : EReal))
  (h2 : ∀ y, x2 y = (I.lg (y 1).val : EReal)) (h3 : ∀ y, x3 y = (I.lb (y 1).val : EReal))

theorem gelu_c : (Named.named κ "gelu_c" (0x3D372713#32 : BitVec FTy.f32.bits) : Ideal .f32) = (gc : EReal) := rfl
theorem gelu_3c : (Named.named κ "gelu_3c" (0x3E095D4F#32 : BitVec FTy.f32.bits) : Ideal .f32) = ((3 * gc : ℝ) : EReal) := by
  show ((26829 / 200000 : ℝ) : EReal) = _
  congr 1; unfold gc; norm_num

include h0
/-- The activation of the whole block. -/
theorem pay35_eq (y) : k0_pay35 (F := Ideal) x0 y = (gel (I.z (y 0).val (y 1).val) : EReal) := by
  pointwise [k0_pay35, k0_pay34]
  simp only [h0, ofBits_half, ofBits_gK, gelu_c, Ideal.tanh_coe, ← EReal.coe_mul, ← EReal.coe_add, ← EReal.coe_one]
  rfl
/-- The value half. -/
theorem pay36_eq (y) : k0_pay36 (F := Ideal) x0 y = (I.u (y 0).val (y 1).val : EReal) := by
  unfold k0_pay36
  pointwise [pay35_eq I x0 h0]
  rfl
/-- The centred gate half. -/
theorem pay37_eq (y) : k0_pay37 (F := Ideal) x0 y = (I.xc (y 0).val (y 1).val : EReal) := by
  unfold k0_pay37
  pointwise [pay35_eq I x0 h0]
  simp only [ofBits_512, ← coe_sum, div_512, ← EReal.coe_sub]
  rfl
/-- The reciprocal root of the variance. -/
theorem pay38_eq (y) : k0_pay38 (F := Ideal) x0 y = (I.rs (y 0).val : EReal) := by
  unfold k0_pay38
  pointwise [pay37_eq I x0 h0]
  simp only [ofBits_512, ofBits_eps, ← EReal.coe_mul, ← coe_sum, div_512, ← EReal.coe_add]
  exact rsqrt_real (I.var_eps_pos (y 0).val)
/-- The normalised gate half. -/
theorem pay39_eq (y) : k0_pay39 (F := Ideal) x0 y = (I.xh (y 0).val (y 1).val : EReal) := by
  unfold k0_pay39
  pointwise [pay37_eq I x0 h0, pay38_eq I x0 h0]
  simp only [← EReal.coe_mul]
  rfl
include h2 h3
/-- The normalised gate half with gain and offset. -/
theorem gn_eq (y) : k0_pay42 (F := Ideal) (k0_pay40 x0 x2) (k0_pay41 x3) y = (I.gn (y 0).val (y 1).val : EReal) := by
  pointwise [k0_pay42, k0_pay40, k0_pay41, pay39_eq I x0 h0, h2, h3]
  simp only [← EReal.coe_mul, ← EReal.coe_add]
  rfl
omit h2 h3
include h1
/-- The gradient of the mixed rows. -/
theorem dm_eq (y) : k0_pay91 (F := Ideal) (k0_pay36 x0) (k0_pay43 x1) y = (I.dm (y 0).val (y 1).val : EReal) := by
  pointwise [k0_pay91, k0_pay90, k0_pay43, pay36_eq I x0 h0, h1]
  simp only [← EReal.coe_mul]
  rfl
end Cert.KernelIdeal.Value
end
-- ==== Proof.Buf.lean ====
module

public import proofs.«01_k».proof.Proof.Gen.KernelIdeal.Frame
public import proofs.«01_k».proof.Proof.Pay
public import Idealize.ShloMosaic.Lib.Pipeline.ValueKit

@[expose] public section

set_option maxRecDepth 16384
noncomputable section
open Idealize.ShloMosaic Idealize.ShloMosaic.TcCoe Idealize.SL.Sem
namespace Cert.KernelIdeal.Value
open Cert.KernelIdeal Cert.KernelIdeal.Gen Cert.Model

/-- A read of the whole buffer after stores whose closed form is `G` at every index. -/
theorem readCov_whole {sig : RefSig} {κ : Kind} {sp : Space} (v : View sig κ sp S512x512 .f32) (L : List (View.Piece (Elt Ideal) S512x512 .f32))
    (G : S512x512.Idx → Elt Ideal .f32) (h : ∀ y, View.canon L y = G y) :
    v.readCov L (Rect.unit ![0, 0] ![512, 512] inb_S512x512_S512x512_0_0).toLoadRect = G := by
  rw [View.readCov_eq_canon']
  funext y
  refine Eq.trans (congrArg (View.canon L) ?_) (h y)
  funext a
  refine Fin.ext ?_
  fin_cases a <;> (show 0 + 1 * _ = _; omega)
/-- One entry of the mixed rows, from the row's chunk and place in it and the channel's group and place in it. -/
theorem mix_at (I : In) {r j c i g l : ℕ} (hr : r = 128 * c + i) (hi : i < 128) (hj : j = 64 * g + l) (hl : l < 64) :
    I.mix r j = (∑ k : Fin 128, I.wm g i k * I.gn (128 * c + k) j) + I.sb i j := by
  have e1 : j / 64 = g := by omega
  have e2 : r % 128 = i := by omega
  have e3 : r / 128 * 128 = 128 * c := by omega
  rw [In.mix, e1, e2, e3]
/-- One entry of the gradient of the normalised rows, likewise. -/
theorem dgn_at (I : In) {r j c i g l : ℕ} (hr : r = 128 * c + i) (hi : i < 128) (hj : j = 64 * g + l) (hl : l < 64) :
    I.dgn r j = ∑ k : Fin 128, I.wm g k i * I.dm (128 * c + k) j := by
  have e1 : j / 64 = g := by omega
  have e2 : r % 128 = i := by omega
  have e3 : r / 128 * 128 = 128 * c := by omega
  rw [In.dgn, e1, e2, e3]

variable (I : In) (x0 : Vec Ideal S512x1024 .bf16) (x1 : Vec Ideal S512x512 .bf16) (x2 x3 : Vec Ideal S1x512 .f32) (x5 : Vec Ideal S128x512 .f32)
  (h0 : ∀ y, x0 y = (I.z (y 0).val (y 1).val : EReal)) (h1 : ∀ y, x1 y = (I.d (y 0).val (y 1).val : EReal))
  (h2 : ∀ y, x2 y = (I.lg (y 1).val : EReal)) (h3 : ∀ y, x3 y = (I.lb (y 1).val : EReal)) (h5 : ∀ y, x5 y = (I.sb (y 0).val (y 1).val : EReal))
  (W : Vec Ideal S8x128x128 .bf16)
include h0 h2 h3 h5 in
/-- The buffer of mixed rows after its 32 stores. -/
theorem mixBuf (hW : ∀ y, W y = (I.wm (y 0).val (y 1).val (y 2).val : EReal)) :
    (View.whole cc0_scratch2).readCov (Val := Elt Ideal)
      [⟨Rect.unit ![384, 448] ![128, 64] inb_S512x512_S128x64_384_448,
        k0_pay84 (k0_pay42 (k0_pay40 x0 x2) (k0_pay41 x3)) (View.ld W (Rect.unit ![7, 0, 0] ![1, 128, 128] inb_S8x128x128_S1x128x128_7_0_0)) (View.ld x5 (Rect.unit ![0, 448] ![128, 64] inb_S128x512_S128x64_0_448))⟩,
      ⟨Rect.unit ![384, 384] ![128, 64] inb_S512x512_S128x64_384_384,
        k0_pay83 (k0_pay42 (k0_pay40 x0 x2) (k0_pay41 x3)) (View.ld W (Rect.unit ![6, 0, 0] ![1, 128, 128] inb_S8x128x128_S1x128x128_6_0_0)) (View.ld x5 (Rect.unit ![0, 384] ![128, 64] inb_S128x512_S128x64_0_384))⟩,
      ⟨Rect.unit ![384, 320] ![128, 64] inb_S512x512_S128x64_384_320,
        k0_pay82 (k0_pay81 (k0_pay42 (k0_pay40 x0 x2) (k0_pay41 x3)) (View.ld W (Rect.unit ![5, 0, 0] ![1, 128, 128] inb_S8x128x128_S1x128x128_5_0_0)) (View.ld x5 (Rect.unit ![0, 320] ![128, 64] inb_S128x512_S128x64_0_320)))⟩,
      ⟨Rect.unit ![384, 256] ![128, 64] inb_S512x512_S128x64_384_256,
        k0_pay80 (k0_pay42 (k0_pay40 x0 x2) (k0_pay41 x3)) (View.ld W (Rect.unit ![4, 0, 0] ![1, 128, 128] inb_S8x128x128_S1x128x128_4_0_0)) (View.ld x5 (Rect.unit ![0, 256] ![128, 64] inb_S128x512_S128x64_0_256))⟩,
      ⟨Rect.unit ![384, 192] ![128, 64] inb_S512x512_S128x64_384_192,
        k0_pay79 (k0_pay42 (k0_pay40 x0 x2) (k0_pay41 x3)) (View.ld W (Rect.unit ![3, 0, 0] ![1, 128, 128] inb_S8x128x128_S1x128x128_3_0_0)) (View.ld x5 (Rect.unit ![0, 192] ![128, 64] inb_S128x512_S128x64_0_192))⟩,
      ⟨Rect.unit ![384, 128] ![128, 64] inb_S512x512_S128x64_384_128,
        k0_pay78 (k0_pay76 (View.ld W (Rect.unit ![2, 0, 0] ![1, 128, 128] inb_S8x128x128_S1x128x128_2_0_0))) (k0_pay77 (k0_pay42 (k0_pay40 x0 x2) (k0_pay41 x3))) (View.ld x5 (Rect.unit ![0, 128] ![128, 64] inb_S128x512_S128x64_0_128))⟩,
      ⟨Rect.unit ![384, 64] ![128, 64] inb_S512x512_S128x64_384_64,
        k0_pay75 (k0_pay42 (k0_pay40 x0 x2) (k0_pay41 x3)) (View.ld W (Rect.unit ![1, 0, 0] ![1, 128, 128] inb_S8x128x128_S1x128x128_1_0_0)) (View.ld x5 (Rect.unit ![0, 64] ![128, 64] inb_S128x512_S128x64_0_64))⟩,
      ⟨Rect.unit ![384, 0] ![128, 64] inb_S512x512_S128x64_384_0,
        k0_pay74 (k0_pay42 (k0_pay40 x0 x2) (k0_pay41 x3)) (View.ld W (Rect.unit ![0, 0, 0] ![1, 128, 128] inb_S8x128x128_S1x128x128_0_0_0)) (View.ld x5 (Rect.unit ![0, 0] ![128, 64] inb_S128x512_S128x64_0_0))⟩,
      ⟨Rect.unit ![256, 448] ![128, 64] inb_S512x512_S128x64_256_448,
        k0_pay73 (k0_pay42 (k0_pay40 x0 x2) (k0_pay41 x3)) (View.ld W (Rect.unit ![7, 0, 0] ![1, 128, 128] inb_S8x128x128_S1x128x128_7_0_0)) (View.ld x5 (Rect.unit ![0, 448] ![128, 64] inb_S128x512_S128x64_0_448))⟩,
      ⟨Rect.unit ![256, 384] ![128, 64] inb_S512x512_S128x64_256_384,
        k0_pay72 (k0_pay42 (k0_pay40 x0 x2) (k0_pay41 x3)) (View.ld W (Rect.unit ![6, 0, 0] ![1, 128, 128] inb_S8x128x128_S1x128x128_6_0_0)) (View.ld x5 (Rect.unit ![0, 384] ![128, 64] inb_S128x512_S128x64_0_384))⟩,
      ⟨Rect.unit ![256, 320] ![128, 64] inb_S512x512_S128x64_256_320,
        k0_pay71 (k0_pay42 (k0_pay40 x0 x2) (k0_pay41 x3)) (View.ld W (Rect.unit ![5, 0, 0] ![1, 128, 128] inb_S8x128x128_S1x128x128_5_0_0)) (View.ld x5 (Rect.unit ![0, 320] ![128, 64] inb_S128x512_S128x64_0_320))⟩,
      ⟨Rect.unit ![256, 256] ![128, 64] inb_S512x512_S128x64_256_256,
        k0_pay70 (k0_pay42 (k0_pay40 x0 x2) (k0_pay41 x3)) (View.ld W (Rect.unit ![4, 0, 0] ![1, 128, 128] inb_S8x128x128_S1x128x128_4_0_0)) (View.ld x5 (Rect.unit ![0, 256] ![128, 64] inb_S128x512_S128x64_0_256))⟩,
      ⟨Rect.unit ![256, 192] ![128, 64] inb_S512x512_S128x64_256_192,
        k0_pay69 (k0_pay68 (k0_pay42 (k0_pay40 x0 x2) (k0_pay41 x3)) (View.ld W (Rect.unit ![3, 0, 0] ![1, 128, 128] inb_S8x128x128_S1x128x128_3_0_0)) (View.ld x5 (Rect.unit ![0, 192] ![128, 64] inb_S128x512_S128x64_0_192)))⟩,
      ⟨Rect.unit ![256, 128] ![128, 64] inb_S512x512_S128x64_256_128,
        k0_pay67 (k0_pay42 (k0_pay40 x0 x2) (k0_pay41 x3)) (View.ld W (Rect.unit ![2, 0, 0] ![1, 128, 128] inb_S8x128x128_S1x128x128_2_0_0)) (View.ld x5 (Rect.unit ![0, 128] ![128, 64] inb_S128x512_S128x64_0_128))⟩,
      ⟨Rect.unit ![256, 64] ![128, 64] inb_S512x512_S128x64_256_64,
        k0_pay66 (k0_pay42 (k0_pay40 x0 x2) (k0_pay41 x3)) (View.ld W (Rect.unit ![1, 0, 0] ![1, 128, 128] inb_S8x128x128_S1x128x128_1_0_0)) (View.ld x5 (Rect.unit ![0, 64] ![128, 64] inb_S128x512_S128x64_0_64))⟩,
      ⟨Rect.unit ![256, 0] ![128, 64] inb_S512x512_S128x64_256_0,
        k0_pay65 (k0_pay63 (View.ld W (Rect.unit ![0, 0, 0] ![1, 128, 128] inb_S8x128x128_S1x128x128_0_0_0))) (k0_pay64 (k0_pay42 (k0_pay40 x0 x2) (k0_pay41 x3))) (View.ld x5 (Rect.unit ![0, 0] ![128, 64] inb_S128x512_S128x64_0_0))⟩,
      ⟨Rect.unit ![128, 448] ![128, 64] inb_S512x512_S128x64_128_448,
        k0_pay62 (k0_pay42 (k0_pay40 x0 x2) (k0_pay41 x3)) (View.ld W (Rect.unit ![7, 0, 0] ![1, 128, 128] inb_S8x128x128_S1x128x128_7_0_0)) (View.ld x5 (Rect.unit ![0, 448] ![128, 64] inb_S128x512_S128x64_0_448))⟩,
      ⟨Rect.unit ![128, 384] ![128, 64] inb_S512x512_S128x64_128_384,
        k0_pay61 (k0_pay42 (k0_pay40 x0 x2) (k0_pay41 x3)) (View.ld W (Rect.unit ![6, 0, 0] ![1, 128, 128] inb_S8x128x128_S1x128x128_6_0_0)) (View.ld x5 (Rect.unit ![0, 384] ![128, 64] inb_S128x512_S128x64_0_384))⟩,
      ⟨Rect.unit ![128, 320] ![128, 64] inb_S512x512_S128x64_128_320,
        k0_pay60 (k0_pay42 (k0_pay40 x0 x2) (k0_pay41 x3)) (View.ld W (Rect.unit ![5, 0, 0] ![1, 128, 128] inb_S8x128x128_S1x128x128_5_0_0)) (View.ld x5 (Rect.unit ![0, 320] ![128, 64] inb_S128x512_S128x64_0_320))⟩,
      ⟨Rect.unit ![128, 256] ![128, 64] inb_S512x512_S128x64_128_256,
        k0_pay59 (k0_pay42 (k0_pay40 x0 x2) (k0_pay41 x3)) (View.ld W (Rect.unit ![4, 0, 0] ![1, 128, 128] inb_S8x128x128_S1x128x128_4_0_0)) (View.ld x5 (Rect.unit ![0, 256] ![128, 64] inb_S128x512_S128x64_0_256))⟩,
      ⟨Rect.unit ![128, 192] ![128, 64] inb_S512x512_S128x64_128_192,
        k0_pay58 (k0_pay42 (k0_pay40 x0 x2) (k0_pay41 x3)) (View.ld W (Rect.unit ![3, 0, 0] ![1, 128, 128] inb_S8x128x128_S1x128x128_3_0_0)) (View.ld x5 (Rect.unit ![0, 192] ![128, 64] inb_S128x512_S128x64_0_192))⟩,
      ⟨Rect.unit ![128, 128] ![128, 64] inb_S512x512_S128x64_128_128,
        k0_pay57 (k0_pay42 (k0_pay40 x0 x2) (k0_pay41 x3)) (View.ld W (Rect.unit ![2, 0, 0] ![1, 128, 128] inb_S8x128x128_S1x128x128_2_0_0)) (View.ld x5 (Rect.unit ![0, 128] ![128, 64] inb_S128x512_S128x64_0_128))⟩,
      ⟨Rect.unit ![128, 64] ![128, 64] inb_S512x512_S128x64_128_64,
        k0_pay56 (k0_pay55 (k0_pay42 (k0_pay40 x0 x2) (k0_pay41 x3)) (View.ld W (Rect.unit ![1, 0, 0] ![1, 128, 128] inb_S8x128x128_S1x128x128_1_0_0)) (View.ld x5 (Rect.unit ![0, 64] ![128, 64] inb_S128x512_S128x64_0_64)))⟩,
      ⟨Rect.unit ![128, 0] ![128, 64] inb_S512x512_S128x64_128_0,
        k0_pay54 (k0_pay42 (k0_pay40 x0 x2) (k0_pay41 x3)) (View.ld W (Rect.unit ![0, 0, 0] ![1, 128, 128] inb_S8x128x128_S1x128x128_0_0_0)) (View.ld x5 (Rect.unit ![0, 0] ![128, 64] inb_S128x512_S128x64_0_0))⟩,
      ⟨Rect.unit ![0, 448] ![128, 64] inb_S512x512_S128x64_0_448,
        k0_pay53 (k0_pay42 (k0_pay40 x0 x2) (k0_pay41 x3)) (View.ld W (Rect.unit ![7, 0, 0] ![1, 128, 128] inb_S8x128x128_S1x128x128_7_0_0)) (View.ld x5 (Rect.unit ![0, 448] ![128, 64] inb_S128x512_S128x64_0_448))⟩,
      ⟨Rect.unit ![0, 384] ![128, 64] inb_S512x512_S128x64_0_384,
        k0_pay52 (k0_pay50 (View.ld W (Rect.unit ![6, 0, 0] ![1, 128, 128] inb_S8x128x128_S1x128x128_6_0_0))) (k0_pay51 (k0_pay42 (k0_pay40 x0 x2) (k0_pay41 x3))) (View.ld x5 (Rect.unit ![0, 384] ![128, 64] inb_S128x512_S128x64_0_384))⟩,
      ⟨Rect.unit ![0, 320] ![128, 64] inb_S512x512_S128x64_0_320,
        k0_pay49 (k0_pay42 (k0_pay40 x0 x2) (k0_pay41 x3)) (View.ld W (Rect.unit ![5, 0, 0] ![1, 128, 128] inb_S8x128x128_S1x128x128_5_0_0)) (View.ld x5 (Rect.unit ![0, 320] ![128, 64] inb_S128x512_S128x64_0_320))⟩,
      ⟨Rect.unit ![0, 256] ![128, 64] inb_S512x512_S128x64_0_256,
        k0_pay48 (k0_pay42 (k0_pay40 x0 x2) (k0_pay41 x3)) (View.ld W (Rect.unit ![4, 0, 0] ![1, 128, 128] inb_S8x128x128_S1x128x128_4_0_0)) (View.ld x5 (Rect.unit ![0, 256] ![128, 64] inb_S128x512_S128x64_0_256))⟩,
      ⟨Rect.unit ![0, 192] ![128, 64] inb_S512x512_S128x64_0_192,
        k0_pay47 (k0_pay42 (k0_pay40 x0 x2) (k0_pay41 x3)) (View.ld W (Rect.unit ![3, 0, 0] ![1, 128, 128] inb_S8x128x128_S1x128x128_3_0_0)) (View.ld x5 (Rect.unit ![0, 192] ![128, 64] inb_S128x512_S128x64_0_192))⟩,
      ⟨Rect.unit ![0, 128] ![128, 64] inb_S512x512_S128x64_0_128,
        k0_pay46 (k0_pay40 x0 x2) (k0_pay41 x3) (View.ld W (Rect.unit ![2, 0, 0] ![1, 128, 128] inb_S8x128x128_S1x128x128_2_0_0)) (View.ld x5 (Rect.unit ![0, 128] ![128, 64] inb_S128x512_S128x64_0_128))⟩,
      ⟨Rect.unit ![0, 64] ![128, 64] inb_S512x512_S128x64_0_64,
        k0_pay45 (k0_pay40 x0 x2) (k0_pay41 x3) (View.ld W (Rect.unit ![1, 0, 0] ![1, 128, 128] inb_S8x128x128_S1x128x128_1_0_0)) (View.ld x5 (Rect.unit ![0, 64] ![128, 64] inb_S128x512_S128x64_0_64))⟩,
      ⟨Rect.unit ![0, 0] ![128, 64] inb_S512x512_S128x64_0_0,
        k0_pay44 (k0_pay40 x0 x2) (k0_pay41 x3) (View.ld W (Rect.unit ![0, 0, 0] ![1, 128, 128] inb_S8x128x128_S1x128x128_0_0_0)) (View.ld x5 (Rect.unit ![0, 0] ![128, 64] inb_S128x512_S128x64_0_0))⟩]
      (Rect.unit ![0, 0] ![512, 512] inb_S512x512_S512x512_0_0).toLoadRect = fun y => (I.mix (y 0).val (y 1).val : EReal) := by
  have hg := gn_eq I x0 x2 x3 h0 h2 h3
  refine readCov_whole _ _ _ fun y => ?_
  canon_tiles i e
  · pointwise [k0_pay84, View.ld_apply, hW, hg, h5]
    simp only [← EReal.coe_mul, ← coe_sum, ← EReal.coe_add]
    rw [mix_at I (c := 3) (i := (i 0).val) (g := 7) (l := (i 1).val) (by omega) (by omega) (by omega) (by omega), e1]
  · pointwise [k0_pay83, View.ld_apply, hW, hg, h5]
    simp only [← EReal.coe_mul, ← coe_sum, ← EReal.coe_add]
    rw [mix_at I (c := 3) (i := (i 0).val) (g := 6) (l := (i 1).val) (by omega) (by omega) (by omega) (by omega), e1]
  · pointwise [k0_pay81, k0_pay82, View.ld_apply, hW, hg, h5]
    simp only [← EReal.coe_mul, ← coe_sum, ← EReal.coe_add]
    rw [mix_at I (c := 3) (i := (i 0).val) (g := 5) (l := (i 1).val) (by omega) (by omega) (by omega) (by omega), e1]
  · pointwise [k0_pay80, View.ld_apply, hW, hg, h5]
    simp only [← EReal.coe_mul, ← coe_sum, ← EReal.coe_add]
    rw [mix_at I (c := 3) (i := (i 0).val) (g := 4) (l := (i 1).val) (by omega) (by omega) (by omega) (by omega), e1]
  · pointwise [k0_pay79, View.ld_apply, hW, hg, h5]
    simp only [← EReal.coe_mul, ← coe_sum, ← EReal.coe_add]
    rw [mix_at I (c := 3) (i := (i 0).val) (g := 3) (l := (i 1).val) (by omega) (by omega) (by omega) (by omega), e1]
  · pointwise [k0_pay76, k0_pay77, k0_pay78, View.ld_apply, hW, hg, h5]
    simp only [← EReal.coe_mul, ← coe_sum, ← EReal.coe_add]
    rw [mix_at I (c := 3) (i := (i 0).val) (g := 2) (l := (i 1).val) (by omega) (by omega) (by omega) (by omega), e1]
  · pointwise [k0_pay75, View.ld_apply, hW, hg, h5]
    simp only [← EReal.coe_mul, ← coe_sum, ← EReal.coe_add]
    rw [mix_at I (c := 3) (i := (i 0).val) (g := 1) (l := (i 1).val) (by omega) (by omega) (by omega) (by omega), e1]
  · pointwise [k0_pay74, View.ld_apply, hW, hg, h5]
    simp only [← EReal.coe_mul, ← coe_sum, ← EReal.coe_add]
    rw [mix_at I (c := 3) (i := (i 0).val) (g := 0) (l := (i 1).val) (by omega) (by omega) (by omega) (by omega), e1]
  · pointwise [k0_pay73, View.ld_apply, hW, hg, h5]
    simp only [← EReal.coe_mul, ← coe_sum, ← EReal.coe_add]
    rw [mix_at I (c := 2) (i := (i 0).val) (g := 7) (l := (i 1).val) (by omega) (by omega) (by omega) (by omega), e1]
  · pointwise [k0_pay72, View.ld_apply, hW, hg, h5]
    simp only [← EReal.coe_mul, ← coe_sum, ← EReal.coe_add]
    rw [mix_at I (c := 2) (i := (i 0).val) (g := 6) (l := (i 1).val) (by omega) (by omega) (by omega) (by omega), e1]
  · pointwise [k0_pay71, View.ld_apply, hW, hg, h5]
    simp only [← EReal.coe_mul, ← coe_sum, ← EReal.coe_add]
    rw [mix_at I (c := 2) (i := (i 0).val) (g := 5) (l := (i 1).val) (by omega) (by omega) (by omega) (by omega), e1]
  · pointwise [k0_pay70, View.ld_apply, hW, hg, h5]
    simp only [← EReal.coe_mul, ← coe_sum, ← EReal.coe_add]
    rw [mix_at I (c := 2) (i := (i 0).val) (g := 4) (l := (i 1).val) (by omega) (by omega) (by omega) (by omega), e1]
  · pointwise [k0_pay68, k0_pay69, View.ld_apply, hW, hg, h5]
    simp only [← EReal.coe_mul, ← coe_sum, ← EReal.coe_add]
    rw [mix_at I (c := 2) (i := (i 0).val) (g := 3) (l := (i 1).val) (by omega) (by omega) (by omega) (by omega), e1]
  · pointwise [k0_pay67, View.ld_apply, hW, hg, h5]
    simp only [← EReal.coe_mul, ← coe_sum, ← EReal.coe_add]
    rw [mix_at I (c := 2) (i := (i 0).val) (g := 2) (l := (i 1).val) (by omega) (by omega) (by omega) (by omega), e1]
  · pointwise [k0_pay66, View.ld_apply, hW, hg, h5]
    simp only [← EReal.coe_mul, ← coe_sum, ← EReal.coe_add]
    rw [mix_at I (c := 2) (i := (i 0).val) (g := 1) (l := (i 1).val) (by omega) (by omega) (by omega) (by omega), e1]
  · pointwise [k0_pay63, k0_pay64, k0_pay65, View.ld_apply, hW, hg, h5]
    simp only [← EReal.coe_mul, ← coe_sum, ← EReal.coe_add]
    rw [mix_at I (c := 2) (i := (i 0).val) (g := 0) (l := (i 1).val) (by omega) (by omega) (by omega) (by omega), e1]
  · pointwise [k0_pay62, View.ld_apply, hW, hg, h5]
    simp only [← EReal.coe_mul, ← coe_sum, ← EReal.coe_add]
    rw [mix_at I (c := 1) (i := (i 0).val) (g := 7) (l := (i 1).val) (by omega) (by omega) (by omega) (by omega), e1]
  · pointwise [k0_pay61, View.ld_apply, hW, hg, h5]
    simp only [← EReal.coe_mul, ← coe_sum, ← EReal.coe_add]
    rw [mix_at I (c := 1) (i := (i 0).val) (g := 6) (l := (i 1).val) (by omega) (by omega) (by omega) (by omega), e1]
  · pointwise [k0_pay60, View.ld_apply, hW, hg, h5]
    simp only [← EReal.coe_mul, ← coe_sum, ← EReal.coe_add]
    rw [mix_at I (c := 1) (i := (i 0).val) (g := 5) (l := (i 1).val) (by omega) (by omega) (by omega) (by omega), e1]
  · pointwise [k0_pay59, View.ld_apply, hW, hg, h5]
    simp only [← EReal.coe_mul, ← coe_sum, ← EReal.coe_add]
    rw [mix_at I (c := 1) (i := (i 0).val) (g := 4) (l := (i 1).val) (by omega) (by omega) (by omega) (by omega), e1]
  · pointwise [k0_pay58, View.ld_apply, hW, hg, h5]
    simp only [← EReal.coe_mul, ← coe_sum, ← EReal.coe_add]
    rw [mix_at I (c := 1) (i := (i 0).val) (g := 3) (l := (i 1).val) (by omega) (by omega) (by omega) (by omega), e1]
  · pointwise [k0_pay57, View.ld_apply, hW, hg, h5]
    simp only [← EReal.coe_mul, ← coe_sum, ← EReal.coe_add]
    rw [mix_at I (c := 1) (i := (i 0).val) (g := 2) (l := (i 1).val) (by omega) (by omega) (by omega) (by omega), e1]
  · pointwise [k0_pay55, k0_pay56, View.ld_apply, hW, hg, h5]
    simp only [← EReal.coe_mul, ← coe_sum, ← EReal.coe_add]
    rw [mix_at I (c := 1) (i := (i 0).val) (g := 1) (l := (i 1).val) (by omega) (by omega) (by omega) (by omega), e1]
  · pointwise [k0_pay54, View.ld_apply, hW, hg, h5]
    simp only [← EReal.coe_mul, ← coe_sum, ← EReal.coe_add]
    rw [mix_at I (c := 1) (i := (i 0).val) (g := 0) (l := (i 1).val) (by omega) (by omega) (by omega) (by omega), e1]
  · pointwise [k0_pay53, View.ld_apply, hW, hg, h5]
    simp only [← EReal.coe_mul, ← coe_sum, ← EReal.coe_add]
    rw [mix_at I (c := 0) (i := (i 0).val) (g := 7) (l := (i 1).val) (by omega) (by omega) (by omega) (by omega), e1]
    simp only [Nat.reduceMul, Nat.zero_add]
  · pointwise [k0_pay50, k0_pay51, k0_pay52, View.ld_apply, hW, hg, h5]
    simp only [← EReal.coe_mul, ← coe_sum, ← EReal.coe_add]
    rw [mix_at I (c := 0) (i := (i 0).val) (g := 6) (l := (i 1).val) (by omega) (by omega) (by omega) (by omega), e1]
    simp only [Nat.reduceMul, Nat.zero_add]
  · pointwise [k0_pay49, View.ld_apply, hW, hg, h5]
    simp only [← EReal.coe_mul, ← coe_sum, ← EReal.coe_add]
    rw [mix_at I (c := 0) (i := (i 0).val) (g := 5) (l := (i 1).val) (by omega) (by omega) (by omega) (by omega), e1]
    simp only [Nat.reduceMul, Nat.zero_add]
  · pointwise [k0_pay48, View.ld_apply, hW, hg, h5]
    simp only [← EReal.coe_mul, ← coe_sum, ← EReal.coe_add]
    rw [mix_at I (c := 0) (i := (i 0).val) (g := 4) (l := (i 1).val) (by omega) (by omega) (by omega) (by omega), e1]
    simp only [Nat.reduceMul, Nat.zero_add]
  · pointwise [k0_pay47, View.ld_apply, hW, hg, h5]
    simp only [← EReal.coe_mul, ← coe_sum, ← EReal.coe_add]
    rw [mix_at I (c := 0) (i := (i 0).val) (g := 3) (l := (i 1).val) (by omega) (by omega) (by omega) (by omega), e1]
    simp only [Nat.reduceMul, Nat.zero_add]
  · pointwise [k0_pay46, View.ld_apply, hW, hg, h5]
    simp only [← EReal.coe_mul, ← coe_sum, ← EReal.coe_add]
    rw [mix_at I (c := 0) (i := (i 0).val) (g := 2) (l := (i 1).val) (by omega) (by omega) (by omega) (by omega), e1]
    simp only [Nat.reduceMul, Nat.zero_add]
  · pointwise [k0_pay45, View.ld_apply, hW, hg, h5]
    simp only [← EReal.coe_mul, ← coe_sum, ← EReal.coe_add]
    rw [mix_at I (c := 0) (i := (i 0).val) (g := 1) (l := (i 1).val) (by omega) (by omega) (by omega) (by omega), e1]
    simp only [Nat.reduceMul, Nat.zero_add]
  · pointwise [k0_pay44, View.ld_apply, hW, hg, h5]
    simp only [← EReal.coe_mul, ← coe_sum, ← EReal.coe_add]
    rw [mix_at I (c := 0) (i := (i 0).val) (g := 0) (l := (i 1).val) (by omega) (by omega) (by omega) (by omega), e1]
    simp only [Nat.reduceMul, Nat.zero_add]

include h0 h1 in
/-- The buffer of gradients of the normalised rows after its 32 stores. -/
theorem dgnBuf (hW : ∀ y, W y = (I.wm (y 0).val (y 2).val (y 1).val : EReal)) :
    (View.whole cc0_scratch3).readCov (Val := Elt Ideal)
      [⟨Rect.unit ![384, 448] ![128, 64] inb_S512x512_S128x64_384_448,
        k0_pay154 (k0_pay91 (k0_pay36 x0) (k0_pay43 x1)) (View.ld W (Rect.unit ![7, 0, 0] ![1, 128, 128] inb_S8x128x128_S1x128x128_7_0_0))⟩,
      ⟨Rect.unit ![256, 448] ![128, 64] inb_S512x512_S128x64_256_448,
        k0_pay153 (k0_pay91 (k0_pay36 x0) (k0_pay43 x1)) (View.ld W (Rect.unit ![7, 0, 0] ![1, 128, 128] inb_S8x128x128_S1x128x128_7_0_0))⟩,
      ⟨Rect.unit ![128, 448] ![128, 64] inb_S512x512_S128x64_128_448,
        k0_pay152 (k0_pay151 (k0_pay91 (k0_pay36 x0) (k0_pay43 x1)) (View.ld W (Rect.unit ![7, 0, 0] ![1, 128, 128] inb_S8x128x128_S1x128x128_7_0_0)))⟩,
      ⟨Rect.unit ![0, 448] ![128, 64] inb_S512x512_S128x64_0_448,
        k0_pay149 (k0_pay91 (k0_pay36 x0) (k0_pay43 x1)) (View.ld W (Rect.unit ![7, 0, 0] ![1, 128, 128] inb_S8x128x128_S1x128x128_7_0_0))⟩,
      ⟨Rect.unit ![384, 384] ![128, 64] inb_S512x512_S128x64_384_384,
        k0_pay147 (k0_pay91 (k0_pay36 x0) (k0_pay43 x1)) (View.ld W (Rect.unit ![6, 0, 0] ![1, 128, 128] inb_S8x128x128_S1x128x128_6_0_0))⟩,
      ⟨Rect.unit ![256, 384] ![128, 64] inb_S512x512_S128x64_256_384,
        k0_pay145 (k0_pay91 (k0_pay36 x0) (k0_pay43 x1)) (View.ld W (Rect.unit ![6, 0, 0] ![1, 128, 128] inb_S8x128x128_S1x128x128_6_0_0))⟩,
      ⟨Rect.unit ![128, 384] ![128, 64] inb_S512x512_S128x64_128_384,
        k0_pay144 (k0_pay91 (k0_pay36 x0) (k0_pay43 x1)) (View.ld W (Rect.unit ![6, 0, 0] ![1, 128, 128] inb_S8x128x128_S1x128x128_6_0_0))⟩,
      ⟨Rect.unit ![0, 384] ![128, 64] inb_S512x512_S128x64_0_384,
        k0_pay143 (k0_pay91 (k0_pay36 x0) (k0_pay43 x1)) (View.ld W (Rect.unit ![6, 0, 0] ![1, 128, 128] inb_S8x128x128_S1x128x128_6_0_0))⟩,
      ⟨Rect.unit ![384, 320] ![128, 64] inb_S512x512_S128x64_384_320,
        k0_pay140 (k0_pay91 (k0_pay36 x0) (k0_pay43 x1)) (View.ld W (Rect.unit ![5, 0, 0] ![1, 128, 128] inb_S8x128x128_S1x128x128_5_0_0))⟩,
      ⟨Rect.unit ![256, 320] ![128, 64] inb_S512x512_S128x64_256_320,
        k0_pay139 (k0_pay91 (k0_pay36 x0) (k0_pay43 x1)) (View.ld W (Rect.unit ![5, 0, 0] ![1, 128, 128] inb_S8x128x128_S1x128x128_5_0_0))⟩,
      ⟨Rect.unit ![128, 320] ![128, 64] inb_S512x512_S128x64_128_320,
        k0_pay138 (k0_pay137 (k0_pay91 (k0_pay36 x0) (k0_pay43 x1)) (View.ld W (Rect.unit ![5, 0, 0] ![1, 128, 128] inb_S8x128x128_S1x128x128_5_0_0)))⟩,
      ⟨Rect.unit ![0, 320] ![128, 64] inb_S512x512_S128x64_0_320,
        k0_pay135 (k0_pay91 (k0_pay36 x0) (k0_pay43 x1)) (View.ld W (Rect.unit ![5, 0, 0] ![1, 128, 128] inb_S8x128x128_S1x128x128_5_0_0))⟩,
      ⟨Rect.unit ![384, 256] ![128, 64] inb_S512x512_S128x64_384_256,
        k0_pay133 (k0_pay91 (k0_pay36 x0) (k0_pay43 x1)) (k0_pay132 (View.ld W (Rect.unit ![4, 0, 0] ![1, 128, 128] inb_S8x128x128_S1x128x128_4_0_0)))⟩,
      ⟨Rect.unit ![256, 256] ![128, 64] inb_S512x512_S128x64_256_256,
        k0_pay130 (k0_pay91 (k0_pay36 x0) (k0_pay43 x1)) (View.ld W (Rect.unit ![4, 0, 0] ![1, 128, 128] inb_S8x128x128_S1x128x128_4_0_0))⟩,
      ⟨Rect.unit ![128, 256] ![128, 64] inb_S512x512_S128x64_128_256,
        k0_pay129 (k0_pay91 (k0_pay36 x0) (k0_pay43 x1)) (View.ld W (Rect.unit ![4, 0, 0] ![1, 128, 128] inb_S8x128x128_S1x128x128_4_0_0))⟩,
      ⟨Rect.unit ![0, 256] ![128, 64] inb_S512x512_S128x64_0_256,
        k0_pay128 (k0_pay91 (k0_pay36 x0) (k0_pay43 x1)) (View.ld W (Rect.unit ![4, 0, 0] ![1, 128, 128] inb_S8x128x128_S1x128x128_4_0_0))⟩,
      ⟨Rect.unit ![384, 192] ![128, 64] inb_S512x512_S128x64_384_192,
        k0_pay125 (k0_pay91 (k0_pay36 x0) (k0_pay43 x1)) (View.ld W (Rect.unit ![3, 0, 0] ![1, 128, 128] inb_S8x128x128_S1x128x128_3_0_0))⟩,
      ⟨Rect.unit ![256, 192] ![128, 64] inb_S512x512_S128x64_256_192,
        k0_pay124 (k0_pay91 (k0_pay36 x0) (k0_pay43 x1)) (View.ld W (Rect.unit ![3, 0, 0] ![1, 128, 128] inb_S8x128x128_S1x128x128_3_0_0))⟩,
      ⟨Rect.unit ![128, 192] ![128, 64] inb_S512x512_S128x64_128_192,
        k0_pay123 (k0_pay91 (k0_pay36 x0) (k0_pay43 x1)) (View.ld W (Rect.unit ![3, 0, 0] ![1, 128, 128] inb_S8x128x128_S1x128x128_3_0_0))⟩,
      ⟨Rect.unit ![0, 192] ![128, 64] inb_S512x512_S128x64_0_192,
        k0_pay121 (k0_pay91 (k0_pay36 x0) (k0_pay43 x1)) (View.ld W (Rect.unit ![3, 0, 0] ![1, 128, 128] inb_S8x128x128_S1x128x128_3_0_0))⟩,
      ⟨Rect.unit ![384, 128] ![128, 64] inb_S512x512_S128x64_384_128,
        k0_pay119 (k0_pay117 (View.ld W (Rect.unit ![2, 0, 0] ![1, 128, 128] inb_S8x128x128_S1x128x128_2_0_0))) (k0_pay118 (k0_pay91 (k0_pay36 x0) (k0_pay43 x1))) (constant S128x64 .f32 0x00000000#32)⟩,
      ⟨Rect.unit ![256, 128] ![128, 64] inb_S512x512_S128x64_256_128,
        k0_pay115 (k0_pay91 (k0_pay36 x0) (k0_pay43 x1)) (View.ld W (Rect.unit ![2, 0, 0] ![1, 128, 128] inb_S8x128x128_S1x128x128_2_0_0))⟩,
      ⟨Rect.unit ![128, 128] ![128, 64] inb_S512x512_S128x64_128_128,
        k0_pay114 (k0_pay91 (k0_pay36 x0) (k0_pay43 x1)) (View.ld W (Rect.unit ![2, 0, 0] ![1, 128, 128] inb_S8x128x128_S1x128x128_2_0_0))⟩,
      ⟨Rect.unit ![0, 128] ![128, 64] inb_S512x512_S128x64_0_128,
        k0_pay113 (k0_pay91 (k0_pay36 x0) (k0_pay43 x1)) (View.ld W (Rect.unit ![2, 0, 0] ![1, 128, 128] inb_S8x128x128_S1x128x128_2_0_0))⟩,
      ⟨Rect.unit ![384, 64] ![128, 64] inb_S512x512_S128x64_384_64,
        k0_pay110 (k0_pay91 (k0_pay36 x0) (k0_pay43 x1)) (View.ld W (Rect.unit ![1, 0, 0] ![1, 128, 128] inb_S8x128x128_S1x128x128_1_0_0))⟩,
      ⟨Rect.unit ![256, 64] ![128, 64] inb_S512x512_S128x64_256_64,
        k0_pay109 (k0_pay91 (k0_pay36 x0) (k0_pay43 x1)) (View.ld W (Rect.unit ![1, 0, 0] ![1, 128, 128] inb_S8x128x128_S1x128x128_1_0_0))⟩,
      ⟨Rect.unit ![128, 64] ![128, 64] inb_S512x512_S128x64_128_64,
        k0_pay106 (k0_pay91 (k0_pay36 x0) (k0_pay43 x1)) (View.ld W (Rect.unit ![1, 0, 0] ![1, 128, 128] inb_S8x128x128_S1x128x128_1_0_0))⟩,
      ⟨Rect.unit ![0, 64] ![128, 64] inb_S512x512_S128x64_0_64,
        k0_pay104 (k0_pay91 (k0_pay36 x0) (k0_pay43 x1)) (View.ld W (Rect.unit ![1, 0, 0] ![1, 128, 128] inb_S8x128x128_S1x128x128_1_0_0))⟩,
      ⟨Rect.unit ![384, 0] ![128, 64] inb_S512x512_S128x64_384_0,
        k0_pay102 (k0_pay101 (k0_pay91 (k0_pay36 x0) (k0_pay43 x1)) (View.ld W (Rect.unit ![0, 0, 0] ![1, 128, 128] inb_S8x128x128_S1x128x128_0_0_0)))⟩,
      ⟨Rect.unit ![256, 0] ![128, 64] inb_S512x512_S128x64_256_0,
        k0_pay99 (k0_pay91 (k0_pay36 x0) (k0_pay43 x1)) (View.ld W (Rect.unit ![0, 0, 0] ![1, 128, 128] inb_S8x128x128_S1x128x128_0_0_0))⟩,
      ⟨Rect.unit ![128, 0] ![128, 64] inb_S512x512_S128x64_128_0,
        k0_pay98 (k0_pay91 (k0_pay36 x0) (k0_pay43 x1)) (View.ld W (Rect.unit ![0, 0, 0] ![1, 128, 128] inb_S8x128x128_S1x128x128_0_0_0))⟩,
      ⟨Rect.unit ![0, 0] ![128, 64] inb_S512x512_S128x64_0_0,
        k0_pay97 (k0_pay95 (View.ld W (Rect.unit ![0, 0, 0] ![1, 128, 128] inb_S8x128x128_S1x128x128_0_0_0))) (k0_pay96 (k0_pay36 x0) (k0_pay43 x1))⟩]
      (Rect.unit ![0, 0] ![512, 512] inb_S512x512_S512x512_0_0).toLoadRect = fun y => (I.dgn (y 0).val (y 1).val : EReal) := by
  have hd := dm_eq I x0 x1 h0 h1
  refine readCov_whole _ _ _ fun y => ?_
  canon_tiles i e
  · pointwise [k0_pay154, View.ld_apply, hW, hd]
    simp only [← EReal.coe_mul, ← coe_sum]
    rw [dgn_at I (c := 3) (i := (i 0).val) (g := 7) (l := (i 1).val) (by omega) (by omega) (by omega) (by omega), e1]
  · pointwise [k0_pay153, View.ld_apply, hW, hd]
    simp only [← EReal.coe_mul, ← coe_sum]
    rw [dgn_at I (c := 2) (i := (i 0).val) (g := 7) (l := (i 1).val) (by omega) (by omega) (by omega) (by omega), e1]
  · pointwise [k0_pay151, k0_pay152, View.ld_apply, hW, hd]
    simp only [← EReal.coe_mul, ← coe_sum]
    rw [dgn_at I (c := 1) (i := (i 0).val) (g := 7) (l := (i 1).val) (by omega) (by omega) (by omega) (by omega), e1]
  · pointwise [k0_pay149, View.ld_apply, hW, hd]
    simp only [← EReal.coe_mul, ← coe_sum]
    rw [dgn_at I (c := 0) (i := (i 0).val) (g := 7) (l := (i 1).val) (by omega) (by omega) (by omega) (by omega), e1]
    simp only [Nat.reduceMul, Nat.zero_add]
  · pointwise [k0_pay147, View.ld_apply, hW, hd]
    simp only [← EReal.coe_mul, ← coe_sum]
    rw [dgn_at I (c := 3) (i := (i 0).val) (g := 6) (l := (i 1).val) (by omega) (by omega) (by omega) (by omega), e1]
  · pointwise [k0_pay145, View.ld_apply, hW, hd]
    simp only [← EReal.coe_mul, ← coe_sum]
    rw [dgn_at I (c := 2) (i := (i 0).val) (g := 6) (l := (i 1).val) (by omega) (by omega) (by omega) (by omega), e1]
  · pointwise [k0_pay144, View.ld_apply, hW, hd]
    simp only [← EReal.coe_mul, ← coe_sum]
    rw [dgn_at I (c := 1) (i := (i 0).val) (g := 6) (l := (i 1).val) (by omega) (by omega) (by omega) (by omega), e1]
  · pointwise [k0_pay143, View.ld_apply, hW, hd]
    simp only [← EReal.coe_mul, ← coe_sum]
    rw [dgn_at I (c := 0) (i := (i 0).val) (g := 6) (l := (i 1).val) (by omega) (by omega) (by omega) (by omega), e1]
    simp only [Nat.reduceMul, Nat.zero_add]
  · pointwise [k0_pay140, View.ld_apply, hW, hd]
    simp only [← EReal.coe_mul, ← coe_sum]
    rw [dgn_at I (c := 3) (i := (i 0).val) (g := 5) (l := (i 1).val) (by omega) (by omega) (by omega) (by omega), e1]
  · pointwise [k0_pay139, View.ld_apply, hW, hd]
    simp only [← EReal.coe_mul, ← coe_sum]
    rw [dgn_at I (c := 2) (i := (i 0).val) (g := 5) (l := (i 1).val) (by omega) (by omega) (by omega) (by omega), e1]
  · pointwise [k0_pay137, k0_pay138, View.ld_apply, hW, hd]
    simp only [← EReal.coe_mul, ← coe_sum]
    rw [dgn_at I (c := 1) (i := (i 0).val) (g := 5) (l := (i 1).val) (by omega) (by omega) (by omega) (by omega), e1]
  · pointwise [k0_pay135, View.ld_apply, hW, hd]
    simp only [← EReal.coe_mul, ← coe_sum]
    rw [dgn_at I (c := 0) (i := (i 0).val) (g := 5) (l := (i 1).val) (by omega) (by omega) (by omega) (by omega), e1]
    simp only [Nat.reduceMul, Nat.zero_add]
  · pointwise [k0_pay132, k0_pay133, View.ld_apply, hW, hd]
    simp only [← EReal.coe_mul, ← coe_sum]
    rw [dgn_at I (c := 3) (i := (i 0).val) (g := 4) (l := (i 1).val) (by omega) (by omega) (by omega) (by omega), e1]
  · pointwise [k0_pay130, View.ld_apply, hW, hd]
    simp only [← EReal.coe_mul, ← coe_sum]
    rw [dgn_at I (c := 2) (i := (i 0).val) (g := 4) (l := (i 1).val) (by omega) (by omega) (by omega) (by omega), e1]
  · pointwise [k0_pay129, View.ld_apply, hW, hd]
    simp only [← EReal.coe_mul, ← coe_sum]
    rw [dgn_at I (c := 1) (i := (i 0).val) (g := 4) (l := (i 1).val) (by omega) (by omega) (by omega) (by omega), e1]
  · pointwise [k0_pay128, View.ld_apply, hW, hd]
    simp only [← EReal.coe_mul, ← coe_sum]
    rw [dgn_at I (c := 0) (i := (i 0).val) (g := 4) (l := (i 1).val) (by omega) (by omega) (by omega) (by omega), e1]
    simp only [Nat.reduceMul, Nat.zero_add]
  · pointwise [k0_pay125, View.ld_apply, hW, hd]
    simp only [← EReal.coe_mul, ← coe_sum]
    rw [dgn_at I (c := 3) (i := (i 0).val) (g := 3) (l := (i 1).val) (by omega) (by omega) (by omega) (by omega), e1]
  · pointwise [k0_pay124, View.ld_apply, hW, hd]
    simp only [← EReal.coe_mul, ← coe_sum]
    rw [dgn_at I (c := 2) (i := (i 0).val) (g := 3) (l := (i 1).val) (by omega) (by omega) (by omega) (by omega), e1]
  · pointwise [k0_pay123, View.ld_apply, hW, hd]
    simp only [← EReal.coe_mul, ← coe_sum]
    rw [dgn_at I (c := 1) (i := (i 0).val) (g := 3) (l := (i 1).val) (by omega) (by omega) (by omega) (by omega), e1]
  · pointwise [k0_pay121, View.ld_apply, hW, hd]
    simp only [← EReal.coe_mul, ← coe_sum]
    rw [dgn_at I (c := 0) (i := (i 0).val) (g := 3) (l := (i 1).val) (by omega) (by omega) (by omega) (by omega), e1]
    simp only [Nat.reduceMul, Nat.zero_add]
  · pointwise [k0_pay117, k0_pay118, k0_pay119, View.ld_apply, hW, hd]
    simp only [← EReal.coe_mul, ← coe_sum]
    rw [dgn_at I (c := 3) (i := (i 0).val) (g := 2) (l := (i 1).val) (by omega) (by omega) (by omega) (by omega), e1]
  · pointwise [k0_pay115, View.ld_apply, hW, hd]
    simp only [← EReal.coe_mul, ← coe_sum]
    rw [dgn_at I (c := 2) (i := (i 0).val) (g := 2) (l := (i 1).val) (by omega) (by omega) (by omega) (by omega), e1]
  · pointwise [k0_pay114, View.ld_apply, hW, hd]
    simp only [← EReal.coe_mul, ← coe_sum]
    rw [dgn_at I (c := 1) (i := (i 0).val) (g := 2) (l := (i 1).val) (by omega) (by omega) (by omega) (by omega), e1]
  · pointwise [k0_pay113, View.ld_apply, hW, hd]
    simp only [← EReal.coe_mul, ← coe_sum]
    rw [dgn_at I (c := 0) (i := (i 0).val) (g := 2) (l := (i 1).val) (by omega) (by omega) (by omega) (by omega), e1]
    simp only [Nat.reduceMul, Nat.zero_add]
  · pointwise [k0_pay110, View.ld_apply, hW, hd]
    simp only [← EReal.coe_mul, ← coe_sum]
    rw [dgn_at I (c := 3) (i := (i 0).val) (g := 1) (l := (i 1).val) (by omega) (by omega) (by omega) (by omega), e1]
  · pointwise [k0_pay109, View.ld_apply, hW, hd]
    simp only [← EReal.coe_mul, ← coe_sum]
    rw [dgn_at I (c := 2) (i := (i 0).val) (g := 1) (l := (i 1).val) (by omega) (by omega) (by omega) (by omega), e1]
  · pointwise [k0_pay106, View.ld_apply, hW, hd]
    simp only [← EReal.coe_mul, ← coe_sum]
    rw [dgn_at I (c := 1) (i := (i 0).val) (g := 1) (l := (i 1).val) (by omega) (by omega) (by omega) (by omega), e1]
  · pointwise [k0_pay104, View.ld_apply, hW, hd]
    simp only [← EReal.coe_mul, ← coe_sum]
    rw [dgn_at I (c := 0) (i := (i 0).val) (g := 1) (l := (i 1).val) (by omega) (by omega) (by omega) (by omega), e1]
    simp only [Nat.reduceMul, Nat.zero_add]
  · pointwise [k0_pay101, k0_pay102, View.ld_apply, hW, hd]
    simp only [← EReal.coe_mul, ← coe_sum]
    rw [dgn_at I (c := 3) (i := (i 0).val) (g := 0) (l := (i 1).val) (by omega) (by omega) (by omega) (by omega), e1]
  · pointwise [k0_pay99, View.ld_apply, hW, hd]
    simp only [← EReal.coe_mul, ← coe_sum]
    rw [dgn_at I (c := 2) (i := (i 0).val) (g := 0) (l := (i 1).val) (by omega) (by omega) (by omega) (by omega), e1]
  · pointwise [k0_pay98, View.ld_apply, hW, hd]
    simp only [← EReal.coe_mul, ← coe_sum]
    rw [dgn_at I (c := 1) (i := (i 0).val) (g := 0) (l := (i 1).val) (by omega) (by omega) (by omega) (by omega), e1]
  · pointwise [k0_pay95, k0_pay96, k0_pay97, View.ld_apply, hW, hd]
    simp only [← EReal.coe_mul, ← coe_sum]
    rw [dgn_at I (c := 0) (i := (i 0).val) (g := 0) (l := (i 1).val) (by omega) (by omega) (by omega) (by omega), e1]
    simp only [Nat.reduceMul, Nat.zero_add]
end Cert.KernelIdeal.Value
end
-- ==== Proof.Mask.lean ====
module

public import proofs.«01_k».proof.Proof.Gen.KernelIdeal.Frame
public import proofs.«01_k».proof.Proof.Pay
public import Idealize.ShloMosaic.Lib.Pipeline.ValueKit

@[expose] public section

set_option maxRecDepth 16384
noncomputable section
open Idealize.ShloMosaic Idealize.ShloMosaic.TcCoe Idealize.SL.Sem
namespace Cert.KernelIdeal.Value
open Cert.KernelIdeal Cert.KernelIdeal.Gen Cert.Model

/-! # The masked weights, as the first point leaves them in the two carried buffers -/

/-- The masked weights. -/
def Wm (I : In) : Vec Ideal S8x128x128 .bf16 := fun y => (I.wm (y 0).val (y 1).val (y 2).val : EReal)
/-- The masked weights, each transposed. -/
def WmT (I : In) : Vec Ideal S8x128x128 .bf16 := fun y => (I.wm (y 0).val (y 2).val (y 1).val : EReal)

/-- The mask at an entry: the weight where the position mixed in is not later, zero elsewhere. -/
theorem mask_val (I : In) {g' g i k : ℕ} (hg : g' = g) (hi : i < 128) (hk : k < 128) :
    Scalar.select (IntOp.cmpi .sle (BitVec.ofNat 32 k) (BitVec.ofNat 32 i)) ((I.w g i k : ℝ) : EReal) 0 = (I.wm g' i k : EReal) := by
  subst hg
  rw [WordCmp.cmpi_sle_ofNat (by omega) (by omega)]
  unfold Scalar.select In.wm
  by_cases h : k ≤ i <;> simp [h]

variable (I : In) (x4 : Vec Ideal S8x128x128 .f32) (h4 : ∀ y, x4 y = (I.w (y 0).val (y 1).val (y 2).val : EReal))

include h4 in
/-- The masked weights' buffer after its eight stores. -/
theorem w_canon : View.canon (Val := Elt Ideal) (s := S8x128x128) (e := .bf16)
      [⟨Rect.unit ![7, 0, 0] ![1, 128, 128] inb_S8x128x128_S1x128x128_7_0_0,
        k0_pay28 (F := Ideal) (cmpi .sle (iota .tc S128x128 32 [1] iota_S128x128_d1_w32) (iota .tc S128x128 32 [0] iota_S128x128_d0_w32)) (View.ld x4 (Rect.unit ![7, 0, 0] ![1, 128, 128] inb_S8x128x128_S1x128x128_7_0_0))⟩,
      ⟨Rect.unit ![6, 0, 0] ![1, 128, 128] inb_S8x128x128_S1x128x128_6_0_0,
        shapeCast S1x128x128 (truncf .bf16 (select (cmpi .sle (iota .tc S128x128 32 [1] iota_S128x128_d1_w32) (iota .tc S128x128 32 [0] iota_S128x128_d0_w32)) (shapeCast S128x128 (View.ld x4 (Rect.unit ![6, 0, 0] ![1, 128, 128] inb_S8x128x128_S1x128x128_6_0_0)) shapeCasts_S1x128x128_S128x128) (broadcast S128x128 (FloatOps.ofBits .f32 0x00000000#32 : Ideal .f32))) bitsLt_bf16_f32) shapeCasts_S128x128_S1x128x128⟩,
      ⟨Rect.unit ![5, 0, 0] ![1, 128, 128] inb_S8x128x128_S1x128x128_5_0_0,
        shapeCast S1x128x128 (truncf .bf16 (select (cmpi .sle (iota .tc S128x128 32 [1] iota_S128x128_d1_w32) (iota .tc S128x128 32 [0] iota_S128x128_d0_w32)) (shapeCast S128x128 (View.ld x4 (Rect.unit ![5, 0, 0] ![1, 128, 128] inb_S8x128x128_S1x128x128_5_0_0)) shapeCasts_S1x128x128_S128x128) (broadcast S128x128 (FloatOps.ofBits .f32 0x00000000#32 : Ideal .f32))) bitsLt_bf16_f32) shapeCasts_S128x128_S1x128x128⟩,
      ⟨Rect.unit ![4, 0, 0] ![1, 128, 128] inb_S8x128x128_S1x128x128_4_0_0,
        shapeCast S1x128x128 (truncf .bf16 (select (cmpi .sle (iota .tc S128x128 32 [1] iota_S128x128_d1_w32) (iota .tc S128x128 32 [0] iota_S128x128_d0_w32)) (shapeCast S128x128 (View.ld x4 (Rect.unit ![4, 0, 0] ![1, 128, 128] inb_S8x128x128_S1x128x128_4_0_0)) shapeCasts_S1x128x128_S128x128) (broadcast S128x128 (FloatOps.ofBits .f32 0x00000000#32 : Ideal .f32))) bitsLt_bf16_f32) shapeCasts_S128x128_S1x128x128⟩,
      ⟨Rect.unit ![3, 0, 0] ![1, 128, 128] inb_S8x128x128_S1x128x128_3_0_0,
        shapeCast S1x128x128 (truncf .bf16 (select (cmpi .sle (iota .tc S128x128 32 [1] iota_S128x128_d1_w32) (iota .tc S128x128 32 [0] iota_S128x128_d0_w32)) (shapeCast S128x128 (View.ld x4 (Rect.unit ![3, 0, 0] ![1, 128, 128] inb_S8x128x128_S1x128x128_3_0_0)) shapeCasts_S1x128x128_S128x128) (broadcast S128x128 (FloatOps.ofBits .f32 0x00000000#32 : Ideal .f32))) bitsLt_bf16_f32) shapeCasts_S128x128_S1x128x128⟩,
      ⟨Rect.unit ![2, 0, 0] ![1, 128, 128] inb_S8x128x128_S1x128x128_2_0_0,
        shapeCast S1x128x128 (truncf .bf16 (select (cmpi .sle (iota .tc S128x128 32 [1] iota_S128x128_d1_w32) (iota .tc S128x128 32 [0] iota_S128x128_d0_w32)) (shapeCast S128x128 (View.ld x4 (Rect.unit ![2, 0, 0] ![1, 128, 128] inb_S8x128x128_S1x128x128_2_0_0)) shapeCasts_S1x128x128_S128x128) (broadcast S128x128 (FloatOps.ofBits .f32 0x00000000#32 : Ideal .f32))) bitsLt_bf16_f32) shapeCasts_S128x128_S1x128x128⟩,
      ⟨Rect.unit ![1, 0, 0] ![1, 128, 128] inb_S8x128x128_S1x128x128_1_0_0,
        shapeCast S1x128x128 (truncf .bf16 (select (cmpi .sle (iota .tc S128x128 32 [1] iota_S128x128_d1_w32) (iota .tc S128x128 32 [0] iota_S128x128_d0_w32)) (shapeCast S128x128 (View.ld x4 (Rect.unit ![1, 0, 0] ![1, 128, 128] inb_S8x128x128_S1x128x128_1_0_0)) shapeCasts_S1x128x128_S128x128) (broadcast S128x128 (FloatOps.ofBits .f32 0x00000000#32 : Ideal .f32))) bitsLt_bf16_f32) shapeCasts_S128x128_S1x128x128⟩,
      ⟨Rect.unit ![0, 0, 0] ![1, 128, 128] inb_S8x128x128_S1x128x128_0_0_0,
        shapeCast S1x128x128 (truncf .bf16 (select (cmpi .sle (iota .tc S128x128 32 [1] iota_S128x128_d1_w32) (iota .tc S128x128 32 [0] iota_S128x128_d0_w32)) (shapeCast S128x128 (View.ld x4 (Rect.unit ![0, 0, 0] ![1, 128, 128] inb_S8x128x128_S1x128x128_0_0_0)) shapeCasts_S1x128x128_S128x128) (broadcast S128x128 (FloatOps.ofBits .f32 0x00000000#32 : Ideal .f32))) bitsLt_bf16_f32) shapeCasts_S128x128_S1x128x128⟩] = Wm I := by
  funext y
  canon_tiles i e
  · pointwise [k0_pay27, k0_pay28, View.ld_apply, h4]
    rw [Wm, e1, e2]; exact mask_val I (by omega) i1_lt i2_lt
  · pointwise [k0_pay27, k0_pay28, View.ld_apply, h4]
    rw [Wm, e1, e2]; exact mask_val I (by omega) i1_lt i2_lt
  · pointwise [k0_pay27, k0_pay28, View.ld_apply, h4]
    rw [Wm, e1, e2]; exact mask_val I (by omega) i1_lt i2_lt
  · pointwise [k0_pay27, k0_pay28, View.ld_apply, h4]
    rw [Wm, e1, e2]; exact mask_val I (by omega) i1_lt i2_lt
  · pointwise [k0_pay27, k0_pay28, View.ld_apply, h4]
    rw [Wm, e1, e2]; exact mask_val I (by omega) i1_lt i2_lt
  · pointwise [k0_pay27, k0_pay28, View.ld_apply, h4]
    rw [Wm, e1, e2]; exact mask_val I (by omega) i1_lt i2_lt
  · pointwise [k0_pay27, k0_pay28, View.ld_apply, h4]
    rw [Wm, e1, e2]; exact mask_val I (by omega) i1_lt i2_lt
  · pointwise [k0_pay27, k0_pay28, View.ld_apply, h4]
    rw [Wm, e1, e2]; exact mask_val I (by omega) i1_lt i2_lt

include h4 in
/-- The transposed masked weights' buffer after its eight stores. -/
theorem wt_canon : View.canon (Val := Elt Ideal) (s := S8x128x128) (e := .bf16)
      [⟨Rect.unit ![7, 0, 0] ![1, 128, 128] inb_S8x128x128_S1x128x128_7_0_0,
        k0_pay29 (F := Ideal) (cmpi .sle (iota .tc S128x128 32 [1] iota_S128x128_d1_w32) (iota .tc S128x128 32 [0] iota_S128x128_d0_w32)) (View.ld x4 (Rect.unit ![7, 0, 0] ![1, 128, 128] inb_S8x128x128_S1x128x128_7_0_0))⟩,
      ⟨Rect.unit ![6, 0, 0] ![1, 128, 128] inb_S8x128x128_S1x128x128_6_0_0,
        shapeCast S1x128x128 (truncf .bf16 (transpose S128x128 [1, 0] (select (cmpi .sle (iota .tc S128x128 32 [1] iota_S128x128_d1_w32) (iota .tc S128x128 32 [0] iota_S128x128_d0_w32)) (shapeCast S128x128 (View.ld x4 (Rect.unit ![6, 0, 0] ![1, 128, 128] inb_S8x128x128_S1x128x128_6_0_0)) shapeCasts_S1x128x128_S128x128) (broadcast S128x128 (FloatOps.ofBits .f32 0x00000000#32 : Ideal .f32))) transposes_S128x128_p1_0_S128x128) bitsLt_bf16_f32) shapeCasts_S128x128_S1x128x128⟩,
      ⟨Rect.unit ![5, 0, 0] ![1, 128, 128] inb_S8x128x128_S1x128x128_5_0_0,
        shapeCast S1x128x128 (truncf .bf16 (transpose S128x128 [1, 0] (select (cmpi .sle (iota .tc S128x128 32 [1] iota_S128x128_d1_w32) (iota .tc S128x128 32 [0] iota_S128x128_d0_w32)) (shapeCast S128x128 (View.ld x4 (Rect.unit ![5, 0, 0] ![1, 128, 128] inb_S8x128x128_S1x128x128_5_0_0)) shapeCasts_S1x128x128_S128x128) (broadcast S128x128 (FloatOps.ofBits .f32 0x00000000#32 : Ideal .f32))) transposes_S128x128_p1_0_S128x128) bitsLt_bf16_f32) shapeCasts_S128x128_S1x128x128⟩,
      ⟨Rect.unit ![4, 0, 0] ![1, 128, 128] inb_S8x128x128_S1x128x128_4_0_0,
        shapeCast S1x128x128 (truncf .bf16 (transpose S128x128 [1, 0] (select (cmpi .sle (iota .tc S128x128 32 [1] iota_S128x128_d1_w32) (iota .tc S128x128 32 [0] iota_S128x128_d0_w32)) (shapeCast S128x128 (View.ld x4 (Rect.unit ![4, 0, 0] ![1, 128, 128] inb_S8x128x128_S1x128x128_4_0_0)) shapeCasts_S1x128x128_S128x128) (broadcast S128x128 (FloatOps.ofBits .f32 0x00000000#32 : Ideal .f32))) transposes_S128x128_p1_0_S128x128) bitsLt_bf16_f32) shapeCasts_S128x128_S1x128x128⟩,
      ⟨Rect.unit ![3, 0, 0] ![1, 128, 128] inb_S8x128x128_S1x128x128_3_0_0,
        shapeCast S1x128x128 (truncf .bf16 (transpose S128x128 [1, 0] (select (cmpi .sle (iota .tc S128x128 32 [1] iota_S128x128_d1_w32) (iota .tc S128x128 32 [0] iota_S128x128_d0_w32)) (shapeCast S128x128 (View.ld x4 (Rect.unit ![3, 0, 0] ![1, 128, 128] inb_S8x128x128_S1x128x128_3_0_0)) shapeCasts_S1x128x128_S128x128) (broadcast S128x128 (FloatOps.ofBits .f32 0x00000000#32 : Ideal .f32))) transposes_S128x128_p1_0_S128x128) bitsLt_bf16_f32) shapeCasts_S128x128_S1x128x128⟩,
      ⟨Rect.unit ![2, 0, 0] ![1, 128, 128] inb_S8x128x128_S1x128x128_2_0_0,
        shapeCast S1x128x128 (truncf .bf16 (transpose S128x128 [1, 0] (select (cmpi .sle (iota .tc S128x128 32 [1] iota_S128x128_d1_w32) (iota .tc S128x128 32 [0] iota_S128x128_d0_w32)) (shapeCast S128x128 (View.ld x4 (Rect.unit ![2, 0, 0] ![1, 128, 128] inb_S8x128x128_S1x128x128_2_0_0)) shapeCasts_S1x128x128_S128x128) (broadcast S128x128 (FloatOps.ofBits .f32 0x00000000#32 : Ideal .f32))) transposes_S128x128_p1_0_S128x128) bitsLt_bf16_f32) shapeCasts_S128x128_S1x128x128⟩,
      ⟨Rect.unit ![1, 0, 0] ![1, 128, 128] inb_S8x128x128_S1x128x128_1_0_0,
        shapeCast S1x128x128 (truncf .bf16 (transpose S128x128 [1, 0] (select (cmpi .sle (iota .tc S128x128 32 [1] iota_S128x128_d1_w32) (iota .tc S128x128 32 [0] iota_S128x128_d0_w32)) (shapeCast S128x128 (View.ld x4 (Rect.unit ![1, 0, 0] ![1, 128, 128] inb_S8x128x128_S1x128x128_1_0_0)) shapeCasts_S1x128x128_S128x128) (broadcast S128x128 (FloatOps.ofBits .f32 0x00000000#32 : Ideal .f32))) transposes_S128x128_p1_0_S128x128) bitsLt_bf16_f32) shapeCasts_S128x128_S1x128x128⟩,
      ⟨Rect.unit ![0, 0, 0] ![1, 128, 128] inb_S8x128x128_S1x128x128_0_0_0,
        shapeCast S1x128x128 (truncf .bf16 (transpose S128x128 [1, 0] (select (cmpi .sle (iota .tc S128x128 32 [1] iota_S128x128_d1_w32) (iota .tc S128x128 32 [0] iota_S128x128_d0_w32)) (shapeCast S128x128 (View.ld x4 (Rect.unit ![0, 0, 0] ![1, 128, 128] inb_S8x128x128_S1x128x128_0_0_0)) shapeCasts_S1x128x128_S128x128) (broadcast S128x128 (FloatOps.ofBits .f32 0x00000000#32 : Ideal .f32))) transposes_S128x128_p1_0_S128x128) bitsLt_bf16_f32) shapeCasts_S128x128_S1x128x128⟩] = WmT I := by
  funext y
  canon_tiles i e
  · pointwise [k0_pay27, k0_pay29, View.ld_apply, h4]
    rw [WmT, e1, e2]; exact mask_val I (by omega) i2_lt i1_lt
  · pointwise [k0_pay27, k0_pay29, View.ld_apply, h4]
    rw [WmT, e1, e2]; exact mask_val I (by omega) i2_lt i1_lt
  · pointwise [k0_pay27, k0_pay29, View.ld_apply, h4]
    rw [WmT, e1, e2]; exact mask_val I (by omega) i2_lt i1_lt
  · pointwise [k0_pay27, k0_pay29, View.ld_apply, h4]
    rw [WmT, e1, e2]; exact mask_val I (by omega) i2_lt i1_lt
  · pointwise [k0_pay27, k0_pay29, View.ld_apply, h4]
    rw [WmT, e1, e2]; exact mask_val I (by omega) i2_lt i1_lt
  · pointwise [k0_pay27, k0_pay29, View.ld_apply, h4]
    rw [WmT, e1, e2]; exact mask_val I (by omega) i2_lt i1_lt
  · pointwise [k0_pay27, k0_pay29, View.ld_apply, h4]
    rw [WmT, e1, e2]; exact mask_val I (by omega) i2_lt i1_lt
  · pointwise [k0_pay27, k0_pay29, View.ld_apply, h4]
    rw [WmT, e1, e2]; exact mask_val I (by omega) i2_lt i1_lt

/-- A read of a rectangle of the weights' buffer after stores into it. -/
theorem read_w (L : List (View.Piece (Elt Ideal) S8x128x128 .bf16)) (r : Rect S8x128x128) :
    (View.whole cc0_scratch0).readCov (Val := Elt Ideal) L r.toLoadRect = View.ld (View.canon L) r := by
  rw [View.readCov_eq_canon']; rfl
/-- A read of a rectangle of the transposed weights' buffer after stores into it. -/
theorem read_wt (L : List (View.Piece (Elt Ideal) S8x128x128 .bf16)) (r : Rect S8x128x128) :
    (View.whole cc0_scratch1).readCov (Val := Elt Ideal) L r.toLoadRect = View.ld (View.canon L) r := by
  rw [View.readCov_eq_canon']; rfl
end Cert.KernelIdeal.Value
end
-- ==== Proof.Out.lean ====
module

public import proofs.«01_k».proof.Proof.Gen.KernelIdeal.Frame
public import proofs.«01_k».proof.Proof.Pay
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
namespace Cert.KernelIdeal.Value
open Cert.KernelIdeal Cert.KernelIdeal.Gen Cert.Model

/-! # What the block adds to each of the call's results -/

variable (I : In) (x0 : Vec Ideal S512x1024 .bf16) (x1 : Vec Ideal S512x512 .bf16) (x2 x3 : Vec Ideal S1x512 .f32)
  (h0 : ∀ y, x0 y = (I.z (y 0).val (y 1).val : EReal)) (h1 : ∀ y, x1 y = (I.d (y 0).val (y 1).val : EReal))
  (h2 : ∀ y, x2 y = (I.lg (y 1).val : EReal)) (h3 : ∀ y, x3 y = (I.lb (y 1).val : EReal))

/-- The activation's derivative, at a real number, from the operations that compute it. -/
theorem gel'_eq (x : ℝ) :
    (Ideal.ofBits .f32 0x3F000000#32 * (1 + Ideal.tanh (Ideal.ofBits .f32 0x3F4C422A#32 * ((x : EReal) + Named.named (F := Ideal) κ "gelu_c" (φ := .f32) 0x3D372713#32 * x * x * x)))
      + Ideal.ofBits .f32 0x3F000000#32 * x * (1 - Ideal.tanh (Ideal.ofBits .f32 0x3F4C422A#32 * ((x : EReal) + Named.named (F := Ideal) κ "gelu_c" (φ := .f32) 0x3D372713#32 * x * x * x))
          * Ideal.tanh (Ideal.ofBits .f32 0x3F4C422A#32 * ((x : EReal) + Named.named (F := Ideal) κ "gelu_c" (φ := .f32) 0x3D372713#32 * x * x * x)))
        * Ideal.ofBits .f32 0x3F4C422A#32 * (1 + Named.named (F := Ideal) κ "gelu_3c" (φ := .f32) 0x3E095D4F#32 * x * x) : EReal) = (gel' x : EReal) := by
  simp only [ofBits_half, ofBits_gK, gelu_c, gelu_3c, ← EReal.coe_one, ← EReal.coe_mul, ← EReal.coe_add, ← EReal.coe_sub, Ideal.tanh_coe]
  rfl

include h0 h1 in
/-- The value half of the input's gradient, from the mixed rows. -/
theorem dzl_eq (M : Vec Ideal S512x512 .f32) (hM : ∀ y, M y = (I.mix (y 0).val (y 1).val : EReal)) (y) :
    k0_pay89 (F := Ideal) (k0_pay85 (k0_pay43 x1) M) (k0_pay86 (k0_pay34 x0)) (k0_pay87 (k0_pay34 x0)) (k0_pay88 (k0_pay34 x0)) y
      = (I.d (y 0).val (y 1).val * I.mix (y 0).val (y 1).val * gel' (I.z (y 0).val (y 1).val) : ℝ) := by
  pointwise [k0_pay89, k0_pay85, k0_pay43, k0_pay86, k0_pay87, k0_pay88, k0_pay34, h0, h1, hM]
  rw [gel'_eq]
  simp only [← EReal.coe_mul]

include h0 h2 in
/-- The gradient of the gate half after the activation, from the gradient of the normalised rows with gain and offset. -/
theorem dv_eq (D : Vec Ideal S512x512 .f32) (hD : ∀ y, D y = (I.dgn (y 0).val (y 1).val : EReal)) (y) :
    k0_pay158 (F := Ideal) (k0_pay38 x0) (k0_pay39 x0) D x2 y = (I.dv (y 0).val (y 1).val : EReal) := by
  unfold k0_pay158
  pointwise [pay38_eq I x0 h0, pay39_eq I x0 h0, h2, hD]
  simp only [ofBits_512, ← EReal.coe_mul, ← coe_sum, div_512, ← EReal.coe_sub]
  rfl

include h0 h2 in
/-- The gate half of the input's gradient. -/
theorem dzr_eq (D : Vec Ideal S512x512 .f32) (hD : ∀ y, D y = (I.dgn (y 0).val (y 1).val : EReal)) (y) :
    k0_pay1 (F := Ideal) (k0_pay158 (k0_pay38 x0) (k0_pay39 x0) D x2) (k0_pay159 (k0_pay34 x0)) (k0_pay160 (k0_pay34 x0)) k0_pay161 y
      = (I.dv (y 0).val (y 1).val * gel' (I.z (y 0).val (512 + (y 1).val)) : ℝ) := by
  unfold k0_pay1
  pointwise [k0_pay159, k0_pay160, k0_pay161, k0_pay34, h0, dv_eq I x0 x2 h0 h2 D hD]
  rw [gel'_eq]
  simp only [← EReal.coe_mul]

/-- What a block adds to the gain's gradient. -/
def _root_.Cert.Model.In.dgB (I : In) (j : ℕ) : ℝ := ∑ a : Fin 512, I.dgn a j * I.xh a j
/-- What a block adds to the offset's gradient. -/
def _root_.Cert.Model.In.dbB (I : In) (j : ℕ) : ℝ := ∑ a : Fin 512, I.dgn a j
/-- What a block adds to the mixing offset's gradient. -/
def _root_.Cert.Model.In.dsB (I : In) (i j : ℕ) : ℝ := I.dm i j + I.dm (128 + i) j + I.dm (256 + i) j + I.dm (384 + i) j
/-- What a block adds to the mixing weights' gradient. -/
def _root_.Cert.Model.In.dwB (I : In) (g i k : ℕ) : ℝ :=
  if k ≤ i then I.dwc 0 g i k + I.dwc 128 g i k + I.dwc 256 g i k + I.dwc 384 g i k else 0

include h0 in
/-- The gain's gradient after the block. -/
theorem dg_eq (D : Vec Ideal S512x512 .f32) (hD : ∀ y, D y = (I.dgn (y 0).val (y 1).val : EReal)) (P : Vec Ideal S1x512 .f32) (y) :
    k0_pay156 (F := Ideal) (k0_pay39 x0) D P y = P y + (I.dgB (y 1).val : EReal) := by
  pointwise [k0_pay156, pay39_eq I x0 h0, hD]
  simp only [← EReal.coe_mul, ← coe_sum]
  rfl

/-- The offset's gradient after the block. -/
theorem db_eq (D : Vec Ideal S512x512 .f32) (hD : ∀ y, D y = (I.dgn (y 0).val (y 1).val : EReal)) (P : Vec Ideal S1x512 .f32) (y) :
    k0_pay157 (F := Ideal) D P y = P y + (I.dbB (y 1).val : EReal) := by
  pointwise [k0_pay157, hD]
  simp only [← coe_sum]
  rfl

include h0 h1 in
/-- The mixing offset's gradient after the block. -/
theorem ds_eq (P : Vec Ideal S128x512 .f32) (y) :
    k0_pay92 (F := Ideal) (k0_pay36 x0) (k0_pay43 x1) P y = P y + (I.dsB (y 0).val (y 1).val : EReal) := by
  have hd := fun y => (show k0_pay90 (F := Ideal) (k0_pay36 x0) (k0_pay43 x1) y = _ from dm_eq I x0 x1 h0 h1 y)
  pointwise [k0_pay92, hd]
  simp only [← EReal.coe_add]
  rfl

/-- The position a store of one group's rows writes. -/
theorem emb_row (g : ℕ) (inb) (y : (Rect.unit (s := S8x128x128) ![g, 0, 0] ![1, 128, 128] inb).shape.Idx) (hg : g < 8) :
    (Rect.unit (s := S8x128x128) ![g, 0, 0] ![1, 128, 128] inb).emb y = ix3 ⟨g, hg⟩ (y 1) (y 2) := by
  have h0 : (y 0).val < 1 := (y 0).isLt
  funext a
  fin_cases a
  · exact Fin.ext (show g + 1 * (y 0).val = g by omega)
  · exact Fin.ext (show 0 + 1 * (y 1).val = (y 1).val by omega)
  · exact Fin.ext (show 0 + 1 * (y 2).val = (y 2).val by omega)

/-- The masked sum of the four chunks' products, at a group whose columns begin at `o`. -/
theorem dw_sel (g o : ℕ) (ho : o = 64 * g) (i k : Fin 128) :
    Scalar.select (IntOp.cmpi CmpIPredicate.sle (BitVec.ofNat 32 k.val) (BitVec.ofNat 32 i.val))
      ((∑ x : Fin 64, (I.dm i (o + x) : EReal) * (I.gn k (o + x) : EReal)) + (∑ x : Fin 64, (I.dm (128 + i) (o + x) : EReal) * (I.gn (128 + k) (o + x) : EReal))
        + (∑ x : Fin 64, (I.dm (256 + i) (o + x) : EReal) * (I.gn (256 + k) (o + x) : EReal))
        + ∑ x : Fin 64, (I.dm (384 + i) (o + x) : EReal) * (I.gn (384 + k) (o + x) : EReal)) (0 : EReal) = (I.dwB g i k : EReal) := by
  subst ho
  rw [WordCmp.cmpi_sle_ofNat (by omega) (by omega)]
  unfold In.dwB
  by_cases h : k.val ≤ i.val
  · simp only [h, if_true, decide_true, Scalar.select, BitVec.ofBool_true, ← EReal.coe_mul, ← coe_sum, ← EReal.coe_add]
    simp only [In.dwc, Nat.zero_add]
  · simp only [h, if_false, decide_false, Scalar.select, BitVec.ofBool_false]
    rfl

include h0 h1 h2 h3 in
/-- The mixing weights' gradient after the block: each of the eight stores is a block of the sum. -/
theorem dw_pieces (P : Vec Ideal S8x128x128 .f32) :
    View.PiecesOf (fun y => P y + (I.dwB (y 0).val (y 1).val (y 2).val : EReal)) (([
      ⟨Rect.unit ![7, 0, 0] ![1, 128, 128] inb_S8x128x128_S1x128x128_7_0_0,
        k0_pay155 (k0_pay42 (k0_pay40 x0 x2) (k0_pay41 x3)) (k0_pay91 (k0_pay36 x0) (k0_pay43 x1)) k0_pay93 (k0_pay150 (k0_pay42 (k0_pay40 x0 x2) (k0_pay41 x3)) (k0_pay91 (k0_pay36 x0) (k0_pay43 x1))) (View.ld P (Rect.unit ![7, 0, 0] ![1, 128, 128] inb_S8x128x128_S1x128x128_7_0_0))⟩,
      ⟨Rect.unit ![6, 0, 0] ![1, 128, 128] inb_S8x128x128_S1x128x128_6_0_0,
        k0_pay148 k0_pay93 (k0_pay146 (k0_pay42 (k0_pay40 x0 x2) (k0_pay41 x3)) (k0_pay91 (k0_pay36 x0) (k0_pay43 x1)) (k0_pay142 (k0_pay42 (k0_pay40 x0 x2) (k0_pay41 x3)) (k0_pay91 (k0_pay36 x0) (k0_pay43 x1)))) (View.ld P (Rect.unit ![6, 0, 0] ![1, 128, 128] inb_S8x128x128_S1x128x128_6_0_0))⟩,
      ⟨Rect.unit ![5, 0, 0] ![1, 128, 128] inb_S8x128x128_S1x128x128_5_0_0,
        k0_pay141 (k0_pay42 (k0_pay40 x0 x2) (k0_pay41 x3)) (k0_pay91 (k0_pay36 x0) (k0_pay43 x1)) k0_pay93 (k0_pay136 (k0_pay42 (k0_pay40 x0 x2) (k0_pay41 x3)) (k0_pay91 (k0_pay36 x0) (k0_pay43 x1))) (View.ld P (Rect.unit ![5, 0, 0] ![1, 128, 128] inb_S8x128x128_S1x128x128_5_0_0))⟩,
      ⟨Rect.unit ![4, 0, 0] ![1, 128, 128] inb_S8x128x128_S1x128x128_4_0_0,
        k0_pay134 k0_pay93 (k0_pay131 (k0_pay42 (k0_pay40 x0 x2) (k0_pay41 x3)) (k0_pay91 (k0_pay36 x0) (k0_pay43 x1)) (k0_pay127 (k0_pay42 (k0_pay40 x0 x2) (k0_pay41 x3)) (k0_pay91 (k0_pay36 x0) (k0_pay43 x1)))) (View.ld P (Rect.unit ![4, 0, 0] ![1, 128, 128] inb_S8x128x128_S1x128x128_4_0_0))⟩,
      ⟨Rect.unit ![3, 0, 0] ![1, 128, 128] inb_S8x128x128_S1x128x128_3_0_0,
        k0_pay126 (k0_pay42 (k0_pay40 x0 x2) (k0_pay41 x3)) (k0_pay91 (k0_pay36 x0) (k0_pay43 x1)) k0_pay93 (k0_pay122 (k0_pay42 (k0_pay40 x0 x2) (k0_pay41 x3)) (k0_pay91 (k0_pay36 x0) (k0_pay43 x1))) (View.ld P (Rect.unit ![3, 0, 0] ![1, 128, 128] inb_S8x128x128_S1x128x128_3_0_0))⟩,
      ⟨Rect.unit ![2, 0, 0] ![1, 128, 128] inb_S8x128x128_S1x128x128_2_0_0,
        k0_pay120 k0_pay93 (k0_pay116 (k0_pay42 (k0_pay40 x0 x2) (k0_pay41 x3)) (k0_pay91 (k0_pay36 x0) (k0_pay43 x1)) (k0_pay112 (k0_pay42 (k0_pay40 x0 x2) (k0_pay41 x3)) (k0_pay91 (k0_pay36 x0) (k0_pay43 x1)))) (View.ld P (Rect.unit ![2, 0, 0] ![1, 128, 128] inb_S8x128x128_S1x128x128_2_0_0))⟩,
      ⟨Rect.unit ![1, 0, 0] ![1, 128, 128] inb_S8x128x128_S1x128x128_1_0_0,
        k0_pay111 (k0_pay42 (k0_pay40 x0 x2) (k0_pay41 x3)) (k0_pay91 (k0_pay36 x0) (k0_pay43 x1)) k0_pay93 (k0_pay105 (k0_pay42 (k0_pay40 x0 x2) (k0_pay41 x3)) (k0_pay91 (k0_pay36 x0) (k0_pay43 x1))) (k0_pay107 (k0_pay91 (k0_pay36 x0) (k0_pay43 x1))) (k0_pay108 (k0_pay42 (k0_pay40 x0 x2) (k0_pay41 x3))) (View.ld P (Rect.unit ![1, 0, 0] ![1, 128, 128] inb_S8x128x128_S1x128x128_1_0_0))⟩,
      ⟨Rect.unit ![0, 0, 0] ![1, 128, 128] inb_S8x128x128_S1x128x128_0_0_0,
        k0_pay103 k0_pay93 (k0_pay100 (k0_pay42 (k0_pay40 x0 x2) (k0_pay41 x3)) (k0_pay91 (k0_pay36 x0) (k0_pay43 x1)) (k0_pay94 (k0_pay36 x0) (k0_pay42 (k0_pay40 x0 x2) (k0_pay41 x3)) (k0_pay43 x1))) (View.ld P (Rect.unit ![0, 0, 0] ![1, 128, 128] inb_S8x128x128_S1x128x128_0_0_0))⟩] : List (View.Piece (Elt Ideal) S8x128x128 .f32))) := by
  have hg := gn_eq I x0 x2 x3 h0 h2 h3
  have hd := dm_eq I x0 x1 h0 h1
  refine ⟨fun y => ?_, fun y => ?_, fun y => ?_, fun y => ?_, fun y => ?_, fun y => ?_, fun y => ?_, fun y => ?_, trivial⟩
  · pointwise [k0_pay93, k0_pay150, k0_pay155, View.ld_apply, hg, hd]
    rw [emb_row 7 _ y (by decide)]
    exact congrArg (P _ + ·) (dw_sel I 7 448 rfl (y 1) (y 2))
  · pointwise [k0_pay93, k0_pay142, k0_pay146, k0_pay148, View.ld_apply, hg, hd]
    rw [emb_row 6 _ y (by decide)]
    exact congrArg (P _ + ·) (dw_sel I 6 384 rfl (y 1) (y 2))
  · pointwise [k0_pay93, k0_pay136, k0_pay141, View.ld_apply, hg, hd]
    rw [emb_row 5 _ y (by decide)]
    exact congrArg (P _ + ·) (dw_sel I 5 320 rfl (y 1) (y 2))
  · pointwise [k0_pay93, k0_pay127, k0_pay131, k0_pay134, View.ld_apply, hg, hd]
    rw [emb_row 4 _ y (by decide)]
    exact congrArg (P _ + ·) (dw_sel I 4 256 rfl (y 1) (y 2))
  · pointwise [k0_pay93, k0_pay122, k0_pay126, View.ld_apply, hg, hd]
    rw [emb_row 3 _ y (by decide)]
    exact congrArg (P _ + ·) (dw_sel I 3 192 rfl (y 1) (y 2))
  · pointwise [k0_pay93, k0_pay112, k0_pay116, k0_pay120, View.ld_apply, hg, hd]
    rw [emb_row 2 _ y (by decide)]
    exact congrArg (P _ + ·) (dw_sel I 2 128 rfl (y 1) (y 2))
  · pointwise [k0_pay93, k0_pay105, k0_pay107, k0_pay108, k0_pay111, View.ld_apply, hg, hd]
    rw [emb_row 1 _ y (by decide)]
    exact congrArg (P _ + ·) (dw_sel I 1 64 rfl (y 1) (y 2))
  · pointwise [k0_pay93, k0_pay94, k0_pay100, k0_pay103, View.ld_apply, hg, hd]
    rw [emb_row 0 _ y (by decide)]
    exact congrArg (P _ + ·) (dw_sel I 0 0 rfl (y 1) (y 2))
end Cert.KernelIdeal.Value
end
-- ==== Proof.Win.lean ====
module

public import proofs.«01_k».proof.Proof.Gen.KernelIdeal.Frame
public import proofs.«01_k».proof.Proof.Gen.KernelIdeal.Value
public import proofs.«01_k».proof.Proof.Buf
public import proofs.«01_k».proof.Proof.Mask
public import proofs.«01_k».proof.Proof.Out
public import Idealize.ShloMosaic.Lib.WritesUnit
public import Idealize.ShloMosaic.Lib.VecWindow
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
namespace Cert.KernelIdeal.Value
open Idealize.ShloMosaic.Pipeline (Dat)
open Cert.KernelIdeal Cert.KernelIdeal.Gen Cert.Model

/-! # What each point leaves in each result, over what the point before left -/

variable (m : (ℓ : Loc nD τ sig) → Buf (Elt Ideal) ℓ) (c : Dev nD) (I : In)

/-- The block of rows a point handles. -/
abbrev blkI (t : ℕ) : In := I.shift (512 * t)

variable
  (H0 : ∀ (t : Fin cfg0.N) (y : S512x1024.Idx), (iblk m c 0 t : Vec Ideal S512x1024 .bf16) y = ((blkI I t).z (y 0).val (y 1).val : EReal))
  (H1 : ∀ (t : Fin cfg0.N) (y : S512x512.Idx), (iblk m c 1 t : Vec Ideal S512x512 .bf16) y = ((blkI I t).d (y 0).val (y 1).val : EReal))
  (H2 : ∀ (t : Fin cfg0.N) (y : S1x512.Idx), (iblk m c 2 t : Vec Ideal S1x512 .f32) y = (I.lg (y 1).val : EReal))
  (H3 : ∀ (t : Fin cfg0.N) (y : S1x512.Idx), (iblk m c 3 t : Vec Ideal S1x512 .f32) y = (I.lb (y 1).val : EReal))
  (H4 : ∀ (t : Fin cfg0.N) (y : S8x128x128.Idx), (iblk m c 4 t : Vec Ideal S8x128x128 .f32) y = (I.w (y 0).val (y 1).val (y 2).val : EReal))
  (H5 : ∀ (t : Fin cfg0.N) (y : S128x512.Idx), (iblk m c 5 t : Vec Ideal S128x512 .f32) y = (I.sb (y 0).val (y 1).val : EReal))

include H4 in
/-- The two carried buffers hold the masked weights after every point. -/
theorem scr : ∀ n hn, (outsAt0 m c n hn).2.2.2.2.2.1 = Wm I ∧ (outsAt0 m c n hn).2.2.2.2.2.2 = WmT I := by
  intro n
  induction n with
  | zero =>
    intro hn
    have e := outsAt0_A m c ⟨0, hn⟩ rfl
    constructor
    · rw [show outsAt0 m c 0 hn = _ from e]; frame_out
      exact w_canon I _ (H4 _)
    · rw [show outsAt0 m c 0 hn = _ from e]; frame_out
      exact wt_canon I _ (H4 _)
  | succ n ih =>
    intro hn
    by_cases h : (n + 1) % 16 = 0
    · have e := outsAt0_A m c ⟨n + 1, hn⟩ h
      constructor
      · rw [show outsAt0 m c (n + 1) hn = _ from e]; frame_out
        exact w_canon I _ (H4 _)
      · rw [show outsAt0 m c (n + 1) hn = _ from e]; frame_out
        exact wt_canon I _ (H4 _)
    · have e := outsAt0_B m c ⟨n + 1, hn⟩ h
      constructor
      · rw [show outsAt0 m c (n + 1) hn = _ from e]; dsimp only [sout0_B_0, Nat.add_sub_cancel]; exact (ih _).1
      · rw [show outsAt0 m c (n + 1) hn = _ from e]; dsimp only [sout0_B_1, Nat.add_sub_cancel]; exact (ih _).2

/-- A store of row zero over a buffer adds to that row and leaves the others. -/
theorem row_out {sig : RefSig} {κ : Kind} {sp : Space} (v : View sig κ sp S8x512 .f32) (f) (P : Vec Ideal S8x512 .f32) (L : List (View.Piece (Elt Ideal) S8x512 .f32))
    (hP : v.read (Elt Ideal) (v.writes (Elt Ideal) f L) = P) (w : Vec Ideal S1x512 .f32) (b : ℕ → ℝ)
    (hw : ∀ x, w x = View.ld P (Rect.unit ![0, 0] ![1, 512] inb_S8x512_S1x512_0_0) x + (b (x 1).val : EReal)) (y) :
    v.read (Elt Ideal) (v.writes (Elt Ideal) f (⟨Rect.unit ![0, 0] ![1, 512] inb_S8x512_S1x512_0_0, w⟩ :: L)) y
      = P y + ((if (y 0).val = 0 then b (y 1).val else 0 : ℝ) : EReal) := by
  by_cases h : (y 0).val = 0
  · refine (View.read_writes_cons_rows_of_mem v f (off := ![0, 0]) (size := ![1, 512]) (o := 0) inb_S8x512_S1x512_0_0 w L y (ix2 ⟨0, by decide⟩ (y 1)) rfl
      (by simpa using h) rfl).trans ?_
    rw [hw, if_pos h]
    refine congrArg (· + _) (congrArg P ?_)
    funext a
    fin_cases a
    · exact Fin.ext (by simpa using h.symm)
    · exact Fin.ext (show 0 + 1 * (y 1).val = (y 1).val by omega)
  · refine (View.read_writes_cons_rows_of_not_mem v f (off := ![0, 0]) (size := ![1, 512]) (o := 0) (W := 1) inb_S8x512_S1x512_0_0 w L y rfl rfl
      (Or.inr (by omega))).trans ?_
    rw [hP, if_neg h]
    exact (add_zero (P y : EReal)).symm

/-- A position lies in its group's rows. -/
theorem mem_row (g : ℕ) (inb) (y : S8x128x128.Idx) (h : (y 0).val = g) (h1 : (y 1).val < 128) (h2 : (y 2).val < 128) :
    y ∈ (Rect.unit (s := S8x128x128) ![g, 0, 0] ![1, 128, 128] inb).set := by
  refine Rect.mem_set_unit.mpr fun a => ?_
  fin_cases a
  · exact ⟨le_of_eq h.symm, show (y 0).val < g + 1 by omega⟩
  · exact ⟨Nat.zero_le _, show (y 1).val < 0 + 128 by omega⟩
  · exact ⟨Nat.zero_le _, show (y 2).val < 0 + 128 by omega⟩

/-- The eight groups' stores cover the buffer. -/
theorem covers_dw {w7 w6 w5 w4 w3 w2 w1 w0 : Vec Ideal S1x128x128 .f32} (y : S8x128x128.Idx) :
    ∃ p ∈ ([⟨Rect.unit ![7, 0, 0] ![1, 128, 128] inb_S8x128x128_S1x128x128_7_0_0, w7⟩, ⟨Rect.unit ![6, 0, 0] ![1, 128, 128] inb_S8x128x128_S1x128x128_6_0_0, w6⟩, ⟨Rect.unit ![5, 0, 0] ![1, 128, 128] inb_S8x128x128_S1x128x128_5_0_0, w5⟩, ⟨Rect.unit ![4, 0, 0] ![1, 128, 128] inb_S8x128x128_S1x128x128_4_0_0, w4⟩, ⟨Rect.unit ![3, 0, 0] ![1, 128, 128] inb_S8x128x128_S1x128x128_3_0_0, w3⟩, ⟨Rect.unit ![2, 0, 0] ![1, 128, 128] inb_S8x128x128_S1x128x128_2_0_0, w2⟩, ⟨Rect.unit ![1, 0, 0] ![1, 128, 128] inb_S8x128x128_S1x128x128_1_0_0, w1⟩, ⟨Rect.unit ![0, 0, 0] ![1, 128, 128] inb_S8x128x128_S1x128x128_0_0_0, w0⟩] : List (View.Piece (Elt Ideal) S8x128x128 .f32)), y ∈ p.1.set := by
  have h0 : (y 0).val < 8 := (y 0).isLt
  have h1 : (y 1).val < 128 := (y 1).isLt
  have h2 : (y 2).val < 128 := (y 2).isLt
  have hg : (y 0).val = 7 ∨ (y 0).val = 6 ∨ (y 0).val = 5 ∨ (y 0).val = 4 ∨ (y 0).val = 3 ∨ (y 0).val = 2 ∨ (y 0).val = 1 ∨ (y 0).val = 0 := by omega
  rcases hg with h | h | h | h | h | h | h | h
  · exact ⟨_, .head _, mem_row _ inb_S8x128x128_S1x128x128_7_0_0 y h h1 h2⟩
  · exact ⟨_, .tail _ (.head _), mem_row _ inb_S8x128x128_S1x128x128_6_0_0 y h h1 h2⟩
  · exact ⟨_, .tail _ (.tail _ (.head _)), mem_row _ inb_S8x128x128_S1x128x128_5_0_0 y h h1 h2⟩
  · exact ⟨_, .tail _ (.tail _ (.tail _ (.head _))), mem_row _ inb_S8x128x128_S1x128x128_4_0_0 y h h1 h2⟩
  · exact ⟨_, .tail _ (.tail _ (.tail _ (.tail _ (.head _)))), mem_row _ inb_S8x128x128_S1x128x128_3_0_0 y h h1 h2⟩
  · exact ⟨_, .tail _ (.tail _ (.tail _ (.tail _ (.tail _ (.head _))))), mem_row _ inb_S8x128x128_S1x128x128_2_0_0 y h h1 h2⟩
  · exact ⟨_, .tail _ (.tail _ (.tail _ (.tail _ (.tail _ (.tail _ (.head _)))))), mem_row _ inb_S8x128x128_S1x128x128_1_0_0 y h h1 h2⟩
  · exact ⟨_, .tail _ (.tail _ (.tail _ (.tail _ (.tail _ (.tail _ (.tail _ (.head _))))))), mem_row _ inb_S8x128x128_S1x128x128_0_0_0 y h h1 h2⟩

section B
variable (t : Fin cfg0.N) (h : ¬ t.val % 16 = 0) (hp : t.val - 1 < cfg0.N)

include H0 H1 H2 H3 H4 H5 h in
/-- The input's gradient, at a later point. -/
theorem dz_B (y) : (outsAt0 m c t.val t.isLt).1 y = ((blkI I t).dz (y 0).val (y 1).val : EReal) := by
  rw [outsAt0_B m c t h]; frame_out
  simp only [read_unread_whole, (scr m c I H4 _ _).1, (scr m c I H4 _ _).2]
  rw [mixBuf (blkI I t) _ _ _ _ (H0 t) (H2 t) (H3 t) (H5 t) (Wm I) (fun y => rfl), dgnBuf (blkI I t) _ _ (H0 t) (H1 t) (WmT I) (fun y => rfl)]
  canon_tiles i e
  · refine (dzr_eq (blkI I t) _ _ (H0 t) (H2 t) _ (fun y => rfl) i).trans ?_
    simp [In.dz, e0, e1]
  · refine (dzl_eq (blkI I t) _ _ (H0 t) (H1 t) _ (fun y => rfl) i).trans ?_
    simp [In.dz, e0, e1, i1_lt]

include H0 H1 H4 h in
/-- The gain's gradient, at a later point. -/
theorem dg_B (y) : (outsAt0 m c t.val t.isLt).2.2.2.1 y
    = (outsAt0 m c (t.val - 1) hp).2.2.2.1 y + ((if (y 0).val = 0 then (blkI I t).dgB (y 1).val else 0 : ℝ) : EReal) := by
  rw [outsAt0_B m c t h]; frame_out
  simp only [read_unread_whole, (scr m c I H4 _ _).1, (scr m c I H4 _ _).2]
  rw [dgnBuf (blkI I t) _ _ (H0 t) (H1 t) (WmT I) (fun y => rfl)]
  refine row_out _ _ _ [] ?_ _ _ (fun x => dg_eq (blkI I t) _ (H0 t) _ (fun y => rfl) _ x) y
  exact Memref.IsWhole.read_unread _ _

include H0 H1 H4 h in
/-- The offset's gradient, at a later point. -/
theorem db_B (y) : (outsAt0 m c t.val t.isLt).2.2.2.2.1 y
    = (outsAt0 m c (t.val - 1) hp).2.2.2.2.1 y + ((if (y 0).val = 0 then (blkI I t).dbB (y 1).val else 0 : ℝ) : EReal) := by
  rw [outsAt0_B m c t h]; frame_out
  simp only [read_unread_whole, (scr m c I H4 _ _).1, (scr m c I H4 _ _).2]
  rw [dgnBuf (blkI I t) _ _ (H0 t) (H1 t) (WmT I) (fun y => rfl)]
  refine row_out _ _ _ [] ?_ _ _ (fun x => db_eq (blkI I t) _ (fun y => rfl) _ x) y
  exact Memref.IsWhole.read_unread _ _

include H0 H1 h in
/-- The mixing offset's gradient, at a later point. -/
theorem ds_B (y) : (outsAt0 m c t.val t.isLt).2.2.1 y
    = (outsAt0 m c (t.val - 1) hp).2.2.1 y + ((blkI I t).dsB (y 0).val (y 1).val : EReal) := by
  rw [outsAt0_B m c t h]; frame_out
  exact ds_eq (blkI I t) _ _ (H0 t) (H1 t) _ y

include H0 H1 H2 H3 h in
/-- The mixing weights' gradient, at a later point. -/
theorem dw_B (y) : (outsAt0 m c t.val t.isLt).2.1 y
    = (outsAt0 m c (t.val - 1) hp).2.1 y + ((blkI I t).dwB (y 0).val (y 1).val (y 2).val : EReal) := by
  rw [outsAt0_B m c t h]; frame_out
  exact View.canon_append_of_piecesOf _ [] _ (dw_pieces (blkI I t) _ _ _ _ (H0 t) (H1 t) (H2 t) (H3 t) _) y (covers_dw y)
end B

section A
variable (t : Fin cfg0.N) (h : t.val % 16 = 0)

include H0 H1 H2 H3 H4 H5 h in
/-- The input's gradient, at the first point. -/
theorem dz_A (y) : (outsAt0 m c t.val t.isLt).1 y = ((blkI I t).dz (y 0).val (y 1).val : EReal) := by
  rw [outsAt0_A m c t h]; frame_out
  simp only [read_w, read_wt]
  rw [w_canon I _ (H4 t), wt_canon I _ (H4 t)]
  rw [mixBuf (blkI I t) _ _ _ _ (H0 t) (H2 t) (H3 t) (H5 t) (Wm I) (fun y => rfl), dgnBuf (blkI I t) _ _ (H0 t) (H1 t) (WmT I) (fun y => rfl)]
  canon_tiles i e
  · refine (dzr_eq (blkI I t) _ _ (H0 t) (H2 t) _ (fun y => rfl) i).trans ?_
    simp [In.dz, e0, e1]
  · refine (dzl_eq (blkI I t) _ _ (H0 t) (H1 t) _ (fun y => rfl) i).trans ?_
    simp [In.dz, e0, e1, i1_lt]

include H0 H1 H4 h in
/-- The gain's gradient, at the first point. -/
theorem dg_A (y) : (outsAt0 m c t.val t.isLt).2.2.2.1 y
    = 0 + ((if (y 0).val = 0 then (blkI I t).dgB (y 1).val else 0 : ℝ) : EReal) := by
  rw [outsAt0_A m c t h]; frame_out
  simp only [read_wt]
  rw [wt_canon I _ (H4 t)]
  rw [dgnBuf (blkI I t) _ _ (H0 t) (H1 t) (WmT I) (fun y => rfl)]
  simp (disch := decide) only [↓View.readCov_fill]
  rw [← View.read_writes_junk_apply_eq_canon (ms0_9 t).view y]
  refine (row_out _ _ (k0_pay32 (F := Ideal)) [_] ?_ _ _ (fun x => dg_eq (blkI I t) _ (H0 t) _ (fun y => rfl) _ x) y).trans (congrArg (· + _) ?_)
  · exact View.read_writes_full _ _ _ _ _
  · pointwise [k0_pay32]

include H0 H1 H4 h in
/-- The offset's gradient, at the first point. -/
theorem db_A (y) : (outsAt0 m c t.val t.isLt).2.2.2.2.1 y
    = 0 + ((if (y 0).val = 0 then (blkI I t).dbB (y 1).val else 0 : ℝ) : EReal) := by
  rw [outsAt0_A m c t h]; frame_out
  simp only [read_wt]
  rw [wt_canon I _ (H4 t)]
  rw [dgnBuf (blkI I t) _ _ (H0 t) (H1 t) (WmT I) (fun y => rfl)]
  simp (disch := decide) only [↓View.readCov_fill]
  rw [← View.read_writes_junk_apply_eq_canon (ms0_10 t).view y]
  refine (row_out _ _ (k0_pay33 (F := Ideal)) [_] ?_ _ _ (fun x => db_eq (blkI I t) _ (fun y => rfl) _ x) y).trans (congrArg (· + _) ?_)
  · exact View.read_writes_full _ _ _ _ _
  · pointwise [k0_pay33]

include H0 H1 h in
/-- The mixing offset's gradient, at the first point. -/
theorem ds_A (y) : (outsAt0 m c t.val t.isLt).2.2.1 y
    = (0 : EReal) + ((blkI I t).dsB (y 0).val (y 1).val : EReal) := by
  rw [outsAt0_A m c t h]; frame_out
  refine (ds_eq (blkI I t) _ _ (H0 t) (H1 t) (k0_pay31 (F := Ideal)) y).trans (congrArg (· + _) ?_)
  pointwise [k0_pay31]

include H0 H1 H2 H3 h in
/-- The mixing weights' gradient, at the first point. -/
theorem dw_A (y) : (outsAt0 m c t.val t.isLt).2.1 y
    = (0 : EReal) + ((blkI I t).dwB (y 0).val (y 1).val (y 2).val : EReal) := by
  rw [outsAt0_A m c t h]; frame_out
  simp (disch := decide) only [↓View.readCov_skip, ↓View.readCov_fill]
  have hc := View.canon_append_of_piecesOf _ [⟨Rect.unit ![0, 0, 0] ![8, 128, 128] inb_S8x128x128_S8x128x128_0_0_0, k0_pay30 (F := Ideal)⟩] _
    (dw_pieces (blkI I t) _ _ _ _ (H0 t) (H1 t) (H2 t) (H3 t) (k0_pay30 (F := Ideal))) y (covers_dw y)
  simp only [List.cons_append, List.nil_append] at hc
  refine hc.trans (congrArg (· + _) ?_)
  pointwise [k0_pay30]
end A
end Cert.KernelIdeal.Value
end
-- ==== Proof.Sums.lean ====
module

public import proofs.«01_k».proof.Proof.Gen.KernelIdeal.Frame
public import proofs.«01_k».proof.Proof.Out
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
namespace Cert.KernelIdeal.Value
open Cert.KernelIdeal Cert.KernelIdeal.Gen Cert.Model

/-! # A block of rows is the model at shifted rows, and the blocks' sums are the sums over all rows -/

variable (I : In)

/-- The mixed rows at shifted rows. -/
theorem mix_shift (t a j : ℕ) : (I.shift (512 * t)).mix a j = I.mix (512 * t + a) j := by
  unfold In.mix
  rw [show (512 * t + a) % 128 = a % 128 by omega, show (512 * t + a) / 128 * 128 = 512 * t + a / 128 * 128 by omega]
  simp only [Nat.add_assoc]
  rfl

/-- The gradient of the normalised rows at shifted rows. -/
theorem dgn_shift (t a j : ℕ) : (I.shift (512 * t)).dgn a j = I.dgn (512 * t + a) j := by
  unfold In.dgn
  rw [show (512 * t + a) % 128 = a % 128 by omega, show (512 * t + a) / 128 * 128 = 512 * t + a / 128 * 128 by omega]
  simp only [Nat.add_assoc]
  rfl

/-- The gradient of the input at shifted rows. -/
theorem dz_shift (t a j : ℕ) : (I.shift (512 * t)).dz a j = I.dz (512 * t + a) j := by
  unfold In.dz
  rw [mix_shift]
  have e : (I.shift (512 * t)).dv a (j - 512) = I.dv (512 * t + a) (j - 512) := by
    unfold In.dv In.dxh
    simp only [dgn_shift]
    rfl
  rw [e]
  rfl

/-- The gradient of the mixing offset. -/
def _root_.Cert.Model.In.dsT (i j : ℕ) : ℝ := ∑ c : Fin 64, I.dm (128 * c + i) j
/-- The gradient of the mixing weights. -/
def _root_.Cert.Model.In.dwT (g i k : ℕ) : ℝ := if k ≤ i then ∑ c : Fin 64, I.dwc (128 * c) g i k else 0
/-- The gradient of the gain. -/
def _root_.Cert.Model.In.dgT (j : ℕ) : ℝ := ∑ r : Fin 8192, I.dgn r j * I.xh r j
/-- The gradient of the offset. -/
def _root_.Cert.Model.In.dbT (j : ℕ) : ℝ := ∑ r : Fin 8192, I.dgn r j

/-- The blocks' sums of the mixing offset's gradient. -/
theorem ds_sum (i j : ℕ) : ∑ t : Fin 16, (I.shift (512 * t)).dsB i j = I.dsT i j := by
  unfold In.dsT
  rw [← Fin.sum_mul_add_congr (S := 16) (n := 4) (F := fun s k => I.dm (128 * (s.val * 4 + k.val) + i) j) (f := fun c : Fin 64 => I.dm (128 * c.val + i) j) (fun s k h => rfl)]
  refine Finset.sum_congr rfl fun t _ => ?_
  simp only [Fin.sum_univ_four]
  show I.dm (512 * t + i) j + I.dm (512 * t + (128 + i)) j + I.dm (512 * t + (256 + i)) j + I.dm (512 * t + (384 + i)) j = _
  congr 1
  · congr 1
    · congr 1
      · congr 1; show _ = 128 * (t.val * 4 + 0) + i; omega
      · congr 1; show _ = 128 * (t.val * 4 + 1) + i; omega
    · congr 1; show _ = 128 * (t.val * 4 + 2) + i; omega
  · congr 1; show _ = 128 * (t.val * 4 + 3) + i; omega

/-- A chunk's part of the weights' gradient at shifted rows. -/
theorem dwc_shift (t a g i k : ℕ) : (I.shift (512 * t)).dwc a g i k = I.dwc (512 * t + a) g i k := by
  unfold In.dwc
  simp only [Nat.add_assoc]
  rfl

/-- The blocks' sums of the mixing weights' gradient. -/
theorem dw_sum (g i k : ℕ) : ∑ t : Fin 16, (I.shift (512 * t)).dwB g i k = I.dwT g i k := by
  unfold In.dwT In.dwB
  by_cases h : k ≤ i
  · simp only [h, if_true]
    rw [← Fin.sum_mul_add_congr (S := 16) (n := 4) (F := fun s q => I.dwc (128 * (s.val * 4 + q.val)) g i k) (f := fun c : Fin 64 => I.dwc (128 * c.val) g i k) (fun s q h => rfl)]
    refine Finset.sum_congr rfl fun t _ => ?_
    simp only [Fin.sum_univ_four, dwc_shift]
    congr 1
    · congr 1
      · congr 1
        · congr 1; show _ = 128 * (t.val * 4 + 0); omega
        · congr 1; show _ = 128 * (t.val * 4 + 1); omega
      · congr 1; show _ = 128 * (t.val * 4 + 2); omega
    · congr 1; show _ = 128 * (t.val * 4 + 3); omega
  · simp only [h, if_false, Finset.sum_const_zero]

/-- The blocks' sums of the gain's gradient. -/
theorem dg_sum (j : ℕ) : ∑ t : Fin 16, (I.shift (512 * t)).dgB j = I.dgT j := by
  unfold In.dgT In.dgB
  rw [← Fin.sum_mul_add_congr (S := 16) (n := 512) (F := fun s k => I.dgn (s.val * 512 + k.val) j * I.xh (s.val * 512 + k.val) j)
    (f := fun r : Fin 8192 => I.dgn r.val j * I.xh r.val j) (fun s k h => rfl)]
  refine Finset.sum_congr rfl fun t _ => Finset.sum_congr rfl fun a _ => ?_
  rw [dgn_shift, show 512 * t.val = t.val * 512 by omega]
  rfl

/-- The blocks' sums of the offset's gradient. -/
theorem db_sum (j : ℕ) : ∑ t : Fin 16, (I.shift (512 * t)).dbB j = I.dbT j := by
  unfold In.dbT In.dbB
  rw [← Fin.sum_mul_add_congr (S := 16) (n := 512) (F := fun s k => I.dgn (s.val * 512 + k.val) j)
    (f := fun r : Fin 8192 => I.dgn r.val j) (fun s k h => rfl)]
  refine Finset.sum_congr rfl fun t _ => Finset.sum_congr rfl fun a _ => ?_
  rw [dgn_shift, show 512 * t.val = t.val * 512 by omega]

end Cert.KernelIdeal.Value
end
-- ==== Proof.Arr.lean ====
module

public import proofs.«01_k».proof.Proof.Gen.KernelIdeal.Frame
public import proofs.«01_k».proof.Proof.Win
public import proofs.«01_k».proof.Proof.Sums
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
namespace Cert.KernelIdeal.Value
open Idealize.ShloMosaic.Pipeline (Dat)
open Cert.KernelIdeal Cert.KernelIdeal.Gen Cert.Model

/-! # The call's results are the model's, over the arrays it is given -/

variable (m : (ℓ : Loc nD τ sig) → Buf (Elt Ideal) ℓ) (c : Dev nD) (I : In)
  (X0 : ∀ y : S8192x1024.Idx, (m ((c : Thread nD τ).loc main_arg0) : Vec Ideal S8192x1024 .bf16) y = (I.z (y 0).val (y 1).val : EReal))
  (X1 : ∀ y : S8192x1024.Idx, 512 ≤ (y 1).val → (m ((c : Thread nD τ).loc main_arg1) : Vec Ideal S8192x1024 .bf16) y = (I.d (y 0).val ((y 1).val - 512) : EReal))
  (X2 : ∀ y : S1x512.Idx, (m ((c : Thread nD τ).loc main_arg2) : Vec Ideal S1x512 .f32) y = (I.lg (y 1).val : EReal))
  (X3 : ∀ y : S1x512.Idx, (m ((c : Thread nD τ).loc main_arg3) : Vec Ideal S1x512 .f32) y = (I.lb (y 1).val : EReal))
  (X4 : ∀ y : S8x128x128.Idx, (m ((c : Thread nD τ).loc main_arg4) : Vec Ideal S8x128x128 .f32) y = (I.w (y 0).val (y 1).val (y 2).val : EReal))
  (X5 : ∀ y : S128x512.Idx, (m ((c : Thread nD τ).loc main_arg5) : Vec Ideal S128x512 .f32) y = (I.sb (y 0).val (y 1).val : EReal))

/-- Where each window's block lies. -/
theorem idx : ∀ t : Fin cfg0.N, win0_0.index t = ![t.val, 0] ∧ win0_1.index t = ![t.val, 1] ∧ win0_2.index t = ![0, 0] ∧ win0_3.index t = ![0, 0]
    ∧ win0_4.index t = ![0, 0, 0] ∧ win0_5.index t = ![0, 0] ∧ win0_6.index t = ![t.val, 0] :=
  (by decide +kernel : ∀ t : Fin grid0.N, _)

include X0 in
/-- The rows of the input a point reads. -/
theorem hb0 (t : Fin cfg0.N) (y : S512x1024.Idx) : (iblk m c 0 t : Vec Ideal S512x1024 .bf16) y = ((blkI I t).z (y 0).val (y 1).val : EReal) := by
  blk_simp [iblk, V, idx t]
  rw [X0]
  blk_simp [idx t]
  rw [Nat.mul_comm t.val 512]
  rfl

include X1 in
/-- The rows of the result's gradient a point reads. -/
theorem hb1 (t : Fin cfg0.N) (y : S512x512.Idx) : (iblk m c 1 t : Vec Ideal S512x512 .bf16) y = ((blkI I t).d (y 0).val (y 1).val : EReal) := by
  blk_simp [iblk, V, idx t]
  rw [X1]
  · blk_simp [idx t]
    rw [Nat.mul_comm t.val 512, Nat.add_sub_cancel_left]
    rfl
  · blk_simp [idx t]
    omega

include X2 in
/-- The gain. -/
theorem hb2 (t : Fin cfg0.N) (y : S1x512.Idx) : (iblk m c 2 t : Vec Ideal S1x512 .f32) y = (I.lg (y 1).val : EReal) := by
  rw [← X2]; blk_ext! [iblk, V, idx t]
include X3 in
/-- The offset. -/
theorem hb3 (t : Fin cfg0.N) (y : S1x512.Idx) : (iblk m c 3 t : Vec Ideal S1x512 .f32) y = (I.lb (y 1).val : EReal) := by
  rw [← X3]; blk_ext! [iblk, V, idx t]
include X4 in
/-- The mixing weights. -/
theorem hb4 (t : Fin cfg0.N) (y : S8x128x128.Idx) : (iblk m c 4 t : Vec Ideal S8x128x128 .f32) y = (I.w (y 0).val (y 1).val (y 2).val : EReal) := by
  rw [← X4]; blk_ext! [iblk, V, idx t]
include X5 in
/-- The mixing offset. -/
theorem hb5 (t : Fin cfg0.N) (y : S128x512.Idx) : (iblk m c 5 t : Vec Ideal S128x512 .f32) y = (I.sb (y 0).val (y 1).val : EReal) := by
  rw [← X5]; blk_ext! [iblk, V, idx t]

include X0 X1 X2 X3 X4 X5 in
/-- The gradient of the unit's input. -/
theorem arr6 : (dats m 0 c).arrAt 6 cfg0.N = (fun y => (I.dz (y 0).val (y 1).val : EReal) : Vec Ideal S8192x1024 .bf16) := by
  refine (dats m 0 c).arrAt_eq_of_covers 6 _ (by decide +kernel) fun t _ y => ?_
  blk_simp
  rw [after0_6]
  have h := (fun (h : t.val % 16 = 0) => dz_A m c I (hb0 m c I X0) (hb1 m c I X1) (hb2 m c I X2) (hb3 m c I X3) (hb4 m c I X4) (hb5 m c I X5) t h y)
  have h' := (fun (h : ¬ t.val % 16 = 0) => dz_B m c I (hb0 m c I X0) (hb1 m c I X1) (hb2 m c I X2) (hb3 m c I X3) (hb4 m c I X4) (hb5 m c I X5) t h y)
  refine ((em _).elim h h').trans ?_
  rw [dz_shift]
  blk_simp [idx t]
  rw [Nat.mul_comm t.val 512]

include X0 X1 X2 X3 in
/-- The gradient of the mixing weights. -/
theorem arr7 : (dats m 0 c).arrAt 7 cfg0.N = (fun y => (I.dwT (y 0).val (y 1).val (y 2).val : EReal) : Vec Ideal S8x128x128 .f32) := by
  refine (dats m 0 c).arrAt_eq_of_after_last 7 t0_15 (by decide +kernel) _ fun j => ?_
  blk_simp
  rw [after0_7, Pipeline.eq_sum_fin_of_reset_step_apply_last (fun n h => (outsAt0 m c n h).2.1) 16 (fun _ => 0) _
    (fun t h j => by rw [dw_A m c I (hb0 m c I X0) (hb1 m c I X1) (hb2 m c I X2) (hb3 m c I X3) t h j])
    (fun t h j => by rw [dw_B m c I (hb0 m c I X0) (hb1 m c I X1) (hb2 m c I X2) (hb3 m c I X3) t h (by have := t.isLt; omega) j])
    (le_of_eq N_0) t0_15 rfl j]
  refine (zero_add (_ : EReal)).trans ((coe_sum _ _).symm.trans (congrArg Real.toEReal ?_))
  exact dw_sum I _ _ _

include X0 X1 in
/-- The gradient of the mixing offset. -/
theorem arr8 : (dats m 0 c).arrAt 8 cfg0.N = (fun y => (I.dsT (y 0).val (y 1).val : EReal) : Vec Ideal S128x512 .f32) := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => 0) _
    (fun t h j => by rw [ds_A m c I (hb0 m c I X0) (hb1 m c I X1) t h j])
    (fun t h j => by rw [ds_B m c I (hb0 m c I X0) (hb1 m c I X1) t h (by have := t.isLt; omega) j])
    (le_of_eq N_0) t0_15 rfl j]
  refine (zero_add (_ : EReal)).trans ((coe_sum _ _).symm.trans (congrArg Real.toEReal ?_))
  exact ds_sum I _ _

include X0 X1 X4 in
/-- The gradient of the gain, in the first of eight rows. -/
theorem arr9 : (dats m 0 c).arrAt 9 cfg0.N = (fun y => ((if (y 0).val = 0 then I.dgT (y 1).val else 0 : ℝ) : EReal) : Vec Ideal S8x512 .f32) := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => 0) _
    (fun t h j => by rw [dg_A m c I (hb0 m c I X0) (hb1 m c I X1) (hb4 m c I X4) t h j])
    (fun t h j => by rw [dg_B m c I (hb0 m c I X0) (hb1 m c I X1) (hb4 m c I X4) t h (by have := t.isLt; omega) j])
    (le_of_eq N_0) t0_15 rfl j]
  refine (zero_add (_ : EReal)).trans ((coe_sum _ _).symm.trans (congrArg Real.toEReal ?_))
  by_cases h : (j 0).val = 0
  · simp only [h, if_true]; exact dg_sum I _
  · simp only [h, if_false, Finset.sum_const_zero]

include X0 X1 X4 in
/-- The gradient of the offset, in the first of eight rows. -/
theorem arr10 : (dats m 0 c).arrAt 10 cfg0.N = (fun y => ((if (y 0).val = 0 then I.dbT (y 1).val else 0 : ℝ) : EReal) : Vec Ideal S8x512 .f32) := by
  refine (dats m 0 c).arrAt_eq_of_after_last 10 t0_15 (by decide +kernel) _ fun j => ?_
  blk_simp
  rw [after0_10, Pipeline.eq_sum_fin_of_reset_step_apply_last (fun n h => (outsAt0 m c n h).2.2.2.2.1) 16 (fun _ => 0) _
    (fun t h j => by rw [db_A m c I (hb0 m c I X0) (hb1 m c I X1) (hb4 m c I X4) t h j])
    (fun t h j => by rw [db_B m c I (hb0 m c I X0) (hb1 m c I X1) (hb4 m c I X4) t h (by have := t.isLt; omega) j])
    (le_of_eq N_0) t0_15 rfl j]
  refine (zero_add (_ : EReal)).trans ((coe_sum _ _).symm.trans (congrArg Real.toEReal ?_))
  by_cases h : (j 0).val = 0
  · simp only [h, if_true]; exact db_sum I _
  · simp only [h, if_false, Finset.sum_const_zero]

end Cert.KernelIdeal.Value
end
-- ==== Proof.RefA.lean ====
module

public import proofs.«01_k».proof.Proof.Gen.ReferenceIdeal.Run
public import proofs.«01_k».proof.Proof.Model
public import Idealize.ShloMosaic.Lib.Pipeline.ValueKit
public import Idealize.ShloMosaic.Lib.WordCmp

@[expose] public section

set_option maxRecDepth 16384
noncomputable section
open Idealize.ShloMosaic Idealize.ShloMosaic.TcCoe Idealize.SL.Sem
namespace Cert.ReferenceIdeal.Value
open Idealize.ShloMosaic.StableHlo
open Cert.ReferenceIdeal Cert.ReferenceIdeal.Gen Cert.Model

/-! # The reference's intermediates are the model's: the activation, the normalisation, the mixing -/

variable (V : Valuation τ sig (Elt Ideal)) (I : In)

/-- The array `V` holds for an argument, at its literal type. -/
abbrev A0 : Vec Ideal S8192x1024 .bf16 := V (Proc.devRef .tc main_arg0)
/-- The second argument. -/
abbrev A1 : Vec Ideal S8192x1024 .bf16 := V (Proc.devRef .tc main_arg1)
/-- The third argument. -/
abbrev A2 : Vec Ideal S1x512 .f32 := V (Proc.devRef .tc main_arg2)
/-- The fourth argument. -/
abbrev A3 : Vec Ideal S1x512 .f32 := V (Proc.devRef .tc main_arg3)
/-- The fifth argument. -/
abbrev A4 : Vec Ideal S8x128x128 .f32 := V (Proc.devRef .tc main_arg4)
/-- The sixth argument. -/
abbrev A5 : Vec Ideal S128x512 .f32 := V (Proc.devRef .tc main_arg5)

variable
  (X0 : ∀ y : S8192x1024.Idx, A0 V y = (I.z (y 0).val (y 1).val : EReal))
  (X1 : ∀ y : S8192x1024.Idx, 512 ≤ (y 1).val → A1 V y = (I.d (y 0).val ((y 1).val - 512) : EReal))
  (X2 : ∀ y : S1x512.Idx, A2 V y = (I.lg (y 1).val : EReal))
  (X3 : ∀ y : S1x512.Idx, A3 V y = (I.lb (y 1).val : EReal))
  (X4 : ∀ y : S8x128x128.Idx, A4 V y = (I.w (y 0).val (y 1).val (y 2).val : EReal))
  (X5 : ∀ y : S128x512.Idx, A5 V y = (I.sb (y 0).val (y 1).val : EReal))

/-- The constants the reference divides for the cubic coefficient. -/
theorem ofBits_44715 : Ideal.ofBits .f32 0x472EAB00#32 = ((44715 : ℝ) : EReal) := by
  simp [Ideal.ofBits, Ideal.ieee]; norm_num [← EReal.coe_mul]; try norm_cast
/-- The other. -/
theorem ofBits_million : Ideal.ofBits .f32 0x49742400#32 = ((1000000 : ℝ) : EReal) := by
  simp [Ideal.ofBits, Ideal.ieee]; norm_num [← EReal.coe_mul]; try norm_cast

include X0 in
/-- The input. -/
theorem v0_eq (y : S8192x1024.Idx) : (res_main_v0 V : Vec Ideal S8192x1024 .f32) y = (I.z (y 0).val (y 1).val : EReal) := by
  pointwise [res_main_v0, X0]

/-- The cubic coefficient, as the quotient the reference divides. -/
theorem v1_eq (y : S_.Idx) : (res_main_v1 V : Vec Ideal S_ .f32) y = (gc : EReal) := by
  pointwise [res_main_v1]
  rw [ofBits_44715, ofBits_million, div_real _ (by norm_num)]
  exact congrArg Real.toEReal (by unfold gc; norm_num)

include X0 in
/-- The tanh. -/
theorem v12_eq (y : S8192x1024.Idx) : (res_main_v12 V : Vec Ideal S8192x1024 .f32) y = (th (I.z (y 0).val (y 1).val) : EReal) := by
  pointwise [res_main_v12, v0_eq V I X0, v1_eq V]
  simp only [ofBits_half, ofBits_gK, Ideal.tanh_coe, ofBits_512, ← coe_sum, div_512, ← EReal.coe_mul, ← EReal.coe_add, ← EReal.coe_sub, ← EReal.coe_one]
  exact congrArg (fun x : ℝ => (Real.tanh (gK * x) : EReal)) (by ring)

include X0 in
/-- Half of one plus the tanh. -/
theorem v21_eq (y : S8192x1024.Idx) : (res_main_v21 V : Vec Ideal S8192x1024 .f32) y = ((1 / 2 * (1 + th (I.z (y 0).val (y 1).val)) : ℝ) : EReal) := by
  pointwise [res_main_v21, v12_eq V I X0]
  simp only [ofBits_half, ofBits_gK, Ideal.tanh_coe, ofBits_512, ← coe_sum, div_512, ← EReal.coe_mul, ← EReal.coe_add, ← EReal.coe_sub, ← EReal.coe_one]

include X0 in
/-- The activation. -/
theorem v22_eq (y : S8192x1024.Idx) : (res_main_v22 V : Vec Ideal S8192x1024 .f32) y = (gel (I.z (y 0).val (y 1).val) : EReal) := by
  pointwise [res_main_v22, v0_eq V I X0, v21_eq V I X0]
  simp only [ofBits_half, ofBits_gK, Ideal.tanh_coe, ofBits_512, ← coe_sum, div_512, ← EReal.coe_mul, ← EReal.coe_add, ← EReal.coe_sub, ← EReal.coe_one]
  exact congrArg Real.toEReal (by unfold gel; ring)

include X0 in
/-- The value half. -/
theorem v23_eq (y : S8192x512.Idx) : (res_main_v23 V : Vec Ideal S8192x512 .f32) y = (I.u (y 0).val (y 1).val : EReal) := by
  pointwise [res_main_v23, v22_eq V I X0]
  rfl

include X0 in
/-- The gate half. -/
theorem v24_eq (y : S8192x512.Idx) : (res_main_v24 V : Vec Ideal S8192x512 .f32) y = (I.v (y 0).val (y 1).val : EReal) := by
  pointwise [res_main_v24, v22_eq V I X0]
  rfl

include X0 in
/-- A row less its mean. -/
theorem v30_eq (y : S8192x512.Idx) : (res_main_v30 V : Vec Ideal S8192x512 .f32) y = (I.xc (y 0).val (y 1).val : EReal) := by
  pointwise [res_main_v30, v24_eq V I X0]
  simp only [ofBits_half, ofBits_gK, Ideal.tanh_coe, ofBits_512, ← coe_sum, div_512, ← EReal.coe_mul, ← EReal.coe_add, ← EReal.coe_sub, ← EReal.coe_one]
  rfl

include X0 in
/-- The variance and epsilon. -/
theorem v37_eq (y : S8192x1.Idx) : (res_main_v37 V : Vec Ideal S8192x1 .f32) y = ((I.var (y 0).val + eps : ℝ) : EReal) := by
  pointwise [res_main_v37, v30_eq V I X0]
  simp only [ofBits_eps, ofBits_512, ← EReal.coe_mul, ← coe_sum, div_512, ← EReal.coe_add]
  rfl

include X0 in
/-- One over the root. -/
theorem v38_eq (y : S8192x1.Idx) : (res_main_v38 V : Vec Ideal S8192x1 .f32) y = (I.rs (y 0).val : EReal) := by
  pointwise [res_main_v38, v37_eq V I X0]
  exact rsqrt_real (I.var_eps_pos _)

include X0 in
/-- The normalised row. -/
theorem v43_eq (y : S8192x512.Idx) : (res_main_v43 V : Vec Ideal S8192x512 .f32) y = (I.xh (y 0).val (y 1).val : EReal) := by
  pointwise [res_main_v43, v38_eq V I X0, v30_eq V I X0]
  simp only [ofBits_half, ofBits_gK, Ideal.tanh_coe, ofBits_512, ← coe_sum, div_512, ← EReal.coe_mul, ← EReal.coe_add, ← EReal.coe_sub, ← EReal.coe_one]
  rfl

include X0 X2 X3 in
/-- The normalised row with gain and offset, by chunk, position, group and lane. -/
theorem v48_eq (y : S1x64x128x8x64.Idx) : (res_main_v48 V : Vec Ideal S1x64x128x8x64 .f32) y
    = (I.gn (128 * (y 1).val + (y 2).val) (64 * (y 3).val + (y 4).val) : EReal) := by
  pointwise [res_main_v48, v43_eq V I X0, X2, X3]
  simp only [ofBits_half, ofBits_gK, Ideal.tanh_coe, ofBits_512, ← coe_sum, div_512, ← EReal.coe_mul, ← EReal.coe_add, ← EReal.coe_sub, ← EReal.coe_one]
  rw [Nat.mul_comm (y 1).val 128, Nat.mul_comm (y 3).val 64]
  rfl

/-- The mask. -/
theorem v52_1_eq (y : S8x128x128.Idx) : (res_main_v52_1 V : IVec S8x128x128 1) y = BitVec.ofBool (decide ((y 2).val ≤ (y 1).val)) := by
  pointwise [res_main_v52_1]
  simp only [IntOp.addi, BitVec.add_zero]
  rw [WordCmp.cmpi_sge_ofNat (lt_trans (y 1).isLt (by decide)) (lt_trans (y 2).isLt (by decide))]
  by_cases h : (y 2).val ≤ (y 1).val <;> simp [h, Scalar.select]

/-- The integer zero, converted. -/
theorem sitofp_zero : (FloatOps.sitofp .f32 0#32 : Ideal .f32) = (0 : EReal) := by
  show ((((0#32 : BitVec 32).toInt : ℤ) : ℝ) : EReal) = 0
  simp

include X4 in
/-- The masked weights. -/
theorem v52_0_eq (y : S8x128x128.Idx) : (res_main_v52_0 V : Vec Ideal S8x128x128 .f32) y = (I.wm (y 0).val (y 1).val (y 2).val : EReal) := by
  pointwise [res_main_v52_0, v52_1_eq V, X4]
  unfold In.wm
  by_cases h : (y 2).val ≤ (y 1).val
  · simp only [h, if_true]
  · simp only [h, if_false]; exact sitofp_zero

include X0 X2 X3 X4 X5 in
/-- The mixed rows. -/
theorem v59_eq (y : S8192x512.Idx) : (res_main_v59 V : Vec Ideal S8192x512 .f32) y = (I.mix (y 0).val (y 1).val : EReal) := by
  pointwise [res_main_v59, v52_0_eq V I X4, v48_eq V I X0 X2 X3, X5]
  simp only [← EReal.coe_mul, ← coe_sum, ← EReal.coe_add]
  rw [show 64 * ((y 1).val / 64) + (y 1).val % 64 = (y 1).val by omega]
  refine congrArg Real.toEReal (congrArg (· + _) (Finset.sum_congr rfl fun x _ => ?_))
  rw [mul_comm, show 128 * ((y 0).val / 128) + x.val = (y 0).val / 128 * 128 + x.val by omega]

include X1 in
/-- The gradient of the result. -/
theorem v62_eq (y : S8192x512.Idx) : (res_main_v62 V : Vec Ideal S8192x512 .f32) y = (I.d (y 0).val (y 1).val : EReal) := by
  pointwise [res_main_v62]
  refine (X1 _ ?_).trans ?_
  · show 512 ≤ 512 + (y 1).val; omega
  · show (I.d (y 0).val (512 + (y 1).val - 512) : EReal) = _
    rw [Nat.add_sub_cancel_left]

include X0 X1 in
/-- The gradient of the mixed rows, by chunk and position. -/
theorem v65_eq (y : S64x128x512.Idx) : (res_main_v65 V : Vec Ideal S64x128x512 .f32) y = (I.dm (128 * (y 0).val + (y 1).val) (y 2).val : EReal) := by
  pointwise [res_main_v65, v62_eq V I X1, v23_eq V I X0]
  rw [← EReal.coe_mul, mul_comm, Nat.mul_comm (y 0).val 128]
  rfl

include X0 X1 in
/-- The same by group, chunk, lane and position. -/
theorem v70_eq (y : S8x1x64x64x128.Idx) : (res_main_v70 V : Vec Ideal S8x1x64x64x128 .f32) y
    = (I.dm (128 * (y 2).val + (y 4).val) (64 * (y 0).val + (y 3).val) : EReal) := by
  pointwise [res_main_v70, v65_eq V I X0 X1]
  rw [Nat.mul_comm (y 0).val 64]

include X0 X1 X4 in
/-- The gradient of the normalised rows with gain and offset. -/
theorem v75_eq (y : S8192x512.Idx) : (res_main_v75 V : Vec Ideal S8192x512 .f32) y = (I.dgn (y 0).val (y 1).val : EReal) := by
  pointwise [res_main_v75, v70_eq V I X0 X1, v52_0_eq V I X4]
  simp only [← EReal.coe_mul, ← coe_sum]
  rw [show 64 * ((y 1).val / 64) + (y 1).val % 64 = (y 1).val by omega]
  refine congrArg Real.toEReal (Finset.sum_congr rfl fun x _ => ?_)
  rw [mul_comm, show 128 * ((y 0).val / 128) + x.val = (y 0).val / 128 * 128 + x.val by omega]
end Cert.ReferenceIdeal.Value
end
-- ==== Proof.RefB.lean ====
module

public import proofs.«01_k».proof.Proof.Gen.ReferenceIdeal.Run
public import proofs.«01_k».proof.Proof.Sums
public import proofs.«01_k».proof.Proof.RefA
public import Idealize.ShloMosaic.Lib.Pipeline.ValueKit
public import Idealize.ShloMosaic.Lib.WordCmp

@[expose] public section

set_option maxRecDepth 16384
noncomputable section
open Idealize.ShloMosaic Idealize.ShloMosaic.TcCoe Idealize.SL.Sem
namespace Cert.ReferenceIdeal.Value
open Idealize.ShloMosaic.StableHlo
open Cert.ReferenceIdeal Cert.ReferenceIdeal.Gen Cert.Model

/-! # The reference's results are the model's: the normalisation's gradient, the activation's gradient, the sums -/

variable (V : Valuation τ sig (Elt Ideal)) (I : In)

variable
  (X0 : ∀ y : S8192x1024.Idx, A0 V y = (I.z (y 0).val (y 1).val : EReal))
  (X1 : ∀ y : S8192x1024.Idx, 512 ≤ (y 1).val → A1 V y = (I.d (y 0).val ((y 1).val - 512) : EReal))
  (X2 : ∀ y : S1x512.Idx, A2 V y = (I.lg (y 1).val : EReal))
  (X3 : ∀ y : S1x512.Idx, A3 V y = (I.lb (y 1).val : EReal))
  (X4 : ∀ y : S8x128x128.Idx, A4 V y = (I.w (y 0).val (y 1).val (y 2).val : EReal))
  (X5 : ∀ y : S128x512.Idx, A5 V y = (I.sb (y 0).val (y 1).val : EReal))

/-- Minus a half. -/
theorem ofBits_mhalf : Ideal.ofBits .f32 0xBF000000#32 = ((-1 / 2 : ℝ) : EReal) := by
  simp [Ideal.ofBits, Ideal.ieee]; norm_num [← EReal.coe_mul]; try norm_cast
/-- Three. -/
theorem ofBits_three : Ideal.ofBits .f32 0x40400000#32 = ((3 : ℝ) : EReal) := by
  simp [Ideal.ofBits, Ideal.ieee]; norm_num [← EReal.coe_mul]; try norm_cast

/-- The reference's factor of the variance's gradient, on a row. -/
def _root_.Cert.Model.In.sv (r : ℕ) : ℝ := (∑ j : Fin 512, I.xc r j * I.dxh r j) * (-1 / 2 * (I.rs r / (I.var r + eps))) / 512
/-- The reference's gradient of a row, before the mean's part. -/
def _root_.Cert.Model.In.ev (r j : ℕ) : ℝ := I.dxh r j * I.rs r + I.xc r j * I.sv r + I.sv r * I.xc r j

/-- A row less its mean sums to zero. -/
theorem sum_xc (r : ℕ) : ∑ j : Fin 512, I.xc r j = 0 := by
  unfold In.xc In.mu
  rw [Finset.sum_sub_distrib, Finset.sum_const, Finset.card_univ, Fintype.card_fin, nsmul_eq_mul]
  norm_num
  ring

/-- The square of one over the root. -/
theorem rs_sq (r : ℕ) : I.rs r * I.rs r = (I.var r + eps)⁻¹ := by
  unfold In.rs
  rw [← mul_inv, Real.mul_self_sqrt (I.var_eps_pos r).le]

/-- The reference's gradient of a row is the kernel's. -/
theorem ev_eq (r j : ℕ) : I.ev r j + (∑ k : Fin 512, -I.ev r k) / 512 = I.dv r j := by
  have hs : I.sv r = -1 / 2 * (∑ j : Fin 512, I.xc r j * I.dxh r j) * (I.rs r * (I.rs r * I.rs r)) / 512 := by
    unfold In.sv; rw [rs_sq, div_eq_mul_inv (I.rs r)]; ring
  have he : ∑ k : Fin 512, -I.ev r k = -((∑ k : Fin 512, I.dxh r k) * I.rs r) := by
    rw [Finset.sum_neg_distrib]
    congr 1
    unfold In.ev
    rw [Finset.sum_add_distrib, Finset.sum_add_distrib, ← Finset.sum_mul, ← Finset.sum_mul, ← Finset.mul_sum, sum_xc]
    ring
  have hx : ∑ k : Fin 512, I.dxh r k * I.xh r k = (∑ j : Fin 512, I.xc r j * I.dxh r j) * I.rs r := by
    rw [Finset.sum_mul]
    exact Finset.sum_congr rfl fun k _ => by unfold In.xh; ring
  rw [he]
  unfold In.dv
  rw [hx]
  unfold In.ev In.xh
  rw [hs]
  ring

include X0 X1 X2 X4 in
/-- The gradient of the normalised rows. -/
theorem v82_eq (y : S8192x512.Idx) : (res_main_v82 V : Vec Ideal S8192x512 .f32) y = (I.dxh (y 0).val (y 1).val : EReal) := by
  pointwise [res_main_v82, v75_eq V I X0 X1 X4, X2]
  rw [← EReal.coe_mul]
  rfl

include X0 X1 X2 X4 in
/-- The variance's gradient on a row. -/
theorem v92_eq (y : S8192x512.Idx) : (res_main_v92 V : Vec Ideal S8192x512 .f32) y = (I.sv (y 0).val : EReal) := by
  pointwise [res_main_v92, v82_eq V I X0 X1 X2 X4, v30_eq V I X0, v38_eq V I X0, v37_eq V I X0]
  simp only [div_real _ (I.var_eps_pos _).ne', ofBits_mhalf, ofBits_512, ← EReal.coe_mul, ← coe_sum, div_512]
  refine congrArg Real.toEReal ?_
  simp [In.sv]

include X0 X1 X2 X4 in
/-- The gradient of a row before the mean's part. -/
theorem v96_eq (y : S8192x512.Idx) : (res_main_v96 V : Vec Ideal S8192x512 .f32) y = (I.ev (y 0).val (y 1).val : EReal) := by
  pointwise [res_main_v96, v82_eq V I X0 X1 X2 X4, v30_eq V I X0, v38_eq V I X0, v92_eq V I X0 X1 X2 X4]
  simp only [← EReal.coe_mul, ← EReal.coe_add]
  rfl

/-- The gradient after the activation. -/
def _root_.Cert.Model.In.da (r j : ℕ) : ℝ := if j < 512 then I.d r j * I.mix r j else I.dv r (j - 512)

include X0 X1 X2 X3 X4 X5 in
/-- The gradient after the activation, the halves side by side. -/
theorem v105_eq (y : S8192x1024.Idx) : (res_main_v105 V : Vec Ideal S8192x1024 .f32) y = (I.da (y 0).val (y 1).val : EReal) := by
  pointwise [res_main_v105, v96_eq V I X0 X1 X2 X4, v62_eq V I X1, v59_eq V I X0 X2 X3 X4 X5]
  unfold In.da
  by_cases h : (y 1).val < 512
  · rw [dif_pos h, if_pos h, ← EReal.coe_mul]
  · rw [dif_neg h, if_neg h]
    simp only [ofBits_512, ← EReal.coe_neg, ← coe_sum, div_512, ← EReal.coe_add]
    refine congrArg Real.toEReal ?_
    rw [← ev_eq]
    simp

include X0 X1 X2 X3 X4 X5 in
/-- The tanh's part of the gradient. -/
theorem v112_eq (y : S8192x1024.Idx) : (res_main_v112 V : Vec Ideal S8192x1024 .f32) y
    = ((gK * (1 / 2 * (I.z (y 0).val (y 1).val * I.da (y 0).val (y 1).val)
        * ((1 + th (I.z (y 0).val (y 1).val)) * (1 - th (I.z (y 0).val (y 1).val)))) : ℝ) : EReal) := by
  pointwise [res_main_v112, v0_eq V I X0, v12_eq V I X0, v105_eq V I X0 X1 X2 X3 X4 X5]
  simp only [ofBits_half, ofBits_gK, ← EReal.coe_mul, ← EReal.coe_add, ← EReal.coe_sub, ← EReal.coe_one]

include X0 X1 X2 X3 X4 X5 in
/-- The gradient of the unit's input. -/
theorem dz_ref : (truncf .bf16 (addf (addf (mulf (res_main_v105 V) (res_main_v21 V)) (res_main_v112 V)) (mulf (mulf (broadcastInDim S8192x1024 ![] bcast_S_S8192x1024 (res_main_v1 V)) (res_main_v112 V)) (mulf (broadcastInDim S8192x1024 ![] bcast_S_S8192x1024 (constant (F := Ideal) S_ .f32 0x40400000#32)) (mulf (res_main_v0 V) (res_main_v0 V))))) bitsLt_bf16_f32 : Vec Ideal S8192x1024 .bf16)
    = fun y => (I.dz (y 0).val (y 1).val : EReal) := by
  funext y
  pointwise [v0_eq V I X0, v1_eq V, v21_eq V I X0, v112_eq V I X0 X1 X2 X3 X4 X5, v105_eq V I X0 X1 X2 X3 X4 X5]
  simp only [ofBits_three, ← EReal.coe_mul, ← EReal.coe_add]
  refine congrArg Real.toEReal ?_
  unfold In.dz In.da gel'
  by_cases h : (y 1).val < 512
  · simp only [h, if_true]; ring
  · simp only [h, if_false]; ring

/-- The product that makes the weights' gradient. -/
abbrev dwDims := dot_S8x1x64x64x128_S1x64x128x8x64_S8x128x128_123_014_4_2_0_3

/-- The summed index: chunk and channel. -/
def ck (a b : Fin 64) : dwDims.contr.Idx := fun i =>
  match i with
  | ⟨0, _⟩ => (⟨0, by decide⟩ : Fin 1)
  | ⟨1, _⟩ => a
  | ⟨2, _⟩ => b

/-- A sum over the index is the sum over chunks and channels. -/
theorem sum_ck {M : Type*} [AddCommMonoid M] (f : dwDims.contr.Idx → M) : ∑ k, f k = ∑ a : Fin 64, ∑ b : Fin 64, f (ck a b) := by
  rw [← Fintype.sum_prod_type (f := fun p : Fin 64 × Fin 64 => f (ck p.1 p.2))]
  symm
  refine Fintype.sum_bijective (fun p : Fin 64 × Fin 64 => ck p.1 p.2) ⟨fun p q h => ?_, fun k => ?_⟩ _ _ fun _ => rfl
  · exact Prod.ext (congrFun h ⟨1, by decide⟩) (congrFun h ⟨2, by decide⟩)
  · refine ⟨(k ⟨1, by decide⟩, k ⟨2, by decide⟩), ?_⟩
    funext i
    match i with
    | ⟨0, h⟩ => exact Subsingleton.elim (α := Fin 1) _ _
    | ⟨1, _⟩ => rfl
    | ⟨2, _⟩ => rfl

include X0 X1 X2 X3 in
/-- The product is the sum of the chunks' contributions. -/
theorem dw_sum (y : S8x128x128.Idx) : Ideal.matmul dwDims (res_main_v70 V) (res_main_v48 V) (fun _ => 0) y
    = ((∑ c : Fin 64, I.dwc (128 * c) (y 0).val (y 1).val (y 2).val : ℝ) : EReal) := by
  show (0 : EReal) + ∑ k, _ = _
  rw [zero_add, sum_ck, coe_sum]
  refine Finset.sum_congr rfl fun c _ => ?_
  unfold In.dwc
  rw [coe_sum]
  refine Finset.sum_congr rfl fun l _ => ?_
  rw [EReal.coe_mul]
  exact congrArg₂ (· * ·) (v70_eq V I X0 X1 (dwDims.lhsIdx y (ck c l))) (v48_eq V I X0 X2 X3 (dwDims.rhsIdx y (ck c l)))

include X0 X1 X2 X3 in
/-- The gradient of the mixing weights. -/
theorem dw_ref : (select (res_main_v52_1 V) (Host.dotGeneral (φ₁ := .f32) (φ₂ := .f32) dot_S8x1x64x64x128_S1x64x128x8x64_S8x128x128_123_014_4_2_0_3 none (res_main_v70 V) (res_main_v48 V)) (broadcastInDim S8x128x128 ![] bcast_S_S8x128x128 (constant (F := Ideal) S_ .f32 0x00000000#32)) : Vec Ideal S8x128x128 .f32)
    = fun y => (I.dwT (y 0).val (y 1).val (y 2).val : EReal) := by
  funext y
  pointwise [v52_1_eq V, v70_eq V I X0 X1, v48_eq V I X0 X2 X3, dw_sum V I X0 X1 X2 X3]
  unfold In.dwT
  by_cases h : (y 2).val ≤ (y 1).val
  · rw [if_pos h, if_pos h]
  · rw [if_neg h, if_neg h, EReal.coe_zero]

include X0 X1 in
/-- The gradient of the mixing offset. -/
theorem ds_ref : (Host.reduceAdd (shapeCast _ (Host.reduceAdd (res_main_v65 V) (constant (F := Ideal) S_ .f32 0x00000000#32) reducesTo_S64x128x512_S128x512_d0 h_S_) shapeCasts_S128x512_S1x128x512) (constant (F := Ideal) S_ .f32 0x00000000#32) reducesTo_S1x128x512_S128x512_d0 h_S_ : Vec Ideal S128x512 .f32)
    = fun y => (I.dsT (y 0).val (y 1).val : EReal) := by
  funext y
  pointwise [v65_eq V I X0 X1]
  simp only [← coe_sum]
  refine congrArg Real.toEReal ?_
  simp [In.dsT]

include X0 X1 X4 in
/-- The gradient of the gain, in the first of eight rows. -/
theorem dg_ref : (pad S8x512 ![0, 0] ![7, 0] ![0, 0] (shapeCast _ (Host.reduceAdd (mulf (res_main_v43 V) (res_main_v75 V)) (constant (F := Ideal) S_ .f32 0x00000000#32) reducesTo_S8192x512_S512_d0 h_S_) shapeCasts_S512_S1x512) (sitofp (F := Ideal) .f32 (constantI S_ 32 0#32)) pads_S1x512_S8x512_070_000 h_S_ : Vec Ideal S8x512 .f32)
    = fun y => ((if (y 0).val = 0 then I.dgT (y 1).val else 0 : ℝ) : EReal) := by
  funext y
  pointwise [v75_eq V I X0 X1 X4, v43_eq V I X0]
  by_cases h : (y 0).val = 0
  · rw [dif_pos (by omega), if_pos h]
    simp only [← EReal.coe_mul, ← coe_sum]
    refine congrArg Real.toEReal ?_
    unfold In.dgT
    exact Finset.sum_congr rfl fun r _ => mul_comm _ _
  · rw [dif_neg (by omega), if_neg h, sitofp_zero, EReal.coe_zero]

include X0 X1 X4 in
/-- The gradient of the offset, in the first of eight rows. -/
theorem db_ref : (pad S8x512 ![0, 0] ![7, 0] ![0, 0] (shapeCast _ (Host.reduceAdd (res_main_v75 V) (constant (F := Ideal) S_ .f32 0x00000000#32) reducesTo_S8192x512_S512_d0 h_S_) shapeCasts_S512_S1x512) (sitofp (F := Ideal) .f32 (constantI S_ 32 0#32)) pads_S1x512_S8x512_070_000 h_S_ : Vec Ideal S8x512 .f32)
    = fun y => ((if (y 0).val = 0 then I.dbT (y 1).val else 0 : ℝ) : EReal) := by
  funext y
  pointwise [v75_eq V I X0 X1 X4]
  by_cases h : (y 0).val = 0
  · rw [dif_pos (by omega), if_pos h]
    simp only [← EReal.coe_mul, ← coe_sum]
    refine congrArg Real.toEReal ?_
    unfold In.dbT
    exact Finset.sum_congr rfl fun r _ => rfl
  · rw [dif_neg (by omega), if_neg h, sitofp_zero, EReal.coe_zero]

end Cert.ReferenceIdeal.Value
end
-- ==== Proof.Pre.lean ====
module

public import proofs.«01_k».proof.Defs
public import proofs.«01_k».proof.Proof.Gen.ReferenceIdeal
public import proofs.«01_k».proof.Proof.Model
public import Idealize.ShloMosaic.Lib.Pipeline.ValueKit

@[expose] public section

set_option maxRecDepth 16384
noncomputable section
open Idealize.ShloMosaic Idealize.ShloMosaic.TcCoe Idealize.SL.Sem

/-! # The arguments are real numbers -/

namespace Cert.Pre_finite

/-- The side conditions of the precondition's operations. -/
instance facts : Facts where
  slices_S8192x1024_S8192x512_0_512 := by decide
  bitsLt_bf16_f32 := by decide
  bcast_S_S8192x1024 := by decide
  bcast_S_S8192x512 := by decide
  bcast_S_S1x512 := by decide
  bcast_S_S8x128x128 := by decide
  bcast_S_S128x512 := by decide

variable (a0 a1 : FVec Ideal S8192x1024 .bf16) (a2 a3 : FVec Ideal S1x512 .f32) (a4 : FVec Ideal S8x128x128 .f32)
  (a5 : FVec Ideal S128x512 .f32)

/-- The infinite constant. -/
theorem ofBits_inf : Ideal.ofBits .f32 0x7F800000#32 = (⊤ : EReal) := by
  simp [Ideal.ofBits, Ideal.ieee]

/-- An extended real below the infinite constant in absolute value is a real number. -/
theorem real_of_lt {x : EReal} (h : BitVec.ofBool (decide ((FloatOps.absf (F := Ideal) (φ := .f32) x : EReal) < Ideal.ofBits .f32 0x7F800000#32)) = 1#1) :
    x = (x.toReal : EReal) := by
  rw [ofBits_inf] at h
  have h' : (FloatOps.absf (F := Ideal) (φ := .f32) x : EReal) < ⊤ := by
    by_contra hn
    rw [decide_eq_false hn] at h
    exact absurd h (by decide)
  induction x using EReal.rec with
  | bot => exact absurd h' (by show ¬ ((max (⊥ : EReal) (-⊥)) < ⊤); simp)
  | top => exact absurd h' (by show ¬ ((max (⊤ : EReal) (-⊤)) < ⊤); simp)
  | coe r => rfl

/-- The first argument is real. -/
theorem real0 (h : (fn (F := Ideal) a0 a1 a2 a3 a4 a5).1 = fun _ => 1#1) (y : S8192x1024.Idx) : (a0 y : EReal) = ((a0 y : EReal).toReal : EReal) := by
  have h := congrFun h y
  simp only [fn, fn_part1] at h
  pointwise [] at h
  exact real_of_lt h

/-- The second argument's columns from 512 on are real. -/
theorem real1 (h : (fn (F := Ideal) a0 a1 a2 a3 a4 a5).2.1 = fun _ => 1#1) (y : S8192x1024.Idx) (hy : 512 ≤ (y 1).val) : (a1 y : EReal) = ((a1 y : EReal).toReal : EReal) := by
  have h := congrFun h (ValueIdx.ix2 (y 0) ⟨(y 1).val - 512, by have h2 : (y 1).val < 1024 := (y 1).isLt; omega⟩)
  simp only [fn, fn_part1] at h
  pointwise [] at h
  have e : y = ValueIdx.ix2 (y 0) ⟨512 + ((y 1).val - 512), by have h2 : (y 1).val < 1024 := (y 1).isLt; omega⟩ := by
    funext i
    match i with
    | ⟨0, _⟩ => rfl
    | ⟨1, _⟩ => exact Fin.ext (by show (y 1).val = 512 + ((y 1).val - 512); omega)
  rw [e]
  exact real_of_lt h

/-- The third argument is real. -/
theorem real2 (h : (fn (F := Ideal) a0 a1 a2 a3 a4 a5).2.2.1 = fun _ => 1#1) (y : S1x512.Idx) : (a2 y : EReal) = ((a2 y : EReal).toReal : EReal) := by
  have h := congrFun h y
  simp only [fn, fn_part1] at h
  pointwise [] at h
  exact real_of_lt h

/-- The fourth argument is real. -/
theorem real3 (h : (fn (F := Ideal) a0 a1 a2 a3 a4 a5).2.2.2.1 = fun _ => 1#1) (y : S1x512.Idx) : (a3 y : EReal) = ((a3 y : EReal).toReal : EReal) := by
  have h := congrFun h y
  simp only [fn, fn_part1] at h
  pointwise [] at h
  exact real_of_lt h

/-- The fifth argument is real. -/
theorem real4 (h : (fn (F := Ideal) a0 a1 a2 a3 a4 a5).2.2.2.2.1 = fun _ => 1#1) (y : S8x128x128.Idx) : (a4 y : EReal) = ((a4 y : EReal).toReal : EReal) := by
  have h := congrFun h y
  simp only [fn, fn_part1] at h
  pointwise [] at h
  exact real_of_lt h

/-- The sixth argument is real. -/
theorem real5 (h : (fn (F := Ideal) a0 a1 a2 a3 a4 a5).2.2.2.2.2 = fun _ => 1#1) (y : S128x512.Idx) : (a5 y : EReal) = ((a5 y : EReal).toReal : EReal) := by
  have h := congrFun h y
  simp only [fn, fn_part1] at h
  pointwise [] at h
  exact real_of_lt h

end Cert.Pre_finite

namespace Cert.Model

/-- A matrix read at natural numbers, as real numbers. -/
def rd2 {n m : ℕ} (A : (⟨2, ![n, m]⟩ : Shape).Idx → EReal) (r j : ℕ) : ℝ :=
  if h : r < n ∧ j < m then (A (ValueIdx.ix2 ⟨r, h.1⟩ ⟨j, h.2⟩)).toReal else 0
/-- A three-dimensional array read so. -/
def rd3 {n m l : ℕ} (A : (⟨3, ![n, m, l]⟩ : Shape).Idx → EReal) (r j k : ℕ) : ℝ :=
  if h : r < n ∧ j < m ∧ k < l then (A (ValueIdx.ix3 ⟨r, h.1⟩ ⟨j, h.2.1⟩ ⟨k, h.2.2⟩)).toReal else 0

/-- Reading a matrix where it has an entry. -/
theorem rd2_eq {n m : ℕ} (A : (⟨2, ![n, m]⟩ : Shape).Idx → EReal) (y : (⟨2, ![n, m]⟩ : Shape).Idx) :
    rd2 A (y 0).val (y 1).val = (A y).toReal := by
  unfold rd2
  rw [dif_pos ⟨(y 0).isLt, (y 1).isLt⟩]
  congr 2
  funext i
  match i with
  | ⟨0, _⟩ => rfl
  | ⟨1, _⟩ => rfl
/-- Reading a three-dimensional array where it has an entry. -/
theorem rd3_eq {n m l : ℕ} (A : (⟨3, ![n, m, l]⟩ : Shape).Idx → EReal) (y : (⟨3, ![n, m, l]⟩ : Shape).Idx) :
    rd3 A (y 0).val (y 1).val (y 2).val = (A y).toReal := by
  unfold rd3
  rw [dif_pos ⟨(y 0).isLt, (y 1).isLt, (y 2).isLt⟩]
  congr 2
  funext i
  match i with
  | ⟨0, _⟩ => rfl
  | ⟨1, _⟩ => rfl
  | ⟨2, _⟩ => rfl

end Cert.Model
end
-- ==== Proof.Arrays.lean ====
module

public import Idealize.ShloMosaic.Lib.Pipeline.ValueKit

@[expose] public section

/-! # Reading a matrix at natural numbers

A block of a matrix is the matrix at shifted rows and columns, so both programs are read as functions of natural
numbers; outside the matrix the reading is zero. -/

noncomputable section
open Idealize.ShloMosaic

namespace Cert.Model

/-- A matrix read at natural numbers. -/
def re2 {n m : ℕ} (A : (⟨2, ![n, m]⟩ : Shape).Idx → EReal) (r j : ℕ) : EReal :=
  if h : r < n ∧ j < m then A (ValueIdx.ix2 ⟨r, h.1⟩ ⟨j, h.2⟩) else 0

/-- Reading a matrix where it has an entry. -/
theorem re2_eq {n m : ℕ} (A : (⟨2, ![n, m]⟩ : Shape).Idx → EReal) (y : (⟨2, ![n, m]⟩ : Shape).Idx) :
    re2 A (y 0).val (y 1).val = A y := by
  unfold re2
  rw [dif_pos ⟨(y 0).isLt, (y 1).isLt⟩]
  congr 1
  funext i
  match i with
  | ⟨0, _⟩ => rfl
  | ⟨1, _⟩ => rfl

/-- An entry is the reading at its row and column. -/
theorem eq_re2 {n m : ℕ} (A : (⟨2, ![n, m]⟩ : Shape).Idx → EReal) (y : (⟨2, ![n, m]⟩ : Shape).Idx) (r j : ℕ)
    (h0 : (y 0).val = r) (h1 : (y 1).val = j) : A y = re2 A r j := by
  rw [← h0, ← h1]; exact (re2_eq A y).symm

/-- Rows against rows: a product with the second matrix transposed, over `n` columns. -/
def rowsRows (n : ℕ) (A W : ℕ → ℕ → EReal) (r j : ℕ) : EReal := ∑ k : Fin n, A r k.val * W j k.val
/-- Columns against columns: a product with the first matrix transposed, over `n` rows. -/
def colsCols (n : ℕ) (A D : ℕ → ℕ → EReal) (i j : ℕ) : EReal := ∑ r : Fin n, A r.val i * D r.val j
/-- The part of a product of columns that the `q`-th run of `b` rows makes. -/
def colsPart (b : ℕ) (A D : ℕ → ℕ → EReal) (q i j : ℕ) : EReal := ∑ k : Fin b, A (b * q + k.val) i * D (b * q + k.val) j

/-- The runs' parts make the whole product of columns. -/
theorem sum_colsPart (n b : ℕ) (N : ℕ) (h : N = n * b) (A D : ℕ → ℕ → EReal) (i j : ℕ) :
    ∑ q ∈ Finset.range n, colsPart b A D q i j = colsCols N A D i j := by
  unfold colsCols colsPart
  subst h
  rw [Fin.sum_univ_tiles n b rfl, Finset.sum_range]
  exact Finset.sum_congr rfl fun q _ => Finset.sum_congr rfl fun k _ => by rw [Nat.mul_comm b]

end Cert.Model

end
-- ==== Proof.Silu.lean ====
module

public import proofs.«01_k».proof.Proof.Model

@[expose] public section

/-! # The gated activation and the norm, over extended real numbers -/

noncomputable section
open Idealize.ShloMosaic

namespace Cert.Model

/-- The logistic function as both programs write it. -/
def sg (g : EReal) : EReal := Ideal.div 1 (1 + Ideal.exp (-g))

/-- Its value at a real number. -/
theorem sg_real (r : ℝ) : sg r = ((1 / (1 + Real.exp (-r)) : ℝ) : EReal) := by
  have h : (1 + Real.exp (-r)) ≠ 0 := (add_pos one_pos (Real.exp_pos _)).ne'
  unfold sg
  rw [← EReal.coe_one, ← EReal.coe_neg, Ideal.exp_coe, ← EReal.coe_add, div_real 1 h]
/-- Its value at positive infinity. -/
theorem sg_top : sg ⊤ = 1 := by
  unfold sg
  rw [EReal.neg_top, Ideal.exp_bot, add_zero, ← EReal.coe_one, div_real 1 one_ne_zero]
  norm_num
/-- Its value at negative infinity. -/
theorem sg_bot : sg ⊥ = 0 := by
  unfold sg
  rw [EReal.neg_bot, Ideal.exp_top, ← EReal.coe_one, EReal.coe_add_top, Ideal.div, if_neg EReal.top_ne_zero, EReal.inv_top, mul_zero]

/-- The derivative of the activation times the other branch: the kernel's form is the chain rule's. -/
theorem up_chain (g u : EReal) (hu : u = (u.toReal : EReal)) :
    u * (sg g * (1 + g * (1 - sg g)))
      = u * sg g + (g * u) * (sg g * (1 - sg g)) := by
  rw [hu]
  induction g using EReal.rec with
  | bot => rw [sg_bot]; simp
  | top =>
    rw [sg_top, show (1 : EReal) - 1 = 0 from EReal.sub_self (by decide) (by decide)]
    simp
  | coe r =>
    rw [sg_real, ← EReal.coe_one]
    simp only [← EReal.coe_mul, ← EReal.coe_add, ← EReal.coe_sub]
    congr 1
    ring

/-- The chain rule with the incoming gradient taken out of both terms. -/
theorem back_chain (a b t : EReal) (hb : b = (b.toReal : EReal)) (ht : t = (t.toReal : EReal)) :
    t * (b * sg a + (a * b) * (sg a * (1 - sg a)))
      = (t * b) * sg a + (a * (t * b)) * (sg a * (1 - sg a)) := by
  rw [hb, ht]
  induction a using EReal.rec with
  | bot => rw [sg_bot]; simp
  | top =>
    rw [sg_top, show (1 : EReal) - 1 = 0 from EReal.sub_self (by decide) (by decide)]
    simp
  | coe r =>
    rw [sg_real, ← EReal.coe_one]
    simp only [← EReal.coe_mul, ← EReal.coe_add, ← EReal.coe_sub]
    congr 1
    ring

/-- The activation times the incoming gradient, in either order. -/
theorem back_swap (a t : EReal) : t * (a * sg a) = (a * sg a) * t := by
  rw [mul_comm]

/-- A sum of products of real numbers is a real number. -/
theorem real_sum {n : ℕ} (f g : Fin n → EReal) (hf : ∀ k, f k = ((f k).toReal : EReal)) (hg : ∀ k, g k = ((g k).toReal : EReal)) :
    ∑ k, f k * g k = ((∑ k, f k * g k).toReal : EReal) := by
  have e : ∑ k, f k * g k = ((∑ k, (f k).toReal * (g k).toReal : ℝ) : EReal) := by
    rw [coe_sum]
    refine Finset.sum_congr rfl fun k _ => ?_
    rw [EReal.coe_mul, ← hf, ← hg]
  rw [e, EReal.toReal_coe]

/-- One over the root mean square of row `r`. -/
def rsq (h : ℕ → ℕ → EReal) (r : ℕ) : EReal :=
  Ideal.rsqrt (Ideal.div (∑ k : Fin 1024, h r k.val * h r k.val) (Ideal.ofBits .f32 0x44800000#32) + Ideal.ofBits .f32 0x358637BD#32)

/-- The row length's word is 1024. -/
theorem ofBits_1024 : Ideal.ofBits .f32 0x44800000#32 = ((1024 : ℝ) : EReal) := by
  simp [Ideal.ofBits, Ideal.ieee, ← EReal.coe_mul]; norm_num
/-- The constant under the root. -/
def eps2 : ℝ := 8796093 / 8796093022208
/-- The norm's small constant is the rational of its word. -/
theorem ofBits_eps2 : Ideal.ofBits .f32 0x358637BD#32 = ((eps2 : ℝ) : EReal) := by
  simp [Ideal.ofBits, Ideal.ieee, eps2, ← EReal.coe_mul]; norm_num
/-- The word of minus a half. -/
theorem ofBits_mhalf : Ideal.ofBits .f32 0xBF000000#32 = ((-1 / 2 : ℝ) : EReal) := by
  simp [Ideal.ofBits, Ideal.ieee, ← EReal.coe_mul]; norm_num

/-- A square is not negative. -/
theorem sq_nonneg' (x : EReal) : 0 ≤ x * x := by
  induction x using EReal.rec with
  | bot => simp
  | top => simp
  | coe r => rw [← EReal.coe_mul]; exact_mod_cast mul_self_nonneg r

/-- A nonnegative extended real is a nonnegative real or infinite. -/
theorem nonneg_cases {x : EReal} (h : 0 ≤ x) : x = ⊤ ∨ ∃ r : ℝ, 0 ≤ r ∧ x = r := by
  induction x using EReal.rec with
  | bot => exact absurd h (by simp)
  | top => exact .inl rfl
  | coe r => exact .inr ⟨r, by exact_mod_cast h, rfl⟩

/-- Two halves, each with its sign, make the whole with its sign. -/
theorem halves (p : EReal) (c : ℝ) (hc : 0 < c) : p * ((-(c / 2) : ℝ) : EReal) + p * ((-(c / 2) : ℝ) : EReal) = -(p * (c : EReal)) := by
  have h2 : -(c / 2) < 0 := by linarith
  induction p using EReal.rec with
  | bot => rw [EReal.bot_mul_coe_of_neg h2, EReal.bot_mul_coe_of_pos hc]; simp
  | top => rw [EReal.top_mul_coe_of_neg h2, EReal.top_mul_coe_of_pos hc]; simp
  | coe r =>
    rw [← EReal.coe_mul, ← EReal.coe_mul, ← EReal.coe_add, ← EReal.coe_neg]
    congr 1
    ring

/-- The derivative of the inverse root mean square: the kernel's cube is the chain rule's quotient. -/
theorem cube (q hv s : EReal) (hq : 0 ≤ q) :
    let w := Ideal.div q (Ideal.ofBits .f32 0x44800000#32) + Ideal.ofBits .f32 0x358637BD#32
    let x := Ideal.div (s * (Ideal.ofBits .f32 0xBF000000#32 * Ideal.div (Ideal.rsqrt w) w)) (Ideal.ofBits .f32 0x44800000#32)
    hv * x + x * hv = -(hv * (Ideal.rsqrt w * Ideal.rsqrt w * Ideal.rsqrt w) * Ideal.div s (Ideal.ofBits .f32 0x44800000#32)) := by
  intro w x
  have he : (0 : ℝ) < eps2 := by unfold eps2; norm_num
  have h1024 : (1024 : ℝ) ≠ 0 := by norm_num
  rcases nonneg_cases hq with h | ⟨r, hr, h⟩
  · have hw : w = ⊤ := by
      show Ideal.div q _ + _ = ⊤
      rw [h, ofBits_1024, ofBits_eps2, Ideal.div_coe h1024, EReal.top_mul_coe_of_pos (by norm_num), EReal.top_add_coe]
    have hx : x = 0 := by
      show Ideal.div (s * (_ * Ideal.div (Ideal.rsqrt w) w)) _ = 0
      have h0 : Ideal.div 0 (⊤ : EReal) = 0 := by rw [Ideal.div, if_neg EReal.top_ne_zero, zero_mul]
      rw [hw, Ideal.rsqrt_top, h0, mul_zero, mul_zero, ofBits_1024, Ideal.div_coe h1024, zero_mul]
    rw [hx, hw, Ideal.rsqrt_top]
    simp
  · have hp : 0 < r * (1 / 1024) + eps2 := by positivity
    have hw : w = ((r * (1 / 1024) + eps2 : ℝ) : EReal) := by
      show Ideal.div q _ + _ = _
      rw [h, ofBits_1024, ofBits_eps2, Ideal.div_coe h1024, ← EReal.coe_mul, ← EReal.coe_add]
    obtain ⟨v, hv0, hv1⟩ : ∃ v : ℝ, 0 < v ∧ r * (1 / 1024) + eps2 = v := ⟨_, hp, rfl⟩
    rw [hv1] at hw
    obtain ⟨ρ, hρ0, hρ⟩ : ∃ ρ : ℝ, 0 < ρ ∧ (Real.sqrt v)⁻¹ = ρ := ⟨_, inv_pos.mpr (Real.sqrt_pos.mpr hv0), rfl⟩
    have hρ2 : ρ * ρ = v⁻¹ := by rw [← hρ, ← mul_inv, Real.mul_self_sqrt hv0.le]
    have hx : x = s * ((-(ρ * ρ * ρ * (1 / 1024) / 2) : ℝ) : EReal) := by
      show Ideal.div (s * (_ * Ideal.div (Ideal.rsqrt w) w)) _ = _
      rw [hw, rsqrt_real hv0, hρ, div_real ρ hv0.ne', ofBits_mhalf, ofBits_1024, Ideal.div_coe h1024, ← EReal.coe_mul, mul_assoc, ← EReal.coe_mul]
      congr 2
      rw [div_eq_mul_inv ρ v, ← hρ2]
      ring
    rw [hx, hw, rsqrt_real hv0, hρ, ofBits_1024, Ideal.div_coe h1024, mul_comm (s * _) hv, ← mul_assoc hv s, halves (hv * s) _ (by positivity)]
    congr 1
    rw [← EReal.coe_mul, ← EReal.coe_mul, EReal.coe_mul (ρ * ρ * ρ) (1 / 1024)]
    ac_rfl

end Cert.Model
end
-- ==== Proof.UpBackVal.lean ====
module

public import proofs.«01_k».proof.Proof.Gen.UpBackIdeal.Frame
public import proofs.«01_k».proof.Proof.Gen.UpBackIdeal.Value
public import proofs.«01_k».proof.Proof.Gen.UpBackRefIdeal.Run
public import proofs.«01_k».proof.Proof.Arrays
public import proofs.«01_k».proof.Proof.Silu
public import Idealize.ShloMosaic.Lib.Pipeline.ValueKit
public import Idealize.ShloMosaic.Lib.Pipeline.ReadBack
public import Idealize.ShloMosaic.Lib.WritesUnit
public import Idealize.ShloMosaic.Lib.VecWindow

@[expose] public section

/-! # The gradient of the layer's input through both up projections, the norm and the residual -/

set_option maxRecDepth 16384
noncomputable section
open Idealize.ShloMosaic Idealize.ShloMosaic.TcCoe Idealize.SL.Sem

namespace Cert.Model

/-- The gradient of the normalised rows. -/
def dn (A B WG WU : ℕ → ℕ → EReal) (r j : ℕ) : EReal := (∑ k : Fin 2816, A r k.val * WG j k.val) + ∑ k : Fin 2816, B r k.val * WU j k.val
/-- The part of the input's gradient through the norm. -/
def dnorm (D h : ℕ → ℕ → EReal) (g : ℕ → EReal) (r j : ℕ) : EReal :=
  rsq h r * (D r j * g j) - h r j * (rsq h r * rsq h r * rsq h r) * Ideal.div (∑ k : Fin 1024, h r k.val * (D r k.val * g k.val)) (Ideal.ofBits .f32 0x44800000#32)
/-- A row's part of the gain's gradient. -/
def dgain (D h : ℕ → ℕ → EReal) (r j : ℕ) : EReal := D r j * h r j * rsq h r

/-- What `n` steps of `b` rows add to the first of eight rows is the gain's gradient. -/
theorem sum_steps (n b : ℕ) (hb : 8192 = n * b) (D h : ℕ → ℕ → EReal) (i j : ℕ) :
    ∑ q : Fin n, (if i = 0 then ∑ k : Fin b, dgain D h (b * q.val + k.val) j else 0) = if i = 0 then ∑ r : Fin 8192, dgain D h r.val j else 0 := by
  by_cases hi : i = 0
  · simp only [hi, if_true]
    rw [Fin.sum_univ_tiles n b hb.symm]
    exact Finset.sum_congr rfl fun q _ => Finset.sum_congr rfl fun k _ => by rw [Nat.mul_comm b]
  · simp only [hi, if_false, Finset.sum_const_zero]

end Cert.Model

namespace Cert.UpBackIdeal.Value
open Idealize.ShloMosaic.Pipeline (Dat)
open Cert.UpBackIdeal Cert.UpBackIdeal.Gen Cert.Model

variable (m : (ℓ : Loc nD τ sig) → Buf (Elt Ideal) ℓ) (c : Dev nD)

/-- The gate's gradient. -/
abbrev A : Vec Ideal S8192x2816 .bf16 := m ((c : Thread nD τ).loc main_arg0)
/-- The other branch's gradient. -/
abbrev B : Vec Ideal S8192x2816 .bf16 := m ((c : Thread nD τ).loc main_arg1)
/-- The gate weights. -/
abbrev WG : Vec Ideal S1024x2816 .bf16 := m ((c : Thread nD τ).loc main_arg2)
/-- The up weights. -/
abbrev WU : Vec Ideal S1024x2816 .bf16 := m ((c : Thread nD τ).loc main_arg3)
/-- The layer's input. -/
abbrev H : Vec Ideal S8192x1024 .f32 := m ((c : Thread nD τ).loc main_arg4)
/-- The norm's gain. -/
abbrev G : Vec Ideal S1x1024 .f32 := m ((c : Thread nD τ).loc main_arg5)
/-- The gradient of the layer's result. -/
abbrev DH : Vec Ideal S8192x1024 .f32 := m ((c : Thread nD τ).loc main_arg6)

/-- Where each window's block lies. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![t.val, 0] ∧ win0_7.index t = ![t.val, 0] ∧ win0_8.index t = ![0, 0] :=
  (by decide +kernel : ∀ t : Fin grid0.N, _)

/-- The gate's gradient, block by block. -/
theorem hb0 (t : Fin cfg0.N) (y : S512x2816.Idx) : (iblk m c 0 t : Vec Ideal S512x2816 .bf16) y
    = re2 (A m c) (512 * t.val + (y 0).val) (y 1).val := by
  blk_simp [iblk, V, idx t]
  refine eq_re2 (A m c) _ _ _ ?_ ?_ <;> blk_simp [idx t] <;> omega
/-- The other branch's gradient, block by block. -/
theorem hb1 (t : Fin cfg0.N) (y : S512x2816.Idx) : (iblk m c 1 t : Vec Ideal S512x2816 .bf16) y
    = re2 (B m c) (512 * t.val + (y 0).val) (y 1).val := by
  blk_simp [iblk, V, idx t]
  refine eq_re2 (B m c) _ _ _ ?_ ?_ <;> blk_simp [idx t] <;> omega
/-- The gate's weight, whole at every step. -/
theorem hb2 (t : Fin cfg0.N) (y : S1024x2816.Idx) : (iblk m c 2 t : Vec Ideal S1024x2816 .bf16) y
    = re2 (WG m c) (y 0).val (y 1).val := by
  blk_simp [iblk, V, idx t]
  refine eq_re2 (WG m c) _ _ _ ?_ ?_ <;> blk_simp [idx t]
/-- The other weight, whole at every step. -/
theorem hb3 (t : Fin cfg0.N) (y : S1024x2816.Idx) : (iblk m c 3 t : Vec Ideal S1024x2816 .bf16) y
    = re2 (WU m c) (y 0).val (y 1).val := by
  blk_simp [iblk, V, idx t]
  refine eq_re2 (WU m c) _ _ _ ?_ ?_ <;> blk_simp [idx t]
/-- The norm's input, block by block. -/
theorem hb4 (t : Fin cfg0.N) (y : S512x1024.Idx) : (iblk m c 4 t : Vec Ideal S512x1024 .f32) y
    = re2 (H m c) (512 * t.val + (y 0).val) (y 1).val := by
  blk_simp [iblk, V, idx t]
  refine eq_re2 (H m c) _ _ _ ?_ ?_ <;> blk_simp [idx t] <;> omega
/-- The gain, whole at every step. -/
theorem hb5 (t : Fin cfg0.N) (y : S1x1024.Idx) : (iblk m c 5 t : Vec Ideal S1x1024 .f32) y
    = re2 (G m c) (y 0).val (y 1).val := by
  blk_simp [iblk, V, idx t]
  refine eq_re2 (G m c) _ _ _ ?_ ?_ <;> blk_simp [idx t]
/-- The residual's gradient, block by block. -/
theorem hb6 (t : Fin cfg0.N) (y : S512x1024.Idx) : (iblk m c 6 t : Vec Ideal S512x1024 .f32) y
    = re2 (DH m c) (512 * t.val + (y 0).val) (y 1).val := by
  blk_simp [iblk, V, idx t]
  refine eq_re2 (DH m c) _ _ _ ?_ ?_ <;> blk_simp [idx t] <;> omega

/-- The gradient of the normalised rows, from the arguments. -/
abbrev dN : ℕ → ℕ → EReal := dn (re2 (A m c)) (re2 (B m c)) (re2 (WG m c)) (re2 (WU m c))

/-- A block of the gradient of the normalized rows. -/
theorem pay4 (t : Fin cfg0.N) (y : S512x1024.Idx) : k0_pay4 (F := Ideal) (iblk m c 0 t) (iblk m c 2 t) (iblk m c 1 t) (iblk m c 3 t) y
    = dN m c (512 * t.val + (y 0).val) (y 1).val := by
  pointwise [k0_pay4, hb0, hb1, hb2, hb3]
  rfl
/-- A block's reciprocal roots of the mean squares. -/
theorem pay5 (t : Fin cfg0.N) (y : S512x1.Idx) : k0_pay5 (F := Ideal) (iblk m c 4 t) y = rsq (re2 (H m c)) (512 * t.val + (y 0).val) := by
  pointwise [k0_pay5, hb4]
  rfl
/-- A block of the norm's gradient before the residual is added, its first part. -/
theorem pay6 (t : Fin cfg0.N) (y : S512x1024.Idx) : k0_pay6 (F := Ideal) (iblk m c 0 t) (iblk m c 2 t) (iblk m c 1 t) (iblk m c 3 t) (iblk m c 4 t) (iblk m c 5 t) y
    = dnorm (dN m c) (re2 (H m c)) (re2 (G m c) 0) (512 * t.val + (y 0).val) (y 1).val := by
  pointwise [k0_pay6, pay4, pay5, hb4, hb5]
  rfl
/-- A block's terms of the gain's gradient. -/
theorem pay7 (t : Fin cfg0.N) (y : S512x1024.Idx) : k0_pay7 (F := Ideal) (iblk m c 0 t) (iblk m c 2 t) (iblk m c 1 t) (iblk m c 3 t) (iblk m c 4 t) y
    = dN m c (512 * t.val + (y 0).val) (y 1).val * re2 (H m c) (512 * t.val + (y 0).val) (y 1).val := by
  pointwise [k0_pay7, pay4, hb4]
/-- A block of the whole input gradient. -/
theorem pay1 (t : Fin cfg0.N) (y : S512x1024.Idx) : k0_pay1 (F := Ideal) (k0_pay6 (iblk m c 0 t) (iblk m c 2 t) (iblk m c 1 t) (iblk m c 3 t) (iblk m c 4 t) (iblk m c 5 t)) (iblk m c 6 t) y
    = re2 (DH m c) (512 * t.val + (y 0).val) (y 1).val + dnorm (dN m c) (re2 (H m c)) (re2 (G m c) 0) (512 * t.val + (y 0).val) (y 1).val := by
  pointwise [k0_pay1, pay6, hb6]
/-- What a point adds to the gain's gradient. -/
def term (n j : ℕ) : EReal := ∑ k : Fin 512, dgain (dN m c) (re2 (H m c)) (512 * n + k.val) j
/-- A block's column sums added to what was there. -/
theorem pay2 (t : Fin cfg0.N) (P : Vec Ideal S1x1024 .f32) (y : S1x1024.Idx) :
    k0_pay2 (F := Ideal) (k0_pay5 (iblk m c 4 t)) (k0_pay7 (iblk m c 0 t) (iblk m c 2 t) (iblk m c 1 t) (iblk m c 3 t) (iblk m c 4 t)) P y
    = P y + term m c t.val (y 1).val := by
  pointwise [k0_pay2, pay5, pay7]
  rfl

/-- A store of row zero over a buffer adds to that row and leaves the others. -/
theorem row_out {sig : RefSig} {κ : Kind} {sp : Space} (v : View sig κ sp S8x1024 .f32) (f) (P : Vec Ideal S8x1024 .f32) (L : List (View.Piece (Elt Ideal) S8x1024 .f32))
    (hP : v.read (Elt Ideal) (v.writes (Elt Ideal) f L) = P) (w : Vec Ideal S1x1024 .f32) (b : ℕ → EReal)
    (hw : ∀ x, w x = View.ld P (Rect.unit ![0, 0] ![1, 1024] inb_S8x1024_S1x1024_0_0) x + b (x 1).val) (y) :
    v.read (Elt Ideal) (v.writes (Elt Ideal) f (⟨Rect.unit ![0, 0] ![1, 1024] inb_S8x1024_S1x1024_0_0, w⟩ :: L)) y
      = P y + if (y 0).val = 0 then b (y 1).val else 0 := by
  by_cases h : (y 0).val = 0
  · refine (View.read_writes_cons_rows_of_mem v f (off := ![0, 0]) (size := ![1, 1024]) (o := 0) inb_S8x1024_S1x1024_0_0 w L y (ix2 ⟨0, by decide⟩ (y 1)) rfl
      (by simpa using h) rfl).trans ?_
    rw [hw, if_pos h]
    refine congrArg (· + _) (congrArg P ?_)
    funext a
    fin_cases a
    · exact Fin.ext (by simpa using h.symm)
    · exact Fin.ext (show 0 + 1 * (y 1).val = (y 1).val by omega)
  · refine (View.read_writes_cons_rows_of_not_mem v f (off := ![0, 0]) (size := ![1, 1024]) (o := 0) (W := 1) inb_S8x1024_S1x1024_0_0 w L y rfl rfl
      (Or.inr (by omega))).trans ?_
    rw [hP, if_neg h]
    exact (add_zero (P y : EReal)).symm

/-- The input's gradient at a point. -/
theorem dh_eq (t : Fin cfg0.N) (y) : (outsAt0 m c t.val t.isLt).1 y
    = re2 (DH m c) (512 * t.val + (y 0).val) (y 1).val + dnorm (dN m c) (re2 (H m c)) (re2 (G m c) 0) (512 * t.val + (y 0).val) (y 1).val := by
  by_cases h : t.val % 16 = 0
  · rw [outsAt0_A m c t h]; frame_out
    exact pay1 m c t y
  · rw [outsAt0_B m c t h]; frame_out
    exact pay1 m c t y

/-- The gain's gradient, at a later point. -/
theorem dg_B (t : Fin cfg0.N) (h : ¬ t.val % 16 = 0) (hp : t.val - 1 < cfg0.N) (y) : (outsAt0 m c t.val t.isLt).2 y
    = (outsAt0 m c (t.val - 1) hp).2 y + if (y 0).val = 0 then term m c t.val (y 1).val else 0 := by
  rw [outsAt0_B m c t h]; frame_out
  refine row_out _ _ _ [] ?_ _ _ (fun x => pay2 m c t _ x) y
  exact Memref.IsWhole.read_unread _ _

/-- The gain's gradient, at the first point. -/
theorem dg_A (t : Fin cfg0.N) (h : t.val % 16 = 0) (y) : (outsAt0 m c t.val t.isLt).2 y
    = 0 + if (y 0).val = 0 then term m c t.val (y 1).val else 0 := by
  rw [outsAt0_A m c t h]; frame_out
  simp (disch := decide) only [↓View.readCov_fill]
  rw [← View.read_writes_junk_apply_eq_canon (ms0_8 t).view y]
  refine (row_out _ _ (k0_pay3 (F := Ideal)) [_] ?_ _ _ (fun x => pay2 m c t _ x) y).trans (congrArg (· + _) ?_)
  · exact View.read_writes_full _ _ _ _ _
  · pointwise [k0_pay3]

/-- The input's gradient. -/
theorem arr7 : (dats m 0 c).arrAt 7 cfg0.N = ((fun y => re2 (DH m c) (y 0).val (y 1).val + dnorm (dN m c) (re2 (H m c)) (re2 (G m c) 0) (y 0).val (y 1).val) : Vec Ideal S8192x1024 .f32) := by
  refine (dats m 0 c).arrAt_eq_of_covers 7 _ (by decide +kernel) fun t _ y => ?_
  blk_simp
  rw [after0_7]
  refine (dh_eq m c t _).trans ?_
  blk_simp [idx t]
  rw [Nat.mul_comm 512]

/-- The gain's gradient, in the first of eight rows. -/
theorem arr8 : (dats m 0 c).arrAt 8 cfg0.N = ((fun y => if (y 0).val = 0 then ∑ r : Fin 8192, dgain (dN m c) (re2 (H m c)) r.val (y 1).val else 0) : Vec Ideal S8x1024 .f32) := by
  refine (dats m 0 c).arrAt_eq_of_after_last 8 t0_15 (by decide +kernel) _ fun j => ?_
  blk_simp
  rw [after0_8, Pipeline.eq_sum_fin_of_reset_step_apply_last (fun n h => (outsAt0 m c n h).2) 16 (fun _ => 0) _
    (fun t h j => by rw [dg_A m c t h j])
    (fun t h j => by rw [dg_B m c t h (by have := t.isLt; omega) j])
    (le_of_eq N_0) t0_15 rfl j]
  exact (zero_add (_ : EReal)).trans (sum_steps 16 512 rfl (dN m c) (re2 (H m c)) _ _)

end Cert.UpBackIdeal.Value

namespace Cert.UpBackRefIdeal.Value
open Cert.UpBackRefIdeal Cert.UpBackRefIdeal.Gen Cert.Model

section
variable (a0 a1 : Vec Ideal S8192x2816 .bf16) (a2 a3 : Vec Ideal S1024x2816 .bf16)

/-- The reference's gradient of the normalised rows. -/
abbrev dnR : Vec Ideal S8192x1024 .f32 :=
  addf (F := Ideal) (φ := .f32) (Host.dotGeneral (F := Ideal) (φ₁ := .f32) (φ₂ := .f32) dot_S8192x2816_S1024x2816_S8192x1024_1_1_0_0_n_n none (extf (F := Ideal) .f32 a1 bitsLt_bf16_f32) (extf (F := Ideal) .f32 a3 bitsLt_bf16_f32))
    (Host.dotGeneral (F := Ideal) (φ₁ := .f32) (φ₂ := .f32) dot_S8192x2816_S1024x2816_S8192x1024_1_1_0_0_n_n none (extf (F := Ideal) .f32 a0 bitsLt_bf16_f32) (extf (F := Ideal) .f32 a2 bitsLt_bf16_f32))
/-- One entry of it. -/
theorem dnR_eq (y : S8192x1024.Idx) : dnR a0 a1 a2 a3 y = dn (re2 a0) (re2 a1) (re2 a2) (re2 a3) (y 0).val (y 1).val := by
  pointwise [dnR]
  unfold dn
  rw [add_comm]
  refine congrArg₂ (· + ·) ?_ ?_
  · exact Finset.sum_congr rfl fun r _ => congrArg₂ (· * ·) (eq_re2 a0 _ _ _ rfl rfl) (eq_re2 a2 _ _ _ rfl rfl)
  · exact Finset.sum_congr rfl fun r _ => congrArg₂ (· * ·) (eq_re2 a1 _ _ _ rfl rfl) (eq_re2 a3 _ _ _ rfl rfl)

end

/-! The norm's derivative for any gradient `D` of the normalised rows: the calls of the mixers' input projections use it too. -/

variable (a4 : Vec Ideal S8192x1024 .f32) (a5 : Vec Ideal S1x1024 .f32) (a6 : Vec Ideal S8192x1024 .f32)
  (D : Vec Ideal S8192x1024 .f32) (d : ℕ → ℕ → EReal) (hD : ∀ y : S8192x1024.Idx, D y = d (y 0).val (y 1).val)

/-- The mean square of each row plus the small constant. -/
abbrev ms : Vec Ideal S8192x1 .f32 :=
  addf (F := Ideal) (φ := .f32) (Host.divf (F := Ideal) (φ := .f32) (broadcastInDim S8192x1 ![0] bcast_S8192_S8192x1_0 (Host.reduceAdd (F := Ideal) (φ := .f32) (mulf (F := Ideal) (φ := .f32) a4 a4) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32))
/-- One entry of it. -/
theorem ms_eq (y : S8192x1.Idx) : ms a4 y
    = Ideal.div (∑ k : Fin 1024, re2 a4 (y 0).val k.val * re2 a4 (y 0).val k.val) (Ideal.ofBits .f32 0x44800000#32) + Ideal.ofBits .f32 0x358637BD#32 := by
  pointwise [ms]
  refine congrArg₂ (· + ·) (congrArg₂ Ideal.div ?_ rfl) rfl
  exact Finset.sum_congr rfl fun k _ => congrArg₂ (· * ·) (eq_re2 a4 _ _ _ rfl rfl) (eq_re2 a4 _ _ _ rfl rfl)

/-- The gradient of the normalised rows times the gain. -/
abbrev dg : Vec Ideal S8192x1024 .f32 := mulf (F := Ideal) (φ := .f32) D (broadcastInDim S8192x1024 ![0, 1] bcast_S1x1024_S8192x1024_0_1 a5)
include hD in
/-- One entry of it. -/
theorem dg_eq (y : S8192x1024.Idx) : dg a5 D y = d (y 0).val (y 1).val * re2 a5 0 (y 1).val := by
  pointwise [dg, hD]
  exact congrArg₂ (· * ·) rfl (eq_re2 a5 _ _ _ rfl rfl)

/-- The row sum the norm's derivative needs. -/
abbrev rowsum : Vec Ideal S8192 .f32 :=
  Host.reduceAdd (F := Ideal) (φ := .f32) (mulf (F := Ideal) (φ := .f32) a4 (dg a5 D)) (constant (F := Ideal) S_ .f32 0x00000000#32) reducesTo_S8192x1024_S8192_d1 h_S_
include hD in
/-- One entry of it. -/
theorem rowsum_eq (y : S8192.Idx) : rowsum a4 a5 D y
    = ∑ k : Fin 1024, re2 a4 (y 0).val k.val * (d (y 0).val k.val * re2 a5 0 k.val) := by
  pointwise [rowsum, dg_eq a5 D d hD]
  exact Finset.sum_congr rfl fun k _ => congrArg₂ (· * ·) (eq_re2 a4 _ _ _ rfl rfl) rfl

/-- The derivative of the mean square's inverse root, per row. -/
abbrev xr : Vec Ideal S8192 .f32 :=
  Host.reduceAdd (F := Ideal) (φ := .f32) (Host.divf (F := Ideal) (φ := .f32) (mulf (F := Ideal) (φ := .f32) (shapeCast _ (rowsum a4 a5 D) shapeCasts_S8192_S8192x1) (mulf (F := Ideal) (φ := .f32) (broadcastInDim S8192x1 ![] bcast_S_S8192x1 (constant (F := Ideal) S_ .f32 0xBF000000#32)) (Host.divf (F := Ideal) (φ := .f32) (Host.rsqrt (F := Ideal) (φ := .f32) (ms a4)) (ms a4)))) (broadcastInDim S8192x1 ![] bcast_S_S8192x1 (constant (F := Ideal) S_ .f32 0x44800000#32))) (constant (F := Ideal) S_ .f32 0x00000000#32) reducesTo_S8192x1_S8192_d1 h_S_
/-- One entry of it. -/
theorem xr_eq (y : S8192.Idx) (w : EReal) (hw : ms a4 (ValueIdx.ix2 (y 0) 0) = w) : xr a4 a5 D y
    = Ideal.div (rowsum a4 a5 D y * (Ideal.ofBits .f32 0xBF000000#32 * Ideal.div (Ideal.rsqrt w) w)) (Ideal.ofBits .f32 0x44800000#32) := by
  unfold xr
  generalize rowsum a4 a5 D = R
  generalize ms a4 = M at *
  pointwise []
  rw [← hw]
  exact Fin.sum_univ_one _

include hD in
/-- The input's gradient as the reference computes it. -/
theorem ref1 (y : S8192x1024.Idx) :
    (addf (F := Ideal) (φ := .f32) (addf (F := Ideal) (φ := .f32) (addf (F := Ideal) (φ := .f32) a6 (mulf (F := Ideal) (φ := .f32) (dg a5 D) (broadcastInDim S8192x1024 ![0, 1] bcast_S8192x1_S8192x1024_0_1 (Host.rsqrt (F := Ideal) (φ := .f32) (ms a4))))) (mulf (F := Ideal) (φ := .f32) a4 (broadcastInDim S8192x1024 ![0] bcast_S8192_S8192x1024_0 (xr a4 a5 D)))) (mulf (F := Ideal) (φ := .f32) (broadcastInDim S8192x1024 ![0] bcast_S8192_S8192x1024_0 (xr a4 a5 D)) a4) : Vec Ideal S8192x1024 .f32) y
      = re2 a6 (y 0).val (y 1).val + dnorm d (re2 a4) (re2 a5 0) (y 0).val (y 1).val := by
  have hx := xr_eq a4 a5 D (ValueIdx.ix1 (y 0)) _ (ms_eq a4 _)
  rw [rowsum_eq a4 a5 D d hD] at hx
  have hm : Ideal.rsqrt (ms a4 (ValueIdx.ix2 (y 0) 0)) = rsq (re2 a4) (y 0).val := congrArg Ideal.rsqrt (ms_eq a4 _)
  have hd := dg_eq a5 D d hD y
  have h4 := eq_re2 a4 y _ _ rfl rfl
  have h6 := eq_re2 a6 y _ _ rfl rfl
  generalize xr a4 a5 D = X at *
  generalize ms a4 = M at *
  generalize dg a5 D = E at *
  pointwise []
  refine (congrArg₂ (· + ·) (congrArg₂ (· + ·) (congrArg₂ (· + ·) h6 (congrArg₂ (· * ·) hd hm)) (congrArg₂ (· * ·) h4 hx)) (congrArg₂ (· * ·) hx h4)).trans ?_
  have hc := cube (∑ k : Fin 1024, re2 a4 (y 0).val k.val * re2 a4 (y 0).val k.val) (re2 a4 (y 0).val (y 1).val)
    (∑ k : Fin 1024, re2 a4 (y 0).val k.val * (d (y 0).val k.val * re2 a5 0 k.val))
    (Finset.sum_nonneg fun k _ => sq_nonneg' _)
  refine (add_assoc _ _ _).trans ((congrArg (_ + ·) hc).trans ?_)
  unfold dnorm
  rw [add_assoc, mul_comm (rsq _ _) (_ * _), sub_eq_add_neg]
  rfl

include hD in
/-- The gain's gradient, in the first of eight rows, as the reference computes it. -/
theorem ref2 (y : S8x1024.Idx) :
    (pad S8x1024 ![0, 0] ![7, 0] ![0, 0] (shapeCast _ (Host.reduceAdd (F := Ideal) (φ := .f32) (mulf (F := Ideal) (φ := .f32) (mulf (F := Ideal) (φ := .f32) a4 (broadcastInDim S8192x1024 ![0, 1] bcast_S8192x1_S8192x1024_0_1 (Host.rsqrt (F := Ideal) (φ := .f32) (ms a4)))) D) (constant (F := Ideal) S_ .f32 0x00000000#32) reducesTo_S8192x1024_S1024_d0 h_S_) shapeCasts_S1024_S1x1024) (sitofp (F := Ideal) .f32 (constantI S_ 32 0#32)) pads_S1x1024_S8x1024_070_000 h_S_ : Vec Ideal S8x1024 .f32) y
      = if (y 0).val = 0 then ∑ r : Fin 8192, dgain d (re2 a4) r.val (y 1).val else 0 := by
  have hm : ∀ r : Fin 8192, Ideal.rsqrt (ms a4 (ValueIdx.ix2 r 0)) = rsq (re2 a4) r.val := fun r => congrArg Ideal.rsqrt (ms_eq a4 _)
  have hd := hD
  generalize ms a4 = M at *
  pointwise []
  by_cases h : (y 0).val = 0
  · rw [dif_pos (by omega), if_pos h]
    refine Finset.sum_congr rfl fun r _ => ?_
    refine (congrArg₂ (· * ·) (congrArg₂ (· * ·) (eq_re2 a4 _ _ _ rfl rfl) (hm r)) (hd _)).trans ?_
    unfold dgain
    rw [mul_comm]
    exact (mul_assoc _ _ _).symm
  · rw [dif_neg (by omega), if_neg h]
    show ((((0#32 : BitVec 32).toInt : ℤ) : ℝ) : EReal) = 0
    simp

end Cert.UpBackRefIdeal.Value
end
-- ==== Proof.UpWeightsVal.lean ====
module

public import proofs.«01_k».proof.Proof.Gen.UpWeightsIdeal.Frame
public import proofs.«01_k».proof.Proof.Gen.UpWeightsIdeal.Value
public import proofs.«01_k».proof.Proof.Gen.UpWeightsRefIdeal.Run
public import proofs.«01_k».proof.Proof.Arrays
public import Idealize.ShloMosaic.Lib.Pipeline.ValueKit
public import Idealize.ShloMosaic.Lib.Pipeline.ReadBack

@[expose] public section

/-! # The gradients of the gate and up weights: two products of long matrices, each summed in four steps -/

set_option maxRecDepth 16384
noncomputable section
open Idealize.ShloMosaic Idealize.ShloMosaic.TcCoe Idealize.SL.Sem
namespace Cert.UpWeightsIdeal.Value
open Idealize.ShloMosaic.Pipeline (Dat)
open Cert.UpWeightsIdeal Cert.UpWeightsIdeal.Gen Cert.Model

variable (m : (ℓ : Loc nD τ sig) → Buf (Elt Ideal) ℓ) (c : Dev nD)

/-- The normalised rows. -/
abbrev A : Vec Ideal S8192x1024 .bf16 := m ((c : Thread nD τ).loc main_arg0)
/-- The gradient of the gate's rows. -/
abbrev D1 : Vec Ideal S8192x2816 .bf16 := m ((c : Thread nD τ).loc main_arg1)
/-- The gradient of the up rows. -/
abbrev D2 : Vec Ideal S8192x2816 .bf16 := m ((c : Thread nD τ).loc main_arg2)

/-- Where each window's block lies. -/
theorem idx : ∀ t : Fin cfg0.N, win0_0.index t = ![t.val % 4, t.val / 8] ∧ win0_1.index t = ![t.val % 4, t.val / 4 % 2] ∧ win0_2.index t = ![t.val % 4, t.val / 4 % 2]
    ∧ win0_3.index t = ![t.val / 8, t.val / 4 % 2] ∧ win0_4.index t = ![t.val / 8, t.val / 4 % 2] :=
  (by decide +kernel : ∀ t : Fin grid0.N, _)

/-- The normalised rows a point reads. -/
theorem hb0 (t : Fin cfg0.N) (y : S2048x512.Idx) : (iblk m c 0 t : Vec Ideal S2048x512 .bf16) y
    = re2 (A m c) (2048 * (t.val % 4) + (y 0).val) (512 * (t.val / 8) + (y 1).val) := by
  blk_simp [iblk, V, idx t]
  refine eq_re2 (A m c) _ _ _ ?_ ?_ <;> blk_simp [idx t] <;> omega
/-- The gate's rows a point reads. -/
theorem hb1 (t : Fin cfg0.N) (y : S2048x1408.Idx) : (iblk m c 1 t : Vec Ideal S2048x1408 .bf16) y
    = re2 (D1 m c) (2048 * (t.val % 4) + (y 0).val) (1408 * (t.val / 4 % 2) + (y 1).val) := by
  blk_simp [iblk, V, idx t]
  refine eq_re2 (D1 m c) _ _ _ ?_ ?_ <;> blk_simp [idx t] <;> omega
/-- The up rows a point reads. -/
theorem hb2 (t : Fin cfg0.N) (y : S2048x1408.Idx) : (iblk m c 2 t : Vec Ideal S2048x1408 .bf16) y
    = re2 (D2 m c) (2048 * (t.val % 4) + (y 0).val) (1408 * (t.val / 4 % 2) + (y 1).val) := by
  blk_simp [iblk, V, idx t]
  refine eq_re2 (D2 m c) _ _ _ ?_ ?_ <;> blk_simp [idx t] <;> omega

/-- What point `n` adds, for either gradient. -/
def term (D : Vec Ideal S8192x2816 .bf16) (n : ℕ) (y : S512x1408.Idx) : EReal :=
  ∑ k : Fin 2048, re2 (A m c) (2048 * (n % 4) + k.val) (512 * (n / 8) + (y 0).val) * re2 D (2048 * (n % 4) + k.val) (1408 * (n / 4 % 2) + (y 1).val)

/-- The first product of a point's blocks. -/
theorem pay1 (t : Fin cfg0.N) (y : S512x1408.Idx) : k0_pay2 (F := Ideal) (iblk m c 0 t) (iblk m c 1 t) y = term m c (D1 m c) t.val y := by
  pointwise [k0_pay2, k0_pay1, hb0, hb1]
  rfl
/-- The second product of a point's blocks. -/
theorem pay2 (t : Fin cfg0.N) (y : S512x1408.Idx) : k0_pay3 (F := Ideal) (iblk m c 0 t) (iblk m c 2 t) y = term m c (D2 m c) t.val y := by
  pointwise [k0_pay3, k0_pay1, hb0, hb2]
  rfl

/-- The first carried buffer after a point is the sum of what the block's points added so far. -/
theorem scr1 (t : Fin cfg0.N) (y : S512x1408.Idx) :
    (outsAt0 m c t.val t.isLt).2.2.1 y = 0 + ∑ k ∈ Finset.range (t.val % 4 + 1), term m c (D1 m c) (4 * (t.val / 4) + k) y := by
  refine Pipeline.eq_sum_of_reset_step_apply (fun n h => (outsAt0 m c n h).2.2.1) 4 (fun _ => (0 : EReal)) (term m c (D1 m c)) (fun t h y => ?_) (fun t h y => ?_) t y
  · rw [outsAt0_A m c t h (by omega) (by omega)]
    frame_out
    pointwise [k0_pay4, pay1 m c t]
  · by_cases h2 : t.val % 4 = 3
    · rw [outsAt0_C m c t h (by omega) h2]
      frame_out
      simp only [read_unread_whole]
      pointwise [k0_pay6, pay1 m c t]
    · rw [outsAt0_B m c t h (by omega) h2]
      frame_out
      simp only [read_unread_whole]
      pointwise [k0_pay6, pay1 m c t]

/-- The second carried buffer after a point is the sum of what the block's points added so far. -/
theorem scr2 (t : Fin cfg0.N) (y : S512x1408.Idx) :
    (outsAt0 m c t.val t.isLt).2.2.2 y = 0 + ∑ k ∈ Finset.range (t.val % 4 + 1), term m c (D2 m c) (4 * (t.val / 4) + k) y := by
  refine Pipeline.eq_sum_of_reset_step_apply (fun n h => (outsAt0 m c n h).2.2.2) 4 (fun _ => (0 : EReal)) (term m c (D2 m c)) (fun t h y => ?_) (fun t h y => ?_) t y
  · rw [outsAt0_A m c t h (by omega) (by omega)]
    frame_out
    pointwise [k0_pay5, pay2 m c t]
  · by_cases h2 : t.val % 4 = 3
    · rw [outsAt0_C m c t h (by omega) h2]
      frame_out
      simp only [read_unread_whole]
      pointwise [k0_pay7, pay2 m c t]
    · rw [outsAt0_B m c t h (by omega) h2]
      frame_out
      simp only [read_unread_whole]
      pointwise [k0_pay7, pay2 m c t]

/-- At a block's last point the results' blocks are the carried buffers. -/
theorem out_eq (t : Fin cfg0.N) (h2 : t.val % 4 = 3) (y : S512x1408.Idx) :
    (outsAt0 m c t.val t.isLt).1 y = (outsAt0 m c t.val t.isLt).2.2.1 y ∧ (outsAt0 m c t.val t.isLt).2.1 y = (outsAt0 m c t.val t.isLt).2.2.2 y := by
  rw [outsAt0_C m c t (by omega) (by omega) h2]
  frame_out
  constructor
  · pointwise [k0_pay8]
  · pointwise [k0_pay9]

/-- The sum over all rows. -/
def dw (D : Vec Ideal S8192x2816 .bf16) (y : S1024x2816.Idx) : EReal := ∑ r : Fin 8192, re2 (A m c) r.val (y 0).val * re2 D r.val (y 1).val

/-- Four points' terms make the sum over all rows. -/
theorem term_sum (D : Vec Ideal S8192x2816 .bf16) (q : ℕ) (y : S512x1408.Idx) : ∑ k ∈ Finset.range 4, term m c D (4 * q + k) y
    = ∑ r : Fin 8192, re2 (A m c) r.val (512 * (q / 2) + (y 0).val) * re2 D r.val (1408 * (q % 2) + (y 1).val) := by
  rw [Fin.sum_univ_tiles 4 2048 rfl, Finset.sum_range]
  refine Finset.sum_congr rfl fun j _ => Finset.sum_congr rfl fun k _ => ?_
  have hj := j.isLt
  rw [show (4 * q + j.val) % 4 = j.val by omega, show (4 * q + j.val) / 4 = q by omega, show (4 * q + j.val) / 8 = q / 2 by omega, Nat.mul_comm 2048 j.val]

/-- The gate weights' gradient. -/
theorem arr3 : (dats m 0 c).arrAt 3 cfg0.N = (dw m c (D1 m c) : Vec Ideal S1024x2816 .bf16) := by
  refine (dats m 0 c).arrAt_eq_of_covers 3 _ (by decide +kernel) fun t hf y => ?_
  have h2 : t.val % 4 = 3 := (flush0_3 t).mp hf
  blk_simp
  rw [after0_3]
  refine (out_eq m c t h2 _).1.trans ((scr1 m c t _).trans ?_)
  rw [h2, zero_add, term_sum, show t.val / 4 / 2 = t.val / 8 by omega]
  unfold dw
  blk_simp [idx t]
  rw [Nat.mul_comm 512, Nat.mul_comm 1408]

/-- The up weights' gradient. -/
theorem arr4 : (dats m 0 c).arrAt 4 cfg0.N = (dw m c (D2 m c) : Vec Ideal S1024x2816 .bf16) := by
  refine (dats m 0 c).arrAt_eq_of_covers 4 _ (by decide +kernel) fun t hf y => ?_
  have h2 : t.val % 4 = 3 := (flush0_4 t).mp hf
  blk_simp
  rw [after0_4]
  refine (out_eq m c t h2 _).2.trans ((scr2 m c t _).trans ?_)
  rw [h2, zero_add, term_sum, show t.val / 4 / 2 = t.val / 8 by omega]
  unfold dw
  blk_simp [idx t]
  rw [Nat.mul_comm 512, Nat.mul_comm 1408]

end Cert.UpWeightsIdeal.Value

namespace Cert.UpWeightsRefIdeal.Value
open Cert.UpWeightsRefIdeal Cert.UpWeightsRefIdeal.Gen Cert.Model

/-- Either of the reference's results. -/
theorem ref (a0 : Vec Ideal S8192x1024 .bf16) (a1 : Vec Ideal S8192x2816 .bf16) (y : S1024x2816.Idx) :
    (truncf (F := Ideal) .bf16 (transpose S1024x2816 [1, 0] (Host.dotGeneral (F := Ideal) (φ₁ := .f32) (φ₂ := .f32) dot_S8192x2816_S8192x1024_S2816x1024_0_0_1_1_n_n none (extf (F := Ideal) .f32 a1 bitsLt_bf16_f32) (extf (F := Ideal) .f32 a0 bitsLt_bf16_f32)) transposes_S2816x1024_S1024x2816_1_0) bitsLt_bf16_f32 : Vec Ideal S1024x2816 .bf16) y
      = ∑ r : Fin 8192, re2 a0 r.val (y 0).val * re2 a1 r.val (y 1).val := by
  pointwise []
  refine Finset.sum_congr rfl fun r _ => ?_
  rw [mul_comm]
  exact congrArg₂ (· * ·) (eq_re2 a0 _ _ _ rfl rfl) (eq_re2 a1 _ _ _ rfl rfl)

end Cert.UpWeightsRefIdeal.Value
end
-- ==== Proof.DownWeightVal.lean ====
module

public import proofs.«01_k».proof.Proof.Gen.DownWeightIdeal.Frame
public import proofs.«01_k».proof.Proof.Gen.DownWeightIdeal.Value
public import proofs.«01_k».proof.Proof.Gen.DownWeightRefIdeal.Run
public import proofs.«01_k».proof.Proof.Arrays
public import Idealize.ShloMosaic.Lib.Pipeline.ValueKit
public import Idealize.ShloMosaic.Lib.Pipeline.ReadBack

@[expose] public section

/-! # The gradient of the down weights: a product of two long matrices, summed in eight steps -/

set_option maxRecDepth 16384
noncomputable section
open Idealize.ShloMosaic Idealize.ShloMosaic.TcCoe Idealize.SL.Sem
namespace Cert.DownWeightIdeal.Value
open Idealize.ShloMosaic.Pipeline (Dat)
open Cert.DownWeightIdeal Cert.DownWeightIdeal.Gen Cert.Model

variable (m : (ℓ : Loc nD τ sig) → Buf (Elt Ideal) ℓ) (c : Dev nD)

/-- The activations. -/
abbrev A : Vec Ideal S8192x2816 .bf16 := m ((c : Thread nD τ).loc main_arg0)
/-- The gradient of the layer's result. -/
abbrev D : Vec Ideal S8192x1024 .f32 := m ((c : Thread nD τ).loc main_arg1)

/-- Where each window's block lies. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- The activations a point reads. -/
theorem hb0 (t : Fin cfg0.N) (y : S1024x1408.Idx) : (iblk m c 0 t : Vec Ideal S1024x1408 .bf16) y
    = re2 (A m c) (1024 * (t.val % 8) + (y 0).val) (1408 * (t.val / 8) + (y 1).val) := by
  blk_simp [iblk, V, idx t]
  refine eq_re2 (A m c) _ _ _ ?_ ?_ <;> blk_simp [idx t] <;> omega
/-- The rows of the gradient a point reads. -/
theorem hb1 (t : Fin cfg0.N) (y : S1024x1024.Idx) : (iblk m c 1 t : Vec Ideal S1024x1024 .f32) y
    = re2 (D m c) (1024 * (t.val % 8) + (y 0).val) (y 1).val := by
  blk_simp [iblk, V, idx t]
  refine eq_re2 (D m c) _ _ _ ?_ ?_ <;> blk_simp [idx t] <;> omega

/-- What point `n` adds. -/
def term (n : ℕ) (y : S1408x1024.Idx) : EReal :=
  ∑ k : Fin 1024, re2 (A m c) (1024 * (n % 8) + k.val) (1408 * (n / 8) + (y 0).val) * re2 (D m c) (1024 * (n % 8) + k.val) (y 1).val

/-- The product of a point's blocks. -/
theorem pay (t : Fin cfg0.N) (y : S1408x1024.Idx) : k0_pay1 (F := Ideal) (iblk m c 0 t) (iblk m c 1 t) y = term m c t.val y := by
  pointwise [k0_pay1, hb0, hb1]
  rfl

/-- The carried buffer after a point is the sum of what its row's points added so far. -/
theorem scr (t : Fin cfg0.N) (y : S1408x1024.Idx) :
    (outsAt0 m c t.val t.isLt).2 y = 0 + ∑ k ∈ Finset.range (t.val % 8 + 1), term m c (8 * (t.val / 8) + k) y := by
  refine Pipeline.eq_sum_of_reset_step_apply (fun n h => (outsAt0 m c n h).2) 8 (fun _ => (0 : EReal)) (term m c) (fun t h y => ?_) (fun t h y => ?_) t y
  · rw [outsAt0_A m c t h (by omega) (by omega)]
    frame_out
    pointwise [k0_pay2, pay m c t]
  · by_cases h2 : t.val % 8 = 7
    · rw [outsAt0_C m c t h (by omega) h2]
      frame_out
      simp only [read_unread_whole]
      pointwise [k0_pay3, pay m c t]
    · rw [outsAt0_B m c t h (by omega) h2]
      frame_out
      simp only [read_unread_whole]
      pointwise [k0_pay3, pay m c t]

/-- At the last of a row's points the result's block is the carried buffer. -/
theorem out_eq (t : Fin cfg0.N) (h2 : t.val % 8 = 7) (y : S1408x1024.Idx) :
    (outsAt0 m c t.val t.isLt).1 y = (outsAt0 m c t.val t.isLt).2 y := by
  rw [outsAt0_C m c t (by omega) (by omega) h2]
  frame_out
  pointwise [k0_pay4]

/-- The sum over all rows. -/
def dw (y : S2816x1024.Idx) : EReal := ∑ r : Fin 8192, re2 (A m c) r.val (y 0).val * re2 (D m c) r.val (y 1).val

/-- Eight points' terms make the sum over all rows. -/
theorem term_sum (q : ℕ) (y : S1408x1024.Idx) : ∑ k ∈ Finset.range 8, term m c (8 * q + k) y
    = ∑ r : Fin 8192, re2 (A m c) r.val (1408 * q + (y 0).val) * re2 (D m c) r.val (y 1).val := by
  rw [Fin.sum_univ_tiles 8 1024 rfl, Finset.sum_range]
  refine Finset.sum_congr rfl fun j _ => Finset.sum_congr rfl fun k _ => ?_
  have hj := j.isLt
  rw [show (8 * q + j.val) % 8 = j.val by omega, show (8 * q + j.val) / 8 = q by omega, Nat.mul_comm 1024 j.val]

/-- The call's result. -/
theorem arr2 : (dats m 0 c).arrAt 2 cfg0.N = (dw m c : Vec Ideal S2816x1024 .bf16) := by
  refine (dats m 0 c).arrAt_eq_of_covers 2 _ (by decide +kernel) fun t hf y => ?_
  have h2 : t.val % 8 = 7 := (flush0_2 t).mp hf
  blk_simp
  rw [after0_2]
  refine (out_eq m c t h2 _).trans ((scr m c t _).trans ?_)
  rw [h2, zero_add, term_sum]
  unfold dw
  blk_simp [idx t]
  rw [Nat.mul_comm 1408]

end Cert.DownWeightIdeal.Value

namespace Cert.DownWeightRefIdeal.Value
open Cert.DownWeightRefIdeal Cert.DownWeightRefIdeal.Gen Cert.Model

/-- The reference's result. -/
theorem ref (a0 : Vec Ideal S8192x2816 .bf16) (a1 : Vec Ideal S8192x1024 .f32) (y : S2816x1024.Idx) :
    (truncf (F := Ideal) .bf16 (transpose S2816x1024 [1, 0] (Host.dotGeneral (F := Ideal) (φ₁ := .f32) (φ₂ := .f32) dot_S8192x1024_S8192x2816_S1024x2816_0_0_1_1_n_n none a1 (extf (F := Ideal) .f32 a0 bitsLt_bf16_f32)) transposes_S1024x2816_S2816x1024_1_0) bitsLt_bf16_f32 : Vec Ideal S2816x1024 .bf16) y
      = ∑ r : Fin 8192, re2 a0 r.val (y 0).val * re2 a1 r.val (y 1).val := by
  pointwise []
  refine Finset.sum_congr rfl fun r _ => ?_
  rw [mul_comm]
  exact congrArg₂ (· * ·) (eq_re2 a0 _ _ _ rfl rfl) (eq_re2 a1 _ _ _ rfl rfl)

end Cert.DownWeightRefIdeal.Value
end
-- ==== Proof.DownBackVal.lean ====
module

public import proofs.«01_k».proof.Proof.Gen.DownBackIdeal.Frame
public import proofs.«01_k».proof.Proof.Gen.DownBackIdeal.Value
public import proofs.«01_k».proof.Proof.Gen.DownBackRefIdeal.Run
public import proofs.«01_k».proof.Proof.Arrays
public import proofs.«01_k».proof.Proof.Silu
public import Idealize.ShloMosaic.Lib.Pipeline.ValueKit

@[expose] public section

/-! # The gradients of the gate and of the other branch -/

set_option maxRecDepth 16384
noncomputable section
open Idealize.ShloMosaic Idealize.ShloMosaic.TcCoe Idealize.SL.Sem

namespace Cert.Model

/-- One entry of a row times a transposed weight matrix. -/
def pt (D W : ℕ → ℕ → EReal) (r j : ℕ) : EReal := ∑ k : Fin 1024, D r k.val * W j k.val
/-- The gate's factor: the chain rule through the activation. -/
def fg (a b : EReal) : EReal := b * sg a + (a * b) * (sg a * (1 - sg a))

end Cert.Model

namespace Cert.DownBackIdeal.Value
open Idealize.ShloMosaic.Pipeline (Dat)
open Cert.DownBackIdeal Cert.DownBackIdeal.Gen Cert.Model

variable (m : (ℓ : Loc nD τ sig) → Buf (Elt Ideal) ℓ) (c : Dev nD)

/-- The gates. -/
abbrev A : Vec Ideal S8192x2816 .f32 := m ((c : Thread nD τ).loc main_arg0)
/-- The other branch. -/
abbrev B : Vec Ideal S8192x2816 .f32 := m ((c : Thread nD τ).loc main_arg1)
/-- The down weights. -/
abbrev W : Vec Ideal S2816x1024 .bf16 := m ((c : Thread nD τ).loc main_arg2)
/-- The gradient of the layer's result. -/
abbrev D : Vec Ideal S8192x1024 .f32 := m ((c : Thread nD τ).loc main_arg3)

/-- The logistic function of the gates. -/
abbrev sigA : Vec Ideal S8192x2816 .f32 :=
  Host.divf (F := Ideal) (φ := .f32) (broadcastInDim S8192x2816 ![] bcast_S_S8192x2816 (constant (F := Ideal) S_ .f32 0x3F800000#32)) (addf (F := Ideal) (φ := .f32) (broadcastInDim S8192x2816 ![] bcast_S_S8192x2816 (constant (F := Ideal) S_ .f32 0x3F800000#32)) (Host.exp (F := Ideal) (φ := .f32) (Host.negf (F := Ideal) (φ := .f32) (A m c))))
/-- The other branch times one. -/
abbrev oneB : Vec Ideal S8192x2816 .f32 := mulf (F := Ideal) (φ := .f32) (broadcastInDim S8192x2816 ![] bcast_S_S8192x2816 (constant (F := Ideal) S_ .f32 0x3F800000#32)) (B m c)

set_option maxHeartbeats 1000000 in
/-- The gate's factor, as the lines before the call leave it. -/
theorem entry6 : (V m c main_v6 : Vec Ideal S8192x2816 .bf16)
    = truncf (F := Ideal) .bf16 (addf (F := Ideal) (φ := .f32) (mulf (F := Ideal) (φ := .f32) (oneB m c) (sigA m c)) (mulf (F := Ideal) (φ := .f32) (mulf (F := Ideal) (φ := .f32) (A m c) (oneB m c)) (mulf (F := Ideal) (φ := .f32) (sigA m c) (subf (F := Ideal) (φ := .f32) (broadcastInDim S8192x2816 ![] bcast_S_S8192x2816 (constant (F := Ideal) S_ .f32 0x3F800000#32)) (sigA m c))))) bitsLt_bf16_f32 := by
  simp only [V, List.flatten_cons, List.flatten_nil, List.append_nil, List.cons_append, List.nil_append, StableHlo.TRef.binary, StableHlo.TRef.nullary, StableHlo.TRef.unary, StableHlo.TRef.toBuf, StableHlo.TRef.ofBuf, cast_eq]
  after_results
set_option maxHeartbeats 1000000 in
/-- The other branch's factor, as the lines before the call leave it. -/
theorem entry7 : (V m c main_v7 : Vec Ideal S8192x2816 .bf16)
    = truncf (F := Ideal) .bf16 (mulf (F := Ideal) (φ := .f32) (mulf (F := Ideal) (φ := .f32) (A m c) (sigA m c)) (broadcastInDim S8192x2816 ![] bcast_S_S8192x2816 (constant (F := Ideal) S_ .f32 0x3F800000#32))) bitsLt_bf16_f32 := by
  simp only [V, List.flatten_cons, List.flatten_nil, List.append_nil, List.cons_append, List.nil_append, StableHlo.TRef.binary, StableHlo.TRef.nullary, StableHlo.TRef.unary, StableHlo.TRef.toBuf, StableHlo.TRef.ofBuf, cast_eq]
  after_results

/-- An entry of the gate's factor. -/
theorem coef1 (y : S8192x2816.Idx) : (V m c main_v6 : Vec Ideal S8192x2816 .bf16) y = fg (A m c y) (B m c y) := by
  rw [entry6]
  pointwise []
  rfl
/-- An entry of the other branch's factor. -/
theorem coef2 (y : S8192x2816.Idx) : (V m c main_v7 : Vec Ideal S8192x2816 .bf16) y = A m c y * sg (A m c y) := by
  rw [entry7]
  pointwise []
  rfl

/-- Where each window's block lies. -/
theorem idx : ∀ t : Fin cfg0.N, win0_0.index t = ![t.val % 8, 0] ∧ win0_1.index t = ![t.val / 8, 0] ∧ win0_2.index t = ![t.val % 8, t.val / 8]
    ∧ win0_3.index t = ![t.val % 8, t.val / 8] ∧ win0_4.index t = ![t.val % 8, t.val / 8] ∧ win0_5.index t = ![t.val % 8, t.val / 8] :=
  (by decide +kernel : ∀ t : Fin grid0.N, _)

/-- The rows a point reads. -/
theorem hb0 (t : Fin cfg0.N) (y : S1024x1024.Idx) : (iblk m c 0 t : Vec Ideal S1024x1024 .f32) y
    = re2 (D m c) (1024 * (t.val % 8) + (y 0).val) (y 1).val := by
  blk_simp [iblk]
  rw [V_main_arg3]
  refine eq_re2 (D m c) _ _ _ ?_ ?_ <;> blk_simp [idx t] <;> omega
/-- The weights a point reads. -/
theorem hb1 (t : Fin cfg0.N) (y : S1408x1024.Idx) : (iblk m c 1 t : Vec Ideal S1408x1024 .bf16) y
    = re2 (W m c) (1408 * (t.val / 8) + (y 0).val) (y 1).val := by
  blk_simp [iblk]
  rw [V_main_arg2]
  refine eq_re2 (W m c) _ _ _ ?_ ?_ <;> blk_simp [idx t] <;> omega
/-- The gate's factors a point reads. -/
theorem hb2 (t : Fin cfg0.N) (y : S1024x1408.Idx) : (iblk m c 2 t : Vec Ideal S1024x1408 .bf16) y
    = fg (re2 (A m c) (1024 * (t.val % 8) + (y 0).val) (1408 * (t.val / 8) + (y 1).val)) (re2 (B m c) (1024 * (t.val % 8) + (y 0).val) (1408 * (t.val / 8) + (y 1).val)) := by
  blk_simp [iblk]
  refine (coef1 m c _).trans (congrArg₂ fg ?_ ?_)
  · refine eq_re2 (A m c) _ _ _ ?_ ?_ <;> blk_simp [idx t] <;> omega
  · refine eq_re2 (B m c) _ _ _ ?_ ?_ <;> blk_simp [idx t] <;> omega
/-- The other branch's factors a point reads. -/
theorem hb3 (t : Fin cfg0.N) (y : S1024x1408.Idx) : (iblk m c 3 t : Vec Ideal S1024x1408 .bf16) y
    = re2 (A m c) (1024 * (t.val % 8) + (y 0).val) (1408 * (t.val / 8) + (y 1).val) * sg (re2 (A m c) (1024 * (t.val % 8) + (y 0).val) (1408 * (t.val / 8) + (y 1).val)) := by
  blk_simp [iblk]
  refine (coef2 m c _).trans (congrArg (fun x => x * sg x) ?_)
  refine eq_re2 (A m c) _ _ _ ?_ ?_ <;> blk_simp [idx t] <;> omega

/-- The gradient of the gated product at row `r`, column `j`. -/
def td (r j : ℕ) : EReal := pt (re2 (D m c)) (re2 (W m c)) r j

/-- It at a point. -/
theorem pay1 (t : Fin cfg0.N) (y : S1024x1408.Idx) : k0_pay1 (F := Ideal) (iblk m c 0 t) (iblk m c 1 t) y
    = td m c (1024 * (t.val % 8) + (y 0).val) (1408 * (t.val / 8) + (y 1).val) := by
  pointwise [k0_pay1, hb0, hb1]
  rfl

/-- The gate's gradient. -/
def dg (r j : ℕ) : EReal := td m c r j * fg (re2 (A m c) r j) (re2 (B m c) r j)
/-- The other branch's gradient. -/
def du (r j : ℕ) : EReal := td m c r j * (re2 (A m c) r j * sg (re2 (A m c) r j))

/-- A point's block of the gate's gradient. -/
theorem pay2 (t : Fin cfg0.N) (y : S1024x1408.Idx) : k0_pay2 (F := Ideal) (iblk m c 0 t) (iblk m c 1 t) (iblk m c 2 t) y
    = dg m c (1024 * (t.val % 8) + (y 0).val) (1408 * (t.val / 8) + (y 1).val) := by
  pointwise [k0_pay2, pay1, hb2]
  rfl
/-- A point's block of the other branch's gradient. -/
theorem pay3 (t : Fin cfg0.N) (y : S1024x1408.Idx) : k0_pay3 (F := Ideal) (iblk m c 0 t) (iblk m c 1 t) (iblk m c 3 t) y
    = du m c (1024 * (t.val % 8) + (y 0).val) (1408 * (t.val / 8) + (y 1).val) := by
  pointwise [k0_pay3, pay1, hb3]
  rfl

/-- The first result. -/
theorem arr4 : (dats m 0 c).arrAt 4 cfg0.N = ((fun y => dg m c (y 0).val (y 1).val) : Vec Ideal S8192x2816 .bf16) := by
  refine (dats m 0 c).arrAt_eq_of_covers 4 _ (by decide +kernel) fun t hf y => ?_
  blk_simp
  rw [after0_4]
  unfold out0_4
  frame_out
  refine (pay2 m c t _).trans ?_
  blk_simp [idx t]
  rw [Nat.mul_comm 1024, Nat.mul_comm 1408]
/-- The second result. -/
theorem arr5 : (dats m 0 c).arrAt 5 cfg0.N = ((fun y => du m c (y 0).val (y 1).val) : Vec Ideal S8192x2816 .bf16) := by
  refine (dats m 0 c).arrAt_eq_of_covers 5 _ (by decide +kernel) fun t hf y => ?_
  blk_simp
  rw [after0_5]
  unfold out0_5
  frame_out
  refine (pay3 m c t _).trans ?_
  blk_simp [idx t]
  rw [Nat.mul_comm 1024, Nat.mul_comm 1408]

end Cert.DownBackIdeal.Value

namespace Cert.DownBackRefIdeal.Value
open Cert.DownBackRefIdeal Cert.DownBackRefIdeal.Gen Cert.Model

/-- The reference's product. -/
abbrev proj (a3 : Vec Ideal S8192x1024 .f32) (a2 : Vec Ideal S2816x1024 .bf16) : Vec Ideal S8192x2816 .f32 :=
  Host.dotGeneral (F := Ideal) (φ₁ := .f32) (φ₂ := .f32) dot_S8192x1024_S2816x1024_S8192x2816_1_1_0_0_n_n none a3 (extf (F := Ideal) .f32 a2 bitsLt_bf16_f32)

/-- One entry of it. -/
theorem proj_eq (a3 : Vec Ideal S8192x1024 .f32) (a2 : Vec Ideal S2816x1024 .bf16) (y : S8192x2816.Idx) : proj a3 a2 y = pt (re2 a3) (re2 a2) (y 0).val (y 1).val := by
  pointwise [proj]
  unfold pt
  refine Finset.sum_congr rfl fun r _ => ?_
  exact congrArg₂ (· * ·) (eq_re2 a3 _ _ _ rfl rfl) (eq_re2 a2 _ _ _ rfl rfl)

/-- The array of ones. -/
abbrev ones : Vec Ideal S8192x2816 .f32 := broadcastInDim S8192x2816 ![] bcast_S_S8192x2816 (constant (F := Ideal) S_ .f32 0x3F800000#32)
/-- The logistic function of an array. -/
abbrev sig' (G : Vec Ideal S8192x2816 .f32) : Vec Ideal S8192x2816 .f32 :=
  Host.divf (F := Ideal) (φ := .f32) ones (addf (F := Ideal) (φ := .f32) ones (Host.exp (F := Ideal) (φ := .f32) (Host.negf (F := Ideal) (φ := .f32) G)))

/-- The gate's gradient as the reference computes it. -/
theorem ref1 (G B T : Vec Ideal S8192x2816 .f32) (y : S8192x2816.Idx) (hb : B y = (EReal.toReal (B y) : EReal)) (ht : T y = (EReal.toReal (T y) : EReal)) :
    (truncf (F := Ideal) .bf16 (addf (mulf (mulf T B) (sig' G)) (mulf (mulf G (mulf T B)) (mulf (sig' G) (subf ones (sig' G))))) bitsLt_bf16_f32 : Vec Ideal S8192x2816 .bf16) y
      = T y * fg (G y) (B y) := by
  refine Eq.trans ?_ (back_chain (G y) (B y) (T y) hb ht).symm
  pointwise [ones]
  rfl
/-- The other branch's gradient as the reference computes it. -/
theorem ref2 (G T : Vec Ideal S8192x2816 .f32) (y : S8192x2816.Idx) :
    (truncf (F := Ideal) .bf16 (mulf (mulf G (sig' G)) T) bitsLt_bf16_f32 : Vec Ideal S8192x2816 .bf16) y = T y * (G y * sg (G y)) := by
  refine Eq.trans ?_ (back_swap (G y) (T y)).symm
  pointwise [ones]
  rfl

end Cert.DownBackRefIdeal.Value
end
-- ==== Proof.GateUpVal.lean ====
module

public import proofs.«01_k».proof.Proof.Gen.GateUpIdeal.Frame
public import proofs.«01_k».proof.Proof.Gen.GateUpIdeal.Value
public import proofs.«01_k».proof.Proof.Gen.GateUpRefIdeal.Run
public import proofs.«01_k».proof.Proof.Arrays
public import proofs.«01_k».proof.Proof.Silu
public import Idealize.ShloMosaic.Lib.Pipeline.ValueKit

@[expose] public section

/-! # The layer's gate and up projections, their gated product, and the factors its backward pass keeps -/

set_option maxRecDepth 16384
noncomputable section
open Idealize.ShloMosaic Idealize.ShloMosaic.TcCoe Idealize.SL.Sem

namespace Cert.Model

/-- One entry of a row times a weight matrix. -/
def pj (N W : ℕ → ℕ → EReal) (r j : ℕ) : EReal := ∑ k : Fin 1024, N r k.val * W k.val j

end Cert.Model

namespace Cert.GateUpIdeal.Value
open Idealize.ShloMosaic.Pipeline (Dat)
open Cert.GateUpIdeal Cert.GateUpIdeal.Gen Cert.Model

variable (m : (ℓ : Loc nD τ sig) → Buf (Elt Ideal) ℓ) (c : Dev nD)

/-- The normalised rows. -/
abbrev N : Vec Ideal S8192x1024 .bf16 := m ((c : Thread nD τ).loc main_arg0)
/-- The gate weights. -/
abbrev WG : Vec Ideal S1024x2816 .bf16 := m ((c : Thread nD τ).loc main_arg1)
/-- The up weights. -/
abbrev WU : Vec Ideal S1024x2816 .bf16 := m ((c : Thread nD τ).loc main_arg2)

/-- Where each window's block lies. -/
theorem idx : ∀ t : Fin cfg0.N, win0_0.index t = ![t.val % 8, 0] ∧ win0_1.index t = ![0, t.val / 8] ∧ win0_2.index t = ![0, t.val / 8]
    ∧ win0_3.index t = ![t.val % 8, t.val / 8] ∧ win0_4.index t = ![t.val % 8, t.val / 8] ∧ win0_5.index t = ![t.val % 8, t.val / 8] :=
  (by decide +kernel : ∀ t : Fin grid0.N, _)

/-- The rows a point reads. -/
theorem hb0 (t : Fin cfg0.N) (y : S1024x1024.Idx) : (iblk m c 0 t : Vec Ideal S1024x1024 .bf16) y
    = re2 (N m c) (1024 * (t.val % 8) + (y 0).val) (y 1).val := by
  blk_simp [iblk, V, idx t]
  refine eq_re2 (N m c) _ _ _ ?_ ?_ <;> blk_simp [idx t] <;> omega
/-- The gate weights a point reads. -/
theorem hb1 (t : Fin cfg0.N) (y : S1024x1408.Idx) : (iblk m c 1 t : Vec Ideal S1024x1408 .bf16) y
    = re2 (WG m c) (y 0).val (1408 * (t.val / 8) + (y 1).val) := by
  blk_simp [iblk, V, idx t]
  refine eq_re2 (WG m c) _ _ _ ?_ ?_ <;> blk_simp [idx t] <;> omega
/-- The up weights a point reads. -/
theorem hb2 (t : Fin cfg0.N) (y : S1024x1408.Idx) : (iblk m c 2 t : Vec Ideal S1024x1408 .bf16) y
    = re2 (WU m c) (y 0).val (1408 * (t.val / 8) + (y 1).val) := by
  blk_simp [iblk, V, idx t]
  refine eq_re2 (WU m c) _ _ _ ?_ ?_ <;> blk_simp [idx t] <;> omega

/-- The gate of row `r`, column `j`. -/
def g (r j : ℕ) : EReal := pj (re2 (N m c)) (re2 (WG m c)) r j
/-- The other branch of row `r`, column `j`. -/
def u (r j : ℕ) : EReal := pj (re2 (N m c)) (re2 (WU m c)) r j

/-- The gates of a point. -/
theorem pay1 (t : Fin cfg0.N) (y : S1024x1408.Idx) : k0_pay1 (F := Ideal) (iblk m c 0 t) (iblk m c 1 t) y
    = g m c (1024 * (t.val % 8) + (y 0).val) (1408 * (t.val / 8) + (y 1).val) := by
  pointwise [k0_pay1, hb0, hb1]
  rfl
/-- The other branch's values at a point. -/
theorem pay2 (t : Fin cfg0.N) (y : S1024x1408.Idx) : k0_pay2 (F := Ideal) (iblk m c 0 t) (iblk m c 2 t) y
    = u m c (1024 * (t.val % 8) + (y 0).val) (1408 * (t.val / 8) + (y 1).val) := by
  pointwise [k0_pay2, hb0, hb2]
  rfl
/-- The logistic function of a point's gates. -/
theorem pay3 (t : Fin cfg0.N) (y : S1024x1408.Idx) : k0_pay3 (F := Ideal) (iblk m c 0 t) (iblk m c 1 t) y
    = sg (g m c (1024 * (t.val % 8) + (y 0).val) (1408 * (t.val / 8) + (y 1).val)) := by
  pointwise [k0_pay3, pay1]
  rw [zero_sub]
  rfl

/-- The factor of the gate's gradient. -/
def dgate (r j : ℕ) : EReal := u m c r j * (sg (g m c r j) * (1 + g m c r j * (1 - sg (g m c r j))))
/-- The activated gate. -/
def act (r j : ℕ) : EReal := g m c r j * sg (g m c r j)

/-- A point's block of the saved gate derivative. -/
theorem pay5 (t : Fin cfg0.N) (y : S1024x1408.Idx) : k0_pay5 (F := Ideal) (iblk m c 0 t) (iblk m c 1 t) (iblk m c 2 t) y
    = dgate m c (1024 * (t.val % 8) + (y 0).val) (1408 * (t.val / 8) + (y 1).val) := by
  pointwise [k0_pay5, pay1, pay2, pay3]
  rfl
/-- A point's block of the activated gate. -/
theorem pay6 (t : Fin cfg0.N) (y : S1024x1408.Idx) : k0_pay6 (F := Ideal) (iblk m c 0 t) (iblk m c 1 t) y
    = act m c (1024 * (t.val % 8) + (y 0).val) (1408 * (t.val / 8) + (y 1).val) := by
  pointwise [k0_pay6, k0_pay4, pay1, pay3]
  rfl
/-- A point's block of the gated product. -/
theorem pay7 (t : Fin cfg0.N) (y : S1024x1408.Idx) : k0_pay7 (F := Ideal) (iblk m c 0 t) (iblk m c 1 t) (iblk m c 2 t) y
    = act m c (1024 * (t.val % 8) + (y 0).val) (1408 * (t.val / 8) + (y 1).val) * u m c (1024 * (t.val % 8) + (y 0).val) (1408 * (t.val / 8) + (y 1).val) := by
  pointwise [k0_pay7, k0_pay4, pay1, pay2, pay3]
  rfl

/-- The first result. -/
theorem arr3 : (dats m 0 c).arrAt 3 cfg0.N = ((fun y => dgate m c (y 0).val (y 1).val) : Vec Ideal S8192x2816 .bf16) := by
  refine (dats m 0 c).arrAt_eq_of_covers 3 _ (by decide +kernel) fun t hf y => ?_
  blk_simp
  rw [after0_3]
  unfold out0_3
  frame_out
  refine (pay5 m c t _).trans ?_
  blk_simp [idx t]
  rw [Nat.mul_comm 1024, Nat.mul_comm 1408]
/-- The second result. -/
theorem arr4 : (dats m 0 c).arrAt 4 cfg0.N = ((fun y => act m c (y 0).val (y 1).val) : Vec Ideal S8192x2816 .bf16) := by
  refine (dats m 0 c).arrAt_eq_of_covers 4 _ (by decide +kernel) fun t hf y => ?_
  blk_simp
  rw [after0_4]
  unfold out0_4
  frame_out
  refine (pay6 m c t _).trans ?_
  blk_simp [idx t]
  rw [Nat.mul_comm 1024, Nat.mul_comm 1408]
/-- The third result. -/
theorem arr5 : (dats m 0 c).arrAt 5 cfg0.N = ((fun y => act m c (y 0).val (y 1).val * u m c (y 0).val (y 1).val) : Vec Ideal S8192x2816 .bf16) := by
  refine (dats m 0 c).arrAt_eq_of_covers 5 _ (by decide +kernel) fun t hf y => ?_
  blk_simp
  rw [after0_5]
  unfold out0_5
  frame_out
  refine (pay7 m c t _).trans ?_
  blk_simp [idx t]
  rw [Nat.mul_comm 1024, Nat.mul_comm 1408]

end Cert.GateUpIdeal.Value

namespace Cert.GateUpRefIdeal.Value
open Cert.GateUpRefIdeal Cert.GateUpRefIdeal.Gen Cert.Model

variable (a0 : Vec Ideal S8192x1024 .bf16) (a1 : Vec Ideal S1024x2816 .bf16)

/-- The reference's projection. -/
abbrev proj : Vec Ideal S8192x2816 .f32 :=
  Host.dotGeneral (F := Ideal) (φ₁ := .f32) (φ₂ := .f32) dot_S8192x1024_S1024x2816_S8192x2816_1_0_0_1_n_n none (extf (F := Ideal) .f32 a0 bitsLt_bf16_f32) (extf (F := Ideal) .f32 a1 bitsLt_bf16_f32)

/-- One entry of it. -/
theorem proj_eq (y : S8192x2816.Idx) : proj a0 a1 y = pj (re2 a0) (re2 a1) (y 0).val (y 1).val := by
  pointwise [proj]
  unfold pj
  refine Finset.sum_congr rfl fun r _ => ?_
  exact congrArg₂ (· * ·) (eq_re2 a0 _ _ _ rfl rfl) (eq_re2 a1 _ _ _ rfl rfl)

/-- The array of ones. -/
abbrev ones : Vec Ideal S8192x2816 .f32 := broadcastInDim S8192x2816 ![] bcast_S_S8192x2816 (constant (F := Ideal) S_ .f32 0x3F800000#32)
/-- The logistic function of an array. -/
abbrev sig' (G : Vec Ideal S8192x2816 .f32) : Vec Ideal S8192x2816 .f32 := Host.divf (F := Ideal) (φ := .f32) ones (addf (F := Ideal) (φ := .f32) ones (Host.exp (F := Ideal) (φ := .f32) (Host.negf (F := Ideal) (φ := .f32) G)))
/-- The gradient's factor as the reference computes it. -/
theorem ref1 (G U : Vec Ideal S8192x2816 .f32) (y : S8192x2816.Idx) (hu : U y = (EReal.toReal (U y) : EReal)) :
    (truncf (F := Ideal) .bf16 (addf (mulf (mulf ones U) (sig' G)) (mulf (mulf G (mulf ones U)) (mulf (sig' G) (subf ones (sig' G))))) bitsLt_bf16_f32 : Vec Ideal S8192x2816 .bf16) y
      = U y * (sg (G y) * (1 + G y * (1 - sg (G y)))) := by
  refine Eq.trans ?_ (up_chain (G y) (U y) hu).symm
  pointwise [ones]
  rfl
/-- The activated gate as the reference computes it. -/
theorem ref2 (G : Vec Ideal S8192x2816 .f32) (y : S8192x2816.Idx) :
    (truncf (F := Ideal) .bf16 (mulf (mulf G (sig' G)) ones) bitsLt_bf16_f32 : Vec Ideal S8192x2816 .bf16) y = G y * sg (G y) := by
  pointwise [ones]
  rfl
/-- The gated product as the reference computes it. -/
theorem ref3 (G U : Vec Ideal S8192x2816 .f32) (y : S8192x2816.Idx) :
    (truncf (F := Ideal) .bf16 (mulf (mulf G (sig' G)) U) bitsLt_bf16_f32 : Vec Ideal S8192x2816 .bf16) y = G y * sg (G y) * U y := by
  pointwise [ones]
  rfl

end Cert.GateUpRefIdeal.Value
end
-- ==== Proof.DownVal.lean ====
module

public import proofs.«01_k».proof.Proof.Gen.DownIdeal.Frame
public import proofs.«01_k».proof.Proof.Gen.DownIdeal.Value
public import proofs.«01_k».proof.Proof.Gen.DownRefIdeal.Run
public import proofs.«01_k».proof.Proof.Arrays
public import Idealize.ShloMosaic.Lib.Pipeline.ValueKit

@[expose] public section

/-! # The layer's down projection, the residual, and the next layer's norm -/

set_option maxRecDepth 16384
noncomputable section
open Idealize.ShloMosaic Idealize.ShloMosaic.TcCoe Idealize.SL.Sem

namespace Cert.Model

/-- The residual stream after the layer: row `r`, column `j`. -/
def ho (A W H : ℕ → ℕ → EReal) (r j : ℕ) : EReal := H r j + ∑ k : Fin 2816, A r k.val * W k.val j

/-- A row times its inverse root mean square and the gain. -/
def no (h : ℕ → ℕ → EReal) (g : ℕ → EReal) (r j : ℕ) : EReal :=
  h r j * Ideal.rsqrt (Ideal.div (∑ k : Fin 1024, h r k.val * h r k.val) (Ideal.ofBits .f32 0x44800000#32) + Ideal.ofBits .f32 0x358637BD#32) * g j

end Cert.Model

namespace Cert.DownIdeal.Value
open Idealize.ShloMosaic.Pipeline (Dat)
open Cert.DownIdeal Cert.DownIdeal.Gen Cert.Model

variable (m : (ℓ : Loc nD τ sig) → Buf (Elt Ideal) ℓ) (c : Dev nD)

/-- The activations. -/
abbrev A : Vec Ideal S8192x2816 .bf16 := m ((c : Thread nD τ).loc main_arg0)
/-- The down weights. -/
abbrev W : Vec Ideal S2816x1024 .bf16 := m ((c : Thread nD τ).loc main_arg1)
/-- The residual stream before the layer. -/
abbrev H : Vec Ideal S8192x1024 .f32 := m ((c : Thread nD τ).loc main_arg2)
/-- The next norm's gain. -/
abbrev G : Vec Ideal S1x1024 .f32 := m ((c : Thread nD τ).loc main_arg3)

/-- Where each window's block lies. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- The activations a point reads. -/
theorem hb0 (t : Fin cfg0.N) (y : S1024x2816.Idx) : (iblk m c 0 t : Vec Ideal S1024x2816 .bf16) y
    = re2 (A m c) (1024 * t.val + (y 0).val) (y 1).val := by
  blk_simp [iblk, V, idx t]
  refine eq_re2 (A m c) _ _ _ ?_ ?_ <;> blk_simp [idx t] <;> omega
/-- The weights a point reads. -/
theorem hb1 (t : Fin cfg0.N) (y : S2816x1024.Idx) : (iblk m c 1 t : Vec Ideal S2816x1024 .bf16) y
    = re2 (W m c) (y 0).val (y 1).val := by
  blk_simp [iblk, V, idx t]
  refine eq_re2 (W m c) _ _ _ ?_ ?_ <;> blk_simp [idx t]
/-- The residual rows a point reads. -/
theorem hb2 (t : Fin cfg0.N) (y : S1024x1024.Idx) : (iblk m c 2 t : Vec Ideal S1024x1024 .f32) y
    = re2 (H m c) (1024 * t.val + (y 0).val) (y 1).val := by
  blk_simp [iblk, V, idx t]
  refine eq_re2 (H m c) _ _ _ ?_ ?_ <;> blk_simp [idx t] <;> omega
/-- The gain a point reads. -/
theorem hb3 (t : Fin cfg0.N) (y : S1x1024.Idx) : (iblk m c 3 t : Vec Ideal S1x1024 .f32) y
    = re2 (G m c) (y 0).val (y 1).val := by
  blk_simp [iblk, V, idx t]
  refine eq_re2 (G m c) _ _ _ ?_ ?_ <;> blk_simp [idx t]

/-- The new residual rows of a point. -/
theorem pay1 (t : Fin cfg0.N) (y : S1024x1024.Idx) : k0_pay1 (F := Ideal) (iblk m c 2 t) (iblk m c 0 t) (iblk m c 1 t) y
    = ho (re2 (A m c)) (re2 (W m c)) (re2 (H m c)) (1024 * t.val + (y 0).val) (y 1).val := by
  pointwise [k0_pay1, hb0, hb1, hb2]
  rfl

/-- The normalised rows of a point. -/
theorem pay2 (t : Fin cfg0.N) (y : S1024x1024.Idx) : k0_pay2 (F := Ideal) (iblk m c 2 t) (iblk m c 0 t) (iblk m c 1 t) (iblk m c 3 t) y
    = no (ho (re2 (A m c)) (re2 (W m c)) (re2 (H m c))) (re2 (G m c) 0) (1024 * t.val + (y 0).val) (y 1).val := by
  pointwise [k0_pay2, pay1, hb3]
  rfl

/-- The first result. -/
theorem arr4 : (dats m 0 c).arrAt 4 cfg0.N = ((fun y => ho (re2 (A m c)) (re2 (W m c)) (re2 (H m c)) (y 0).val (y 1).val) : Vec Ideal S8192x1024 .f32) := by
  refine (dats m 0 c).arrAt_eq_of_covers 4 _ (by decide +kernel) fun t hf y => ?_
  blk_simp
  rw [after0_4]
  unfold out0_4
  frame_out
  refine (pay1 m c t _).trans ?_
  blk_simp [idx t]
  rw [Nat.mul_comm 1024]

/-- The second result. -/
theorem arr5 : (dats m 0 c).arrAt 5 cfg0.N = ((fun y => no (ho (re2 (A m c)) (re2 (W m c)) (re2 (H m c))) (re2 (G m c) 0) (y 0).val (y 1).val) : Vec Ideal S8192x1024 .bf16) := by
  refine (dats m 0 c).arrAt_eq_of_covers 5 _ (by decide +kernel) fun t hf y => ?_
  blk_simp
  rw [after0_5]
  unfold out0_5
  frame_out
  refine (pay2 m c t _).trans ?_
  blk_simp [idx t]
  rw [Nat.mul_comm 1024]

end Cert.DownIdeal.Value

namespace Cert.DownRefIdeal.Value
open Cert.DownRefIdeal Cert.DownRefIdeal.Gen Cert.Model

/-- The reference's first result. -/
theorem ref1 (a0 : Vec Ideal S8192x2816 .bf16) (a1 : Vec Ideal S2816x1024 .bf16) (a2 : Vec Ideal S8192x1024 .f32) (y : S8192x1024.Idx) :
    (addf (F := Ideal) a2 (Host.dotGeneral (F := Ideal) (φ₁ := .f32) (φ₂ := .f32) dot_S8192x2816_S2816x1024_S8192x1024_1_0_0_1_n_n none (extf (F := Ideal) .f32 a0 bitsLt_bf16_f32) (extf (F := Ideal) .f32 a1 bitsLt_bf16_f32)) : Vec Ideal S8192x1024 .f32) y
      = ho (re2 a0) (re2 a1) (re2 a2) (y 0).val (y 1).val := by
  pointwise []
  refine congrArg₂ (· + ·) (re2_eq a2 y).symm ?_
  refine Finset.sum_congr rfl fun r _ => ?_
  exact congrArg₂ (· * ·) (eq_re2 a0 _ _ _ rfl rfl) (eq_re2 a1 _ _ _ rfl rfl)

/-- The norm of an array of rows, as the reference writes it. -/
theorem ref2 (x : Vec Ideal S8192x1024 .f32) (h : ℕ → ℕ → EReal) (hx : ∀ y : S8192x1024.Idx, x y = h (y 0).val (y 1).val) (a3 : Vec Ideal S1x1024 .f32) (y : S8192x1024.Idx) :
    (truncf (F := Ideal) .bf16 (mulf (mulf x (broadcastInDim S8192x1024 ![0, 1] bcast_S8192x1_S8192x1024_0_1 (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 a3)) bitsLt_bf16_f32 : Vec Ideal S8192x1024 .bf16) y
      = no h (re2 a3 0) (y 0).val (y 1).val := by
  pointwise [hx]
  unfold no
  refine congrArg₂ (· * ·) rfl (eq_re2 a3 _ _ _ rfl rfl)

end Cert.DownRefIdeal.Value
end
-- ==== Proof.PreFfn.lean ====
module

public import proofs.«01_k».proof.Proof.Pre
public import proofs.«01_k».proof.Proof.Silu
public import proofs.«01_k».proof.Proof.Arrays

@[expose] public section

/-! # The arguments of the two calls through the activation are real numbers -/

set_option maxRecDepth 16384
noncomputable section
open Idealize.ShloMosaic Idealize.ShloMosaic.TcCoe Idealize.SL.Sem

namespace Cert.Model

/-- A reading of a matrix of real numbers is a real number. -/
theorem re2_real {n m : ℕ} (A : (⟨2, ![n, m]⟩ : Shape).Idx → EReal) (h : ∀ y, A y = ((A y).toReal : EReal)) (r j : ℕ) :
    re2 A r j = ((re2 A r j).toReal : EReal) := by
  unfold re2
  split
  · exact h _
  · rfl

end Cert.Model

namespace Cert.Pre_finite_up

/-- The side conditions of the precondition's operations. -/
instance facts : Facts where
  bitsLt_bf16_f32 := by decide
  bcast_S_S8192x1024 := by decide
  bcast_S_S1024x2816 := by decide

variable (a0 : FVec Ideal S8192x1024 .bf16) (a1 a2 : FVec Ideal S1024x2816 .bf16)

/-- The normalized input is real. -/
theorem real0 (h : (fn (F := Ideal) a0 a1 a2).1 = fun _ => 1#1) (y : S8192x1024.Idx) : (a0 y : EReal) = ((a0 y : EReal).toReal : EReal) := by
  have h := congrFun h y
  simp only [fn] at h
  pointwise [] at h
  exact Cert.Pre_finite.real_of_lt h

/-- The second weight is real. -/
theorem real2 (h : (fn (F := Ideal) a0 a1 a2).2 = fun _ => 1#1) (y : S1024x2816.Idx) : (a2 y : EReal) = ((a2 y : EReal).toReal : EReal) := by
  have h := congrFun h y
  simp only [fn] at h
  pointwise [] at h
  exact Cert.Pre_finite.real_of_lt h

end Cert.Pre_finite_up

namespace Cert.Pre_finite_back

/-- The side conditions of the precondition's operations. -/
instance facts : Facts where
  bcast_S_S8192x2816 := by decide
  bitsLt_bf16_f32 := by decide
  bcast_S_S2816x1024 := by decide
  bcast_S_S8192x1024 := by decide

variable (a0 a1 : FVec Ideal S8192x2816 .f32) (a2 : FVec Ideal S2816x1024 .bf16) (a3 : FVec Ideal S8192x1024 .f32)

/-- The ungated branch is real. -/
theorem real1 (h : (fn (F := Ideal) a0 a1 a2 a3).1 = fun _ => 1#1) (y : S8192x2816.Idx) : (a1 y : EReal) = ((a1 y : EReal).toReal : EReal) := by
  have h := congrFun h y
  simp only [fn] at h
  pointwise [] at h
  exact Cert.Pre_finite.real_of_lt h

/-- The weight is real. -/
theorem real2 (h : (fn (F := Ideal) a0 a1 a2 a3).2.1 = fun _ => 1#1) (y : S2816x1024.Idx) : (a2 y : EReal) = ((a2 y : EReal).toReal : EReal) := by
  have h := congrFun h y
  simp only [fn] at h
  pointwise [] at h
  exact Cert.Pre_finite.real_of_lt h

/-- The output's gradient is real. -/
theorem real3 (h : (fn (F := Ideal) a0 a1 a2 a3).2.2 = fun _ => 1#1) (y : S8192x1024.Idx) : (a3 y : EReal) = ((a3 y : EReal).toReal : EReal) := by
  have h := congrFun h y
  simp only [fn] at h
  pointwise [] at h
  exact Cert.Pre_finite.real_of_lt h

end Cert.Pre_finite_back

end
-- ==== Proof.Ffn.lean ====
/- The feed-forward calls: the references' frames, and each kernel's values equal to its reference's. -/
module

public import proofs.«01_k».proof.Defs
public import proofs.«01_k».proof.Proof.Gen.UpBack
public import proofs.«01_k».proof.Proof.Gen.UpBackIdeal
public import proofs.«01_k».proof.Proof.Gen.UpBackRefIdeal
public import proofs.«01_k».proof.Proof.Gen.UpWeights
public import proofs.«01_k».proof.Proof.Gen.UpWeightsIdeal
public import proofs.«01_k».proof.Proof.Gen.UpWeightsRefIdeal
public import proofs.«01_k».proof.Proof.Gen.DownWeight
public import proofs.«01_k».proof.Proof.Gen.DownWeightIdeal
public import proofs.«01_k».proof.Proof.Gen.DownWeightRefIdeal
public import proofs.«01_k».proof.Proof.Gen.DownBack
public import proofs.«01_k».proof.Proof.Gen.DownBackIdeal
public import proofs.«01_k».proof.Proof.Gen.DownBackRefIdeal
public import proofs.«01_k».proof.Proof.Gen.GateUp
public import proofs.«01_k».proof.Proof.Gen.GateUpIdeal
public import proofs.«01_k».proof.Proof.Gen.GateUpRefIdeal
public import proofs.«01_k».proof.Proof.Gen.Down
public import proofs.«01_k».proof.Proof.Gen.DownIdeal
public import proofs.«01_k».proof.Proof.Gen.DownRefIdeal
public import proofs.«01_k».proof.Proof.UpBackVal
public import proofs.«01_k».proof.Proof.UpWeightsVal
public import proofs.«01_k».proof.Proof.DownWeightVal
public import proofs.«01_k».proof.Proof.DownBackVal
public import proofs.«01_k».proof.Proof.GateUpVal
public import proofs.«01_k».proof.Proof.DownVal
public import proofs.«01_k».proof.Proof.PreFfn

@[expose] public section

set_option maxRecDepth 16384

noncomputable section

namespace Cert.Proof

open Idealize.ShloMosaic Idealize.ShloMosaic.TcCoe Idealize.SL.Sem Cert.Model

/-- The gradient of the layer's input and of the norm's gain: the reference runs and keeps its arguments. -/
theorem frame_UpBack : Cert.quiescent_UpBackRefIdeal := by
  intro m ρ _
  exact (θ_run Cert.UpBackRefIdeal.defs _ _).mono (fun r h => ⟨fun c => (h c).2.2, sem_eq_zero_of_no_sems (by decide) r.2⟩)
    (Cert.UpBackRefIdeal.Value.run (F := Ideal) m ρ)

/-- The gradient of the layer's input and of the norm's gain: kernel and reference compute the same. -/
theorem value_UpBack : Cert.algebraic_UpBackIdeal_UpBackRefIdeal := by
  intro m g m' g' h ha
  refine ⟨fun c => ((fun y => re2 (Cert.UpBackIdeal.Value.DH m c) (y 0).val (y 1).val + dnorm (Cert.UpBackIdeal.Value.dN m c) (re2 (Cert.UpBackIdeal.Value.H m c)) (re2 (Cert.UpBackIdeal.Value.G m c) 0) (y 0).val (y 1).val) : Vec Ideal Cert.UpBackIdeal.S8192x1024 .f32),
    fun c => ((fun y => if (y 0).val = 0 then ∑ r : Fin 8192, dgain (Cert.UpBackIdeal.Value.dN m c) (re2 (Cert.UpBackIdeal.Value.H m c)) r.val (y 1).val else 0) : Vec Ideal Cert.UpBackIdeal.S8x1024 .f32), ?_, ?_⟩
  · refine (θ_run Cert.UpBackIdeal.defs _ _).mono (fun r hr c => ?_) (Cert.UpBackIdeal.Value.run_blocks (F := Ideal) m g)
    obtain ⟨h0, h1, hk⟩ := hr c
    exact ⟨h0.trans (Cert.UpBackIdeal.Value.arr7 m c), h1.trans (Cert.UpBackIdeal.Value.arr8 m c), hk⟩
  · refine (θ_run Cert.UpBackRefIdeal.defs _ _).mono (fun r hr c => ?_) (Cert.UpBackRefIdeal.Value.run (F := Ideal) m' g')
    obtain ⟨h0, h1, hk⟩ := hr c
    obtain ⟨a0, a1, a2, a3, a4, a5, a6⟩ := ha c
    unfold Cert.UpBackRefIdeal.Value.res_main_v43 at h0
    simp only [a0, a1, a2, a3, a4, a5, a6] at h0 h1
    have hd := Cert.UpBackRefIdeal.Value.dnR_eq (m ((c.tc : Thread Cert.UpBackIdeal.nD Cert.UpBackIdeal.τ).loc Cert.UpBackIdeal.main_arg0)) (m ((c.tc : Thread Cert.UpBackIdeal.nD Cert.UpBackIdeal.τ).loc Cert.UpBackIdeal.main_arg1)) (m ((c.tc : Thread Cert.UpBackIdeal.nD Cert.UpBackIdeal.τ).loc Cert.UpBackIdeal.main_arg2)) (m ((c.tc : Thread Cert.UpBackIdeal.nD Cert.UpBackIdeal.τ).loc Cert.UpBackIdeal.main_arg3))
    exact ⟨h0.trans (funext fun y => Cert.UpBackRefIdeal.Value.ref1 (Cert.UpBackIdeal.Value.H m c) (Cert.UpBackIdeal.Value.G m c) (Cert.UpBackIdeal.Value.DH m c) _ (Cert.UpBackIdeal.Value.dN m c) hd y),
      h1.trans (funext fun y => Cert.UpBackRefIdeal.Value.ref2 (Cert.UpBackIdeal.Value.H m c) _ (Cert.UpBackIdeal.Value.dN m c) hd y), hk⟩

/-- The gradients of both up projections' weights: the reference runs and keeps its arguments. -/
theorem frame_UpWeights : Cert.quiescent_UpWeightsRefIdeal := by
  intro m ρ _
  exact (θ_run Cert.UpWeightsRefIdeal.defs _ _).mono (fun r h => ⟨fun c => (h c).2.2, sem_eq_zero_of_no_sems (by decide) r.2⟩)
    (Cert.UpWeightsRefIdeal.Value.run (F := Ideal) m ρ)

/-- The gradients of both up projections' weights: kernel and reference compute the same. -/
theorem value_UpWeights : Cert.algebraic_UpWeightsIdeal_UpWeightsRefIdeal := by
  intro m g m' g' h ha
  refine ⟨fun c => (Cert.UpWeightsIdeal.Value.dw m c (Cert.UpWeightsIdeal.Value.D1 m c) : Vec Ideal Cert.UpWeightsIdeal.S1024x2816 .bf16),
    fun c => (Cert.UpWeightsIdeal.Value.dw m c (Cert.UpWeightsIdeal.Value.D2 m c) : Vec Ideal Cert.UpWeightsIdeal.S1024x2816 .bf16), ?_, ?_⟩
  · refine (θ_run Cert.UpWeightsIdeal.defs _ _).mono (fun r hr c => ?_) (Cert.UpWeightsIdeal.Value.run_blocks (F := Ideal) m g)
    obtain ⟨h0, h1, hk⟩ := hr c
    exact ⟨h0.trans (Cert.UpWeightsIdeal.Value.arr3 m c), h1.trans (Cert.UpWeightsIdeal.Value.arr4 m c), hk⟩
  · refine (θ_run Cert.UpWeightsRefIdeal.defs _ _).mono (fun r hr c => ?_) (Cert.UpWeightsRefIdeal.Value.run (F := Ideal) m' g')
    obtain ⟨h0, h1, hk⟩ := hr c
    obtain ⟨a0, a1, a2⟩ := ha c
    simp only [a0, a1, a2] at h0 h1
    exact ⟨h0.trans (funext fun y => Cert.UpWeightsRefIdeal.Value.ref (m ((c.tc : Thread Cert.UpWeightsIdeal.nD Cert.UpWeightsIdeal.τ).loc Cert.UpWeightsIdeal.main_arg0)) (m ((c.tc : Thread Cert.UpWeightsIdeal.nD Cert.UpWeightsIdeal.τ).loc Cert.UpWeightsIdeal.main_arg1)) y),
      h1.trans (funext fun y => Cert.UpWeightsRefIdeal.Value.ref (m ((c.tc : Thread Cert.UpWeightsIdeal.nD Cert.UpWeightsIdeal.τ).loc Cert.UpWeightsIdeal.main_arg0)) (m ((c.tc : Thread Cert.UpWeightsIdeal.nD Cert.UpWeightsIdeal.τ).loc Cert.UpWeightsIdeal.main_arg2)) y), hk⟩

/-- The gradient of the down projection's weight: the reference runs and keeps its arguments. -/
theorem frame_DownWeight : Cert.quiescent_DownWeightRefIdeal := by
  intro m ρ _
  exact (θ_run Cert.DownWeightRefIdeal.defs _ _).mono (fun r h => ⟨fun c => (h c).2, sem_eq_zero_of_no_sems (by decide) r.2⟩)
    (Cert.DownWeightRefIdeal.Value.run (F := Ideal) m ρ)

/-- The gradient of the down projection's weight: kernel and reference compute the same. -/
theorem value_DownWeight : Cert.algebraic_DownWeightIdeal_DownWeightRefIdeal := by
  intro m g m' g' h ha
  refine ⟨fun c => (Cert.DownWeightIdeal.Value.dw m c : Vec Ideal Cert.DownWeightIdeal.S2816x1024 .bf16), ?_, ?_⟩
  · refine (θ_run Cert.DownWeightIdeal.defs _ _).mono (fun r hr c => ?_) (Cert.DownWeightIdeal.Value.run_blocks (F := Ideal) m g)
    obtain ⟨h0, hk⟩ := hr c
    exact ⟨h0.trans (Cert.DownWeightIdeal.Value.arr2 m c), hk⟩
  · refine (θ_run Cert.DownWeightRefIdeal.defs _ _).mono (fun r hr c => ?_) (Cert.DownWeightRefIdeal.Value.run (F := Ideal) m' g')
    obtain ⟨h0, hk⟩ := hr c
    obtain ⟨a0, a1⟩ := ha c
    simp only [a0, a1] at h0
    exact ⟨h0.trans (funext fun y => Cert.DownWeightRefIdeal.Value.ref (m ((c.tc : Thread Cert.DownWeightIdeal.nD Cert.DownWeightIdeal.τ).loc Cert.DownWeightIdeal.main_arg0)) (m ((c.tc : Thread Cert.DownWeightIdeal.nD Cert.DownWeightIdeal.τ).loc Cert.DownWeightIdeal.main_arg1)) y), hk⟩

/-- The gradients through the down projection and the activation: the reference runs and keeps its arguments. -/
theorem frame_DownBack : Cert.quiescent_DownBackRefIdeal := by
  intro m ρ _
  exact (θ_run Cert.DownBackRefIdeal.defs _ _).mono (fun r h => ⟨fun c => (h c).2.2, sem_eq_zero_of_no_sems (by decide) r.2⟩)
    (Cert.DownBackRefIdeal.Value.run (F := Ideal) m ρ)

/-- The gradients through the down projection and the activation: kernel and reference compute the same. -/
theorem value_DownBack : Cert.algebraic_DownBackIdeal_DownBackRefIdeal_pre_finite_back := by
  intro m g m' g' h ha
  refine ⟨fun c => ((fun y => Cert.DownBackIdeal.Value.dg m c (y 0).val (y 1).val) : Vec Ideal Cert.DownBackIdeal.S8192x2816 .bf16),
    fun c => ((fun y => Cert.DownBackIdeal.Value.du m c (y 0).val (y 1).val) : Vec Ideal Cert.DownBackIdeal.S8192x2816 .bf16), ?_, ?_⟩
  · refine (θ_run Cert.DownBackIdeal.defs _ _).mono (fun r hr c => ?_) (Cert.DownBackIdeal.Value.run_blocks (F := Ideal) m g)
    obtain ⟨h0, h1, hk⟩ := hr c
    exact ⟨h0.trans (Cert.DownBackIdeal.Value.arr4 m c), h1.trans (Cert.DownBackIdeal.Value.arr5 m c), hk⟩
  · refine (θ_run Cert.DownBackRefIdeal.defs _ _).mono (fun r hr c => ?_) (Cert.DownBackRefIdeal.Value.run (F := Ideal) m' g')
    obtain ⟨h0, h1, hk⟩ := hr c
    obtain ⟨a0, a1, a2, a3⟩ := ha c
    simp only [a0, a1, a2, a3] at h0 h1
    have r1 := Cert.Pre_finite_back.real1 (m ((c.tc : Thread Cert.DownBackIdeal.nD Cert.DownBackIdeal.τ).loc Cert.DownBackIdeal.main_arg0)) (m ((c.tc : Thread Cert.DownBackIdeal.nD Cert.DownBackIdeal.τ).loc Cert.DownBackIdeal.main_arg1)) (m ((c.tc : Thread Cert.DownBackIdeal.nD Cert.DownBackIdeal.τ).loc Cert.DownBackIdeal.main_arg2)) (m ((c.tc : Thread Cert.DownBackIdeal.nD Cert.DownBackIdeal.τ).loc Cert.DownBackIdeal.main_arg3)) (h c).1
    have ht : ∀ y, Cert.DownBackRefIdeal.Value.proj (m ((c.tc : Thread Cert.DownBackIdeal.nD Cert.DownBackIdeal.τ).loc Cert.DownBackIdeal.main_arg3)) (m ((c.tc : Thread Cert.DownBackIdeal.nD Cert.DownBackIdeal.τ).loc Cert.DownBackIdeal.main_arg2)) y = (EReal.toReal (Cert.DownBackRefIdeal.Value.proj (m ((c.tc : Thread Cert.DownBackIdeal.nD Cert.DownBackIdeal.τ).loc Cert.DownBackIdeal.main_arg3)) (m ((c.tc : Thread Cert.DownBackIdeal.nD Cert.DownBackIdeal.τ).loc Cert.DownBackIdeal.main_arg2)) y) : EReal) := fun y => by
      rw [Cert.DownBackRefIdeal.Value.proj_eq]
      exact real_sum _ _ (fun k => re2_real _ (Cert.Pre_finite_back.real3 (m ((c.tc : Thread Cert.DownBackIdeal.nD Cert.DownBackIdeal.τ).loc Cert.DownBackIdeal.main_arg0)) (m ((c.tc : Thread Cert.DownBackIdeal.nD Cert.DownBackIdeal.τ).loc Cert.DownBackIdeal.main_arg1)) (m ((c.tc : Thread Cert.DownBackIdeal.nD Cert.DownBackIdeal.τ).loc Cert.DownBackIdeal.main_arg2)) (m ((c.tc : Thread Cert.DownBackIdeal.nD Cert.DownBackIdeal.τ).loc Cert.DownBackIdeal.main_arg3)) (h c).2.2) _ _)
        (fun k => re2_real _ (Cert.Pre_finite_back.real2 (m ((c.tc : Thread Cert.DownBackIdeal.nD Cert.DownBackIdeal.τ).loc Cert.DownBackIdeal.main_arg0)) (m ((c.tc : Thread Cert.DownBackIdeal.nD Cert.DownBackIdeal.τ).loc Cert.DownBackIdeal.main_arg1)) (m ((c.tc : Thread Cert.DownBackIdeal.nD Cert.DownBackIdeal.τ).loc Cert.DownBackIdeal.main_arg2)) (m ((c.tc : Thread Cert.DownBackIdeal.nD Cert.DownBackIdeal.τ).loc Cert.DownBackIdeal.main_arg3)) (h c).2.1) _ _)
    exact ⟨h0.trans (funext fun y => (Cert.DownBackRefIdeal.Value.ref1 (m ((c.tc : Thread Cert.DownBackIdeal.nD Cert.DownBackIdeal.τ).loc Cert.DownBackIdeal.main_arg0)) (m ((c.tc : Thread Cert.DownBackIdeal.nD Cert.DownBackIdeal.τ).loc Cert.DownBackIdeal.main_arg1)) (Cert.DownBackRefIdeal.Value.proj (m ((c.tc : Thread Cert.DownBackIdeal.nD Cert.DownBackIdeal.τ).loc Cert.DownBackIdeal.main_arg3)) (m ((c.tc : Thread Cert.DownBackIdeal.nD Cert.DownBackIdeal.τ).loc Cert.DownBackIdeal.main_arg2))) y (r1 y) (ht y)).trans (by rw [Cert.DownBackRefIdeal.Value.proj_eq, ← re2_eq (m ((c.tc : Thread Cert.DownBackIdeal.nD Cert.DownBackIdeal.τ).loc Cert.DownBackIdeal.main_arg0)) y, ← re2_eq (m ((c.tc : Thread Cert.DownBackIdeal.nD Cert.DownBackIdeal.τ).loc Cert.DownBackIdeal.main_arg1)) y]; rfl)),
      h1.trans (funext fun y => (Cert.DownBackRefIdeal.Value.ref2 (m ((c.tc : Thread Cert.DownBackIdeal.nD Cert.DownBackIdeal.τ).loc Cert.DownBackIdeal.main_arg0)) (Cert.DownBackRefIdeal.Value.proj (m ((c.tc : Thread Cert.DownBackIdeal.nD Cert.DownBackIdeal.τ).loc Cert.DownBackIdeal.main_arg3)) (m ((c.tc : Thread Cert.DownBackIdeal.nD Cert.DownBackIdeal.τ).loc Cert.DownBackIdeal.main_arg2))) y).trans (by rw [Cert.DownBackRefIdeal.Value.proj_eq, ← re2_eq (m ((c.tc : Thread Cert.DownBackIdeal.nD Cert.DownBackIdeal.τ).loc Cert.DownBackIdeal.main_arg0)) y]; rfl)), hk⟩

/-- The up projections, the activation and its derivative: the reference runs and keeps its arguments. -/
theorem frame_GateUp : Cert.quiescent_GateUpRefIdeal := by
  intro m ρ _
  exact (θ_run Cert.GateUpRefIdeal.defs _ _).mono (fun r h => ⟨fun c => (h c).2.2.2, sem_eq_zero_of_no_sems (by decide) r.2⟩)
    (Cert.GateUpRefIdeal.Value.run (F := Ideal) m ρ)

/-- The up projections, the activation and its derivative: kernel and reference compute the same. -/
theorem value_GateUp : Cert.algebraic_GateUpIdeal_GateUpRefIdeal_pre_finite_up := by
  intro m g m' g' h ha
  refine ⟨fun c => ((fun y => Cert.GateUpIdeal.Value.dgate m c (y 0).val (y 1).val) : Vec Ideal Cert.GateUpIdeal.S8192x2816 .bf16),
    fun c => ((fun y => Cert.GateUpIdeal.Value.act m c (y 0).val (y 1).val) : Vec Ideal Cert.GateUpIdeal.S8192x2816 .bf16),
    fun c => ((fun y => Cert.GateUpIdeal.Value.act m c (y 0).val (y 1).val * Cert.GateUpIdeal.Value.u m c (y 0).val (y 1).val) : Vec Ideal Cert.GateUpIdeal.S8192x2816 .bf16), ?_, ?_⟩
  · refine (θ_run Cert.GateUpIdeal.defs _ _).mono (fun r hr c => ?_) (Cert.GateUpIdeal.Value.run_blocks (F := Ideal) m g)
    obtain ⟨h0, h1, h2, hk⟩ := hr c
    exact ⟨h0.trans (Cert.GateUpIdeal.Value.arr3 m c), h1.trans (Cert.GateUpIdeal.Value.arr4 m c), h2.trans (Cert.GateUpIdeal.Value.arr5 m c), hk⟩
  · refine (θ_run Cert.GateUpRefIdeal.defs _ _).mono (fun r hr c => ?_) (Cert.GateUpRefIdeal.Value.run (F := Ideal) m' g')
    obtain ⟨h0, h1, h2, hk⟩ := hr c
    obtain ⟨a0, a1, a2⟩ := ha c
    simp only [a0, a1, a2] at h0 h1 h2
    have hu : ∀ y, Cert.GateUpRefIdeal.Value.proj (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg2)) y = (EReal.toReal (Cert.GateUpRefIdeal.Value.proj (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg2)) y) : EReal) := fun y => by
      rw [Cert.GateUpRefIdeal.Value.proj_eq]
      exact real_sum _ _ (fun k => re2_real _ (Cert.Pre_finite_up.real0 (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (h c).1) _ _)
        (fun k => re2_real _ (Cert.Pre_finite_up.real2 (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (h c).2) _ _)
    exact ⟨h0.trans (funext fun y => (Cert.GateUpRefIdeal.Value.ref1 (Cert.GateUpRefIdeal.Value.proj (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1))) (Cert.GateUpRefIdeal.Value.proj (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg2))) y (hu y)).trans (by rw [Cert.GateUpRefIdeal.Value.proj_eq, Cert.GateUpRefIdeal.Value.proj_eq]; rfl)),
      h1.trans (funext fun y => (Cert.GateUpRefIdeal.Value.ref2 (Cert.GateUpRefIdeal.Value.proj (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1))) y).trans (by rw [Cert.GateUpRefIdeal.Value.proj_eq]; rfl)),
      h2.trans (funext fun y => (Cert.GateUpRefIdeal.Value.ref3 (Cert.GateUpRefIdeal.Value.proj (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1))) (Cert.GateUpRefIdeal.Value.proj (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg2))) y).trans (by rw [Cert.GateUpRefIdeal.Value.proj_eq, Cert.GateUpRefIdeal.Value.proj_eq]; rfl)), hk⟩

/-- The down projection, the residual and the next layer's norm: the reference runs and keeps its arguments. -/
theorem frame_Down : Cert.quiescent_DownRefIdeal := by
  intro m ρ _
  exact (θ_run Cert.DownRefIdeal.defs _ _).mono (fun r h => ⟨fun c => (h c).2.2, sem_eq_zero_of_no_sems (by decide) r.2⟩)
    (Cert.DownRefIdeal.Value.run (F := Ideal) m ρ)

/-- The down projection, the residual and the next layer's norm: kernel and reference compute the same. -/
theorem value_Down : Cert.algebraic_DownIdeal_DownRefIdeal := by
  intro m g m' g' h ha
  refine ⟨fun c => ((fun y => ho (re2 (Cert.DownIdeal.Value.A m c)) (re2 (Cert.DownIdeal.Value.W m c)) (re2 (Cert.DownIdeal.Value.H m c)) (y 0).val (y 1).val) : Vec Ideal Cert.DownIdeal.S8192x1024 .f32),
    fun c => ((fun y => no (ho (re2 (Cert.DownIdeal.Value.A m c)) (re2 (Cert.DownIdeal.Value.W m c)) (re2 (Cert.DownIdeal.Value.H m c))) (re2 (Cert.DownIdeal.Value.G m c) 0) (y 0).val (y 1).val) : Vec Ideal Cert.DownIdeal.S8192x1024 .bf16), ?_, ?_⟩
  · refine (θ_run Cert.DownIdeal.defs _ _).mono (fun r hr c => ?_) (Cert.DownIdeal.Value.run_blocks (F := Ideal) m g)
    obtain ⟨h0, h1, hk⟩ := hr c
    exact ⟨h0.trans (Cert.DownIdeal.Value.arr4 m c), h1.trans (Cert.DownIdeal.Value.arr5 m c), hk⟩
  · refine (θ_run Cert.DownRefIdeal.defs _ _).mono (fun r hr c => ?_) (Cert.DownRefIdeal.Value.run (F := Ideal) m' g')
    obtain ⟨h0, h1, hk⟩ := hr c
    obtain ⟨a0, a1, a2, a3⟩ := ha c
    simp only [a0, a1, a2, a3] at h0 h1
    exact ⟨h0.trans (funext fun y => Cert.DownRefIdeal.Value.ref1 (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) y),
      h1.trans (funext fun y => Cert.DownRefIdeal.Value.ref2 _ _ (Cert.DownRefIdeal.Value.ref1 (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2))) (m ((c.tc : Thread Cert.DownIdeal.nD Cert.DownIdeal.τ).loc Cert.DownIdeal.main_arg3)) y), hk⟩

end Cert.Proof

end
-- ==== Proof.OdInBackVal.lean ====
module

public import proofs.«01_k».proof.Proof.Gen.OdInBackIdeal.Frame
public import proofs.«01_k».proof.Proof.Gen.OdInBackIdeal.Value
public import proofs.«01_k».proof.Proof.Gen.OdInBackRefIdeal.Run
public import proofs.«01_k».proof.Proof.UpBackVal

@[expose] public section

/-! # The gradient of the odd layer's input through the mixers' input projection, the norm and the residual -/

set_option maxRecDepth 16384
noncomputable section
open Idealize.ShloMosaic Idealize.ShloMosaic.TcCoe Idealize.SL.Sem

namespace Cert.OdInBackIdeal.Value
open Idealize.ShloMosaic.Pipeline (Dat)
open Cert.OdInBackIdeal Cert.OdInBackIdeal.Gen Cert.Model

variable (m : (ℓ : Loc nD τ sig) → Buf (Elt Ideal) ℓ) (c : Dev nD)

/-- The gradient of the projection's result. -/
abbrev A : Vec Ideal S8192x2560 .bf16 := m ((c : Thread nD τ).loc main_arg0)
/-- The projection's weights. -/
abbrev W : Vec Ideal S1024x2560 .bf16 := m ((c : Thread nD τ).loc main_arg1)
/-- The layer's input. -/
abbrev H : Vec Ideal S8192x1024 .f32 := m ((c : Thread nD τ).loc main_arg2)
/-- The norm's gain. -/
abbrev G : Vec Ideal S1x1024 .f32 := m ((c : Thread nD τ).loc main_arg3)
/-- The gradient that arrives beside the mixers. -/
abbrev DH : Vec Ideal S8192x1024 .f32 := m ((c : Thread nD τ).loc main_arg4)

/-- Where each window's block lies. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- The projection's gradient, block by block. -/
theorem hb0 (t : Fin cfg0.N) (y : S512x2560.Idx) : (iblk m c 0 t : Vec Ideal S512x2560 .bf16) y = re2 (A m c) (512 * t.val + (y 0).val) (y 1).val := by
  blk_simp [iblk, V, idx t]
  refine eq_re2 (A m c) _ _ _ ?_ ?_ <;> blk_simp [idx t] <;> omega
/-- The weights, whole at every step. -/
theorem hb1 (t : Fin cfg0.N) (y : S1024x2560.Idx) : (iblk m c 1 t : Vec Ideal S1024x2560 .bf16) y = re2 (W m c) (y 0).val (y 1).val := by
  blk_simp [iblk, V, idx t]
  refine eq_re2 (W m c) _ _ _ ?_ ?_ <;> blk_simp [idx t]
/-- The norm's input, block by block. -/
theorem hb2 (t : Fin cfg0.N) (y : S512x1024.Idx) : (iblk m c 2 t : Vec Ideal S512x1024 .f32) y = re2 (H m c) (512 * t.val + (y 0).val) (y 1).val := by
  blk_simp [iblk, V, idx t]
  refine eq_re2 (H m c) _ _ _ ?_ ?_ <;> blk_simp [idx t] <;> omega
/-- The gain, whole at every step. -/
theorem hb3 (t : Fin cfg0.N) (y : S1x1024.Idx) : (iblk m c 3 t : Vec Ideal S1x1024 .f32) y = re2 (G m c) (y 0).val (y 1).val := by
  blk_simp [iblk, V, idx t]
  refine eq_re2 (G m c) _ _ _ ?_ ?_ <;> blk_simp [idx t]
/-- The residual's gradient, block by block. -/
theorem hb4 (t : Fin cfg0.N) (y : S512x1024.Idx) : (iblk m c 4 t : Vec Ideal S512x1024 .f32) y = re2 (DH m c) (512 * t.val + (y 0).val) (y 1).val := by
  blk_simp [iblk, V, idx t]
  refine eq_re2 (DH m c) _ _ _ ?_ ?_ <;> blk_simp [idx t] <;> omega

/-- The gradient of the normalised rows. -/
abbrev dN : ℕ → ℕ → EReal := rowsRows 2560 (re2 (A m c)) (re2 (W m c))
/-- The gradient of the layer's input. -/
abbrev dX (r j : ℕ) : EReal := re2 (DH m c) r j + dnorm (dN m c) (re2 (H m c)) (re2 (G m c) 0) r j

/-- A block of the gradient of the normalised rows. -/
theorem pay3 (t : Fin cfg0.N) (y : S512x1024.Idx) : k0_pay3 (F := Ideal) (iblk m c 0 t) (iblk m c 1 t) y = dN m c (512 * t.val + (y 0).val) (y 1).val := by
  pointwise [k0_pay3, hb0, hb1]
  rfl
/-- A block's reciprocal roots of the mean squares. -/
theorem pay4 (t : Fin cfg0.N) (y : S512x1.Idx) : k0_pay4 (F := Ideal) (iblk m c 2 t) y = rsq (re2 (H m c)) (512 * t.val + (y 0).val) := by
  pointwise [k0_pay4, hb2]
  rfl
/-- A block's terms of the gain's gradient. -/
theorem pay5 (t : Fin cfg0.N) (y : S512x1024.Idx) : k0_pay5 (F := Ideal) (iblk m c 0 t) (iblk m c 1 t) (iblk m c 2 t) y
    = dgain (dN m c) (re2 (H m c)) (512 * t.val + (y 0).val) (y 1).val := by
  pointwise [k0_pay5, pay3, pay4, hb2]
  rfl
/-- A block of the input's gradient. -/
theorem pay6 (t : Fin cfg0.N) (y : S512x1024.Idx) : k0_pay6 (F := Ideal) (iblk m c 0 t) (iblk m c 1 t) (iblk m c 2 t) (iblk m c 3 t) (iblk m c 4 t) y
    = dX m c (512 * t.val + (y 0).val) (y 1).val := by
  pointwise [k0_pay6, pay3, pay4, hb2, hb3, hb4]
  rfl
/-- What a point adds to the gain's gradient. -/
def term (n j : ℕ) : EReal := ∑ k : Fin 512, dgain (dN m c) (re2 (H m c)) (512 * n + k.val) j
/-- A block's column sums added to what was there. -/
theorem pay1 (t : Fin cfg0.N) (P : Vec Ideal S1x1024 .f32) (y : S1x1024.Idx) :
    k0_pay1 (F := Ideal) (k0_pay5 (iblk m c 0 t) (iblk m c 1 t) (iblk m c 2 t)) P y = P y + term m c t.val (y 1).val := by
  pointwise [k0_pay1, pay5]
  rfl

/-- The input's gradient at a point. -/
theorem dh_eq (t : Fin cfg0.N) (y) : (outsAt0 m c t.val t.isLt).1 y = dX m c (512 * t.val + (y 0).val) (y 1).val := by
  by_cases h : t.val % 16 = 0
  · rw [outsAt0_A m c t h]; frame_out
    exact pay6 m c t y
  · rw [outsAt0_B m c t h]; frame_out
    exact pay6 m c t y

/-- The gain's gradient, at a later point. -/
theorem dg_B (t : Fin cfg0.N) (h : ¬ t.val % 16 = 0) (hp : t.val - 1 < cfg0.N) (y) : (outsAt0 m c t.val t.isLt).2 y
    = (outsAt0 m c (t.val - 1) hp).2 y + if (y 0).val = 0 then term m c t.val (y 1).val else 0 := by
  rw [outsAt0_B m c t h]; frame_out
  refine UpBackIdeal.Value.row_out _ _ _ [] ?_ _ _ (fun x => pay1 m c t _ x) y
  exact Memref.IsWhole.read_unread _ _

/-- The gain's gradient, at the first point. -/
theorem dg_A (t : Fin cfg0.N) (h : t.val % 16 = 0) (y) : (outsAt0 m c t.val t.isLt).2 y
    = 0 + if (y 0).val = 0 then term m c t.val (y 1).val else 0 := by
  rw [outsAt0_A m c t h]; frame_out
  simp (disch := decide) only [↓View.readCov_fill]
  rw [← View.read_writes_junk_apply_eq_canon (ms0_6 t).view y]
  refine (UpBackIdeal.Value.row_out _ _ (k0_pay2 (F := Ideal)) [_] ?_ _ _ (fun x => pay1 m c t _ x) y).trans (congrArg (· + _) ?_)
  · exact View.read_writes_full _ _ _ _ _
  · pointwise [k0_pay2]

/-- The input's gradient. -/
theorem arr5 : (dats m 0 c).arrAt 5 cfg0.N = ((fun y => dX m c (y 0).val (y 1).val) : Vec Ideal S8192x1024 .f32) := by
  refine (dats m 0 c).arrAt_eq_of_covers 5 _ (by decide +kernel) fun t _ y => ?_
  blk_simp
  rw [after0_5]
  refine (dh_eq m c t _).trans ?_
  blk_simp [idx t]
  rw [Nat.mul_comm 512]

/-- The gain's gradient, in the first of eight rows. -/
theorem arr6 : (dats m 0 c).arrAt 6 cfg0.N = ((fun y => if (y 0).val = 0 then ∑ r : Fin 8192, dgain (dN m c) (re2 (H m c)) r.val (y 1).val else 0) : Vec Ideal S8x1024 .f32) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0) _
    (fun t h j => by rw [dg_A m c t h j])
    (fun t h j => by rw [dg_B m c t h (by have := t.isLt; omega) j])
    (le_of_eq N_0) t0_15 rfl j]
  exact (zero_add (_ : EReal)).trans (sum_steps 16 512 rfl (dN m c) (re2 (H m c)) _ _)

end Cert.OdInBackIdeal.Value

namespace Cert.OdInBackRefIdeal.Value
open Cert.OdInBackRefIdeal Cert.OdInBackRefIdeal.Gen Cert.Model

/-- The reference's gradient of the normalised rows. -/
theorem dn_eq (a0 : Vec Ideal S8192x2560 .bf16) (a1 : Vec Ideal S1024x2560 .bf16) (y : S8192x1024.Idx) :
    (Host.dotGeneral (F := Ideal) (φ₁ := .f32) (φ₂ := .f32) dot_S8192x2560_S1024x2560_S8192x1024_1_1_0_0_n_n none (extf (F := Ideal) .f32 a0 bitsLt_bf16_f32) (extf (F := Ideal) .f32 a1 bitsLt_bf16_f32) : Vec Ideal S8192x1024 .f32) y
      = rowsRows 2560 (re2 a0) (re2 a1) (y 0).val (y 1).val := by
  pointwise []
  exact Finset.sum_congr rfl fun r _ => congrArg₂ (· * ·) (eq_re2 a0 _ _ _ rfl rfl) (eq_re2 a1 _ _ _ rfl rfl)

end Cert.OdInBackRefIdeal.Value
end
-- ==== Proof.EvInBackVal.lean ====
module

public import proofs.«01_k».proof.Proof.Gen.EvInBackIdeal.Frame
public import proofs.«01_k».proof.Proof.Gen.EvInBackIdeal.Value
public import proofs.«01_k».proof.Proof.Gen.EvInBackRefIdeal.Run
public import proofs.«01_k».proof.Proof.UpBackVal

@[expose] public section

/-! # The gradient of the even layer's input through the mixers' input projection, the norm and the residual -/

set_option maxRecDepth 16384
noncomputable section
open Idealize.ShloMosaic Idealize.ShloMosaic.TcCoe Idealize.SL.Sem

namespace Cert.EvInBackIdeal.Value
open Idealize.ShloMosaic.Pipeline (Dat)
open Cert.EvInBackIdeal Cert.EvInBackIdeal.Gen Cert.Model

variable (m : (ℓ : Loc nD τ sig) → Buf (Elt Ideal) ℓ) (c : Dev nD)

/-- The gradient of the projection's result. -/
abbrev A : Vec Ideal S8192x1792 .bf16 := m ((c : Thread nD τ).loc main_arg0)
/-- The projection's weights. -/
abbrev W : Vec Ideal S1024x1792 .bf16 := m ((c : Thread nD τ).loc main_arg1)
/-- The layer's input. -/
abbrev H : Vec Ideal S8192x1024 .f32 := m ((c : Thread nD τ).loc main_arg2)
/-- The norm's gain. -/
abbrev G : Vec Ideal S1x1024 .f32 := m ((c : Thread nD τ).loc main_arg3)
/-- The gradient that arrives beside the mixers. -/
abbrev DH : Vec Ideal S8192x1024 .f32 := m ((c : Thread nD τ).loc main_arg4)

/-- Where each window's block lies. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- The projection's gradient, block by block. -/
theorem hb0 (t : Fin cfg0.N) (y : S512x1792.Idx) : (iblk m c 0 t : Vec Ideal S512x1792 .bf16) y = re2 (A m c) (512 * t.val + (y 0).val) (y 1).val := by
  blk_simp [iblk, V, idx t]
  refine eq_re2 (A m c) _ _ _ ?_ ?_ <;> blk_simp [idx t] <;> omega
/-- The weights, whole at every step. -/
theorem hb1 (t : Fin cfg0.N) (y : S1024x1792.Idx) : (iblk m c 1 t : Vec Ideal S1024x1792 .bf16) y = re2 (W m c) (y 0).val (y 1).val := by
  blk_simp [iblk, V, idx t]
  refine eq_re2 (W m c) _ _ _ ?_ ?_ <;> blk_simp [idx t]
/-- The norm's input, block by block. -/
theorem hb2 (t : Fin cfg0.N) (y : S512x1024.Idx) : (iblk m c 2 t : Vec Ideal S512x1024 .f32) y = re2 (H m c) (512 * t.val + (y 0).val) (y 1).val := by
  blk_simp [iblk, V, idx t]
  refine eq_re2 (H m c) _ _ _ ?_ ?_ <;> blk_simp [idx t] <;> omega
/-- The gain, whole at every step. -/
theorem hb3 (t : Fin cfg0.N) (y : S1x1024.Idx) : (iblk m c 3 t : Vec Ideal S1x1024 .f32) y = re2 (G m c) (y 0).val (y 1).val := by
  blk_simp [iblk, V, idx t]
  refine eq_re2 (G m c) _ _ _ ?_ ?_ <;> blk_simp [idx t]
/-- The residual's gradient, block by block. -/
theorem hb4 (t : Fin cfg0.N) (y : S512x1024.Idx) : (iblk m c 4 t : Vec Ideal S512x1024 .f32) y = re2 (DH m c) (512 * t.val + (y 0).val) (y 1).val := by
  blk_simp [iblk, V, idx t]
  refine eq_re2 (DH m c) _ _ _ ?_ ?_ <;> blk_simp [idx t] <;> omega

/-- The gradient of the normalised rows. -/
abbrev dN : ℕ → ℕ → EReal := rowsRows 1792 (re2 (A m c)) (re2 (W m c))
/-- The gradient of the layer's input. -/
abbrev dX (r j : ℕ) : EReal := re2 (DH m c) r j + dnorm (dN m c) (re2 (H m c)) (re2 (G m c) 0) r j

/-- A block of the gradient of the normalised rows. -/
theorem pay3 (t : Fin cfg0.N) (y : S512x1024.Idx) : k0_pay3 (F := Ideal) (iblk m c 0 t) (iblk m c 1 t) y = dN m c (512 * t.val + (y 0).val) (y 1).val := by
  pointwise [k0_pay3, hb0, hb1]
  rfl
/-- A block's reciprocal roots of the mean squares. -/
theorem pay4 (t : Fin cfg0.N) (y : S512x1.Idx) : k0_pay4 (F := Ideal) (iblk m c 2 t) y = rsq (re2 (H m c)) (512 * t.val + (y 0).val) := by
  pointwise [k0_pay4, hb2]
  rfl
/-- A block's terms of the gain's gradient. -/
theorem pay5 (t : Fin cfg0.N) (y : S512x1024.Idx) : k0_pay5 (F := Ideal) (iblk m c 0 t) (iblk m c 1 t) (iblk m c 2 t) y
    = dgain (dN m c) (re2 (H m c)) (512 * t.val + (y 0).val) (y 1).val := by
  pointwise [k0_pay5, pay3, pay4, hb2]
  rfl
/-- A block of the input's gradient. -/
theorem pay6 (t : Fin cfg0.N) (y : S512x1024.Idx) : k0_pay6 (F := Ideal) (iblk m c 0 t) (iblk m c 1 t) (iblk m c 2 t) (iblk m c 3 t) (iblk m c 4 t) y
    = dX m c (512 * t.val + (y 0).val) (y 1).val := by
  pointwise [k0_pay6, pay3, pay4, hb2, hb3, hb4]
  rfl
/-- What a point adds to the gain's gradient. -/
def term (n j : ℕ) : EReal := ∑ k : Fin 512, dgain (dN m c) (re2 (H m c)) (512 * n + k.val) j
/-- A block's column sums added to what was there. -/
theorem pay1 (t : Fin cfg0.N) (P : Vec Ideal S1x1024 .f32) (y : S1x1024.Idx) :
    k0_pay1 (F := Ideal) (k0_pay5 (iblk m c 0 t) (iblk m c 1 t) (iblk m c 2 t)) P y = P y + term m c t.val (y 1).val := by
  pointwise [k0_pay1, pay5]
  rfl

/-- The input's gradient at a point. -/
theorem dh_eq (t : Fin cfg0.N) (y) : (outsAt0 m c t.val t.isLt).1 y = dX m c (512 * t.val + (y 0).val) (y 1).val := by
  by_cases h : t.val % 16 = 0
  · rw [outsAt0_A m c t h]; frame_out
    exact pay6 m c t y
  · rw [outsAt0_B m c t h]; frame_out
    exact pay6 m c t y

/-- The gain's gradient, at a later point. -/
theorem dg_B (t : Fin cfg0.N) (h : ¬ t.val % 16 = 0) (hp : t.val - 1 < cfg0.N) (y) : (outsAt0 m c t.val t.isLt).2 y
    = (outsAt0 m c (t.val - 1) hp).2 y + if (y 0).val = 0 then term m c t.val (y 1).val else 0 := by
  rw [outsAt0_B m c t h]; frame_out
  refine UpBackIdeal.Value.row_out _ _ _ [] ?_ _ _ (fun x => pay1 m c t _ x) y
  exact Memref.IsWhole.read_unread _ _

/-- The gain's gradient, at the first point. -/
theorem dg_A (t : Fin cfg0.N) (h : t.val % 16 = 0) (y) : (outsAt0 m c t.val t.isLt).2 y
    = 0 + if (y 0).val = 0 then term m c t.val (y 1).val else 0 := by
  rw [outsAt0_A m c t h]; frame_out
  simp (disch := decide) only [↓View.readCov_fill]
  rw [← View.read_writes_junk_apply_eq_canon (ms0_6 t).view y]
  refine (UpBackIdeal.Value.row_out _ _ (k0_pay2 (F := Ideal)) [_] ?_ _ _ (fun x => pay1 m c t _ x) y).trans (congrArg (· + _) ?_)
  · exact View.read_writes_full _ _ _ _ _
  · pointwise [k0_pay2]

/-- The input's gradient. -/
theorem arr5 : (dats m 0 c).arrAt 5 cfg0.N = ((fun y => dX m c (y 0).val (y 1).val) : Vec Ideal S8192x1024 .f32) := by
  refine (dats m 0 c).arrAt_eq_of_covers 5 _ (by decide +kernel) fun t _ y => ?_
  blk_simp
  rw [after0_5]
  refine (dh_eq m c t _).trans ?_
  blk_simp [idx t]
  rw [Nat.mul_comm 512]

/-- The gain's gradient, in the first of eight rows. -/
theorem arr6 : (dats m 0 c).arrAt 6 cfg0.N = ((fun y => if (y 0).val = 0 then ∑ r : Fin 8192, dgain (dN m c) (re2 (H m c)) r.val (y 1).val else 0) : Vec Ideal S8x1024 .f32) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0) _
    (fun t h j => by rw [dg_A m c t h j])
    (fun t h j => by rw [dg_B m c t h (by have := t.isLt; omega) j])
    (le_of_eq N_0) t0_15 rfl j]
  exact (zero_add (_ : EReal)).trans (sum_steps 16 512 rfl (dN m c) (re2 (H m c)) _ _)

end Cert.EvInBackIdeal.Value

namespace Cert.EvInBackRefIdeal.Value
open Cert.EvInBackRefIdeal Cert.EvInBackRefIdeal.Gen Cert.Model

/-- The reference's gradient of the normalised rows. -/
theorem dn_eq (a0 : Vec Ideal S8192x1792 .bf16) (a1 : Vec Ideal S1024x1792 .bf16) (y : S8192x1024.Idx) :
    (Host.dotGeneral (F := Ideal) (φ₁ := .f32) (φ₂ := .f32) dot_S8192x1792_S1024x1792_S8192x1024_1_1_0_0_n_n none (extf (F := Ideal) .f32 a0 bitsLt_bf16_f32) (extf (F := Ideal) .f32 a1 bitsLt_bf16_f32) : Vec Ideal S8192x1024 .f32) y
      = rowsRows 1792 (re2 a0) (re2 a1) (y 0).val (y 1).val := by
  pointwise []
  exact Finset.sum_congr rfl fun r _ => congrArg₂ (· * ·) (eq_re2 a0 _ _ _ rfl rfl) (eq_re2 a1 _ _ _ rfl rfl)

end Cert.EvInBackRefIdeal.Value
end
-- ==== Proof.OdInWeightVal.lean ====
module

public import proofs.«01_k».proof.Proof.Gen.OdInWeightIdeal.Frame
public import proofs.«01_k».proof.Proof.Gen.OdInWeightIdeal.Value
public import proofs.«01_k».proof.Proof.Gen.OdInWeightRefIdeal.Run
public import proofs.«01_k».proof.Proof.Arrays
public import Idealize.ShloMosaic.Lib.Pipeline.ValueKit
public import Idealize.ShloMosaic.Lib.Pipeline.ReadBack

@[expose] public section

/-! # The gradient of the odd layer's input projection: a product of two long matrices, summed in four steps -/

set_option maxRecDepth 16384
noncomputable section
open Idealize.ShloMosaic Idealize.ShloMosaic.TcCoe Idealize.SL.Sem

namespace Cert.OdInWeightIdeal.Value
open Idealize.ShloMosaic.Pipeline (Dat)
open Cert.OdInWeightIdeal Cert.OdInWeightIdeal.Gen Cert.Model

variable (m : (ℓ : Loc nD τ sig) → Buf (Elt Ideal) ℓ) (c : Dev nD)

/-- What the projection read. -/
abbrev A : Vec Ideal S8192x1024 .bf16 := m ((c : Thread nD τ).loc main_arg0)
/-- The gradient of what it made. -/
abbrev D : Vec Ideal S8192x2560 .bf16 := m ((c : Thread nD τ).loc main_arg1)

/-- Where each window's block lies. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The rows a point reads. -/
theorem hb0 (t : Fin cfg0.N) (y : S2048x1024.Idx) : (iblk m c 0 t : Vec Ideal S2048x1024 .bf16) y
    = re2 (A m c) (2048 * (t.val % 4) + (y 0).val) (y 1).val := by
  blk_simp [iblk, V, idx t]
  refine eq_re2 (A m c) _ _ _ ?_ ?_ <;> blk_simp [idx t] <;> omega
/-- The rows of the gradient a point reads. -/
theorem hb1 (t : Fin cfg0.N) (y : S2048x1280.Idx) : (iblk m c 1 t : Vec Ideal S2048x1280 .bf16) y
    = re2 (D m c) (2048 * (t.val % 4) + (y 0).val) (1280 * (t.val / 4) + (y 1).val) := by
  blk_simp [iblk, V, idx t]
  refine eq_re2 (D m c) _ _ _ ?_ ?_ <;> blk_simp [idx t] <;> omega

/-- What point `n` adds. -/
abbrev term (n : ℕ) (y : S1024x1280.Idx) : EReal := colsPart 2048 (re2 (A m c)) (re2 (D m c)) (n % 4) (y 0).val (1280 * (n / 4) + (y 1).val)

/-- The product of a point's blocks. -/
theorem pay (t : Fin cfg0.N) (y : S1024x1280.Idx) : k0_pay1 (F := Ideal) (iblk m c 0 t) (iblk m c 1 t) y = term m c t.val y := by
  pointwise [k0_pay1, hb0, hb1]
  rfl

/-- The carried buffer after a point is the sum of what its column's points added so far. -/
theorem scr (t : Fin cfg0.N) (y : S1024x1280.Idx) :
    (outsAt0 m c t.val t.isLt).2 y = 0 + ∑ k ∈ Finset.range (t.val % 4 + 1), term m c (4 * (t.val / 4) + k) y := by
  refine Pipeline.eq_sum_of_reset_step_apply (fun n h => (outsAt0 m c n h).2) 4 (fun _ => (0 : EReal)) (term m c) (fun t h y => ?_) (fun t h y => ?_) t y
  · rw [outsAt0_A m c t h (by omega) (by omega)]
    frame_out
    pointwise [k0_pay2, pay m c t]
  · by_cases h2 : t.val % 4 = 3
    · rw [outsAt0_C m c t h (by omega) h2]
      frame_out
      simp only [read_unread_whole]
      pointwise [k0_pay3, pay m c t]
    · rw [outsAt0_B m c t h (by omega) h2]
      frame_out
      simp only [read_unread_whole]
      pointwise [k0_pay3, pay m c t]

/-- At the last of a column's points the result's block is the carried buffer, the sum over all rows. -/
theorem out_eq (t : Fin cfg0.N) (h2 : t.val % 4 = 3) (y : S1024x1280.Idx) :
    (outsAt0 m c t.val t.isLt).1 y = colsCols 8192 (re2 (A m c)) (re2 (D m c)) (y 0).val (1280 * (t.val / 4) + (y 1).val) := by
  refine Eq.trans (b := (outsAt0 m c t.val t.isLt).2 y) ?_ ((scr m c t y).trans ?_)
  · rw [outsAt0_C m c t (by omega) (by omega) h2]
    frame_out
    pointwise [k0_pay4]
  · rw [h2, zero_add, ← sum_colsPart 4 2048 8192 rfl]
    refine Finset.sum_congr rfl fun k hk => ?_
    have := Finset.mem_range.mp hk
    rw [term, show (4 * (t.val / 4) + k) % 4 = k by omega, show (4 * (t.val / 4) + k) / 4 = t.val / 4 by omega]

/-- The call's result. -/
theorem arr2 : (dats m 0 c).arrAt 2 cfg0.N = ((fun y => colsCols 8192 (re2 (A m c)) (re2 (D m c)) (y 0).val (y 1).val) : Vec Ideal S1024x2560 .bf16) := by
  refine (dats m 0 c).arrAt_eq_of_covers 2 _ (by decide +kernel) fun t hf y => ?_
  blk_simp
  rw [after0_2]
  refine (out_eq m c t ((flush0_2 t).mp hf) _).trans ?_
  blk_simp [idx t]
  rw [Nat.mul_comm 1280]

end Cert.OdInWeightIdeal.Value

namespace Cert.OdInWeightRefIdeal.Value
open Cert.OdInWeightRefIdeal Cert.OdInWeightRefIdeal.Gen Cert.Model

/-- The reference's result. -/
theorem ref (a0 : Vec Ideal S8192x1024 .bf16) (a1 : Vec Ideal S8192x2560 .bf16) (y : S1024x2560.Idx) :
    (truncf (F := Ideal) .bf16 (transpose S1024x2560 [1, 0] (Host.dotGeneral (F := Ideal) (φ₁ := .f32) (φ₂ := .f32) dot_S8192x2560_S8192x1024_S2560x1024_0_0_1_1_n_n none (extf (F := Ideal) .f32 a1 bitsLt_bf16_f32) (extf (F := Ideal) .f32 a0 bitsLt_bf16_f32)) transposes_S2560x1024_S1024x2560_1_0) bitsLt_bf16_f32 : Vec Ideal S1024x2560 .bf16) y
      = colsCols 8192 (re2 a0) (re2 a1) (y 0).val (y 1).val := by
  pointwise []
  refine Finset.sum_congr rfl fun r _ => ?_
  rw [mul_comm]
  exact congrArg₂ (· * ·) (eq_re2 a0 _ _ _ rfl rfl) (eq_re2 a1 _ _ _ rfl rfl)

end Cert.OdInWeightRefIdeal.Value
end
-- ==== Proof.EvInWeightVal.lean ====
module

public import proofs.«01_k».proof.Proof.Gen.EvInWeightIdeal.Frame
public import proofs.«01_k».proof.Proof.Gen.EvInWeightIdeal.Value
public import proofs.«01_k».proof.Proof.Gen.EvInWeightRefIdeal.Run
public import proofs.«01_k».proof.Proof.Arrays
public import Idealize.ShloMosaic.Lib.Pipeline.ValueKit
public import Idealize.ShloMosaic.Lib.Pipeline.ReadBack

@[expose] public section

/-! # The gradient of the even layer's input projection: a product of two long matrices, summed in four steps -/

set_option maxRecDepth 16384
noncomputable section
open Idealize.ShloMosaic Idealize.ShloMosaic.TcCoe Idealize.SL.Sem

namespace Cert.EvInWeightIdeal.Value
open Idealize.ShloMosaic.Pipeline (Dat)
open Cert.EvInWeightIdeal Cert.EvInWeightIdeal.Gen Cert.Model

variable (m : (ℓ : Loc nD τ sig) → Buf (Elt Ideal) ℓ) (c : Dev nD)

/-- What the projection read. -/
abbrev A : Vec Ideal S8192x1024 .bf16 := m ((c : Thread nD τ).loc main_arg0)
/-- The gradient of what it made. -/
abbrev D : Vec Ideal S8192x1792 .bf16 := m ((c : Thread nD τ).loc main_arg1)

/-- Where each window's block lies. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The rows a point reads. -/
theorem hb0 (t : Fin cfg0.N) (y : S2048x1024.Idx) : (iblk m c 0 t : Vec Ideal S2048x1024 .bf16) y
    = re2 (A m c) (2048 * (t.val % 4) + (y 0).val) (y 1).val := by
  blk_simp [iblk, V, idx t]
  refine eq_re2 (A m c) _ _ _ ?_ ?_ <;> blk_simp [idx t] <;> omega
/-- The rows of the gradient a point reads. -/
theorem hb1 (t : Fin cfg0.N) (y : S2048x896.Idx) : (iblk m c 1 t : Vec Ideal S2048x896 .bf16) y
    = re2 (D m c) (2048 * (t.val % 4) + (y 0).val) (896 * (t.val / 4) + (y 1).val) := by
  blk_simp [iblk, V, idx t]
  refine eq_re2 (D m c) _ _ _ ?_ ?_ <;> blk_simp [idx t] <;> omega

/-- What point `n` adds. -/
abbrev term (n : ℕ) (y : S1024x896.Idx) : EReal := colsPart 2048 (re2 (A m c)) (re2 (D m c)) (n % 4) (y 0).val (896 * (n / 4) + (y 1).val)

/-- The product of a point's blocks. -/
theorem pay (t : Fin cfg0.N) (y : S1024x896.Idx) : k0_pay1 (F := Ideal) (iblk m c 0 t) (iblk m c 1 t) y = term m c t.val y := by
  pointwise [k0_pay1, hb0, hb1]
  rfl

/-- The carried buffer after a point is the sum of what its column's points added so far. -/
theorem scr (t : Fin cfg0.N) (y : S1024x896.Idx) :
    (outsAt0 m c t.val t.isLt).2 y = 0 + ∑ k ∈ Finset.range (t.val % 4 + 1), term m c (4 * (t.val / 4) + k) y := by
  refine Pipeline.eq_sum_of_reset_step_apply (fun n h => (outsAt0 m c n h).2) 4 (fun _ => (0 : EReal)) (term m c) (fun t h y => ?_) (fun t h y => ?_) t y
  · rw [outsAt0_A m c t h (by omega) (by omega)]
    frame_out
    pointwise [k0_pay2, pay m c t]
  · by_cases h2 : t.val % 4 = 3
    · rw [outsAt0_C m c t h (by omega) h2]
      frame_out
      simp only [read_unread_whole]
      pointwise [k0_pay3, pay m c t]
    · rw [outsAt0_B m c t h (by omega) h2]
      frame_out
      simp only [read_unread_whole]
      pointwise [k0_pay3, pay m c t]

/-- At the last of a column's points the result's block is the carried buffer, the sum over all rows. -/
theorem out_eq (t : Fin cfg0.N) (h2 : t.val % 4 = 3) (y : S1024x896.Idx) :
    (outsAt0 m c t.val t.isLt).1 y = colsCols 8192 (re2 (A m c)) (re2 (D m c)) (y 0).val (896 * (t.val / 4) + (y 1).val) := by
  refine Eq.trans (b := (outsAt0 m c t.val t.isLt).2 y) ?_ ((scr m c t y).trans ?_)
  · rw [outsAt0_C m c t (by omega) (by omega) h2]
    frame_out
    pointwise [k0_pay4]
  · rw [h2, zero_add, ← sum_colsPart 4 2048 8192 rfl]
    refine Finset.sum_congr rfl fun k hk => ?_
    have := Finset.mem_range.mp hk
    rw [term, show (4 * (t.val / 4) + k) % 4 = k by omega, show (4 * (t.val / 4) + k) / 4 = t.val / 4 by omega]

/-- The call's result. -/
theorem arr2 : (dats m 0 c).arrAt 2 cfg0.N = ((fun y => colsCols 8192 (re2 (A m c)) (re2 (D m c)) (y 0).val (y 1).val) : Vec Ideal S1024x1792 .bf16) := by
  refine (dats m 0 c).arrAt_eq_of_covers 2 _ (by decide +kernel) fun t hf y => ?_
  blk_simp
  rw [after0_2]
  refine (out_eq m c t ((flush0_2 t).mp hf) _).trans ?_
  blk_simp [idx t]
  rw [Nat.mul_comm 896]

end Cert.EvInWeightIdeal.Value

namespace Cert.EvInWeightRefIdeal.Value
open Cert.EvInWeightRefIdeal Cert.EvInWeightRefIdeal.Gen Cert.Model

/-- The reference's result. -/
theorem ref (a0 : Vec Ideal S8192x1024 .bf16) (a1 : Vec Ideal S8192x1792 .bf16) (y : S1024x1792.Idx) :
    (truncf (F := Ideal) .bf16 (transpose S1024x1792 [1, 0] (Host.dotGeneral (F := Ideal) (φ₁ := .f32) (φ₂ := .f32) dot_S8192x1792_S8192x1024_S1792x1024_0_0_1_1_n_n none (extf (F := Ideal) .f32 a1 bitsLt_bf16_f32) (extf (F := Ideal) .f32 a0 bitsLt_bf16_f32)) transposes_S1792x1024_S1024x1792_1_0) bitsLt_bf16_f32 : Vec Ideal S1024x1792 .bf16) y
      = colsCols 8192 (re2 a0) (re2 a1) (y 0).val (y 1).val := by
  pointwise []
  refine Finset.sum_congr rfl fun r _ => ?_
  rw [mul_comm]
  exact congrArg₂ (· * ·) (eq_re2 a0 _ _ _ rfl rfl) (eq_re2 a1 _ _ _ rfl rfl)

end Cert.EvInWeightRefIdeal.Value
end
-- ==== Proof.OutWeightVal.lean ====
module

public import proofs.«01_k».proof.Proof.Gen.OutWeightIdeal.Frame
public import proofs.«01_k».proof.Proof.Gen.OutWeightIdeal.Value
public import proofs.«01_k».proof.Proof.Gen.OutWeightRefIdeal.Run
public import proofs.«01_k».proof.Proof.Arrays
public import Idealize.ShloMosaic.Lib.Pipeline.ValueKit
public import Idealize.ShloMosaic.Lib.Pipeline.ReadBack

@[expose] public section

/-! # The gradient of one part of an output projection: a product of two long matrices, summed in eight steps -/

set_option maxRecDepth 16384
noncomputable section
open Idealize.ShloMosaic Idealize.ShloMosaic.TcCoe Idealize.SL.Sem

namespace Cert.OutWeightIdeal.Value
open Idealize.ShloMosaic.Pipeline (Dat)
open Cert.OutWeightIdeal Cert.OutWeightIdeal.Gen Cert.Model

variable (m : (ℓ : Loc nD τ sig) → Buf (Elt Ideal) ℓ) (c : Dev nD)

/-- What the projection read. -/
abbrev A : Vec Ideal S8192x512 .bf16 := m ((c : Thread nD τ).loc main_arg0)
/-- The gradient of what it made. -/
abbrev D : Vec Ideal S8192x1024 .f32 := m ((c : Thread nD τ).loc main_arg1)

/-- Where each window's block lies. -/
theorem idx : ∀ t : Fin cfg0.N, win0_0.index t = ![t.val % 8, 0] ∧ win0_1.index t = ![t.val % 8, 0] ∧ win0_2.index t = ![0, 0] :=
  (by decide +kernel : ∀ t : Fin grid0.N, _)

/-- The rows a point reads. -/
theorem hb0 (t : Fin cfg0.N) (y : S1024x512.Idx) : (iblk m c 0 t : Vec Ideal S1024x512 .bf16) y
    = re2 (A m c) (1024 * (t.val % 8) + (y 0).val) (y 1).val := by
  blk_simp [iblk, V, idx t]
  refine eq_re2 (A m c) _ _ _ ?_ ?_ <;> blk_simp [idx t] <;> omega
/-- The rows of the gradient a point reads. -/
theorem hb1 (t : Fin cfg0.N) (y : S1024x1024.Idx) : (iblk m c 1 t : Vec Ideal S1024x1024 .f32) y
    = re2 (D m c) (1024 * (t.val % 8) + (y 0).val) (y 1).val := by
  blk_simp [iblk, V, idx t]
  refine eq_re2 (D m c) _ _ _ ?_ ?_ <;> blk_simp [idx t] <;> omega

/-- What point `n` adds. -/
abbrev term (n : ℕ) (y : S512x1024.Idx) : EReal := colsPart 1024 (re2 (A m c)) (re2 (D m c)) (n % 8) (y 0).val (y 1).val

/-- The product of a point's blocks. -/
theorem pay (t : Fin cfg0.N) (y : S512x1024.Idx) : k0_pay1 (F := Ideal) (iblk m c 0 t) (iblk m c 1 t) y = term m c t.val y := by
  pointwise [k0_pay1, hb0, hb1]
  rfl

/-- The carried buffer after a point is the sum of what the points added so far. -/
theorem scr (t : Fin cfg0.N) (y : S512x1024.Idx) :
    (outsAt0 m c t.val t.isLt).2 y = 0 + ∑ k ∈ Finset.range (t.val % 8 + 1), term m c (8 * (t.val / 8) + k) y := by
  refine Pipeline.eq_sum_of_reset_step_apply (fun n h => (outsAt0 m c n h).2) 8 (fun _ => (0 : EReal)) (term m c) (fun t h y => ?_) (fun t h y => ?_) t y
  · have hN : cfg0.N = 8 := N_0
    have ht := t.isLt
    rw [outsAt0_A m c t h (by omega) (by omega)]
    frame_out
    pointwise [k0_pay2, pay m c t]
  · by_cases h2 : t.val % 8 = 7
    · rw [outsAt0_C m c t h (by omega) h2]
      frame_out
      simp only [read_unread_whole]
      pointwise [k0_pay3, pay m c t]
    · rw [outsAt0_B m c t h (by omega) h2]
      frame_out
      simp only [read_unread_whole]
      pointwise [k0_pay3, pay m c t]

/-- At the last point the result's block is the carried buffer, the sum over all rows. -/
theorem out_eq (t : Fin cfg0.N) (h2 : t.val % 8 = 7) (y : S512x1024.Idx) :
    (outsAt0 m c t.val t.isLt).1 y = colsCols 8192 (re2 (A m c)) (re2 (D m c)) (y 0).val (y 1).val := by
  refine Eq.trans (b := (outsAt0 m c t.val t.isLt).2 y) ?_ ((scr m c t y).trans ?_)
  · rw [outsAt0_C m c t (by omega) (by omega) h2]
    frame_out
    pointwise [k0_pay4]
  · rw [h2, zero_add, ← sum_colsPart 8 1024 8192 rfl]
    refine Finset.sum_congr rfl fun k hk => ?_
    have := Finset.mem_range.mp hk
    rw [term, show (8 * (t.val / 8) + k) % 8 = k by omega]

/-- The call's result. -/
theorem arr2 : (dats m 0 c).arrAt 2 cfg0.N = ((fun y => colsCols 8192 (re2 (A m c)) (re2 (D m c)) (y 0).val (y 1).val) : Vec Ideal S512x1024 .bf16) := by
  refine (dats m 0 c).arrAt_eq_of_covers 2 _ (by decide +kernel) fun t hf y => ?_
  blk_simp
  rw [after0_2]
  refine (out_eq m c t ((flush0_2 t).mp hf) _).trans ?_
  blk_simp [idx t]

end Cert.OutWeightIdeal.Value

namespace Cert.OutWeightRefIdeal.Value
open Cert.OutWeightRefIdeal Cert.OutWeightRefIdeal.Gen Cert.Model

/-- The reference's result. -/
theorem ref (a0 : Vec Ideal S8192x512 .bf16) (a1 : Vec Ideal S8192x1024 .f32) (y : S512x1024.Idx) :
    (truncf (F := Ideal) .bf16 (transpose S512x1024 [1, 0] (Host.dotGeneral (F := Ideal) (φ₁ := .f32) (φ₂ := .f32) dot_S8192x1024_S8192x512_S1024x512_0_0_1_1_n_n none a1 (extf (F := Ideal) .f32 a0 bitsLt_bf16_f32)) transposes_S1024x512_S512x1024_1_0) bitsLt_bf16_f32 : Vec Ideal S512x1024 .bf16) y
      = colsCols 8192 (re2 a0) (re2 a1) (y 0).val (y 1).val := by
  pointwise []
  refine Finset.sum_congr rfl fun r _ => ?_
  rw [mul_comm]
  exact congrArg₂ (· * ·) (eq_re2 a0 _ _ _ rfl rfl) (eq_re2 a1 _ _ _ rfl rfl)

end Cert.OutWeightRefIdeal.Value
end
-- ==== Proof.OutBackVal.lean ====
module

public import proofs.«01_k».proof.Proof.Gen.OutBackIdeal.Frame
public import proofs.«01_k».proof.Proof.Gen.OutBackIdeal.Value
public import proofs.«01_k».proof.Proof.Gen.OutBackRefIdeal.Run
public import proofs.«01_k».proof.Proof.Arrays
public import Idealize.ShloMosaic.Lib.Pipeline.ValueKit
public import Idealize.ShloMosaic.Lib.Pipeline.ReadBack

@[expose] public section

/-! # The gradient of the even layer's mixers' results through the output projection -/

set_option maxRecDepth 16384
noncomputable section
open Idealize.ShloMosaic Idealize.ShloMosaic.TcCoe Idealize.SL.Sem

namespace Cert.OutBackIdeal.Value
open Idealize.ShloMosaic.Pipeline (Dat)
open Cert.OutBackIdeal Cert.OutBackIdeal.Gen Cert.Model

variable (m : (ℓ : Loc nD τ sig) → Buf (Elt Ideal) ℓ) (c : Dev nD)

/-- The gradient of the layer's result. -/
abbrev D : Vec Ideal S8192x1024 .f32 := m ((c : Thread nD τ).loc main_arg0)
/-- The projection's weights. -/
abbrev W : Vec Ideal S1024x1024 .bf16 := m ((c : Thread nD τ).loc main_arg1)

/-- Where each window's block lies. -/
theorem idx : ∀ t : Fin cfg0.N, win0_0.index t = ![t.val, 0] ∧ win0_1.index t = ![0, 0] ∧ win0_2.index t = ![t.val, 0] :=
  (by decide +kernel : ∀ t : Fin grid0.N, _)

/-- The gradient, block by block. -/
theorem hb0 (t : Fin cfg0.N) (y : S1024x1024.Idx) : (iblk m c 0 t : Vec Ideal S1024x1024 .f32) y = re2 (D m c) (1024 * t.val + (y 0).val) (y 1).val := by
  blk_simp [iblk, V, idx t]
  refine eq_re2 (D m c) _ _ _ ?_ ?_ <;> blk_simp [idx t] <;> omega
/-- The weights, whole at every step. -/
theorem hb1 (t : Fin cfg0.N) (y : S1024x1024.Idx) : (iblk m c 1 t : Vec Ideal S1024x1024 .bf16) y = re2 (W m c) (y 0).val (y 1).val := by
  blk_simp [iblk, V, idx t]
  refine eq_re2 (W m c) _ _ _ ?_ ?_ <;> blk_simp [idx t]

/-- The call's result. -/
theorem arr2 : (dats m 0 c).arrAt 2 cfg0.N = ((fun y => rowsRows 1024 (re2 (D m c)) (re2 (W m c)) (y 0).val (y 1).val) : Vec Ideal S8192x1024 .bf16) := by
  refine (dats m 0 c).arrAt_eq_of_covers 2 _ (by decide +kernel) fun t _ y => ?_
  blk_simp
  rw [after0_2]
  frame_out [out0_2]
  pointwise [k0_pay1, hb0, hb1]
  blk_simp [idx t]
  rw [Nat.mul_comm 1024]
  rfl

end Cert.OutBackIdeal.Value

namespace Cert.OutBackRefIdeal.Value
open Cert.OutBackRefIdeal Cert.OutBackRefIdeal.Gen Cert.Model

/-- The reference's result. -/
theorem ref (a0 : Vec Ideal S8192x1024 .f32) (a1 : Vec Ideal S1024x1024 .bf16) (y : S8192x1024.Idx) :
    (truncf (F := Ideal) .bf16 (Host.dotGeneral (F := Ideal) (φ₁ := .f32) (φ₂ := .f32) dot_S8192x1024_S1024x1024_S8192x1024_1_1_0_0_n_n none a0 (extf (F := Ideal) .f32 a1 bitsLt_bf16_f32)) bitsLt_bf16_f32 : Vec Ideal S8192x1024 .bf16) y
      = rowsRows 1024 (re2 a0) (re2 a1) (y 0).val (y 1).val := by
  pointwise []
  exact Finset.sum_congr rfl fun r _ => congrArg₂ (· * ·) (eq_re2 a0 _ _ _ rfl rfl) (eq_re2 a1 _ _ _ rfl rfl)

end Cert.OutBackRefIdeal.Value
end
-- ==== Proof.OdOutBackVal.lean ====
module

public import proofs.«01_k».proof.Proof.Gen.OdOutBackIdeal.Frame
public import proofs.«01_k».proof.Proof.Gen.OdOutBackIdeal.Value
public import proofs.«01_k».proof.Proof.Gen.OdOutBackRefIdeal.Run
public import proofs.«01_k».proof.Proof.OutBackVal

@[expose] public section

/-! # The gradient of the odd layer's mixers' results, and its first half folded by 4 and by 16 positions -/

set_option maxRecDepth 16384
noncomputable section
open Idealize.ShloMosaic Idealize.ShloMosaic.TcCoe Idealize.SL.Sem

namespace Cert.OdOutBackIdeal.Value
open Idealize.ShloMosaic.Pipeline (Dat)
open Cert.OdOutBackIdeal Cert.OdOutBackIdeal.Gen Cert.Model

/-- Both branches have one value. -/
theorem dite_both {p : Prop} [Decidable p] {a b r : EReal} (ha : p → a = r) (hb : ¬ p → b = r) : (if _h : p then a else b) = r := by
  by_cases h : p
  · rw [dif_pos h]; exact ha h
  · rw [dif_neg h]; exact hb h

/-- A row of a permutation matrix picks one entry. -/
theorem pick (v : BitVec 32) (s : Fin 256) (hv : v = BitVec.ofNat 32 s.val) (f : Fin 256 → EReal) :
    ∑ x : Fin 256, FloatOps.sitofp (F := Ideal) .f32 (BitVec.setWidth 32 (IntOp.cmpi .eq (BitVec.ofNat 32 x.val) v)) * f x = f s := by
  rw [Finset.sum_eq_single s]
  · subst hv
    have h : IntOp.cmpi .eq (BitVec.ofNat 32 s.val) (BitVec.ofNat 32 s.val) = 1#1 := by simp [IntOp.cmpi]
    rw [h, show FloatOps.sitofp (F := Ideal) .f32 (BitVec.setWidth 32 1#1) = (1 : EReal) from ?_, one_mul]
    simp [FloatOps.sitofp]
  · intro x _ hx
    have h : IntOp.cmpi .eq (BitVec.ofNat 32 x.val) v = 0#1 := by
      have hne : BitVec.ofNat 32 x.val ≠ v := fun e => hx (Fin.ext (by
        have := congrArg BitVec.toNat (e.trans hv)
        have hs := s.isLt
        have hx' := x.isLt
        simp only [BitVec.toNat_ofNat] at this
        omega))
      rw [show IntOp.cmpi .eq (BitVec.ofNat 32 x.val) v = BitVec.ofBool (BitVec.ofNat 32 x.val == v) from rfl, beq_eq_false_iff_ne.mpr hne]
      rfl
    rw [h, show FloatOps.sitofp (F := Ideal) .f32 (BitVec.setWidth 32 0#1) = (0 : EReal) from ?_, zero_mul]
    simp [FloatOps.sitofp]
  · exact fun h => absurd (Finset.mem_univ s) h

/-- The position that row `a` of the permutation by 4 takes. -/
theorem word4 : ∀ a : Fin 256, IntOp.addi (IntOp.muli (IntOp.andi (BitVec.ofNat 32 a.val) 63#32) 4#32) (IntOp.shrsi .vector (BitVec.ofNat 32 a.val) 6#32)
    = BitVec.ofNat 32 (a.val % 64 * 4 + a.val / 64) := by decide +kernel
/-- The position that row `a` of the permutation by 16 takes. -/
theorem word16 : ∀ a : Fin 256, IntOp.addi (IntOp.muli (IntOp.andi (BitVec.ofNat 32 a.val) 15#32) 16#32) (IntOp.shrsi .vector (BitVec.ofNat 32 a.val) 4#32)
    = BitVec.ofNat 32 (a.val % 16 * 16 + a.val / 16) := by decide +kernel

/-- What row `a` of the permutation by 4 picks. -/
theorem fold4 (a : ℕ) (ha : a < 256) (f : Fin 256 → EReal) :
    ∑ x : Fin 256, FloatOps.sitofp (F := Ideal) .f32 (BitVec.setWidth 32 (IntOp.cmpi .eq (BitVec.ofNat 32 x.val)
      (IntOp.addi (IntOp.muli (IntOp.andi (BitVec.ofNat 32 a) 63#32) 4#32) (IntOp.shrsi .vector (BitVec.ofNat 32 a) 6#32)))) * f x
      = f ⟨a % 64 * 4 + a / 64, by omega⟩ := pick _ ⟨a % 64 * 4 + a / 64, by omega⟩ (word4 ⟨a, ha⟩) f
/-- What row `a` of the permutation by 16 picks. -/
theorem fold16 (a : ℕ) (ha : a < 256) (f : Fin 256 → EReal) :
    ∑ x : Fin 256, FloatOps.sitofp (F := Ideal) .f32 (BitVec.setWidth 32 (IntOp.cmpi .eq (BitVec.ofNat 32 x.val)
      (IntOp.addi (IntOp.muli (IntOp.andi (BitVec.ofNat 32 a) 15#32) 16#32) (IntOp.shrsi .vector (BitVec.ofNat 32 a) 4#32)))) * f x
      = f ⟨a % 16 * 16 + a / 16, by omega⟩ := pick _ ⟨a % 16 * 16 + a / 16, by omega⟩ (word16 ⟨a, ha⟩) f

variable (m : (ℓ : Loc nD τ sig) → Buf (Elt Ideal) ℓ) (c : Dev nD)

/-- The gradient of the layer's result. -/
abbrev D : Vec Ideal S8192x1024 .f32 := m ((c : Thread nD τ).loc main_arg0)
/-- The projection's weights. -/
abbrev W : Vec Ideal S1024x1024 .bf16 := m ((c : Thread nD τ).loc main_arg1)
/-- The gradient of the mixers' results. -/
abbrev dM : ℕ → ℕ → EReal := rowsRows 1024 (re2 (D m c)) (re2 (W m c))

/-- Where each window's block lies. -/
theorem idx : ∀ t : Fin cfg0.N, win0_0.index t = ![t.val, 0] ∧ win0_1.index t = ![0, 0] ∧ win0_2.index t = ![t.val, 0] ∧ win0_3.index t = ![t.val, 0]
    ∧ win0_4.index t = ![t.val, 0] :=
  (by decide +kernel : ∀ t : Fin grid0.N, _)

/-- The gradient, block by block. -/
theorem hb0 (t : Fin cfg0.N) (y : S512x1024.Idx) : (iblk m c 0 t : Vec Ideal S512x1024 .f32) y = re2 (D m c) (512 * t.val + (y 0).val) (y 1).val := by
  blk_simp [iblk, V, idx t]
  refine eq_re2 (D m c) _ _ _ ?_ ?_ <;> blk_simp [idx t] <;> omega
/-- The weights, whole at every step. -/
theorem hb1 (t : Fin cfg0.N) (y : S1024x1024.Idx) : (iblk m c 1 t : Vec Ideal S1024x1024 .bf16) y = re2 (W m c) (y 0).val (y 1).val := by
  blk_simp [iblk, V, idx t]
  refine eq_re2 (W m c) _ _ _ ?_ ?_ <;> blk_simp [idx t]

/-- A block of the gradient. -/
theorem pay1 (t : Fin cfg0.N) (y : S512x1024.Idx) : k0_pay1 (F := Ideal) (iblk m c 0 t) (iblk m c 1 t) y = dM m c (512 * t.val + (y 0).val) (y 1).val := by
  pointwise [k0_pay1, hb0, hb1]
  rfl

/-- A block's first half, four positions in a row. -/
theorem pay2 (t : Fin cfg0.N) (y : S128x2048.Idx) : k0_pay2 (F := Ideal) (iblk m c 0 t) (iblk m c 1 t) y
    = dM m c (4 * (128 * t.val + (y 0).val) + (y 1).val / 512) ((y 1).val % 512) := by
  have h0 : (y 0).val < 128 := (y 0).isLt
  have h1 : (y 1).val < 2048 := (y 1).isLt
  pointwise [k0_pay2, pay1 m c t]
  generalize dM m c = X
  repeat' refine dite_both (fun _ => ?_) (fun _ => ?_)
  all_goals
    rw [fold4 _ (by omega)]
    refine congrArg₂ X ?_ ?_ <;> (try dsimp only) <;> omega

/-- A block's first half, sixteen positions in a row. -/
theorem pay4 (t : Fin cfg0.N) (y : S32x8192.Idx) : k0_pay4 (F := Ideal) (k0_pay3 (iblk m c 0 t) (iblk m c 1 t)) (iota .tc S256x256 32 [0] iota_S256x256_d0_w32) (iota .tc S256x256 32 [1] iota_S256x256_d1_w32) 15#32 y
    = dM m c (16 * (32 * t.val + (y 0).val) + (y 1).val / 512) ((y 1).val % 512) := by
  have h0 : (y 0).val < 32 := (y 0).isLt
  have h1 : (y 1).val < 8192 := (y 1).isLt
  pointwise [k0_pay4, k0_pay3, pay1 m c t]
  generalize dM m c = X
  repeat' refine dite_both (fun _ => ?_) (fun _ => ?_)
  all_goals
    rw [fold16 _ (by omega)]
    refine congrArg₂ X ?_ ?_ <;> (try dsimp only) <;> omega

/-- The gradient of the mixers' results. -/
theorem arr2 : (dats m 0 c).arrAt 2 cfg0.N = ((fun y => dM m c (y 0).val (y 1).val) : Vec Ideal S8192x1024 .bf16) := by
  refine (dats m 0 c).arrAt_eq_of_covers 2 _ (by decide +kernel) fun t _ y => ?_
  blk_simp
  rw [after0_2]
  frame_out [out0_2]
  refine (pay1 m c t _).trans ?_
  blk_simp [idx t]
  rw [Nat.mul_comm 512]

/-- Its first half, four positions in a row. -/
theorem arr3 : (dats m 0 c).arrAt 3 cfg0.N = ((fun y => dM m c (4 * (y 0).val + (y 1).val / 512) ((y 1).val % 512)) : Vec Ideal S2048x2048 .bf16) := by
  refine (dats m 0 c).arrAt_eq_of_covers 3 _ (by decide +kernel) fun t _ y => ?_
  blk_simp
  rw [after0_3]
  frame_out [out0_3]
  refine (pay2 m c t _).trans ?_
  blk_simp [idx t]
  rw [Nat.mul_comm 128]

/-- Its first half, sixteen positions in a row. -/
theorem arr4 : (dats m 0 c).arrAt 4 cfg0.N = ((fun y => dM m c (16 * (y 0).val + (y 1).val / 512) ((y 1).val % 512)) : Vec Ideal S512x8192 .bf16) := by
  refine (dats m 0 c).arrAt_eq_of_covers 4 _ (by decide +kernel) fun t _ y => ?_
  blk_simp
  rw [after0_4]
  frame_out [out0_4]
  refine (pay4 m c t _).trans ?_
  blk_simp [idx t]
  rw [Nat.mul_comm 32]

end Cert.OdOutBackIdeal.Value

namespace Cert.OdOutBackRefIdeal.Value
open Cert.OdOutBackRefIdeal Cert.OdOutBackRefIdeal.Gen Cert.Model

/-- The first half of an array of rows, four positions in a row, as the reference writes it. -/
theorem ref4 (x : Vec Ideal S8192x1024 .bf16) (h : ℕ → ℕ → EReal) (hx : ∀ y, x y = h (y 0).val (y 1).val) (y : S2048x2048.Idx) :
    (shapeCast S2048x2048 (extractStridedSlice S8192x512 ![0, 0] x slices_S8192x1024_S8192x512_0_0) shapeCasts_S8192x512_S2048x2048 : Vec Ideal S2048x2048 .bf16) y
      = h (4 * (y 0).val + (y 1).val / 512) ((y 1).val % 512) := by
  pointwise [hx]
  rw [Nat.mul_comm 4]
/-- The first half of an array of rows, sixteen positions in a row, as the reference writes it. -/
theorem ref16 (x : Vec Ideal S8192x1024 .bf16) (h : ℕ → ℕ → EReal) (hx : ∀ y, x y = h (y 0).val (y 1).val) (y : S512x8192.Idx) :
    (shapeCast S512x8192 (extractStridedSlice S8192x512 ![0, 0] x slices_S8192x1024_S8192x512_0_0) shapeCasts_S8192x512_S512x8192 : Vec Ideal S512x8192 .bf16) y
      = h (16 * (y 0).val + (y 1).val / 512) ((y 1).val % 512) := by
  pointwise [hx]
  rw [Nat.mul_comm 16]

end Cert.OdOutBackRefIdeal.Value
end
-- ==== Proof.OutProjVal.lean ====
module

public import proofs.«01_k».proof.Proof.Gen.OutProjIdeal.Frame
public import proofs.«01_k».proof.Proof.Gen.OutProjIdeal.Value
public import proofs.«01_k».proof.Proof.Gen.OutProjRefIdeal.Run
public import proofs.«01_k».proof.Proof.DownVal

@[expose] public section

/-! # Both mixers' output projection with the residual, and the next norm -/

set_option maxRecDepth 16384
noncomputable section
open Idealize.ShloMosaic Idealize.ShloMosaic.TcCoe Idealize.SL.Sem

namespace Cert.Model

/-- Two mixers' results side by side, 512 columns each. -/
def side (A B : ℕ → ℕ → EReal) (r k : ℕ) : EReal := if k < 512 then A r k else B r (k - 512)

/-- The rows after the mixers: the two results side by side, times the weights, beside the residual. -/
def mixed (A B W H : ℕ → ℕ → EReal) (r j : ℕ) : EReal := H r j + ∑ k : Fin 1024, side A B r k.val * W k.val j

/-- The same from the two halves of the weights. -/
theorem mixed_halves (A B W H : ℕ → ℕ → EReal) (r j : ℕ) :
    H r j + ∑ k : Fin 512, A r k.val * W k.val j + ∑ k : Fin 512, B r k.val * W (512 + k.val) j = mixed A B W H r j := by
  rw [mixed, show (∑ k : Fin 1024, side A B r k.val * W k.val j) = ∑ k : Fin (512 + 512), side A B r k.val * W k.val j from rfl, Fin.sum_univ_add, add_assoc]
  refine congrArg (H r j + ·) (congrArg₂ (· + ·) (Finset.sum_congr rfl fun k _ => ?_) (Finset.sum_congr rfl fun k _ => ?_))
  · rw [side, if_pos (by simp)]; rfl
  · rw [side, if_neg (by simp)]
    show _ = B r (512 + k.val - 512) * W (512 + k.val) j
    rw [Nat.add_sub_cancel_left]

end Cert.Model

namespace Cert.OutProjIdeal.Value
open Idealize.ShloMosaic.Pipeline (Dat)
open Cert.OutProjIdeal Cert.OutProjIdeal.Gen Cert.Model

variable (m : (ℓ : Loc nD τ sig) → Buf (Elt Ideal) ℓ) (c : Dev nD)

/-- The first mixer's result. -/
abbrev A : Vec Ideal S8192x512 .bf16 := m ((c : Thread nD τ).loc main_arg0)
/-- The second mixer's result. -/
abbrev B : Vec Ideal S8192x512 .bf16 := m ((c : Thread nD τ).loc main_arg1)
/-- The weights. -/
abbrev W : Vec Ideal S1024x1024 .bf16 := m ((c : Thread nD τ).loc main_arg2)
/-- The rows before the layer. -/
abbrev H : Vec Ideal S8192x1024 .f32 := m ((c : Thread nD τ).loc main_arg3)
/-- The next norm's gain. -/
abbrev G : Vec Ideal S1x1024 .f32 := m ((c : Thread nD τ).loc main_arg4)

/-- Where each window's block lies. -/
theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![t.val, 0] ∧ win0_6.index t = ![t.val, 0] :=
  (by decide +kernel : ∀ t : Fin grid0.N, _)

/-- The first mixer's rows a point reads. -/
theorem hb0 (t : Fin cfg0.N) (y : S1024x512.Idx) : (iblk m c 0 t : Vec Ideal S1024x512 .bf16) y = re2 (A m c) (1024 * t.val + (y 0).val) (y 1).val := by
  blk_simp [iblk, V, idx t]
  refine eq_re2 (A m c) _ _ _ ?_ ?_ <;> blk_simp [idx t] <;> omega
/-- The second mixer's rows a point reads. -/
theorem hb1 (t : Fin cfg0.N) (y : S1024x512.Idx) : (iblk m c 1 t : Vec Ideal S1024x512 .bf16) y = re2 (B m c) (1024 * t.val + (y 0).val) (y 1).val := by
  blk_simp [iblk, V, idx t]
  refine eq_re2 (B m c) _ _ _ ?_ ?_ <;> blk_simp [idx t] <;> omega
/-- The weights, whole at every step. -/
theorem hb2 (t : Fin cfg0.N) (y : S1024x1024.Idx) : (iblk m c 2 t : Vec Ideal S1024x1024 .bf16) y = re2 (W m c) (y 0).val (y 1).val := by
  blk_simp [iblk, V, idx t]
  refine eq_re2 (W m c) _ _ _ ?_ ?_ <;> blk_simp [idx t]
/-- The upper half of the weights. -/
theorem up (t : Fin cfg0.N) (y : S512x1024.Idx) : View.ld (iblk m c 2 t : Vec Ideal S1024x1024 .bf16) r0_2 y = re2 (W m c) (y 0).val (y 1).val := by
  pointwise [View.ld_apply, hb2, r0_2]
/-- The lower half of the weights. -/
theorem low (t : Fin cfg0.N) (y : S512x1024.Idx) : View.ld (iblk m c 2 t : Vec Ideal S1024x1024 .bf16) r0_3 y = re2 (W m c) (512 + (y 0).val) (y 1).val := by
  pointwise [View.ld_apply, hb2, r0_3]
/-- The rows before the layer that a point reads. -/
theorem hb3 (t : Fin cfg0.N) (y : S1024x1024.Idx) : (iblk m c 3 t : Vec Ideal S1024x1024 .f32) y = re2 (H m c) (1024 * t.val + (y 0).val) (y 1).val := by
  blk_simp [iblk, V, idx t]
  refine eq_re2 (H m c) _ _ _ ?_ ?_ <;> blk_simp [idx t] <;> omega
/-- The gain a point reads. -/
theorem hb4 (t : Fin cfg0.N) (y : S1x1024.Idx) : (iblk m c 4 t : Vec Ideal S1x1024 .f32) y = re2 (G m c) (y 0).val (y 1).val := by
  blk_simp [iblk, V, idx t]
  refine eq_re2 (G m c) _ _ _ ?_ ?_ <;> blk_simp [idx t]

/-- The new rows. -/
abbrev X : ℕ → ℕ → EReal := mixed (re2 (A m c)) (re2 (B m c)) (re2 (W m c)) (re2 (H m c))

/-- The new rows of a point, from the two halves of the weights. -/
theorem pay1 (t : Fin cfg0.N) (u l : Vec Ideal S512x1024 .bf16) (hu : ∀ y, u y = re2 (W m c) (y 0).val (y 1).val) (hl : ∀ y, l y = re2 (W m c) (512 + (y 0).val) (y 1).val)
    (y : S1024x1024.Idx) : k0_pay1 (F := Ideal) (iblk m c 3 t) (iblk m c 0 t) u (iblk m c 1 t) l y = X m c (1024 * t.val + (y 0).val) (y 1).val := by
  pointwise [k0_pay1, hb0, hb1, hb3, hu, hl]
  exact mixed_halves (re2 (A m c)) (re2 (B m c)) (re2 (W m c)) (re2 (H m c)) (1024 * t.val + (y 0).val) (y 1).val

/-- The normalised rows of a point, from the two halves of the weights. -/
theorem pay2 (t : Fin cfg0.N) (u l : Vec Ideal S512x1024 .bf16) (hu : ∀ y, u y = re2 (W m c) (y 0).val (y 1).val) (hl : ∀ y, l y = re2 (W m c) (512 + (y 0).val) (y 1).val)
    (y : S1024x1024.Idx) : k0_pay2 (F := Ideal) (iblk m c 3 t) (iblk m c 0 t) u (iblk m c 1 t) l (iblk m c 4 t) y = no (X m c) (re2 (G m c) 0) (1024 * t.val + (y 0).val) (y 1).val := by
  pointwise [k0_pay2, pay1 m c t u l hu hl, hb4]
  rfl

/-- The first result. -/
theorem arr5 : (dats m 0 c).arrAt 5 cfg0.N = ((fun y => X m c (y 0).val (y 1).val) : Vec Ideal S8192x1024 .f32) := by
  refine (dats m 0 c).arrAt_eq_of_covers 5 _ (by decide +kernel) fun t hf y => ?_
  blk_simp
  rw [after0_5]
  frame_out [out0_5]
  refine (pay1 m c t _ _ (up m c t) (low m c t) _).trans ?_
  blk_simp [idx t]
  rw [Nat.mul_comm 1024]

/-- The second result. -/
theorem arr6 : (dats m 0 c).arrAt 6 cfg0.N = ((fun y => no (X m c) (re2 (G m c) 0) (y 0).val (y 1).val) : Vec Ideal S8192x1024 .bf16) := by
  refine (dats m 0 c).arrAt_eq_of_covers 6 _ (by decide +kernel) fun t hf y => ?_
  blk_simp
  rw [after0_6]
  frame_out [out0_6]
  refine (pay2 m c t _ _ (up m c t) (low m c t) _).trans ?_
  blk_simp [idx t]
  rw [Nat.mul_comm 1024]

end Cert.OutProjIdeal.Value

namespace Cert.OutProjRefIdeal.Value
open Cert.OutProjRefIdeal Cert.OutProjRefIdeal.Gen Cert.Model

/-- The reference's new rows. -/
theorem ref (a0 a1 : Vec Ideal S8192x512 .bf16) (a2 : Vec Ideal S1024x1024 .bf16) (a3 : Vec Ideal S8192x1024 .f32) (y : S8192x1024.Idx) :
    (addf (F := Ideal) a3 (Host.dotGeneral (F := Ideal) (φ₁ := .f32) (φ₂ := .f32) dot_S8192x1024_S1024x1024_S8192x1024_1_0_0_1_n_n none (extf (F := Ideal) .f32 (concatenate S8192x1024 1 [⟨S8192x512, a0⟩, ⟨S8192x512, a1⟩] concatenates_S8192x512_S8192x512_S8192x1024_d1) bitsLt_bf16_f32) (extf (F := Ideal) .f32 a2 bitsLt_bf16_f32)) : Vec Ideal S8192x1024 .f32) y
      = mixed (re2 a0) (re2 a1) (re2 a2) (re2 a3) (y 0).val (y 1).val := by
  pointwise []
  rw [← mixed_halves, add_assoc]
  refine congrArg₂ (· + ·) (re2_eq a3 y).symm (congrArg₂ (· + ·) ?_ ?_) <;>
    exact Finset.sum_congr rfl fun k _ => congrArg₂ (· * ·) (eq_re2 _ _ _ _ rfl rfl) (eq_re2 _ _ _ _ rfl rfl)

end Cert.OutProjRefIdeal.Value
end
-- ==== Proof.LastDownVal.lean ====
module

public import proofs.«01_k».proof.Proof.Gen.LastDownIdeal.Frame
public import proofs.«01_k».proof.Proof.Gen.LastDownIdeal.Value
public import proofs.«01_k».proof.Proof.Gen.LastDownRefIdeal.Run
public import proofs.«01_k».proof.Proof.DownVal

@[expose] public section

/-! # The second layer's down projection with the residual -/

set_option maxRecDepth 16384
noncomputable section
open Idealize.ShloMosaic Idealize.ShloMosaic.TcCoe Idealize.SL.Sem

namespace Cert.LastDownIdeal.Value
open Idealize.ShloMosaic.Pipeline (Dat)
open Cert.LastDownIdeal Cert.LastDownIdeal.Gen Cert.Model

variable (m : (ℓ : Loc nD τ sig) → Buf (Elt Ideal) ℓ) (c : Dev nD)

/-- The activations. -/
abbrev A : Vec Ideal S8192x2816 .bf16 := m ((c : Thread nD τ).loc main_arg0)
/-- The down weights. -/
abbrev W : Vec Ideal S2816x1024 .bf16 := m ((c : Thread nD τ).loc main_arg1)
/-- The rows before the layer. -/
abbrev H : Vec Ideal S8192x1024 .f32 := m ((c : Thread nD τ).loc main_arg2)

/-- Where each window's block lies. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The activations, block by block. -/
theorem hb0 (t : Fin cfg0.N) (y : S1024x2816.Idx) : (iblk m c 0 t : Vec Ideal S1024x2816 .bf16) y = re2 (A m c) (1024 * t.val + (y 0).val) (y 1).val := by
  blk_simp [iblk, V, idx t]
  refine eq_re2 (A m c) _ _ _ ?_ ?_ <;> blk_simp [idx t] <;> omega
/-- The weights, whole at every step. -/
theorem hb1 (t : Fin cfg0.N) (y : S2816x1024.Idx) : (iblk m c 1 t : Vec Ideal S2816x1024 .bf16) y = re2 (W m c) (y 0).val (y 1).val := by
  blk_simp [iblk, V, idx t]
  refine eq_re2 (W m c) _ _ _ ?_ ?_ <;> blk_simp [idx t]
/-- The rows before the layer, block by block. -/
theorem hb2 (t : Fin cfg0.N) (y : S1024x1024.Idx) : (iblk m c 2 t : Vec Ideal S1024x1024 .f32) y = re2 (H m c) (1024 * t.val + (y 0).val) (y 1).val := by
  blk_simp [iblk, V, idx t]
  refine eq_re2 (H m c) _ _ _ ?_ ?_ <;> blk_simp [idx t] <;> omega

/-- The call's result. -/
theorem arr3 : (dats m 0 c).arrAt 3 cfg0.N = ((fun y => ho (re2 (A m c)) (re2 (W m c)) (re2 (H m c)) (y 0).val (y 1).val) : Vec Ideal S8192x1024 .f32) := by
  refine (dats m 0 c).arrAt_eq_of_covers 3 _ (by decide +kernel) fun t _ y => ?_
  blk_simp
  rw [after0_3]
  frame_out [out0_3]
  pointwise [k0_pay1, hb0, hb1, hb2]
  blk_simp [idx t]
  rw [Nat.mul_comm 1024]
  rfl

end Cert.LastDownIdeal.Value
end
-- ==== Proof.Mixers.lean ====
/- The calls of the mixers' projections: the references' frames, and each kernel's values equal to its reference's. -/
module

public import proofs.«01_k».proof.Defs
public import proofs.«01_k».proof.Proof.Gen.OdInBack
public import proofs.«01_k».proof.Proof.Gen.OdInBackIdeal
public import proofs.«01_k».proof.Proof.Gen.OdInBackRefIdeal
public import proofs.«01_k».proof.Proof.Gen.EvInBack
public import proofs.«01_k».proof.Proof.Gen.EvInBackIdeal
public import proofs.«01_k».proof.Proof.Gen.EvInBackRefIdeal
public import proofs.«01_k».proof.Proof.Gen.OdInWeight
public import proofs.«01_k».proof.Proof.Gen.OdInWeightIdeal
public import proofs.«01_k».proof.Proof.Gen.OdInWeightRefIdeal
public import proofs.«01_k».proof.Proof.Gen.EvInWeight
public import proofs.«01_k».proof.Proof.Gen.EvInWeightIdeal
public import proofs.«01_k».proof.Proof.Gen.EvInWeightRefIdeal
public import proofs.«01_k».proof.Proof.Gen.OutWeight
public import proofs.«01_k».proof.Proof.Gen.OutWeightIdeal
public import proofs.«01_k».proof.Proof.Gen.OutWeightRefIdeal
public import proofs.«01_k».proof.Proof.Gen.OutBack
public import proofs.«01_k».proof.Proof.Gen.OutBackIdeal
public import proofs.«01_k».proof.Proof.Gen.OutBackRefIdeal
public import proofs.«01_k».proof.Proof.Gen.OdOutBack
public import proofs.«01_k».proof.Proof.Gen.OdOutBackIdeal
public import proofs.«01_k».proof.Proof.Gen.OdOutBackRefIdeal
public import proofs.«01_k».proof.Proof.Gen.OutProj
public import proofs.«01_k».proof.Proof.Gen.OutProjIdeal
public import proofs.«01_k».proof.Proof.Gen.OutProjRefIdeal
public import proofs.«01_k».proof.Proof.Gen.LastDown
public import proofs.«01_k».proof.Proof.Gen.LastDownIdeal
public import proofs.«01_k».proof.Proof.Gen.LastDownRefIdeal
public import proofs.«01_k».proof.Proof.OdInBackVal
public import proofs.«01_k».proof.Proof.EvInBackVal
public import proofs.«01_k».proof.Proof.OdInWeightVal
public import proofs.«01_k».proof.Proof.EvInWeightVal
public import proofs.«01_k».proof.Proof.OutWeightVal
public import proofs.«01_k».proof.Proof.OutBackVal
public import proofs.«01_k».proof.Proof.OdOutBackVal
public import proofs.«01_k».proof.Proof.OutProjVal
public import proofs.«01_k».proof.Proof.LastDownVal

@[expose] public section

set_option maxRecDepth 16384

noncomputable section

namespace Cert.Proof

open Idealize.ShloMosaic Idealize.ShloMosaic.TcCoe Idealize.SL.Sem Cert.Model

/-- The gradient of the odd layer's input through its input projection and the norm: the reference runs and keeps its arguments. -/
theorem frame_OdInBack : Cert.quiescent_OdInBackRefIdeal := by
  intro m ρ _
  exact (θ_run Cert.OdInBackRefIdeal.defs _ _).mono (fun r h => ⟨fun c => (h c).2.2, sem_eq_zero_of_no_sems (by decide) r.2⟩)
    (Cert.OdInBackRefIdeal.Value.run (F := Ideal) m ρ)

/-- The gradient of the odd layer's input through its input projection and the norm: kernel and reference compute the same. -/
theorem value_OdInBack : Cert.algebraic_OdInBackIdeal_OdInBackRefIdeal := by
  intro m g m' g' h ha
  refine ⟨fun c => ((fun y => Cert.OdInBackIdeal.Value.dX m c (y 0).val (y 1).val) : Vec Ideal Cert.OdInBackIdeal.S8192x1024 .f32),
    fun c => ((fun y => if (y 0).val = 0 then ∑ r : Fin 8192, dgain (Cert.OdInBackIdeal.Value.dN m c) (re2 (Cert.OdInBackIdeal.Value.H m c)) r.val (y 1).val else 0) : Vec Ideal Cert.OdInBackIdeal.S8x1024 .f32), ?_, ?_⟩
  · refine (θ_run Cert.OdInBackIdeal.defs _ _).mono (fun r hr c => ?_) (Cert.OdInBackIdeal.Value.run_blocks (F := Ideal) m g)
    obtain ⟨h0, h1, hk⟩ := hr c
    exact ⟨h0.trans (Cert.OdInBackIdeal.Value.arr5 m c), h1.trans (Cert.OdInBackIdeal.Value.arr6 m c), hk⟩
  · refine (θ_run Cert.OdInBackRefIdeal.defs _ _).mono (fun r hr c => ?_) (Cert.OdInBackRefIdeal.Value.run (F := Ideal) m' g')
    obtain ⟨h0, h1, hk⟩ := hr c
    obtain ⟨a0, a1, a2, a3, a4⟩ := ha c
    unfold Cert.OdInBackRefIdeal.Value.res_main_v38 at h0
    simp only [a0, a1, a2, a3, a4] at h0 h1
    exact ⟨h0.trans (funext fun y => Cert.UpBackRefIdeal.Value.ref1 (Cert.OdInBackIdeal.Value.H m c) (Cert.OdInBackIdeal.Value.G m c) (Cert.OdInBackIdeal.Value.DH m c) _ (Cert.OdInBackIdeal.Value.dN m c) (Cert.OdInBackRefIdeal.Value.dn_eq (Cert.OdInBackIdeal.Value.A m c) (Cert.OdInBackIdeal.Value.W m c)) y),
      h1.trans (funext fun y => Cert.UpBackRefIdeal.Value.ref2 (Cert.OdInBackIdeal.Value.H m c) _ (Cert.OdInBackIdeal.Value.dN m c) (Cert.OdInBackRefIdeal.Value.dn_eq (Cert.OdInBackIdeal.Value.A m c) (Cert.OdInBackIdeal.Value.W m c)) y), hk⟩

/-- The gradient of the even layer's input through its input projection and the norm: the reference runs and keeps its arguments. -/
theorem frame_EvInBack : Cert.quiescent_EvInBackRefIdeal := by
  intro m ρ _
  exact (θ_run Cert.EvInBackRefIdeal.defs _ _).mono (fun r h => ⟨fun c => (h c).2.2, sem_eq_zero_of_no_sems (by decide) r.2⟩)
    (Cert.EvInBackRefIdeal.Value.run (F := Ideal) m ρ)

/-- The gradient of the even layer's input through its input projection and the norm: kernel and reference compute the same. -/
theorem value_EvInBack : Cert.algebraic_EvInBackIdeal_EvInBackRefIdeal := by
  intro m g m' g' h ha
  refine ⟨fun c => ((fun y => Cert.EvInBackIdeal.Value.dX m c (y 0).val (y 1).val) : Vec Ideal Cert.EvInBackIdeal.S8192x1024 .f32),
    fun c => ((fun y => if (y 0).val = 0 then ∑ r : Fin 8192, dgain (Cert.EvInBackIdeal.Value.dN m c) (re2 (Cert.EvInBackIdeal.Value.H m c)) r.val (y 1).val else 0) : Vec Ideal Cert.EvInBackIdeal.S8x1024 .f32), ?_, ?_⟩
  · refine (θ_run Cert.EvInBackIdeal.defs _ _).mono (fun r hr c => ?_) (Cert.EvInBackIdeal.Value.run_blocks (F := Ideal) m g)
    obtain ⟨h0, h1, hk⟩ := hr c
    exact ⟨h0.trans (Cert.EvInBackIdeal.Value.arr5 m c), h1.trans (Cert.EvInBackIdeal.Value.arr6 m c), hk⟩
  · refine (θ_run Cert.EvInBackRefIdeal.defs _ _).mono (fun r hr c => ?_) (Cert.EvInBackRefIdeal.Value.run (F := Ideal) m' g')
    obtain ⟨h0, h1, hk⟩ := hr c
    obtain ⟨a0, a1, a2, a3, a4⟩ := ha c
    unfold Cert.EvInBackRefIdeal.Value.res_main_v38 at h0
    simp only [a0, a1, a2, a3, a4] at h0 h1
    exact ⟨h0.trans (funext fun y => Cert.UpBackRefIdeal.Value.ref1 (Cert.EvInBackIdeal.Value.H m c) (Cert.EvInBackIdeal.Value.G m c) (Cert.EvInBackIdeal.Value.DH m c) _ (Cert.EvInBackIdeal.Value.dN m c) (Cert.EvInBackRefIdeal.Value.dn_eq (Cert.EvInBackIdeal.Value.A m c) (Cert.EvInBackIdeal.Value.W m c)) y),
      h1.trans (funext fun y => Cert.UpBackRefIdeal.Value.ref2 (Cert.EvInBackIdeal.Value.H m c) _ (Cert.EvInBackIdeal.Value.dN m c) (Cert.EvInBackRefIdeal.Value.dn_eq (Cert.EvInBackIdeal.Value.A m c) (Cert.EvInBackIdeal.Value.W m c)) y), hk⟩

/-- The gradient of the odd layer's input projection: the reference runs and keeps its arguments. -/
theorem frame_OdInWeight : Cert.quiescent_OdInWeightRefIdeal := by
  intro m ρ _
  exact (θ_run Cert.OdInWeightRefIdeal.defs _ _).mono (fun r h => ⟨fun c => (h c).2, sem_eq_zero_of_no_sems (by decide) r.2⟩)
    (Cert.OdInWeightRefIdeal.Value.run (F := Ideal) m ρ)

/-- The gradient of the odd layer's input projection: kernel and reference compute the same. -/
theorem value_OdInWeight : Cert.algebraic_OdInWeightIdeal_OdInWeightRefIdeal := by
  intro m g m' g' h ha
  refine ⟨fun c => ((fun y => colsCols 8192 (re2 (Cert.OdInWeightIdeal.Value.A m c)) (re2 (Cert.OdInWeightIdeal.Value.D m c)) (y 0).val (y 1).val) : Vec Ideal Cert.OdInWeightIdeal.S1024x2560 .bf16), ?_, ?_⟩
  · refine (θ_run Cert.OdInWeightIdeal.defs _ _).mono (fun r hr c => ?_) (Cert.OdInWeightIdeal.Value.run_blocks (F := Ideal) m g)
    obtain ⟨h0, hk⟩ := hr c
    exact ⟨h0.trans (Cert.OdInWeightIdeal.Value.arr2 m c), hk⟩
  · refine (θ_run Cert.OdInWeightRefIdeal.defs _ _).mono (fun r hr c => ?_) (Cert.OdInWeightRefIdeal.Value.run (F := Ideal) m' g')
    obtain ⟨h0, hk⟩ := hr c
    obtain ⟨a0, a1⟩ := ha c
    simp only [a0, a1] at h0
    exact ⟨h0.trans (funext fun y => Cert.OdInWeightRefIdeal.Value.ref (Cert.OdInWeightIdeal.Value.A m c) (Cert.OdInWeightIdeal.Value.D m c) y), hk⟩

/-- The gradient of the even layer's input projection: the reference runs and keeps its arguments. -/
theorem frame_EvInWeight : Cert.quiescent_EvInWeightRefIdeal := by
  intro m ρ _
  exact (θ_run Cert.EvInWeightRefIdeal.defs _ _).mono (fun r h => ⟨fun c => (h c).2, sem_eq_zero_of_no_sems (by decide) r.2⟩)
    (Cert.EvInWeightRefIdeal.Value.run (F := Ideal) m ρ)

/-- The gradient of the even layer's input projection: kernel and reference compute the same. -/
theorem value_EvInWeight : Cert.algebraic_EvInWeightIdeal_EvInWeightRefIdeal := by
  intro m g m' g' h ha
  refine ⟨fun c => ((fun y => colsCols 8192 (re2 (Cert.EvInWeightIdeal.Value.A m c)) (re2 (Cert.EvInWeightIdeal.Value.D m c)) (y 0).val (y 1).val) : Vec Ideal Cert.EvInWeightIdeal.S1024x1792 .bf16), ?_, ?_⟩
  · refine (θ_run Cert.EvInWeightIdeal.defs _ _).mono (fun r hr c => ?_) (Cert.EvInWeightIdeal.Value.run_blocks (F := Ideal) m g)
    obtain ⟨h0, hk⟩ := hr c
    exact ⟨h0.trans (Cert.EvInWeightIdeal.Value.arr2 m c), hk⟩
  · refine (θ_run Cert.EvInWeightRefIdeal.defs _ _).mono (fun r hr c => ?_) (Cert.EvInWeightRefIdeal.Value.run (F := Ideal) m' g')
    obtain ⟨h0, hk⟩ := hr c
    obtain ⟨a0, a1⟩ := ha c
    simp only [a0, a1] at h0
    exact ⟨h0.trans (funext fun y => Cert.EvInWeightRefIdeal.Value.ref (Cert.EvInWeightIdeal.Value.A m c) (Cert.EvInWeightIdeal.Value.D m c) y), hk⟩

/-- The gradient of one part of an output projection: the reference runs and keeps its arguments. -/
theorem frame_OutWeight : Cert.quiescent_OutWeightRefIdeal := by
  intro m ρ _
  exact (θ_run Cert.OutWeightRefIdeal.defs _ _).mono (fun r h => ⟨fun c => (h c).2, sem_eq_zero_of_no_sems (by decide) r.2⟩)
    (Cert.OutWeightRefIdeal.Value.run (F := Ideal) m ρ)

/-- The gradient of one part of an output projection: kernel and reference compute the same. -/
theorem value_OutWeight : Cert.algebraic_OutWeightIdeal_OutWeightRefIdeal := by
  intro m g m' g' h ha
  refine ⟨fun c => ((fun y => colsCols 8192 (re2 (Cert.OutWeightIdeal.Value.A m c)) (re2 (Cert.OutWeightIdeal.Value.D m c)) (y 0).val (y 1).val) : Vec Ideal Cert.OutWeightIdeal.S512x1024 .bf16), ?_, ?_⟩
  · refine (θ_run Cert.OutWeightIdeal.defs _ _).mono (fun r hr c => ?_) (Cert.OutWeightIdeal.Value.run_blocks (F := Ideal) m g)
    obtain ⟨h0, hk⟩ := hr c
    exact ⟨h0.trans (Cert.OutWeightIdeal.Value.arr2 m c), hk⟩
  · refine (θ_run Cert.OutWeightRefIdeal.defs _ _).mono (fun r hr c => ?_) (Cert.OutWeightRefIdeal.Value.run (F := Ideal) m' g')
    obtain ⟨h0, hk⟩ := hr c
    obtain ⟨a0, a1⟩ := ha c
    simp only [a0, a1] at h0
    exact ⟨h0.trans (funext fun y => Cert.OutWeightRefIdeal.Value.ref (Cert.OutWeightIdeal.Value.A m c) (Cert.OutWeightIdeal.Value.D m c) y), hk⟩

/-- The gradient of the even layer's mixers' results: the reference runs and keeps its arguments. -/
theorem frame_OutBack : Cert.quiescent_OutBackRefIdeal := by
  intro m ρ _
  exact (θ_run Cert.OutBackRefIdeal.defs _ _).mono (fun r h => ⟨fun c => (h c).2, sem_eq_zero_of_no_sems (by decide) r.2⟩)
    (Cert.OutBackRefIdeal.Value.run (F := Ideal) m ρ)

/-- The gradient of the even layer's mixers' results: kernel and reference compute the same. -/
theorem value_OutBack : Cert.algebraic_OutBackIdeal_OutBackRefIdeal := by
  intro m g m' g' h ha
  refine ⟨fun c => ((fun y => rowsRows 1024 (re2 (Cert.OutBackIdeal.Value.D m c)) (re2 (Cert.OutBackIdeal.Value.W m c)) (y 0).val (y 1).val) : Vec Ideal Cert.OutBackIdeal.S8192x1024 .bf16), ?_, ?_⟩
  · refine (θ_run Cert.OutBackIdeal.defs _ _).mono (fun r hr c => ?_) (Cert.OutBackIdeal.Value.run_blocks (F := Ideal) m g)
    obtain ⟨h0, hk⟩ := hr c
    exact ⟨h0.trans (Cert.OutBackIdeal.Value.arr2 m c), hk⟩
  · refine (θ_run Cert.OutBackRefIdeal.defs _ _).mono (fun r hr c => ?_) (Cert.OutBackRefIdeal.Value.run (F := Ideal) m' g')
    obtain ⟨h0, hk⟩ := hr c
    obtain ⟨a0, a1⟩ := ha c
    simp only [a0, a1] at h0
    exact ⟨h0.trans (funext fun y => Cert.OutBackRefIdeal.Value.ref (Cert.OutBackIdeal.Value.D m c) (Cert.OutBackIdeal.Value.W m c) y), hk⟩

/-- The gradient of the odd layer's mixers' results, and its first half folded: the reference runs and keeps its arguments. -/
theorem frame_OdOutBack : Cert.quiescent_OdOutBackRefIdeal := by
  intro m ρ _
  exact (θ_run Cert.OdOutBackRefIdeal.defs _ _).mono (fun r h => ⟨fun c => (h c).2.2.2, sem_eq_zero_of_no_sems (by decide) r.2⟩)
    (Cert.OdOutBackRefIdeal.Value.run (F := Ideal) m ρ)

/-- The gradient of the odd layer's mixers' results, and its first half folded: kernel and reference compute the same. -/
theorem value_OdOutBack : Cert.algebraic_OdOutBackIdeal_OdOutBackRefIdeal := by
  intro m g m' g' h ha
  refine ⟨fun c => ((fun y => Cert.OdOutBackIdeal.Value.dM m c (y 0).val (y 1).val) : Vec Ideal Cert.OdOutBackIdeal.S8192x1024 .bf16),
    fun c => ((fun y => Cert.OdOutBackIdeal.Value.dM m c (4 * (y 0).val + (y 1).val / 512) ((y 1).val % 512)) : Vec Ideal Cert.OdOutBackIdeal.S2048x2048 .bf16),
    fun c => ((fun y => Cert.OdOutBackIdeal.Value.dM m c (16 * (y 0).val + (y 1).val / 512) ((y 1).val % 512)) : Vec Ideal Cert.OdOutBackIdeal.S512x8192 .bf16), ?_, ?_⟩
  · refine (θ_run Cert.OdOutBackIdeal.defs _ _).mono (fun r hr c => ?_) (Cert.OdOutBackIdeal.Value.run_blocks (F := Ideal) m g)
    obtain ⟨h0, h1, h2, hk⟩ := hr c
    exact ⟨h0.trans (Cert.OdOutBackIdeal.Value.arr2 m c), h1.trans (Cert.OdOutBackIdeal.Value.arr3 m c), h2.trans (Cert.OdOutBackIdeal.Value.arr4 m c), hk⟩
  · refine (θ_run Cert.OdOutBackRefIdeal.defs _ _).mono (fun r hr c => ?_) (Cert.OdOutBackRefIdeal.Value.run (F := Ideal) m' g')
    obtain ⟨h0, h1, h2, hk⟩ := hr c
    obtain ⟨a0, a1⟩ := ha c
    simp only [a0, a1] at h0 h1 h2
    exact ⟨h0.trans (funext fun y => Cert.OutBackRefIdeal.Value.ref (Cert.OdOutBackIdeal.Value.D m c) (Cert.OdOutBackIdeal.Value.W m c) y),
      h1.trans (funext fun y => Cert.OdOutBackRefIdeal.Value.ref4 _ (Cert.OdOutBackIdeal.Value.dM m c) (Cert.OutBackRefIdeal.Value.ref (Cert.OdOutBackIdeal.Value.D m c) (Cert.OdOutBackIdeal.Value.W m c)) y),
      h2.trans (funext fun y => Cert.OdOutBackRefIdeal.Value.ref16 _ (Cert.OdOutBackIdeal.Value.dM m c) (Cert.OutBackRefIdeal.Value.ref (Cert.OdOutBackIdeal.Value.D m c) (Cert.OdOutBackIdeal.Value.W m c)) y), hk⟩

/-- Both mixers' output projection with the residual, and the next norm: the reference runs and keeps its arguments. -/
theorem frame_OutProj : Cert.quiescent_OutProjRefIdeal := by
  intro m ρ _
  exact (θ_run Cert.OutProjRefIdeal.defs _ _).mono (fun r h => ⟨fun c => (h c).2.2, sem_eq_zero_of_no_sems (by decide) r.2⟩)
    (Cert.OutProjRefIdeal.Value.run (F := Ideal) m ρ)

/-- Both mixers' output projection with the residual, and the next norm: kernel and reference compute the same. -/
theorem value_OutProj : Cert.algebraic_OutProjIdeal_OutProjRefIdeal := by
  intro m g m' g' h ha
  refine ⟨fun c => ((fun y => Cert.OutProjIdeal.Value.X m c (y 0).val (y 1).val) : Vec Ideal Cert.OutProjIdeal.S8192x1024 .f32),
    fun c => ((fun y => no (Cert.OutProjIdeal.Value.X m c) (re2 (Cert.OutProjIdeal.Value.G m c) 0) (y 0).val (y 1).val) : Vec Ideal Cert.OutProjIdeal.S8192x1024 .bf16), ?_, ?_⟩
  · refine (θ_run Cert.OutProjIdeal.defs _ _).mono (fun r hr c => ?_) (Cert.OutProjIdeal.Value.run_blocks (F := Ideal) m g)
    obtain ⟨h0, h1, hk⟩ := hr c
    exact ⟨h0.trans (Cert.OutProjIdeal.Value.arr5 m c), h1.trans (Cert.OutProjIdeal.Value.arr6 m c), hk⟩
  · refine (θ_run Cert.OutProjRefIdeal.defs _ _).mono (fun r hr c => ?_) (Cert.OutProjRefIdeal.Value.run (F := Ideal) m' g')
    obtain ⟨h0, h1, hk⟩ := hr c
    obtain ⟨a0, a1, a2, a3, a4⟩ := ha c
    simp only [a2, a3, a4] at h0 h1
    have hx := Cert.OutProjRefIdeal.Value.ref (m' ((c.tc : Thread Cert.OutProjRefIdeal.nD Cert.OutProjRefIdeal.τ).loc Cert.OutProjRefIdeal.main_arg0))
      (m' ((c.tc : Thread Cert.OutProjRefIdeal.nD Cert.OutProjRefIdeal.τ).loc Cert.OutProjRefIdeal.main_arg1)) (Cert.OutProjIdeal.Value.W m c) (Cert.OutProjIdeal.Value.H m c)
    have e0 : re2 (m' ((c.tc : Thread Cert.OutProjRefIdeal.nD Cert.OutProjRefIdeal.τ).loc Cert.OutProjRefIdeal.main_arg0)) = re2 (Cert.OutProjIdeal.Value.A m c) := congrArg re2 a0
    have e1 : re2 (m' ((c.tc : Thread Cert.OutProjRefIdeal.nD Cert.OutProjRefIdeal.τ).loc Cert.OutProjRefIdeal.main_arg1)) = re2 (Cert.OutProjIdeal.Value.B m c) := congrArg re2 a1
    simp only [e0, e1] at hx
    exact ⟨h0.trans (funext hx), h1.trans (funext fun y => Cert.DownRefIdeal.Value.ref2 _ (Cert.OutProjIdeal.Value.X m c) hx (Cert.OutProjIdeal.Value.G m c) y), hk⟩

/-- The second layer's down projection with the residual: the reference runs and keeps its arguments. -/
theorem frame_LastDown : Cert.quiescent_LastDownRefIdeal := by
  intro m ρ _
  exact (θ_run Cert.LastDownRefIdeal.defs _ _).mono (fun r h => ⟨fun c => (h c).2, sem_eq_zero_of_no_sems (by decide) r.2⟩)
    (Cert.LastDownRefIdeal.Value.run (F := Ideal) m ρ)

/-- The second layer's down projection with the residual: kernel and reference compute the same. -/
theorem value_LastDown : Cert.algebraic_LastDownIdeal_LastDownRefIdeal := by
  intro m g m' g' h ha
  refine ⟨fun c => ((fun y => ho (re2 (Cert.LastDownIdeal.Value.A m c)) (re2 (Cert.LastDownIdeal.Value.W m c)) (re2 (Cert.LastDownIdeal.Value.H m c)) (y 0).val (y 1).val) : Vec Ideal Cert.LastDownIdeal.S8192x1024 .f32), ?_, ?_⟩
  · refine (θ_run Cert.LastDownIdeal.defs _ _).mono (fun r hr c => ?_) (Cert.LastDownIdeal.Value.run_blocks (F := Ideal) m g)
    obtain ⟨h0, hk⟩ := hr c
    exact ⟨h0.trans (Cert.LastDownIdeal.Value.arr3 m c), hk⟩
  · refine (θ_run Cert.LastDownRefIdeal.defs _ _).mono (fun r hr c => ?_) (Cert.LastDownRefIdeal.Value.run (F := Ideal) m' g')
    obtain ⟨h0, hk⟩ := hr c
    obtain ⟨a0, a1, a2⟩ := ha c
    simp only [a0, a1, a2] at h0
    exact ⟨h0.trans (funext fun y => Cert.DownRefIdeal.Value.ref1 (Cert.LastDownIdeal.Value.A m c) (Cert.LastDownIdeal.Value.W m c) (Cert.LastDownIdeal.Value.H m c) y), hk⟩

end Cert.Proof

end
-- ==== Proof.InTables.lean ====
module

public import proofs.«01_k».proof.Proof.Gen.EvInProjIdeal.Frame
public import proofs.«01_k».proof.Proof.Gen.EvInProjIdeal.Value
public import proofs.«01_k».proof.Proof.Arrays
public import Idealize.ShloMosaic.Lib.Pipeline.ValueKit
public import Idealize.ShloMosaic.Lib.StableHlo.Run

@[expose] public section

set_option maxRecDepth 16384
noncomputable section
open Idealize.ShloMosaic Idealize.ShloMosaic.TcCoe Idealize.SL.Sem
namespace Cert.Model

/-- Each head's first sixteen entries turned, the first eight against the next eight, by the angles' cosines and sines. -/
def turn (P C S : ℕ → ℕ → EReal) (r j : ℕ) : EReal :=
  if j % 64 < 8 then P r j * C r (j % 64) - P r (j + 8) * S r (j % 64)
  else if j % 64 < 16 then P r j * C r (j % 64 - 8) + P r (j - 8) * S r (j % 64 - 8)
  else P r j

end Cert.Model

namespace Cert.EvInProjIdeal.Value
open Idealize.ShloMosaic.Pipeline (Dat)
open Cert.EvInProjIdeal Cert.EvInProjIdeal.Gen

/-- The angle of each position and each of the eight frequencies, as the kernel computes it. -/
def angle : Vec Ideal S8192x8 .f32 :=
  mulf (F := Ideal) (φ := .f32)
    (broadcastInDim S8192x8 ![0, 1] bcast_S8192x1_S8192x8_0_1
      (broadcastInDim S8192x1 ![0] bcast_S8192_S8192x1_0 (sitofp (F := Ideal) .f32 (iotaInDim S8192 32 0))))
    (broadcastInDim S8192x8 ![0, 1] bcast_S1x8_S8192x8_0_1
      (broadcastInDim S1x8 ![1] bcast_S8_S1x8_1
        (Host.powf (F := Ideal) (φ := .f32)
          (broadcastInDim S8 ![] bcast_S_S8 (constant (F := Ideal) S_ .f32 1223959552#32))
          (mulf (F := Ideal) (φ := .f32) (Host.negf (F := Ideal) (φ := .f32) (sitofp (F := Ideal) .f32 (iotaInDim S8 32 0)))
            (broadcastInDim S8 ![] bcast_S_S8 (constant (F := Ideal) S_ .f32 1040187392#32))))))

/-- The remainder of a lane's word by `k`, with the sign corrections that the remainder of signed words carries. -/
def wordRem (x : IVec S128 32) (k : IVec S_ 32) : IVec S128 32 :=
  have q : IVec S_ 32 := select (cmpi .eq (id k) (constantI S_ 32 0#32)) (constantI S_ 32 1#32) (id k)
  have r : IVec S128 32 := Host.remsi x (broadcastInDim S128 ![] bcast_S_S128 q)
  select
    (andi
      (cmpi .ne (cmpi .slt r (broadcastInDim S128 ![] bcast_S_S128 (constantI S_ 32 0#32)))
        (broadcastInDim S128 ![] bcast_S_S128 (cmpi .slt q (constantI S_ 32 0#32))))
      (cmpi .ne r (broadcastInDim S128 ![] bcast_S_S128 (constantI S_ 32 0#32))))
    (addi r (broadcastInDim S128 ![] bcast_S_S128 q)) r

/-- The lane within its head, of sixty-four lanes. -/
def headLane : IVec S128 32 := wordRem (iotaInDim S128 32 0) (constantI S_ 32 64#32)
/-- The frequency of each lane. -/
def laneFreq : IVec S128 32 := wordRem headLane (constantI S_ 32 8#32)
/-- The column of the angles' table that each lane reads. -/
def laneCol : IVec S128x1 32 :=
  broadcastInDim S128x1 ![0] bcast_S128_S128x1_0
    (select (cmpi .slt laneFreq (broadcastInDim S128 ![] bcast_S_S128 (constantI S_ 32 0#32)))
      (addi laneFreq (broadcastInDim S128 ![] bcast_S_S128 (constantI S_ 32 8#32))) laneFreq)

/-- Whether a lane's place in its head is below `k`. -/
def laneBelow (k : BitVec 32) : IVec S1x128 1 :=
  cmpi .slt (broadcastInDim S1x128 ![1] bcast_S128_S1x128_1 headLane)
    (broadcastInDim S1x128 ![] bcast_S_S1x128 (constantI S_ 32 k))
/-- Whether a lane's place in its head is at least `k`. -/
def laneFrom (k : BitVec 32) : IVec S1x128 1 :=
  cmpi .sge (broadcastInDim S1x128 ![1] bcast_S128_S1x128_1 headLane)
    (broadcastInDim S1x128 ![] bcast_S_S1x128 (constantI S_ 32 k))

/-- A table that reads `t` on the lanes of the mask and a constant elsewhere. -/
def masked (b : IVec S1x128 1) (t : Vec Ideal S8192x128 .f32) (k : BitVec 32) : Vec Ideal S8192x128 .f32 :=
  select (broadcastInDim S8192x128 ![0, 1] bcast_S1x128_S8192x128_0_1 b) t
    (broadcastInDim S8192x128 ![] bcast_S_S8192x128 (id (constant (F := Ideal) S_ .f32 k)))

/-- Each lane's column of a table over the eight frequencies. -/
def spread (t : Vec Ideal S8192x8 .f32) : Vec Ideal S8192x128 .f32 :=
  Host.gather gather_S8192x8_S128x1_S8192x128_0_1_n_n_1_1_81921 t laneCol

/-- The table that the value itself is multiplied by. -/
def tabC : Vec Ideal S8192x128 .f32 := masked (laneBelow 16#32) (spread (Host.cos (F := Ideal) (φ := .f32) angle)) 0x3F800000#32
/-- The table that the value eight lanes on is multiplied by. -/
def tabA : Vec Ideal S8192x128 .f32 := masked (laneBelow 8#32) (Host.negf (F := Ideal) (φ := .f32) (spread (Host.sin (F := Ideal) (φ := .f32) angle))) 0#32
/-- The table that the value eight lanes back is multiplied by. -/
def tabB : Vec Ideal S8192x128 .f32 :=
  masked (andi (laneFrom 8#32) (laneBelow 16#32)) (spread (Host.sin (F := Ideal) (φ := .f32) angle)) 0#32

variable (m : (ℓ : Loc nD τ sig) → Buf (Elt Ideal) ℓ) (c : Dev nD)

set_option maxHeartbeats 4000000 in
/-- The first table of the run. -/
theorem V_c : V (F := Ideal) m c main_v28 = tabC := by
  simp only [V, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  try simp only [StableHlo.TRef.toBuf, StableHlo.TRef.ofBuf, cast_eq]
  rfl

set_option maxHeartbeats 4000000 in
/-- The second table of the run. -/
theorem V_a : V (F := Ideal) m c main_v40 = tabA := by
  simp only [V, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  try simp only [StableHlo.TRef.toBuf, StableHlo.TRef.ofBuf, cast_eq]
  rfl

set_option maxHeartbeats 4000000 in
/-- The third table of the run. -/
theorem V_b : V (F := Ideal) m c main_v55 = tabB := by
  simp only [V, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  try simp only [StableHlo.TRef.toBuf, StableHlo.TRef.ofBuf, cast_eq]
  rfl

/-- Every lane reads the column of its frequency: its place in its head, modulo eight. -/
theorem laneCol_eq : ∀ l : Fin 128, laneCol (ValueIdx.ix2 l 0) = BitVec.ofNat 32 (l.val % 64 % 8) := by
  decide +kernel

/-- The mask of the lanes whose place in their head is below sixteen. -/
theorem below16 : ∀ l : Fin 128, laneBelow 16#32 (ValueIdx.ix2 0 l) = if l.val % 64 < 16 then 1#1 else 0#1 := by
  decide +kernel
/-- The mask of the lanes whose place in their head is below eight. -/
theorem below8 : ∀ l : Fin 128, laneBelow 8#32 (ValueIdx.ix2 0 l) = if l.val % 64 < 8 then 1#1 else 0#1 := by
  decide +kernel
/-- The mask of the lanes whose place in their head is at least eight. -/
theorem from8 : ∀ l : Fin 128, laneFrom 8#32 (ValueIdx.ix2 0 l) = if l.val % 64 < 8 then 0#1 else 1#1 := by
  decide +kernel

/-- A lane of a spread table is the table's column of that lane's frequency. -/
theorem spread_apply (t : Vec Ideal S8192x8 .f32) (r : Fin 8192) (l : Fin 128) :
    spread t (ValueIdx.ix2 r l)
      = t (ValueIdx.ix2 r ⟨l.val % 64 % 8, Nat.mod_lt _ (by norm_num)⟩) := by
  unfold spread Host.gather
  congr 1
  funext a
  apply Fin.ext
  unfold GatherDims.operandIdx
  match a with
  | ⟨0, h⟩ =>
    show GatherDims.start _ _ _ _ + GatherDims.batchCoord _ _ _ + GatherDims.offCoord _ _ _ = r.val
    have h1 : GatherDims.start gather_S8192x8_S128x1_S8192x128_0_1_n_n_1_1_81921 (ValueIdx.ix2 r l) laneCol ⟨0, h⟩ = 0 := rfl
    have h2 : GatherDims.batchCoord gather_S8192x8_S128x1_S8192x128_0_1_n_n_1_1_81921 (ValueIdx.ix2 r l) ⟨0, h⟩ = 0 := rfl
    have h3 : GatherDims.offCoord gather_S8192x8_S128x1_S8192x128_0_1_n_n_1_1_81921 (ValueIdx.ix2 r l) ⟨0, h⟩ = r.val := rfl
    rw [h1, h2, h3]
    omega
  | ⟨1, h⟩ =>
    have h4 : ∀ q, gather_S8192x8_S128x1_S8192x128_0_1_n_n_1_1_81921.siIdx (ValueIdx.ix2 r l) q
        = ValueIdx.ix2 l 0 := by
      intro q
      have hq : q = ⟨0, by decide⟩ := Fin.ext (Nat.lt_one_iff.mp q.isLt)
      subst hq
      funext b
      match b with
      | ⟨0, _⟩ => rfl
      | ⟨1, _⟩ => rfl
    show min (laneCol (gather_S8192x8_S128x1_S8192x128_0_1_n_n_1_1_81921.siIdx (ValueIdx.ix2 r l) _)).toInt.toNat 7 + 0 + 0 = l.val % 64 % 8
    rw [h4, laneCol_eq]
    clear h4
    revert l
    decide +kernel

/-- The cosine of each position's angles. -/
abbrev cosT : ℕ → ℕ → EReal := Cert.Model.re2 (Host.cos (F := Ideal) (φ := .f32) angle)
/-- The sine of each position's angles. -/
abbrev sinT : ℕ → ℕ → EReal := Cert.Model.re2 (Host.sin (F := Ideal) (φ := .f32) angle)

/-- A masked table at an entry. -/
theorem masked_apply (b : IVec S1x128 1) (t : Vec Ideal S8192x128 .f32) (k : BitVec 32) (r : Fin 8192) (l : Fin 128) :
    masked b t k (ValueIdx.ix2 r l) = if b (ValueIdx.ix2 0 l) = 1#1 then t (ValueIdx.ix2 r l) else Ideal.ofBits .f32 k := by
  pointwise [masked]
  rfl

/-- The first table at an entry. -/
theorem tabC_apply (r : Fin 8192) (l : Fin 128) :
    tabC (ValueIdx.ix2 r l) = if l.val % 64 < 16 then cosT r.val (l.val % 64 % 8) else 1 := by
  unfold tabC
  rw [masked_apply, below16, spread_apply]
  by_cases h : l.val % 64 < 16
  · rw [if_pos h, if_pos rfl, if_pos h]
    exact Cert.Model.eq_re2 _ _ _ _ rfl rfl
  · rw [if_neg h, if_neg (by decide), if_neg h]
    exact Ideal.ofBits_one_f32
/-- The second table at an entry. -/
theorem tabA_apply (r : Fin 8192) (l : Fin 128) :
    tabA (ValueIdx.ix2 r l) = if l.val % 64 < 8 then -sinT r.val (l.val % 64 % 8) else 0 := by
  unfold tabA
  rw [masked_apply, below8]
  by_cases h : l.val % 64 < 8
  · rw [if_pos h, if_pos rfl, if_pos h]
    refine congrArg (fun x : EReal => -x) ((spread_apply _ _ _).trans ?_)
    exact Cert.Model.eq_re2 _ _ _ _ rfl rfl
  · rw [if_neg h, if_neg (by decide), if_neg h]
    exact Ideal.ofBits_zero_f32
/-- The third table at an entry. -/
theorem tabB_apply (r : Fin 8192) (l : Fin 128) :
    tabB (ValueIdx.ix2 r l) = if l.val % 64 < 8 then 0 else if l.val % 64 < 16 then sinT r.val (l.val % 64 % 8) else 0 := by
  unfold tabB
  rw [masked_apply, spread_apply]
  have e : (andi (laneFrom 8#32) (laneBelow 16#32)) (ValueIdx.ix2 0 l) = IntOp.andi (laneFrom 8#32 (ValueIdx.ix2 0 l)) (laneBelow 16#32 (ValueIdx.ix2 0 l)) := rfl
  rw [e, from8, below16]
  by_cases h : l.val % 64 < 8
  · rw [if_pos h, if_pos (show l.val % 64 < 16 by omega), if_pos h, if_neg (by decide)]
    exact Ideal.ofBits_zero_f32
  · rw [if_neg h, if_neg h]
    by_cases h' : l.val % 64 < 16
    · rw [if_pos h', if_pos h', if_pos (by decide)]
      exact Cert.Model.eq_re2 _ _ _ _ rfl rfl
    · rw [if_neg h', if_neg h', if_neg (by decide)]
      exact Ideal.ofBits_zero_f32

/-- A block of lanes turned by the tables, as the kernel writes it. -/
abbrev turned (v p q s : FVec Ideal S512x128 .f32) : FVec Ideal S512x128 .f32 :=
  addf (addf (mulf v p) (mulf (dynamicRotate 1 120#32 none v rotates_S512x128_d1) q)) (mulf (dynamicRotate 1 8#32 none v rotates_S512x128_d1) s)

/-- One entry of a turned block. -/
theorem turned_apply (v p q s : FVec Ideal S512x128 .f32) (P : ℕ → ℕ → EReal) (T g : ℕ) (y : S512x128.Idx)
    (hv : ∀ z : S512x128.Idx, v z = P (T + (z 0).val) (128 * g + (z 1).val)) (hR : T + (y 0).val < 8192)
    (hp : p y = Cert.Model.re2 tabC (T + (y 0).val) (y 1).val) (hq : q y = Cert.Model.re2 tabA (T + (y 0).val) (y 1).val)
    (hs : s y = Cert.Model.re2 tabB (T + (y 0).val) (y 1).val) :
    turned v p q s y = Cert.Model.turn P cosT sinT (T + (y 0).val) (128 * g + (y 1).val) := by
  have hl : (y 1).val < 128 := (y 1).isLt
  have e1 : p y = _ := hp.trans ((Cert.Model.eq_re2 _ (ValueIdx.ix2 ⟨_, hR⟩ (y 1)) _ _ rfl rfl).symm.trans (tabC_apply _ _))
  have e2 : q y = _ := hq.trans ((Cert.Model.eq_re2 _ (ValueIdx.ix2 ⟨_, hR⟩ (y 1)) _ _ rfl rfl).symm.trans (tabA_apply _ _))
  have e3 : s y = _ := hs.trans ((Cert.Model.eq_re2 _ (ValueIdx.ix2 ⟨_, hR⟩ (y 1)) _ _ rfl rfl).symm.trans (tabB_apply _ _))
  pointwise [turned, hv]
  rw [e1, e2, e3]
  unfold Cert.Model.turn
  rw [show (128 * g + (y 1).val) % 64 = (y 1).val % 64 by omega]
  generalize cosT = C
  generalize sinT = S
  dsimp only
  by_cases h : (y 1).val % 64 < 8
  · rw [if_pos (show (y 1).val % 64 < 16 by omega), if_pos h, if_pos h, if_pos h, mul_zero, add_zero, mul_neg, ← sub_eq_add_neg,
      Nat.mod_eq_of_lt h, show ((y 1).val + 128 - 120) % 128 = (y 1).val + 8 by omega]
    rfl
  · rw [if_neg h, if_neg h, if_neg h, mul_zero, add_zero]
    by_cases h' : (y 1).val % 64 < 16
    · rw [if_pos h', if_pos h', if_pos h', show (y 1).val % 64 % 8 = (y 1).val % 64 - 8 by omega,
        show 128 * g + ((y 1).val + 128 - 8) % 128 = 128 * g + (y 1).val - 8 by omega]
    · rw [if_neg h', if_neg h', if_neg h', mul_zero, add_zero, mul_one]
end Cert.EvInProjIdeal.Value
end
-- ==== Proof.EvInProjVal.lean ====
module

public import proofs.«01_k».proof.Proof.InTables
public import proofs.«01_k».proof.Proof.Gen.EvInProjRefIdeal.Run
public import proofs.«01_k».proof.Proof.OdOutBackVal

@[expose] public section

/-! # The even layer's input projection, with its queries and keys turned by the position -/

set_option maxRecDepth 16384
noncomputable section
open Idealize.ShloMosaic Idealize.ShloMosaic.TcCoe Idealize.SL.Sem

namespace Cert.Model

/-- Rows against columns: a product over `n` entries. -/
def rowsCols (n : ℕ) (A W : ℕ → ℕ → EReal) (r j : ℕ) : EReal := ∑ k : Fin n, A r k.val * W k.val j

/-- The turn, by the entry's place in its head. -/
theorem turn_cases (P C S : ℕ → ℕ → EReal) (r j : ℕ) :
    (if _ : j % 64 < 16 then
      if _ : j % 64 < 8 then P r j * C r (j % 64) - P r (j / 64 * 64 + (8 + j % 64)) * S r (j % 64)
      else P r (j / 64 * 64 + (8 + (j % 64 - 8))) * C r (j % 64 - 8) + P r (j / 64 * 64 + (j % 64 - 8)) * S r (j % 64 - 8)
    else P r (j / 64 * 64 + (16 + (j % 64 - 16)))) = turn P C S r j := by
  unfold turn
  have hq : j / 64 * 64 = j - j % 64 := by omega
  have hr : j % 64 ≤ j := Nat.mod_le _ _
  by_cases h8 : j % 64 < 8
  · have h16 : j % 64 < 16 := by omega
    rw [dif_pos h16, dif_pos h8, if_pos h8, show j / 64 * 64 + (8 + j % 64) = j + 8 by omega]
  · by_cases h16 : j % 64 < 16
    · rw [dif_pos h16, dif_neg h8, if_neg h8, if_pos h16, show j / 64 * 64 + (8 + (j % 64 - 8)) = j by omega,
        show j / 64 * 64 + (j % 64 - 8) = j - 8 by omega]
    · rw [dif_neg h16, if_neg h8, if_neg h16, show j / 64 * 64 + (16 + (j % 64 - 16)) = j by omega]

end Cert.Model

namespace Cert.EvInProjIdeal.Value
open Idealize.ShloMosaic.Pipeline (Dat)
open Cert.EvInProjIdeal Cert.EvInProjIdeal.Gen Cert.Model

variable (m : (ℓ : Loc nD τ sig) → Buf (Elt Ideal) ℓ) (c : Dev nD)

/-- The normalised rows. -/
abbrev N : Vec Ideal S8192x1024 .bf16 := m ((c : Thread nD τ).loc main_arg0)
/-- The projection's weights. -/
abbrev W : Vec Ideal S1024x1792 .bf16 := m ((c : Thread nD τ).loc main_arg1)
/-- The projected rows. -/
abbrev X : ℕ → ℕ → EReal := rowsCols 1024 (re2 (N m c)) (re2 (W m c))

/-- Where each window's block lies. -/
theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The rows, block by block. -/
theorem hb0 (t : Fin cfg0.N) (y : S512x1024.Idx) : (iblk m c 0 t : Vec Ideal S512x1024 .bf16) y = re2 (N m c) (512 * t.val + (y 0).val) (y 1).val := by
  blk_simp [iblk, V_main_arg0, idx t]
  refine eq_re2 (N m c) _ _ _ ?_ ?_ <;> blk_simp [idx t] <;> omega
/-- The weights, whole at every step. -/
theorem hb1 (t : Fin cfg0.N) (y : S1024x1792.Idx) : (iblk m c 1 t : Vec Ideal S1024x1792 .bf16) y = re2 (W m c) (y 0).val (y 1).val := by
  blk_simp [iblk, V_main_arg1, idx t]
  refine eq_re2 (W m c) _ _ _ ?_ ?_ <;> blk_simp [idx t]
/-- The first table, block by block. -/
theorem hb2 (t : Fin cfg0.N) (y : S512x128.Idx) : (iblk m c 2 t : Vec Ideal S512x128 .f32) y = re2 tabC (512 * t.val + (y 0).val) (y 1).val := by
  blk_simp [iblk, idx t]
  refine (congrFun (V_c m c) _).trans ?_
  refine eq_re2 tabC _ _ _ ?_ ?_ <;> blk_simp [idx t] <;> omega
/-- The second table, block by block. -/
theorem hb3 (t : Fin cfg0.N) (y : S512x128.Idx) : (iblk m c 3 t : Vec Ideal S512x128 .f32) y = re2 tabA (512 * t.val + (y 0).val) (y 1).val := by
  blk_simp [iblk, idx t]
  refine (congrFun (V_a m c) _).trans ?_
  refine eq_re2 tabA _ _ _ ?_ ?_ <;> blk_simp [idx t] <;> omega
/-- The third table, block by block. -/
theorem hb4 (t : Fin cfg0.N) (y : S512x128.Idx) : (iblk m c 4 t : Vec Ideal S512x128 .f32) y = re2 tabB (512 * t.val + (y 0).val) (y 1).val := by
  blk_simp [iblk, idx t]
  refine (congrFun (V_b m c) _).trans ?_
  refine eq_re2 tabB _ _ _ ?_ ?_ <;> blk_simp [idx t] <;> omega

/-- A block of the projected rows. -/
theorem pay7 (t : Fin cfg0.N) (y : S512x1792.Idx) : k0_pay7 (F := Ideal) (iblk m c 0 t) (iblk m c 1 t) y = X m c (512 * t.val + (y 0).val) (y 1).val := by
  pointwise [k0_pay7, hb0, hb1]
  rfl

/-- A group of 128 columns of a block, turned. -/
theorem group {C : ℕ} (v : FVec Ideal ⟨2, ![512, C]⟩ .f32) (p q s : FVec Ideal S512x128 .f32) (P : ℕ → ℕ → EReal) (T g : ℕ)
    (h : (⟨2, ![512, C]⟩ : Shape).Slices ![0, 128 * g] S512x128) (hT : T + 512 ≤ 8192)
    (hv : ∀ z : (⟨2, ![512, C]⟩ : Shape).Idx, v z = P (T + (z 0).val) (z 1).val)
    (hp : ∀ z : S512x128.Idx, p z = re2 tabC (T + (z 0).val) (z 1).val) (hq : ∀ z : S512x128.Idx, q z = re2 tabA (T + (z 0).val) (z 1).val)
    (hs : ∀ z : S512x128.Idx, s z = re2 tabB (T + (z 0).val) (z 1).val) (y : S512x128.Idx) :
    turned (extractStridedSlice S512x128 ![0, 128 * g] v h) p q s y = turn P cosT sinT (T + (y 0).val) (128 * g + (y 1).val) := by
  have hy : (y 0).val < 512 := (y 0).isLt
  refine turned_apply _ _ _ _ P T g y (fun z => ?_) (by omega) (hp y) (hq y) (hs y)
  refine (extractStridedSlice_apply ![0, 128 * g] _ h z (ValueIdx.ix2 ⟨(z 0).val, (z 0).isLt⟩ ⟨128 * g + (z 1).val, ?_⟩) ?_).trans (hv _)
  · have h1 : 128 * g + 128 ≤ C := h.2 1
    have h2 : (z 1).val < 128 := (z 1).isLt
    omega
  · intro a
    match a with
    | ⟨0, _⟩ => exact (Nat.zero_add _).symm
    | ⟨1, _⟩ => rfl

/-- One store of a group into a block of all of them. -/
theorem piece {C : ℕ} (P : ℕ → ℕ → EReal) (T o : ℕ) (h : ∀ d, (![0, o] : Fin 2 → ℕ) d + S512x128.size d ≤ (⟨2, ![512, C]⟩ : Shape).size d) (w : Vec Ideal S512x128 .bf16)
    (hw : ∀ x : S512x128.Idx, w x = turn P cosT sinT (T + (x 0).val) (o + (x 1).val)) (x : S512x128.Idx) :
    w x = (fun y : (⟨2, ![512, C]⟩ : Shape).Idx => turn P cosT sinT (T + (y 0).val) (y 1).val) ((Rect.unit (s := ⟨2, ![512, C]⟩) ![0, o] S512x128.size h).emb x) := by
  refine (hw x).trans ?_
  show _ = turn P cosT sinT (T + (0 + 1 * (x 0).val)) (o + 1 * (x 1).val)
  simp only [Nat.zero_add, Nat.one_mul]

/-- The turned columns of a block. -/
theorem out5 (x0 : Vec Ideal S512x1024 .bf16) (x1 : Vec Ideal S1024x1792 .bf16) (x2 x3 x4 : Vec Ideal S512x128 .f32) (P : ℕ → ℕ → EReal) (T : ℕ) (hT : T + 512 ≤ 8192)
    (hv : ∀ z : S512x1792.Idx, k0_pay7 (F := Ideal) x0 x1 z = P (T + (z 0).val) (z 1).val)
    (hp : ∀ z : S512x128.Idx, x2 z = re2 tabC (T + (z 0).val) (z 1).val) (hq : ∀ z : S512x128.Idx, x3 z = re2 tabA (T + (z 0).val) (z 1).val)
    (hs : ∀ z : S512x128.Idx, x4 z = re2 tabB (T + (z 0).val) (z 1).val) (y : S512x640.Idx) :
    out0_5 (F := Ideal) x0 x1 x2 x3 x4 y = turn P cosT sinT (T + (y 0).val) (y 1).val := by
  have e8 : k0_pay8 (F := Ideal) x2 = x2 := by funext z; pointwise [k0_pay8]
  have e9 : k0_pay9 (F := Ideal) x3 = x3 := by funext z; pointwise [k0_pay9]
  have e10 : k0_pay10 (F := Ideal) x4 = x4 := by funext z; pointwise [k0_pay10]
  have e16 : k0_pay16 (F := Ideal) x0 x1 x2 x3 x4 = k0_pay7 x0 x1 := by frame_out [k0_pay16]
  have e17 : k0_pay17 (F := Ideal) x0 x1 x2 x3 x4 = k0_pay8 x2 := by frame_out [k0_pay17]
  have e18 : k0_pay18 (F := Ideal) x0 x1 x2 x3 x4 = k0_pay9 x3 := by frame_out [k0_pay18]
  have e19 : k0_pay19 (F := Ideal) x0 x1 x2 x3 x4 = k0_pay10 x4 := by frame_out [k0_pay19]
  rw [← e8] at hp
  rw [← e9] at hq
  rw [← e10] at hs
  frame_out [out0_5]
  rw [e16, e17, e18, e19]
  refine View.canon_apply_of_pieces (Val := Elt Ideal) (S := S512x640) (e := .bf16)
    (fun y => (turn P cosT sinT (T + (y 0).val) (y 1).val : EReal)) _ ?_ y (cover0_5 _ _ _ _ _ y)
  intro pc hpc
  simp only [List.mem_cons, List.mem_nil_iff, or_false] at hpc
  rcases hpc with rfl | rfl | rfl | rfl | rfl
  · exact piece P T 512 inb_S512x640_S512x128_0_512 _ (group _ _ _ _ P T 4 slices_S512x1792_o0_512_S512x128 hT hv hp hq hs)
  · exact piece P T 384 inb_S512x640_S512x128_0_384 _ (group _ _ _ _ P T 3 slices_S512x1792_o0_384_S512x128 hT hv hp hq hs)
  · exact piece P T 256 inb_S512x640_S512x128_0_256 _ (group _ _ _ _ P T 2 slices_S512x1792_o0_256_S512x128 hT hv hp hq hs)
  · exact piece P T 128 inb_S512x640_S512x128_0_128 _ (group _ _ _ _ P T 1 slices_S512x1792_o0_128_S512x128 hT hv hp hq hs)
  · exact piece P T 0 inb_S512x640_S512x128_0_0 _ (group _ _ _ _ P T 0 slices_S512x1792_o0_0_S512x128 hT hv hp hq hs)

/-- The first 128 columns after them. -/
theorem out6 (x0 : Vec Ideal S512x1024 .bf16) (x1 : Vec Ideal S1024x1792 .bf16) (x2 x3 x4 : Vec Ideal S512x128 .f32) (P : ℕ → ℕ → EReal) (T : ℕ)
    (hv : ∀ z : S512x1792.Idx, k0_pay7 (F := Ideal) x0 x1 z = P (T + (z 0).val) (z 1).val) (y : S512x128.Idx) :
    out0_6 (F := Ideal) x0 x1 x2 x3 x4 y = P (T + (y 0).val) (640 + (y 1).val) := by
  have e16 : k0_pay16 (F := Ideal) x0 x1 x2 x3 x4 = k0_pay7 x0 x1 := by frame_out [k0_pay16]
  frame_out [out0_6]
  rw [e16]
  pointwise [k0_pay4, hv]

/-- The next 512 columns. -/
theorem out7 (x0 : Vec Ideal S512x1024 .bf16) (x1 : Vec Ideal S1024x1792 .bf16) (x2 x3 x4 : Vec Ideal S512x128 .f32) (P : ℕ → ℕ → EReal) (T : ℕ)
    (hv : ∀ z : S512x1792.Idx, k0_pay7 (F := Ideal) x0 x1 z = P (T + (z 0).val) (z 1).val) (y : S512x512.Idx) :
    out0_7 (F := Ideal) x0 x1 x2 x3 x4 y = P (T + (y 0).val) (768 + (y 1).val) := by
  have e16 : k0_pay16 (F := Ideal) x0 x1 x2 x3 x4 = k0_pay7 x0 x1 := by frame_out [k0_pay16]
  frame_out [out0_7]
  rw [e16]
  pointwise [k0_pay5, hv]

/-- The last 512 columns. -/
theorem out8 (x0 : Vec Ideal S512x1024 .bf16) (x1 : Vec Ideal S1024x1792 .bf16) (x2 x3 x4 : Vec Ideal S512x128 .f32) (P : ℕ → ℕ → EReal) (T : ℕ)
    (hv : ∀ z : S512x1792.Idx, k0_pay7 (F := Ideal) x0 x1 z = P (T + (z 0).val) (z 1).val) (y : S512x512.Idx) :
    out0_8 (F := Ideal) x0 x1 x2 x3 x4 y = P (T + (y 0).val) (1280 + (y 1).val) := by
  have e16 : k0_pay16 (F := Ideal) x0 x1 x2 x3 x4 = k0_pay7 x0 x1 := by frame_out [k0_pay16]
  frame_out [out0_8]
  rw [e16]
  pointwise [k0_pay6, hv]

/-- The queries and keys. -/
theorem arr5 : (dats m 0 c).arrAt 5 cfg0.N = ((fun y => turn (X m c) cosT sinT (y 0).val (y 1).val) : Vec Ideal S8192x640 .bf16) := by
  refine (dats m 0 c).arrAt_eq_of_covers 5 _ (by decide +kernel) fun t _ y => ?_
  blk_simp
  rw [after0_5]
  refine (out5 _ _ _ _ _ (X m c) (512 * t.val) (by have := lt_of_lt_of_eq t.isLt N_0; omega) (pay7 m c t) (hb2 m c t) (hb3 m c t) (hb4 m c t) _).trans ?_
  blk_simp [idx t]
  rw [Nat.mul_comm 512]

/-- The values. -/
theorem arr6 : (dats m 0 c).arrAt 6 cfg0.N = ((fun y => X m c (y 0).val (640 + (y 1).val)) : Vec Ideal S8192x128 .bf16) := by
  refine (dats m 0 c).arrAt_eq_of_covers 6 _ (by decide +kernel) fun t _ y => ?_
  blk_simp
  rw [after0_6]
  refine (out6 _ _ _ _ _ (X m c) (512 * t.val) (pay7 m c t) _).trans ?_
  blk_simp [idx t]
  rw [Nat.mul_comm 512]

/-- The convolution's first half. -/
theorem arr7 : (dats m 0 c).arrAt 7 cfg0.N = ((fun y => X m c (y 0).val (768 + (y 1).val)) : Vec Ideal S8192x512 .bf16) := by
  refine (dats m 0 c).arrAt_eq_of_covers 7 _ (by decide +kernel) fun t _ y => ?_
  blk_simp
  rw [after0_7]
  refine (out7 _ _ _ _ _ (X m c) (512 * t.val) (pay7 m c t) _).trans ?_
  blk_simp [idx t]
  rw [Nat.mul_comm 512]

/-- The convolution's second half. -/
theorem arr8 : (dats m 0 c).arrAt 8 cfg0.N = ((fun y => X m c (y 0).val (1280 + (y 1).val)) : Vec Ideal S8192x512 .bf16) := by
  refine (dats m 0 c).arrAt_eq_of_covers 8 _ (by decide +kernel) fun t _ y => ?_
  blk_simp
  rw [after0_8]
  refine (out8 _ _ _ _ _ (X m c) (512 * t.val) (pay7 m c t) _).trans ?_
  blk_simp [idx t]
  rw [Nat.mul_comm 512]

end Cert.EvInProjIdeal.Value

namespace Cert.EvInProjRefIdeal.Value
open Cert.EvInProjRefIdeal Cert.EvInProjRefIdeal.Gen Cert.Model

variable (a0 : Vec Ideal S8192x1024 .bf16) (a1 : Vec Ideal S1024x1792 .bf16)

/-- The reference's projection. -/
abbrev proj : Vec Ideal S8192x1792 .f32 :=
  Host.dotGeneral (F := Ideal) (φ₁ := .f32) (φ₂ := .f32) dot_S8192x1024_S1024x1792_S8192x1792_1_0_0_1_n_n none (extf (F := Ideal) .f32 a0 bitsLt_bf16_f32) (extf (F := Ideal) .f32 a1 bitsLt_bf16_f32)
/-- One entry of it. -/
theorem proj_eq (y : S8192x1792.Idx) : proj a0 a1 y = rowsCols 1024 (re2 a0) (re2 a1) (y 0).val (y 1).val := by
  pointwise [proj]
  exact Finset.sum_congr rfl fun r _ => congrArg₂ (· * ·) (eq_re2 a0 _ _ _ rfl rfl) (eq_re2 a1 _ _ _ rfl rfl)

variable (m : (ℓ : Loc nD τ sig) → Buf (Elt Ideal) ℓ) (c : Dev nD)

/-! Sixteen entries of each head turned, as the reference writes it, for any projection and any tables. -/

variable (P : Vec Ideal S8192x1792 .f32) (C S : Vec Ideal S8192x8 .f32)

/-- The queries and keys by head. -/
abbrev heads : Vec Ideal S8192x10x64 .f32 := shapeCast S8192x10x64 (extractStridedSlice S8192x640 ![0, 0] P slices_S8192x1792_S8192x640_0_0) shapeCasts_S8192x640_S8192x10x64
/-- Each head's first eight entries. -/
abbrev lo : Vec Ideal S8192x10x8 .f32 := extractStridedSlice S8192x10x8 ![0, 0, 0] (extractStridedSlice S8192x10x16 ![0, 0, 0] (heads P) slices_S8192x10x64_S8192x10x16_0_0_0) slices_S8192x10x16_S8192x10x8_0_0_0
/-- Each head's next eight entries. -/
abbrev hi : Vec Ideal S8192x10x8 .f32 := extractStridedSlice S8192x10x8 ![0, 0, 8] (extractStridedSlice S8192x10x16 ![0, 0, 0] (heads P) slices_S8192x10x64_S8192x10x16_0_0_0) slices_S8192x10x16_S8192x10x8_0_0_8
/-- A table for every head. -/
abbrev each : Vec Ideal S8192x10x8 .f32 := broadcastInDim S8192x10x8 ![0, 1, 2] bcast_S8192x1x8_S8192x10x8_0_1_2 (broadcastInDim S8192x1x8 ![0, 2] bcast_S8192x8_S8192x1x8_0_2 C)
/-- The turned queries and keys. -/
def turnedR : Vec Ideal S8192x640 .bf16 :=
  truncf (F := Ideal) .bf16 (shapeCast S8192x640 (concatenate S8192x10x64 2 [⟨S8192x10x16, (concatenate S8192x10x16 2
      [⟨S8192x10x8, (subf (F := Ideal) (φ := .f32) (mulf (F := Ideal) (φ := .f32) (lo P) (each C)) (mulf (F := Ideal) (φ := .f32) (hi P) (each S)))⟩,
       ⟨S8192x10x8, (addf (F := Ideal) (φ := .f32) (mulf (F := Ideal) (φ := .f32) (hi P) (each C)) (mulf (F := Ideal) (φ := .f32) (lo P) (each S)))⟩] concatenates_S8192x10x8_S8192x10x8_S8192x10x16_d2)⟩,
    ⟨S8192x10x48, (extractStridedSlice S8192x10x48 ![0, 0, 16] (heads P) slices_S8192x10x64_S8192x10x48_0_0_16)⟩] concatenates_S8192x10x16_S8192x10x48_S8192x10x64_d2) shapeCasts_S8192x10x64_S8192x640) bitsLt_bf16_f32
/-- One entry of them. -/
theorem turnedR_eq (p C' S' : ℕ → ℕ → EReal) (hp : ∀ y, P y = p (y 0).val (y 1).val) (hC : ∀ y, C y = C' (y 0).val (y 1).val) (hS : ∀ y, S y = S' (y 0).val (y 1).val)
    (y : S8192x640.Idx) : turnedR P C S y = turn p C' S' (y 0).val (y 1).val := by
  have h0 : (y 0).val < 8192 := (y 0).isLt
  have h1 : (y 1).val < 640 := (y 1).isLt
  pointwise [turnedR, hp, hC, hS]
  exact turn_cases p C' S' (y 0).val (y 1).val

/-- The values' columns of a projection. -/
theorem ref6 (p : ℕ → ℕ → EReal) (hp : ∀ y, P y = p (y 0).val (y 1).val) (y : S8192x128.Idx) :
    (truncf (F := Ideal) .bf16 (extractStridedSlice S8192x128 ![0, 640] P slices_S8192x1792_S8192x128_0_640) bitsLt_bf16_f32 : Vec Ideal S8192x128 .bf16) y = p (y 0).val (640 + (y 1).val) := by
  pointwise [hp]
/-- The columns of the convolution's first half. -/
theorem ref7 (p : ℕ → ℕ → EReal) (hp : ∀ y, P y = p (y 0).val (y 1).val) (y : S8192x512.Idx) :
    (truncf (F := Ideal) .bf16 (extractStridedSlice S8192x512 ![0, 768] P slices_S8192x1792_S8192x512_0_768) bitsLt_bf16_f32 : Vec Ideal S8192x512 .bf16) y = p (y 0).val (768 + (y 1).val) := by
  pointwise [hp]
/-- The columns of the convolution's second half. -/
theorem ref8 (p : ℕ → ℕ → EReal) (hp : ∀ y, P y = p (y 0).val (y 1).val) (y : S8192x512.Idx) :
    (truncf (F := Ideal) .bf16 (extractStridedSlice S8192x512 ![0, 1280] P slices_S8192x1792_S8192x512_0_1280) bitsLt_bf16_f32 : Vec Ideal S8192x512 .bf16) y = p (y 0).val (1280 + (y 1).val) := by
  pointwise [hp]

variable (m : (ℓ : Loc nD τ sig) → Buf (Elt Ideal) ℓ) (c : Dev nD)

/-- The turned queries and keys as the reference writes them. -/
theorem ref5 (y : S8192x640.Idx) : (res_main_v42 m c : Vec Ideal S8192x640 .bf16) y
    = turn (rowsCols 1024 (re2 (m ((c : Thread nD τ).loc main_arg0) : Vec Ideal S8192x1024 .bf16)) (re2 (m ((c : Thread nD τ).loc main_arg1) : Vec Ideal S1024x1792 .bf16)))
      EvInProjIdeal.Value.cosT EvInProjIdeal.Value.sinT (y 0).val (y 1).val := by
  have e : (res_main_v42 m c : Vec Ideal S8192x640 .bf16) = turnedR (proj (m ((c : Thread nD τ).loc main_arg0)) (m ((c : Thread nD τ).loc main_arg1)))
      (Host.cos (F := Ideal) (φ := .f32) EvInProjIdeal.Value.angle) (Host.sin (F := Ideal) (φ := .f32) EvInProjIdeal.Value.angle) := rfl
  rw [e]
  exact turnedR_eq _ _ _ _ _ _ (proj_eq _ _) (fun y => eq_re2 _ y _ _ rfl rfl) (fun y => eq_re2 _ y _ _ rfl rfl) y

end Cert.EvInProjRefIdeal.Value
end
-- ==== Proof.OdInProjVal.lean ====
module

public import proofs.«01_k».proof.Proof.Gen.OdInProjIdeal.Value
public import proofs.«01_k».proof.Proof.Gen.OdInProjRefIdeal.Run
public import proofs.«01_k».proof.Proof.EvInProjVal

@[expose] public section

/-! # The odd layer's input projection, with its queries and keys turned and laid out every fourth and every sixteenth row together -/

set_option maxRecDepth 16384
noncomputable section
open Idealize.ShloMosaic Idealize.ShloMosaic.TcCoe Idealize.SL.Sem

namespace Cert.OdInProjIdeal.Value
open Idealize.ShloMosaic.Pipeline (Dat)
open Cert.OdInProjIdeal Cert.OdInProjIdeal.Gen Cert.Model
open Cert.EvInProjIdeal.Value (tabC tabA tabB cosT sinT group piece)
open Cert.OdOutBackIdeal.Value (dite_both fold4 fold16)

variable (m : (ℓ : Loc nD τ sig) → Buf (Elt Ideal) ℓ) (c : Dev nD)

set_option maxHeartbeats 4000000 in
/-- The first table of the run. -/
theorem V_c : V (F := Ideal) m c main_v28 = tabC := by
  simp only [V, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  try simp only [StableHlo.TRef.toBuf, StableHlo.TRef.ofBuf, cast_eq]
  rfl

set_option maxHeartbeats 4000000 in
/-- The second table of the run. -/
theorem V_a : V (F := Ideal) m c main_v40 = tabA := by
  simp only [V, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  try simp only [StableHlo.TRef.toBuf, StableHlo.TRef.ofBuf, cast_eq]
  rfl

set_option maxHeartbeats 4000000 in
/-- The third table of the run. -/
theorem V_b : V (F := Ideal) m c main_v55 = tabB := by
  simp only [V, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp
  try simp only [StableHlo.TRef.toBuf, StableHlo.TRef.ofBuf, cast_eq]
  rfl
/-- The normalised rows. -/
abbrev N : Vec Ideal S8192x1024 .bf16 := m ((c : Thread nD τ).loc main_arg0)
/-- The projection's weights. -/
abbrev W : Vec Ideal S1024x2560 .bf16 := m ((c : Thread nD τ).loc main_arg1)
/-- The projected rows. -/
abbrev X : ℕ → ℕ → EReal := rowsCols 1024 (re2 (N m c)) (re2 (W m c))
/-- The turned queries and keys. -/
abbrev Y : ℕ → ℕ → EReal := turn (X m c) cosT sinT

/-- Where each window's block lies. -/
theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0] :=
  (by decide +kernel : ∀ t : Fin grid0.N, _)

/-- The rows, block by block. -/
theorem hb0 (t : Fin cfg0.N) (y : S512x1024.Idx) : (iblk m c 0 t : Vec Ideal S512x1024 .bf16) y = re2 (N m c) (512 * t.val + (y 0).val) (y 1).val := by
  blk_simp [iblk, V_main_arg0, idx t]
  refine eq_re2 (N m c) _ _ _ ?_ ?_ <;> blk_simp [idx t] <;> omega
/-- The weights, whole at every step. -/
theorem hb1 (t : Fin cfg0.N) (y : S1024x2560.Idx) : (iblk m c 1 t : Vec Ideal S1024x2560 .bf16) y = re2 (W m c) (y 0).val (y 1).val := by
  blk_simp [iblk, V_main_arg1, idx t]
  refine eq_re2 (W m c) _ _ _ ?_ ?_ <;> blk_simp [idx t]
/-- The first table, block by block. -/
theorem hb2 (t : Fin cfg0.N) (y : S512x128.Idx) : (iblk m c 2 t : Vec Ideal S512x128 .f32) y = re2 tabC (512 * t.val + (y 0).val) (y 1).val := by
  blk_simp [iblk, idx t]
  refine (congrFun (V_c m c) _).trans ?_
  refine eq_re2 tabC _ _ _ ?_ ?_ <;> blk_simp [idx t] <;> omega
/-- The second table, block by block. -/
theorem hb3 (t : Fin cfg0.N) (y : S512x128.Idx) : (iblk m c 3 t : Vec Ideal S512x128 .f32) y = re2 tabA (512 * t.val + (y 0).val) (y 1).val := by
  blk_simp [iblk, idx t]
  refine (congrFun (V_a m c) _).trans ?_
  refine eq_re2 tabA _ _ _ ?_ ?_ <;> blk_simp [idx t] <;> omega
/-- The third table, block by block. -/
theorem hb4 (t : Fin cfg0.N) (y : S512x128.Idx) : (iblk m c 4 t : Vec Ideal S512x128 .f32) y = re2 tabB (512 * t.val + (y 0).val) (y 1).val := by
  blk_simp [iblk, idx t]
  refine (congrFun (V_b m c) _).trans ?_
  refine eq_re2 tabB _ _ _ ?_ ?_ <;> blk_simp [idx t] <;> omega

/-- A block of the projected rows. -/
theorem pay2 (t : Fin cfg0.N) (y : S512x2560.Idx) : k0_pay2 (F := Ideal) (iblk m c 0 t) (iblk m c 1 t) y = X m c (512 * t.val + (y 0).val) (y 1).val := by
  pointwise [k0_pay2, hb0, hb1]
  rfl

/-- The eight stores of a block's queries and keys, the last first. -/
abbrev stores (x0 : Vec Ideal S512x1024 .bf16) (x1 : Vec Ideal S1024x2560 .bf16) (x2 x3 x4 : Vec Ideal S512x128 .f32) : List (Idealize.ShloMosaic.View.Piece (Elt Ideal) S512x1024 .bf16) :=
  [⟨Rect.unit ![0, 896] ![512, 128] inb_S512x1024_S512x128_0_896, k0_pay19 (k0_pay2 x0 x1) (k0_pay3 x2) (k0_pay4 x3) (k0_pay5 x4)⟩,
   ⟨Rect.unit ![0, 768] ![512, 128] inb_S512x1024_S512x128_0_768, k0_pay18 (k0_pay16 (k0_pay2 x0 x1) (k0_pay3 x2) (k0_pay4 x3)) (k0_pay17 (k0_pay2 x0 x1) (k0_pay5 x4))⟩,
   ⟨Rect.unit ![0, 640] ![512, 128] inb_S512x1024_S512x128_0_640, k0_pay14 (k0_pay2 x0 x1) (k0_pay3 x2) (k0_pay4 x3) (k0_pay5 x4)⟩,
   ⟨Rect.unit ![0, 512] ![512, 128] inb_S512x1024_S512x128_0_512, k0_pay13 (k0_pay2 x0 x1) (k0_pay3 x2) (k0_pay4 x3) (k0_pay5 x4)⟩,
   ⟨Rect.unit ![0, 384] ![512, 128] inb_S512x1024_S512x128_0_384, k0_pay12 (k0_pay2 x0 x1) (k0_pay3 x2) (k0_pay4 x3) (k0_pay5 x4)⟩,
   ⟨Rect.unit ![0, 256] ![512, 128] inb_S512x1024_S512x128_0_256, k0_pay11 (k0_pay9 x0 x1 x2 x3) (k0_pay10 x0 x1 x4)⟩,
   ⟨Rect.unit ![0, 128] ![512, 128] inb_S512x1024_S512x128_0_128, k0_pay7 x0 x1 x2 x3 x4⟩,
   ⟨Rect.unit ![0, 0] ![512, 128] inb_S512x1024_S512x128_0_0, k0_pay6 x0 x1 x2 x3 x4⟩]

/-- What they leave: the turned queries and keys. -/
theorem stores_eq (x0 : Vec Ideal S512x1024 .bf16) (x1 : Vec Ideal S1024x2560 .bf16) (x2 x3 x4 : Vec Ideal S512x128 .f32) (P : ℕ → ℕ → EReal) (T : ℕ) (hT : T + 512 ≤ 8192)
    (hv : ∀ z : S512x2560.Idx, k0_pay2 (F := Ideal) x0 x1 z = P (T + (z 0).val) (z 1).val)
    (hp : ∀ z : S512x128.Idx, x2 z = re2 tabC (T + (z 0).val) (z 1).val) (hq : ∀ z : S512x128.Idx, x3 z = re2 tabA (T + (z 0).val) (z 1).val)
    (hs : ∀ z : S512x128.Idx, x4 z = re2 tabB (T + (z 0).val) (z 1).val) (y : S512x1024.Idx) :
    View.canon (stores x0 x1 x2 x3 x4) y = (turn P cosT sinT (T + (y 0).val) (y 1).val : EReal) := by
  have e3 : k0_pay3 (F := Ideal) x2 = x2 := by funext z; pointwise [k0_pay3]
  have e4 : k0_pay4 (F := Ideal) x3 = x3 := by funext z; pointwise [k0_pay4]
  have e5 : k0_pay5 (F := Ideal) x4 = x4 := by funext z; pointwise [k0_pay5]
  rw [← e3] at hp
  rw [← e4] at hq
  rw [← e5] at hs
  refine View.canon_apply_of_pieces (Val := Elt Ideal) (S := S512x1024) (e := .bf16)
    (fun y => (turn P cosT sinT (T + (y 0).val) (y 1).val : EReal)) _ ?_ y (View.cover_of_tiled (stores x0 x1 x2 x3 x4) S512x128.size (by rfl) y)
  intro pc hpc
  simp only [List.mem_cons, List.mem_nil_iff, or_false] at hpc
  rcases hpc with rfl | rfl | rfl | rfl | rfl | rfl | rfl | rfl
  · exact piece P T 896 inb_S512x1024_S512x128_0_896 _ (group _ _ _ _ P T 7 slices_S512x2560_o0_896_S512x128 hT hv hp hq hs)
  · exact piece P T 768 inb_S512x1024_S512x128_0_768 _ (group _ _ _ _ P T 6 slices_S512x2560_o0_768_S512x128 hT hv hp hq hs)
  · exact piece P T 640 inb_S512x1024_S512x128_0_640 _ (group _ _ _ _ P T 5 slices_S512x2560_o0_640_S512x128 hT hv hp hq hs)
  · exact piece P T 512 inb_S512x1024_S512x128_0_512 _ (group _ _ _ _ P T 4 slices_S512x2560_o0_512_S512x128 hT hv hp hq hs)
  · exact piece P T 384 inb_S512x1024_S512x128_0_384 _ (group _ _ _ _ P T 3 slices_S512x2560_o0_384_S512x128 hT hv hp hq hs)
  · exact piece P T 256 inb_S512x1024_S512x128_0_256 _ (group _ _ _ _ P T 2 slices_S512x2560_o0_256_S512x128 hT hv hp hq hs)
  · exact piece P T 128 inb_S512x1024_S512x128_0_128 _ (group _ _ _ _ P T 1 slices_S512x2560_o0_128_S512x128 hT hv hp hq hs)
  · exact piece P T 0 inb_S512x1024_S512x128_0_0 _ (group _ _ _ _ P T 0 slices_S512x2560_o0_0_S512x128 hT hv hp hq hs)

/-- A block's turned queries and keys. -/
theorem stored (t : Fin cfg0.N) (y : S512x1024.Idx) :
    View.canon (stores (iblk m c 0 t) (iblk m c 1 t) (iblk m c 2 t) (iblk m c 3 t) (iblk m c 4 t)) y = (Y m c (512 * t.val + (y 0).val) (y 1).val : EReal) :=
  stores_eq _ _ _ _ _ (X m c) (512 * t.val) (by have := lt_of_lt_of_eq t.isLt N_0; omega) (pay2 m c t) (hb2 m c t) (hb3 m c t) (hb4 m c t) y

/-- A block's turned queries and keys, read back. -/
theorem loaded (t : Fin cfg0.N) (z : S512x1024.Idx) :
    ((ms0_5 t).view.readCov (Val := Elt Ideal) (stores (iblk m c 0 t) (iblk m c 1 t) (iblk m c 2 t) (iblk m c 3 t) (iblk m c 4 t))
      (Rect.unit (s := S512x1024) ![0, 0] ![512, 1024] inb_S512x1024_S512x1024_0_0).toLoadRect : Vec Ideal S512x1024 .bf16) z = Y m c (512 * t.val + (z 0).val) (z 1).val := by
  rw [View.readCov_eq_canon']
  refine (stored m c t _).trans ?_
  show Y m c (512 * t.val + (0 + 1 * (z 0).val)) (0 + 1 * (z 1).val) = _
  simp only [Nat.zero_add, Nat.one_mul]

/-! The layouts: rows that follow each other in the strided convolutions laid side by side. -/

variable (H : ℕ → ℕ → EReal)

/-- Four rows of 1024 side by side. -/
theorem four1024 (q : Vec Ideal S512x1024 .bf16) (hq : ∀ z, q z = H (z 0).val (z 1).val) (y : S128x4096.Idx) :
    k0_pay28 (F := Ideal) (k0_pay22 q) k0_pay23 (k0_pay24 q) (k0_pay25 q) (k0_pay26 q) (k0_pay27 q) y = H (4 * (y 0).val + (y 1).val / 1024) ((y 1).val % 1024) := by
  have h0 : (y 0).val < 128 := (y 0).isLt
  have h1 : (y 1).val < 4096 := (y 1).isLt
  pointwise [k0_pay28, k0_pay22, k0_pay23, k0_pay24, k0_pay25, k0_pay26, k0_pay27, hq]
  repeat' refine dite_both (fun _ => ?_) (fun _ => ?_)
  all_goals
    rw [fold4 _ (by omega)]
    refine congrArg₂ H ?_ ?_ <;> (try dsimp only) <;> omega

/-- Four rows of 512 side by side. -/
theorem four512 (q : Vec Ideal S512x512 .bf16) (hq : ∀ z, q z = H (z 0).val (z 1).val) (y : S128x2048.Idx) :
    k0_pay29 (F := Ideal) k0_pay23 q y = H (4 * (y 0).val + (y 1).val / 512) ((y 1).val % 512) := by
  have h0 : (y 0).val < 128 := (y 0).isLt
  have h1 : (y 1).val < 2048 := (y 1).isLt
  pointwise [k0_pay29, k0_pay23, hq]
  repeat' refine dite_both (fun _ => ?_) (fun _ => ?_)
  all_goals
    rw [fold4 _ (by omega)]
    refine congrArg₂ H ?_ ?_ <;> (try dsimp only) <;> omega

/-- Half of a block with its rows permuted by 16. -/
abbrev perm (o : ℕ) (h : S512x1024.Slices ![o, 0] S256x1024) (q : Vec Ideal S512x1024 .bf16) : FVec Ideal S256x1024 .bf16 :=
  truncf (F := Ideal) .bf16 (matmul (F := Ideal) dot_S256x256_S256x1024_S256x1024_1_0_0_1_n_n none (k0_pay32 (F := Ideal) k0_pay31)
    (extractStridedSlice S256x1024 ![o, 0] (k0_pay30 (F := Ideal) q) h) (constant (F := Ideal) S256x1024 .f32 0x00000000#32)) bitsLt_bf16_f32
/-- One entry of it. -/
theorem perm_eq (o : ℕ) (h : S512x1024.Slices ![o, 0] S256x1024) (q : Vec Ideal S512x1024 .bf16) (hq : ∀ z, q z = H (z 0).val (z 1).val) (z : S256x1024.Idx) :
    perm o h q z = H (o + ((z 0).val % 16 * 16 + (z 0).val / 16)) (z 1).val := by
  have h0 : (z 0).val < 256 := (z 0).isLt
  pointwise [perm, k0_pay30, k0_pay31, k0_pay32, hq]
  rw [fold16 _ (by omega)]

/-- Sixteen rows of 1024 side by side. -/
theorem sixteen1024 (q : Vec Ideal S512x1024 .bf16) (hq : ∀ z, q z = H (z 0).val (z 1).val) (y : S32x16384.Idx) :
    k0_pay33 (F := Ideal) (k0_pay30 q) k0_pay31 y = H (16 * (y 0).val + (y 1).val / 1024) ((y 1).val % 1024) := by
  have h0 : (y 0).val < 32 := (y 0).isLt
  have h1 : (y 1).val < 16384 := (y 1).isLt
  obtain ⟨A, eA⟩ : ∃ A, A = perm 0 slices_S512x1024_o0_0_S256x1024 q := ⟨_, rfl⟩
  obtain ⟨B, eB⟩ : ∃ B, B = perm 256 slices_S512x1024_o256_0_S256x1024 q := ⟨_, rfl⟩
  have hA := perm_eq H 0 slices_S512x1024_o0_0_S256x1024 q hq
  have hB := perm_eq H 256 slices_S512x1024_o256_0_S256x1024 q hq
  rw [← eA] at hA
  rw [← eB] at hB
  unfold perm at eA eB
  unfold k0_pay33
  dsimp only
  rw [← eA, ← eB]
  pointwise [hA, hB]
  repeat' refine dite_both (fun _ => ?_) (fun _ => ?_)
  all_goals
    refine congrArg₂ H ?_ ?_ <;> (try dsimp only) <;> omega

/-- Sixteen rows of 512 side by side. -/
theorem sixteen512 (q : Vec Ideal S512x512 .bf16) (hq : ∀ z, q z = H (z 0).val (z 1).val) (y : S32x8192.Idx) :
    k0_pay1 (F := Ideal) (k0_pay32 k0_pay31) (k0_pay34 q) (k0_pay35 k0_pay31 q) (k0_pay36 k0_pay31 q) (k0_pay37 k0_pay31 q) y = H (16 * (y 0).val + (y 1).val / 512) ((y 1).val % 512) := by
  have h0 : (y 0).val < 32 := (y 0).isLt
  have h1 : (y 1).val < 8192 := (y 1).isLt
  pointwise [k0_pay1, k0_pay31, k0_pay32, k0_pay34, k0_pay35, k0_pay36, k0_pay37, hq]
  repeat' refine dite_both (fun _ => ?_) (fun _ => ?_)
  all_goals
    rw [fold16 _ (by omega)]
    refine congrArg₂ H ?_ ?_ <;> (try dsimp only) <;> omega

/-- A block's values. -/
theorem pay20 (t : Fin cfg0.N) (y : S512x512.Idx) : k0_pay20 (F := Ideal) (k0_pay2 (iblk m c 0 t) (iblk m c 1 t)) y = X m c (512 * t.val + (y 0).val) (1024 + (y 1).val) := by
  pointwise [k0_pay20, pay2]
/-- A block's last columns. -/
theorem pay21 (t : Fin cfg0.N) (y : S512x1024.Idx) : k0_pay21 (F := Ideal) (k0_pay2 (iblk m c 0 t) (iblk m c 1 t)) y = X m c (512 * t.val + (y 0).val) (1536 + (y 1).val) := by
  pointwise [k0_pay21, pay2]

/-- A step's queries and keys. -/
theorem o5 (t : Fin cfg0.N) (y : S512x1024.Idx) : (outsAt0 (F := Ideal) m c t).1 y = Y m c (512 * t.val + (y 0).val) (y 1).val := by
  unfold outsAt0; frame_out
  exact stored m c t y
/-- A step's values. -/
theorem o6 (t : Fin cfg0.N) (y : S512x512.Idx) : (outsAt0 (F := Ideal) m c t).2.1 y = X m c (512 * t.val + (y 0).val) (1024 + (y 1).val) := by
  unfold outsAt0; frame_out
  exact pay20 m c t y
/-- A step's last columns. -/
theorem o7 (t : Fin cfg0.N) (y : S512x1024.Idx) : (outsAt0 (F := Ideal) m c t).2.2.1 y = X m c (512 * t.val + (y 0).val) (1536 + (y 1).val) := by
  unfold outsAt0; frame_out
  exact pay21 m c t y
/-- A step's queries and keys, four rows together. -/
theorem o8 (t : Fin cfg0.N) (y : S128x4096.Idx) : (outsAt0 (F := Ideal) m c t).2.2.2.1 y = Y m c (512 * t.val + (4 * (y 0).val + (y 1).val / 1024)) ((y 1).val % 1024) := by
  unfold outsAt0; frame_out
  exact four1024 (fun r j => Y m c (512 * t.val + r) j) _ (loaded m c t) y
/-- A step's values, four rows together. -/
theorem o9 (t : Fin cfg0.N) (y : S128x2048.Idx) : (outsAt0 (F := Ideal) m c t).2.2.2.2.1 y = X m c (512 * t.val + (4 * (y 0).val + (y 1).val / 512)) (1024 + (y 1).val % 512) := by
  unfold outsAt0; frame_out
  exact four512 (fun r j => X m c (512 * t.val + r) (1024 + j)) _ (pay20 m c t) y
/-- A step's queries and keys, sixteen rows together. -/
theorem o10 (t : Fin cfg0.N) (y : S32x16384.Idx) : (outsAt0 (F := Ideal) m c t).2.2.2.2.2.1 y = Y m c (512 * t.val + (16 * (y 0).val + (y 1).val / 1024)) ((y 1).val % 1024) := by
  unfold outsAt0; frame_out
  exact sixteen1024 (fun r j => Y m c (512 * t.val + r) j) _ (loaded m c t) y
/-- A step's values, sixteen rows together. -/
theorem o11 (t : Fin cfg0.N) (y : S32x8192.Idx) : (outsAt0 (F := Ideal) m c t).2.2.2.2.2.2 y = X m c (512 * t.val + (16 * (y 0).val + (y 1).val / 512)) (1024 + (y 1).val % 512) := by
  unfold outsAt0; frame_out
  exact sixteen512 (fun r j => X m c (512 * t.val + r) (1024 + j)) _ (pay20 m c t) y

/-- The queries and keys. -/
theorem arr5 : (dats m 0 c).arrAt 5 cfg0.N = ((fun y => Y m c (y 0).val (y 1).val) : Vec Ideal S8192x1024 .bf16) := by
  refine (dats m 0 c).arrAt_eq_of_covers 5 _ (by decide +kernel) fun t _ y => ?_
  blk_simp
  rw [after0_5]
  refine (o5 m c t _).trans ?_
  blk_simp [idx t]
  rw [Nat.mul_comm 512]

/-- The values. -/
theorem arr6 : (dats m 0 c).arrAt 6 cfg0.N = ((fun y => X m c (y 0).val (1024 + (y 1).val)) : Vec Ideal S8192x512 .bf16) := by
  refine (dats m 0 c).arrAt_eq_of_covers 6 _ (by decide +kernel) fun t _ y => ?_
  blk_simp
  rw [after0_6]
  refine (o6 m c t _).trans ?_
  blk_simp [idx t]
  rw [Nat.mul_comm 512]

/-- The last columns. -/
theorem arr7 : (dats m 0 c).arrAt 7 cfg0.N = ((fun y => X m c (y 0).val (1536 + (y 1).val)) : Vec Ideal S8192x1024 .bf16) := by
  refine (dats m 0 c).arrAt_eq_of_covers 7 _ (by decide +kernel) fun t _ y => ?_
  blk_simp
  rw [after0_7]
  refine (o7 m c t _).trans ?_
  blk_simp [idx t]
  rw [Nat.mul_comm 512]

/-- The queries and keys, four rows together. -/
theorem arr8 : (dats m 0 c).arrAt 8 cfg0.N = ((fun y => Y m c (4 * (y 0).val + (y 1).val / 1024) ((y 1).val % 1024)) : Vec Ideal S2048x4096 .bf16) := by
  refine (dats m 0 c).arrAt_eq_of_covers 8 _ (by decide +kernel) fun t _ y => ?_
  blk_simp
  rw [after0_8]
  refine (o8 m c t _).trans ?_
  blk_simp [idx t]
  refine congrArg₂ (Y m c) ?_ ?_ <;> omega

/-- The values, four rows together. -/
theorem arr9 : (dats m 0 c).arrAt 9 cfg0.N = ((fun y => X m c (4 * (y 0).val + (y 1).val / 512) (1024 + (y 1).val % 512)) : Vec Ideal S2048x2048 .bf16) := by
  refine (dats m 0 c).arrAt_eq_of_covers 9 _ (by decide +kernel) fun t _ y => ?_
  blk_simp
  rw [after0_9]
  refine (o9 m c t _).trans ?_
  blk_simp [idx t]
  refine congrArg₂ (X m c) ?_ ?_ <;> omega

/-- The queries and keys, sixteen rows together. -/
theorem arr10 : (dats m 0 c).arrAt 10 cfg0.N = ((fun y => Y m c (16 * (y 0).val + (y 1).val / 1024) ((y 1).val % 1024)) : Vec Ideal S512x16384 .bf16) := by
  refine (dats m 0 c).arrAt_eq_of_covers 10 _ (by decide +kernel) fun t _ y => ?_
  blk_simp
  rw [after0_10]
  refine (o10 m c t _).trans ?_
  blk_simp [idx t]
  refine congrArg₂ (Y m c) ?_ ?_ <;> omega

/-- The values, sixteen rows together. -/
theorem arr11 : (dats m 0 c).arrAt 11 cfg0.N = ((fun y => X m c (16 * (y 0).val + (y 1).val / 512) (1024 + (y 1).val % 512)) : Vec Ideal S512x8192 .bf16) := by
  refine (dats m 0 c).arrAt_eq_of_covers 11 _ (by decide +kernel) fun t _ y => ?_
  blk_simp
  rw [after0_11]
  refine (o11 m c t _).trans ?_
  blk_simp [idx t]
  refine congrArg₂ (X m c) ?_ ?_ <;> omega

end Cert.OdInProjIdeal.Value

namespace Cert.OdInProjRefIdeal.Value
open Cert.OdInProjRefIdeal Cert.OdInProjRefIdeal.Gen Cert.Model

variable (a0 : Vec Ideal S8192x1024 .bf16) (a1 : Vec Ideal S1024x2560 .bf16)

/-- The reference's projection. -/
abbrev proj : Vec Ideal S8192x2560 .f32 :=
  Host.dotGeneral (F := Ideal) (φ₁ := .f32) (φ₂ := .f32) dot_S8192x1024_S1024x2560_S8192x2560_1_0_0_1_n_n none (extf (F := Ideal) .f32 a0 bitsLt_bf16_f32) (extf (F := Ideal) .f32 a1 bitsLt_bf16_f32)
/-- One entry of it. -/
theorem proj_eq (y : S8192x2560.Idx) : proj a0 a1 y = rowsCols 1024 (re2 a0) (re2 a1) (y 0).val (y 1).val := by
  pointwise [proj]
  exact Finset.sum_congr rfl fun r _ => congrArg₂ (· * ·) (eq_re2 a0 _ _ _ rfl rfl) (eq_re2 a1 _ _ _ rfl rfl)

/-! Sixteen entries of each head turned, as the reference writes it, for any projection and any tables. -/

variable (P : Vec Ideal S8192x2560 .f32) (C S : Vec Ideal S8192x8 .f32)

/-- The queries and keys by head. -/
abbrev heads : Vec Ideal S8192x16x64 .f32 := shapeCast S8192x16x64 (extractStridedSlice S8192x1024 ![0, 0] P slices_S8192x2560_S8192x1024_0_0) shapeCasts_S8192x1024_S8192x16x64
/-- Each head's first eight entries. -/
abbrev lo : Vec Ideal S8192x16x8 .f32 := extractStridedSlice S8192x16x8 ![0, 0, 0] (extractStridedSlice S8192x16x16 ![0, 0, 0] (heads P) slices_S8192x16x64_S8192x16x16_0_0_0) slices_S8192x16x16_S8192x16x8_0_0_0
/-- Each head's next eight entries. -/
abbrev hi : Vec Ideal S8192x16x8 .f32 := extractStridedSlice S8192x16x8 ![0, 0, 8] (extractStridedSlice S8192x16x16 ![0, 0, 0] (heads P) slices_S8192x16x64_S8192x16x16_0_0_0) slices_S8192x16x16_S8192x16x8_0_0_8
/-- A table for every head. -/
abbrev each : Vec Ideal S8192x16x8 .f32 := broadcastInDim S8192x16x8 ![0, 1, 2] bcast_S8192x1x8_S8192x16x8_0_1_2 (broadcastInDim S8192x1x8 ![0, 2] bcast_S8192x8_S8192x1x8_0_2 C)
/-- The turned queries and keys. -/
def turnedR : Vec Ideal S8192x1024 .bf16 :=
  truncf (F := Ideal) .bf16 (shapeCast S8192x1024 (concatenate S8192x16x64 2 [⟨S8192x16x16, (concatenate S8192x16x16 2
      [⟨S8192x16x8, (subf (F := Ideal) (φ := .f32) (mulf (F := Ideal) (φ := .f32) (lo P) (each C)) (mulf (F := Ideal) (φ := .f32) (hi P) (each S)))⟩,
       ⟨S8192x16x8, (addf (F := Ideal) (φ := .f32) (mulf (F := Ideal) (φ := .f32) (hi P) (each C)) (mulf (F := Ideal) (φ := .f32) (lo P) (each S)))⟩] concatenates_S8192x16x8_S8192x16x8_S8192x16x16_d2)⟩,
    ⟨S8192x16x48, (extractStridedSlice S8192x16x48 ![0, 0, 16] (heads P) slices_S8192x16x64_S8192x16x48_0_0_16)⟩] concatenates_S8192x16x16_S8192x16x48_S8192x16x64_d2) shapeCasts_S8192x16x64_S8192x1024) bitsLt_bf16_f32
/-- One entry of them. -/
theorem turnedR_eq (p C' S' : ℕ → ℕ → EReal) (hp : ∀ y, P y = p (y 0).val (y 1).val) (hC : ∀ y, C y = C' (y 0).val (y 1).val) (hS : ∀ y, S y = S' (y 0).val (y 1).val)
    (y : S8192x1024.Idx) : turnedR P C S y = turn p C' S' (y 0).val (y 1).val := by
  have h0 : (y 0).val < 8192 := (y 0).isLt
  have h1 : (y 1).val < 1024 := (y 1).isLt
  pointwise [turnedR, hp, hC, hS]
  exact turn_cases p C' S' (y 0).val (y 1).val

/-- The values' columns of a projection. -/
abbrev vals : Vec Ideal S8192x512 .bf16 := truncf (F := Ideal) .bf16 (extractStridedSlice S8192x512 ![0, 1024] P slices_S8192x2560_S8192x512_0_1024) bitsLt_bf16_f32
/-- One entry of them. -/
theorem ref6 (p : ℕ → ℕ → EReal) (hp : ∀ y, P y = p (y 0).val (y 1).val) (y : S8192x512.Idx) : vals P y = p (y 0).val (1024 + (y 1).val) := by
  pointwise [vals, hp]
/-- The last columns of a projection. -/
theorem ref7 (p : ℕ → ℕ → EReal) (hp : ∀ y, P y = p (y 0).val (y 1).val) (y : S8192x1024.Idx) :
    (truncf (F := Ideal) .bf16 (extractStridedSlice S8192x1024 ![0, 1536] P slices_S8192x2560_S8192x1024_0_1536) bitsLt_bf16_f32 : Vec Ideal S8192x1024 .bf16) y = p (y 0).val (1536 + (y 1).val) := by
  pointwise [hp]

/-! The same rows read as longer ones. -/

variable (q : ℕ → ℕ → EReal)

/-- Four rows of 1024 as one. -/
theorem ref8 (x : Vec Ideal S8192x1024 .bf16) (hx : ∀ y, x y = q (y 0).val (y 1).val) (y : S2048x4096.Idx) :
    shapeCast S2048x4096 x shapeCasts_S8192x1024_S2048x4096 y = q (4 * (y 0).val + (y 1).val / 1024) ((y 1).val % 1024) := by
  have h0 : (y 0).val < 2048 := (y 0).isLt
  have h1 : (y 1).val < 4096 := (y 1).isLt
  pointwise [hx]
  refine congrArg₂ q ?_ ?_ <;> omega
/-- Four rows of 512 as one. -/
theorem ref9 (x : Vec Ideal S8192x512 .bf16) (hx : ∀ y, x y = q (y 0).val (1024 + (y 1).val)) (y : S2048x2048.Idx) :
    shapeCast S2048x2048 x shapeCasts_S8192x512_S2048x2048 y = q (4 * (y 0).val + (y 1).val / 512) (1024 + (y 1).val % 512) := by
  have h0 : (y 0).val < 2048 := (y 0).isLt
  have h1 : (y 1).val < 2048 := (y 1).isLt
  pointwise [hx]
  refine congrArg₂ q ?_ ?_ <;> omega
/-- Sixteen rows of 1024 as one. -/
theorem ref10 (x : Vec Ideal S8192x1024 .bf16) (hx : ∀ y, x y = q (y 0).val (y 1).val) (y : S512x16384.Idx) :
    shapeCast S512x16384 x shapeCasts_S8192x1024_S512x16384 y = q (16 * (y 0).val + (y 1).val / 1024) ((y 1).val % 1024) := by
  have h0 : (y 0).val < 512 := (y 0).isLt
  have h1 : (y 1).val < 16384 := (y 1).isLt
  pointwise [hx]
  refine congrArg₂ q ?_ ?_ <;> omega
/-- Sixteen rows of 512 as one. -/
theorem ref11 (x : Vec Ideal S8192x512 .bf16) (hx : ∀ y, x y = q (y 0).val (1024 + (y 1).val)) (y : S512x8192.Idx) :
    shapeCast S512x8192 x shapeCasts_S8192x512_S512x8192 y = q (16 * (y 0).val + (y 1).val / 512) (1024 + (y 1).val % 512) := by
  have h0 : (y 0).val < 512 := (y 0).isLt
  have h1 : (y 1).val < 8192 := (y 1).isLt
  pointwise [hx]
  refine congrArg₂ q ?_ ?_ <;> omega

variable (m : (ℓ : Loc nD τ sig) → Buf (Elt Ideal) ℓ) (c : Dev nD)

/-- The turned queries and keys as the reference writes them. -/
theorem ref5 (y : S8192x1024.Idx) : (res_main_v41 m c : Vec Ideal S8192x1024 .bf16) y
    = turn (rowsCols 1024 (re2 (m ((c : Thread nD τ).loc main_arg0) : Vec Ideal S8192x1024 .bf16)) (re2 (m ((c : Thread nD τ).loc main_arg1) : Vec Ideal S1024x2560 .bf16)))
      EvInProjIdeal.Value.cosT EvInProjIdeal.Value.sinT (y 0).val (y 1).val := by
  have e : (res_main_v41 m c : Vec Ideal S8192x1024 .bf16) = turnedR (proj (m ((c : Thread nD τ).loc main_arg0)) (m ((c : Thread nD τ).loc main_arg1)))
      (Host.cos (F := Ideal) (φ := .f32) EvInProjIdeal.Value.angle) (Host.sin (F := Ideal) (φ := .f32) EvInProjIdeal.Value.angle) := rfl
  rw [e]
  exact turnedR_eq _ _ _ _ _ _ (proj_eq _ _) (fun y => eq_re2 _ y _ _ rfl rfl) (fun y => eq_re2 _ y _ _ rfl rfl) y

end Cert.OdInProjRefIdeal.Value
end
-- ==== Proof.InProj.lean ====
/- The calls of the mixers' input projections with the turned queries and keys: the references' frames, and each kernel's values equal to its reference's. -/
module

public import proofs.«01_k».proof.Defs
public import proofs.«01_k».proof.Proof.Gen.EvInProj
public import proofs.«01_k».proof.Proof.Gen.EvInProjIdeal
public import proofs.«01_k».proof.Proof.Gen.EvInProjRefIdeal
public import proofs.«01_k».proof.Proof.Gen.OdInProj
public import proofs.«01_k».proof.Proof.Gen.OdInProjIdeal
public import proofs.«01_k».proof.Proof.Gen.OdInProjRefIdeal
public import proofs.«01_k».proof.Proof.OdInProjVal

@[expose] public section

set_option maxRecDepth 16384

noncomputable section

namespace Cert.Proof

open Idealize.ShloMosaic Idealize.ShloMosaic.TcCoe Idealize.SL.Sem Cert.Model

/-- The even layer's input projection: the reference runs and keeps its arguments. -/
theorem frame_EvInProj : Cert.quiescent_EvInProjRefIdeal := by
  intro m ρ _
  exact (θ_run Cert.EvInProjRefIdeal.defs _ _).mono (fun r h => ⟨fun c => (h c).2.2.2.2, sem_eq_zero_of_no_sems (by decide) r.2⟩)
    (Cert.EvInProjRefIdeal.Value.run (F := Ideal) m ρ)

/-- The even layer's input projection: kernel and reference compute the same. -/
theorem value_EvInProj : Cert.algebraic_EvInProjIdeal_EvInProjRefIdeal := by
  intro m g m' g' h ha
  refine ⟨fun c => ((fun y => turn (Cert.EvInProjIdeal.Value.X m c) Cert.EvInProjIdeal.Value.cosT Cert.EvInProjIdeal.Value.sinT (y 0).val (y 1).val) : Vec Ideal Cert.EvInProjIdeal.S8192x640 .bf16),
    fun c => ((fun y => Cert.EvInProjIdeal.Value.X m c (y 0).val (640 + (y 1).val)) : Vec Ideal Cert.EvInProjIdeal.S8192x128 .bf16),
    fun c => ((fun y => Cert.EvInProjIdeal.Value.X m c (y 0).val (768 + (y 1).val)) : Vec Ideal Cert.EvInProjIdeal.S8192x512 .bf16),
    fun c => ((fun y => Cert.EvInProjIdeal.Value.X m c (y 0).val (1280 + (y 1).val)) : Vec Ideal Cert.EvInProjIdeal.S8192x512 .bf16), ?_, ?_⟩
  · refine (θ_run Cert.EvInProjIdeal.defs _ _).mono (fun r hr c => ?_) (Cert.EvInProjIdeal.Value.run_blocks (F := Ideal) m g)
    obtain ⟨h0, h1, h2, h3, hk⟩ := hr c
    exact ⟨h0.trans (Cert.EvInProjIdeal.Value.arr5 m c), h1.trans (Cert.EvInProjIdeal.Value.arr6 m c), h2.trans (Cert.EvInProjIdeal.Value.arr7 m c), h3.trans (Cert.EvInProjIdeal.Value.arr8 m c), hk⟩
  · refine (θ_run Cert.EvInProjRefIdeal.defs _ _).mono (fun r hr c => ?_) (Cert.EvInProjRefIdeal.Value.run (F := Ideal) m' g')
    obtain ⟨h0, h1, h2, h3, hk⟩ := hr c
    obtain ⟨a0, a1⟩ := ha c
    have hp := Cert.EvInProjRefIdeal.Value.proj_eq (m' ((c.tc : Thread Cert.EvInProjRefIdeal.nD Cert.EvInProjRefIdeal.τ).loc Cert.EvInProjRefIdeal.main_arg0))
      (m' ((c.tc : Thread Cert.EvInProjRefIdeal.nD Cert.EvInProjRefIdeal.τ).loc Cert.EvInProjRefIdeal.main_arg1))
    have hq := Cert.EvInProjRefIdeal.Value.ref5 m' c
    have e0 : re2 (m' ((c.tc : Thread Cert.EvInProjRefIdeal.nD Cert.EvInProjRefIdeal.τ).loc Cert.EvInProjRefIdeal.main_arg0)) = re2 (Cert.EvInProjIdeal.Value.N m c) := congrArg re2 a0
    have e1 : re2 (m' ((c.tc : Thread Cert.EvInProjRefIdeal.nD Cert.EvInProjRefIdeal.τ).loc Cert.EvInProjRefIdeal.main_arg1)) = re2 (Cert.EvInProjIdeal.Value.W m c) := congrArg re2 a1
    rw [e0, e1] at hp hq
    exact ⟨h0.trans (funext hq), h1.trans (funext (Cert.EvInProjRefIdeal.Value.ref6 _ _ hp)), h2.trans (funext (Cert.EvInProjRefIdeal.Value.ref7 _ _ hp)),
      h3.trans (funext (Cert.EvInProjRefIdeal.Value.ref8 _ _ hp)), hk⟩

/-- The odd layer's input projection: the reference runs and keeps its arguments. -/
theorem frame_OdInProj : Cert.quiescent_OdInProjRefIdeal := by
  intro m ρ _
  exact (θ_run Cert.OdInProjRefIdeal.defs _ _).mono (fun r h => ⟨fun c => (h c).2.2.2.2.2.2.2, sem_eq_zero_of_no_sems (by decide) r.2⟩)
    (Cert.OdInProjRefIdeal.Value.run (F := Ideal) m ρ)

/-- The odd layer's input projection: kernel and reference compute the same. -/
theorem value_OdInProj : Cert.algebraic_OdInProjIdeal_OdInProjRefIdeal := by
  intro m g m' g' h ha
  refine ⟨fun c => ((fun y => Cert.OdInProjIdeal.Value.Y m c (y 0).val (y 1).val) : Vec Ideal Cert.OdInProjIdeal.S8192x1024 .bf16),
    fun c => ((fun y => Cert.OdInProjIdeal.Value.X m c (y 0).val (1024 + (y 1).val)) : Vec Ideal Cert.OdInProjIdeal.S8192x512 .bf16),
    fun c => ((fun y => Cert.OdInProjIdeal.Value.X m c (y 0).val (1536 + (y 1).val)) : Vec Ideal Cert.OdInProjIdeal.S8192x1024 .bf16),
    fun c => ((fun y => Cert.OdInProjIdeal.Value.Y m c (4 * (y 0).val + (y 1).val / 1024) ((y 1).val % 1024)) : Vec Ideal Cert.OdInProjIdeal.S2048x4096 .bf16),
    fun c => ((fun y => Cert.OdInProjIdeal.Value.X m c (4 * (y 0).val + (y 1).val / 512) (1024 + (y 1).val % 512)) : Vec Ideal Cert.OdInProjIdeal.S2048x2048 .bf16),
    fun c => ((fun y => Cert.OdInProjIdeal.Value.Y m c (16 * (y 0).val + (y 1).val / 1024) ((y 1).val % 1024)) : Vec Ideal Cert.OdInProjIdeal.S512x16384 .bf16),
    fun c => ((fun y => Cert.OdInProjIdeal.Value.X m c (16 * (y 0).val + (y 1).val / 512) (1024 + (y 1).val % 512)) : Vec Ideal Cert.OdInProjIdeal.S512x8192 .bf16), ?_, ?_⟩
  · refine (θ_run Cert.OdInProjIdeal.defs _ _).mono (fun r hr c => ?_) (Cert.OdInProjIdeal.Value.run_blocks (F := Ideal) m g)
    obtain ⟨h0, h1, h2, h3, h4, h5, h6, hk⟩ := hr c
    exact ⟨h0.trans (Cert.OdInProjIdeal.Value.arr5 m c), h1.trans (Cert.OdInProjIdeal.Value.arr6 m c), h2.trans (Cert.OdInProjIdeal.Value.arr7 m c), h3.trans (Cert.OdInProjIdeal.Value.arr8 m c),
      h4.trans (Cert.OdInProjIdeal.Value.arr9 m c), h5.trans (Cert.OdInProjIdeal.Value.arr10 m c), h6.trans (Cert.OdInProjIdeal.Value.arr11 m c), hk⟩
  · refine (θ_run Cert.OdInProjRefIdeal.defs _ _).mono (fun r hr c => ?_) (Cert.OdInProjRefIdeal.Value.run (F := Ideal) m' g')
    obtain ⟨h0, h1, h2, h3, h4, h5, h6, hk⟩ := hr c
    obtain ⟨a0, a1⟩ := ha c
    have hp := Cert.OdInProjRefIdeal.Value.proj_eq (m' ((c.tc : Thread Cert.OdInProjRefIdeal.nD Cert.OdInProjRefIdeal.τ).loc Cert.OdInProjRefIdeal.main_arg0)) (m' ((c.tc : Thread Cert.OdInProjRefIdeal.nD Cert.OdInProjRefIdeal.τ).loc Cert.OdInProjRefIdeal.main_arg1))
    have hq := Cert.OdInProjRefIdeal.Value.ref5 m' c
    have e0 : re2 (m' ((c.tc : Thread Cert.OdInProjRefIdeal.nD Cert.OdInProjRefIdeal.τ).loc Cert.OdInProjRefIdeal.main_arg0)) = re2 (Cert.OdInProjIdeal.Value.N m c) := congrArg re2 a0
    have e1 : re2 (m' ((c.tc : Thread Cert.OdInProjRefIdeal.nD Cert.OdInProjRefIdeal.τ).loc Cert.OdInProjRefIdeal.main_arg1)) = re2 (Cert.OdInProjIdeal.Value.W m c) := congrArg re2 a1
    rw [e0, e1] at hp hq
    have hv := Cert.OdInProjRefIdeal.Value.ref6 _ _ hp
    exact ⟨h0.trans (funext hq), h1.trans (funext hv), h2.trans (funext (Cert.OdInProjRefIdeal.Value.ref7 _ _ hp)),
      h3.trans (funext (Cert.OdInProjRefIdeal.Value.ref8 _ _ hq)), h4.trans (funext (Cert.OdInProjRefIdeal.Value.ref9 _ _ hv)),
      h5.trans (funext (Cert.OdInProjRefIdeal.Value.ref10 _ _ hq)), h6.trans (funext (Cert.OdInProjRefIdeal.Value.ref11 _ _ hv)), hk⟩

end Cert.Proof
end
-- ==== Proof.RmsInVal.lean ====
module

public import proofs.«01_k».proof.Proof.Gen.RmsInIdeal.Frame
public import proofs.«01_k».proof.Proof.Gen.RmsInIdeal.Value
public import proofs.«01_k».proof.Proof.Gen.RmsInRefIdeal.Run
public import proofs.«01_k».proof.Proof.DownVal

@[expose] public section

/-! # The norm of the first layer's input -/

set_option maxRecDepth 16384
noncomputable section
open Idealize.ShloMosaic Idealize.ShloMosaic.TcCoe Idealize.SL.Sem

namespace Cert.RmsInIdeal.Value
open Idealize.ShloMosaic.Pipeline (Dat)
open Cert.RmsInIdeal Cert.RmsInIdeal.Gen Cert.Model

variable (m : (ℓ : Loc nD τ sig) → Buf (Elt Ideal) ℓ) (c : Dev nD)

/-- The rows. -/
abbrev H : Vec Ideal S8192x1024 .f32 := m ((c : Thread nD τ).loc main_arg0)
/-- The gain. -/
abbrev G : Vec Ideal S1x1024 .f32 := m ((c : Thread nD τ).loc main_arg1)

/-- Where each window's block lies. -/
theorem idx : ∀ t : Fin cfg0.N, win0_0.index t = ![t.val, 0] ∧ win0_1.index t = ![0, 0] ∧ win0_2.index t = ![t.val, 0] :=
  (by decide +kernel : ∀ t : Fin grid0.N, _)

/-- The rows, block by block. -/
theorem hb0 (t : Fin cfg0.N) (y : S1024x1024.Idx) : (iblk m c 0 t : Vec Ideal S1024x1024 .f32) y = re2 (H m c) (1024 * t.val + (y 0).val) (y 1).val := by
  blk_simp [iblk, V, idx t]
  refine eq_re2 (H m c) _ _ _ ?_ ?_ <;> blk_simp [idx t] <;> omega
/-- The gain, whole at every step. -/
theorem hb1 (t : Fin cfg0.N) (y : S1x1024.Idx) : (iblk m c 1 t : Vec Ideal S1x1024 .f32) y = re2 (G m c) (y 0).val (y 1).val := by
  blk_simp [iblk, V, idx t]
  refine eq_re2 (G m c) _ _ _ ?_ ?_ <;> blk_simp [idx t]

/-- The call's result. -/
theorem arr2 : (dats m 0 c).arrAt 2 cfg0.N = ((fun y => no (re2 (H m c)) (re2 (G m c) 0) (y 0).val (y 1).val) : Vec Ideal S8192x1024 .bf16) := by
  refine (dats m 0 c).arrAt_eq_of_covers 2 _ (by decide +kernel) fun t _ y => ?_
  blk_simp
  rw [after0_2]
  frame_out [out0_2]
  pointwise [k0_pay1, hb0, hb1]
  blk_simp [idx t]
  rw [Nat.mul_comm 1024]
  rfl

end Cert.RmsInIdeal.Value
end
-- ==== Proof.LossHeadVal.lean ====
module

public import proofs.«01_k».proof.Proof.Gen.LossHeadIdeal.Frame
public import proofs.«01_k».proof.Proof.Gen.LossHeadIdeal.Value
public import proofs.«01_k».proof.Proof.Gen.LossHeadRefIdeal.Run
public import proofs.«01_k».proof.Proof.DownVal
public import proofs.«01_k».proof.Proof.UpBackVal

@[expose] public section

/-! # The loss, and its gradients for the last layer's rows and the final norm's gain -/

set_option maxRecDepth 16384
noncomputable section
open Idealize.ShloMosaic Idealize.ShloMosaic.TcCoe Idealize.SL.Sem

namespace Cert.Model

/-- The normalised rows less the target. -/
def err (h : ℕ → ℕ → EReal) (g : ℕ → EReal) (t : ℕ → ℕ → EReal) (r j : ℕ) : EReal := no h g r j - t r j
/-- The gradient of the loss for the normalised rows. -/
def derr (h : ℕ → ℕ → EReal) (g : ℕ → EReal) (t : ℕ → ℕ → EReal) (r j : ℕ) : EReal := err h g t r j * ((1 / 1024 : ℝ) : EReal)
/-- The squared errors of a row. -/
def sqerr (h : ℕ → ℕ → EReal) (g : ℕ → EReal) (t : ℕ → ℕ → EReal) (r : ℕ) : EReal := ∑ j : Fin 1024, err h g t r j.val * err h g t r j.val
/-- The loss, from eight blocks of 1024 rows. -/
def loss (h : ℕ → ℕ → EReal) (g : ℕ → EReal) (t : ℕ → ℕ → EReal) : EReal :=
  ∑ q : Fin 8, (∑ k : Fin 1024, sqerr h g t (1024 * q.val + k.val)) * ((1 / 2048 : ℝ) : EReal)

/-- One part in 1024. -/
theorem ofBits_inv1024 : Ideal.ofBits .f32 0x3A800000#32 = ((1 / 1024 : ℝ) : EReal) := by
  simp [Ideal.ofBits, Ideal.ieee, ← EReal.coe_mul]; norm_num
/-- One part in 2048. -/
theorem ofBits_inv2048 : Ideal.ofBits .f32 0x3A000000#32 = ((1 / 2048 : ℝ) : EReal) := by
  simp [Ideal.ofBits, Ideal.ieee, ← EReal.coe_mul]; norm_num
/-- Two. -/
theorem ofBits_two' : Ideal.ofBits .f32 0x40000000#32 = ((2 : ℝ) : EReal) := by
  simp [Ideal.ofBits, Ideal.ieee, ← EReal.coe_mul]; norm_num

/-- A nonnegative real factor comes out of a sum. -/
theorem mul_sum_real {ι : Type} (s : Finset ι) (f : ι → EReal) {a : ℝ} (ha : 0 ≤ a) : (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (by exact_mod_cast ha) (EReal.coe_ne_top a), ih]

/-- The reference's order of the loss: half the sum of the rows' means. -/
theorem loss_rows (h : ℕ → ℕ → EReal) (g : ℕ → EReal) (t : ℕ → ℕ → EReal) :
    Ideal.ofBits .f32 0x3F000000#32 * ∑ r : Fin 8192, Ideal.div (sqerr h g t r.val) (Ideal.ofBits .f32 0x44800000#32) = loss h g t := by
  rw [ofBits_half, ofBits_1024, mul_sum_real _ _ (by norm_num), Fin.sum_univ_tiles 8 1024 rfl]
  unfold loss
  refine Finset.sum_congr rfl fun q _ => ?_
  rw [mul_comm (∑ k : Fin 1024, _), mul_sum_real _ _ (by norm_num)]
  refine Finset.sum_congr rfl fun k _ => ?_
  rw [Ideal.div_coe (by norm_num : (1024 : ℝ) ≠ 0), mul_comm (sqerr _ _ _ _), ← mul_assoc, ← EReal.coe_mul, Nat.mul_comm 1024]
  norm_num

end Cert.Model

namespace Cert.LossHeadIdeal.Value
open Idealize.ShloMosaic.Pipeline (Dat)
open Cert.LossHeadIdeal Cert.LossHeadIdeal.Gen Cert.Model

variable (m : (ℓ : Loc nD τ sig) → Buf (Elt Ideal) ℓ) (c : Dev nD)

/-- The last layer's rows. -/
abbrev H : Vec Ideal S8192x1024 .f32 := m ((c : Thread nD τ).loc main_arg0)
/-- The final norm's gain. -/
abbrev G : Vec Ideal S1x1024 .f32 := m ((c : Thread nD τ).loc main_arg1)
/-- The target. -/
abbrev T : Vec Ideal S8192x1024 .f32 := m ((c : Thread nD τ).loc main_arg2)

/-- Where each window's block lies. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

/-- The rows, block by block. -/
theorem hb0 (t : Fin cfg0.N) (y : S1024x1024.Idx) : (iblk m c 0 t : Vec Ideal S1024x1024 .f32) y = re2 (H m c) (1024 * t.val + (y 0).val) (y 1).val := by
  blk_simp [iblk, V, idx t]
  refine eq_re2 (H m c) _ _ _ ?_ ?_ <;> blk_simp [idx t] <;> omega
/-- The gain, whole at every step. -/
theorem hb1 (t : Fin cfg0.N) (y : S1x1024.Idx) : (iblk m c 1 t : Vec Ideal S1x1024 .f32) y = re2 (G m c) (y 0).val (y 1).val := by
  blk_simp [iblk, V, idx t]
  refine eq_re2 (G m c) _ _ _ ?_ ?_ <;> blk_simp [idx t]
/-- The target, block by block. -/
theorem hb2 (t : Fin cfg0.N) (y : S1024x1024.Idx) : (iblk m c 2 t : Vec Ideal S1024x1024 .f32) y = re2 (T m c) (1024 * t.val + (y 0).val) (y 1).val := by
  blk_simp [iblk, V, idx t]
  refine eq_re2 (T m c) _ _ _ ?_ ?_ <;> blk_simp [idx t] <;> omega

/-- The errors. -/
abbrev E : ℕ → ℕ → EReal := err (re2 (H m c)) (re2 (G m c) 0) (re2 (T m c))
/-- The gradient of the normalised rows. -/
abbrev dN : ℕ → ℕ → EReal := derr (re2 (H m c)) (re2 (G m c) 0) (re2 (T m c))
/-- The gradient of the last layer's rows. -/
abbrev dX (r j : ℕ) : EReal := dnorm (dN m c) (re2 (H m c)) (re2 (G m c) 0) r j

/-- A block's errors. -/
theorem pay6 (t : Fin cfg0.N) (y : S1024x1024.Idx) : k0_pay6 (F := Ideal) (iblk m c 0 t) (iblk m c 1 t) (iblk m c 2 t) y = E m c (1024 * t.val + (y 0).val) (y 1).val := by
  pointwise [k0_pay6, hb0, hb1, hb2]
  rfl
/-- A block of the gradient of the normalised rows. -/
theorem pay8 (t : Fin cfg0.N) (y : S1024x1024.Idx) : k0_pay8 (F := Ideal) (iblk m c 0 t) (iblk m c 1 t) (iblk m c 2 t) y = dN m c (1024 * t.val + (y 0).val) (y 1).val := by
  pointwise [k0_pay8, pay6]
  rw [ofBits_inv1024]
  rfl
/-- A block's reciprocal roots of the mean squares. -/
theorem pay1 (t : Fin cfg0.N) (y : S1024x1.Idx) : k0_pay1 (F := Ideal) (k0_pay9 (iblk m c 0 t)) y = rsq (re2 (H m c)) (1024 * t.val + (y 0).val) := by
  pointwise [k0_pay1, k0_pay9, hb0]
  rfl
/-- A block of the rows' gradient. -/
theorem pay2 (t : Fin cfg0.N) (y : S1024x1024.Idx) : k0_pay2 (F := Ideal) (iblk m c 0 t) (k0_pay8 (iblk m c 0 t) (iblk m c 1 t) (iblk m c 2 t)) (iblk m c 1 t) (k0_pay9 (iblk m c 0 t)) y
    = dX m c (1024 * t.val + (y 0).val) (y 1).val := by
  pointwise [k0_pay2, pay1, pay8, hb0, hb1]
  rfl
/-- What a point adds to the gain's gradient. -/
def term (n j : ℕ) : EReal := ∑ k : Fin 1024, dgain (dN m c) (re2 (H m c)) (1024 * n + k.val) j
/-- A block's column sums added to what was there. -/
theorem pay3 (t : Fin cfg0.N) (P : Vec Ideal S1x1024 .f32) (y : S1x1024.Idx) :
    k0_pay3 (F := Ideal) (iblk m c 0 t) (k0_pay8 (iblk m c 0 t) (iblk m c 1 t) (iblk m c 2 t)) (k0_pay9 (iblk m c 0 t)) P y = P y + term m c t.val (y 1).val := by
  pointwise [k0_pay3, pay1, pay8, hb0]
  rfl
/-- What a point adds to the loss. -/
def part (n : ℕ) : EReal := (∑ k : Fin 1024, sqerr (re2 (H m c)) (re2 (G m c) 0) (re2 (T m c)) (1024 * n + k.val)) * ((1 / 2048 : ℝ) : EReal)
/-- A block's loss added to what was there. -/
theorem pay7 (t : Fin cfg0.N) (P : Vec Ideal S8x128 .f32) (y : S8x128.Idx) :
    k0_pay7 (F := Ideal) (iblk m c 0 t) (iblk m c 1 t) (iblk m c 2 t) P y = P y + part m c t.val := by
  pointwise [k0_pay7, pay6]
  rw [ofBits_inv2048]
  rfl

/-- The rows' gradient at a point. -/
theorem dh_eq (t : Fin cfg0.N) (y) : (outsAt0 m c t.val t.isLt).2.1 y = dX m c (1024 * t.val + (y 0).val) (y 1).val := by
  by_cases h : t.val % 8 = 0
  · rw [outsAt0_A m c t h]; frame_out
    exact pay2 m c t y
  · rw [outsAt0_B m c t h]; frame_out
    exact pay2 m c t y

/-- The loss, at a later point. -/
theorem loss_B (t : Fin cfg0.N) (h : ¬ t.val % 8 = 0) (hp : t.val - 1 < cfg0.N) (y) : (outsAt0 m c t.val t.isLt).1 y
    = (outsAt0 m c (t.val - 1) hp).1 y + part m c t.val := by
  rw [outsAt0_B m c t h]; frame_out
  exact pay7 m c t _ y
/-- The loss, at the first point. -/
theorem loss_A (t : Fin cfg0.N) (h : t.val % 8 = 0) (y) : (outsAt0 m c t.val t.isLt).1 y = 0 + part m c t.val := by
  rw [outsAt0_A m c t h]; frame_out
  refine (pay7 m c t _ y).trans (congrArg (· + _) ?_)
  pointwise [k0_pay4]

/-- The gain's gradient, at a later point. -/
theorem dg_B (t : Fin cfg0.N) (h : ¬ t.val % 8 = 0) (hp : t.val - 1 < cfg0.N) (y) : (outsAt0 m c t.val t.isLt).2.2 y
    = (outsAt0 m c (t.val - 1) hp).2.2 y + if (y 0).val = 0 then term m c t.val (y 1).val else 0 := by
  rw [outsAt0_B m c t h]; frame_out
  refine UpBackIdeal.Value.row_out _ _ _ [] ?_ _ _ (fun x => pay3 m c t _ x) y
  exact Memref.IsWhole.read_unread _ _
/-- The gain's gradient, at the first point. -/
theorem dg_A (t : Fin cfg0.N) (h : t.val % 8 = 0) (y) : (outsAt0 m c t.val t.isLt).2.2 y
    = 0 + if (y 0).val = 0 then term m c t.val (y 1).val else 0 := by
  rw [outsAt0_A m c t h]; frame_out
  simp (disch := decide) only [↓View.readCov_fill]
  rw [← View.read_writes_junk_apply_eq_canon (ms0_5 t).view y]
  refine (UpBackIdeal.Value.row_out _ _ (k0_pay5 (F := Ideal)) [_] ?_ _ _ (fun x => pay3 m c t _ x) y).trans (congrArg (· + _) ?_)
  · exact View.read_writes_full _ _ _ _ _
  · pointwise [k0_pay5]

/-- The loss, at every place of the call's first result. -/
theorem arr3 : (dats m 0 c).arrAt 3 cfg0.N = ((fun _ => loss (re2 (H m c)) (re2 (G m c) 0) (re2 (T m c))) : Vec Ideal S8x128 .f32) := by
  refine (dats m 0 c).arrAt_eq_of_after_last 3 t0_7 (by decide +kernel) _ fun j => ?_
  blk_simp
  rw [after0_3, Pipeline.eq_sum_fin_of_reset_step_apply_last (fun n h => (outsAt0 m c n h).1) 8 (fun _ => 0) (fun n _ => part m c n)
    (fun t h j => by rw [loss_A m c t h j])
    (fun t h j => by rw [loss_B m c t h (by have := t.isLt; omega) j])
    (le_of_eq N_0) t0_7 rfl j]
  exact zero_add (_ : EReal)

/-- The rows' gradient. -/
theorem arr4 : (dats m 0 c).arrAt 4 cfg0.N = ((fun y => dX m c (y 0).val (y 1).val) : Vec Ideal S8192x1024 .f32) := by
  refine (dats m 0 c).arrAt_eq_of_covers 4 _ (by decide +kernel) fun t _ y => ?_
  blk_simp
  rw [after0_4]
  refine (dh_eq m c t _).trans ?_
  blk_simp [idx t]
  rw [Nat.mul_comm 1024]

/-- The gain's gradient, in the first of eight rows. -/
theorem arr5 : (dats m 0 c).arrAt 5 cfg0.N = ((fun y => if (y 0).val = 0 then ∑ r : Fin 8192, dgain (dN m c) (re2 (H m c)) r.val (y 1).val else 0) : Vec Ideal S8x1024 .f32) := by
  refine (dats m 0 c).arrAt_eq_of_after_last 5 t0_7 (by decide +kernel) _ fun j => ?_
  blk_simp
  rw [after0_5, Pipeline.eq_sum_fin_of_reset_step_apply_last (fun n h => (outsAt0 m c n h).2.2) 8 (fun _ => 0) _
    (fun t h j => by rw [dg_A m c t h j])
    (fun t h j => by rw [dg_B m c t h (by have := t.isLt; omega) j])
    (le_of_eq N_0) t0_7 rfl j]
  exact (zero_add (_ : EReal)).trans (sum_steps 8 1024 rfl (dN m c) (re2 (H m c)) _ _)

end Cert.LossHeadIdeal.Value

namespace Cert.LossHeadRefIdeal.Value
open Cert.LossHeadRefIdeal Cert.LossHeadRefIdeal.Gen Cert.Model

variable (a0 : Vec Ideal S8192x1024 .f32) (a1 : Vec Ideal S1x1024 .f32) (a2 : Vec Ideal S8192x1024 .f32)

/-- The reference's errors. -/
abbrev errR : Vec Ideal S8192x1024 .f32 :=
  subf (F := Ideal) (φ := .f32) (mulf (F := Ideal) (φ := .f32) (mulf (F := Ideal) (φ := .f32) a0 (broadcastInDim S8192x1024 ![0, 1] bcast_S8192x1_S8192x1024_0_1 (Host.rsqrt (F := Ideal) (φ := .f32) (UpBackRefIdeal.Value.ms a0)))) (broadcastInDim S8192x1024 ![0, 1] bcast_S1x1024_S8192x1024_0_1 a1)) a2
/-- One of them. -/
theorem errR_eq (y : S8192x1024.Idx) : errR a0 a1 a2 y = err (re2 a0) (re2 a1 0) (re2 a2) (y 0).val (y 1).val := by
  have hm : Ideal.rsqrt (UpBackRefIdeal.Value.ms a0 (ValueIdx.ix2 (y 0) 0)) = rsq (re2 a0) (y 0).val := congrArg Ideal.rsqrt (UpBackRefIdeal.Value.ms_eq a0 _)
  unfold errR
  generalize UpBackRefIdeal.Value.ms a0 = M at *
  pointwise []
  exact congrArg₂ (· - ·) (congrArg₂ (· * ·) (congrArg₂ (· * ·) (eq_re2 a0 _ _ _ rfl rfl) hm) (eq_re2 a1 _ _ _ rfl rfl)) (eq_re2 a2 _ _ _ rfl rfl)

/-- The reference's gradient of the normalised rows. -/
abbrev dnR : Vec Ideal S8192x1024 .f32 :=
  mulf (F := Ideal) (φ := .f32) (broadcastInDim S8192x1024 ![0] bcast_S8192_S8192x1024_0 (Host.divf (F := Ideal) (φ := .f32) (broadcastInDim S8192 ![] bcast_S_S8192 (mulf (F := Ideal) (φ := .f32) (constant (F := Ideal) S_ .f32 0x3F000000#32) (constant (F := Ideal) S_ .f32 0x3F800000#32))) (broadcastInDim S8192 ![] bcast_S_S8192 (constant (F := Ideal) S_ .f32 0x44800000#32))))
    (mulf (F := Ideal) (φ := .f32) (broadcastInDim S8192x1024 ![] bcast_S_S8192x1024 (constant (F := Ideal) S_ .f32 0x40000000#32)) (errR a0 a1 a2))
/-- One entry of it. -/
theorem dnR_eq (y : S8192x1024.Idx) : dnR a0 a1 a2 y = derr (re2 a0) (re2 a1 0) (re2 a2) (y 0).val (y 1).val := by
  have he := errR_eq a0 a1 a2 y
  unfold dnR
  generalize errR a0 a1 a2 = X at *
  pointwise []
  rw [he, ofBits_half, ofBits_1024, ofBits_two', div_real _ (by norm_num), ← mul_assoc, ← EReal.coe_mul, mul_comm]
  unfold derr
  norm_num

/-- The loss as the reference computes it, at every place. -/
theorem ref0 (y : S8x128.Idx) :
    (broadcastInDim S8x128 ![] bcast_S_S8x128 (mulf (F := Ideal) (φ := .f32) (constant (F := Ideal) S_ .f32 0x3F000000#32) (Host.reduceAdd (F := Ideal) (φ := .f32) (Host.divf (F := Ideal) (φ := .f32) (Host.reduceAdd (F := Ideal) (φ := .f32) (mulf (F := Ideal) (φ := .f32) (errR a0 a1 a2) (errR a0 a1 a2)) (constant (F := Ideal) S_ .f32 0x00000000#32) reducesTo_S8192x1024_S8192_d1 h_S_) (broadcastInDim S8192 ![] bcast_S_S8192 (constant (F := Ideal) S_ .f32 0x44800000#32))) (constant (F := Ideal) S_ .f32 0x00000000#32) reducesTo_S8192_S_d0 h_S_)) : Vec Ideal S8x128 .f32) y
      = loss (re2 a0) (re2 a1 0) (re2 a2) := by
  have he := errR_eq a0 a1 a2
  generalize errR a0 a1 a2 = X at *
  pointwise [he]
  exact loss_rows _ _ _

/-- The rows' gradient as the reference computes it. -/
theorem ref1 (y : S8192x1024.Idx) :
    (addf (F := Ideal) (φ := .f32) (addf (F := Ideal) (φ := .f32) (mulf (F := Ideal) (φ := .f32) (UpBackRefIdeal.Value.dg a1 (dnR a0 a1 a2)) (broadcastInDim S8192x1024 ![0, 1] bcast_S8192x1_S8192x1024_0_1 (Host.rsqrt (F := Ideal) (φ := .f32) (UpBackRefIdeal.Value.ms a0)))) (mulf (F := Ideal) (φ := .f32) a0 (broadcastInDim S8192x1024 ![0] bcast_S8192_S8192x1024_0 (UpBackRefIdeal.Value.xr a0 a1 (dnR a0 a1 a2))))) (mulf (F := Ideal) (φ := .f32) (broadcastInDim S8192x1024 ![0] bcast_S8192_S8192x1024_0 (UpBackRefIdeal.Value.xr a0 a1 (dnR a0 a1 a2))) a0) : Vec Ideal S8192x1024 .f32) y
      = dnorm (derr (re2 a0) (re2 a1 0) (re2 a2)) (re2 a0) (re2 a1 0) (y 0).val (y 1).val := by
  have h := UpBackRefIdeal.Value.ref1 a0 a1 (fun _ => (0 : EReal)) (dnR a0 a1 a2) _ (dnR_eq a0 a1 a2) y
  have hz : re2 ((fun _ => (0 : EReal)) : Vec Ideal S8192x1024 .f32) (y 0).val (y 1).val = 0 := (eq_re2 _ y _ _ rfl rfl).symm
  rw [hz, zero_add] at h
  refine Eq.trans ?_ h
  generalize UpBackRefIdeal.Value.xr a0 a1 (dnR a0 a1 a2) = X at *
  generalize UpBackRefIdeal.Value.ms a0 = M at *
  generalize UpBackRefIdeal.Value.dg a1 (dnR a0 a1 a2) = Z at *
  pointwise []

end Cert.LossHeadRefIdeal.Value
end
-- ==== Proof.GmlpFwdVal.lean ====
module

public import proofs.«01_k».proof.Proof.Gen.GmlpFwdIdeal.Frame
public import proofs.«01_k».proof.Proof.Gen.GmlpFwdIdeal.Value
public import proofs.«01_k».proof.Proof.Gen.GmlpFwdRefIdeal.Run
public import proofs.«01_k».proof.Proof.Arrays
public import proofs.«01_k».proof.Proof.Win
public import proofs.«01_k».proof.Proof.RefA

@[expose] public section

/-! # The gated unit, forward -/

set_option maxRecDepth 16384
noncomputable section
open Idealize.ShloMosaic Idealize.ShloMosaic.TcCoe Idealize.SL.Sem

namespace Cert.Model

/-- A stack of matrices read at natural numbers. -/
def re3 {p n m : ℕ} (A : (⟨3, ![p, n, m]⟩ : Shape).Idx → EReal) (g r j : ℕ) : EReal :=
  if h : g < p ∧ r < n ∧ j < m then A (ValueIdx.ix3 ⟨g, h.1⟩ ⟨r, h.2.1⟩ ⟨j, h.2.2⟩) else 0

/-- An entry is the reading at its place. -/
theorem eq_re3 {p n m : ℕ} (A : (⟨3, ![p, n, m]⟩ : Shape).Idx → EReal) (y : (⟨3, ![p, n, m]⟩ : Shape).Idx) (g r j : ℕ)
    (h0 : (y 0).val = g) (h1 : (y 1).val = r) (h2 : (y 2).val = j) : A y = re3 A g r j := by
  subst h0 h1 h2
  unfold re3
  rw [dif_pos ⟨(y 0).isLt, (y 1).isLt, (y 2).isLt⟩]
  congr 1
  funext i
  match i with
  | ⟨0, _⟩ => rfl
  | ⟨1, _⟩ => rfl
  | ⟨2, _⟩ => rfl

/-- The activation, at any extended real. -/
def gelE (z : EReal) : EReal := Ideal.ofBits .f32 0x3F000000#32 * z * (1 + Ideal.tanh (Ideal.ofBits .f32 0x3F4C422A#32 * (z + (gc : EReal) * z * z * z)))

variable (z : ℕ → ℕ → EReal) (lg lb : ℕ → EReal) (w : ℕ → ℕ → ℕ → EReal) (sb : ℕ → ℕ → EReal)

/-- The gate half of the activations, less the row's mean. -/
def xcE (r j : ℕ) : EReal := gelE (z r (512 + j)) - Ideal.div (∑ k : Fin 512, gelE (z r (512 + k.val))) (Ideal.ofBits .f32 0x44000000#32)
/-- The normalised gate half with gain and offset. -/
def gnE (r j : ℕ) : EReal :=
  xcE z r j * Ideal.rsqrt (Ideal.div (∑ k : Fin 512, xcE z r k.val * xcE z r k.val) (Ideal.ofBits .f32 0x44000000#32) + Ideal.ofBits .f32 0x3727C5AC#32) * lg j + lb j
/-- The mixing weights, zero where the position mixed in is later. -/
def wmE (g i k : ℕ) : EReal := if k ≤ i then w g i k else 0
/-- The mixed rows. -/
def mixE (r j : ℕ) : EReal := (∑ k : Fin 128, wmE w (j / 64) (r % 128) k.val * gnE z lg lb (r / 128 * 128 + k.val) j) + sb (r % 128) j
/-- The gated unit's result. -/
def gmlpE (r j : ℕ) : EReal := gelE (z r j) * mixE z lg lb w sb r j

/-- One entry of the mixed rows, from the row's chunk and place in it and the channel's group and place in it. -/
theorem mixE_at {r j R J i g l : ℕ} (hr : r = R + i) (hR : R % 128 = 0) (hi : i < 128) (hj : j = J + l) (hJ : J = 64 * g) (hl : l < 64) :
    mixE z lg lb w sb r j = (∑ k : Fin 128, wmE w g i k.val * gnE z lg lb (R + k.val) (J + l)) + sb i (J + l) := by
  have e1 : j / 64 = g := by omega
  have e2 : r % 128 = i := by omega
  have e3 : r / 128 * 128 = R := by omega
  rw [mixE, e1, e2, e3, hj]

/-- A block of 512 rows has the chunks of the whole. -/
theorem gmlpE_shift (t r j : ℕ) : gmlpE (fun r j => z (512 * t + r) j) lg lb w sb r j = gmlpE z lg lb w sb (512 * t + r) j := by
  unfold gmlpE mixE
  have e2 : (512 * t + r) % 128 = r % 128 := by omega
  have e3 : (512 * t + r) / 128 * 128 = 512 * t + r / 128 * 128 := by omega
  rw [e2, e3]
  simp only [add_assoc]
  rfl

end Cert.Model

namespace Cert.GmlpFwdIdeal.Value
open Idealize.ShloMosaic.Pipeline (Dat)
open Cert.GmlpFwdIdeal Cert.GmlpFwdIdeal.Gen Cert.Model

/-- The named constant. -/
theorem gelu_c : (Named.named κ "gelu_c" (0x3D372713#32 : BitVec FTy.f32.bits) : Ideal .f32) = (gc : EReal) := rfl

section
variable (z : ℕ → ℕ → EReal) (lg lb : ℕ → EReal) (w : ℕ → ℕ → ℕ → EReal) (sb : ℕ → ℕ → EReal)
  (x0 : Vec Ideal S512x1024 .bf16) (x1 x2 : Vec Ideal S1x512 .f32) (x3 : Vec Ideal S8x128x128 .f32) (x4 : Vec Ideal S128x512 .f32)
  (h0 : ∀ y, x0 y = z (y 0).val (y 1).val) (h1 : ∀ y, x1 y = lg (y 1).val) (h2 : ∀ y, x2 y = lb (y 1).val)
  (h3 : ∀ y, x3 y = w (y 0).val (y 1).val (y 2).val) (h4 : ∀ y, x4 y = sb (y 0).val (y 1).val)

include h0 in
/-- The activation of a block. -/
theorem pay15_eq (y) : k0_pay15 (F := Ideal) x0 y = gelE (z (y 0).val (y 1).val) := by
  pointwise [k0_pay15, h0]
  rw [gelu_c]
  rfl
include h0 h1 h2 in
/-- The normalised gate half of a block. -/
theorem pay16_eq (y) : k0_pay16 (F := Ideal) x0 x1 x2 y = gnE z lg lb (y 0).val (y 1).val := by
  pointwise [k0_pay16, pay15_eq z x0 h0, h1, h2]
  rfl

/-- The masked weights. -/
def Wm : Vec Ideal S8x128x128 .bf16 := fun y => wmE w (y 0).val (y 1).val (y 2).val

/-- The mask at an entry: the weight where the position mixed in is not later, zero elsewhere. -/
theorem mask_val {g' g i k : ℕ} (hg : g' = g) (hi : i < 128) (hk : k < 128) :
    Scalar.select (IntOp.cmpi .sle (BitVec.ofNat 32 k) (BitVec.ofNat 32 i)) (w g i k) 0 = wmE w g' i k := by
  subst hg
  rw [WordCmp.cmpi_sle_ofNat (by omega) (by omega)]
  unfold Scalar.select wmE
  by_cases h : k ≤ i <;> simp [h]

include h3 in
/-- The masked weights' buffer after its eight stores. -/
theorem w_canon : View.canon (Val := Elt Ideal) (s := S8x128x128) (e := .bf16)
      [⟨Rect.unit ![7, 0, 0] ![1, 128, 128] inb_S8x128x128_S1x128x128_7_0_0,
        k0_pay14 (F := Ideal) (cmpi .sle (iota .tc S128x128 32 [1] iota_S128x128_d1_w32) (iota .tc S128x128 32 [0] iota_S128x128_d0_w32)) (shapeCast S128x128 (View.ld x3 (Rect.unit ![7, 0, 0] ![1, 128, 128] inb_S8x128x128_S1x128x128_7_0_0)) shapeCasts_S1x128x128_S128x128)⟩,
      ⟨Rect.unit ![6, 0, 0] ![1, 128, 128] inb_S8x128x128_S1x128x128_6_0_0,
        shapeCast S1x128x128 (truncf .bf16 (select (cmpi .sle (iota .tc S128x128 32 [1] iota_S128x128_d1_w32) (iota .tc S128x128 32 [0] iota_S128x128_d0_w32)) (shapeCast S128x128 (View.ld x3 (Rect.unit ![6, 0, 0] ![1, 128, 128] inb_S8x128x128_S1x128x128_6_0_0)) shapeCasts_S1x128x128_S128x128) (broadcast S128x128 (FloatOps.ofBits .f32 0x00000000#32 : Ideal .f32))) bitsLt_bf16_f32) shapeCasts_S128x128_S1x128x128⟩,
      ⟨Rect.unit ![5, 0, 0] ![1, 128, 128] inb_S8x128x128_S1x128x128_5_0_0,
        shapeCast S1x128x128 (truncf .bf16 (select (cmpi .sle (iota .tc S128x128 32 [1] iota_S128x128_d1_w32) (iota .tc S128x128 32 [0] iota_S128x128_d0_w32)) (shapeCast S128x128 (View.ld x3 (Rect.unit ![5, 0, 0] ![1, 128, 128] inb_S8x128x128_S1x128x128_5_0_0)) shapeCasts_S1x128x128_S128x128) (broadcast S128x128 (FloatOps.ofBits .f32 0x00000000#32 : Ideal .f32))) bitsLt_bf16_f32) shapeCasts_S128x128_S1x128x128⟩,
      ⟨Rect.unit ![4, 0, 0] ![1, 128, 128] inb_S8x128x128_S1x128x128_4_0_0,
        shapeCast S1x128x128 (truncf .bf16 (select (cmpi .sle (iota .tc S128x128 32 [1] iota_S128x128_d1_w32) (iota .tc S128x128 32 [0] iota_S128x128_d0_w32)) (shapeCast S128x128 (View.ld x3 (Rect.unit ![4, 0, 0] ![1, 128, 128] inb_S8x128x128_S1x128x128_4_0_0)) shapeCasts_S1x128x128_S128x128) (broadcast S128x128 (FloatOps.ofBits .f32 0x00000000#32 : Ideal .f32))) bitsLt_bf16_f32) shapeCasts_S128x128_S1x128x128⟩,
      ⟨Rect.unit ![3, 0, 0] ![1, 128, 128] inb_S8x128x128_S1x128x128_3_0_0,
        shapeCast S1x128x128 (truncf .bf16 (select (cmpi .sle (iota .tc S128x128 32 [1] iota_S128x128_d1_w32) (iota .tc S128x128 32 [0] iota_S128x128_d0_w32)) (shapeCast S128x128 (View.ld x3 (Rect.unit ![3, 0, 0] ![1, 128, 128] inb_S8x128x128_S1x128x128_3_0_0)) shapeCasts_S1x128x128_S128x128) (broadcast S128x128 (FloatOps.ofBits .f32 0x00000000#32 : Ideal .f32))) bitsLt_bf16_f32) shapeCasts_S128x128_S1x128x128⟩,
      ⟨Rect.unit ![2, 0, 0] ![1, 128, 128] inb_S8x128x128_S1x128x128_2_0_0,
        shapeCast S1x128x128 (truncf .bf16 (select (cmpi .sle (iota .tc S128x128 32 [1] iota_S128x128_d1_w32) (iota .tc S128x128 32 [0] iota_S128x128_d0_w32)) (shapeCast S128x128 (View.ld x3 (Rect.unit ![2, 0, 0] ![1, 128, 128] inb_S8x128x128_S1x128x128_2_0_0)) shapeCasts_S1x128x128_S128x128) (broadcast S128x128 (FloatOps.ofBits .f32 0x00000000#32 : Ideal .f32))) bitsLt_bf16_f32) shapeCasts_S128x128_S1x128x128⟩,
      ⟨Rect.unit ![1, 0, 0] ![1, 128, 128] inb_S8x128x128_S1x128x128_1_0_0,
        shapeCast S1x128x128 (truncf .bf16 (select (cmpi .sle (iota .tc S128x128 32 [1] iota_S128x128_d1_w32) (iota .tc S128x128 32 [0] iota_S128x128_d0_w32)) (shapeCast S128x128 (View.ld x3 (Rect.unit ![1, 0, 0] ![1, 128, 128] inb_S8x128x128_S1x128x128_1_0_0)) shapeCasts_S1x128x128_S128x128) (broadcast S128x128 (FloatOps.ofBits .f32 0x00000000#32 : Ideal .f32))) bitsLt_bf16_f32) shapeCasts_S128x128_S1x128x128⟩,
      ⟨Rect.unit ![0, 0, 0] ![1, 128, 128] inb_S8x128x128_S1x128x128_0_0_0,
        shapeCast S1x128x128 (truncf .bf16 (select (cmpi .sle (iota .tc S128x128 32 [1] iota_S128x128_d1_w32) (iota .tc S128x128 32 [0] iota_S128x128_d0_w32)) (shapeCast S128x128 (View.ld x3 (Rect.unit ![0, 0, 0] ![1, 128, 128] inb_S8x128x128_S1x128x128_0_0_0)) shapeCasts_S1x128x128_S128x128) (broadcast S128x128 (FloatOps.ofBits .f32 0x00000000#32 : Ideal .f32))) bitsLt_bf16_f32) shapeCasts_S128x128_S1x128x128⟩] = Wm w := by
  funext y
  canon_tiles i e
  · pointwise [k0_pay14, View.ld_apply, h3]
    rw [Wm, e1, e2]; exact mask_val w (by omega) i1_lt i2_lt
  · pointwise [k0_pay14, View.ld_apply, h3]
    rw [Wm, e1, e2]; exact mask_val w (by omega) i1_lt i2_lt
  · pointwise [k0_pay14, View.ld_apply, h3]
    rw [Wm, e1, e2]; exact mask_val w (by omega) i1_lt i2_lt
  · pointwise [k0_pay14, View.ld_apply, h3]
    rw [Wm, e1, e2]; exact mask_val w (by omega) i1_lt i2_lt
  · pointwise [k0_pay14, View.ld_apply, h3]
    rw [Wm, e1, e2]; exact mask_val w (by omega) i1_lt i2_lt
  · pointwise [k0_pay14, View.ld_apply, h3]
    rw [Wm, e1, e2]; exact mask_val w (by omega) i1_lt i2_lt
  · pointwise [k0_pay14, View.ld_apply, h3]
    rw [Wm, e1, e2]; exact mask_val w (by omega) i1_lt i2_lt
  · pointwise [k0_pay14, View.ld_apply, h3]
    rw [Wm, e1, e2]; exact mask_val w (by omega) i1_lt i2_lt

/-- A read of a rectangle of the weights' buffer after stores into it. -/
theorem read_w (L : List (View.Piece (Elt Ideal) S8x128x128 .bf16)) (r : Rect S8x128x128) :
    (View.whole cc0_scratch0).readCov (Val := Elt Ideal) L r.toLoadRect = View.ld (View.canon L) r := by
  rw [View.readCov_eq_canon']; rfl

include h0 h1 h2 h4 in
/-- The mixed rows' buffer after its 32 stores. -/
theorem mixBuf (W : Vec Ideal S8x128x128 .bf16) (hW : ∀ y, W y = wmE w (y 0).val (y 1).val (y 2).val) :
    (View.whole cc0_scratch1).readCov (Val := Elt Ideal)
      [⟨Rect.unit ![384, 448] ![128, 64] inb_S512x512_S128x64_384_448,
        k0_pay2 (k0_pay17 (k0_pay16 x0 x1 x2)) (View.ld W (Rect.unit ![7, 0, 0] ![1, 128, 128] inb_S8x128x128_S1x128x128_7_0_0)) (View.ld x4 (Rect.unit ![0, 448] ![128, 64] inb_S128x512_S128x64_0_448))⟩,
      ⟨Rect.unit ![384, 384] ![128, 64] inb_S512x512_S128x64_384_384,
        k0_pay1 (k0_pay17 (k0_pay16 x0 x1 x2)) (View.ld W (Rect.unit ![6, 0, 0] ![1, 128, 128] inb_S8x128x128_S1x128x128_6_0_0)) (View.ld x4 (Rect.unit ![0, 384] ![128, 64] inb_S128x512_S128x64_0_384))⟩,
      ⟨Rect.unit ![384, 320] ![128, 64] inb_S512x512_S128x64_384_320,
        k0_pay53 (k0_pay17 (k0_pay16 x0 x1 x2)) (View.ld W (Rect.unit ![5, 0, 0] ![1, 128, 128] inb_S8x128x128_S1x128x128_5_0_0)) (View.ld x4 (Rect.unit ![0, 320] ![128, 64] inb_S128x512_S128x64_0_320))⟩,
      ⟨Rect.unit ![384, 256] ![128, 64] inb_S512x512_S128x64_384_256,
        k0_pay52 (k0_pay17 (k0_pay16 x0 x1 x2)) (View.ld W (Rect.unit ![4, 0, 0] ![1, 128, 128] inb_S8x128x128_S1x128x128_4_0_0)) (View.ld x4 (Rect.unit ![0, 256] ![128, 64] inb_S128x512_S128x64_0_256))⟩,
      ⟨Rect.unit ![384, 192] ![128, 64] inb_S512x512_S128x64_384_192,
        k0_pay51 (k0_pay17 (k0_pay16 x0 x1 x2)) (View.ld W (Rect.unit ![3, 0, 0] ![1, 128, 128] inb_S8x128x128_S1x128x128_3_0_0)) (View.ld x4 (Rect.unit ![0, 192] ![128, 64] inb_S128x512_S128x64_0_192))⟩,
      ⟨Rect.unit ![384, 128] ![128, 64] inb_S512x512_S128x64_384_128,
        k0_pay50 (k0_pay49 (k0_pay17 (k0_pay16 x0 x1 x2)) (View.ld W (Rect.unit ![2, 0, 0] ![1, 128, 128] inb_S8x128x128_S1x128x128_2_0_0))) (View.ld x4 (Rect.unit ![0, 128] ![128, 64] inb_S128x512_S128x64_0_128))⟩,
      ⟨Rect.unit ![384, 64] ![128, 64] inb_S512x512_S128x64_384_64,
        k0_pay48 (k0_pay17 (k0_pay16 x0 x1 x2)) (View.ld W (Rect.unit ![1, 0, 0] ![1, 128, 128] inb_S8x128x128_S1x128x128_1_0_0)) (View.ld x4 (Rect.unit ![0, 64] ![128, 64] inb_S128x512_S128x64_0_64))⟩,
      ⟨Rect.unit ![384, 0] ![128, 64] inb_S512x512_S128x64_384_0,
        k0_pay47 (k0_pay17 (k0_pay16 x0 x1 x2)) (View.ld W (Rect.unit ![0, 0, 0] ![1, 128, 128] inb_S8x128x128_S1x128x128_0_0_0)) (View.ld x4 (Rect.unit ![0, 0] ![128, 64] inb_S128x512_S128x64_0_0))⟩,
      ⟨Rect.unit ![256, 448] ![128, 64] inb_S512x512_S128x64_256_448,
        k0_pay46 (k0_pay17 (k0_pay16 x0 x1 x2)) (k0_pay45 (View.ld W (Rect.unit ![7, 0, 0] ![1, 128, 128] inb_S8x128x128_S1x128x128_7_0_0))) (View.ld x4 (Rect.unit ![0, 448] ![128, 64] inb_S128x512_S128x64_0_448))⟩,
      ⟨Rect.unit ![256, 384] ![128, 64] inb_S512x512_S128x64_256_384,
        k0_pay44 (k0_pay17 (k0_pay16 x0 x1 x2)) (View.ld W (Rect.unit ![6, 0, 0] ![1, 128, 128] inb_S8x128x128_S1x128x128_6_0_0)) (View.ld x4 (Rect.unit ![0, 384] ![128, 64] inb_S128x512_S128x64_0_384))⟩,
      ⟨Rect.unit ![256, 320] ![128, 64] inb_S512x512_S128x64_256_320,
        k0_pay43 (k0_pay17 (k0_pay16 x0 x1 x2)) (View.ld W (Rect.unit ![5, 0, 0] ![1, 128, 128] inb_S8x128x128_S1x128x128_5_0_0)) (View.ld x4 (Rect.unit ![0, 320] ![128, 64] inb_S128x512_S128x64_0_320))⟩,
      ⟨Rect.unit ![256, 256] ![128, 64] inb_S512x512_S128x64_256_256,
        k0_pay42 (k0_pay17 (k0_pay16 x0 x1 x2)) (View.ld W (Rect.unit ![4, 0, 0] ![1, 128, 128] inb_S8x128x128_S1x128x128_4_0_0)) (View.ld x4 (Rect.unit ![0, 256] ![128, 64] inb_S128x512_S128x64_0_256))⟩,
      ⟨Rect.unit ![256, 192] ![128, 64] inb_S512x512_S128x64_256_192,
        k0_pay41 (k0_pay17 (k0_pay16 x0 x1 x2)) (View.ld W (Rect.unit ![3, 0, 0] ![1, 128, 128] inb_S8x128x128_S1x128x128_3_0_0)) (View.ld x4 (Rect.unit ![0, 192] ![128, 64] inb_S128x512_S128x64_0_192))⟩,
      ⟨Rect.unit ![256, 128] ![128, 64] inb_S512x512_S128x64_256_128,
        k0_pay40 (k0_pay17 (k0_pay16 x0 x1 x2)) (View.ld W (Rect.unit ![2, 0, 0] ![1, 128, 128] inb_S8x128x128_S1x128x128_2_0_0)) (View.ld x4 (Rect.unit ![0, 128] ![128, 64] inb_S128x512_S128x64_0_128))⟩,
      ⟨Rect.unit ![256, 64] ![128, 64] inb_S512x512_S128x64_256_64,
        k0_pay39 (k0_pay17 (k0_pay16 x0 x1 x2)) (View.ld W (Rect.unit ![1, 0, 0] ![1, 128, 128] inb_S8x128x128_S1x128x128_1_0_0)) (View.ld x4 (Rect.unit ![0, 64] ![128, 64] inb_S128x512_S128x64_0_64))⟩,
      ⟨Rect.unit ![256, 0] ![128, 64] inb_S512x512_S128x64_256_0,
        k0_pay38 (k0_pay37 (k0_pay17 (k0_pay16 x0 x1 x2)) (View.ld W (Rect.unit ![0, 0, 0] ![1, 128, 128] inb_S8x128x128_S1x128x128_0_0_0))) (View.ld x4 (Rect.unit ![0, 0] ![128, 64] inb_S128x512_S128x64_0_0))⟩,
      ⟨Rect.unit ![128, 448] ![128, 64] inb_S512x512_S128x64_128_448,
        k0_pay36 (k0_pay17 (k0_pay16 x0 x1 x2)) (View.ld W (Rect.unit ![7, 0, 0] ![1, 128, 128] inb_S8x128x128_S1x128x128_7_0_0)) (View.ld x4 (Rect.unit ![0, 448] ![128, 64] inb_S128x512_S128x64_0_448))⟩,
      ⟨Rect.unit ![128, 384] ![128, 64] inb_S512x512_S128x64_128_384,
        k0_pay35 (k0_pay17 (k0_pay16 x0 x1 x2)) (View.ld W (Rect.unit ![6, 0, 0] ![1, 128, 128] inb_S8x128x128_S1x128x128_6_0_0)) (View.ld x4 (Rect.unit ![0, 384] ![128, 64] inb_S128x512_S128x64_0_384))⟩,
      ⟨Rect.unit ![128, 320] ![128, 64] inb_S512x512_S128x64_128_320,
        k0_pay34 (k0_pay17 (k0_pay16 x0 x1 x2)) (k0_pay33 (View.ld W (Rect.unit ![5, 0, 0] ![1, 128, 128] inb_S8x128x128_S1x128x128_5_0_0))) (View.ld x4 (Rect.unit ![0, 320] ![128, 64] inb_S128x512_S128x64_0_320))⟩,
      ⟨Rect.unit ![128, 256] ![128, 64] inb_S512x512_S128x64_128_256,
        k0_pay32 (k0_pay17 (k0_pay16 x0 x1 x2)) (View.ld W (Rect.unit ![4, 0, 0] ![1, 128, 128] inb_S8x128x128_S1x128x128_4_0_0)) (View.ld x4 (Rect.unit ![0, 256] ![128, 64] inb_S128x512_S128x64_0_256))⟩,
      ⟨Rect.unit ![128, 192] ![128, 64] inb_S512x512_S128x64_128_192,
        k0_pay31 (k0_pay17 (k0_pay16 x0 x1 x2)) (View.ld W (Rect.unit ![3, 0, 0] ![1, 128, 128] inb_S8x128x128_S1x128x128_3_0_0)) (View.ld x4 (Rect.unit ![0, 192] ![128, 64] inb_S128x512_S128x64_0_192))⟩,
      ⟨Rect.unit ![128, 128] ![128, 64] inb_S512x512_S128x64_128_128,
        k0_pay30 (k0_pay17 (k0_pay16 x0 x1 x2)) (View.ld W (Rect.unit ![2, 0, 0] ![1, 128, 128] inb_S8x128x128_S1x128x128_2_0_0)) (View.ld x4 (Rect.unit ![0, 128] ![128, 64] inb_S128x512_S128x64_0_128))⟩,
      ⟨Rect.unit ![128, 64] ![128, 64] inb_S512x512_S128x64_128_64,
        k0_pay29 (k0_pay17 (k0_pay16 x0 x1 x2)) (View.ld W (Rect.unit ![1, 0, 0] ![1, 128, 128] inb_S8x128x128_S1x128x128_1_0_0)) (View.ld x4 (Rect.unit ![0, 64] ![128, 64] inb_S128x512_S128x64_0_64))⟩,
      ⟨Rect.unit ![128, 0] ![128, 64] inb_S512x512_S128x64_128_0,
        k0_pay28 (k0_pay17 (k0_pay16 x0 x1 x2)) (View.ld W (Rect.unit ![0, 0, 0] ![1, 128, 128] inb_S8x128x128_S1x128x128_0_0_0)) (View.ld x4 (Rect.unit ![0, 0] ![128, 64] inb_S128x512_S128x64_0_0))⟩,
      ⟨Rect.unit ![0, 448] ![128, 64] inb_S512x512_S128x64_0_448,
        k0_pay27 (k0_pay17 (k0_pay16 x0 x1 x2)) (View.ld W (Rect.unit ![7, 0, 0] ![1, 128, 128] inb_S8x128x128_S1x128x128_7_0_0)) (View.ld x4 (Rect.unit ![0, 448] ![128, 64] inb_S128x512_S128x64_0_448))⟩,
      ⟨Rect.unit ![0, 384] ![128, 64] inb_S512x512_S128x64_0_384,
        k0_pay26 (k0_pay25 (k0_pay17 (k0_pay16 x0 x1 x2)) (View.ld W (Rect.unit ![6, 0, 0] ![1, 128, 128] inb_S8x128x128_S1x128x128_6_0_0))) (View.ld x4 (Rect.unit ![0, 384] ![128, 64] inb_S128x512_S128x64_0_384))⟩,
      ⟨Rect.unit ![0, 320] ![128, 64] inb_S512x512_S128x64_0_320,
        k0_pay24 (k0_pay17 (k0_pay16 x0 x1 x2)) (View.ld W (Rect.unit ![5, 0, 0] ![1, 128, 128] inb_S8x128x128_S1x128x128_5_0_0)) (View.ld x4 (Rect.unit ![0, 320] ![128, 64] inb_S128x512_S128x64_0_320))⟩,
      ⟨Rect.unit ![0, 256] ![128, 64] inb_S512x512_S128x64_0_256,
        k0_pay23 (k0_pay17 (k0_pay16 x0 x1 x2)) (View.ld W (Rect.unit ![4, 0, 0] ![1, 128, 128] inb_S8x128x128_S1x128x128_4_0_0)) (View.ld x4 (Rect.unit ![0, 256] ![128, 64] inb_S128x512_S128x64_0_256))⟩,
      ⟨Rect.unit ![0, 192] ![128, 64] inb_S512x512_S128x64_0_192,
        k0_pay22 (k0_pay17 (k0_pay16 x0 x1 x2)) (k0_pay21 (View.ld W (Rect.unit ![3, 0, 0] ![1, 128, 128] inb_S8x128x128_S1x128x128_3_0_0))) (View.ld x4 (Rect.unit ![0, 192] ![128, 64] inb_S128x512_S128x64_0_192))⟩,
      ⟨Rect.unit ![0, 128] ![128, 64] inb_S512x512_S128x64_0_128,
        k0_pay20 (k0_pay16 x0 x1 x2) (View.ld W (Rect.unit ![2, 0, 0] ![1, 128, 128] inb_S8x128x128_S1x128x128_2_0_0)) (View.ld x4 (Rect.unit ![0, 128] ![128, 64] inb_S128x512_S128x64_0_128))⟩,
      ⟨Rect.unit ![0, 64] ![128, 64] inb_S512x512_S128x64_0_64,
        k0_pay19 (k0_pay16 x0 x1 x2) (View.ld W (Rect.unit ![1, 0, 0] ![1, 128, 128] inb_S8x128x128_S1x128x128_1_0_0)) (View.ld x4 (Rect.unit ![0, 64] ![128, 64] inb_S128x512_S128x64_0_64))⟩,
      ⟨Rect.unit ![0, 0] ![128, 64] inb_S512x512_S128x64_0_0,
        k0_pay18 (k0_pay16 x0 x1 x2) (View.ld W (Rect.unit ![0, 0, 0] ![1, 128, 128] inb_S8x128x128_S1x128x128_0_0_0)) (View.ld x4 (Rect.unit ![0, 0] ![128, 64] inb_S128x512_S128x64_0_0))⟩]
      (Rect.unit ![0, 0] ![512, 512] inb_S512x512_S512x512_0_0).toLoadRect
      = (fun y => mixE z lg lb w sb (y 0).val (y 1).val : Vec Ideal S512x512 .f32) := by
  refine Cert.KernelIdeal.Value.readCov_whole _ _ _ fun y => ?_
  canon_tiles i e
  · pointwise [k0_pay2, k0_pay17, View.ld_apply, hW, pay16_eq z lg lb x0 x1 x2 h0 h1 h2, h4]
    rw [mixE_at z lg lb w sb (R := 384) (J := 448) (g := 7) (i := (i 0).val) (l := (i 1).val) (by omega) rfl i0_lt (by omega) rfl i1_lt]
  · pointwise [k0_pay1, k0_pay17, View.ld_apply, hW, pay16_eq z lg lb x0 x1 x2 h0 h1 h2, h4]
    rw [mixE_at z lg lb w sb (R := 384) (J := 384) (g := 6) (i := (i 0).val) (l := (i 1).val) (by omega) rfl i0_lt (by omega) rfl i1_lt]
  · pointwise [k0_pay53, k0_pay17, View.ld_apply, hW, pay16_eq z lg lb x0 x1 x2 h0 h1 h2, h4]
    rw [mixE_at z lg lb w sb (R := 384) (J := 320) (g := 5) (i := (i 0).val) (l := (i 1).val) (by omega) rfl i0_lt (by omega) rfl i1_lt]
  · pointwise [k0_pay52, k0_pay17, View.ld_apply, hW, pay16_eq z lg lb x0 x1 x2 h0 h1 h2, h4]
    rw [mixE_at z lg lb w sb (R := 384) (J := 256) (g := 4) (i := (i 0).val) (l := (i 1).val) (by omega) rfl i0_lt (by omega) rfl i1_lt]
  · pointwise [k0_pay51, k0_pay17, View.ld_apply, hW, pay16_eq z lg lb x0 x1 x2 h0 h1 h2, h4]
    rw [mixE_at z lg lb w sb (R := 384) (J := 192) (g := 3) (i := (i 0).val) (l := (i 1).val) (by omega) rfl i0_lt (by omega) rfl i1_lt]
  · pointwise [k0_pay49, k0_pay50, k0_pay17, View.ld_apply, hW, pay16_eq z lg lb x0 x1 x2 h0 h1 h2, h4]
    rw [mixE_at z lg lb w sb (R := 384) (J := 128) (g := 2) (i := (i 0).val) (l := (i 1).val) (by omega) rfl i0_lt (by omega) rfl i1_lt]
  · pointwise [k0_pay48, k0_pay17, View.ld_apply, hW, pay16_eq z lg lb x0 x1 x2 h0 h1 h2, h4]
    rw [mixE_at z lg lb w sb (R := 384) (J := 64) (g := 1) (i := (i 0).val) (l := (i 1).val) (by omega) rfl i0_lt (by omega) rfl i1_lt]
  · pointwise [k0_pay47, k0_pay17, View.ld_apply, hW, pay16_eq z lg lb x0 x1 x2 h0 h1 h2, h4]
    rw [mixE_at z lg lb w sb (R := 384) (J := 0) (g := 0) (i := (i 0).val) (l := (i 1).val) (by omega) rfl i0_lt (by omega) rfl i1_lt]
    simp only [Nat.zero_add]
  · pointwise [k0_pay45, k0_pay46, k0_pay17, View.ld_apply, hW, pay16_eq z lg lb x0 x1 x2 h0 h1 h2, h4]
    rw [mixE_at z lg lb w sb (R := 256) (J := 448) (g := 7) (i := (i 0).val) (l := (i 1).val) (by omega) rfl i0_lt (by omega) rfl i1_lt]
  · pointwise [k0_pay44, k0_pay17, View.ld_apply, hW, pay16_eq z lg lb x0 x1 x2 h0 h1 h2, h4]
    rw [mixE_at z lg lb w sb (R := 256) (J := 384) (g := 6) (i := (i 0).val) (l := (i 1).val) (by omega) rfl i0_lt (by omega) rfl i1_lt]
  · pointwise [k0_pay43, k0_pay17, View.ld_apply, hW, pay16_eq z lg lb x0 x1 x2 h0 h1 h2, h4]
    rw [mixE_at z lg lb w sb (R := 256) (J := 320) (g := 5) (i := (i 0).val) (l := (i 1).val) (by omega) rfl i0_lt (by omega) rfl i1_lt]
  · pointwise [k0_pay42, k0_pay17, View.ld_apply, hW, pay16_eq z lg lb x0 x1 x2 h0 h1 h2, h4]
    rw [mixE_at z lg lb w sb (R := 256) (J := 256) (g := 4) (i := (i 0).val) (l := (i 1).val) (by omega) rfl i0_lt (by omega) rfl i1_lt]
  · pointwise [k0_pay41, k0_pay17, View.ld_apply, hW, pay16_eq z lg lb x0 x1 x2 h0 h1 h2, h4]
    rw [mixE_at z lg lb w sb (R := 256) (J := 192) (g := 3) (i := (i 0).val) (l := (i 1).val) (by omega) rfl i0_lt (by omega) rfl i1_lt]
  · pointwise [k0_pay40, k0_pay17, View.ld_apply, hW, pay16_eq z lg lb x0 x1 x2 h0 h1 h2, h4]
    rw [mixE_at z lg lb w sb (R := 256) (J := 128) (g := 2) (i := (i 0).val) (l := (i 1).val) (by omega) rfl i0_lt (by omega) rfl i1_lt]
  · pointwise [k0_pay39, k0_pay17, View.ld_apply, hW, pay16_eq z lg lb x0 x1 x2 h0 h1 h2, h4]
    rw [mixE_at z lg lb w sb (R := 256) (J := 64) (g := 1) (i := (i 0).val) (l := (i 1).val) (by omega) rfl i0_lt (by omega) rfl i1_lt]
  · pointwise [k0_pay37, k0_pay38, k0_pay17, View.ld_apply, hW, pay16_eq z lg lb x0 x1 x2 h0 h1 h2, h4]
    rw [mixE_at z lg lb w sb (R := 256) (J := 0) (g := 0) (i := (i 0).val) (l := (i 1).val) (by omega) rfl i0_lt (by omega) rfl i1_lt]
    simp only [Nat.zero_add]
  · pointwise [k0_pay36, k0_pay17, View.ld_apply, hW, pay16_eq z lg lb x0 x1 x2 h0 h1 h2, h4]
    rw [mixE_at z lg lb w sb (R := 128) (J := 448) (g := 7) (i := (i 0).val) (l := (i 1).val) (by omega) rfl i0_lt (by omega) rfl i1_lt]
  · pointwise [k0_pay35, k0_pay17, View.ld_apply, hW, pay16_eq z lg lb x0 x1 x2 h0 h1 h2, h4]
    rw [mixE_at z lg lb w sb (R := 128) (J := 384) (g := 6) (i := (i 0).val) (l := (i 1).val) (by omega) rfl i0_lt (by omega) rfl i1_lt]
  · pointwise [k0_pay33, k0_pay34, k0_pay17, View.ld_apply, hW, pay16_eq z lg lb x0 x1 x2 h0 h1 h2, h4]
    rw [mixE_at z lg lb w sb (R := 128) (J := 320) (g := 5) (i := (i 0).val) (l := (i 1).val) (by omega) rfl i0_lt (by omega) rfl i1_lt]
  · pointwise [k0_pay32, k0_pay17, View.ld_apply, hW, pay16_eq z lg lb x0 x1 x2 h0 h1 h2, h4]
    rw [mixE_at z lg lb w sb (R := 128) (J := 256) (g := 4) (i := (i 0).val) (l := (i 1).val) (by omega) rfl i0_lt (by omega) rfl i1_lt]
  · pointwise [k0_pay31, k0_pay17, View.ld_apply, hW, pay16_eq z lg lb x0 x1 x2 h0 h1 h2, h4]
    rw [mixE_at z lg lb w sb (R := 128) (J := 192) (g := 3) (i := (i 0).val) (l := (i 1).val) (by omega) rfl i0_lt (by omega) rfl i1_lt]
  · pointwise [k0_pay30, k0_pay17, View.ld_apply, hW, pay16_eq z lg lb x0 x1 x2 h0 h1 h2, h4]
    rw [mixE_at z lg lb w sb (R := 128) (J := 128) (g := 2) (i := (i 0).val) (l := (i 1).val) (by omega) rfl i0_lt (by omega) rfl i1_lt]
  · pointwise [k0_pay29, k0_pay17, View.ld_apply, hW, pay16_eq z lg lb x0 x1 x2 h0 h1 h2, h4]
    rw [mixE_at z lg lb w sb (R := 128) (J := 64) (g := 1) (i := (i 0).val) (l := (i 1).val) (by omega) rfl i0_lt (by omega) rfl i1_lt]
  · pointwise [k0_pay28, k0_pay17, View.ld_apply, hW, pay16_eq z lg lb x0 x1 x2 h0 h1 h2, h4]
    rw [mixE_at z lg lb w sb (R := 128) (J := 0) (g := 0) (i := (i 0).val) (l := (i 1).val) (by omega) rfl i0_lt (by omega) rfl i1_lt]
    simp only [Nat.zero_add]
  · pointwise [k0_pay27, k0_pay17, View.ld_apply, hW, pay16_eq z lg lb x0 x1 x2 h0 h1 h2, h4]
    rw [mixE_at z lg lb w sb (R := 0) (J := 448) (g := 7) (i := (i 0).val) (l := (i 1).val) (by omega) rfl i0_lt (by omega) rfl i1_lt]
    simp only [Nat.zero_add]
  · pointwise [k0_pay25, k0_pay26, k0_pay17, View.ld_apply, hW, pay16_eq z lg lb x0 x1 x2 h0 h1 h2, h4]
    rw [mixE_at z lg lb w sb (R := 0) (J := 384) (g := 6) (i := (i 0).val) (l := (i 1).val) (by omega) rfl i0_lt (by omega) rfl i1_lt]
    simp only [Nat.zero_add]
  · pointwise [k0_pay24, k0_pay17, View.ld_apply, hW, pay16_eq z lg lb x0 x1 x2 h0 h1 h2, h4]
    rw [mixE_at z lg lb w sb (R := 0) (J := 320) (g := 5) (i := (i 0).val) (l := (i 1).val) (by omega) rfl i0_lt (by omega) rfl i1_lt]
    simp only [Nat.zero_add]
  · pointwise [k0_pay23, k0_pay17, View.ld_apply, hW, pay16_eq z lg lb x0 x1 x2 h0 h1 h2, h4]
    rw [mixE_at z lg lb w sb (R := 0) (J := 256) (g := 4) (i := (i 0).val) (l := (i 1).val) (by omega) rfl i0_lt (by omega) rfl i1_lt]
    simp only [Nat.zero_add]
  · pointwise [k0_pay21, k0_pay22, k0_pay17, View.ld_apply, hW, pay16_eq z lg lb x0 x1 x2 h0 h1 h2, h4]
    rw [mixE_at z lg lb w sb (R := 0) (J := 192) (g := 3) (i := (i 0).val) (l := (i 1).val) (by omega) rfl i0_lt (by omega) rfl i1_lt]
    simp only [Nat.zero_add]
  · pointwise [k0_pay20, k0_pay17, View.ld_apply, hW, pay16_eq z lg lb x0 x1 x2 h0 h1 h2, h4]
    rw [mixE_at z lg lb w sb (R := 0) (J := 128) (g := 2) (i := (i 0).val) (l := (i 1).val) (by omega) rfl i0_lt (by omega) rfl i1_lt]
    simp only [Nat.zero_add]
  · pointwise [k0_pay19, k0_pay17, View.ld_apply, hW, pay16_eq z lg lb x0 x1 x2 h0 h1 h2, h4]
    rw [mixE_at z lg lb w sb (R := 0) (J := 64) (g := 1) (i := (i 0).val) (l := (i 1).val) (by omega) rfl i0_lt (by omega) rfl i1_lt]
    simp only [Nat.zero_add]
  · pointwise [k0_pay18, k0_pay17, View.ld_apply, hW, pay16_eq z lg lb x0 x1 x2 h0 h1 h2, h4]
    rw [mixE_at z lg lb w sb (R := 0) (J := 0) (g := 0) (i := (i 0).val) (l := (i 1).val) (by omega) rfl i0_lt (by omega) rfl i1_lt]
    simp only [Nat.zero_add]

end

variable (m : (ℓ : Loc nD τ sig) → Buf (Elt Ideal) ℓ) (c : Dev nD)

/-- The activations' inputs. -/
abbrev Z : Vec Ideal S8192x1024 .bf16 := m ((c : Thread nD τ).loc main_arg0)
/-- The gain. -/
abbrev LG : Vec Ideal S1x512 .f32 := m ((c : Thread nD τ).loc main_arg1)
/-- The offset. -/
abbrev LB : Vec Ideal S1x512 .f32 := m ((c : Thread nD τ).loc main_arg2)
/-- The mixing weights. -/
abbrev W : Vec Ideal S8x128x128 .f32 := m ((c : Thread nD τ).loc main_arg3)
/-- The mixing offsets. -/
abbrev SB : Vec Ideal S128x512 .f32 := m ((c : Thread nD τ).loc main_arg4)

/-- Where each window's block lies. -/
theorem idx : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![t.val, 0] :=
  (by decide +kernel : ∀ t : Fin grid0.N, _)

/-- The inputs, block by block. -/
theorem hb0 (t : Fin cfg0.N) (y : S512x1024.Idx) : (iblk m c 0 t : Vec Ideal S512x1024 .bf16) y = re2 (Z m c) (512 * t.val + (y 0).val) (y 1).val := by
  blk_simp [iblk, V, idx t]
  refine eq_re2 (Z m c) _ _ _ ?_ ?_ <;> blk_simp [idx t] <;> omega
/-- The gain, whole at every step. -/
theorem hb1 (t : Fin cfg0.N) (y : S1x512.Idx) : (iblk m c 1 t : Vec Ideal S1x512 .f32) y = re2 (LG m c) 0 (y 1).val := by
  have h := (y 0).isLt
  blk_simp [iblk, V, idx t]
  refine eq_re2 (LG m c) _ _ _ ?_ ?_ <;> blk_simp [idx t] <;> exact Nat.lt_one_iff.1 h
/-- The offset, whole at every step. -/
theorem hb2 (t : Fin cfg0.N) (y : S1x512.Idx) : (iblk m c 2 t : Vec Ideal S1x512 .f32) y = re2 (LB m c) 0 (y 1).val := by
  have h := (y 0).isLt
  blk_simp [iblk, V, idx t]
  refine eq_re2 (LB m c) _ _ _ ?_ ?_ <;> blk_simp [idx t] <;> exact Nat.lt_one_iff.1 h
/-- The mixing weights, whole at every step. -/
theorem hb3 (t : Fin cfg0.N) (y : S8x128x128.Idx) : (iblk m c 3 t : Vec Ideal S8x128x128 .f32) y = re3 (W m c) (y 0).val (y 1).val (y 2).val := by
  blk_simp [iblk, V, idx t]
  refine eq_re3 (W m c) _ _ _ _ ?_ ?_ ?_ <;> blk_simp [idx t]
/-- The mixing offsets, whole at every step. -/
theorem hb4 (t : Fin cfg0.N) (y : S128x512.Idx) : (iblk m c 4 t : Vec Ideal S128x512 .f32) y = re2 (SB m c) (y 0).val (y 1).val := by
  blk_simp [iblk, V, idx t]
  refine eq_re2 (SB m c) _ _ _ ?_ ?_ <;> blk_simp [idx t]

/-- The carried buffer holds the masked weights after every point. -/
theorem scr : ∀ n hn, (outsAt0 m c n hn).2 = Wm (re3 (W m c)) := by
  intro n
  induction n with
  | zero =>
    intro hn
    rw [show outsAt0 m c 0 hn = _ from outsAt0_A m c ⟨0, hn⟩ rfl]; frame_out
    exact w_canon _ _ (hb3 m c _)
  | succ n ih =>
    intro hn
    by_cases h : (n + 1) % 16 = 0
    · rw [show outsAt0 m c (n + 1) hn = _ from outsAt0_A m c ⟨n + 1, hn⟩ h]; frame_out
      exact w_canon _ _ (hb3 m c _)
    · rw [show outsAt0 m c (n + 1) hn = _ from outsAt0_B m c ⟨n + 1, hn⟩ h]
      dsimp only [sout0_B_0, Nat.add_sub_cancel]; exact ih _

/-- What a point leaves in the result's block. -/
theorem out_eq (t : Fin cfg0.N) (y : S512x512.Idx) : (outsAt0 m c t.val t.isLt).1 y
    = gmlpE (re2 (Z m c)) (re2 (LG m c) 0) (re2 (LB m c) 0) (re3 (W m c)) (re2 (SB m c)) (512 * t.val + (y 0).val) (y 1).val := by
  rw [← gmlpE_shift]
  have hm := mixBuf (fun r j => re2 (Z m c) (512 * t.val + r) j) (re2 (LG m c) 0) (re2 (LB m c) 0) (re3 (W m c)) (re2 (SB m c)) _ _ _ _
    (hb0 m c t) (hb1 m c t) (hb2 m c t) (hb4 m c t) (Wm (re3 (W m c))) (fun _ => rfl)
  by_cases h : t.val % 16 = 0
  · rw [outsAt0_A m c t h]; frame_out
    simp only [read_w, w_canon _ _ (hb3 m c t)]
    rw [hm]
    pointwise [k0_pay3, pay15_eq (fun r j => re2 (Z m c) (512 * t.val + r) j) _ (hb0 m c t)]
    rfl
  · rw [outsAt0_B m c t h]; frame_out
    simp only [read_unread_whole, scr m c]
    rw [hm]
    pointwise [k0_pay3, pay15_eq (fun r j => re2 (Z m c) (512 * t.val + r) j) _ (hb0 m c t)]
    rfl

/-- The call's result. -/
theorem arr5 : (dats m 0 c).arrAt 5 cfg0.N = ((fun y => gmlpE (re2 (Z m c)) (re2 (LG m c) 0) (re2 (LB m c) 0) (re3 (W m c)) (re2 (SB m c)) (y 0).val (y 1).val) :
    Vec Ideal S8192x512 .bf16) := by
  refine (dats m 0 c).arrAt_eq_of_covers 5 _ (by decide +kernel) fun t _ y => ?_
  blk_simp
  rw [after0_5]
  refine (out_eq m c t _).trans ?_
  blk_simp [idx t]
  rw [Nat.mul_comm 512]

end Cert.GmlpFwdIdeal.Value

namespace Cert.GmlpFwdRefIdeal.Value
open Cert.GmlpFwdRefIdeal Cert.GmlpFwdRefIdeal.Gen Cert.Model

/-! # The reference -/

variable (a0 : FVec Ideal S8192x1024 .bf16) (a1 a2 : FVec Ideal S1x512 .f32) (a3 : FVec Ideal S8x128x128 .f32) (a4 : FVec Ideal S128x512 .f32)

/-- The activation. -/
abbrev geluR : FVec Ideal S8192x1024 .f32 :=
  mulf (extf .f32 a0 bitsLt_bf16_f32) (mulf (broadcastInDim S8192x1024 ![] bcast_S_S8192x1024 (constant S_ .f32 0x3F000000#32)) (addf (broadcastInDim S8192x1024 ![] bcast_S_S8192x1024 (constant S_ .f32 0x3F800000#32)) (Host.tanh (mulf (broadcastInDim S8192x1024 ![] bcast_S_S8192x1024 (constant S_ .f32 0x3F4C422A#32)) (addf (extf .f32 a0 bitsLt_bf16_f32) (mulf (broadcastInDim S8192x1024 ![] bcast_S_S8192x1024 (Host.divf (constant S_ .f32 0x472EAB00#32) (constant S_ .f32 0x49742400#32))) (mulf (mulf (extf .f32 a0 bitsLt_bf16_f32) (extf .f32 a0 bitsLt_bf16_f32)) (extf .f32 a0 bitsLt_bf16_f32))))))))
/-- The gate half less the row's mean, from the gate half. -/
abbrev xcR (v : FVec Ideal S8192x512 .f32) : FVec Ideal S8192x512 .f32 :=
  subf v (broadcastInDim S8192x512 ![0, 1] bcast_S8192x1_S8192x512_0_1 (Host.divf (broadcastInDim S8192x1 ![0] bcast_S8192_S8192x1_0 (Host.reduceAdd v (constant S_ .f32 0x00000000#32) reducesTo_S8192x512_S8192_d1 h_S_)) (broadcastInDim S8192x1 ![] bcast_S_S8192x1 (constant S_ .f32 0x44000000#32))))
/-- The normalised gate half with gain and offset, from the gate half less its mean. -/
abbrev gnR (x : FVec Ideal S8192x512 .f32) : FVec Ideal S8192x512 .f32 :=
  addf (mulf (mulf x (broadcastInDim S8192x512 ![0, 1] bcast_S8192x1_S8192x512_0_1 (Host.rsqrt (addf (Host.divf (broadcastInDim S8192x1 ![0] bcast_S8192_S8192x1_0 (Host.reduceAdd (mulf x x) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x3727C5AC#32)))))) (broadcastInDim S8192x512 ![0, 1] bcast_S1x512_S8192x512_0_1 a1)) (broadcastInDim S8192x512 ![0, 1] bcast_S1x512_S8192x512_0_1 a2)
/-- The mask. -/
abbrev maskR : IVec S8x128x128 1 :=
  broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))
/-- The masked weights. -/
abbrev wmR : FVec Ideal S8x128x128 .f32 :=
  select maskR a3 (broadcastInDim S8x128x128 ![] bcast_S_S8x128x128 (sitofp .f32 (constantI S_ 32 0#32)))

/-- The activation at an entry. -/
theorem geluR_eq (y) : geluR a0 y = gelE (re2 a0 (y 0).val (y 1).val) := by
  pointwise [geluR]
  rw [Cert.ReferenceIdeal.Value.ofBits_44715, Cert.ReferenceIdeal.Value.ofBits_million, div_real _ (by norm_num),
    show ((44715 : ℝ) / 1000000 : ℝ) = gc by unfold gc; norm_num, eq_re2 a0 y _ _ rfl rfl, gelE]
  simp only [mul_assoc, mul_left_comm, mul_comm]

/-- The gate half less its mean, at an entry. -/
theorem xcR_eq (v : FVec Ideal S8192x512 .f32) (z : ℕ → ℕ → EReal) (hv : ∀ y, v y = gelE (z (y 0).val (512 + (y 1).val))) (y) :
    xcR v y = xcE z (y 0).val (y 1).val := by
  pointwise [xcR, hv]
  rfl

/-- The normalised gate half at an entry. -/
theorem gnR_eq (x : FVec Ideal S8192x512 .f32) (z : ℕ → ℕ → EReal) (hx : ∀ y, x y = xcE z (y 0).val (y 1).val) (y) :
    gnR a1 a2 x y = gnE z (re2 a1 0) (re2 a2 0) (y 0).val (y 1).val := by
  have h1 : ∀ y : S1x512.Idx, a1 y = re2 a1 0 (y 1).val := fun y => eq_re2 a1 y _ _ (Nat.lt_one_iff.1 (y 0).isLt) rfl
  have h2 : ∀ y : S1x512.Idx, a2 y = re2 a2 0 (y 1).val := fun y => eq_re2 a2 y _ _ (Nat.lt_one_iff.1 (y 0).isLt) rfl
  pointwise [gnR, hx, h1, h2]
  rfl

/-- The mask at an entry. -/
theorem maskR_eq (y) : maskR y = BitVec.ofBool (decide ((y 2).val ≤ (y 1).val)) := by
  pointwise [maskR]
  simp only [IntOp.addi, BitVec.add_zero]
  rw [WordCmp.cmpi_sge_ofNat (lt_trans (y 1).isLt (by decide)) (lt_trans (y 2).isLt (by decide))]
  by_cases h : (y 2).val ≤ (y 1).val <;> simp [h, Scalar.select]

/-- The masked weights at an entry. -/
theorem wmR_eq (y) : wmR a3 y = wmE (re3 a3) (y 0).val (y 1).val (y 2).val := by
  have hm := maskR_eq
  unfold wmR
  generalize maskR = M at *
  pointwise [hm]
  rw [wmE, ← eq_re3 a3 y _ _ _ rfl rfl rfl]
  by_cases h : (y 2).val ≤ (y 1).val
  · simp only [h, if_true]
  · simp only [h, if_false]; exact Cert.ReferenceIdeal.Value.sitofp_zero

/-- The reference's result from the activation, the normalised gate half and the masked weights. -/
abbrev outR (u : FVec Ideal S8192x1024 .f32) (n : FVec Ideal S8192x512 .f32) (w : FVec Ideal S8x128x128 .f32) : FVec Ideal S8192x512 .bf16 :=
  truncf .bf16 (mulf (extractStridedSlice S8192x512 ![0, 0] u slices_S8192x1024_S8192x512_0_0) (shapeCast _ (addf (shapeCast _ (transpose S1x64x128x8x64 [1, 2, 4, 0, 3] (Host.dotGeneral dot_S1x64x128x8x64_S8x128x128_S8x1x64x64x128_2_2_014_1_3_0 none (shapeCast _ n shapeCasts_S8192x512_S1x64x128x8x64) w) transposes_S8x1x64x64x128_S1x64x128x8x64_1_2_4_0_3) shapeCasts_S1x64x128x8x64_S64x128x512) (broadcastInDim S64x128x512 ![0, 1, 2] bcast_S1x128x512_S64x128x512_0_1_2 (broadcastInDim S1x128x512 ![1, 2] bcast_S128x512_S1x128x512_1_2 a4))) shapeCasts_S64x128x512_S8192x512)) bitsLt_bf16_f32

/-- The reference's result at an entry. -/
theorem outR_eq (u : FVec Ideal S8192x1024 .f32) (n : FVec Ideal S8192x512 .f32) (w : FVec Ideal S8x128x128 .f32)
    (z : ℕ → ℕ → EReal) (lg lb : ℕ → EReal) (w' : ℕ → ℕ → ℕ → EReal)
    (hu : ∀ y, u y = gelE (z (y 0).val (y 1).val)) (hn : ∀ y, n y = gnE z lg lb (y 0).val (y 1).val)
    (hw : ∀ y, w y = wmE w' (y 0).val (y 1).val (y 2).val) (y) :
    outR a4 u n w y = gmlpE z lg lb w' (re2 a4) (y 0).val (y 1).val := by
  have h4 : ∀ y : S128x512.Idx, a4 y = re2 a4 (y 0).val (y 1).val := fun y => eq_re2 a4 y _ _ rfl rfl
  pointwise [outR, hu, hn, hw, h4]
  unfold gmlpE mixE
  exact congrArg (_ * ·) (congrArg (· + _) (Finset.sum_congr rfl fun x _ => mul_comm _ _))

/-- The reference's result. -/
theorem ref0 (y) : outR a4 (geluR a0) (gnR a1 a2 (xcR (extractStridedSlice S8192x512 ![0, 512] (geluR a0) slices_S8192x1024_S8192x512_0_512))) (wmR a3) y
    = gmlpE (re2 a0) (re2 a1 0) (re2 a2 0) (re3 a3) (re2 a4) (y 0).val (y 1).val := by
  refine outR_eq a4 _ _ _ (re2 a0) _ _ _ (geluR_eq a0) (gnR_eq a1 a2 _ (re2 a0) (xcR_eq _ (re2 a0) fun y => ?_)) (wmR_eq a3) y
  have h := geluR_eq a0
  generalize geluR a0 = u at *
  pointwise [h]

end Cert.GmlpFwdRefIdeal.Value
end
-- ==== Proof.Norms.lean ====
/- The first norm, the loss and the gated unit: the references' frames, and each kernel's values equal to its reference's. -/
module

public import proofs.«01_k».proof.Defs
public import proofs.«01_k».proof.Proof.Gen.RmsIn
public import proofs.«01_k».proof.Proof.Gen.RmsInIdeal
public import proofs.«01_k».proof.Proof.Gen.RmsInRefIdeal
public import proofs.«01_k».proof.Proof.Gen.LossHead
public import proofs.«01_k».proof.Proof.Gen.LossHeadIdeal
public import proofs.«01_k».proof.Proof.Gen.LossHeadRefIdeal
public import proofs.«01_k».proof.Proof.Gen.GmlpFwd
public import proofs.«01_k».proof.Proof.Gen.GmlpFwdIdeal
public import proofs.«01_k».proof.Proof.Gen.GmlpFwdRefIdeal
public import proofs.«01_k».proof.Proof.RmsInVal
public import proofs.«01_k».proof.Proof.LossHeadVal
public import proofs.«01_k».proof.Proof.GmlpFwdVal
public import proofs.«01_k».proof.Proof.DownVal

@[expose] public section

set_option maxRecDepth 16384
noncomputable section
open Idealize.ShloMosaic Idealize.ShloMosaic.TcCoe Idealize.SL.Sem

namespace Cert.Proof
open Cert.Model

/-- The first norm's reference runs and leaves its arguments unchanged. -/
theorem frame_RmsIn : Cert.quiescent_RmsInRefIdeal := by
  intro m ρ _
  exact (θ_run Cert.RmsInRefIdeal.defs _ _).mono (fun r h => ⟨fun c => (h c).2, sem_eq_zero_of_no_sems (by decide) r.2⟩)
    (Cert.RmsInRefIdeal.Value.run (F := Ideal) m ρ)

/-- The first norm: kernel and reference compute the same. -/
theorem value_RmsIn : Cert.algebraic_RmsInIdeal_RmsInRefIdeal := by
  intro m g m' g' h ha
  refine ⟨fun c => ((fun y => no (re2 (Cert.RmsInIdeal.Value.H m c)) (re2 (Cert.RmsInIdeal.Value.G m c) 0) (y 0).val (y 1).val) : Vec Ideal Cert.RmsInIdeal.S8192x1024 .bf16), ?_, ?_⟩
  · refine (θ_run Cert.RmsInIdeal.defs _ _).mono (fun r hr c => ?_) (Cert.RmsInIdeal.Value.run_blocks (F := Ideal) m g)
    obtain ⟨h0, hk⟩ := hr c
    exact ⟨h0.trans (Cert.RmsInIdeal.Value.arr2 m c), hk⟩
  · refine (θ_run Cert.RmsInRefIdeal.defs _ _).mono (fun r hr c => ?_) (Cert.RmsInRefIdeal.Value.run (F := Ideal) m' g')
    obtain ⟨h0, hk⟩ := hr c
    obtain ⟨a0, a1⟩ := ha c
    simp only [a0, a1] at h0
    exact ⟨h0.trans (funext fun y => Cert.DownRefIdeal.Value.ref2 (Cert.RmsInIdeal.Value.H m c) _ (fun y => eq_re2 _ y _ _ rfl rfl) (Cert.RmsInIdeal.Value.G m c) y), hk⟩

/-- The loss's reference runs and leaves its arguments unchanged. -/
theorem frame_LossHead : Cert.quiescent_LossHeadRefIdeal := by
  intro m ρ _
  exact (θ_run Cert.LossHeadRefIdeal.defs _ _).mono (fun r h => ⟨fun c => (h c).2.2.2, sem_eq_zero_of_no_sems (by decide) r.2⟩)
    (Cert.LossHeadRefIdeal.Value.run (F := Ideal) m ρ)

section
open Cert.LossHeadIdeal.Value

/-- The loss and its gradients: kernel and reference compute the same. -/
theorem value_LossHead : Cert.algebraic_LossHeadIdeal_LossHeadRefIdeal := by
  intro m g m' g' h ha
  refine ⟨fun c => ((fun _ => loss (re2 (H m c)) (re2 (G m c) 0) (re2 (T m c))) : Vec Ideal Cert.LossHeadIdeal.S8x128 .f32),
    fun c => ((fun y => dX m c (y 0).val (y 1).val) : Vec Ideal Cert.LossHeadIdeal.S8192x1024 .f32),
    fun c => ((fun y => if (y 0).val = 0 then ∑ r : Fin 8192, dgain (dN m c) (re2 (H m c)) r.val (y 1).val else 0) : Vec Ideal Cert.LossHeadIdeal.S8x1024 .f32), ?_, ?_⟩
  · refine (θ_run Cert.LossHeadIdeal.defs _ _).mono (fun r hr c => ?_) (Cert.LossHeadIdeal.Value.run_blocks (F := Ideal) m g)
    obtain ⟨h0, h1, h2, hk⟩ := hr c
    exact ⟨h0.trans (arr3 m c), h1.trans (arr4 m c), h2.trans (arr5 m c), hk⟩
  · refine (θ_run Cert.LossHeadRefIdeal.defs _ _).mono (fun r hr c => ?_) (Cert.LossHeadRefIdeal.Value.run (F := Ideal) m' g')
    obtain ⟨h0, h1, h2, hk⟩ := hr c
    obtain ⟨a0, a1, a2⟩ := ha c
    unfold Cert.LossHeadRefIdeal.Value.res_main_v48 at h1
    simp only [a0, a1, a2] at h0 h1 h2
    exact ⟨h0.trans (funext fun y => Cert.LossHeadRefIdeal.Value.ref0 (H m c) (G m c) (T m c) y),
      h1.trans (funext fun y => Cert.LossHeadRefIdeal.Value.ref1 (H m c) (G m c) (T m c) y),
      h2.trans (funext fun y => Cert.UpBackRefIdeal.Value.ref2 (H m c) (Cert.LossHeadRefIdeal.Value.dnR (H m c) (G m c) (T m c)) _
        (Cert.LossHeadRefIdeal.Value.dnR_eq (H m c) (G m c) (T m c)) y), hk⟩

end

/-- The gated unit's reference runs and leaves its arguments unchanged. -/
theorem frame_GmlpFwd : Cert.quiescent_GmlpFwdRefIdeal := by
  intro m ρ _
  exact (θ_run Cert.GmlpFwdRefIdeal.defs _ _).mono (fun r h => ⟨fun c => (h c).2, sem_eq_zero_of_no_sems (by decide) r.2⟩)
    (Cert.GmlpFwdRefIdeal.Value.run (F := Ideal) m ρ)

section
open Cert.GmlpFwdIdeal.Value

/-- The gated unit, forward: kernel and reference compute the same. -/
theorem value_GmlpFwd : Cert.algebraic_GmlpFwdIdeal_GmlpFwdRefIdeal := by
  intro m g m' g' h ha
  refine ⟨fun c => ((fun y => gmlpE (re2 (Z m c)) (re2 (LG m c) 0) (re2 (LB m c) 0) (re3 (W m c)) (re2 (SB m c)) (y 0).val (y 1).val) : Vec Ideal Cert.GmlpFwdIdeal.S8192x512 .bf16), ?_, ?_⟩
  · refine (θ_run Cert.GmlpFwdIdeal.defs _ _).mono (fun r hr c => ?_) (Cert.GmlpFwdIdeal.Value.run_blocks (F := Ideal) m g)
    obtain ⟨h0, hk⟩ := hr c
    exact ⟨h0.trans (arr5 m c), hk⟩
  · refine (θ_run Cert.GmlpFwdRefIdeal.defs _ _).mono (fun r hr c => ?_) (Cert.GmlpFwdRefIdeal.Value.run (F := Ideal) m' g')
    obtain ⟨h0, hk⟩ := hr c
    obtain ⟨a0, a1, a2, a3, a4⟩ := ha c
    unfold Cert.GmlpFwdRefIdeal.Value.res_main_v50 at h0
    simp only [a0, a1, a2, a3, a4] at h0
    exact ⟨h0.trans (funext fun y => Cert.GmlpFwdRefIdeal.Value.ref0 (Z m c) (LG m c) (LB m c) (W m c) (SB m c) y), hk⟩

end

end Cert.Proof
end
-- ==== Proof.AttnModel.lean ====
module

public import proofs.«01_k».proof.Proof.Arrays
public import proofs.«01_k».proof.Proof.Win
public import proofs.«01_k».proof.Proof.RefA
public import proofs.«01_k».proof.Proof.PreFfn

@[expose] public section

set_option maxRecDepth 16384
noncomputable section
open Idealize.ShloMosaic Idealize.ShloMosaic.TcCoe Idealize.SL.Sem

namespace Cert.Model

/-! ## The attention, at any extended real -/

/-- Key `j` of the 256 before and in block `n` is seen by the block's query `i`. -/
abbrev vis (n i j : ℕ) : Prop := i + 1 ≤ j ∧ j ≤ i + 128 ∧ (128 ≤ j ∨ 0 < n)

variable (QK V : ℕ → ℕ → EReal) (sk : ℕ → EReal)

/-- The score of query `i` of block `n` with key `j`, in head `h`. -/
def attS (h n i j : ℕ) : EReal :=
  if vis n i j then (∑ c : Fin 64, QK (128 * n + j - 128) (512 + (64 * (h / 4) + c.val)) * QK (128 * n + i) (64 * h + c.val)) * ((1 / 8 : ℝ) : EReal) else ⊥
/-- The greatest score, the sink among them. -/
def attM (h n i : ℕ) : EReal := max (Finset.univ.fold max ⊥ fun j : Fin 256 => attS QK h n i j.val) (sk h)
/-- A score's exponential, relative to the greatest. -/
def attP (h n i j : ℕ) : EReal := Ideal.exp (attS QK h n i j - attM QK sk h n i)
/-- The denominator, with the sink's part. -/
def attL (h n i : ℕ) : EReal := (∑ j : Fin 256, attP QK sk h n i j.val) + Ideal.exp (sk h - attM QK sk h n i)
/-- The value that key `j` brings. -/
def attV (h n i j l : ℕ) : EReal := if vis n i j then V (128 * n + j - 128) (64 * (h / 4) + l) else 0
/-- The attention's result. -/
def attO (h n i l : ℕ) : EReal := Ideal.div (∑ j : Fin 256, attP QK sk h n i j.val * attV V h n i j.val l) (attL QK sk h n i)
/-- The logarithm of the denominator. -/
def attE (h n i : ℕ) : EReal := attM QK sk h n i + Ideal.log (attL QK sk h n i)

/-- A nonnegative real factor of every term is a factor of the sum. -/
theorem sum_mul_nonneg {ι : Type} (s : Finset ι) (f : ι → EReal) {c : ℝ} (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih, EReal.right_distrib_of_nonneg_of_ne_top (by exact_mod_cast hc) (EReal.coe_ne_top c)]

/-- The first key is never seen. -/
theorem not_vis_zero (n i : ℕ) : ¬ vis n i 0 := by rintro ⟨h, -, -⟩; omega

/-- The score with the sink in the first key's place. -/
def attB (h n i j : ℕ) : EReal := if j = 0 then sk h else attS QK h n i j

/-- The greatest of the scores with the sink in the first key's place. -/
theorem attB_max (h n i : ℕ) : (Finset.univ.fold max ⊥ fun j : Fin 256 => attB QK sk h n i j.val) = attM QK sk h n i := by
  apply le_antisymm
  · refine (Finset.fold_max_le _).2 ⟨bot_le, fun j _ => ?_⟩
    unfold attB
    split
    · exact le_max_right _ _
    · exact le_trans ((Finset.le_fold_max _).2 (Or.inr ⟨j, Finset.mem_univ j, le_rfl⟩)) (le_max_left _ _)
  · refine max_le ((Finset.fold_max_le _).2 ⟨bot_le, fun j _ => ?_⟩) ((Finset.le_fold_max _).2 (Or.inr ⟨0, Finset.mem_univ _, ?_⟩))
    · by_cases hj : j.val = 0
      · rw [hj, attS, if_neg (not_vis_zero n i)]; exact bot_le
      · exact (Finset.le_fold_max _).2 (Or.inr ⟨j, Finset.mem_univ j, le_of_eq (by rw [attB, if_neg hj])⟩)
    · exact le_of_eq rfl

/-- An unseen key has no weight. -/
theorem attP_unseen {h n i j : ℕ} (hv : ¬ vis n i j) : attP QK sk h n i j = 0 := by
  rw [attP, attS, if_neg hv, EReal.bot_sub]; rfl

/-- The denominator, with the sink in the first key's place. -/
theorem attB_sum (h n i : ℕ) : (∑ j : Fin 256, Ideal.exp (attB QK sk h n i j.val - attM QK sk h n i)) = attL QK sk h n i := by
  have e (j : Fin 255) : attB QK sk h n i j.succ.val = attS QK h n i j.succ.val := by rw [attB, if_neg (by simp)]
  rw [attL, Fin.sum_univ_succ, Fin.sum_univ_succ (fun j : Fin 256 => attP QK sk h n i j.val)]
  simp only [e]
  rw [show attP QK sk h n i (0 : Fin 256).val = 0 from attP_unseen QK sk (not_vis_zero n i), zero_add, add_comm]
  rfl

section
variable (hQ : ∀ r j, QK r j = ((QK r j).toReal : EReal)) (hs : ∀ h, sk h ≠ ⊤)

include hQ in
/-- The score of a seen key is a real number. -/
theorem attS_real (h n i j : ℕ) (hv : vis n i j) : ∃ r : ℝ, attS QK h n i j = (r : EReal) := by
  rw [attS, if_pos hv, real_sum _ _ (fun c => hQ _ _) (fun c => hQ _ _)]
  exact ⟨_, (EReal.coe_mul _ _).symm⟩

include hQ hs in
/-- The greatest score is a real number. -/
theorem attM_real (h n i : ℕ) (hi : i < 128) : ∃ r : ℝ, attM QK sk h n i = (r : EReal) := by
  obtain ⟨r, hr⟩ := attS_real QK hQ h n i (i + 128) ⟨by omega, by omega, by omega⟩
  have h1 : (r : EReal) ≤ attM QK sk h n i := by
    rw [← hr]
    exact le_trans ((Finset.le_fold_max _).2 (Or.inr ⟨⟨i + 128, by omega⟩, Finset.mem_univ _, le_rfl⟩)) (le_max_left _ _)
  have h2 : attM QK sk h n i < ⊤ := by
    refine max_lt ((Finset.fold_max_lt _).2 ⟨bot_lt_top, fun j _ => ?_⟩) (lt_top_iff_ne_top.2 (hs h))
    by_cases hv : vis n i j.val
    · obtain ⟨x, hx⟩ := attS_real QK hQ h n i j.val hv
      rw [hx]; exact EReal.coe_lt_top x
    · rw [attS, if_neg hv]; exact bot_lt_top
  exact ⟨_, (EReal.coe_toReal h2.ne (ne_of_gt (lt_of_lt_of_le (EReal.bot_lt_coe r) h1))).symm⟩

/-- An exponential relative to a real number, of anything but plus infinity, is a nonnegative real number. -/
theorem exp_sub_real (x : EReal) (hx : x ≠ ⊤) (r : ℝ) : ∃ p : ℝ, 0 ≤ p ∧ Ideal.exp (x - (r : EReal)) = (p : EReal) := by
  induction x with
  | bot => exact ⟨0, le_rfl, by rw [EReal.bot_sub]; rfl⟩
  | coe a => exact ⟨Real.exp (a - r), (Real.exp_pos _).le, rfl⟩
  | top => exact absurd rfl hx

include hQ hs in
/-- The denominator is a positive real number. -/
theorem attL_real (h n i : ℕ) (hi : i < 128) : ∃ L : ℝ, 0 < L ∧ attL QK sk h n i = (L : EReal) := by
  obtain ⟨r, hr⟩ := attM_real QK sk hQ hs h n i hi
  have hS (j : ℕ) : attS QK h n i j ≠ ⊤ := by
    by_cases hv : vis n i j
    · obtain ⟨x, hx⟩ := attS_real QK hQ h n i j hv
      rw [hx]; exact EReal.coe_ne_top x
    · rw [attS, if_neg hv]; exact bot_ne_top
  choose p hp0 hp using fun j : Fin 256 => exp_sub_real _ (hS j.val) r
  obtain ⟨q, hq0, hq⟩ := exp_sub_real _ (hs h) r
  obtain ⟨x, hx⟩ := attS_real QK hQ h n i (i + 128) ⟨by omega, by omega, by omega⟩
  have hpos : 0 < p ⟨i + 128, by omega⟩ := by
    have e := hp ⟨i + 128, by omega⟩
    simp only [hx] at e
    have e' : (Real.exp (x - r) : EReal) = (p ⟨i + 128, by omega⟩ : EReal) := e
    rw [← EReal.coe_eq_coe_iff.1 e']
    exact Real.exp_pos _
  refine ⟨(∑ j, p j) + q, ?_, ?_⟩
  · have := Finset.single_le_sum (fun j _ => hp0 j) (Finset.mem_univ (⟨i + 128, by omega⟩ : Fin 256))
    linarith
  · rw [attL, EReal.coe_add, ← hq, ← hr, coe_sum]
    simp only [← hp, ← hr]
    rfl

include hQ hs in
/-- The result with the weights normalised before the sum and the sink in the first key's place. -/
theorem attO_eq (h n i l : ℕ) (hi : i < 128) (W : ℕ → EReal) (hW : ∀ j, vis n i j → W j = V (128 * n + j - 128) (64 * (h / 4) + l)) :
    (∑ j : Fin 256, ((if j.val = 0 then 0 else Ideal.exp (attB QK sk h n i j.val - attM QK sk h n i)) * Ideal.div 1 (attL QK sk h n i)) * W j.val)
      = attO QK V sk h n i l := by
  obtain ⟨L, hL, e⟩ := attL_real QK sk hQ hs h n i hi
  have e1 : Ideal.div 1 ((L : ℝ) : EReal) = ((1 / L : ℝ) : EReal) := by rw [Ideal.div_coe hL.ne', one_mul]
  rw [attO, e, e1, Ideal.div_coe hL.ne', ← sum_mul_nonneg _ _ (by positivity)]
  refine Finset.sum_congr rfl fun j _ => ?_
  have e2 : (if j.val = 0 then 0 else Ideal.exp (attB QK sk h n i j.val - attM QK sk h n i)) = attP QK sk h n i j.val := by
    split
    · next h0 => rw [h0]; exact (attP_unseen QK sk (not_vis_zero n i)).symm
    · next h0 => rw [attB, if_neg h0]; rfl
  rw [e2]
  by_cases hv : vis n i j.val
  · rw [attV, if_pos hv, hW _ hv, mul_right_comm]
  · rw [attP_unseen QK sk hv, zero_mul, zero_mul, zero_mul, zero_mul]

end

/-- The sinks read at natural numbers. -/
def re1 (A : (⟨1, ![8]⟩ : Shape).Idx → EReal) (h : ℕ) : EReal := if e : h < 8 then A (ValueIdx.ix1 ⟨h, e⟩) else 0
/-- An entry is its reading. -/
theorem eq_re1 (A : (⟨1, ![8]⟩ : Shape).Idx → EReal) (y : (⟨1, ![8]⟩ : Shape).Idx) (h : ℕ) (e : (y 0).val = h) : A y = re1 A h := by
  subst e
  unfold re1
  rw [dif_pos (show (y 0).val < 8 from (y 0).isLt)]
  congr 1
  funext i
  match i with
  | ⟨0, _⟩ => rfl

/-- The logarithms at a row and a column of the array. -/
def lseE (QK : ℕ → ℕ → EReal) (sk : ℕ → EReal) (r h : ℕ) : EReal := if h < 8 then attE QK sk h (r / 128) (r % 128) else 0
/-- The logarithm at a block, a row and a head. -/
theorem lseE_at (QK : ℕ → ℕ → EReal) (sk : ℕ → EReal) {r n i h h' : ℕ} (hr : r = 128 * n + i) (hi : i < 128) (hh : h' = h) :
    (if h < 8 then attE QK sk h n i else 0) = lseE QK sk r h' := by
  have e1 : r / 128 = n := by omega
  have e2 : r % 128 = i := by omega
  rw [lseE, e1, e2, hh]

/-- The result at a row and a column of the array. -/
def outE (QK V : ℕ → ℕ → EReal) (sk : ℕ → EReal) (r j : ℕ) : EReal := attO QK V sk (j / 64) (r / 128) (r % 128) (j % 64)
/-- The result at a block, a row, a head and a lane. -/
theorem outE_at (QK V : ℕ → ℕ → EReal) (sk : ℕ → EReal) {r n i h j l : ℕ} (hr : r = 128 * n + i) (hi : i < 128) (hj : j = 64 * h + l) (hl : l < 64) :
    attO QK V sk h n i l = outE QK V sk r j := by
  have e1 : r / 128 = n := by omega
  have e2 : r % 128 = i := by omega
  have e3 : j / 64 = h := by omega
  have e4 : j % 64 = l := by omega
  rw [outE, e1, e2, e3, e4]

/-- The least number. -/
theorem ofBits_ninf : Ideal.ofBits .f32 0xFF800000#32 = (⊥ : EReal) := by
  simp [Ideal.ofBits, Ideal.ieee]

end Cert.Model

end
-- ==== Proof.AttnVal.lean ====
module

public import proofs.«01_k».proof.Proof.Gen.SinkAttnIdeal.Frame
public import proofs.«01_k».proof.Proof.Gen.SinkAttnIdeal.Value
public import proofs.«01_k».proof.Proof.AttnModel

@[expose] public section

set_option maxRecDepth 16384
noncomputable section
open Idealize.ShloMosaic Idealize.ShloMosaic.TcCoe Idealize.SL.Sem

namespace Cert.SinkAttnIdeal.Value
open Idealize.ShloMosaic.Pipeline (Dat)
open Cert.SinkAttnIdeal Cert.SinkAttnIdeal.Gen Cert.Model

/-- The mask's constant is minus infinity. -/
theorem mask_c : (Named.named κ "mask" (0xF149F2CA#32 : BitVec FTy.f32.bits) : Ideal .f32) = (⊥ : EReal) := rfl
/-- The scale is an eighth. -/
theorem ofBits_eighth : Ideal.ofBits .bf16 0x3E00#16 = ((1 / 8 : ℝ) : EReal) := by
  simp [Ideal.ofBits, Ideal.ieee]; norm_cast; norm_num
/-- The three comparisons of a mask say that the key is seen. -/
theorem mask_val {i j n : ℕ} (w : BitVec 32) (hw : w = BitVec.ofNat 32 n) (hi : i < 128) (hj : j < 256) (hn : n < 64) :
    IntOp.andi (IntOp.andi (IntOp.cmpi .sge (IntOp.subi (IntOp.addi (BitVec.ofNat 32 i) 128#32) (BitVec.ofNat 32 j)) 0#32)
      (IntOp.cmpi .sle (IntOp.subi (IntOp.addi (BitVec.ofNat 32 i) 128#32) (BitVec.ofNat 32 j)) 127#32))
      (IntOp.ori (IntOp.cmpi .sge (BitVec.ofNat 32 j) 128#32) (Scalar.cmpi .sgt w 0#32)) = BitVec.ofBool (decide (vis n i j)) := by
  subst hw
  have hd : (IntOp.subi (IntOp.addi (BitVec.ofNat 32 i) 128#32) (BitVec.ofNat 32 j)).toInt = (i : ℤ) + 128 - j := by
    show (BitVec.ofNat 32 i + 128#32 - BitVec.ofNat 32 j).toInt = _
    rw [BitVec.toInt_eq_toNat_cond]
    simp only [BitVec.toNat_sub, BitVec.toNat_add, BitVec.toNat_ofNat]
    split <;> omega
  have e1 : IntOp.cmpi .sge (BitVec.ofNat 32 j) 128#32 = BitVec.ofBool (decide (128 ≤ j)) := WordCmp.cmpi_sge_ofNat (by omega) (by omega)
  have e2 : Scalar.cmpi .sgt (BitVec.ofNat 32 n) 0#32 = BitVec.ofBool (decide (0 < n)) := WordCmp.cmpi_sgt_ofNat (by omega) (by omega)
  rw [WordCmp.cmpi_sge_eq, WordCmp.cmpi_sle_eq, hd, e1, e2]
  have z0 : (0#32).toInt = 0 := rfl
  have z1 : (127#32).toInt = 127 := rfl
  rw [z0, z1]
  have a1 : ((0 : ℤ) ≤ i + 128 - j) ↔ j ≤ i + 128 := by omega
  have a2 : ((i : ℤ) + 128 - j ≤ 127) ↔ i + 1 ≤ j := by omega
  simp only [a1, a2, vis]
  by_cases b1 : j ≤ i + 128 <;> by_cases b2 : i + 1 ≤ j <;> by_cases b3 : 128 ≤ j <;> by_cases b4 : 0 < n <;> simp [b1, b2, b3, b4] <;> rfl

section
variable (t : ℕ) (ht : t < 16) (y : S256x128.Idx)
include ht
/-- The first block of rows' mask at an entry. -/
theorem mask0 (i : grid0.Coords) (hi : (i 1).val = t) : k0_pay5 i y = BitVec.ofBool (decide (vis (4 * t + 0) (y 1).val (y 0).val)) := by
  pointwise [k0_pay5]
  exact mask_val _ (by rw [hi]; show BitVec.ofNat 32 t * 4#32 + 0#32 = _; apply BitVec.eq_of_toNat_eq; simp; omega) (y 1).isLt (y 0).isLt (by omega)
/-- The second block of rows' mask at an entry. -/
theorem mask1 : k0_pay78 (BitVec.ofNat 32 t) y = BitVec.ofBool (decide (vis (4 * t + 1) (y 1).val (y 0).val)) := by
  pointwise [k0_pay78]
  exact mask_val _ (by show BitVec.ofNat 32 t * 4#32 + 1#32 = _; apply BitVec.eq_of_toNat_eq; simp; omega) (y 1).isLt (y 0).isLt (by omega)
/-- The third block of rows' mask at an entry. -/
theorem mask2 : k0_pay146 (BitVec.ofNat 32 t) y = BitVec.ofBool (decide (vis (4 * t + 2) (y 1).val (y 0).val)) := by
  pointwise [k0_pay146]
  exact mask_val _ (by show BitVec.ofNat 32 t * 4#32 + 2#32 = _; apply BitVec.eq_of_toNat_eq; simp; omega) (y 1).isLt (y 0).isLt (by omega)
/-- The fourth block of rows' mask at an entry. -/
theorem mask3 : k0_pay215 (BitVec.ofNat 32 t) y = BitVec.ofBool (decide (vis (4 * t + 3) (y 1).val (y 0).val)) := by
  pointwise [k0_pay215]
  exact mask_val _ (by show BitVec.ofNat 32 t * 4#32 + 3#32 = _; apply BitVec.eq_of_toNat_eq; simp; omega) (y 1).isLt (y 0).isLt (by omega)
end

/-- The product of the weights with the lower half's values. -/
abbrev pvLo (vv p : FVec Ideal S256x128 .bf16) : FVec Ideal S128x64 .f32 :=
  shapeCast S128x64 (matmul dot_S256x128_S256x64_S128x64_0_0_1_1_n_n none p (extractStridedSlice S256x64 ![0, 0] vv slices_S256x128_o0_0_S256x64)
    (constant S128x64 .f32 0x00000000#32)) shapeCasts_S128x64_S128x64

section
variable (QK V : ℕ → ℕ → EReal) (sk : ℕ → EReal) (h n : ℕ)
  (M : IVec S256x128 1) (kk vv : FVec Ideal S256x128 .bf16) (q : Vec Ideal S128x64 .bf16) (s : FVec Ideal S256x128 .f32) (b : Vec Ideal S1x1 .f32)

/-- The score of a seen key. -/
abbrev scr (y : S256x128.Idx) : EReal :=
  (∑ c : Fin 64, QK (128 * n + (y 0).val - 128) (512 + (64 * (h / 4) + c.val)) * QK (128 * n + (y 1).val) (64 * h + c.val)) * ((1 / 8 : ℝ) : EReal)

section
variable (hK : ∀ y, (128 ≤ (y 0).val ∨ 0 < n) → kk y = QK (128 * n + (y 0).val - 128) (512 + (y 1).val))
  (hq : ∀ y, q y = QK (128 * n + (y 0).val) (64 * h + (y 1).val))
include hK hq

/-- The scores of a head of the lower half. -/
theorem score_lo (hh : h / 4 = 0) (y) (hv : vis n (y 1).val (y 0).val) : k0_pay11 (F := Ideal) kk q y = scr QK h n y := by
  pointwise [k0_pay11, hq]
  rw [ofBits_eighth, scr, ← sum_mul_nonneg _ _ (by norm_num)]
  refine Finset.sum_congr rfl fun x _ => ?_
  rw [hK _ (by exact hv.2.2), hh, ← mul_assoc]
  simp
/-- The scores of a head of the upper half. -/
theorem score_hi (hh : h / 4 = 1) (y) (hv : vis n (y 1).val (y 0).val) : k0_pay13 (F := Ideal) kk q y = scr QK h n y := by
  pointwise [k0_pay13, hq]
  rw [ofBits_eighth, scr, ← sum_mul_nonneg _ _ (by norm_num)]
  refine Finset.sum_congr rfl fun x _ => ?_
  rw [hK _ (by exact hv.2.2), hh, ← mul_assoc]
  simp
end

section
variable (hM : ∀ y, M y = BitVec.ofBool (decide (vis n (y 1).val (y 0).val)))
  (hs : ∀ y, vis n (y 1).val (y 0).val → s y = scr QK h n y) (hb : ∀ y, b y = sk h)
include hM hs hb

/-- The masked scores with the sink in the first key's place. -/
theorem masked_eq (y) : k0_pay18 (F := Ideal) k0_pay4 M s b y = attB QK sk h n (y 1).val (y 0).val := by
  pointwise [k0_pay18, k0_pay4, hM, hb]
  rw [mask_c, WordCmp.cmpi_eq_ofNat (by have := (y 0).isLt; simp at this; omega) (by omega)]
  unfold Scalar.select attB attS
  by_cases h0 : (y 0).val = 0
  · simp [h0]
  · by_cases hv : vis n (y 1).val (y 0).val
    · have e := hs y hv
      simp only [scr] at e
      simp only [h0, hv, if_true, if_false, decide_true, decide_false, BitVec.ofBool, ← e]
      rfl
    · simp [h0, hv]

/-- The greatest score of a query. -/
theorem max_eq (y) : k0_pay19 (F := Ideal) k0_pay4 M s b y = attM QK sk h n (y 1).val := by
  have hB := masked_eq QK sk h n M s b hM hs hb
  pointwise [k0_pay19, hB]
  rw [ofBits_ninf]
  exact attB_max QK sk h n (y 1).val

/-- The exponentials. -/
theorem exp_eq (y) : k0_pay20 (F := Ideal) k0_pay4 M s b y = Ideal.exp (attB QK sk h n (y 1).val (y 0).val - attM QK sk h n (y 1).val) := by
  have hB := masked_eq QK sk h n M s b hM hs hb
  have hX := max_eq QK sk h n M s b hM hs hb
  pointwise [k0_pay20, hB, hX]

/-- The denominator. -/
theorem sum_eq (y) : k0_pay21 (F := Ideal) k0_pay4 M s b y = attL QK sk h n (y 1).val := by
  have hE := exp_eq QK sk h n M s b hM hs hb
  pointwise [k0_pay21, hE]
  exact attB_sum QK sk h n (y 1).val

/-- The normalised weights. -/
theorem prob_eq (y) : k0_pay23 (F := Ideal) k0_pay4 M s b y
    = (if (y 0).val = 0 then 0 else Ideal.exp (attB QK sk h n (y 1).val (y 0).val - attM QK sk h n (y 1).val)) * Ideal.div 1 (attL QK sk h n (y 1).val) := by
  have hE := exp_eq QK sk h n M s b hM hs hb
  have hL := sum_eq QK sk h n M s b hM hs hb
  have h4 (y) : k0_pay4 y = BitVec.ofBool (decide ((y 0).val = 0)) := by
    pointwise [k0_pay4]
    exact WordCmp.cmpi_eq_ofNat (by have := (y 0).isLt; simp at this; omega) (by omega)
  generalize k0_pay4 = R at *
  pointwise [k0_pay23, hE, hL, h4]

/-- The logarithm's row. -/
abbrev rowK (R : IVec S256x128 1) : FVec Ideal S1x128 .f32 := addf (k0_pay19 (F := Ideal) R M s b) (log (k0_pay21 (F := Ideal) R M s b))
/-- A row of weighted values at an entry. -/
theorem row_eq (y) : rowK M s b k0_pay4 y = attE QK sk h n (y 1).val := by
  have hX := max_eq QK sk h n M s b hM hs hb
  have hL := sum_eq QK sk h n M s b hM hs hb
  pointwise [rowK, hX, hL]
  rfl

section
variable (hQ : ∀ r j, QK r j = ((QK r j).toReal : EReal)) (hk : ∀ h, sk h ≠ ⊤)
  (hV : ∀ y, (128 ≤ (y 0).val ∨ 0 < n) → vv y = V (128 * n + (y 0).val - 128) ((y 1).val))
include hQ hk hV

/-- The result's tile of a head of the upper half. -/
theorem tile_hi (hh : h / 4 = 1) (y) : k0_pay2 (F := Ideal) vv (k0_pay23 (F := Ideal) k0_pay4 M s b) y = attO QK V sk h n (y 0).val (y 1).val := by
  have hP := prob_eq QK sk h n M s b hM hs hb
  generalize k0_pay23 (F := Ideal) k0_pay4 M s b = p at *
  pointwise [k0_pay2, hP]
  refine Eq.trans ?_ (attO_eq QK V sk hQ hk h n (y 0).val (y 1).val (y 0).isLt
    (fun j => re2 vv j (64 * (h / 4) + (y 1).val)) fun j hv => ?_)
  · refine Finset.sum_congr rfl fun x _ => congrArg _ ?_
    exact eq_re2 _ _ _ _ rfl (by simp [hh])
  · have h1 := (y 1).isLt
    have h0 := (y 0).isLt
    simp at h0 h1
    show re2 _ _ _ = _
    unfold re2
    rw [dif_pos ⟨by have := hv.2.1; omega, by omega⟩]
    exact hV _ hv.2.2
/-- The result's tile of a head of the lower half. -/
theorem tile_lo (hh : h / 4 = 0) (y) : pvLo vv (k0_pay23 (F := Ideal) k0_pay4 M s b) y = attO QK V sk h n (y 0).val (y 1).val := by
  have hP := prob_eq QK sk h n M s b hM hs hb
  generalize k0_pay23 (F := Ideal) k0_pay4 M s b = p at *
  pointwise [pvLo, hP]
  refine Eq.trans ?_ (attO_eq QK V sk hQ hk h n (y 0).val (y 1).val (y 0).isLt
    (fun j => re2 vv j (64 * (h / 4) + (y 1).val)) fun j hv => ?_)
  · refine Finset.sum_congr rfl fun x _ => congrArg _ ?_
    exact eq_re2 _ _ _ _ rfl (by simp [hh])
  · have h1 := (y 1).isLt
    have h0 := (y 0).isLt
    simp at h0 h1
    show re2 _ _ _ = _
    unfold re2
    rw [dif_pos ⟨by have := hv.2.1; omega, by omega⟩]
    exact hV _ hv.2.2
end
end
end

/-- One row put into the eight. -/
abbrev putRow (w : BitVec 32) (r : FVec Ideal S1x128 .f32) (L : FVec Ideal S8x128 .f32) : FVec Ideal S8x128 .f32 :=
  select (cmpi .eq (iota .tc S8x128 32 [0] iota_S8x128_d0_w32) (broadcast S8x128 w))
    (broadcastTo S8x128 (shapeCast S1x128 r shapeCasts_S1x128_S1x128) broadcasts_S1x128_S8x128) L
/-- The logarithms' tile with one more row, at an entry. -/
theorem putRow_eq (k : ℕ) (hk : k < 8) (r : FVec Ideal S1x128 .f32) (L : FVec Ideal S8x128 .f32) (R : ℕ → ℕ → EReal)
    (hr : ∀ y, r y = R k (y 1).val) (y) : putRow (BitVec.ofNat 32 k) r L y = if (y 0).val = k then R (y 0).val (y 1).val else L y := by
  pointwise [putRow, hr]
  have h0 : (y 0).val < 8 := (y 0).isLt
  rw [WordCmp.cmpi_eq_ofNat (by omega) (by omega)]
  unfold Scalar.select
  by_cases h : (y 0).val = k <;> simp [h]

/-- The eight rows as columns of a tile. -/
abbrev lseTile (L : FVec Ideal S8x128 .f32) : FVec Ideal S128x128 .f32 :=
  transpose S128x128 [1, 0] (concatenate S128x128 0 [⟨S8x128, L⟩, ⟨S120x128, broadcast S120x128 (Scalar.ofBits (F := Ideal) .f32 0x00000000#32)⟩]
    concatenates_S8x128_S120x128_S128x128_d0) transposes_S128x128_p1_0_S128x128

/-- The tile of eight given rows. -/
theorem lseTile_eq (R : ℕ → ℕ → EReal) (r0 r1 r2 r3 r4 r5 r6 r7 : FVec Ideal S1x128 .f32)
    (h0 : ∀ y, r0 y = R 0 (y 1).val) (h1 : ∀ y, r1 y = R 1 (y 1).val) (h2 : ∀ y, r2 y = R 2 (y 1).val) (h3 : ∀ y, r3 y = R 3 (y 1).val) (h4 : ∀ y, r4 y = R 4 (y 1).val) (h5 : ∀ y, r5 y = R 5 (y 1).val) (h6 : ∀ y, r6 y = R 6 (y 1).val) (h7 : ∀ y, r7 y = R 7 (y 1).val) (y) :
    lseTile (putRow 7#32 r7 (putRow 6#32 r6 (putRow 5#32 r5 (putRow 4#32 r4 (putRow 3#32 r3 (putRow 2#32 r2 (putRow 1#32 r1 (putRow 0#32 r0 (broadcast S8x128 (Scalar.ofBits (F := Ideal) .f32 0x00000000#32)))))))))) y = if (y 1).val < 8 then R (y 1).val (y 0).val else 0 := by
  have e : ∀ y, (putRow 7#32 r7 (putRow 6#32 r6 (putRow 5#32 r5 (putRow 4#32 r4 (putRow 3#32 r3 (putRow 2#32 r2 (putRow 1#32 r1 (putRow 0#32 r0 (broadcast S8x128 (Scalar.ofBits (F := Ideal) .f32 0x00000000#32)))))))))) y = R (y 0).val (y 1).val := by
    intro y
    have hy : (y 0).val < 8 := (y 0).isLt
    rw [putRow_eq 7 (by decide) r7 _ R h7, putRow_eq 6 (by decide) r6 _ R h6, putRow_eq 5 (by decide) r5 _ R h5, putRow_eq 4 (by decide) r4 _ R h4, putRow_eq 3 (by decide) r3 _ R h3, putRow_eq 2 (by decide) r2 _ R h2, putRow_eq 1 (by decide) r1 _ R h1, putRow_eq 0 (by decide) r0 _ R h0]
    split_ifs <;> first | rfl | omega
  generalize (putRow 7#32 r7 (putRow 6#32 r6 (putRow 5#32 r5 (putRow 4#32 r4 (putRow 3#32 r3 (putRow 2#32 r2 (putRow 1#32 r1 (putRow 0#32 r0 (broadcast S8x128 (Scalar.ofBits (F := Ideal) .f32 0x00000000#32)))))))))) = L at *
  pointwise [lseTile, e]
  by_cases h : (y 1).val < 8 <;> simp [h]

/-- A head's query tile, a head's sink, a block's rows. -/
abbrev qT (x0 : Vec Ideal S512x512 .bf16) (j h : ℕ) (e : ∀ a, (![128 * j, 64 * h] : Fin 2 → ℕ) a + (![128, 64] : Fin 2 → ℕ) a ≤ S512x512.size a) : Vec Ideal S128x64 .bf16 :=
  View.ld (Val := Elt Ideal) x0 (Rect.unit ![128 * j, 64 * h] ![128, 64] e)
/-- One head's band of keys. -/
abbrev bT (x5 : Vec Ideal S8x128 .f32) (h : ℕ) (e : ∀ a, (![h, 0] : Fin 2 → ℕ) a + (![1, 1] : Fin 2 → ℕ) a ≤ S8x128.size a) : Vec Ideal S1x1 .f32 :=
  View.ld (Val := Elt Ideal) x5 (Rect.unit ![h, 0] ![1, 1] e)
/-- One block of rows. -/
abbrev rT (x : Vec Ideal S512x128 .bf16) (j : ℕ) (e : ∀ a, (![128 * j, 0] : Fin 2 → ℕ) a + (![128, 128] : Fin 2 → ℕ) a ≤ S512x128.size a) : Vec Ideal S128x128 .bf16 :=
  View.ld (Val := Elt Ideal) x (Rect.unit ![128 * j, 0] ![128, 128] e)
/-- A query's column. -/
theorem qE {j h : ℕ} (hj : j < 4) (hh : h < 8) : ∀ a, (![128 * j, 64 * h] : Fin 2 → ℕ) a + (![128, 64] : Fin 2 → ℕ) a ≤ S512x512.size a :=
  Fin.forall_fin_two.2 ⟨by simp; omega, by simp; omega⟩
/-- A key's column. -/
theorem bE {h : ℕ} (hh : h < 8) : ∀ a, (![h, 0] : Fin 2 → ℕ) a + (![1, 1] : Fin 2 → ℕ) a ≤ S8x128.size a :=
  Fin.forall_fin_two.2 ⟨by simp; omega, by simp⟩
/-- A row of a block. -/
theorem rE {j : ℕ} (hj : j < 4) : ∀ a, (![128 * j, 0] : Fin 2 → ℕ) a + (![128, 128] : Fin 2 → ℕ) a ≤ S512x128.size a :=
  Fin.forall_fin_two.2 ⟨by simp; omega, by simp⟩

section
variable (QK V : ℕ → ℕ → EReal) (sk : ℕ → EReal) (t j : ℕ) (hj : j < 4)
  (x0 : Vec Ideal S512x512 .bf16) (x5 : Vec Ideal S8x128 .f32) (M : IVec S256x128 1) (kk vv : FVec Ideal S256x128 .bf16)

/-- The masked scores of a head of the lower half and of the upper half. -/
abbrev sLo (h : ℕ) (hh : h < 8) : FVec Ideal S256x128 .f32 := k0_pay11 (F := Ideal) kk (qT x0 j h (qE hj hh))
/-- The scores of the second half of the heads. -/
abbrev sHi (h : ℕ) (hh : h < 8) : FVec Ideal S256x128 .f32 := k0_pay13 (F := Ideal) kk (qT x0 j h (qE hj hh))
/-- The logarithms of a block. -/
abbrev lseT : FVec Ideal S128x128 .f32 :=
  lseTile
    (putRow 7#32 (rowK M (sHi j hj x0 kk 7 (by decide)) (bT x5 7 (bE (by decide))) k0_pay4)
    (putRow 6#32 (rowK M (sHi j hj x0 kk 6 (by decide)) (bT x5 6 (bE (by decide))) k0_pay4)
    (putRow 5#32 (rowK M (sHi j hj x0 kk 5 (by decide)) (bT x5 5 (bE (by decide))) k0_pay4)
    (putRow 4#32 (rowK M (sHi j hj x0 kk 4 (by decide)) (bT x5 4 (bE (by decide))) k0_pay4)
    (putRow 3#32 (rowK M (sLo j hj x0 kk 3 (by decide)) (bT x5 3 (bE (by decide))) k0_pay4)
    (putRow 2#32 (rowK M (sLo j hj x0 kk 2 (by decide)) (bT x5 2 (bE (by decide))) k0_pay4)
    (putRow 1#32 (rowK M (sLo j hj x0 kk 1 (by decide)) (bT x5 1 (bE (by decide))) k0_pay4)
    (putRow 0#32 (rowK M (sLo j hj x0 kk 0 (by decide)) (bT x5 0 (bE (by decide))) k0_pay4)
      (broadcast S8x128 (Scalar.ofBits (F := Ideal) .f32 0x00000000#32))))))))))

variable (h0 : ∀ y, x0 y = QK (512 * t + (y 0).val) (y 1).val) (h5 : ∀ y, x5 y = sk (y 0).val)
  (hM : ∀ y, M y = BitVec.ofBool (decide (vis (4 * t + j) (y 1).val (y 0).val)))
  (hK : ∀ y, (128 ≤ (y 0).val ∨ 0 < 4 * t + j) → kk y = QK (128 * (4 * t + j) + (y 0).val - 128) (512 + (y 1).val))

include h0 in
/-- A head's queries at an entry. -/
theorem qT_eq (h : ℕ) (hh : h < 8) (y) : qT x0 j h (qE hj hh) y = QK (128 * (4 * t + j) + (y 0).val) (64 * h + (y 1).val) := by
  refine (h0 _).trans ?_
  rw [show (128 * (4 * t + j) + (y 0).val) = 512 * t + (128 * j + (y 0).val) by omega]
  simp [Rect.unit]
include h5 in
/-- A head's band at an entry. -/
theorem bT_eq (h : ℕ) (hh : h < 8) (y) : bT x5 h (bE hh) y = sk h := by
  refine (h5 _).trans ?_
  have : (y 0).val < 1 := (y 0).isLt
  simp [Rect.unit]
include h0 h5 hM hK

/-- A block's logarithms, row by row. -/
theorem rowLo (h : ℕ) (hh : h < 8) (h4 : h / 4 = 0) (y) : rowK M (sLo j hj x0 kk h hh) (bT x5 h (bE hh)) k0_pay4 y = attE QK sk h (4 * t + j) (y 1).val :=
  row_eq QK sk h _ M _ _ hM (score_lo QK h _ kk _ hK (qT_eq QK t j hj x0 h0 h hh) h4) (bT_eq sk x5 h5 h hh) y
/-- A row of the second half of the heads. -/
theorem rowHi (h : ℕ) (hh : h < 8) (h4 : h / 4 = 1) (y) : rowK M (sHi j hj x0 kk h hh) (bT x5 h (bE hh)) k0_pay4 y = attE QK sk h (4 * t + j) (y 1).val :=
  row_eq QK sk h _ M _ _ hM (score_hi QK h _ kk _ hK (qT_eq QK t j hj x0 h0 h hh) h4) (bT_eq sk x5 h5 h hh) y

/-- A block's logarithms. -/
theorem lseT_eq (y) : lseT j hj x0 x5 M kk y = if (y 1).val < 8 then attE QK sk (y 1).val (4 * t + j) (y 0).val else 0 := by
  have l := rowLo QK sk t j hj x0 x5 M kk h0 h5 hM hK
  have u := rowHi QK sk t j hj x0 x5 M kk h0 h5 hM hK
  exact lseTile_eq (fun h i => attE QK sk h (4 * t + j) i) _ _ _ _ _ _ _ _ (l 0 (by decide) rfl) (l 1 (by decide) rfl) (l 2 (by decide) rfl) (l 3 (by decide) rfl)
    (u 4 (by decide) rfl) (u 5 (by decide) rfl) (u 6 (by decide) rfl) (u 7 (by decide) rfl) y

section
variable (hQ : ∀ r j, QK r j = ((QK r j).toReal : EReal)) (hk : ∀ h, sk h ≠ ⊤)
  (hV : ∀ y, (128 ≤ (y 0).val ∨ 0 < 4 * t + j) → vv y = V (128 * (4 * t + j) + (y 0).val - 128) ((y 1).val))
include hQ hk hV
/-- A block's result. -/
theorem outLo (h : ℕ) (hh : h < 8) (h4 : h / 4 = 0) (y) :
    pvLo vv (k0_pay23 (F := Ideal) k0_pay4 M (sLo j hj x0 kk h hh) (bT x5 h (bE hh))) y = attO QK V sk h (4 * t + j) (y 0).val (y 1).val :=
  tile_lo QK V sk h _ M vv _ _ hM (score_lo QK h _ kk _ hK (qT_eq QK t j hj x0 h0 h hh) h4) (bT_eq sk x5 h5 h hh) hQ hk hV h4 y
/-- A head's result of the second half. -/
theorem outHi (h : ℕ) (hh : h < 8) (h4 : h / 4 = 1) (y) :
    k0_pay2 (F := Ideal) vv (k0_pay23 (F := Ideal) k0_pay4 M (sHi j hj x0 kk h hh) (bT x5 h (bE hh))) y = attO QK V sk h (4 * t + j) (y 0).val (y 1).val :=
  tile_hi QK V sk h _ M vv _ _ hM (score_hi QK h _ kk _ hK (qT_eq QK t j hj x0 h0 h hh) h4) (bT_eq sk x5 h5 h hh) hQ hk hV h4 y
end
end

variable (m : (ℓ : Loc nD τ sig) → Buf (Elt Ideal) ℓ) (c : Dev nD)

/-- The queries and keys. -/
abbrev QKm : Vec Ideal S8192x640 .bf16 := m ((c : Thread nD τ).loc main_arg0)
/-- The values. -/
abbrev Vm : Vec Ideal S8192x128 .bf16 := m ((c : Thread nD τ).loc main_arg1)
/-- The sinks. -/
abbrev Sm : Vec Ideal S8 .f32 := m ((c : Thread nD τ).loc main_arg2)
/-- Where each window's block lies. -/
theorem idx : ∀ t : Fin cfg0.N, win0_0.index t = ![t.val, 0] ∧ win0_1.index t = ![t.val, 4] ∧ win0_2.index t = ![4 * t.val - 1, 4]
    ∧ win0_3.index t = ![t.val, 0] ∧ win0_4.index t = ![4 * t.val - 1, 0] ∧ win0_5.index t = ![0, 0] ∧ win0_6.index t = ![t.val, 0] ∧ win0_7.index t = ![t.val, 0]
    ∧ (grid0.coords t 1).val = t.val :=
  (by decide +kernel : ∀ t : Fin grid0.N, _)

/-- The queries' block. -/
theorem hb0 (t : Fin cfg0.N) (y : S512x512.Idx) : X0_0 m c t y = re2 (QKm m c) (512 * t.val + (y 0).val) (y 1).val := by
  unfold X0_0 Pipeline.Window.fill
  rw [dif_pos (moved0_0 t y)]
  blk_simp [iblk, V, idx t]
  refine eq_re2 (QKm m c) _ _ _ ?_ ?_ <;> blk_simp [idx t] <;> dsimp only <;> omega
/-- The keys' block. -/
theorem hb1 (t : Fin cfg0.N) (y : S512x128.Idx) : (iblk m c 1 t : Vec Ideal S512x128 .bf16) y = re2 (QKm m c) (512 * t.val + (y 0).val) (512 + (y 1).val) := by
  blk_simp [iblk, V, idx t]
  refine eq_re2 (QKm m c) _ _ _ ?_ ?_ <;> blk_simp [idx t] <;> omega
/-- The keys' block before it. -/
theorem hb2 (t : Fin cfg0.N) (y : S128x128.Idx) : (iblk m c 2 t : Vec Ideal S128x128 .bf16) y = re2 (QKm m c) (128 * (4 * t.val - 1) + (y 0).val) (512 + (y 1).val) := by
  blk_simp [iblk, V, idx t]
  refine eq_re2 (QKm m c) _ _ _ ?_ ?_ <;> blk_simp [idx t] <;> omega
/-- The values' block. -/
theorem hb3 (t : Fin cfg0.N) (y : S512x128.Idx) : (iblk m c 3 t : Vec Ideal S512x128 .bf16) y = re2 (Vm m c) (512 * t.val + (y 0).val) (y 1).val := by
  blk_simp [iblk, V, idx t]
  refine eq_re2 (Vm m c) _ _ _ ?_ ?_ <;> blk_simp [idx t] <;> omega
/-- The values' block before it. -/
theorem hb4 (t : Fin cfg0.N) (y : S128x128.Idx) : (iblk m c 4 t : Vec Ideal S128x128 .bf16) y = re2 (Vm m c) (128 * (4 * t.val - 1) + (y 0).val) (y 1).val := by
  blk_simp [iblk, V, idx t]
  refine eq_re2 (Vm m c) _ _ _ ?_ ?_ <;> blk_simp [idx t] <;> omega
/-- The sinks spread over the lanes, as the lines before the call leave them. -/
theorem V_s (y : S8x128.Idx) : (V m c main_v1 : Vec Ideal S8x128 .f32) y = re1 (Sm m c) (y 0).val := by
  have e : (V m c main_v1 : Vec Ideal S8x128 .f32) = broadcastInDim S8x128 ![0, 1] bcast_S8x1_S8x128_0_1 (shapeCast S8x1 (Sm m c) shapeCasts_S8_S8x1) := by
    simp only [V, List.flatten_cons, List.flatten_nil, List.append_nil, List.cons_append, List.nil_append, StableHlo.TRef.unary, StableHlo.TRef.toBuf, StableHlo.TRef.ofBuf, cast_eq]
    after_results
    rfl
  rw [e]
  pointwise []
  exact eq_re1 _ _ _ rfl
/-- The sinks' block. -/
theorem hb5 (t : Fin cfg0.N) (y : S8x128.Idx) : (iblk m c 5 t : Vec Ideal S8x128 .f32) y = re1 (Sm m c) (y 0).val := by
  blk_simp [iblk, idx t]
  refine (V_s m c _).trans ?_
  blk_simp [idx t]

/-- The keys before and in a block. -/
abbrev kk0 (t : Fin cfg0.N) : FVec Ideal S256x128 .bf16 := k0_pay6 (F := Ideal) (iblk m c 2 t) (rT (iblk m c 1 t) 0 (rE (by decide)))
/-- A later block of rows' keys, with the ones before them. -/
abbrev kkj (t : Fin cfg0.N) (j : ℕ) (hj : j + 1 < 4) : FVec Ideal S256x128 .bf16 := k0_pay6 (F := Ideal) (rT (iblk m c 1 t) j (rE (by omega))) (rT (iblk m c 1 t) (j + 1) (rE hj))
/-- The first block of rows' values, with the ones before them. -/
abbrev vv0 (t : Fin cfg0.N) : FVec Ideal S256x128 .bf16 := k0_pay6 (F := Ideal) (iblk m c 4 t) (rT (iblk m c 3 t) 0 (rE (by decide)))
/-- A later block of rows' values, with the ones before them. -/
abbrev vvj (t : Fin cfg0.N) (j : ℕ) (hj : j + 1 < 4) : FVec Ideal S256x128 .bf16 := k0_pay6 (F := Ideal) (rT (iblk m c 3 t) j (rE (by omega))) (rT (iblk m c 3 t) (j + 1) (rE hj))

/-- Rows of a block of the keys or the values. -/
theorem rT_eq (A : ℕ → ℕ → EReal) (t j : ℕ) (hj : j < 4) (x : Vec Ideal S512x128 .bf16) (hx : ∀ y, x y = A (512 * t + (y 0).val) (y 1).val) (y) :
    rT x j (rE hj) y = A (128 * (4 * t + j) + (y 0).val) (y 1).val := by
  refine (hx _).trans ?_
  rw [show (128 * (4 * t + j) + (y 0).val) = 512 * t + (128 * j + (y 0).val) by omega]
  simp [Rect.unit]
/-- A block after the one before it, at an entry. -/
theorem cat_eq (A : ℕ → ℕ → EReal) (n : ℕ) (a b : Vec Ideal S128x128 .bf16) (ha : ∀ y, 0 < n → a y = A (128 * (n - 1) + (y 0).val) (y 1).val)
    (hb : ∀ y, b y = A (128 * n + (y 0).val) (y 1).val) (y) (hy : 128 ≤ (y 0).val ∨ 0 < n) :
    k0_pay6 (F := Ideal) a b y = A (128 * n + (y 0).val - 128) (y 1).val := by
  pointwise [k0_pay6, hb]
  split
  · next h => rw [ha _ (by omega)]; show A (128 * (n - 1) + (y 0).val) (y 1).val = _; congr 1; omega
  · next h => congr 1; omega

section
variable (t : Fin cfg0.N)
/-- The first block of rows' keys at an entry. -/
theorem kk0_eq (y) (hy : 128 ≤ (y 0).val ∨ 0 < 4 * t.val + 0) : kk0 m c t y = re2 (QKm m c) (128 * (4 * t.val + 0) + (y 0).val - 128) (512 + (y 1).val) :=
  cat_eq (fun r j => re2 (QKm m c) r (512 + j)) _ _ _ (fun y _ => hb2 m c t y) (rT_eq (fun r j => re2 (QKm m c) r (512 + j)) t.val 0 (by decide) _ (hb1 m c t)) y hy
/-- A later block of rows' keys at an entry. -/
theorem kkj_eq (j : ℕ) (hj : j + 1 < 4) (y) (hy : 128 ≤ (y 0).val ∨ 0 < 4 * t.val + (j + 1)) :
    kkj m c t j hj y = re2 (QKm m c) (128 * (4 * t.val + (j + 1)) + (y 0).val - 128) (512 + (y 1).val) :=
  cat_eq (fun r j => re2 (QKm m c) r (512 + j)) _ _ _ (fun y _ => rT_eq (fun r j => re2 (QKm m c) r (512 + j)) t.val j (by omega) _ (hb1 m c t) y)
    (rT_eq (fun r j => re2 (QKm m c) r (512 + j)) t.val (j + 1) hj _ (hb1 m c t)) y hy
/-- The first block of rows' values at an entry. -/
theorem vv0_eq (y) (hy : 128 ≤ (y 0).val ∨ 0 < 4 * t.val + 0) : vv0 m c t y = re2 (Vm m c) (128 * (4 * t.val + 0) + (y 0).val - 128) (y 1).val :=
  cat_eq (re2 (Vm m c)) _ _ _ (fun y _ => hb4 m c t y) (rT_eq (re2 (Vm m c)) t.val 0 (by decide) _ (hb3 m c t)) y hy
/-- A later block of rows' values at an entry. -/
theorem vvj_eq (j : ℕ) (hj : j + 1 < 4) (y) (hy : 128 ≤ (y 0).val ∨ 0 < 4 * t.val + (j + 1)) :
    vvj m c t j hj y = re2 (Vm m c) (128 * (4 * t.val + (j + 1)) + (y 0).val - 128) (y 1).val :=
  cat_eq (re2 (Vm m c)) _ _ _ (fun y _ => rT_eq (re2 (Vm m c)) t.val j (by omega) _ (hb3 m c t) y)
    (rT_eq (re2 (Vm m c)) t.val (j + 1) hj _ (hb3 m c t)) y hy

/-- The masks of a point's four blocks. -/
theorem M0_eq (y) : k0_pay5 (grid0.coords t) y = BitVec.ofBool (decide (vis (4 * t.val + 0) (y 1).val (y 0).val)) := mask0 t.val t.isLt y _ (idx t).2.2.2.2.2.2.2.2
/-- The second mask of a point. -/
theorem M1_eq (y) : k0_pay78 (BitVec.ofNat 32 (grid0.coords t 1).val) y = BitVec.ofBool (decide (vis (4 * t.val + 1) (y 1).val (y 0).val)) := by
  rw [(idx t).2.2.2.2.2.2.2.2]; exact mask1 t.val t.isLt y
/-- The third mask of a point. -/
theorem M2_eq (y) : k0_pay146 (BitVec.ofNat 32 (grid0.coords t 1).val) y = BitVec.ofBool (decide (vis (4 * t.val + 2) (y 1).val (y 0).val)) := by
  rw [(idx t).2.2.2.2.2.2.2.2]; exact mask2 t.val t.isLt y
/-- The fourth mask of a point. -/
theorem M3_eq (y) : k0_pay215 (BitVec.ofNat 32 (grid0.coords t 1).val) y = BitVec.ofBool (decide (vis (4 * t.val + 3) (y 1).val (y 0).val)) := by
  rw [(idx t).2.2.2.2.2.2.2.2]; exact mask3 t.val t.isLt y

set_option maxRecDepth 200000 in
/-- What a point leaves in the logarithms' block. -/
theorem out_eq7 (y : S512x128.Idx) : (outsAt0 m c t).2 y = lseE (re2 (QKm m c)) (re1 (Sm m c)) (512 * t.val + (y 0).val) (y 1).val := by
  unfold outsAt0
  frame_out
  canon_tiles i e
  · exact (lseT_eq (re2 (QKm m c)) (re1 (Sm m c)) t.val 3 (by decide) _ _ _ (kkj m c t 2 (by decide)) (hb0 m c t) (hb5 m c t) (M3_eq t) (kkj_eq m c t 2 (by decide)) i).trans
      (lseE_at _ _ (by omega) i0_lt (by omega))
  · exact (lseT_eq (re2 (QKm m c)) (re1 (Sm m c)) t.val 2 (by decide) _ _ _ (kkj m c t 1 (by decide)) (hb0 m c t) (hb5 m c t) (M2_eq t) (kkj_eq m c t 1 (by decide)) i).trans
      (lseE_at _ _ (by omega) i0_lt (by omega))
  · exact (lseT_eq (re2 (QKm m c)) (re1 (Sm m c)) t.val 1 (by decide) _ _ _ (kkj m c t 0 (by decide)) (hb0 m c t) (hb5 m c t) (M1_eq t) (kkj_eq m c t 0 (by decide)) i).trans
      (lseE_at _ _ (by omega) i0_lt (by omega))
  · exact (lseT_eq (re2 (QKm m c)) (re1 (Sm m c)) t.val 0 (by decide) _ _ _ (kk0 m c t) (hb0 m c t) (hb5 m c t) (M0_eq t) (kk0_eq m c t) i).trans
      (lseE_at _ _ (by omega) i0_lt (by omega))

set_option maxRecDepth 200000 in
/-- What a point leaves in the result's block. -/
theorem out_eq6 (hQ : ∀ r j, re2 (QKm m c) r j = ((re2 (QKm m c) r j).toReal : EReal)) (hk : ∀ h, re1 (Sm m c) h ≠ ⊤) (y : S512x512.Idx) :
    (outsAt0 m c t).1 y = outE (re2 (QKm m c)) (re2 (Vm m c)) (re1 (Sm m c)) (512 * t.val + (y 0).val) (y 1).val := by
  unfold outsAt0
  frame_out
  refine (congrFun (congrArg (k0_pay3 (F := Ideal)) (Cert.KernelIdeal.Value.readCov_whole _ _
    (fun y => outE (re2 (QKm m c)) (re2 (Vm m c)) (re1 (Sm m c)) (512 * t.val + (y 0).val) (y 1).val) fun y => ?_)) y).trans (by pointwise [k0_pay3])
  canon_tiles i e
  · exact (outHi (re2 (QKm m c)) (re2 (Vm m c)) (re1 (Sm m c)) t.val 3 (by decide) _ _ _ (kkj m c t 2 (by decide)) (vvj m c t 2 (by decide)) (hb0 m c t) (hb5 m c t) (M3_eq t) (kkj_eq m c t 2 (by decide)) hQ hk (vvj_eq m c t 2 (by decide)) 7 (by decide) rfl i).trans
      (outE_at _ _ _ (by omega) i0_lt (by omega) i1_lt)
  · exact (outHi (re2 (QKm m c)) (re2 (Vm m c)) (re1 (Sm m c)) t.val 3 (by decide) _ _ _ (kkj m c t 2 (by decide)) (vvj m c t 2 (by decide)) (hb0 m c t) (hb5 m c t) (M3_eq t) (kkj_eq m c t 2 (by decide)) hQ hk (vvj_eq m c t 2 (by decide)) 6 (by decide) rfl i).trans
      (outE_at _ _ _ (by omega) i0_lt (by omega) i1_lt)
  · exact (outHi (re2 (QKm m c)) (re2 (Vm m c)) (re1 (Sm m c)) t.val 3 (by decide) _ _ _ (kkj m c t 2 (by decide)) (vvj m c t 2 (by decide)) (hb0 m c t) (hb5 m c t) (M3_eq t) (kkj_eq m c t 2 (by decide)) hQ hk (vvj_eq m c t 2 (by decide)) 5 (by decide) rfl i).trans
      (outE_at _ _ _ (by omega) i0_lt (by omega) i1_lt)
  · exact (outHi (re2 (QKm m c)) (re2 (Vm m c)) (re1 (Sm m c)) t.val 3 (by decide) _ _ _ (kkj m c t 2 (by decide)) (vvj m c t 2 (by decide)) (hb0 m c t) (hb5 m c t) (M3_eq t) (kkj_eq m c t 2 (by decide)) hQ hk (vvj_eq m c t 2 (by decide)) 4 (by decide) rfl i).trans
      (outE_at _ _ _ (by omega) i0_lt (by omega) i1_lt)
  · exact (outLo (re2 (QKm m c)) (re2 (Vm m c)) (re1 (Sm m c)) t.val 3 (by decide) _ _ _ (kkj m c t 2 (by decide)) (vvj m c t 2 (by decide)) (hb0 m c t) (hb5 m c t) (M3_eq t) (kkj_eq m c t 2 (by decide)) hQ hk (vvj_eq m c t 2 (by decide)) 3 (by decide) rfl i).trans
      (outE_at _ _ _ (by omega) i0_lt (by omega) i1_lt)
  · exact (outLo (re2 (QKm m c)) (re2 (Vm m c)) (re1 (Sm m c)) t.val 3 (by decide) _ _ _ (kkj m c t 2 (by decide)) (vvj m c t 2 (by decide)) (hb0 m c t) (hb5 m c t) (M3_eq t) (kkj_eq m c t 2 (by decide)) hQ hk (vvj_eq m c t 2 (by decide)) 2 (by decide) rfl i).trans
      (outE_at _ _ _ (by omega) i0_lt (by omega) i1_lt)
  · exact (outLo (re2 (QKm m c)) (re2 (Vm m c)) (re1 (Sm m c)) t.val 3 (by decide) _ _ _ (kkj m c t 2 (by decide)) (vvj m c t 2 (by decide)) (hb0 m c t) (hb5 m c t) (M3_eq t) (kkj_eq m c t 2 (by decide)) hQ hk (vvj_eq m c t 2 (by decide)) 1 (by decide) rfl i).trans
      (outE_at _ _ _ (by omega) i0_lt (by omega) i1_lt)
  · exact (outLo (re2 (QKm m c)) (re2 (Vm m c)) (re1 (Sm m c)) t.val 3 (by decide) _ _ _ (kkj m c t 2 (by decide)) (vvj m c t 2 (by decide)) (hb0 m c t) (hb5 m c t) (M3_eq t) (kkj_eq m c t 2 (by decide)) hQ hk (vvj_eq m c t 2 (by decide)) 0 (by decide) rfl i).trans
      (outE_at _ _ _ (by omega) i0_lt (by omega) i1_lt)
  · exact (outHi (re2 (QKm m c)) (re2 (Vm m c)) (re1 (Sm m c)) t.val 2 (by decide) _ _ _ (kkj m c t 1 (by decide)) (vvj m c t 1 (by decide)) (hb0 m c t) (hb5 m c t) (M2_eq t) (kkj_eq m c t 1 (by decide)) hQ hk (vvj_eq m c t 1 (by decide)) 7 (by decide) rfl i).trans
      (outE_at _ _ _ (by omega) i0_lt (by omega) i1_lt)
  · exact (outHi (re2 (QKm m c)) (re2 (Vm m c)) (re1 (Sm m c)) t.val 2 (by decide) _ _ _ (kkj m c t 1 (by decide)) (vvj m c t 1 (by decide)) (hb0 m c t) (hb5 m c t) (M2_eq t) (kkj_eq m c t 1 (by decide)) hQ hk (vvj_eq m c t 1 (by decide)) 6 (by decide) rfl i).trans
      (outE_at _ _ _ (by omega) i0_lt (by omega) i1_lt)
  · exact (outHi (re2 (QKm m c)) (re2 (Vm m c)) (re1 (Sm m c)) t.val 2 (by decide) _ _ _ (kkj m c t 1 (by decide)) (vvj m c t 1 (by decide)) (hb0 m c t) (hb5 m c t) (M2_eq t) (kkj_eq m c t 1 (by decide)) hQ hk (vvj_eq m c t 1 (by decide)) 5 (by decide) rfl i).trans
      (outE_at _ _ _ (by omega) i0_lt (by omega) i1_lt)
  · exact (outHi (re2 (QKm m c)) (re2 (Vm m c)) (re1 (Sm m c)) t.val 2 (by decide) _ _ _ (kkj m c t 1 (by decide)) (vvj m c t 1 (by decide)) (hb0 m c t) (hb5 m c t) (M2_eq t) (kkj_eq m c t 1 (by decide)) hQ hk (vvj_eq m c t 1 (by decide)) 4 (by decide) rfl i).trans
      (outE_at _ _ _ (by omega) i0_lt (by omega) i1_lt)
  · exact (outLo (re2 (QKm m c)) (re2 (Vm m c)) (re1 (Sm m c)) t.val 2 (by decide) _ _ _ (kkj m c t 1 (by decide)) (vvj m c t 1 (by decide)) (hb0 m c t) (hb5 m c t) (M2_eq t) (kkj_eq m c t 1 (by decide)) hQ hk (vvj_eq m c t 1 (by decide)) 3 (by decide) rfl i).trans
      (outE_at _ _ _ (by omega) i0_lt (by omega) i1_lt)
  · exact (outLo (re2 (QKm m c)) (re2 (Vm m c)) (re1 (Sm m c)) t.val 2 (by decide) _ _ _ (kkj m c t 1 (by decide)) (vvj m c t 1 (by decide)) (hb0 m c t) (hb5 m c t) (M2_eq t) (kkj_eq m c t 1 (by decide)) hQ hk (vvj_eq m c t 1 (by decide)) 2 (by decide) rfl i).trans
      (outE_at _ _ _ (by omega) i0_lt (by omega) i1_lt)
  · exact (outLo (re2 (QKm m c)) (re2 (Vm m c)) (re1 (Sm m c)) t.val 2 (by decide) _ _ _ (kkj m c t 1 (by decide)) (vvj m c t 1 (by decide)) (hb0 m c t) (hb5 m c t) (M2_eq t) (kkj_eq m c t 1 (by decide)) hQ hk (vvj_eq m c t 1 (by decide)) 1 (by decide) rfl i).trans
      (outE_at _ _ _ (by omega) i0_lt (by omega) i1_lt)
  · exact (outLo (re2 (QKm m c)) (re2 (Vm m c)) (re1 (Sm m c)) t.val 2 (by decide) _ _ _ (kkj m c t 1 (by decide)) (vvj m c t 1 (by decide)) (hb0 m c t) (hb5 m c t) (M2_eq t) (kkj_eq m c t 1 (by decide)) hQ hk (vvj_eq m c t 1 (by decide)) 0 (by decide) rfl i).trans
      (outE_at _ _ _ (by omega) i0_lt (by omega) i1_lt)
  · exact (outHi (re2 (QKm m c)) (re2 (Vm m c)) (re1 (Sm m c)) t.val 1 (by decide) _ _ _ (kkj m c t 0 (by decide)) (vvj m c t 0 (by decide)) (hb0 m c t) (hb5 m c t) (M1_eq t) (kkj_eq m c t 0 (by decide)) hQ hk (vvj_eq m c t 0 (by decide)) 7 (by decide) rfl i).trans
      (outE_at _ _ _ (by omega) i0_lt (by omega) i1_lt)
  · exact (outHi (re2 (QKm m c)) (re2 (Vm m c)) (re1 (Sm m c)) t.val 1 (by decide) _ _ _ (kkj m c t 0 (by decide)) (vvj m c t 0 (by decide)) (hb0 m c t) (hb5 m c t) (M1_eq t) (kkj_eq m c t 0 (by decide)) hQ hk (vvj_eq m c t 0 (by decide)) 6 (by decide) rfl i).trans
      (outE_at _ _ _ (by omega) i0_lt (by omega) i1_lt)
  · exact (outHi (re2 (QKm m c)) (re2 (Vm m c)) (re1 (Sm m c)) t.val 1 (by decide) _ _ _ (kkj m c t 0 (by decide)) (vvj m c t 0 (by decide)) (hb0 m c t) (hb5 m c t) (M1_eq t) (kkj_eq m c t 0 (by decide)) hQ hk (vvj_eq m c t 0 (by decide)) 5 (by decide) rfl i).trans
      (outE_at _ _ _ (by omega) i0_lt (by omega) i1_lt)
  · exact (outHi (re2 (QKm m c)) (re2 (Vm m c)) (re1 (Sm m c)) t.val 1 (by decide) _ _ _ (kkj m c t 0 (by decide)) (vvj m c t 0 (by decide)) (hb0 m c t) (hb5 m c t) (M1_eq t) (kkj_eq m c t 0 (by decide)) hQ hk (vvj_eq m c t 0 (by decide)) 4 (by decide) rfl i).trans
      (outE_at _ _ _ (by omega) i0_lt (by omega) i1_lt)
  · exact (outLo (re2 (QKm m c)) (re2 (Vm m c)) (re1 (Sm m c)) t.val 1 (by decide) _ _ _ (kkj m c t 0 (by decide)) (vvj m c t 0 (by decide)) (hb0 m c t) (hb5 m c t) (M1_eq t) (kkj_eq m c t 0 (by decide)) hQ hk (vvj_eq m c t 0 (by decide)) 3 (by decide) rfl i).trans
      (outE_at _ _ _ (by omega) i0_lt (by omega) i1_lt)
  · exact (outLo (re2 (QKm m c)) (re2 (Vm m c)) (re1 (Sm m c)) t.val 1 (by decide) _ _ _ (kkj m c t 0 (by decide)) (vvj m c t 0 (by decide)) (hb0 m c t) (hb5 m c t) (M1_eq t) (kkj_eq m c t 0 (by decide)) hQ hk (vvj_eq m c t 0 (by decide)) 2 (by decide) rfl i).trans
      (outE_at _ _ _ (by omega) i0_lt (by omega) i1_lt)
  · exact (outLo (re2 (QKm m c)) (re2 (Vm m c)) (re1 (Sm m c)) t.val 1 (by decide) _ _ _ (kkj m c t 0 (by decide)) (vvj m c t 0 (by decide)) (hb0 m c t) (hb5 m c t) (M1_eq t) (kkj_eq m c t 0 (by decide)) hQ hk (vvj_eq m c t 0 (by decide)) 1 (by decide) rfl i).trans
      (outE_at _ _ _ (by omega) i0_lt (by omega) i1_lt)
  · exact (outLo (re2 (QKm m c)) (re2 (Vm m c)) (re1 (Sm m c)) t.val 1 (by decide) _ _ _ (kkj m c t 0 (by decide)) (vvj m c t 0 (by decide)) (hb0 m c t) (hb5 m c t) (M1_eq t) (kkj_eq m c t 0 (by decide)) hQ hk (vvj_eq m c t 0 (by decide)) 0 (by decide) rfl i).trans
      (outE_at _ _ _ (by omega) i0_lt (by omega) i1_lt)
  · exact (outHi (re2 (QKm m c)) (re2 (Vm m c)) (re1 (Sm m c)) t.val 0 (by decide) _ _ _ (kk0 m c t) (vv0 m c t) (hb0 m c t) (hb5 m c t) (M0_eq t) (kk0_eq m c t) hQ hk (vv0_eq m c t) 7 (by decide) rfl i).trans
      (outE_at _ _ _ (by omega) i0_lt (by omega) i1_lt)
  · exact (outHi (re2 (QKm m c)) (re2 (Vm m c)) (re1 (Sm m c)) t.val 0 (by decide) _ _ _ (kk0 m c t) (vv0 m c t) (hb0 m c t) (hb5 m c t) (M0_eq t) (kk0_eq m c t) hQ hk (vv0_eq m c t) 6 (by decide) rfl i).trans
      (outE_at _ _ _ (by omega) i0_lt (by omega) i1_lt)
  · exact (outHi (re2 (QKm m c)) (re2 (Vm m c)) (re1 (Sm m c)) t.val 0 (by decide) _ _ _ (kk0 m c t) (vv0 m c t) (hb0 m c t) (hb5 m c t) (M0_eq t) (kk0_eq m c t) hQ hk (vv0_eq m c t) 5 (by decide) rfl i).trans
      (outE_at _ _ _ (by omega) i0_lt (by omega) i1_lt)
  · exact (outHi (re2 (QKm m c)) (re2 (Vm m c)) (re1 (Sm m c)) t.val 0 (by decide) _ _ _ (kk0 m c t) (vv0 m c t) (hb0 m c t) (hb5 m c t) (M0_eq t) (kk0_eq m c t) hQ hk (vv0_eq m c t) 4 (by decide) rfl i).trans
      (outE_at _ _ _ (by omega) i0_lt (by omega) i1_lt)
  · exact (outLo (re2 (QKm m c)) (re2 (Vm m c)) (re1 (Sm m c)) t.val 0 (by decide) _ _ _ (kk0 m c t) (vv0 m c t) (hb0 m c t) (hb5 m c t) (M0_eq t) (kk0_eq m c t) hQ hk (vv0_eq m c t) 3 (by decide) rfl i).trans
      (outE_at _ _ _ (by omega) i0_lt (by omega) i1_lt)
  · exact (outLo (re2 (QKm m c)) (re2 (Vm m c)) (re1 (Sm m c)) t.val 0 (by decide) _ _ _ (kk0 m c t) (vv0 m c t) (hb0 m c t) (hb5 m c t) (M0_eq t) (kk0_eq m c t) hQ hk (vv0_eq m c t) 2 (by decide) rfl i).trans
      (outE_at _ _ _ (by omega) i0_lt (by omega) i1_lt)
  · exact (outLo (re2 (QKm m c)) (re2 (Vm m c)) (re1 (Sm m c)) t.val 0 (by decide) _ _ _ (kk0 m c t) (vv0 m c t) (hb0 m c t) (hb5 m c t) (M0_eq t) (kk0_eq m c t) hQ hk (vv0_eq m c t) 1 (by decide) rfl i).trans
      (outE_at _ _ _ (by omega) i0_lt (by omega) i1_lt)
  · exact (outLo (re2 (QKm m c)) (re2 (Vm m c)) (re1 (Sm m c)) t.val 0 (by decide) _ _ _ (kk0 m c t) (vv0 m c t) (hb0 m c t) (hb5 m c t) (M0_eq t) (kk0_eq m c t) hQ hk (vv0_eq m c t) 0 (by decide) rfl i).trans
      (outE_at _ _ _ (by omega) i0_lt (by omega) i1_lt)
end

/-- The logarithms' array. -/
theorem arr7 : (dats m 0 c).arrAt 7 cfg0.N = ((fun y => lseE (re2 (QKm m c)) (re1 (Sm m c)) (y 0).val (y 1).val) : Vec Ideal S8192x128 .f32) := by
  refine (dats m 0 c).arrAt_eq_of_covers 7 _ (by decide +kernel) fun t _ y => ?_
  blk_simp
  rw [after0_7]
  refine (out_eq7 m c t _).trans ?_
  blk_simp [idx t]
  rw [Nat.mul_comm 512]
/-- The result's array. -/
theorem arr6 (hQ : ∀ r j, re2 (QKm m c) r j = ((re2 (QKm m c) r j).toReal : EReal)) (hk : ∀ h, re1 (Sm m c) h ≠ ⊤) :
    (dats m 0 c).arrAt 6 cfg0.N = ((fun y => outE (re2 (QKm m c)) (re2 (Vm m c)) (re1 (Sm m c)) (y 0).val (y 1).val) : Vec Ideal S8192x512 .bf16) := by
  refine (dats m 0 c).arrAt_eq_of_covers 6 _ (by decide +kernel) fun t _ y => ?_
  blk_simp
  rw [after0_6]
  refine (out_eq6 m c t hQ hk _).trans ?_
  blk_simp [idx t]
  rw [Nat.mul_comm 512]
end Cert.SinkAttnIdeal.Value

end
-- ==== Proof.AttnRef.lean ====
module

public import proofs.«01_k».proof.Proof.Gen.SinkAttnRefIdeal.Run
public import proofs.«01_k».proof.Proof.AttnModel

@[expose] public section

set_option maxRecDepth 16384
noncomputable section
open Idealize.ShloMosaic Idealize.ShloMosaic.TcCoe Idealize.SL.Sem

namespace Cert.SinkAttnRefIdeal.Value
open Cert.SinkAttnRefIdeal Cert.SinkAttnRefIdeal.Gen Cert.Model

/-! # The reference -/

variable (a0 : FVec Ideal S8192x640 .bf16) (a1 : FVec Ideal S8192x128 .bf16) (a2 : FVec Ideal S8 .f32)

/-- Rows and columns as blocks, rows in a block, halves and lanes. -/
abbrev blkR (x : FVec Ideal S8192x128 .f32) : FVec Ideal S64x128x2x64 .f32 :=
  shapeCast _ (shapeCast _ x shapeCasts_S8192x128_S8192x2x64) shapeCasts_S8192x2x64_S64x128x2x64
/-- Each block after the one before it. -/
abbrev catR (b : FVec Ideal S64x128x2x64 .f32) : FVec Ideal S64x256x2x64 .f32 :=
  concatenate S64x256x2x64 1 [⟨S64x128x2x64, (pad S64x128x2x64 ![1, 0, 0, 0] ![0, 0, 0, 0] ![0, 0, 0, 0] (extractStridedSlice S63x128x2x64 ![0, 0, 0, 0] b slices_S64x128x2x64_S63x128x2x64_0_0_0_0) (sitofp .f32 (constantI S_ 32 0#32)) pads_S63x128x2x64_S64x128x2x64_100_000_000_000 h_S_)⟩, ⟨S64x128x2x64, b⟩] concatenates_S64x128x2x64_S64x128x2x64_S64x256x2x64_d1
/-- The keys' columns. -/
abbrev keysR : FVec Ideal S8192x128 .f32 := extf .f32 (extractStridedSlice S8192x128 ![0, 512] a0 slices_S8192x640_S8192x128_0_512) bitsLt_bf16_f32
/-- The queries in blocks. -/
abbrev qR : FVec Ideal S64x128x2x4x64 .f32 := shapeCast _ (shapeCast _ (extf .f32 (extractStridedSlice S8192x512 ![0, 0] a0 slices_S8192x640_S8192x512_0_0) bitsLt_bf16_f32) shapeCasts_S8192x512_S8192x8x64) shapeCasts_S8192x8x64_S64x128x2x4x64
/-- Which keys are seen. -/
abbrev maskR : IVec S64x2x4x128x256 1 :=
  broadcastInDim S64x2x4x128x256 ![0, 1, 2, 3, 4] bcast_S64x1x1x128x256_S64x2x4x128x256_0_1_2_3_4 (broadcastInDim S64x1x1x128x256 ![0, 3, 4] bcast_S64x128x256_S64x1x1x128x256_0_3_4 (andi (broadcastInDim S64x128x256 ![0, 1, 2] bcast_S1x128x256_S64x128x256_0_1_2 (andi (broadcastInDim S1x128x256 ![1, 2] bcast_S128x256_S1x128x256_1_2 (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32)))) (broadcastInDim S1x128x256 ![1, 2] bcast_S128x256_S1x128x256_1_2 (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 127#32)))))) (broadcastInDim S64x128x256 ![0, 1, 2] bcast_S64x1x256_S64x128x256_0_1_2 (cmpi .sge (subi (addi (broadcastInDim S64x1x256 ![0, 1, 2] bcast_S64x1x1_S64x1x256_0_1_2 (muli (broadcastInDim S64x1x1 ![0] bcast_S64_S64x1x1_0 (iotaInDim S64 32 0)) (broadcastInDim S64x1x1 ![] bcast_S_S64x1x1 (constantI S_ 32 128#32)))) (broadcastInDim S64x1x256 ![0, 1, 2] bcast_S1x1x256_S64x1x256_0_1_2 (broadcastInDim S1x1x256 ![1, 2] bcast_S1x256_S1x1x256_1_2 (broadcastInDim S1x256 ![1] bcast_S256_S1x256_1 (iotaInDim S256 32 0))))) (broadcastInDim S64x1x256 ![] bcast_S_S64x1x256 (constantI S_ 32 128#32))) (broadcastInDim S64x1x256 ![] bcast_S_S64x1x256 (constantI S_ 32 0#32))))))
/-- The scores. -/
abbrev scR (KC : FVec Ideal S64x256x2x64 .f32) (Q : FVec Ideal S64x128x2x4x64 .f32) : FVec Ideal S64x2x4x128x256 .f32 :=
  mulf (transpose S64x2x4x128x256 [0, 1, 4, 3, 2] (Host.dotGeneral dot_S64x256x2x64_S64x128x2x4x64_S64x2x256x128x4_3_4_1_13_02_02 none KC Q) transposes_S64x2x256x128x4_S64x2x4x128x256_0_1_4_3_2) (broadcastInDim S64x2x4x128x256 ![] bcast_S_S64x2x4x128x256 (constant S_ .f32 0x3E000000#32))
/-- The masked scores. -/
abbrev selR (M : IVec S64x2x4x128x256 1) (SC : FVec Ideal S64x2x4x128x256 .f32) : FVec Ideal S64x2x4x128x256 .f32 :=
  select M SC (broadcastInDim S64x2x4x128x256 ![] bcast_S_S64x2x4x128x256 (id (constant S_ .f32 0xFF800000#32)))
/-- The sinks. -/
abbrev skR : FVec Ideal S64x2x4x128 .f32 := broadcastInDim S64x2x4x128 ![0, 1, 2, 3] bcast_S1x2x4x1_S64x2x4x128_0_1_2_3 (broadcastInDim S1x2x4x1 ![1, 2] bcast_S2x4_S1x2x4x1_1_2 (shapeCast _ a2 shapeCasts_S8_S2x4))
/-- The greatest score. -/
abbrev rmR (S : FVec Ideal S64x2x4x128x256 .f32) : FVec Ideal S64x2x4x128 .f32 := Host.reduce FloatOps.maximumf S (constant S_ .f32 0xFF800000#32) reducesTo_S64x2x4x128x256_S64x2x4x128_d4 h_S_
/-- The largest score or sink. -/
abbrev mxR (R SK : FVec Ideal S64x2x4x128 .f32) : FVec Ideal S64x2x4x128 .f32 := maximumf R SK
/-- The exponentials. -/
abbrev pR (S : FVec Ideal S64x2x4x128x256 .f32) (MX : FVec Ideal S64x2x4x128 .f32) : FVec Ideal S64x2x4x128x256 .f32 :=
  Host.exp (subf S (broadcastInDim S64x2x4x128x256 ![0, 1, 2, 3, 4] bcast_S64x2x4x128x1_S64x2x4x128x256_0_1_2_3_4 (broadcastInDim S64x2x4x128x1 ![0, 1, 2, 3] bcast_S64x2x4x128_S64x2x4x128x1_0_1_2_3 MX)))
/-- The denominator. -/
abbrev lR (P : FVec Ideal S64x2x4x128x256 .f32) (SK MX : FVec Ideal S64x2x4x128 .f32) : FVec Ideal S64x2x4x128 .f32 := addf (Host.reduceAdd P (constant S_ .f32 0x00000000#32) reducesTo_S64x2x4x128x256_S64x2x4x128_d4 h_S_) (Host.exp (subf SK MX))
/-- The result. -/
abbrev oR (VC : FVec Ideal S64x256x2x64 .f32) (P : FVec Ideal S64x2x4x128x256 .f32) (L : FVec Ideal S64x2x4x128 .f32) : FVec Ideal S8192x512 .bf16 :=
  truncf .bf16 (shapeCast _ (Host.divf (transpose S64x128x2x4x64 [0, 4, 1, 3, 2] (Host.dotGeneral dot_S64x256x2x64_S64x2x4x128x256_S64x2x64x4x128_1_4_3_23_02_01 none VC P) transposes_S64x2x64x4x128_S64x128x2x4x64_0_4_1_3_2) (broadcastInDim S64x128x2x4x64 ![0, 1, 2, 3, 4] bcast_S64x128x2x4x1_S64x128x2x4x64_0_1_2_3_4 (broadcastInDim S64x128x2x4x1 ![0, 1, 2, 3] bcast_S64x128x2x4_S64x128x2x4x1_0_1_2_3 (transpose S64x128x2x4 [0, 3, 1, 2] L transposes_S64x2x4x128_S64x128x2x4_0_3_1_2)))) shapeCasts_S64x128x2x4x64_S8192x512) bitsLt_bf16_f32
/-- The logarithms. -/
abbrev eR (MX L : FVec Ideal S64x2x4x128 .f32) : FVec Ideal S8192x128 .f32 :=
  pad S8192x128 ![0, 0] ![0, 120] ![0, 0] (shapeCast _ (transpose S64x128x2x4 [0, 3, 1, 2] (addf MX (Host.log L)) transposes_S64x2x4x128_S64x128x2x4_0_3_1_2) shapeCasts_S64x128x2x4_S8192x8) (sitofp .f32 (constantI S_ 32 0#32)) pads_S8192x8_S8192x128_000_01200 h_S_

/-- Rows and columns in blocks, at an entry. -/
theorem blkR_eq (A : ℕ → ℕ → EReal) (x : FVec Ideal S8192x128 .f32) (hx : ∀ y, x y = A (y 0).val (y 1).val) (y) :
    blkR x y = A (128 * (y 0).val + (y 1).val) (64 * (y 2).val + (y 3).val) := by
  pointwise [blkR, hx]
  rw [Nat.mul_comm 128, Nat.mul_comm 64]
/-- Each block after the one before it, at an entry. -/
theorem catR_eq (A : ℕ → ℕ → EReal) (b : FVec Ideal S64x128x2x64 .f32) (hb : ∀ y, b y = A (128 * (y 0).val + (y 1).val) (64 * (y 2).val + (y 3).val)) (y)
    (hy : 128 ≤ (y 1).val ∨ 0 < (y 0).val) : catR b y = A (128 * (y 0).val + (y 1).val - 128) (64 * (y 2).val + (y 3).val) := by
  have h0 : (y 0).val < 64 := (y 0).isLt
  pointwise [catR, hb]
  split_ifs with h1 h2
  · congr 1; omega
  · omega
  · congr 1; omega
/-- The keys at an entry. -/
theorem keysR_eq (y) : keysR a0 y = re2 a0 (y 0).val (512 + (y 1).val) := by
  pointwise [keysR]
  exact eq_re2 a0 _ _ _ rfl rfl
/-- The queries at an entry. -/
theorem qR_eq (y) : qR a0 y = re2 a0 (128 * (y 0).val + (y 1).val) (64 * (4 * (y 2).val + (y 3).val) + (y 4).val) := by
  pointwise [qR]
  refine eq_re2 a0 _ _ _ ?_ ?_
  · show (y 0).val * 128 + (y 1).val = _; omega
  · show (y 2).val * 256 + (y 3).val * 64 + (y 4).val = _; omega
/-- Which keys are seen, at an entry. -/
theorem maskR_eq (y) : maskR y = BitVec.ofBool (decide (vis (y 0).val (y 3).val (y 4).val)) := by
  have h0 : (y 0).val < 64 := (y 0).isLt
  have h3 : (y 3).val < 128 := (y 3).isLt
  have h4 : (y 4).val < 256 := (y 4).isLt
  pointwise [maskR]
  generalize (y 0).val = n at *
  generalize (y 3).val = i at *
  generalize (y 4).val = j at *
  have hd : (IntOp.subi (IntOp.addi (BitVec.ofNat 32 i) 128#32) (BitVec.ofNat 32 j)).toInt = (i : ℤ) + 128 - j := by
    show (BitVec.ofNat 32 i + 128#32 - BitVec.ofNat 32 j).toInt = _
    rw [BitVec.toInt_eq_toNat_cond]
    simp only [BitVec.toNat_sub, BitVec.toNat_add, BitVec.toNat_ofNat]
    split <;> omega
  have hk : (IntOp.subi (IntOp.addi (IntOp.muli (BitVec.ofNat 32 n) 128#32) (BitVec.ofNat 32 j)) 128#32).toInt = (n : ℤ) * 128 + j - 128 := by
    show (BitVec.ofNat 32 n * 128#32 + BitVec.ofNat 32 j - 128#32).toInt = _
    rw [BitVec.toInt_eq_toNat_cond]
    simp only [BitVec.toNat_sub, BitVec.toNat_add, BitVec.toNat_mul, BitVec.toNat_ofNat]
    split <;> omega
  rw [WordCmp.cmpi_sge_eq, WordCmp.cmpi_sle_eq, WordCmp.cmpi_sge_eq, hd, hk]
  have z0 : (0#32).toInt = 0 := rfl
  have z1 : (127#32).toInt = 127 := rfl
  rw [z0, z1]
  have a1 : ((0 : ℤ) ≤ i + 128 - j) ↔ j ≤ i + 128 := by omega
  have a2 : ((i : ℤ) + 128 - j ≤ 127) ↔ i + 1 ≤ j := by omega
  have a3 : ((0 : ℤ) ≤ n * 128 + j - 128) ↔ (128 ≤ j ∨ 0 < n) := by omega
  simp only [a1, a2, a3, vis]
  by_cases b1 : j ≤ i + 128 <;> by_cases b2 : i + 1 ≤ j <;> by_cases b3 : 128 ≤ j ∨ 0 < n <;> simp [b1, b2, b3] <;> rfl

/-- The scale is an eighth. -/
theorem ofBits_eighth' : Ideal.ofBits .f32 0x3E000000#32 = ((1 / 8 : ℝ) : EReal) := by
  simp [Ideal.ofBits, Ideal.ieee]; norm_cast; norm_num
/-- The masked scores. -/
theorem selR_eq (QK : ℕ → ℕ → EReal) (k : FVec Ideal S64x256x2x64 .f32) (q : FVec Ideal S64x128x2x4x64 .f32) (M : IVec S64x2x4x128x256 1)
    (hM : ∀ y, M y = BitVec.ofBool (decide (vis (y 0).val (y 3).val (y 4).val)))
    (hk : ∀ y, (128 ≤ (y 1).val ∨ 0 < (y 0).val) → k y = QK (128 * (y 0).val + (y 1).val - 128) (512 + (64 * (y 2).val + (y 3).val)))
    (hq : ∀ y, q y = QK (128 * (y 0).val + (y 1).val) (64 * (4 * (y 2).val + (y 3).val) + (y 4).val)) (y) :
    selR M (scR k q) y = attS QK (4 * (y 1).val + (y 2).val) (y 0).val (y 3).val (y 4).val := by
  have h2 : (y 2).val < 4 := (y 2).isLt
  have e : (4 * (y 1).val + (y 2).val) / 4 = (y 1).val := by omega
  pointwise [selR, scR, hM, hq]
  rw [ofBits_eighth', attS, e]
  by_cases hv : vis (y 0).val (y 3).val (y 4).val
  · rw [if_pos hv, if_pos hv]
    refine congrArg (fun t : EReal => t * ((1 / 8 : ℝ) : EReal)) (Finset.sum_congr rfl fun x _ => ?_)
    rw [hk _ (by exact hv.2.2)]
    rfl
  · rw [if_neg hv, if_neg hv]
    exact ofBits_ninf
/-- The sinks at an entry. -/
theorem skR_eq (y) : skR a2 y = re1 a2 (4 * (y 1).val + (y 2).val) := by
  pointwise [skR]
  exact eq_re1 a2 _ _ (by show (y 1).val * 4 + (y 2).val = _; omega)

/-- The host's maximum along the last of five axes. -/
theorem reduce_max5 {n0 n1 n2 n3 n4 : ℕ} {t u : Shape} (h : (⟨5, ![n0, n1, n2, n3, n4]⟩ : Shape).ReducesTo [4] t) (hu : 0 < u.numel)
    (x : FVec Ideal ⟨5, ![n0, n1, n2, n3, n4]⟩ .f32) (b : BitVec 32) (B : Fin n4 → EReal) (j : t.Idx)
    (hB : ∀ y : (⟨5, ![n0, n1, n2, n3, n4]⟩ : Shape).Idx, (y 0).val = (j ⟨0, h.lt_r5_a4_0⟩).val → (y 1).val = (j ⟨1, h.lt_r5_a4_1⟩).val → (y 2).val = (j ⟨2, h.lt_r5_a4_2⟩).val
      → (y 3).val = (j ⟨3, h.lt_r5_a4_3⟩).val → x y = B (y 4)) :
    Host.reduce FloatOps.maximumf x (constant u .f32 b) h hu j = Finset.univ.fold max (Ideal.ofBits .f32 b) B := by
  pointwise []
  refine congrArg (fun f => Finset.univ.fold max (Ideal.ofBits .f32 b) f) (funext fun k => ?_)
  exact hB _ rfl rfl rfl rfl

section
variable (QK V : ℕ → ℕ → EReal) (sk : ℕ → EReal) (S : FVec Ideal S64x2x4x128x256 .f32) (K M L : FVec Ideal S64x2x4x128 .f32)
  (hS : ∀ y, S y = attS QK (4 * (y 1).val + (y 2).val) (y 0).val (y 3).val (y 4).val) (hK : ∀ y, K y = sk (4 * (y 1).val + (y 2).val))
include hS hK
omit hK
/-- The greatest score at an entry. -/
theorem rmR_eq (y) : rmR S y = Finset.univ.fold max ⊥ fun j : Fin 256 => attS QK (4 * (y 1).val + (y 2).val) (y 0).val (y 3).val j.val := by
  rw [← ofBits_ninf]
  exact reduce_max5 (n0 := 64) (n1 := 2) (n2 := 4) (n3 := 128) (n4 := 256) reducesTo_S64x2x4x128x256_S64x2x4x128_d4 h_S_ S _
    (fun j : Fin 256 => attS QK (4 * (y 1).val + (y 2).val) (y 0).val (y 3).val j.val) y (fun z h0 h1 h2 h3 =>
      (hS z).trans (by rw [show (z 0).val = (y 0).val from h0, show (z 1).val = (y 1).val from h1, show (z 2).val = (y 2).val from h2, show (z 3).val = (y 3).val from h3]))
omit hS
include hK
/-- The greatest of scores and sink at an entry. -/
theorem mxR_eq (R : FVec Ideal S64x2x4x128 .f32)
    (hR : ∀ y, R y = Finset.univ.fold max ⊥ fun j : Fin 256 => attS QK (4 * (y 1).val + (y 2).val) (y 0).val (y 3).val j.val) (y) :
    mxR R K y = attM QK sk (4 * (y 1).val + (y 2).val) (y 0).val (y 3).val := by
  pointwise [mxR, hK, hR]
  rfl
include hS
variable (hM : ∀ y, M y = attM QK sk (4 * (y 1).val + (y 2).val) (y 0).val (y 3).val)
include hM
/-- The weights at an entry. -/
theorem pR_eq (y) : pR S M y = attP QK sk (4 * (y 1).val + (y 2).val) (y 0).val (y 3).val (y 4).val := by
  pointwise [pR, hS, hM]
  rfl
omit hS
/-- The sums of the weights at an entry. -/
theorem lR_eq (P : FVec Ideal S64x2x4x128x256 .f32) (hP : ∀ y, P y = attP QK sk (4 * (y 1).val + (y 2).val) (y 0).val (y 3).val (y 4).val) (y) :
    lR P K M y = attL QK sk (4 * (y 1).val + (y 2).val) (y 0).val (y 3).val := by
  pointwise [lR, hP, hK, hM]
  rfl
omit hK hM
variable (hL : ∀ y, L y = attL QK sk (4 * (y 1).val + (y 2).val) (y 0).val (y 3).val)
include hL
/-- The result at an entry. -/
theorem oR_eq (W : FVec Ideal S64x256x2x64 .f32) (P : FVec Ideal S64x2x4x128x256 .f32) (hP : ∀ y, P y = attP QK sk (4 * (y 1).val + (y 2).val) (y 0).val (y 3).val (y 4).val)
    (hW : ∀ y, (128 ≤ (y 1).val ∨ 0 < (y 0).val) → W y = V (128 * (y 0).val + (y 1).val - 128) (64 * (y 2).val + (y 3).val)) (y) :
    oR W P L y = outE QK V sk (y 0).val (y 1).val := by
  have h1 : (y 1).val < 512 := (y 1).isLt
  have e1 : 4 * ((y 1).val / 256) + (y 1).val / 64 % 4 = (y 1).val / 64 := by omega
  have e2 : (y 1).val / 64 / 4 = (y 1).val / 256 := by omega
  pointwise [oR, hP, hL]
  rw [e1, outE, attO]
  refine congrArg (fun f => Ideal.div f _) (Finset.sum_congr rfl fun x _ => ?_)
  rw [mul_comm]
  by_cases hv : vis ((y 0).val / 128) ((y 0).val % 128) x.val
  · rw [hW _ (by exact hv.2.2), attV, if_pos hv, e2]
    rfl
  · rw [attP_unseen QK sk hv, zero_mul, zero_mul]
omit hL
include hM hL
/-- The logarithms at an entry. -/
theorem eR_eq (y) : eR M L y = lseE QK sk (y 0).val (y 1).val := by
  have e1 : 4 * ((y 1).val / 4) + (y 1).val % 4 = (y 1).val := by omega
  pointwise [eR, hM, hL]
  rw [e1]
  unfold lseE
  by_cases h : (y 1).val < 8
  · simp only [h]; rfl
  · simp only [h]
    exact Cert.ReferenceIdeal.Value.sitofp_zero
end

/-- The scores of the reference. -/
abbrev SR : FVec Ideal S64x2x4x128x256 .f32 := selR maskR (scR (catR (blkR (keysR a0))) (qR a0))
/-- The greatest scores of the reference. -/
abbrev MR : FVec Ideal S64x2x4x128 .f32 := mxR (rmR (SR a0)) (skR a2)
/-- The weights of the reference. -/
abbrev PR : FVec Ideal S64x2x4x128x256 .f32 := pR (SR a0) (MR a0 a2)
/-- The sums of the weights of the reference. -/
abbrev LR : FVec Ideal S64x2x4x128 .f32 := lR (PR a0 a2) (skR a2) (MR a0 a2)

/-- The scores of the reference at an entry. -/
theorem SR_eq (y) : SR a0 y = attS (re2 a0) (4 * (y 1).val + (y 2).val) (y 0).val (y 3).val (y 4).val :=
  selR_eq (re2 a0) _ _ _ maskR_eq (fun y hy => catR_eq (fun r j => re2 a0 r (512 + j)) _ (blkR_eq (fun r j => re2 a0 r (512 + j)) _ (keysR_eq a0)) y hy) (qR_eq a0) y
/-- The greatest scores of the reference at an entry. -/
theorem MR_eq (y) : MR a0 a2 y = attM (re2 a0) (re1 a2) (4 * (y 1).val + (y 2).val) (y 0).val (y 3).val :=
  mxR_eq (re2 a0) (re1 a2) _ (skR_eq a2) _ (rmR_eq (re2 a0) _ (SR_eq a0)) y
/-- The weights of the reference at an entry. -/
theorem PR_eq (y) : PR a0 a2 y = attP (re2 a0) (re1 a2) (4 * (y 1).val + (y 2).val) (y 0).val (y 3).val (y 4).val :=
  pR_eq (re2 a0) (re1 a2) _ _ _ (SR_eq a0) (skR_eq a2) (MR_eq a0 a2) y
/-- The sums of the weights of the reference at an entry. -/
theorem LR_eq (y) : LR a0 a2 y = attL (re2 a0) (re1 a2) (4 * (y 1).val + (y 2).val) (y 0).val (y 3).val :=
  lR_eq (re2 a0) (re1 a2) _ _ (skR_eq a2) (MR_eq a0 a2) _ (PR_eq a0 a2) y

/-- The reference's first result. -/
theorem ref0 (y) : oR (catR (blkR (extf .f32 a1 bitsLt_bf16_f32))) (PR a0 a2) (LR a0 a2) y = outE (re2 a0) (re2 a1) (re1 a2) (y 0).val (y 1).val :=
  oR_eq (re2 a0) (re2 a1) (re1 a2) _ (LR_eq a0 a2) _ _ (PR_eq a0 a2)
    (fun y hy => catR_eq (re2 a1) _ (blkR_eq (re2 a1) _ fun y => eq_re2 a1 y _ _ rfl rfl) y hy) y
/-- The reference's second result. -/
theorem ref1 (y) : eR (MR a0 a2) (LR a0 a2) y = lseE (re2 a0) (re1 a2) (y 0).val (y 1).val :=
  eR_eq (re2 a0) (re1 a2) _ _ (MR_eq a0 a2) (LR_eq a0 a2) y

section
variable (m : (ℓ : Loc nD τ sig) → Buf (Elt Ideal) ℓ) (c : Dev nD)
/-- The first result from the arguments. -/
theorem res0 (b0 : FVec Ideal S8192x640 .bf16) (b1 : FVec Ideal S8192x128 .bf16) (b2 : FVec Ideal S8 .f32) (e0 : m ((c.tc : Thread nD τ).loc main_arg0) = b0)
    (e1 : m ((c.tc : Thread nD τ).loc main_arg1) = b1) (e2 : m ((c.tc : Thread nD τ).loc main_arg2) = b2) :
    (res_main_v79 m c : Vec Ideal S8192x512 .bf16) = fun y => outE (re2 b0) (re2 b1) (re1 b2) (y 0).val (y 1).val := by
  subst e0 e1 e2
  exact (show (res_main_v79 m c : Vec Ideal S8192x512 .bf16) = oR _ (PR _ _) (LR _ _) from rfl).trans (funext fun y => ref0 _ _ _ y)
/-- The second result from the arguments. -/
theorem res1 (b0 : FVec Ideal S8192x640 .bf16) (b2 : FVec Ideal S8 .f32) (e0 : m ((c.tc : Thread nD τ).loc main_arg0) = b0)
    (e2 : m ((c.tc : Thread nD τ).loc main_arg2) = b2) :
    (res_main_v80 m c : Vec Ideal S8192x128 .f32) = fun y => lseE (re2 b0) (re1 b2) (y 0).val (y 1).val := by
  subst e0 e2
  exact (show (res_main_v80 m c : Vec Ideal S8192x128 .f32) = eR (MR _ _) (LR _ _) from rfl).trans (funext fun y => ref1 _ _ y)
end

end Cert.SinkAttnRefIdeal.Value

end
-- ==== Proof.Attn.lean ====
/- The sliding-window attention with sinks: the reference's frame, and the kernel's values equal to the reference's. -/
module

public import proofs.«01_k».proof.Defs
public import proofs.«01_k».proof.Proof.Gen.SinkAttn
public import proofs.«01_k».proof.Proof.Gen.SinkAttnIdeal
public import proofs.«01_k».proof.Proof.Gen.SinkAttnRefIdeal
public import proofs.«01_k».proof.Proof.AttnVal
public import proofs.«01_k».proof.Proof.AttnRef

@[expose] public section

set_option maxRecDepth 16384

noncomputable section

namespace Cert.Pre_finite_attn

open Idealize.ShloMosaic Idealize.ShloMosaic.TcCoe Idealize.SL.Sem

/-- The side conditions of the precondition's operations. -/
instance facts : Facts where
  bitsLt_bf16_f32 := by decide
  bcast_S_S8192x640 := by decide
  bcast_S_S8 := by decide

variable (a0 : FVec Ideal S8192x640 .bf16) (a1 : FVec Ideal S8192x128 .bf16) (a2 : FVec Ideal S8 .f32)

/-- The queries and keys are real. -/
theorem real0 (h : (fn (F := Ideal) a0 a1 a2).1 = fun _ => 1#1) (y : S8192x640.Idx) : (a0 y : EReal) = ((a0 y : EReal).toReal : EReal) := by
  have h := congrFun h y
  simp only [fn] at h
  pointwise [] at h
  exact Cert.Pre_finite.real_of_lt h

/-- The sinks are below infinity. -/
theorem below2 (h : (fn (F := Ideal) a0 a1 a2).2 = fun _ => 1#1) (y : S8.Idx) : (a2 y : EReal) ≠ ⊤ := by
  have h := congrFun h y
  simp only [fn] at h
  pointwise [] at h
  rw [Cert.Pre_finite.ofBits_inf] at h
  intro e
  rw [e] at h
  simp at h

/-- A reading of the sinks is below infinity. -/
theorem re1_below (h : ∀ y, (a2 y : EReal) ≠ ⊤) (r : ℕ) : Cert.Model.re1 a2 r ≠ ⊤ := by
  unfold Cert.Model.re1
  split
  · exact h _
  · exact EReal.zero_ne_top

end Cert.Pre_finite_attn

namespace Cert.Proof

open Idealize.ShloMosaic Idealize.ShloMosaic.TcCoe Idealize.SL.Sem Cert.Model

/-- The sliding-window attention: the reference runs and keeps its arguments. -/
theorem frame_SinkAttn : Cert.quiescent_SinkAttnRefIdeal := by
  intro m ρ _
  exact (θ_run Cert.SinkAttnRefIdeal.defs _ _).mono (fun r h => ⟨fun c => (h c).2.2, sem_eq_zero_of_no_sems (by decide) r.2⟩)
    (Cert.SinkAttnRefIdeal.Value.run (F := Ideal) m ρ)

/-- The sliding-window attention: kernel and reference compute the same. -/
theorem value_SinkAttn : Cert.algebraic_SinkAttnIdeal_SinkAttnRefIdeal_pre_finite_attn := by
  intro m g m' g' h ha
  refine ⟨fun c => ((fun y => outE (re2 (Cert.SinkAttnIdeal.Value.QKm m c)) (re2 (Cert.SinkAttnIdeal.Value.Vm m c)) (re1 (Cert.SinkAttnIdeal.Value.Sm m c)) (y 0).val (y 1).val) : Vec Ideal Cert.SinkAttnIdeal.S8192x512 .bf16),
    fun c => ((fun y => lseE (re2 (Cert.SinkAttnIdeal.Value.QKm m c)) (re1 (Cert.SinkAttnIdeal.Value.Sm m c)) (y 0).val (y 1).val) : Vec Ideal Cert.SinkAttnIdeal.S8192x128 .f32), ?_, ?_⟩
  · refine (θ_run Cert.SinkAttnIdeal.defs _ _).mono (fun r hr c => ?_) (Cert.SinkAttnIdeal.Value.run_blocks (F := Ideal) m g)
    obtain ⟨h0, h1, hk⟩ := hr c
    exact ⟨h0.trans (Cert.SinkAttnIdeal.Value.arr6 m c (re2_real _ (Cert.Pre_finite_attn.real0 (Cert.SinkAttnIdeal.Value.QKm m c) (Cert.SinkAttnIdeal.Value.Vm m c) (Cert.SinkAttnIdeal.Value.Sm m c) (h c).1))
      (Cert.Pre_finite_attn.re1_below _ (Cert.Pre_finite_attn.below2 (Cert.SinkAttnIdeal.Value.QKm m c) (Cert.SinkAttnIdeal.Value.Vm m c) (Cert.SinkAttnIdeal.Value.Sm m c) (h c).2))),
      h1.trans (Cert.SinkAttnIdeal.Value.arr7 m c), hk⟩
  · refine (θ_run Cert.SinkAttnRefIdeal.defs _ _).mono (fun r hr c => ?_) (Cert.SinkAttnRefIdeal.Value.run (F := Ideal) m' g')
    obtain ⟨h0, h1, hk⟩ := hr c
    obtain ⟨a0, a1, a2⟩ := ha c
    exact ⟨h0.trans (Cert.SinkAttnRefIdeal.Value.res0 m' c _ _ _ a0 a1 a2), h1.trans (Cert.SinkAttnRefIdeal.Value.res1 m' c _ _ a0 a2), hk⟩

end Cert.Proof

end
-- ==== Proof.lean ====
/- Every claim of the certificate: the frames, the named constants, and the gradients' equality over the real numbers. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.UpBack
public import proofs.«01_k».proof.Proof.Gen.UpBack.Frame
public import proofs.«01_k».proof.Proof.Gen.UpBackIdeal
public import proofs.«01_k».proof.Proof.Gen.UpBackIdeal.Frame
public import proofs.«01_k».proof.Proof.Gen.UpBackIdeal.Value
public import proofs.«01_k».proof.Proof.Gen.UpWeights
public import proofs.«01_k».proof.Proof.Gen.UpWeights.Frame
public import proofs.«01_k».proof.Proof.Gen.UpWeightsIdeal
public import proofs.«01_k».proof.Proof.Gen.UpWeightsIdeal.Frame
public import proofs.«01_k».proof.Proof.Gen.UpWeightsIdeal.Value
public import proofs.«01_k».proof.Proof.Gen.DownWeight
public import proofs.«01_k».proof.Proof.Gen.DownWeight.Frame
public import proofs.«01_k».proof.Proof.Gen.DownWeightIdeal
public import proofs.«01_k».proof.Proof.Gen.DownWeightIdeal.Frame
public import proofs.«01_k».proof.Proof.Gen.DownWeightIdeal.Value
public import proofs.«01_k».proof.Proof.Gen.DownBack
public import proofs.«01_k».proof.Proof.Gen.DownBack.Frame
public import proofs.«01_k».proof.Proof.Gen.DownBackIdeal
public import proofs.«01_k».proof.Proof.Gen.DownBackIdeal.Frame
public import proofs.«01_k».proof.Proof.Gen.DownBackIdeal.Value
public import proofs.«01_k».proof.Proof.Gen.GateUp
public import proofs.«01_k».proof.Proof.Gen.GateUp.Frame
public import proofs.«01_k».proof.Proof.Gen.GateUpIdeal
public import proofs.«01_k».proof.Proof.Gen.GateUpIdeal.Frame
public import proofs.«01_k».proof.Proof.Gen.GateUpIdeal.Value
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.OdInBack
public import proofs.«01_k».proof.Proof.Gen.OdInBack.Frame
public import proofs.«01_k».proof.Proof.Gen.OdInBackIdeal
public import proofs.«01_k».proof.Proof.Gen.OdInBackIdeal.Frame
public import proofs.«01_k».proof.Proof.Gen.OdInBackIdeal.Value
public import proofs.«01_k».proof.Proof.Gen.OdInBackRefIdeal.Run
public import proofs.«01_k».proof.Proof.Gen.EvInBack
public import proofs.«01_k».proof.Proof.Gen.EvInBack.Frame
public import proofs.«01_k».proof.Proof.Gen.EvInBackIdeal
public import proofs.«01_k».proof.Proof.Gen.EvInBackIdeal.Frame
public import proofs.«01_k».proof.Proof.Gen.EvInBackIdeal.Value
public import proofs.«01_k».proof.Proof.Gen.EvInBackRefIdeal.Run
public import proofs.«01_k».proof.Proof.Gen.OdInWeight
public import proofs.«01_k».proof.Proof.Gen.OdInWeight.Frame
public import proofs.«01_k».proof.Proof.Gen.OdInWeightIdeal
public import proofs.«01_k».proof.Proof.Gen.OdInWeightIdeal.Frame
public import proofs.«01_k».proof.Proof.Gen.OdInWeightIdeal.Value
public import proofs.«01_k».proof.Proof.Gen.OdInWeightRefIdeal.Run
public import proofs.«01_k».proof.Proof.Gen.EvInWeight
public import proofs.«01_k».proof.Proof.Gen.EvInWeight.Frame
public import proofs.«01_k».proof.Proof.Gen.EvInWeightIdeal
public import proofs.«01_k».proof.Proof.Gen.EvInWeightIdeal.Frame
public import proofs.«01_k».proof.Proof.Gen.EvInWeightIdeal.Value
public import proofs.«01_k».proof.Proof.Gen.EvInWeightRefIdeal.Run
public import proofs.«01_k».proof.Proof.Gen.OutWeight
public import proofs.«01_k».proof.Proof.Gen.OutWeight.Frame
public import proofs.«01_k».proof.Proof.Gen.OutWeightIdeal
public import proofs.«01_k».proof.Proof.Gen.OutWeightIdeal.Frame
public import proofs.«01_k».proof.Proof.Gen.OutWeightIdeal.Value
public import proofs.«01_k».proof.Proof.Gen.OutWeightRefIdeal.Run
public import proofs.«01_k».proof.Proof.Gen.OutBack
public import proofs.«01_k».proof.Proof.Gen.OutBack.Frame
public import proofs.«01_k».proof.Proof.Gen.OutBackIdeal
public import proofs.«01_k».proof.Proof.Gen.OutBackIdeal.Frame
public import proofs.«01_k».proof.Proof.Gen.OutBackIdeal.Value
public import proofs.«01_k».proof.Proof.Gen.OutBackRefIdeal.Run
public import proofs.«01_k».proof.Proof.Gen.OdOutBack
public import proofs.«01_k».proof.Proof.Gen.OdOutBack.Frame
public import proofs.«01_k».proof.Proof.Gen.OdOutBackIdeal
public import proofs.«01_k».proof.Proof.Gen.OdOutBackIdeal.Frame
public import proofs.«01_k».proof.Proof.Gen.OdOutBackIdeal.Value
public import proofs.«01_k».proof.Proof.Gen.OdOutBackRefIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.LastDown
public import proofs.«01_k».proof.Proof.Gen.LastDown.Frame
public import proofs.«01_k».proof.Proof.Gen.LastDownIdeal
public import proofs.«01_k».proof.Proof.Gen.LastDownIdeal.Frame
public import proofs.«01_k».proof.Proof.Gen.LastDownIdeal.Value
public import proofs.«01_k».proof.Proof.Gen.LastDownRefIdeal.Run
public import proofs.«01_k».proof.Proof.Arr
public import proofs.«01_k».proof.Proof.RefB
public import proofs.«01_k».proof.Proof.Pre
public import proofs.«01_k».proof.Proof.Ffn
public import proofs.«01_k».proof.Proof.Mixers
public import proofs.«01_k».proof.Proof.Gen.EvInProj
public import proofs.«01_k».proof.Proof.Gen.EvInProj.Frame
public import proofs.«01_k».proof.Proof.Gen.EvInProjIdeal
public import proofs.«01_k».proof.Proof.Gen.EvInProjIdeal.Frame
public import proofs.«01_k».proof.Proof.Gen.EvInProjIdeal.Value
public import proofs.«01_k».proof.Proof.Gen.EvInProjRefIdeal.Run
public import proofs.«01_k».proof.Proof.Gen.OdInProj
public import proofs.«01_k».proof.Proof.Gen.OdInProj.Frame
public import proofs.«01_k».proof.Proof.Gen.OdInProjIdeal
public import proofs.«01_k».proof.Proof.Gen.OdInProjIdeal.Frame
public import proofs.«01_k».proof.Proof.Gen.OdInProjIdeal.Value
public import proofs.«01_k».proof.Proof.Gen.OdInProjRefIdeal.Run
public import proofs.«01_k».proof.Proof.Gen.RmsIn
public import proofs.«01_k».proof.Proof.Gen.RmsIn.Frame
public import proofs.«01_k».proof.Proof.Gen.RmsInIdeal
public import proofs.«01_k».proof.Proof.Gen.RmsInIdeal.Frame
public import proofs.«01_k».proof.Proof.Gen.RmsInIdeal.Value
public import proofs.«01_k».proof.Proof.Gen.RmsInRefIdeal.Run
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossHeadRefIdeal.Run
public import proofs.«01_k».proof.Proof.Gen.GmlpFwd
public import proofs.«01_k».proof.Proof.Gen.GmlpFwd.Frame
public import proofs.«01_k».proof.Proof.Gen.GmlpFwdIdeal
public import proofs.«01_k».proof.Proof.Gen.GmlpFwdIdeal.Frame
public import proofs.«01_k».proof.Proof.Gen.GmlpFwdIdeal.Value
public import proofs.«01_k».proof.Proof.Gen.GmlpFwdRefIdeal.Run
public import proofs.«01_k».proof.Proof.Gen.SinkAttn
public import proofs.«01_k».proof.Proof.Gen.SinkAttn.Frame
public import proofs.«01_k».proof.Proof.Gen.SinkAttnIdeal
public import proofs.«01_k».proof.Proof.Gen.SinkAttnIdeal.Frame
public import proofs.«01_k».proof.Proof.Gen.SinkAttnIdeal.Value
public import proofs.«01_k».proof.Proof.Gen.SinkAttnRefIdeal.Run
public import proofs.«01_k».proof.Proof.InProj
public import proofs.«01_k».proof.Proof.Norms
public import proofs.«01_k».proof.Proof.Attn

@[expose] public section

set_option maxRecDepth 16384

noncomputable section

namespace Cert.Proof

open Idealize.ShloMosaic Idealize.ShloMosaic.TcCoe Idealize.SL.Sem Cert.Model

/-- The reference runs, keeps its arguments, and has no semaphore. -/
theorem frame_ref : Cert.quiescent_ReferenceIdeal := by
  intro m ρ _
  exact (θ_run Cert.ReferenceIdeal.defs _ _).mono (fun r h => ⟨fun c => (h c).2.2.2.2.2,
      sem_eq_zero_of_no_sems (by decide) r.2⟩)
    (Cert.ReferenceIdeal.Value.run (F := Ideal) m ρ)

section
variable (m : (ℓ : Loc Cert.KernelIdeal.nD Cert.KernelIdeal.τ Cert.KernelIdeal.sig) → Buf (Elt Ideal) ℓ) (c : Dev Cert.KernelIdeal.nD)

/-- The real functions a device's arguments are. -/
def input : In where
  z := rd2 (n := 8192) (m := 1024) (m ((c.tc : Thread Cert.KernelIdeal.nD Cert.KernelIdeal.τ).loc Cert.KernelIdeal.main_arg0))
  d := fun r j => rd2 (n := 8192) (m := 1024) (m ((c.tc : Thread Cert.KernelIdeal.nD Cert.KernelIdeal.τ).loc Cert.KernelIdeal.main_arg1)) r (512 + j)
  lg := rd2 (n := 1) (m := 512) (m ((c.tc : Thread Cert.KernelIdeal.nD Cert.KernelIdeal.τ).loc Cert.KernelIdeal.main_arg2)) 0
  lb := rd2 (n := 1) (m := 512) (m ((c.tc : Thread Cert.KernelIdeal.nD Cert.KernelIdeal.τ).loc Cert.KernelIdeal.main_arg3)) 0
  w := rd3 (n := 8) (m := 128) (l := 128) (m ((c.tc : Thread Cert.KernelIdeal.nD Cert.KernelIdeal.τ).loc Cert.KernelIdeal.main_arg4))
  sb := rd2 (n := 128) (m := 512) (m ((c.tc : Thread Cert.KernelIdeal.nD Cert.KernelIdeal.τ).loc Cert.KernelIdeal.main_arg5))

variable (h : Cert.Pre_KernelIdeal_finite m)
include h

/-- The first argument is its real function. -/
theorem in0 (y : Cert.KernelIdeal.S8192x1024.Idx) : (m ((c.tc : Thread Cert.KernelIdeal.nD Cert.KernelIdeal.τ).loc Cert.KernelIdeal.main_arg0) : Vec Ideal Cert.KernelIdeal.S8192x1024 .bf16) y
    = ((input m c).z (y 0).val (y 1).val : EReal) :=
  (Cert.Pre_finite.real0 _ _ _ _ _ _ (h c).1 y).trans (congrArg Real.toEReal (rd2_eq _ y).symm)
/-- The second argument's columns from 512 on are its real function. -/
theorem in1 (y : Cert.KernelIdeal.S8192x1024.Idx) (hy : 512 ≤ (y 1).val) : (m ((c.tc : Thread Cert.KernelIdeal.nD Cert.KernelIdeal.τ).loc Cert.KernelIdeal.main_arg1) : Vec Ideal Cert.KernelIdeal.S8192x1024 .bf16) y
    = ((input m c).d (y 0).val ((y 1).val - 512) : EReal) := by
  refine (Cert.Pre_finite.real1 _ _ _ _ _ _ (h c).2.1 y hy).trans (congrArg Real.toEReal ?_)
  show _ = rd2 _ _ (512 + ((y 1).val - 512))
  rw [Nat.add_sub_cancel' hy]
  exact (rd2_eq _ y).symm
/-- The third argument is its real function. -/
theorem in2 (y : Cert.KernelIdeal.S1x512.Idx) : (m ((c.tc : Thread Cert.KernelIdeal.nD Cert.KernelIdeal.τ).loc Cert.KernelIdeal.main_arg2) : Vec Ideal Cert.KernelIdeal.S1x512 .f32) y
    = ((input m c).lg (y 1).val : EReal) := by
  refine (Cert.Pre_finite.real2 _ _ _ _ _ _ (h c).2.2.1 y).trans (congrArg Real.toEReal ?_)
  rw [← rd2_eq, show (y 0).val = 0 by have : (y 0).val < 1 := (y 0).isLt; omega]
  rfl
/-- The fourth argument is its real function. -/
theorem in3 (y : Cert.KernelIdeal.S1x512.Idx) : (m ((c.tc : Thread Cert.KernelIdeal.nD Cert.KernelIdeal.τ).loc Cert.KernelIdeal.main_arg3) : Vec Ideal Cert.KernelIdeal.S1x512 .f32) y
    = ((input m c).lb (y 1).val : EReal) := by
  refine (Cert.Pre_finite.real3 _ _ _ _ _ _ (h c).2.2.2.1 y).trans (congrArg Real.toEReal ?_)
  rw [← rd2_eq, show (y 0).val = 0 by have : (y 0).val < 1 := (y 0).isLt; omega]
  rfl
/-- The fifth argument is its real function. -/
theorem in4 (y : Cert.KernelIdeal.S8x128x128.Idx) : (m ((c.tc : Thread Cert.KernelIdeal.nD Cert.KernelIdeal.τ).loc Cert.KernelIdeal.main_arg4) : Vec Ideal Cert.KernelIdeal.S8x128x128 .f32) y
    = ((input m c).w (y 0).val (y 1).val (y 2).val : EReal) :=
  (Cert.Pre_finite.real4 _ _ _ _ _ _ (h c).2.2.2.2.1 y).trans (congrArg Real.toEReal (rd3_eq _ y).symm)
/-- The sixth argument is its real function. -/
theorem in5 (y : Cert.KernelIdeal.S128x512.Idx) : (m ((c.tc : Thread Cert.KernelIdeal.nD Cert.KernelIdeal.τ).loc Cert.KernelIdeal.main_arg5) : Vec Ideal Cert.KernelIdeal.S128x512 .f32) y
    = ((input m c).sb (y 0).val (y 1).val : EReal) :=
  (Cert.Pre_finite.real5 _ _ _ _ _ _ (h c).2.2.2.2.2 y).trans (congrArg Real.toEReal (rd2_eq _ y).symm)

end

/-- The gradients of the gated unit: kernel and reference compute the same real numbers. -/
theorem value : Cert.algebraic_KernelIdeal_ReferenceIdeal_pre_finite := by
  intro m g m' g' h ha
  refine ⟨fun c => (fun y => ((input m c).dz (y 0).val (y 1).val : EReal) : Vec Ideal Cert.KernelIdeal.S8192x1024 .bf16),
    fun c => (fun y => ((input m c).dwT (y 0).val (y 1).val (y 2).val : EReal) : Vec Ideal Cert.KernelIdeal.S8x128x128 .f32),
    fun c => (fun y => ((input m c).dsT (y 0).val (y 1).val : EReal) : Vec Ideal Cert.KernelIdeal.S128x512 .f32),
    fun c => (fun y => ((if (y 0).val = 0 then (input m c).dgT (y 1).val else 0 : ℝ) : EReal) : Vec Ideal Cert.KernelIdeal.S8x512 .f32),
    fun c => (fun y => ((if (y 0).val = 0 then (input m c).dbT (y 1).val else 0 : ℝ) : EReal) : Vec Ideal Cert.KernelIdeal.S8x512 .f32), ?_, ?_⟩
  · refine (θ_run Cert.KernelIdeal.defs _ _).mono (fun r hr c => ?_) (Cert.KernelIdeal.Value.run_blocks (F := Ideal) m g)
    obtain ⟨h0, h1, h2, h3, h4, hk⟩ := hr c
    exact ⟨h0.trans (Cert.KernelIdeal.Value.arr6 m c _ (in0 m c h) (in1 m c h) (in2 m c h) (in3 m c h) (in4 m c h) (in5 m c h)),
      h1.trans (Cert.KernelIdeal.Value.arr7 m c _ (in0 m c h) (in1 m c h) (in2 m c h) (in3 m c h)),
      h2.trans (Cert.KernelIdeal.Value.arr8 m c _ (in0 m c h) (in1 m c h)),
      h3.trans (Cert.KernelIdeal.Value.arr9 m c _ (in0 m c h) (in1 m c h) (in4 m c h)),
      h4.trans (Cert.KernelIdeal.Value.arr10 m c _ (in0 m c h) (in1 m c h) (in4 m c h)), hk⟩
  · refine (θ_run Cert.ReferenceIdeal.defs _ _).mono (fun r hr c => ?_) (Cert.ReferenceIdeal.Value.run (F := Ideal) m' g')
    obtain ⟨h0, h1, h2, h3, h4, hk⟩ := hr c
    obtain ⟨a0, a1, a2, a3, a4, a5⟩ := ha c
    have X0 := fun y => (congrFun a0 y).trans (in0 m c h y)
    have X1 := fun y hy => (congrFun a1 y).trans (in1 m c h y hy)
    have X2 := fun y => (congrFun a2 y).trans (in2 m c h y)
    have X3 := fun y => (congrFun a3 y).trans (in3 m c h y)
    have X4 := fun y => (congrFun a4 y).trans (in4 m c h y)
    have X5 := fun y => (congrFun a5 y).trans (in5 m c h y)
    exact ⟨h0.trans (Cert.ReferenceIdeal.Value.dz_ref _ _ X0 X1 X2 X3 X4 X5),
      h1.trans (Cert.ReferenceIdeal.Value.dw_ref _ _ X0 X1 X2 X3),
      h2.trans (Cert.ReferenceIdeal.Value.ds_ref _ _ X0 X1),
      h3.trans (Cert.ReferenceIdeal.Value.dg_ref _ _ X0 X1 X4),
      h4.trans (Cert.ReferenceIdeal.Value.db_ref _ _ X0 X1 X4), hk⟩

/-- Everything the certificate claims. -/
theorem claim : Cert.Claim :=
  ⟨Cert.Kernel.Gen.facts, Cert.KernelIdeal.Gen.facts, Cert.ReferenceIdeal.Gen.facts, Cert.UpBack.Gen.facts,
    Cert.UpBackIdeal.Gen.facts, Cert.UpBackRefIdeal.Gen.facts, Cert.UpWeights.Gen.facts, Cert.UpWeightsIdeal.Gen.facts,
    Cert.UpWeightsRefIdeal.Gen.facts, Cert.DownWeight.Gen.facts, Cert.DownWeightIdeal.Gen.facts, Cert.DownWeightRefIdeal.Gen.facts,
    Cert.DownBack.Gen.facts, Cert.DownBackIdeal.Gen.facts, Cert.DownBackRefIdeal.Gen.facts, Cert.GateUp.Gen.facts,
    Cert.GateUpIdeal.Gen.facts, Cert.GateUpRefIdeal.Gen.facts, Cert.Down.Gen.facts, Cert.DownIdeal.Gen.facts,
    Cert.DownRefIdeal.Gen.facts,
    Cert.OdInBack.Gen.facts, Cert.OdInBackIdeal.Gen.facts, Cert.OdInBackRefIdeal.Gen.facts,
    Cert.EvInBack.Gen.facts, Cert.EvInBackIdeal.Gen.facts, Cert.EvInBackRefIdeal.Gen.facts,
    Cert.OdInWeight.Gen.facts, Cert.OdInWeightIdeal.Gen.facts, Cert.OdInWeightRefIdeal.Gen.facts,
    Cert.EvInWeight.Gen.facts, Cert.EvInWeightIdeal.Gen.facts, Cert.EvInWeightRefIdeal.Gen.facts,
    Cert.OutWeight.Gen.facts, Cert.OutWeightIdeal.Gen.facts, Cert.OutWeightRefIdeal.Gen.facts,
    Cert.OutBack.Gen.facts, Cert.OutBackIdeal.Gen.facts, Cert.OutBackRefIdeal.Gen.facts,
    Cert.OdOutBack.Gen.facts, Cert.OdOutBackIdeal.Gen.facts, Cert.OdOutBackRefIdeal.Gen.facts,
    Cert.OutProj.Gen.facts, Cert.OutProjIdeal.Gen.facts, Cert.OutProjRefIdeal.Gen.facts,
    Cert.LastDown.Gen.facts, Cert.LastDownIdeal.Gen.facts, Cert.LastDownRefIdeal.Gen.facts,
    Cert.EvInProj.Gen.facts, Cert.EvInProjIdeal.Gen.facts, Cert.EvInProjRefIdeal.Gen.facts,
    Cert.OdInProj.Gen.facts, Cert.OdInProjIdeal.Gen.facts, Cert.OdInProjRefIdeal.Gen.facts,
    Cert.RmsIn.Gen.facts, Cert.RmsInIdeal.Gen.facts, Cert.RmsInRefIdeal.Gen.facts,
    Cert.LossHead.Gen.facts, Cert.LossHeadIdeal.Gen.facts, Cert.LossHeadRefIdeal.Gen.facts,
    Cert.GmlpFwd.Gen.facts, Cert.GmlpFwdIdeal.Gen.facts, Cert.GmlpFwdRefIdeal.Gen.facts,
    Cert.SinkAttn.Gen.facts, Cert.SinkAttnIdeal.Gen.facts, Cert.SinkAttnRefIdeal.Gen.facts,
    Cert.Pre_finite.facts, Cert.Pre_finite_back.facts, Cert.Pre_finite_up.facts, Cert.Pre_finite_attn.facts,
    fun m ρ _ => Cert.Kernel.Gen.frame m ρ, fun m ρ _ => Cert.KernelIdeal.Gen.frame m ρ,
    fun m ρ _ => Cert.KernelIdeal.Gen.frame m ρ, frame_ref,
    fun m ρ _ => frame_ref m ρ trivial, fun m ρ _ => Cert.UpBack.Gen.frame m ρ,
    fun m ρ _ => Cert.UpBackIdeal.Gen.frame m ρ, frame_UpBack,
    fun m ρ _ => Cert.UpWeights.Gen.frame m ρ, fun m ρ _ => Cert.UpWeightsIdeal.Gen.frame m ρ,
    frame_UpWeights, fun m ρ _ => Cert.DownWeight.Gen.frame m ρ,
    fun m ρ _ => Cert.DownWeightIdeal.Gen.frame m ρ, frame_DownWeight,
    fun m ρ _ => Cert.DownBack.Gen.frame m ρ, fun m ρ _ => Cert.DownBackIdeal.Gen.frame m ρ,
    fun m ρ _ => Cert.DownBackIdeal.Gen.frame m ρ, frame_DownBack,
    fun m ρ _ => frame_DownBack m ρ trivial, fun m ρ _ => Cert.GateUp.Gen.frame m ρ,
    fun m ρ _ => Cert.GateUpIdeal.Gen.frame m ρ, fun m ρ _ => Cert.GateUpIdeal.Gen.frame m ρ,
    frame_GateUp, fun m ρ _ => frame_GateUp m ρ trivial,
    fun m ρ _ => Cert.Down.Gen.frame m ρ, fun m ρ _ => Cert.DownIdeal.Gen.frame m ρ,
    frame_Down,
    fun m ρ _ => Cert.OdInBack.Gen.frame m ρ, fun m ρ _ => Cert.OdInBackIdeal.Gen.frame m ρ, frame_OdInBack,
    fun m ρ _ => Cert.EvInBack.Gen.frame m ρ, fun m ρ _ => Cert.EvInBackIdeal.Gen.frame m ρ, frame_EvInBack,
    fun m ρ _ => Cert.OdInWeight.Gen.frame m ρ, fun m ρ _ => Cert.OdInWeightIdeal.Gen.frame m ρ, frame_OdInWeight,
    fun m ρ _ => Cert.EvInWeight.Gen.frame m ρ, fun m ρ _ => Cert.EvInWeightIdeal.Gen.frame m ρ, frame_EvInWeight,
    fun m ρ _ => Cert.OutWeight.Gen.frame m ρ, fun m ρ _ => Cert.OutWeightIdeal.Gen.frame m ρ, frame_OutWeight,
    fun m ρ _ => Cert.OutBack.Gen.frame m ρ, fun m ρ _ => Cert.OutBackIdeal.Gen.frame m ρ, frame_OutBack,
    fun m ρ _ => Cert.OdOutBack.Gen.frame m ρ, fun m ρ _ => Cert.OdOutBackIdeal.Gen.frame m ρ, frame_OdOutBack,
    fun m ρ _ => Cert.OutProj.Gen.frame m ρ, fun m ρ _ => Cert.OutProjIdeal.Gen.frame m ρ, frame_OutProj,
    fun m ρ _ => Cert.LastDown.Gen.frame m ρ, fun m ρ _ => Cert.LastDownIdeal.Gen.frame m ρ, frame_LastDown,
    fun m ρ _ => Cert.EvInProj.Gen.frame m ρ, fun m ρ _ => Cert.EvInProjIdeal.Gen.frame m ρ, frame_EvInProj,
    fun m ρ _ => Cert.OdInProj.Gen.frame m ρ, fun m ρ _ => Cert.OdInProjIdeal.Gen.frame m ρ, frame_OdInProj,
    fun m ρ _ => Cert.RmsIn.Gen.frame m ρ, fun m ρ _ => Cert.RmsInIdeal.Gen.frame m ρ, frame_RmsIn,
    fun m ρ _ => Cert.LossHead.Gen.frame m ρ, fun m ρ _ => Cert.LossHeadIdeal.Gen.frame m ρ, frame_LossHead,
    fun m ρ _ => Cert.GmlpFwd.Gen.frame m ρ, fun m ρ _ => Cert.GmlpFwdIdeal.Gen.frame m ρ, frame_GmlpFwd,
    fun m ρ _ => Cert.SinkAttn.Gen.frame m ρ, fun m ρ _ => Cert.SinkAttnIdeal.Gen.frame m ρ, fun m ρ _ => Cert.SinkAttnIdeal.Gen.frame m ρ,
    frame_SinkAttn, fun m ρ _ => frame_SinkAttn m ρ trivial,
    ⟨IdealRules.named_const.statement _ _ _ _ _ rfl, IdealRules.named_const.statement _ _ _ _ _ rfl⟩, value,
    trivial, value_UpBack,
    trivial, value_UpWeights,
    trivial, value_DownWeight,
    trivial, value_DownBack,
    trivial, value_GateUp,
    trivial, value_Down,
    trivial, value_OdInBack,
    trivial, value_EvInBack,
    trivial, value_OdInWeight,
    trivial, value_EvInWeight,
    trivial, value_OutWeight,
    trivial, value_OutBack,
    trivial, value_OdOutBack,
    trivial, value_OutProj,
    trivial, value_LastDown,
    trivial, value_EvInProj,
    trivial, value_OdInProj,
    trivial, value_RmsIn,
    trivial, value_LossHead,
    IdealRules.named_const.statement _ _ _ _ _ rfl, value_GmlpFwd,
    IdealRules.named_const.statement _ _ _ _ _ rfl, value_SinkAttn⟩

end Cert.Proof

end
